-- ==== Defs.lean ====
def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite_gradient [hPre_finite_gradient : Cert.Pre_finite_gradient.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite_gradient.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite_gradient [hPre_finite_gradient : Cert.Pre_finite_gradient.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite_gradient.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Kernel9Ideal_finite_rows [hPre_finite_rows : Cert.Pre_finite_rows.Facts] (m : (ℓ : Loc Cert.Kernel9Ideal.nD Cert.Kernel9Ideal.τ Cert.Kernel9Ideal.sig) → Buf (Elt Ideal) ℓ) : Prop :=
  ∀ c : Dev Cert.Kernel9Ideal.nD,
    (Cert.Pre_finite_rows.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3)) (m ((c.tc : Thread Cert.Kernel9Ideal.nD Cert.Kernel9Ideal.τ).loc Cert.Kernel9Ideal.main_arg4))) = (fun _ => 1#1)

def Pre_Reference9Ideal (m : (ℓ : Loc Cert.Reference9Ideal.nD Cert.Reference9Ideal.τ Cert.Reference9Ideal.sig) → Buf (Elt Ideal) ℓ) : Prop :=
  True

def Pre_Reference9Ideal_finite_rows [hPre_finite_rows : Cert.Pre_finite_rows.Facts] (m : (ℓ : Loc Cert.Reference9Ideal.nD Cert.Reference9Ideal.τ Cert.Reference9Ideal.sig) → Buf (Elt Ideal) ℓ) : Prop :=
  ∀ c : Dev Cert.Reference9Ideal.nD,
    (Cert.Pre_finite_rows.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3)) (m ((c.tc : Thread Cert.Reference9Ideal.nD Cert.Reference9Ideal.τ).loc Cert.Reference9Ideal.main_arg4))) = (fun _ => 1#1)

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Kernel10Ideal_finite_stream [hPre_finite_stream : Cert.Pre_finite_stream.Facts] (m : (ℓ : Loc Cert.Kernel10Ideal.nD Cert.Kernel10Ideal.τ Cert.Kernel10Ideal.sig) → Buf (Elt Ideal) ℓ) : Prop :=
  ∀ c : Dev Cert.Kernel10Ideal.nD,
    (Cert.Pre_finite_stream.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4)) (m ((c.tc : Thread Cert.Kernel10Ideal.nD Cert.Kernel10Ideal.τ).loc Cert.Kernel10Ideal.main_arg5)) (m ((c.tc : Thread Cert.Kernel10Ideal.nD Cert.Kernel10Ideal.τ).loc Cert.Kernel10Ideal.main_arg6))) = (fun _ => 1#1)

def Pre_Reference10Ideal (m : (ℓ : Loc Cert.Reference10Ideal.nD Cert.Reference10Ideal.τ Cert.Reference10Ideal.sig) → Buf (Elt Ideal) ℓ) : Prop :=
  True

def Pre_Reference10Ideal_finite_stream [hPre_finite_stream : Cert.Pre_finite_stream.Facts] (m : (ℓ : Loc Cert.Reference10Ideal.nD Cert.Reference10Ideal.τ Cert.Reference10Ideal.sig) → Buf (Elt Ideal) ℓ) : Prop :=
  ∀ c : Dev Cert.Reference10Ideal.nD,
    (Cert.Pre_finite_stream.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2)) (m ((c.tc : Thread Cert.Reference10Ideal.nD Cert.Reference10Ideal.τ).loc Cert.Reference10Ideal.main_arg3)) (m ((c.tc : Thread Cert.Reference10Ideal.nD Cert.Reference10Ideal.τ).loc Cert.Reference10Ideal.main_arg4)) (m ((c.tc : Thread Cert.Reference10Ideal.nD Cert.Reference10Ideal.τ).loc Cert.Reference10Ideal.main_arg5)) (m ((c.tc : Thread Cert.Reference10Ideal.nD Cert.Reference10Ideal.τ).loc Cert.Reference10Ideal.main_arg6))) = (fun _ => 1#1)

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Kernel4Ideal_pre_finite_gradient [hKernel4Ideal : Cert.Kernel4Ideal.Facts] [hPre_finite_gradient : Cert.Pre_finite_gradient.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite_gradient m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Reference4Ideal_pre_finite_gradient [hReference4Ideal : Cert.Reference4Ideal.Facts] [hPre_finite_gradient : Cert.Pre_finite_gradient.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite_gradient m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ r.2.sem = fun _ => 0)

def quiescent_Kernel9Ideal_pre_finite_rows [hKernel9Ideal : Cert.Kernel9Ideal.Facts] [hPre_finite_rows : Cert.Pre_finite_rows.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal_finite_rows m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4))
      ∧ r.2.sem = fun _ => 0)

def quiescent_Reference9Ideal_pre_finite_rows [hReference9Ideal : Cert.Reference9Ideal.Facts] [hPre_finite_rows : Cert.Pre_finite_rows.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal_finite_rows m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5)
      ∧ r.2.mem ((c.tc : Thread Cert.Kernel10.nD Cert.Kernel10.τ).loc Cert.Kernel10.main_arg6) = m ((c.tc : Thread Cert.Kernel10.nD Cert.Kernel10.τ).loc Cert.Kernel10.main_arg6))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
      ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6))
      ∧ r.2.sem = fun _ => 0)

def quiescent_Kernel10Ideal_pre_finite_stream [hKernel10Ideal : Cert.Kernel10Ideal.Facts] [hPre_finite_stream : Cert.Pre_finite_stream.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal_finite_stream m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
      ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5)
      ∧ r.2.mem ((c.tc : Thread Cert.Reference10Ideal.nD Cert.Reference10Ideal.τ).loc Cert.Reference10Ideal.main_arg6) = m ((c.tc : Thread Cert.Reference10Ideal.nD Cert.Reference10Ideal.τ).loc Cert.Reference10Ideal.main_arg6))
      ∧ r.2.sem = fun _ => 0)

def quiescent_Reference10Ideal_pre_finite_stream [hReference10Ideal : Cert.Reference10Ideal.Facts] [hPre_finite_stream : Cert.Pre_finite_stream.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal_finite_stream m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5)
      ∧ r.2.mem ((c.tc : Thread Cert.Reference10Ideal.nD Cert.Reference10Ideal.τ).loc Cert.Reference10Ideal.main_arg6) = m ((c.tc : Thread Cert.Reference10Ideal.nD Cert.Reference10Ideal.τ).loc Cert.Reference10Ideal.main_arg6))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4)
      ∧ r.2.mem ((c.tc : Thread Cert.Kernel11.nD Cert.Kernel11.τ).loc Cert.Kernel11.main_arg5) = m ((c.tc : Thread Cert.Kernel11.nD Cert.Kernel11.τ).loc Cert.Kernel11.main_arg5)
      ∧ r.2.mem ((c.tc : Thread Cert.Kernel11.nD Cert.Kernel11.τ).loc Cert.Kernel11.main_arg6) = m ((c.tc : Thread Cert.Kernel11.nD Cert.Kernel11.τ).loc Cert.Kernel11.main_arg6)
      ∧ r.2.mem ((c.tc : Thread Cert.Kernel11.nD Cert.Kernel11.τ).loc Cert.Kernel11.main_arg7) = m ((c.tc : Thread Cert.Kernel11.nD Cert.Kernel11.τ).loc Cert.Kernel11.main_arg7)
      ∧ r.2.mem ((c.tc : Thread Cert.Kernel11.nD Cert.Kernel11.τ).loc Cert.Kernel11.main_arg8) = m ((c.tc : Thread Cert.Kernel11.nD Cert.Kernel11.τ).loc Cert.Kernel11.main_arg8)
      ∧ r.2.mem ((c.tc : Thread Cert.Kernel11.nD Cert.Kernel11.τ).loc Cert.Kernel11.main_arg9) = m ((c.tc : Thread Cert.Kernel11.nD Cert.Kernel11.τ).loc Cert.Kernel11.main_arg9)
      ∧ r.2.mem ((c.tc : Thread Cert.Kernel11.nD Cert.Kernel11.τ).loc Cert.Kernel11.main_arg10) = m ((c.tc : Thread Cert.Kernel11.nD Cert.Kernel11.τ).loc Cert.Kernel11.main_arg10))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
      ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
      ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6)
      ∧ r.2.mem ((c.tc : Thread Cert.Kernel11Ideal.nD Cert.Kernel11Ideal.τ).loc Cert.Kernel11Ideal.main_arg7) = m ((c.tc : Thread Cert.Kernel11Ideal.nD Cert.Kernel11Ideal.τ).loc Cert.Kernel11Ideal.main_arg7)
      ∧ r.2.mem ((c.tc : Thread Cert.Kernel11Ideal.nD Cert.Kernel11Ideal.τ).loc Cert.Kernel11Ideal.main_arg8) = m ((c.tc : Thread Cert.Kernel11Ideal.nD Cert.Kernel11Ideal.τ).loc Cert.Kernel11Ideal.main_arg8)
      ∧ r.2.mem ((c.tc : Thread Cert.Kernel11Ideal.nD Cert.Kernel11Ideal.τ).loc Cert.Kernel11Ideal.main_arg9) = m ((c.tc : Thread Cert.Kernel11Ideal.nD Cert.Kernel11Ideal.τ).loc Cert.Kernel11Ideal.main_arg9)
      ∧ r.2.mem ((c.tc : Thread Cert.Kernel11Ideal.nD Cert.Kernel11Ideal.τ).loc Cert.Kernel11Ideal.main_arg10) = m ((c.tc : Thread Cert.Kernel11Ideal.nD Cert.Kernel11Ideal.τ).loc Cert.Kernel11Ideal.main_arg10))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4)
      ∧ r.2.mem ((c.tc : Thread Cert.Reference11Ideal.nD Cert.Reference11Ideal.τ).loc Cert.Reference11Ideal.main_arg5) = m ((c.tc : Thread Cert.Reference11Ideal.nD Cert.Reference11Ideal.τ).loc Cert.Reference11Ideal.main_arg5)
      ∧ r.2.mem ((c.tc : Thread Cert.Reference11Ideal.nD Cert.Reference11Ideal.τ).loc Cert.Reference11Ideal.main_arg6) = m ((c.tc : Thread Cert.Reference11Ideal.nD Cert.Reference11Ideal.τ).loc Cert.Reference11Ideal.main_arg6)
      ∧ r.2.mem ((c.tc : Thread Cert.Reference11Ideal.nD Cert.Reference11Ideal.τ).loc Cert.Reference11Ideal.main_arg7) = m ((c.tc : Thread Cert.Reference11Ideal.nD Cert.Reference11Ideal.τ).loc Cert.Reference11Ideal.main_arg7)
      ∧ r.2.mem ((c.tc : Thread Cert.Reference11Ideal.nD Cert.Reference11Ideal.τ).loc Cert.Reference11Ideal.main_arg8) = m ((c.tc : Thread Cert.Reference11Ideal.nD Cert.Reference11Ideal.τ).loc Cert.Reference11Ideal.main_arg8)
      ∧ r.2.mem ((c.tc : Thread Cert.Reference11Ideal.nD Cert.Reference11Ideal.τ).loc Cert.Reference11Ideal.main_arg9) = m ((c.tc : Thread Cert.Reference11Ideal.nD Cert.Reference11Ideal.τ).loc Cert.Reference11Ideal.main_arg9)
      ∧ r.2.mem ((c.tc : Thread Cert.Reference11Ideal.nD Cert.Reference11Ideal.τ).loc Cert.Reference11Ideal.main_arg10) = m ((c.tc : Thread Cert.Reference11Ideal.nD Cert.Reference11Ideal.τ).loc Cert.Reference11Ideal.main_arg10))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v1)) (v1 : (c : Dev Cert.Kernel3Ideal.nD) → Buf (Elt Ideal) ((c.tc : Thread Cert.Kernel3Ideal.nD Cert.Kernel3Ideal.τ).loc Cert.Kernel3Ideal.main_v5)) (v2 : (c : Dev Cert.Kernel3Ideal.nD) → Buf (Elt Ideal) ((c.tc : Thread Cert.Kernel3Ideal.nD Cert.Kernel3Ideal.τ).loc Cert.Kernel3Ideal.main_v4)) (v3 : (c : Dev Cert.Kernel3Ideal.nD) → Buf (Elt Ideal) ((c.tc : Thread Cert.Kernel3Ideal.nD Cert.Kernel3Ideal.τ).loc Cert.Kernel3Ideal.main_v3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1) = v0 c
          ∧ r.2.mem ((c.tc : Thread Cert.Kernel3Ideal.nD Cert.Kernel3Ideal.τ).loc Cert.Kernel3Ideal.main_v5) = v1 c
          ∧ r.2.mem ((c.tc : Thread Cert.Kernel3Ideal.nD Cert.Kernel3Ideal.τ).loc Cert.Kernel3Ideal.main_v4) = v2 c
          ∧ r.2.mem ((c.tc : Thread Cert.Kernel3Ideal.nD Cert.Kernel3Ideal.τ).loc Cert.Kernel3Ideal.main_v3) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v12) = v0 c
          ∧ r.2.mem ((c.tc : Thread Cert.Reference3Ideal.nD Cert.Reference3Ideal.τ).loc Cert.Reference3Ideal.main_v21) = v1 c
          ∧ r.2.mem ((c.tc : Thread Cert.Reference3Ideal.nD Cert.Reference3Ideal.τ).loc Cert.Reference3Ideal.main_v24) = v2 c
          ∧ r.2.mem ((c.tc : Thread Cert.Reference3Ideal.nD Cert.Reference3Ideal.τ).loc Cert.Reference3Ideal.main_v25) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal_pre_finite_gradient [hKernel4Ideal : Cert.Kernel4Ideal.Facts] [hReference4Ideal : Cert.Reference4Ideal.Facts] [hPre_finite_gradient : Cert.Pre_finite_gradient.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite_gradient m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v9) = v0 c
          ∧ r.2.mem ((c.tc : Thread Cert.Reference4Ideal.nD Cert.Reference4Ideal.τ).loc Cert.Reference4Ideal.main_v8) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v0)) (v1 : (c : Dev Cert.Kernel5Ideal.nD) → Buf (Elt Ideal) ((c.tc : Thread Cert.Kernel5Ideal.nD Cert.Kernel5Ideal.τ).loc Cert.Kernel5Ideal.main_v1)) (v2 : (c : Dev Cert.Kernel5Ideal.nD) → Buf (Elt Ideal) ((c.tc : Thread Cert.Kernel5Ideal.nD Cert.Kernel5Ideal.τ).loc Cert.Kernel5Ideal.main_v2)) (v3 : (c : Dev Cert.Kernel5Ideal.nD) → Buf (Elt Ideal) ((c.tc : Thread Cert.Kernel5Ideal.nD Cert.Kernel5Ideal.τ).loc Cert.Kernel5Ideal.main_v3)) (v4 : (c : Dev Cert.Kernel5Ideal.nD) → Buf (Elt Ideal) ((c.tc : Thread Cert.Kernel5Ideal.nD Cert.Kernel5Ideal.τ).loc Cert.Kernel5Ideal.main_v4)) (v5 : (c : Dev Cert.Kernel5Ideal.nD) → Buf (Elt Ideal) ((c.tc : Thread Cert.Kernel5Ideal.nD Cert.Kernel5Ideal.τ).loc Cert.Kernel5Ideal.main_v5)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_v1) = v1 c
          ∧ r.2.mem ((c.tc : Thread Cert.Kernel5Ideal.nD Cert.Kernel5Ideal.τ).loc Cert.Kernel5Ideal.main_v2) = v2 c
          ∧ r.2.mem ((c.tc : Thread Cert.Kernel5Ideal.nD Cert.Kernel5Ideal.τ).loc Cert.Kernel5Ideal.main_v3) = v3 c
          ∧ r.2.mem ((c.tc : Thread Cert.Kernel5Ideal.nD Cert.Kernel5Ideal.τ).loc Cert.Kernel5Ideal.main_v4) = v4 c
          ∧ r.2.mem ((c.tc : Thread Cert.Kernel5Ideal.nD Cert.Kernel5Ideal.τ).loc Cert.Kernel5Ideal.main_v5) = v5 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v6) = v0 c
          ∧ r.2.mem ((c.tc : Thread Cert.Reference5Ideal.nD Cert.Reference5Ideal.τ).loc Cert.Reference5Ideal.main_v7) = v1 c
          ∧ r.2.mem ((c.tc : Thread Cert.Reference5Ideal.nD Cert.Reference5Ideal.τ).loc Cert.Reference5Ideal.main_v14) = v2 c
          ∧ r.2.mem ((c.tc : Thread Cert.Reference5Ideal.nD Cert.Reference5Ideal.τ).loc Cert.Reference5Ideal.main_v15) = v3 c
          ∧ r.2.mem ((c.tc : Thread Cert.Reference5Ideal.nD Cert.Reference5Ideal.τ).loc Cert.Reference5Ideal.main_v16) = v4 c
          ∧ r.2.mem ((c.tc : Thread Cert.Reference5Ideal.nD Cert.Reference5Ideal.τ).loc Cert.Reference5Ideal.main_v13) = v5 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)) →
    ∃ (v0 : (c : Dev Cert.Kernel6Ideal.nD) → Buf (Elt Ideal) ((c.tc : Thread Cert.Kernel6Ideal.nD Cert.Kernel6Ideal.τ).loc Cert.Kernel6Ideal.main_v0)) (v1 : (c : Dev Cert.Kernel6Ideal.nD) → Buf (Elt Ideal) ((c.tc : Thread Cert.Kernel6Ideal.nD Cert.Kernel6Ideal.τ).loc Cert.Kernel6Ideal.main_v1)) (v2 : (c : Dev Cert.Kernel6Ideal.nD) → Buf (Elt Ideal) ((c.tc : Thread Cert.Kernel6Ideal.nD Cert.Kernel6Ideal.τ).loc Cert.Kernel6Ideal.main_v2)) (v3 : (c : Dev Cert.Kernel6Ideal.nD) → Buf (Elt Ideal) ((c.tc : Thread Cert.Kernel6Ideal.nD Cert.Kernel6Ideal.τ).loc Cert.Kernel6Ideal.main_v3)) (v4 : (c : Dev Cert.Kernel6Ideal.nD) → Buf (Elt Ideal) ((c.tc : Thread Cert.Kernel6Ideal.nD Cert.Kernel6Ideal.τ).loc Cert.Kernel6Ideal.main_v4)) (v5 : (c : Dev Cert.Kernel6Ideal.nD) → Buf (Elt Ideal) ((c.tc : Thread Cert.Kernel6Ideal.nD Cert.Kernel6Ideal.τ).loc Cert.Kernel6Ideal.main_v5)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_v1) = v1 c
          ∧ r.2.mem ((c.tc : Thread Cert.Kernel6Ideal.nD Cert.Kernel6Ideal.τ).loc Cert.Kernel6Ideal.main_v2) = v2 c
          ∧ r.2.mem ((c.tc : Thread Cert.Kernel6Ideal.nD Cert.Kernel6Ideal.τ).loc Cert.Kernel6Ideal.main_v3) = v3 c
          ∧ r.2.mem ((c.tc : Thread Cert.Kernel6Ideal.nD Cert.Kernel6Ideal.τ).loc Cert.Kernel6Ideal.main_v4) = v4 c
          ∧ r.2.mem ((c.tc : Thread Cert.Kernel6Ideal.nD Cert.Kernel6Ideal.τ).loc Cert.Kernel6Ideal.main_v5) = v5 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v6) = v0 c
          ∧ r.2.mem ((c.tc : Thread Cert.Reference6Ideal.nD Cert.Reference6Ideal.τ).loc Cert.Reference6Ideal.main_v7) = v1 c
          ∧ r.2.mem ((c.tc : Thread Cert.Reference6Ideal.nD Cert.Reference6Ideal.τ).loc Cert.Reference6Ideal.main_v10) = v2 c
          ∧ r.2.mem ((c.tc : Thread Cert.Reference6Ideal.nD Cert.Reference6Ideal.τ).loc Cert.Reference6Ideal.main_v14) = v3 c
          ∧ r.2.mem ((c.tc : Thread Cert.Reference6Ideal.nD Cert.Reference6Ideal.τ).loc Cert.Reference6Ideal.main_v17) = v4 c
          ∧ r.2.mem ((c.tc : Thread Cert.Reference6Ideal.nD Cert.Reference6Ideal.τ).loc Cert.Reference6Ideal.main_v13) = v5 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)) →
    ∃ (v0 : (c : Dev Cert.Kernel7Ideal.nD) → Buf (Elt Ideal) ((c.tc : Thread Cert.Kernel7Ideal.nD Cert.Kernel7Ideal.τ).loc Cert.Kernel7Ideal.main_v0)) (v1 : (c : Dev Cert.Kernel7Ideal.nD) → Buf (Elt Ideal) ((c.tc : Thread Cert.Kernel7Ideal.nD Cert.Kernel7Ideal.τ).loc Cert.Kernel7Ideal.main_v1)) (v2 : (c : Dev Cert.Kernel7Ideal.nD) → Buf (Elt Ideal) ((c.tc : Thread Cert.Kernel7Ideal.nD Cert.Kernel7Ideal.τ).loc Cert.Kernel7Ideal.main_v2)) (v3 : (c : Dev Cert.Kernel7Ideal.nD) → Buf (Elt Ideal) ((c.tc : Thread Cert.Kernel7Ideal.nD Cert.Kernel7Ideal.τ).loc Cert.Kernel7Ideal.main_v3)) (v4 : (c : Dev Cert.Kernel7Ideal.nD) → Buf (Elt Ideal) ((c.tc : Thread Cert.Kernel7Ideal.nD Cert.Kernel7Ideal.τ).loc Cert.Kernel7Ideal.main_v4)) (v5 : (c : Dev Cert.Kernel7Ideal.nD) → Buf (Elt Ideal) ((c.tc : Thread Cert.Kernel7Ideal.nD Cert.Kernel7Ideal.τ).loc Cert.Kernel7Ideal.main_v5)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_v1) = v1 c
          ∧ r.2.mem ((c.tc : Thread Cert.Kernel7Ideal.nD Cert.Kernel7Ideal.τ).loc Cert.Kernel7Ideal.main_v2) = v2 c
          ∧ r.2.mem ((c.tc : Thread Cert.Kernel7Ideal.nD Cert.Kernel7Ideal.τ).loc Cert.Kernel7Ideal.main_v3) = v3 c
          ∧ r.2.mem ((c.tc : Thread Cert.Kernel7Ideal.nD Cert.Kernel7Ideal.τ).loc Cert.Kernel7Ideal.main_v4) = v4 c
          ∧ r.2.mem ((c.tc : Thread Cert.Kernel7Ideal.nD Cert.Kernel7Ideal.τ).loc Cert.Kernel7Ideal.main_v5) = v5 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v6) = v0 c
          ∧ r.2.mem ((c.tc : Thread Cert.Reference7Ideal.nD Cert.Reference7Ideal.τ).loc Cert.Reference7Ideal.main_v9) = v1 c
          ∧ r.2.mem ((c.tc : Thread Cert.Reference7Ideal.nD Cert.Reference7Ideal.τ).loc Cert.Reference7Ideal.main_v12) = v2 c
          ∧ r.2.mem ((c.tc : Thread Cert.Reference7Ideal.nD Cert.Reference7Ideal.τ).loc Cert.Reference7Ideal.main_v16) = v3 c
          ∧ r.2.mem ((c.tc : Thread Cert.Reference7Ideal.nD Cert.Reference7Ideal.τ).loc Cert.Reference7Ideal.main_v19) = v4 c
          ∧ r.2.mem ((c.tc : Thread Cert.Reference7Ideal.nD Cert.Reference7Ideal.τ).loc Cert.Reference7Ideal.main_v15) = v5 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v0_0)) (v1 : (c : Dev Cert.Kernel8Ideal.nD) → Buf (Elt Ideal) ((c.tc : Thread Cert.Kernel8Ideal.nD Cert.Kernel8Ideal.τ).loc Cert.Kernel8Ideal.main_v0_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0_0) = v0 c
          ∧ r.2.mem ((c.tc : Thread Cert.Kernel8Ideal.nD Cert.Kernel8Ideal.τ).loc Cert.Kernel8Ideal.main_v0_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v6) = v0 c
          ∧ r.2.mem ((c.tc : Thread Cert.Reference8Ideal.nD Cert.Reference8Ideal.τ).loc Cert.Reference8Ideal.main_v5) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal_pre_finite_rows [hKernel9Ideal : Cert.Kernel9Ideal.Facts] [hReference9Ideal : Cert.Reference9Ideal.Facts] [hPre_finite_rows : Cert.Pre_finite_rows.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal_finite_rows m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)) →
    ∃ (v0 : (c : Dev Cert.Kernel9Ideal.nD) → Buf (Elt Ideal) ((c.tc : Thread Cert.Kernel9Ideal.nD Cert.Kernel9Ideal.τ).loc Cert.Kernel9Ideal.main_v0_0)) (v1 : (c : Dev Cert.Kernel9Ideal.nD) → Buf (Elt Ideal) ((c.tc : Thread Cert.Kernel9Ideal.nD Cert.Kernel9Ideal.τ).loc Cert.Kernel9Ideal.main_v0_1)) (v2 : (c : Dev Cert.Kernel9Ideal.nD) → Buf (Elt Ideal) ((c.tc : Thread Cert.Kernel9Ideal.nD Cert.Kernel9Ideal.τ).loc Cert.Kernel9Ideal.main_v0_2)) (v3 : (c : Dev Cert.Kernel9Ideal.nD) → Buf (Elt Ideal) ((c.tc : Thread Cert.Kernel9Ideal.nD Cert.Kernel9Ideal.τ).loc Cert.Kernel9Ideal.main_v0_3)) (v4 : (c : Dev Cert.Kernel9Ideal.nD) → Buf (Elt Ideal) ((c.tc : Thread Cert.Kernel9Ideal.nD Cert.Kernel9Ideal.τ).loc Cert.Kernel9Ideal.main_v0_4)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_0) = v0 c
          ∧ r.2.mem ((c.tc : Thread Cert.Kernel9Ideal.nD Cert.Kernel9Ideal.τ).loc Cert.Kernel9Ideal.main_v0_1) = v1 c
          ∧ r.2.mem ((c.tc : Thread Cert.Kernel9Ideal.nD Cert.Kernel9Ideal.τ).loc Cert.Kernel9Ideal.main_v0_2) = v2 c
          ∧ r.2.mem ((c.tc : Thread Cert.Kernel9Ideal.nD Cert.Kernel9Ideal.τ).loc Cert.Kernel9Ideal.main_v0_3) = v3 c
          ∧ r.2.mem ((c.tc : Thread Cert.Kernel9Ideal.nD Cert.Kernel9Ideal.τ).loc Cert.Kernel9Ideal.main_v0_4) = v4 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v53) = v0 c
          ∧ r.2.mem ((c.tc : Thread Cert.Reference9Ideal.nD Cert.Reference9Ideal.τ).loc Cert.Reference9Ideal.main_v29) = v1 c
          ∧ r.2.mem ((c.tc : Thread Cert.Reference9Ideal.nD Cert.Reference9Ideal.τ).loc Cert.Reference9Ideal.main_v26) = v2 c
          ∧ r.2.mem ((c.tc : Thread Cert.Reference9Ideal.nD Cert.Reference9Ideal.τ).loc Cert.Reference9Ideal.main_v55) = v3 c
          ∧ r.2.mem ((c.tc : Thread Cert.Reference9Ideal.nD Cert.Reference9Ideal.τ).loc Cert.Reference9Ideal.main_v58) = v4 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4))

def preserves_Kernel10_Kernel10Ideal : Prop :=
  True

def algebraic_Kernel10Ideal_Reference10Ideal_pre_finite_stream [hKernel10Ideal : Cert.Kernel10Ideal.Facts] [hReference10Ideal : Cert.Reference10Ideal.Facts] [hPre_finite_stream : Cert.Pre_finite_stream.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal_finite_stream m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)
      ∧ m' ((c.tc : Thread Cert.Reference10Ideal.nD Cert.Reference10Ideal.τ).loc Cert.Reference10Ideal.main_arg6) = m ((c.tc : Thread Cert.Kernel10Ideal.nD Cert.Kernel10Ideal.τ).loc Cert.Kernel10Ideal.main_arg6)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)) (v2 : (c : Dev Cert.Kernel10Ideal.nD) → Buf (Elt Ideal) ((c.tc : Thread Cert.Kernel10Ideal.nD Cert.Kernel10Ideal.τ).loc Cert.Kernel10Ideal.main_v0_2)) (v3 : (c : Dev Cert.Kernel10Ideal.nD) → Buf (Elt Ideal) ((c.tc : Thread Cert.Kernel10Ideal.nD Cert.Kernel10Ideal.τ).loc Cert.Kernel10Ideal.main_v0_3)) (v4 : (c : Dev Cert.Kernel10Ideal.nD) → Buf (Elt Ideal) ((c.tc : Thread Cert.Kernel10Ideal.nD Cert.Kernel10Ideal.τ).loc Cert.Kernel10Ideal.main_v0_4)) (v5 : (c : Dev Cert.Kernel10Ideal.nD) → Buf (Elt Ideal) ((c.tc : Thread Cert.Kernel10Ideal.nD Cert.Kernel10Ideal.τ).loc Cert.Kernel10Ideal.main_v0_5)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_v0_2) = v2 c
          ∧ r.2.mem ((c.tc : Thread Cert.Kernel10Ideal.nD Cert.Kernel10Ideal.τ).loc Cert.Kernel10Ideal.main_v0_3) = v3 c
          ∧ r.2.mem ((c.tc : Thread Cert.Kernel10Ideal.nD Cert.Kernel10Ideal.τ).loc Cert.Kernel10Ideal.main_v0_4) = v4 c
          ∧ r.2.mem ((c.tc : Thread Cert.Kernel10Ideal.nD Cert.Kernel10Ideal.τ).loc Cert.Kernel10Ideal.main_v0_5) = v5 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
          ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v52) = v0 c
          ∧ r.2.mem ((c.tc : Thread Cert.Reference10Ideal.nD Cert.Reference10Ideal.τ).loc Cert.Reference10Ideal.main_v58) = v1 c
          ∧ r.2.mem ((c.tc : Thread Cert.Reference10Ideal.nD Cert.Reference10Ideal.τ).loc Cert.Reference10Ideal.main_v24) = v2 c
          ∧ r.2.mem ((c.tc : Thread Cert.Reference10Ideal.nD Cert.Reference10Ideal.τ).loc Cert.Reference10Ideal.main_v27) = v3 c
          ∧ r.2.mem ((c.tc : Thread Cert.Reference10Ideal.nD Cert.Reference10Ideal.τ).loc Cert.Reference10Ideal.main_v32) = v4 c
          ∧ r.2.mem ((c.tc : Thread Cert.Reference10Ideal.nD Cert.Reference10Ideal.τ).loc Cert.Reference10Ideal.main_v57) = v5 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5)
          ∧ r.2.mem ((c.tc : Thread Cert.Reference10Ideal.nD Cert.Reference10Ideal.τ).loc Cert.Reference10Ideal.main_arg6) = m' ((c.tc : Thread Cert.Reference10Ideal.nD Cert.Reference10Ideal.τ).loc Cert.Reference10Ideal.main_arg6))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)
      ∧ m' ((c.tc : Thread Cert.Reference11Ideal.nD Cert.Reference11Ideal.τ).loc Cert.Reference11Ideal.main_arg5) = m ((c.tc : Thread Cert.Kernel11Ideal.nD Cert.Kernel11Ideal.τ).loc Cert.Kernel11Ideal.main_arg5)
      ∧ m' ((c.tc : Thread Cert.Reference11Ideal.nD Cert.Reference11Ideal.τ).loc Cert.Reference11Ideal.main_arg6) = m ((c.tc : Thread Cert.Kernel11Ideal.nD Cert.Kernel11Ideal.τ).loc Cert.Kernel11Ideal.main_arg6)
      ∧ m' ((c.tc : Thread Cert.Reference11Ideal.nD Cert.Reference11Ideal.τ).loc Cert.Reference11Ideal.main_arg7) = m ((c.tc : Thread Cert.Kernel11Ideal.nD Cert.Kernel11Ideal.τ).loc Cert.Kernel11Ideal.main_arg7)
      ∧ m' ((c.tc : Thread Cert.Reference11Ideal.nD Cert.Reference11Ideal.τ).loc Cert.Reference11Ideal.main_arg8) = m ((c.tc : Thread Cert.Kernel11Ideal.nD Cert.Kernel11Ideal.τ).loc Cert.Kernel11Ideal.main_arg8)
      ∧ m' ((c.tc : Thread Cert.Reference11Ideal.nD Cert.Reference11Ideal.τ).loc Cert.Reference11Ideal.main_arg9) = m ((c.tc : Thread Cert.Kernel11Ideal.nD Cert.Kernel11Ideal.τ).loc Cert.Kernel11Ideal.main_arg9)
      ∧ m' ((c.tc : Thread Cert.Reference11Ideal.nD Cert.Reference11Ideal.τ).loc Cert.Reference11Ideal.main_arg10) = m ((c.tc : Thread Cert.Kernel11Ideal.nD Cert.Kernel11Ideal.τ).loc Cert.Kernel11Ideal.main_arg10)) →
    ∃ (v0 : (c : Dev Cert.Kernel11Ideal.nD) → Buf (Elt Ideal) ((c.tc : Thread Cert.Kernel11Ideal.nD Cert.Kernel11Ideal.τ).loc Cert.Kernel11Ideal.main_v0)) (v1 : (c : Dev Cert.Kernel11Ideal.nD) → Buf (Elt Ideal) ((c.tc : Thread Cert.Kernel11Ideal.nD Cert.Kernel11Ideal.τ).loc Cert.Kernel11Ideal.main_v1_0)) (v2 : (c : Dev Cert.Kernel11Ideal.nD) → Buf (Elt Ideal) ((c.tc : Thread Cert.Kernel11Ideal.nD Cert.Kernel11Ideal.τ).loc Cert.Kernel11Ideal.main_v1_1)) (v3 : (c : Dev Cert.Kernel11Ideal.nD) → Buf (Elt Ideal) ((c.tc : Thread Cert.Kernel11Ideal.nD Cert.Kernel11Ideal.τ).loc Cert.Kernel11Ideal.main_v2)) (v4 : (c : Dev Cert.Kernel11Ideal.nD) → Buf (Elt Ideal) ((c.tc : Thread Cert.Kernel11Ideal.nD Cert.Kernel11Ideal.τ).loc Cert.Kernel11Ideal.main_v3)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_v1_0) = v1 c
          ∧ r.2.mem ((c.tc : Thread Cert.Kernel11Ideal.nD Cert.Kernel11Ideal.τ).loc Cert.Kernel11Ideal.main_v1_1) = v2 c
          ∧ r.2.mem ((c.tc : Thread Cert.Kernel11Ideal.nD Cert.Kernel11Ideal.τ).loc Cert.Kernel11Ideal.main_v2) = v3 c
          ∧ r.2.mem ((c.tc : Thread Cert.Kernel11Ideal.nD Cert.Kernel11Ideal.τ).loc Cert.Kernel11Ideal.main_v3) = v4 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
          ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5)
          ∧ r.2.mem ((c.tc : Thread Cert.Kernel11Ideal.nD Cert.Kernel11Ideal.τ).loc Cert.Kernel11Ideal.main_arg6) = m ((c.tc : Thread Cert.Kernel11Ideal.nD Cert.Kernel11Ideal.τ).loc Cert.Kernel11Ideal.main_arg6)
          ∧ r.2.mem ((c.tc : Thread Cert.Kernel11Ideal.nD Cert.Kernel11Ideal.τ).loc Cert.Kernel11Ideal.main_arg7) = m ((c.tc : Thread Cert.Kernel11Ideal.nD Cert.Kernel11Ideal.τ).loc Cert.Kernel11Ideal.main_arg7)
          ∧ r.2.mem ((c.tc : Thread Cert.Kernel11Ideal.nD Cert.Kernel11Ideal.τ).loc Cert.Kernel11Ideal.main_arg8) = m ((c.tc : Thread Cert.Kernel11Ideal.nD Cert.Kernel11Ideal.τ).loc Cert.Kernel11Ideal.main_arg8)
          ∧ r.2.mem ((c.tc : Thread Cert.Kernel11Ideal.nD Cert.Kernel11Ideal.τ).loc Cert.Kernel11Ideal.main_arg9) = m ((c.tc : Thread Cert.Kernel11Ideal.nD Cert.Kernel11Ideal.τ).loc Cert.Kernel11Ideal.main_arg9)
          ∧ r.2.mem ((c.tc : Thread Cert.Kernel11Ideal.nD Cert.Kernel11Ideal.τ).loc Cert.Kernel11Ideal.main_arg10) = m ((c.tc : Thread Cert.Kernel11Ideal.nD Cert.Kernel11Ideal.τ).loc Cert.Kernel11Ideal.main_arg10))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v21) = v0 c
          ∧ r.2.mem ((c.tc : Thread Cert.Reference11Ideal.nD Cert.Reference11Ideal.τ).loc Cert.Reference11Ideal.main_v2) = v1 c
          ∧ r.2.mem ((c.tc : Thread Cert.Reference11Ideal.nD Cert.Reference11Ideal.τ).loc Cert.Reference11Ideal.main_v40) = v2 c
          ∧ r.2.mem ((c.tc : Thread Cert.Reference11Ideal.nD Cert.Reference11Ideal.τ).loc Cert.Reference11Ideal.main_v43) = v3 c
          ∧ r.2.mem ((c.tc : Thread Cert.Reference11Ideal.nD Cert.Reference11Ideal.τ).loc Cert.Reference11Ideal.main_v65) = v4 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4)
          ∧ r.2.mem ((c.tc : Thread Cert.Reference11Ideal.nD Cert.Reference11Ideal.τ).loc Cert.Reference11Ideal.main_arg5) = m' ((c.tc : Thread Cert.Reference11Ideal.nD Cert.Reference11Ideal.τ).loc Cert.Reference11Ideal.main_arg5)
          ∧ r.2.mem ((c.tc : Thread Cert.Reference11Ideal.nD Cert.Reference11Ideal.τ).loc Cert.Reference11Ideal.main_arg6) = m' ((c.tc : Thread Cert.Reference11Ideal.nD Cert.Reference11Ideal.τ).loc Cert.Reference11Ideal.main_arg6)
          ∧ r.2.mem ((c.tc : Thread Cert.Reference11Ideal.nD Cert.Reference11Ideal.τ).loc Cert.Reference11Ideal.main_arg7) = m' ((c.tc : Thread Cert.Reference11Ideal.nD Cert.Reference11Ideal.τ).loc Cert.Reference11Ideal.main_arg7)
          ∧ r.2.mem ((c.tc : Thread Cert.Reference11Ideal.nD Cert.Reference11Ideal.τ).loc Cert.Reference11Ideal.main_arg8) = m' ((c.tc : Thread Cert.Reference11Ideal.nD Cert.Reference11Ideal.τ).loc Cert.Reference11Ideal.main_arg8)
          ∧ r.2.mem ((c.tc : Thread Cert.Reference11Ideal.nD Cert.Reference11Ideal.τ).loc Cert.Reference11Ideal.main_arg9) = m' ((c.tc : Thread Cert.Reference11Ideal.nD Cert.Reference11Ideal.τ).loc Cert.Reference11Ideal.main_arg9)
          ∧ r.2.mem ((c.tc : Thread Cert.Reference11Ideal.nD Cert.Reference11Ideal.τ).loc Cert.Reference11Ideal.main_arg10) = m' ((c.tc : Thread Cert.Reference11Ideal.nD Cert.Reference11Ideal.τ).loc Cert.Reference11Ideal.main_arg10))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v1) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v12) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def Claim : Prop :=
  ∃ (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hPre_finite_gradient : Cert.Pre_finite_gradient.Facts) (hPre_finite_rows : Cert.Pre_finite_rows.Facts) (hPre_finite_stream : Cert.Pre_finite_stream.Facts),
    quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite_gradient (hKernel4Ideal := hKernel4Ideal) (hPre_finite_gradient := hPre_finite_gradient)
    ∧ quiescent_Reference4Ideal (hReference4Ideal := hReference4Ideal)
    ∧ quiescent_Reference4Ideal_pre_finite_gradient (hReference4Ideal := hReference4Ideal) (hPre_finite_gradient := hPre_finite_gradient)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Kernel9Ideal_pre_finite_rows (hKernel9Ideal := hKernel9Ideal) (hPre_finite_rows := hPre_finite_rows)
    ∧ quiescent_Reference9Ideal (hReference9Ideal := hReference9Ideal)
    ∧ quiescent_Reference9Ideal_pre_finite_rows (hReference9Ideal := hReference9Ideal) (hPre_finite_rows := hPre_finite_rows)
    ∧ quiescent_Kernel10 (hKernel10 := hKernel10)
    ∧ quiescent_Kernel10Ideal (hKernel10Ideal := hKernel10Ideal)
    ∧ quiescent_Kernel10Ideal_pre_finite_stream (hKernel10Ideal := hKernel10Ideal) (hPre_finite_stream := hPre_finite_stream)
    ∧ quiescent_Reference10Ideal (hReference10Ideal := hReference10Ideal)
    ∧ quiescent_Reference10Ideal_pre_finite_stream (hReference10Ideal := hReference10Ideal) (hPre_finite_stream := hPre_finite_stream)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite_gradient (hKernel4Ideal := hKernel4Ideal) (hReference4Ideal := hReference4Ideal) (hPre_finite_gradient := hPre_finite_gradient)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal_pre_finite_rows (hKernel9Ideal := hKernel9Ideal) (hReference9Ideal := hReference9Ideal) (hPre_finite_rows := hPre_finite_rows)
    ∧ preserves_Kernel10_Kernel10Ideal
    ∧ algebraic_Kernel10Ideal_Reference10Ideal_pre_finite_stream (hKernel10Ideal := hKernel10Ideal) (hReference10Ideal := hReference10Ideal) (hPre_finite_stream := hPre_finite_stream)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
-- ==== Pre_finite_gradient.lean ====
abbrev S4096x3200 : Shape := ⟨2, ![4096, 3200]⟩
abbrev S1x128 : Shape := ⟨2, ![1, 128]⟩
abbrev S4096x128 : Shape := ⟨2, ![4096, 128]⟩
abbrev S_ : Shape := ⟨0, ![]⟩

class Facts : Prop where
  bcast_S_S4096x128 : S_.BroadcastsInDim S4096x128 (![] : Fin 0 → Fin S4096x128.rank)

variable [Facts]

def fn {F : FTy → Type} [FloatOps F] (main_arg0 : FVec F S4096x3200 .f32) (main_arg1 : FVec F S1x128 .f32) (main_arg2 : FVec F S4096x128 .f32) : IVec S4096x128 1 :=
  let main_v0 : FVec F S4096x128 .f32 := Host.absf main_arg2
  let main_cst : FVec F S_ .f32 := constant S_ .f32 0x7F800000#32
  let main_v1 : FVec F S4096x128 .f32 := broadcastInDim S4096x128 ![] bcast_S_S4096x128 main_cst
  let main_v2 : IVec S4096x128 1 := cmpf .olt main_v0 main_v1
  main_v2
-- ==== Pre_finite_rows.lean ====
abbrev S4096x1024 : Shape := ⟨2, ![4096, 1024]⟩
abbrev S1x1024 : Shape := ⟨2, ![1, 1024]⟩
abbrev S_ : Shape := ⟨0, ![]⟩

class Facts : Prop where
  bcast_S_S4096x1024 : S_.BroadcastsInDim S4096x1024 (![] : Fin 0 → Fin S4096x1024.rank)
  bcast_S_S1x1024 : S_.BroadcastsInDim S1x1024 (![] : Fin 0 → Fin S1x1024.rank)
  bcast_S1x1024_S4096x1024_0_1 : S1x1024.BroadcastsInDim S4096x1024 (![0, 1] : Fin 2 → Fin S4096x1024.rank)

variable [Facts]

def fn {F : FTy → Type} [FloatOps F] (main_arg0 : FVec F S4096x1024 .f32) (main_arg1 : FVec F S4096x1024 .f32) (main_arg2 : FVec F S4096x1024 .bf16) (main_arg3 : FVec F S1x1024 .f32) (main_arg4 : FVec F S1x1024 .f32) : IVec S4096x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S4096x1024 .f32 := Host.absf main_arg1
  let main_cst_0 : FVec F S_ .f32 := constant S_ .f32 0x7F800000#32
  let main_v4 : FVec F S4096x1024 .f32 := broadcastInDim S4096x1024 ![] bcast_S_S4096x1024 main_cst_0
  let main_v5 : IVec S4096x1024 1 := cmpf .olt main_v3 main_v4
  let main_v6 : IVec S4096x1024 1 := andi main_v2 main_v5
  let main_v7 : FVec F S1x1024 .f32 := Host.absf main_arg3
  let main_cst_1 : FVec F S_ .f32 := constant S_ .f32 0x7F800000#32
  let main_v8 : FVec F S1x1024 .f32 := broadcastInDim S1x1024 ![] bcast_S_S1x1024 main_cst_1
  let main_v9 : IVec S1x1024 1 := cmpf .olt main_v7 main_v8
  let main_v10 : IVec S4096x1024 1 := broadcastInDim S4096x1024 ![0, 1] bcast_S1x1024_S4096x1024_0_1 main_v9
  let main_v11 : IVec S4096x1024 1 := andi main_v6 main_v10
  main_v11
-- ==== Pre_finite_stream.lean ====
abbrev S4096x1024 : Shape := ⟨2, ![4096, 1024]⟩
abbrev S1x1024 : Shape := ⟨2, ![1, 1024]⟩
abbrev S_ : Shape := ⟨0, ![]⟩

class Facts : Prop where
  bcast_S_S4096x1024 : S_.BroadcastsInDim S4096x1024 (![] : Fin 0 → Fin S4096x1024.rank)
  bcast_S_S1x1024 : S_.BroadcastsInDim S1x1024 (![] : Fin 0 → Fin S1x1024.rank)
  bcast_S1x1024_S4096x1024_0_1 : S1x1024.BroadcastsInDim S4096x1024 (![0, 1] : Fin 2 → Fin S4096x1024.rank)

variable [Facts]

def fn {F : FTy → Type} [FloatOps F] (main_arg0 : FVec F S4096x1024 .f32) (main_arg1 : FVec F S4096x1024 .f32) (main_arg2 : FVec F S4096x1024 .f32) (main_arg3 : FVec F S4096x1024 .f32) (main_arg4 : FVec F S1x1024 .f32) (main_arg5 : FVec F S1x1024 .f32) (main_arg6 : FVec F S1x1024 .f32) : IVec S4096x1024 1 :=
  let main_v0 : FVec F S4096x1024 .f32 := Host.absf main_arg1
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S4096x1024 .f32 := Host.absf main_arg2
  let main_cst_0 : FVec F S_ .f32 := constant S_ .f32 0x7F800000#32
  let main_v4 : FVec F S4096x1024 .f32 := broadcastInDim S4096x1024 ![] bcast_S_S4096x1024 main_cst_0
  let main_v5 : IVec S4096x1024 1 := cmpf .olt main_v3 main_v4
  let main_v6 : IVec S4096x1024 1 := andi main_v2 main_v5
  let main_v7 : FVec F S1x1024 .f32 := Host.absf main_arg4
  let main_cst_1 : FVec F S_ .f32 := constant S_ .f32 0x7F800000#32
  let main_v8 : FVec F S1x1024 .f32 := broadcastInDim S1x1024 ![] bcast_S_S1x1024 main_cst_1
  let main_v9 : IVec S1x1024 1 := cmpf .olt main_v7 main_v8
  let main_v10 : IVec S4096x1024 1 := broadcastInDim S4096x1024 ![0, 1] bcast_S1x1024_S4096x1024_0_1 main_v9
  let main_v11 : IVec S4096x1024 1 := andi main_v6 main_v10
  let main_v12 : FVec F S1x1024 .f32 := Host.absf main_arg5
  let main_cst_2 : FVec F S_ .f32 := constant S_ .f32 0x7F800000#32
  let main_v13 : FVec F S1x1024 .f32 := broadcastInDim S1x1024 ![] bcast_S_S1x1024 main_cst_2
  let main_v14 : IVec S1x1024 1 := cmpf .olt main_v12 main_v13
  let main_v15 : IVec S4096x1024 1 := broadcastInDim S4096x1024 ![0, 1] bcast_S1x1024_S4096x1024_0_1 main_v14
  let main_v16 : IVec S4096x1024 1 := andi main_v11 main_v15
  main_v16
-- ==== Kernel3.lean ====
abbrev S4096x1024 : Shape := ⟨2, ![4096, 1024]⟩
abbrev S1024x4096 : Shape := ⟨2, ![1024, 4096]⟩
abbrev S4096x4096 : Shape := ⟨2, ![4096, 4096]⟩
abbrev S1024x1024 : Shape := ⟨2, ![1024, 1024]⟩
abbrev S1024x512 : Shape := ⟨2, ![1024, 512]⟩
abbrev S512x4096 : Shape := ⟨2, ![512, 4096]⟩
abbrev S4096x512 : Shape := ⟨2, ![4096, 512]⟩
abbrev S512x512 : Shape := ⟨2, ![512, 512]⟩
abbrev S512x1024 : Shape := ⟨2, ![512, 1024]⟩
abbrev S8x1024x512 : Shape := ⟨3, ![8, 1024, 512]⟩
abbrev S1x512x512 : Shape := ⟨3, ![1, 512, 512]⟩

abbrev nBuf : Space → Nat
  | .hbm => 11
  | .vmem => 40
  | .smem => 0
  | _ => 0

abbrev bufTy : (tb : Table) → Fin (tcTables nBuf tb) → BufTy
  | .hbm, ⟨0, _⟩ => ⟨S4096x1024, .bf16⟩
  | .hbm, ⟨1, _⟩ => ⟨S1024x4096, .bf16⟩
  | .hbm, ⟨2, _⟩ => ⟨S4096x1024, .bf16⟩
  | .hbm, ⟨3, _⟩ => ⟨S4096x1024, .bf16⟩
  | .hbm, ⟨4, _⟩ => ⟨S4096x4096, .bf16⟩
  | .hbm, ⟨5, _⟩ => ⟨S4096x4096, .bf16⟩
  | .hbm, ⟨6, _⟩ => ⟨S4096x1024, .f32⟩
  | .hbm, ⟨7, _⟩ => ⟨S4096x4096, .bf16⟩
  | .hbm, ⟨8, _⟩ => ⟨S4096x1024, .bf16⟩
  | .hbm, ⟨9, _⟩ => ⟨S8x1024x512, .bf16⟩
  | .hbm, ⟨10, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S512x4096, .bf16⟩
  | .local _ .vmem, ⟨9, _⟩ => ⟨S512x4096, .bf16⟩
  | .local _ .vmem, ⟨10, _⟩ => ⟨S4096x512, .bf16⟩
  | .local _ .vmem, ⟨11, _⟩ => ⟨S4096x512, .bf16⟩
  | .local _ .vmem, ⟨12, _⟩ => ⟨S512x512, .f32⟩
  | .local _ .vmem, ⟨13, _⟩ => ⟨S512x512, .f32⟩
  | .local _ .vmem, ⟨14, _⟩ => ⟨S1024x1024, .bf16⟩
  | .local _ .vmem, ⟨15, _⟩ => ⟨S1024x1024, .bf16⟩
  | .local _ .vmem, ⟨16, _⟩ => ⟨S512x1024, .bf16⟩
  | .local _ .vmem, ⟨17, _⟩ => ⟨S512x1024, .bf16⟩
  | .local _ .vmem, ⟨18, _⟩ => ⟨S1024x512, .bf16⟩
  | .local _ .vmem, ⟨19, _⟩ => ⟨S1024x512, .bf16⟩
  | .local _ .vmem, ⟨20, _⟩ => ⟨S1024x512, .bf16⟩
  | .local _ .vmem, ⟨21, _⟩ => ⟨S1024x512, .bf16⟩
  | .local _ .vmem, ⟨22, _⟩ => ⟨S4096x512, .bf16⟩
  | .local _ .vmem, ⟨23, _⟩ => ⟨S4096x512, .bf16⟩
  | .local _ .vmem, ⟨24, _⟩ => ⟨S4096x512, .bf16⟩
  | .local _ .vmem, ⟨25, _⟩ => ⟨S4096x512, .bf16⟩
  | .local _ .vmem, ⟨26, _⟩ => ⟨S512x512, .bf16⟩
  | .local _ .vmem, ⟨27, _⟩ => ⟨S512x512, .bf16⟩
  | .local _ .vmem, ⟨28, _⟩ => ⟨S4096x512, .bf16⟩
  | .local _ .vmem, ⟨29, _⟩ => ⟨S4096x512, .bf16⟩
  | .local _ .vmem, ⟨30, _⟩ => ⟨S4096x512, .bf16⟩
  | .local _ .vmem, ⟨31, _⟩ => ⟨S4096x512, .bf16⟩
  | .local _ .vmem, ⟨32, _⟩ => ⟨S1x512x512, .bf16⟩
  | .local _ .vmem, ⟨33, _⟩ => ⟨S1x512x512, .bf16⟩
  | .local _ .vmem, ⟨34, _⟩ => ⟨S512x4096, .bf16⟩
  | .local _ .vmem, ⟨35, _⟩ => ⟨S512x4096, .bf16⟩
  | .local _ .vmem, ⟨36, _⟩ => ⟨S512x4096, .bf16⟩
  | .local _ .vmem, ⟨37, _⟩ => ⟨S512x4096, .bf16⟩
  | .local _ .vmem, ⟨38, _⟩ => ⟨S512x512, .f32⟩
  | .local _ .vmem, ⟨39, _⟩ => ⟨S512x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc2_stg3_0 : Ref sig .tc := ⟨.vmem, 20, rfl⟩
abbrev cc2_stg3_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg1_1 : Ref sig .tc := ⟨.vmem, 25, rfl⟩
abbrev cc3_stg2_0 : Ref sig .tc := ⟨.vmem, 26, rfl⟩
abbrev cc3_stg2_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg1_1 : Ref sig .tc := ⟨.vmem, 31, rfl⟩
abbrev cc4_stg2_0 : Ref sig .tc := ⟨.vmem, 32, rfl⟩
abbrev cc4_stg2_1 : Ref sig .tc := ⟨.vmem, 33, rfl⟩
abbrev cc5_stg0_0 : Ref sig .tc := ⟨.vmem, 34, rfl⟩
abbrev cc5_stg0_1 : Ref sig .tc := ⟨.vmem, 35, rfl⟩
abbrev cc5_stg1_0 : Ref sig .tc := ⟨.vmem, 36, rfl⟩
abbrev cc5_stg1_1 : Ref sig .tc := ⟨.vmem, 37, rfl⟩
abbrev cc5_stg2_0 : Ref sig .tc := ⟨.vmem, 38, rfl⟩
abbrev cc5_stg2_1 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem2_1 : DmaSem sig := 19
abbrev cc2_sem3_0 : DmaSem sig := 20
abbrev cc2_sem3_1 : DmaSem sig := 21
abbrev cc3_sem0_0 : DmaSem sig := 22
abbrev cc3_sem0_1 : DmaSem sig := 23
abbrev cc3_sem1_0 : DmaSem sig := 24
abbrev cc3_sem1_1 : DmaSem sig := 25
abbrev cc3_sem2_0 : DmaSem sig := 26
abbrev cc3_sem2_1 : DmaSem sig := 27
abbrev cc4_sem0_0 : DmaSem sig := 28
abbrev cc4_sem0_1 : DmaSem sig := 29
abbrev cc4_sem1_0 : DmaSem sig := 30
abbrev cc4_sem1_1 : DmaSem sig := 31
abbrev cc4_sem2_0 : DmaSem sig := 32
abbrev cc4_sem2_1 : DmaSem sig := 33
abbrev cc5_sem0_0 : DmaSem sig := 34
abbrev cc5_sem0_1 : DmaSem sig := 35
abbrev cc5_sem1_0 : DmaSem sig := 36
abbrev cc5_sem1_1 : DmaSem sig := 37
abbrev cc5_sem2_0 : DmaSem sig := 38
abbrev cc5_sem2_1 : DmaSem sig := 39

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨2, ![8, 2], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S512x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S4096x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S512x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨2, ![4, 8], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S1024x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S512x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1024x512 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S1024x512 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev grid3 : Pipeline.Grid := ⟨2, ![8, 2], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 2 → Memref sig .tc .vmem S4096x512 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S4096x512 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S512x512 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev grid4 : Pipeline.Grid := ⟨2, ![2, 8], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc4_transform_2 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage4_0 : Fin 2 → Memref sig .tc .vmem S4096x512 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false]

abbrev stage4_1 : Fin 2 → Memref sig .tc .vmem S4096x512 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true]

abbrev stage4_2 : Fin 2 → Memref sig .tc .vmem S1x512x512 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]

abbrev grid5 : Pipeline.Grid := ⟨2, ![8, 2], ![false, false]⟩

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage5_0 : Fin 2 → Memref sig .tc .vmem S512x4096 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false]

abbrev stage5_1 : Fin 2 → Memref sig .tc .vmem S512x4096 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true]

abbrev stage5_2 : Fin 2 → Memref sig .tc .vmem S512x512 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true]
-- ==== Reference3Ideal.lean ====
abbrev S4096x1024 : Shape := ⟨2, ![4096, 1024]⟩
abbrev S1024x4096 : Shape := ⟨2, ![1024, 4096]⟩
abbrev S4096x4096 : Shape := ⟨2, ![4096, 4096]⟩
abbrev S_ : Shape := ⟨0, ![]⟩
abbrev S1024x8x512 : Shape := ⟨3, ![1024, 8, 512]⟩
abbrev S8x1024x512 : Shape := ⟨3, ![8, 1024, 512]⟩

abbrev nBuf : Space → Nat
  | .hbm => 36
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x4096, .bf16⟩
  | .hbm, ⟨2, _⟩ => ⟨S4096x1024, .bf16⟩
  | .hbm, ⟨3, _⟩ => ⟨S4096x1024, .bf16⟩
  | .hbm, ⟨4, _⟩ => ⟨S4096x1024, .f32⟩
  | .hbm, ⟨5, _⟩ => ⟨S1024x4096, .f32⟩
  | .hbm, ⟨6, _⟩ => ⟨S4096x1024, .f32⟩
  | .hbm, ⟨7, _⟩ => ⟨S4096x1024, .f32⟩
  | .hbm, ⟨8, _⟩ => ⟨S4096x4096, .f32⟩
  | .hbm, ⟨9, _⟩ => ⟨S_, .f32⟩
  | .hbm, ⟨10, _⟩ => ⟨S4096x4096, .f32⟩
  | .hbm, ⟨11, _⟩ => ⟨S4096x4096, .f32⟩
  | .hbm, ⟨12, _⟩ => ⟨S_, .f32⟩
  | .hbm, ⟨13, _⟩ => ⟨S4096x4096, .f32⟩
  | .hbm, ⟨14, _⟩ => ⟨S4096x4096, .i1⟩
  | .hbm, ⟨15, _⟩ => ⟨S_, .f32⟩
  | .hbm, ⟨16, _⟩ => ⟨S4096x4096, .f32⟩
  | .hbm, ⟨17, _⟩ => ⟨S4096x4096, .f32⟩
  | .hbm, ⟨18, _⟩ => ⟨S_, .f32⟩
  | .hbm, ⟨19, _⟩ => ⟨S4096x4096, .f32⟩
  | .hbm, ⟨20, _⟩ => ⟨S4096x4096, .f32⟩
  | .hbm, ⟨21, _⟩ => ⟨S4096x1024, .f32⟩
  | .hbm, ⟨22, _⟩ => ⟨S1024x4096, .f32⟩
  | .hbm, ⟨23, _⟩ => ⟨S4096x1024, .f32⟩
  | .hbm, ⟨24, _⟩ => ⟨S4096x4096, .f32⟩
  | .hbm, ⟨25, _⟩ => ⟨S4096x4096, .f32⟩
  | .hbm, ⟨26, _⟩ => ⟨S_, .f32⟩
  | .hbm, ⟨27, _⟩ => ⟨S4096x4096, .f32⟩
  | .hbm, ⟨28, _⟩ => ⟨S4096x4096, .f32⟩
  | .hbm, ⟨29, _⟩ => ⟨S4096x1024, .f32⟩
  | .hbm, ⟨30, _⟩ => ⟨S1024x4096, .f32⟩
  | .hbm, ⟨31, _⟩ => ⟨S4096x1024, .f32⟩
  | .hbm, ⟨32, _⟩ => ⟨S1024x8x512, .f32⟩
  | .hbm, ⟨33, _⟩ => ⟨S8x1024x512, .f32⟩
  | .hbm, ⟨34, _⟩ => ⟨S8x1024x512, .bf16⟩
  | .hbm, ⟨35, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call0_cst : Ref sig .tc := ⟨.hbm, 9, rfl⟩
abbrev main_call0_v0 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩

abbrev nD : Nat := 1
abbrev τ : Topo := Topo.v7x

variable {F : FTy → Type} [FloatOps F]
-- ==== Kernel4.lean ====
abbrev S4096x3200 : Shape := ⟨2, ![4096, 3200]⟩
abbrev S1x128 : Shape := ⟨2, ![1, 128]⟩
abbrev S4096x128 : Shape := ⟨2, ![4096, 128]⟩
abbrev S256x256 : Shape := ⟨2, ![256, 256]⟩
abbrev S256x128 : Shape := ⟨2, ![256, 128]⟩
abbrev S128 : Shape := ⟨1, ![128]⟩

abbrev nBuf : Space → Nat
  | .hbm => 5
  | .vmem => 5
  | .smem => 0
  | _ => 0

abbrev bufTy : (tb : Table) → Fin (tcTables nBuf tb) → BufTy
  | .hbm, ⟨0, _⟩ => ⟨S4096x3200, .f32⟩
  | .hbm, ⟨1, _⟩ => ⟨S1x128, .f32⟩
  | .hbm, ⟨2, _⟩ => ⟨S4096x128, .f32⟩
  | .hbm, ⟨3, _⟩ => ⟨S4096x128, .bf16⟩
  | .hbm, ⟨4, _⟩ => ⟨S1x128, .f32⟩
  | .local _ .vmem, ⟨0, _⟩ => ⟨S4096x128, .f32⟩
  | .local _ .vmem, ⟨1, _⟩ => ⟨S1x128, .f32⟩
  | .local _ .vmem, ⟨2, _⟩ => ⟨S4096x128, .f32⟩
  | .local _ .vmem, ⟨3, _⟩ => ⟨S4096x128, .bf16⟩
  | .local _ .vmem, ⟨4, _⟩ => ⟨S1x128, .f32⟩
  | _, _ => ⟨S4096x3200, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨1, ![1], ![false]⟩

@[reducible] def k0_t1_loop : Scf.Loop 32 :=
  let c0_i32 : BitVec 32 := 0#32
  let c16_i32 : BitVec 32 := 16#32
  let v8 : BitVec 32 := Scalar.addi c0_i32 c16_i32
  let c1_i32 : BitVec 32 := 1#32
  ⟨c0_i32, v8, c1_i32⟩
def k0_mult1 (k0_t1 : Fin k0_t1_loop.trips) : BitVec 32 :=
  let c15_i32 : BitVec 32 := 15#32
  let c0_i32 : BitVec 32 := 0#32
  let c1_i32 : BitVec 32 := 1#32
  let arg6 : BitVec 32 := Scf.iv c0_i32 c1_i32 k0_t1
  let v11 : BitVec 32 := Scalar.subi c15_i32 arg6
  let c256_i32 : BitVec 32 := 256#32
  let v12 : BitVec 32 := Scalar.muli v11 c256_i32
  v12
def k0_off1 (k0_t1 : Fin k0_t1_loop.trips) : Fin 2 → Nat :=
  let c15_i32 : BitVec 32 := 15#32
  let c0_i32 : BitVec 32 := 0#32
  let c1_i32 : BitVec 32 := 1#32
  let arg6 : BitVec 32 := Scf.iv c0_i32 c1_i32 k0_t1
  let v11 : BitVec 32 := Scalar.subi c15_i32 arg6
  let c256_i32 : BitVec 32 := 256#32
  let v12 : BitVec 32 := Scalar.muli v11 c256_i32
  let v13 : BitVec 32 := v12
  let v14 : Index := Scalar.indexCast v13
  let c0_3 : Index := 0#32
  ![v14.toNat, 0]
def cc0_transform_0 (i : grid0.Coords) : Fin 2 → Nat :=
  let arg0 : BitVec 32 := BitVec.ofNat 32 (i 0).val
  let c0_i32 : BitVec 32 := 0#32
  let c24_i32 : BitVec 32 := 24#32
  let c0_i32_0 : BitVec 32 := 0#32
  ![c0_i32.toNat, c24_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S4096x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== Reference4Ideal.lean ====
abbrev S4096x3200 : Shape := ⟨2, ![4096, 3200]⟩
abbrev S1x128 : Shape := ⟨2, ![1, 128]⟩
abbrev S4096x128 : Shape := ⟨2, ![4096, 128]⟩
abbrev S_ : Shape := ⟨0, ![]⟩
abbrev S128 : Shape := ⟨1, ![128]⟩

abbrev nBuf : Space → Nat
  | .hbm => 67
  | .vmem => 0
  | .smem => 0
  | _ => 0

abbrev bufTy : (tb : Table) → Fin (tcTables nBuf tb) → BufTy
  | .hbm, ⟨0, _⟩ => ⟨S4096x3200, .f32⟩
  | .hbm, ⟨1, _⟩ => ⟨S1x128, .f32⟩
  | .hbm, ⟨2, _⟩ => ⟨S4096x128, .f32⟩
  | .hbm, ⟨3, _⟩ => ⟨S4096x128, .f32⟩
  | .hbm, ⟨4, _⟩ => ⟨S4096x128, .f32⟩
  | .hbm, ⟨5, _⟩ => ⟨S4096x128, .f32⟩
  | .hbm, ⟨6, _⟩ => ⟨S4096x128, .f32⟩
  | .hbm, ⟨7, _⟩ => ⟨S_, .f32⟩
  | .hbm, ⟨8, _⟩ => ⟨S4096x128, .f32⟩
  | .hbm, ⟨9, _⟩ => ⟨S4096x128, .f32⟩
  | .hbm, ⟨10, _⟩ => ⟨S4096x128, .f32⟩
  | .hbm, ⟨11, _⟩ => ⟨S4096x128, .f32⟩
  | .hbm, ⟨12, _⟩ => ⟨S4096x128, .i1⟩
  | .hbm, ⟨13, _⟩ => ⟨S4096x128, .f32⟩
  | .hbm, ⟨14, _⟩ => ⟨S4096x128, .f32⟩
  | .hbm, ⟨15, _⟩ => ⟨S4096x128, .f32⟩
  | .hbm, ⟨16, _⟩ => ⟨S4096x128, .f32⟩
  | .hbm, ⟨17, _⟩ => ⟨S4096x128, .f32⟩
  | .hbm, ⟨18, _⟩ => ⟨S4096x128, .f32⟩
  | .hbm, ⟨19, _⟩ => ⟨S4096x128, .f32⟩
  | .hbm, ⟨20, _⟩ => ⟨S4096x128, .f32⟩
  | .hbm, ⟨21, _⟩ => ⟨S_, .f32⟩
  | .hbm, ⟨22, _⟩ => ⟨S4096x128, .f32⟩
  | .hbm, ⟨23, _⟩ => ⟨S4096x128, .i1⟩
  | .hbm, ⟨24, _⟩ => ⟨S_, .f32⟩
  | .hbm, ⟨25, _⟩ => ⟨S4096x128, .f32⟩
  | .hbm, ⟨26, _⟩ => ⟨S4096x128, .f32⟩
  | .hbm, ⟨27, _⟩ => ⟨S_, .f32⟩
  | .hbm, ⟨28, _⟩ => ⟨S4096x128, .f32⟩
  | .hbm, ⟨29, _⟩ => ⟨S4096x128, .i1⟩
  | .hbm, ⟨30, _⟩ => ⟨S_, .f32⟩
  | .hbm, ⟨31, _⟩ => ⟨S4096x128, .f32⟩
  | .hbm, ⟨32, _⟩ => ⟨S4096x128, .f32⟩
  | .hbm, ⟨33, _⟩ => ⟨S4096x128, .f32⟩
  | .hbm, ⟨34, _⟩ => ⟨S4096x128, .f32⟩
  | .hbm, ⟨35, _⟩ => ⟨S_, .f32⟩
  | .hbm, ⟨36, _⟩ => ⟨S_, .f32⟩
  | .hbm, ⟨37, _⟩ => ⟨S_, .i1⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S4096x128, .f32⟩
  | .hbm, ⟨43, _⟩ => ⟨S4096x128, .i1⟩
  | .hbm, ⟨44, _⟩ => ⟨S_, .f32⟩
  | .hbm, ⟨45, _⟩ => ⟨S4096x128, .f32⟩
  | .hbm, ⟨46, _⟩ => ⟨S4096x128, .f32⟩
  | .hbm, ⟨47, _⟩ => ⟨S4096x128, .f32⟩
  | .hbm, ⟨48, _⟩ => ⟨S4096x128, .f32⟩
  | .hbm, ⟨49, _⟩ => ⟨S4096x128, .f32⟩
  | .hbm, ⟨50, _⟩ => ⟨S_, .f32⟩
  | .hbm, ⟨51, _⟩ => ⟨S4096x128, .f32⟩
  | .hbm, ⟨52, _⟩ => ⟨S4096x128, .f32⟩
  | .hbm, ⟨53, _⟩ => ⟨S4096x128, .f32⟩
  | .hbm, ⟨54, _⟩ => ⟨S_, .f32⟩
  | .hbm, ⟨55, _⟩ => ⟨S_, .f32⟩
  | .hbm, ⟨56, _⟩ => ⟨S4096x128, .f32⟩
  | .hbm, ⟨57, _⟩ => ⟨S_, .f32⟩
  | .hbm, ⟨58, _⟩ => ⟨S_, .f32⟩
  | .hbm, ⟨59, _⟩ => ⟨S4096x128, .f32⟩
  | .hbm, ⟨60, _⟩ => ⟨S4096x128, .f32⟩
  | .hbm, ⟨61, _⟩ => ⟨S4096x128, .f32⟩
  | .hbm, ⟨62, _⟩ => ⟨S4096x128, .f32⟩
  | .hbm, ⟨63, _⟩ => ⟨S_, .f32⟩
  | .hbm, ⟨64, _⟩ => ⟨S128, .f32⟩
  | .hbm, ⟨65, _⟩ => ⟨S1x128, .f32⟩
  | .hbm, ⟨66, _⟩ => ⟨S4096x128, .bf16⟩
  | _, _ => ⟨S4096x3200, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_v0 : Ref sig .tc := ⟨.hbm, 6, rfl⟩
abbrev main_call0_call0_cst : Ref sig .tc := ⟨.hbm, 7, rfl⟩
abbrev main_call0_call0_v0 : Ref sig .tc := ⟨.hbm, 8, rfl⟩
abbrev main_call0_call0_v1 : Ref sig .tc := ⟨.hbm, 9, rfl⟩
abbrev main_call0_call0_v2 : Ref sig .tc := ⟨.hbm, 10, rfl⟩
abbrev main_call0_call0_v3 : Ref sig .tc := ⟨.hbm, 11, rfl⟩
abbrev main_call0_call0_v4 : Ref sig .tc := ⟨.hbm, 12, rfl⟩
abbrev main_call0_call0_v5 : Ref sig .tc := ⟨.hbm, 13, rfl⟩
abbrev main_call0_call0_v6 : Ref sig .tc := ⟨.hbm, 14, rfl⟩
abbrev main_call0_call0_v7 : Ref sig .tc := ⟨.hbm, 15, rfl⟩
abbrev main_call0_call0_v8 : Ref sig .tc := ⟨.hbm, 16, rfl⟩
abbrev main_call0_call0_v9 : Ref sig .tc := ⟨.hbm, 17, rfl⟩
abbrev main_call0_call0_v10 : Ref sig .tc := ⟨.hbm, 18, rfl⟩
abbrev main_call0_call0_v11 : Ref sig .tc := ⟨.hbm, 19, rfl⟩
abbrev main_call0_v1_0 : Ref sig .tc := ⟨.hbm, 20, rfl⟩
abbrev main_call0_call0_cst_0 : Ref sig .tc := ⟨.hbm, 21, rfl⟩
abbrev main_call0_call0_v13 : Ref sig .tc := ⟨.hbm, 22, rfl⟩
abbrev main_call0_call0_v14 : Ref sig .tc := ⟨.hbm, 23, rfl⟩
abbrev main_call0_call0_cst_1 : Ref sig .tc := ⟨.hbm, 24, rfl⟩
abbrev main_call0_call0_v15 : Ref sig .tc := ⟨.hbm, 25, rfl⟩
abbrev main_call0_call0_v16 : Ref sig .tc := ⟨.hbm, 26, rfl⟩
abbrev main_call0_call0_cst_2 : Ref sig .tc := ⟨.hbm, 27, rfl⟩
abbrev main_call0_call0_v17 : Ref sig .tc := ⟨.hbm, 28, rfl⟩
abbrev main_call0_call0_v18 : Ref sig .tc := ⟨.hbm, 29, rfl⟩
abbrev main_call0_call0_cst_3 : Ref sig .tc := ⟨.hbm, 30, rfl⟩
abbrev main_call0_call0_v19 : Ref sig .tc := ⟨.hbm, 31, rfl⟩
abbrev main_call0_call0_v20 : Ref sig .tc := ⟨.hbm, 32, rfl⟩
abbrev main_call0_call0_v21 : Ref sig .tc := ⟨.hbm, 33, rfl⟩
abbrev main_v3_1 : Ref sig .tc := ⟨.hbm, 34, rfl⟩
abbrev main_call0_call0_cst_4 : Ref sig .tc := ⟨.hbm, 35, rfl⟩
abbrev main_call0_call0_cst_5 : Ref sig .tc := ⟨.hbm, 36, rfl⟩
abbrev main_call0_call0_v23 : Ref sig .tc := ⟨.hbm, 37, rfl⟩
abbrev main_call0_call0_cst_6 : Ref sig .tc := ⟨.hbm, 38, rfl⟩
abbrev main_call0_call0_cst_7 : Ref sig .tc := ⟨.hbm, 39, rfl⟩
abbrev main_call0_call0_v24 : Ref sig .tc := ⟨.hbm, 40, rfl⟩
abbrev main_call0_call0_cst_8 : Ref sig .tc := ⟨.hbm, 41, rfl⟩
abbrev main_call0_call0_v25 : Ref sig .tc := ⟨.hbm, 42, rfl⟩
abbrev main_call0_call0_v26 : Ref sig .tc := ⟨.hbm, 43, rfl⟩
abbrev main_call0_call0_cst_9 : Ref sig .tc := ⟨.hbm, 44, rfl⟩
abbrev main_call0_call0_v27 : Ref sig .tc := ⟨.hbm, 45, rfl⟩
abbrev main_call0_call0_v28 : Ref sig .tc := ⟨.hbm, 46, rfl⟩
abbrev main_call0_call0_v29 : Ref sig .tc := ⟨.hbm, 47, rfl⟩
abbrev main_call0_call0_v30 : Ref sig .tc := ⟨.hbm, 48, rfl⟩
abbrev main_call0_call0_v31 : Ref sig .tc := ⟨.hbm, 49, rfl⟩
abbrev main_call0_call0_cst_10 : Ref sig .tc := ⟨.hbm, 50, rfl⟩
abbrev main_call0_call0_v32 : Ref sig .tc := ⟨.hbm, 51, rfl⟩
abbrev main_v3_2 : Ref sig .tc := ⟨.hbm, 52, rfl⟩
abbrev main_v3_0 : Ref sig .tc := ⟨.hbm, 53, rfl⟩
abbrev main_call1_call0_cst : Ref sig .tc := ⟨.hbm, 54, rfl⟩
abbrev main_call1_call0_v0 : Ref sig .tc := ⟨.hbm, 55, rfl⟩
abbrev main_v4 : Ref sig .tc := ⟨.hbm, 56, rfl⟩
abbrev main_call2_call0_cst : Ref sig .tc := ⟨.hbm, 57, rfl⟩
abbrev main_call2_call0_v0 : Ref sig .tc := ⟨.hbm, 58, rfl⟩
abbrev main_v5 : Ref sig .tc := ⟨.hbm, 59, rfl⟩
abbrev main_call3_v0 : Ref sig .tc := ⟨.hbm, 60, rfl⟩
abbrev main_call3_v1 : Ref sig .tc := ⟨.hbm, 61, rfl⟩
abbrev main_v6 : Ref sig .tc := ⟨.hbm, 62, rfl⟩
abbrev main_cst : Ref sig .tc := ⟨.hbm, 63, rfl⟩
abbrev main_v7 : Ref sig .tc := ⟨.hbm, 64, rfl⟩
abbrev main_v8 : Ref sig .tc := ⟨.hbm, 65, rfl⟩
abbrev main_v9 : Ref sig .tc := ⟨.hbm, 66, rfl⟩

abbrev nD : Nat := 1
abbrev τ : Topo := Topo.v7x

variable {F : FTy → Type} [FloatOps F]
-- ==== Kernel5.lean ====
abbrev S4096x1024 : Shape := ⟨2, ![4096, 1024]⟩
abbrev S1024x3200 : Shape := ⟨2, ![1024, 3200]⟩
abbrev S1024x1024 : Shape := ⟨2, ![1024, 1024]⟩
abbrev S4096x3200 : Shape := ⟨2, ![4096, 3200]⟩
abbrev S1024x640 : Shape := ⟨2, ![1024, 640]⟩
abbrev S512x1024 : Shape := ⟨2, ![512, 1024]⟩
abbrev S1024x512 : Shape := ⟨2, ![1024, 512]⟩
abbrev S512x512 : Shape := ⟨2, ![512, 512]⟩
abbrev S4096x512 : Shape := ⟨2, ![4096, 512]⟩
abbrev S4096x640 : Shape := ⟨2, ![4096, 640]⟩
abbrev S512x640 : Shape := ⟨2, ![512, 640]⟩
abbrev S512x3200 : Shape := ⟨2, ![512, 3200]⟩

abbrev nBuf : Space → Nat
  | .hbm => 12
  | .vmem => 36
  | .smem => 0
  | _ => 0

abbrev bufTy : (tb : Table) → Fin (tcTables nBuf tb) → BufTy
  | .hbm, ⟨0, _⟩ => ⟨S4096x1024, .bf16⟩
  | .hbm, ⟨1, _⟩ => ⟨S1024x3200, .bf16⟩
  | .hbm, ⟨2, _⟩ => ⟨S4096x1024, .bf16⟩
  | .hbm, ⟨3, _⟩ => ⟨S1024x1024, .bf16⟩
  | .hbm, ⟨4, _⟩ => ⟨S4096x1024, .bf16⟩
  | .hbm, ⟨5, _⟩ => ⟨S4096x3200, .bf16⟩
  | .hbm, ⟨6, _⟩ => ⟨S4096x3200, .f32⟩
  | .hbm, ⟨7, _⟩ => ⟨S4096x1024, .f32⟩
  | .hbm, ⟨8, _⟩ => ⟨S4096x1024, .bf16⟩
  | .hbm, ⟨9, _⟩ => ⟨S1024x1024, .bf16⟩
  | .hbm, ⟨10, _⟩ => ⟨S1024x3200, .bf16⟩
  | .hbm, ⟨11, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x640, .bf16⟩
  | .local _ .vmem, ⟨3, _⟩ => ⟨S1024x640, .bf16⟩
  | .local _ .vmem, ⟨4, _⟩ => ⟨S1024x640, .f32⟩
  | .local _ .vmem, ⟨5, _⟩ => ⟨S1024x640, .f32⟩
  | .local _ .vmem, ⟨6, _⟩ => ⟨S512x1024, .bf16⟩
  | .local _ .vmem, ⟨7, _⟩ => ⟨S512x1024, .bf16⟩
  | .local _ .vmem, ⟨8, _⟩ => ⟨S1024x512, .bf16⟩
  | .local _ .vmem, ⟨9, _⟩ => ⟨S1024x512, .bf16⟩
  | .local _ .vmem, ⟨10, _⟩ => ⟨S512x512, .f32⟩
  | .local _ .vmem, ⟨11, _⟩ => ⟨S512x512, .f32⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x512, .bf16⟩
  | .local _ .vmem, ⟨17, _⟩ => ⟨S512x512, .bf16⟩
  | .local _ .vmem, ⟨18, _⟩ => ⟨S4096x512, .bf16⟩
  | .local _ .vmem, ⟨19, _⟩ => ⟨S4096x512, .bf16⟩
  | .local _ .vmem, ⟨20, _⟩ => ⟨S4096x512, .bf16⟩
  | .local _ .vmem, ⟨21, _⟩ => ⟨S4096x512, .bf16⟩
  | .local _ .vmem, ⟨22, _⟩ => ⟨S512x512, .bf16⟩
  | .local _ .vmem, ⟨23, _⟩ => ⟨S512x512, .bf16⟩
  | .local _ .vmem, ⟨24, _⟩ => ⟨S4096x512, .bf16⟩
  | .local _ .vmem, ⟨25, _⟩ => ⟨S4096x512, .bf16⟩
  | .local _ .vmem, ⟨26, _⟩ => ⟨S4096x640, .bf16⟩
  | .local _ .vmem, ⟨27, _⟩ => ⟨S4096x640, .bf16⟩
  | .local _ .vmem, ⟨28, _⟩ => ⟨S512x640, .bf16⟩
  | .local _ .vmem, ⟨29, _⟩ => ⟨S512x640, .bf16⟩
  | .local _ .vmem, ⟨30, _⟩ => ⟨S512x3200, .bf16⟩
  | .local _ .vmem, ⟨31, _⟩ => ⟨S512x3200, .bf16⟩
  | .local _ .vmem, ⟨32, _⟩ => ⟨S512x3200, .bf16⟩
  | .local _ .vmem, ⟨33, _⟩ => ⟨S512x3200, .bf16⟩
  | .local _ .vmem, ⟨34, _⟩ => ⟨S512x512, .f32⟩
  | .local _ .vmem, ⟨35, _⟩ => ⟨S512x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg1_1 : Ref sig .tc := ⟨.vmem, 27, rfl⟩
abbrev cc4_stg2_0 : Ref sig .tc := ⟨.vmem, 28, rfl⟩
abbrev cc4_stg2_1 : Ref sig .tc := ⟨.vmem, 29, rfl⟩
abbrev cc5_stg0_0 : Ref sig .tc := ⟨.vmem, 30, rfl⟩
abbrev cc5_stg0_1 : Ref sig .tc := ⟨.vmem, 31, rfl⟩
abbrev cc5_stg1_0 : Ref sig .tc := ⟨.vmem, 32, rfl⟩
abbrev cc5_stg1_1 : Ref sig .tc := ⟨.vmem, 33, rfl⟩
abbrev cc5_stg2_0 : Ref sig .tc := ⟨.vmem, 34, rfl⟩
abbrev cc5_stg2_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23
abbrev cc4_sem0_0 : DmaSem sig := 24
abbrev cc4_sem0_1 : DmaSem sig := 25
abbrev cc4_sem1_0 : DmaSem sig := 26
abbrev cc4_sem1_1 : DmaSem sig := 27
abbrev cc4_sem2_0 : DmaSem sig := 28
abbrev cc4_sem2_1 : DmaSem sig := 29
abbrev cc5_sem0_0 : DmaSem sig := 30
abbrev cc5_sem0_1 : DmaSem sig := 31
abbrev cc5_sem1_0 : DmaSem sig := 32
abbrev cc5_sem1_1 : DmaSem sig := 33
abbrev cc5_sem2_0 : DmaSem sig := 34
abbrev cc5_sem2_1 : DmaSem sig := 35

abbrev nD : Nat := 1
abbrev τ : Topo := Topo.v7x

variable {F : FTy → Type} [FloatOps F]

abbrev grid0 : Pipeline.Grid := ⟨2, ![4, 5], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![8, 2], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S512x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨2, ![8, 2], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S512x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S512x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S512x512 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev grid3 : Pipeline.Grid := ⟨2, ![2, 2], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 2 → Memref sig .tc .vmem S4096x512 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S4096x512 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S512x512 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev grid4 : Pipeline.Grid := ⟨2, ![2, 5], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage4_0 : Fin 2 → Memref sig .tc .vmem S4096x512 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false]

abbrev stage4_1 : Fin 2 → Memref sig .tc .vmem S4096x640 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true]

abbrev stage4_2 : Fin 2 → Memref sig .tc .vmem S512x640 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]

abbrev grid5 : Pipeline.Grid := ⟨2, ![8, 2], ![false, false]⟩

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage5_0 : Fin 2 → Memref sig .tc .vmem S512x3200 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false]

abbrev stage5_1 : Fin 2 → Memref sig .tc .vmem S512x3200 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true]

abbrev stage5_2 : Fin 2 → Memref sig .tc .vmem S512x512 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true]
-- ==== Reference5Ideal.lean ====
abbrev S4096x1024 : Shape := ⟨2, ![4096, 1024]⟩
abbrev S1024x3200 : Shape := ⟨2, ![1024, 3200]⟩
abbrev S1024x1024 : Shape := ⟨2, ![1024, 1024]⟩
abbrev S4096x3200 : Shape := ⟨2, ![4096, 3200]⟩
abbrev S3200x1024 : Shape := ⟨2, ![3200, 1024]⟩

abbrev nBuf : Space → Nat
  | .hbm => 23
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x3200, .bf16⟩
  | .hbm, ⟨2, _⟩ => ⟨S4096x1024, .bf16⟩
  | .hbm, ⟨3, _⟩ => ⟨S1024x1024, .bf16⟩
  | .hbm, ⟨4, _⟩ => ⟨S4096x1024, .bf16⟩
  | .hbm, ⟨5, _⟩ => ⟨S4096x3200, .bf16⟩
  | .hbm, ⟨6, _⟩ => ⟨S4096x1024, .f32⟩
  | .hbm, ⟨7, _⟩ => ⟨S1024x3200, .f32⟩
  | .hbm, ⟨8, _⟩ => ⟨S4096x1024, .f32⟩
  | .hbm, ⟨9, _⟩ => ⟨S1024x1024, .f32⟩
  | .hbm, ⟨10, _⟩ => ⟨S4096x1024, .f32⟩
  | .hbm, ⟨11, _⟩ => ⟨S4096x3200, .f32⟩
  | .hbm, ⟨12, _⟩ => ⟨S4096x3200, .f32⟩
  | .hbm, ⟨13, _⟩ => ⟨S4096x1024, .f32⟩
  | .hbm, ⟨14, _⟩ => ⟨S1024x1024, .f32⟩
  | .hbm, ⟨15, _⟩ => ⟨S1024x1024, .f32⟩
  | .hbm, ⟨16, _⟩ => ⟨S4096x1024, .f32⟩
  | .hbm, ⟨17, _⟩ => ⟨S3200x1024, .f32⟩
  | .hbm, ⟨18, _⟩ => ⟨S1024x3200, .f32⟩
  | .hbm, ⟨19, _⟩ => ⟨S4096x1024, .f32⟩
  | .hbm, ⟨20, _⟩ => ⟨S4096x1024, .bf16⟩
  | .hbm, ⟨21, _⟩ => ⟨S1024x1024, .bf16⟩
  | .hbm, ⟨22, _⟩ => ⟨S1024x3200, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== Kernel6.lean ====
abbrev S4096x1024 : Shape := ⟨2, ![4096, 1024]⟩
abbrev S1024x2048 : Shape := ⟨2, ![1024, 2048]⟩
abbrev S1024x1024 : Shape := ⟨2, ![1024, 1024]⟩
abbrev S4096x2048 : Shape := ⟨2, ![4096, 2048]⟩
abbrev S1024x512 : Shape := ⟨2, ![1024, 512]⟩
abbrev S512x1024 : Shape := ⟨2, ![512, 1024]⟩
abbrev S512x512 : Shape := ⟨2, ![512, 512]⟩
abbrev S4096x512 : Shape := ⟨2, ![4096, 512]⟩
abbrev S8x1024x256 : Shape := ⟨3, ![8, 1024, 256]⟩
abbrev S4096x256 : Shape := ⟨2, ![4096, 256]⟩
abbrev S1x512x256 : Shape := ⟨3, ![1, 512, 256]⟩
abbrev S512x256 : Shape := ⟨2, ![512, 256]⟩
abbrev S512x2048 : Shape := ⟨2, ![512, 2048]⟩

abbrev nBuf : Space → Nat
  | .hbm => 12
  | .vmem => 36
  | .smem => 0
  | _ => 0

abbrev bufTy : (tb : Table) → Fin (tcTables nBuf tb) → BufTy
  | .hbm, ⟨0, _⟩ => ⟨S4096x1024, .bf16⟩
  | .hbm, ⟨1, _⟩ => ⟨S1024x2048, .bf16⟩
  | .hbm, ⟨2, _⟩ => ⟨S4096x1024, .bf16⟩
  | .hbm, ⟨3, _⟩ => ⟨S1024x1024, .bf16⟩
  | .hbm, ⟨4, _⟩ => ⟨S4096x1024, .bf16⟩
  | .hbm, ⟨5, _⟩ => ⟨S4096x2048, .bf16⟩
  | .hbm, ⟨6, _⟩ => ⟨S4096x2048, .f32⟩
  | .hbm, ⟨7, _⟩ => ⟨S4096x1024, .f32⟩
  | .hbm, ⟨8, _⟩ => ⟨S4096x1024, .f32⟩
  | .hbm, ⟨9, _⟩ => ⟨S1024x1024, .bf16⟩
  | .hbm, ⟨10, _⟩ => ⟨S8x1024x256, .bf16⟩
  | .hbm, ⟨11, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .f32⟩
  | .local _ .vmem, ⟨5, _⟩ => ⟨S1024x512, .f32⟩
  | .local _ .vmem, ⟨6, _⟩ => ⟨S512x1024, .bf16⟩
  | .local _ .vmem, ⟨7, _⟩ => ⟨S512x1024, .bf16⟩
  | .local _ .vmem, ⟨8, _⟩ => ⟨S1024x512, .bf16⟩
  | .local _ .vmem, ⟨9, _⟩ => ⟨S1024x512, .bf16⟩
  | .local _ .vmem, ⟨10, _⟩ => ⟨S512x512, .f32⟩
  | .local _ .vmem, ⟨11, _⟩ => ⟨S512x512, .f32⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x512, .f32⟩
  | .local _ .vmem, ⟨17, _⟩ => ⟨S512x512, .f32⟩
  | .local _ .vmem, ⟨18, _⟩ => ⟨S4096x512, .bf16⟩
  | .local _ .vmem, ⟨19, _⟩ => ⟨S4096x512, .bf16⟩
  | .local _ .vmem, ⟨20, _⟩ => ⟨S4096x512, .bf16⟩
  | .local _ .vmem, ⟨21, _⟩ => ⟨S4096x512, .bf16⟩
  | .local _ .vmem, ⟨22, _⟩ => ⟨S512x512, .bf16⟩
  | .local _ .vmem, ⟨23, _⟩ => ⟨S512x512, .bf16⟩
  | .local _ .vmem, ⟨24, _⟩ => ⟨S4096x512, .bf16⟩
  | .local _ .vmem, ⟨25, _⟩ => ⟨S4096x512, .bf16⟩
  | .local _ .vmem, ⟨26, _⟩ => ⟨S4096x256, .bf16⟩
  | .local _ .vmem, ⟨27, _⟩ => ⟨S4096x256, .bf16⟩
  | .local _ .vmem, ⟨28, _⟩ => ⟨S1x512x256, .bf16⟩
  | .local _ .vmem, ⟨29, _⟩ => ⟨S1x512x256, .bf16⟩
  | .local _ .vmem, ⟨30, _⟩ => ⟨S512x2048, .bf16⟩
  | .local _ .vmem, ⟨31, _⟩ => ⟨S512x2048, .bf16⟩
  | .local _ .vmem, ⟨32, _⟩ => ⟨S512x2048, .bf16⟩
  | .local _ .vmem, ⟨33, _⟩ => ⟨S512x2048, .bf16⟩
  | .local _ .vmem, ⟨34, _⟩ => ⟨S512x512, .f32⟩
  | .local _ .vmem, ⟨35, _⟩ => ⟨S512x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg1_1 : Ref sig .tc := ⟨.vmem, 27, rfl⟩
abbrev cc4_stg2_0 : Ref sig .tc := ⟨.vmem, 28, rfl⟩
abbrev cc4_stg2_1 : Ref sig .tc := ⟨.vmem, 29, rfl⟩
abbrev cc5_stg0_0 : Ref sig .tc := ⟨.vmem, 30, rfl⟩
abbrev cc5_stg0_1 : Ref sig .tc := ⟨.vmem, 31, rfl⟩
abbrev cc5_stg1_0 : Ref sig .tc := ⟨.vmem, 32, rfl⟩
abbrev cc5_stg1_1 : Ref sig .tc := ⟨.vmem, 33, rfl⟩
abbrev cc5_stg2_0 : Ref sig .tc := ⟨.vmem, 34, rfl⟩
abbrev cc5_stg2_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23
abbrev cc4_sem0_0 : DmaSem sig := 24
abbrev cc4_sem0_1 : DmaSem sig := 25
abbrev cc4_sem1_0 : DmaSem sig := 26
abbrev cc4_sem1_1 : DmaSem sig := 27
abbrev cc4_sem2_0 : DmaSem sig := 28
abbrev cc4_sem2_1 : DmaSem sig := 29
abbrev cc5_sem0_0 : DmaSem sig := 30
abbrev cc5_sem0_1 : DmaSem sig := 31
abbrev cc5_sem1_0 : DmaSem sig := 32
abbrev cc5_sem1_1 : DmaSem sig := 33
abbrev cc5_sem2_0 : DmaSem sig := 34
abbrev cc5_sem2_1 : DmaSem sig := 35

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![8, 2], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S512x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨2, ![8, 2], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S512x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S512x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S512x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev grid3 : Pipeline.Grid := ⟨2, ![2, 2], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 2 → Memref sig .tc .vmem S4096x512 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S4096x512 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S512x512 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev grid4 : Pipeline.Grid := ⟨2, ![2, 8], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc4_transform_2 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage4_0 : Fin 2 → Memref sig .tc .vmem S4096x512 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false]

abbrev stage4_1 : Fin 2 → Memref sig .tc .vmem S4096x256 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true]

abbrev stage4_2 : Fin 2 → Memref sig .tc .vmem S1x512x256 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]

abbrev grid5 : Pipeline.Grid := ⟨2, ![8, 2], ![false, false]⟩

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage5_0 : Fin 2 → Memref sig .tc .vmem S512x2048 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false]

abbrev stage5_1 : Fin 2 → Memref sig .tc .vmem S512x2048 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true]

abbrev stage5_2 : Fin 2 → Memref sig .tc .vmem S512x512 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true]
-- ==== Reference6Ideal.lean ====
abbrev S4096x1024 : Shape := ⟨2, ![4096, 1024]⟩
abbrev S1024x2048 : Shape := ⟨2, ![1024, 2048]⟩
abbrev S1024x1024 : Shape := ⟨2, ![1024, 1024]⟩
abbrev S4096x2048 : Shape := ⟨2, ![4096, 2048]⟩
abbrev S2048x1024 : Shape := ⟨2, ![2048, 1024]⟩
abbrev S1024x8x256 : Shape := ⟨3, ![1024, 8, 256]⟩
abbrev S8x1024x256 : Shape := ⟨3, ![8, 1024, 256]⟩

abbrev nBuf : Space → Nat
  | .hbm => 24
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x2048, .bf16⟩
  | .hbm, ⟨2, _⟩ => ⟨S4096x1024, .bf16⟩
  | .hbm, ⟨3, _⟩ => ⟨S1024x1024, .bf16⟩
  | .hbm, ⟨4, _⟩ => ⟨S4096x1024, .bf16⟩
  | .hbm, ⟨5, _⟩ => ⟨S4096x2048, .bf16⟩
  | .hbm, ⟨6, _⟩ => ⟨S4096x1024, .f32⟩
  | .hbm, ⟨7, _⟩ => ⟨S1024x2048, .f32⟩
  | .hbm, ⟨8, _⟩ => ⟨S4096x1024, .f32⟩
  | .hbm, ⟨9, _⟩ => ⟨S1024x1024, .f32⟩
  | .hbm, ⟨10, _⟩ => ⟨S4096x1024, .f32⟩
  | .hbm, ⟨11, _⟩ => ⟨S4096x2048, .f32⟩
  | .hbm, ⟨12, _⟩ => ⟨S4096x2048, .f32⟩
  | .hbm, ⟨13, _⟩ => ⟨S4096x1024, .f32⟩
  | .hbm, ⟨14, _⟩ => ⟨S1024x1024, .f32⟩
  | .hbm, ⟨15, _⟩ => ⟨S1024x1024, .f32⟩
  | .hbm, ⟨16, _⟩ => ⟨S4096x1024, .f32⟩
  | .hbm, ⟨17, _⟩ => ⟨S2048x1024, .f32⟩
  | .hbm, ⟨18, _⟩ => ⟨S1024x2048, .f32⟩
  | .hbm, ⟨19, _⟩ => ⟨S4096x1024, .f32⟩
  | .hbm, ⟨20, _⟩ => ⟨S1024x1024, .bf16⟩
  | .hbm, ⟨21, _⟩ => ⟨S1024x8x256, .f32⟩
  | .hbm, ⟨22, _⟩ => ⟨S8x1024x256, .f32⟩
  | .hbm, ⟨23, _⟩ => ⟨S8x1024x256, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== Kernel7.lean ====
abbrev S4096x1024 : Shape := ⟨2, ![4096, 1024]⟩
abbrev S1024x2048 : Shape := ⟨2, ![1024, 2048]⟩
abbrev S1024x1024 : Shape := ⟨2, ![1024, 1024]⟩
abbrev S1x1024 : Shape := ⟨2, ![1, 1024]⟩
abbrev S4096x2048 : Shape := ⟨2, ![4096, 2048]⟩
abbrev S1024x512 : Shape := ⟨2, ![1024, 512]⟩
abbrev S512x1024 : Shape := ⟨2, ![512, 1024]⟩
abbrev S1x512 : Shape := ⟨2, ![1, 512]⟩
abbrev S512x512 : Shape := ⟨2, ![512, 512]⟩
abbrev S4096x512 : Shape := ⟨2, ![4096, 512]⟩
abbrev S8x1024x256 : Shape := ⟨3, ![8, 1024, 256]⟩
abbrev S4096x256 : Shape := ⟨2, ![4096, 256]⟩
abbrev S1x512x256 : Shape := ⟨3, ![1, 512, 256]⟩
abbrev S512x256 : Shape := ⟨2, ![512, 256]⟩
abbrev S512x2048 : Shape := ⟨2, ![512, 2048]⟩

abbrev nBuf : Space → Nat
  | .hbm => 13
  | .vmem => 38
  | .smem => 0
  | _ => 0

abbrev bufTy : (tb : Table) → Fin (tcTables nBuf tb) → BufTy
  | .hbm, ⟨0, _⟩ => ⟨S4096x1024, .bf16⟩
  | .hbm, ⟨1, _⟩ => ⟨S1024x2048, .bf16⟩
  | .hbm, ⟨2, _⟩ => ⟨S4096x1024, .bf16⟩
  | .hbm, ⟨3, _⟩ => ⟨S1024x1024, .bf16⟩
  | .hbm, ⟨4, _⟩ => ⟨S1x1024, .f32⟩
  | .hbm, ⟨5, _⟩ => ⟨S4096x1024, .bf16⟩
  | .hbm, ⟨6, _⟩ => ⟨S4096x2048, .bf16⟩
  | .hbm, ⟨7, _⟩ => ⟨S4096x2048, .f32⟩
  | .hbm, ⟨8, _⟩ => ⟨S4096x1024, .f32⟩
  | .hbm, ⟨9, _⟩ => ⟨S4096x1024, .f32⟩
  | .hbm, ⟨10, _⟩ => ⟨S1024x1024, .bf16⟩
  | .hbm, ⟨11, _⟩ => ⟨S8x1024x256, .bf16⟩
  | .hbm, ⟨12, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .f32⟩
  | .local _ .vmem, ⟨5, _⟩ => ⟨S1024x512, .f32⟩
  | .local _ .vmem, ⟨6, _⟩ => ⟨S512x1024, .bf16⟩
  | .local _ .vmem, ⟨7, _⟩ => ⟨S512x1024, .bf16⟩
  | .local _ .vmem, ⟨8, _⟩ => ⟨S1024x512, .bf16⟩
  | .local _ .vmem, ⟨9, _⟩ => ⟨S1024x512, .bf16⟩
  | .local _ .vmem, ⟨10, _⟩ => ⟨S1x512, .f32⟩
  | .local _ .vmem, ⟨11, _⟩ => ⟨S1x512, .f32⟩
  | .local _ .vmem, ⟨12, _⟩ => ⟨S512x512, .f32⟩
  | .local _ .vmem, ⟨13, _⟩ => ⟨S512x512, .f32⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x512, .f32⟩
  | .local _ .vmem, ⟨19, _⟩ => ⟨S512x512, .f32⟩
  | .local _ .vmem, ⟨20, _⟩ => ⟨S4096x512, .bf16⟩
  | .local _ .vmem, ⟨21, _⟩ => ⟨S4096x512, .bf16⟩
  | .local _ .vmem, ⟨22, _⟩ => ⟨S4096x512, .bf16⟩
  | .local _ .vmem, ⟨23, _⟩ => ⟨S4096x512, .bf16⟩
  | .local _ .vmem, ⟨24, _⟩ => ⟨S512x512, .bf16⟩
  | .local _ .vmem, ⟨25, _⟩ => ⟨S512x512, .bf16⟩
  | .local _ .vmem, ⟨26, _⟩ => ⟨S4096x512, .bf16⟩
  | .local _ .vmem, ⟨27, _⟩ => ⟨S4096x512, .bf16⟩
  | .local _ .vmem, ⟨28, _⟩ => ⟨S4096x256, .bf16⟩
  | .local _ .vmem, ⟨29, _⟩ => ⟨S4096x256, .bf16⟩
  | .local _ .vmem, ⟨30, _⟩ => ⟨S1x512x256, .bf16⟩
  | .local _ .vmem, ⟨31, _⟩ => ⟨S1x512x256, .bf16⟩
  | .local _ .vmem, ⟨32, _⟩ => ⟨S512x2048, .bf16⟩
  | .local _ .vmem, ⟨33, _⟩ => ⟨S512x2048, .bf16⟩
  | .local _ .vmem, ⟨34, _⟩ => ⟨S512x2048, .bf16⟩
  | .local _ .vmem, ⟨35, _⟩ => ⟨S512x2048, .bf16⟩
  | .local _ .vmem, ⟨36, _⟩ => ⟨S512x512, .f32⟩
  | .local _ .vmem, ⟨37, _⟩ => ⟨S512x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg1_1 : Ref sig .tc := ⟨.vmem, 23, rfl⟩
abbrev cc3_stg2_0 : Ref sig .tc := ⟨.vmem, 24, rfl⟩
abbrev cc3_stg2_1 : Ref sig .tc := ⟨.vmem, 25, rfl⟩
abbrev cc4_stg0_0 : Ref sig .tc := ⟨.vmem, 26, rfl⟩
abbrev cc4_stg0_1 : Ref sig .tc := ⟨.vmem, 27, rfl⟩
abbrev cc4_stg1_0 : Ref sig .tc := ⟨.vmem, 28, rfl⟩
abbrev cc4_stg1_1 : Ref sig .tc := ⟨.vmem, 29, rfl⟩
abbrev cc4_stg2_0 : Ref sig .tc := ⟨.vmem, 30, rfl⟩
abbrev cc4_stg2_1 : Ref sig .tc := ⟨.vmem, 31, rfl⟩
abbrev cc5_stg0_0 : Ref sig .tc := ⟨.vmem, 32, rfl⟩
abbrev cc5_stg0_1 : Ref sig .tc := ⟨.vmem, 33, rfl⟩
abbrev cc5_stg1_0 : Ref sig .tc := ⟨.vmem, 34, rfl⟩
abbrev cc5_stg1_1 : Ref sig .tc := ⟨.vmem, 35, rfl⟩
abbrev cc5_stg2_0 : Ref sig .tc := ⟨.vmem, 36, rfl⟩
abbrev cc5_stg2_1 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem2_1 : DmaSem sig := 19
abbrev cc3_sem0_0 : DmaSem sig := 20
abbrev cc3_sem0_1 : DmaSem sig := 21
abbrev cc3_sem1_0 : DmaSem sig := 22
abbrev cc3_sem1_1 : DmaSem sig := 23
abbrev cc3_sem2_0 : DmaSem sig := 24
abbrev cc3_sem2_1 : DmaSem sig := 25
abbrev cc4_sem0_0 : DmaSem sig := 26
abbrev cc4_sem0_1 : DmaSem sig := 27
abbrev cc4_sem1_0 : DmaSem sig := 28
abbrev cc4_sem1_1 : DmaSem sig := 29
abbrev cc4_sem2_0 : DmaSem sig := 30
abbrev cc4_sem2_1 : DmaSem sig := 31
abbrev cc5_sem0_0 : DmaSem sig := 32
abbrev cc5_sem0_1 : DmaSem sig := 33
abbrev cc5_sem1_0 : DmaSem sig := 34
abbrev cc5_sem1_1 : DmaSem sig := 35
abbrev cc5_sem2_0 : DmaSem sig := 36
abbrev cc5_sem2_1 : DmaSem sig := 37

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![8, 2], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S512x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨2, ![8, 2], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S512x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S512x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S512x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev grid3 : Pipeline.Grid := ⟨2, ![2, 2], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 2 → Memref sig .tc .vmem S4096x512 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S4096x512 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S512x512 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev grid4 : Pipeline.Grid := ⟨2, ![2, 8], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc4_transform_2 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage4_0 : Fin 2 → Memref sig .tc .vmem S4096x512 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false]

abbrev stage4_1 : Fin 2 → Memref sig .tc .vmem S4096x256 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true]

abbrev stage4_2 : Fin 2 → Memref sig .tc .vmem S1x512x256 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]

abbrev grid5 : Pipeline.Grid := ⟨2, ![8, 2], ![false, false]⟩

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage5_0 : Fin 2 → Memref sig .tc .vmem S512x2048 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false]

abbrev stage5_1 : Fin 2 → Memref sig .tc .vmem S512x2048 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true]

abbrev stage5_2 : Fin 2 → Memref sig .tc .vmem S512x512 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true]
-- ==== Reference7Ideal.lean ====
abbrev S4096x1024 : Shape := ⟨2, ![4096, 1024]⟩
abbrev S1024x2048 : Shape := ⟨2, ![1024, 2048]⟩
abbrev S1024x1024 : Shape := ⟨2, ![1024, 1024]⟩
abbrev S1x1024 : Shape := ⟨2, ![1, 1024]⟩
abbrev S4096x2048 : Shape := ⟨2, ![4096, 2048]⟩
abbrev S2048x1024 : Shape := ⟨2, ![2048, 1024]⟩
abbrev S1024x8x256 : Shape := ⟨3, ![1024, 8, 256]⟩
abbrev S8x1024x256 : Shape := ⟨3, ![8, 1024, 256]⟩

abbrev nBuf : Space → Nat
  | .hbm => 27
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x2048, .bf16⟩
  | .hbm, ⟨2, _⟩ => ⟨S4096x1024, .bf16⟩
  | .hbm, ⟨3, _⟩ => ⟨S1024x1024, .bf16⟩
  | .hbm, ⟨4, _⟩ => ⟨S1x1024, .f32⟩
  | .hbm, ⟨5, _⟩ => ⟨S4096x1024, .bf16⟩
  | .hbm, ⟨6, _⟩ => ⟨S4096x2048, .bf16⟩
  | .hbm, ⟨7, _⟩ => ⟨S4096x1024, .f32⟩
  | .hbm, ⟨8, _⟩ => ⟨S1024x2048, .f32⟩
  | .hbm, ⟨9, _⟩ => ⟨S4096x1024, .f32⟩
  | .hbm, ⟨10, _⟩ => ⟨S1024x1024, .f32⟩
  | .hbm, ⟨11, _⟩ => ⟨S4096x1024, .f32⟩
  | .hbm, ⟨12, _⟩ => ⟨S4096x2048, .f32⟩
  | .hbm, ⟨13, _⟩ => ⟨S4096x2048, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S1024x1024, .f32⟩
  | .hbm, ⟨18, _⟩ => ⟨S1024x1024, .f32⟩
  | .hbm, ⟨19, _⟩ => ⟨S4096x1024, .f32⟩
  | .hbm, ⟨20, _⟩ => ⟨S2048x1024, .f32⟩
  | .hbm, ⟨21, _⟩ => ⟨S1024x2048, .f32⟩
  | .hbm, ⟨22, _⟩ => ⟨S4096x1024, .f32⟩
  | .hbm, ⟨23, _⟩ => ⟨S1024x1024, .bf16⟩
  | .hbm, ⟨24, _⟩ => ⟨S1024x8x256, .f32⟩
  | .hbm, ⟨25, _⟩ => ⟨S8x1024x256, .f32⟩
  | .hbm, ⟨26, _⟩ => ⟨S8x1024x256, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== Kernel8.lean ====
abbrev S4096x2048 : Shape := ⟨2, ![4096, 2048]⟩
abbrev S4096x1024 : Shape := ⟨2, ![4096, 1024]⟩
abbrev S1x2048 : Shape := ⟨2, ![1, 2048]⟩
abbrev S256x2048 : Shape := ⟨2, ![256, 2048]⟩
abbrev S256x1024 : Shape := ⟨2, ![256, 1024]⟩
abbrev S2048 : Shape := ⟨1, ![2048]⟩

abbrev nBuf : Space → Nat
  | .hbm => 5
  | .vmem => 8
  | .smem => 0
  | _ => 0

abbrev bufTy : (tb : Table) → Fin (tcTables nBuf tb) → BufTy
  | .hbm, ⟨0, _⟩ => ⟨S4096x2048, .f32⟩
  | .hbm, ⟨1, _⟩ => ⟨S4096x1024, .f32⟩
  | .hbm, ⟨2, _⟩ => ⟨S1x2048, .f32⟩
  | .hbm, ⟨3, _⟩ => ⟨S4096x2048, .bf16⟩
  | .hbm, ⟨4, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x1024, .f32⟩
  | .local _ .vmem, ⟨3, _⟩ => ⟨S256x1024, .f32⟩
  | .local _ .vmem, ⟨4, _⟩ => ⟨S1x2048, .f32⟩
  | .local _ .vmem, ⟨5, _⟩ => ⟨S256x2048, .bf16⟩
  | .local _ .vmem, ⟨6, _⟩ => ⟨S256x2048, .bf16⟩
  | .local _ .vmem, ⟨7, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== Reference8Ideal.lean ====
abbrev S4096x2048 : Shape := ⟨2, ![4096, 2048]⟩
abbrev S4096x1024 : Shape := ⟨2, ![4096, 1024]⟩
abbrev S1x2048 : Shape := ⟨2, ![1, 2048]⟩
abbrev S_ : Shape := ⟨0, ![]⟩
abbrev S2048 : Shape := ⟨1, ![2048]⟩

abbrev nBuf : Space → Nat
  | .hbm => 28
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x1024, .f32⟩
  | .hbm, ⟨2, _⟩ => ⟨S1x2048, .f32⟩
  | .hbm, ⟨3, _⟩ => ⟨S4096x2048, .f32⟩
  | .hbm, ⟨4, _⟩ => ⟨S4096x2048, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096x1024, .f32⟩
  | .hbm, ⟨11, _⟩ => ⟨S4096x1024, .f32⟩
  | .hbm, ⟨12, _⟩ => ⟨S_, .f32⟩
  | .hbm, ⟨13, _⟩ => ⟨S4096x1024, .f32⟩
  | .hbm, ⟨14, _⟩ => ⟨S4096x1024, .f32⟩
  | .hbm, ⟨15, _⟩ => ⟨S_, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x2048, .f32⟩
  | .hbm, ⟨24, _⟩ => ⟨S_, .f32⟩
  | .hbm, ⟨25, _⟩ => ⟨S2048, .f32⟩
  | .hbm, ⟨26, _⟩ => ⟨S1x2048, .f32⟩
  | .hbm, ⟨27, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_3 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_cst : Ref sig .tc := ⟨.hbm, 9, rfl⟩
abbrev main_call0_v4 : Ref sig .tc := ⟨.hbm, 10, rfl⟩
abbrev main_call0_v5 : Ref sig .tc := ⟨.hbm, 11, rfl⟩
abbrev main_call0_cst_0 : Ref sig .tc := ⟨.hbm, 12, rfl⟩
abbrev main_call0_v6 : Ref sig .tc := ⟨.hbm, 13, rfl⟩
abbrev main_v2_2 : Ref sig .tc := ⟨.hbm, 14, rfl⟩
abbrev main_call0_cst_1 : Ref sig .tc := ⟨.hbm, 15, rfl⟩
abbrev main_call0_v8 : Ref sig .tc := ⟨.hbm, 16, rfl⟩
abbrev main_call0_v9 : Ref sig .tc := ⟨.hbm, 17, rfl⟩
abbrev main_v2_1 : Ref sig .tc := ⟨.hbm, 18, rfl⟩
abbrev main_v2_0 : Ref sig .tc := ⟨.hbm, 19, rfl⟩
abbrev main_call1_v0 : Ref sig .tc := ⟨.hbm, 20, rfl⟩
abbrev main_call1_v1 : Ref sig .tc := ⟨.hbm, 21, rfl⟩
abbrev main_call1_v2 : Ref sig .tc := ⟨.hbm, 22, rfl⟩
abbrev main_v3 : Ref sig .tc := ⟨.hbm, 23, rfl⟩
abbrev main_cst : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩

abbrev nD : Nat := 1
abbrev τ : Topo := Topo.v7x

variable {F : FTy → Type} [FloatOps F]
-- ==== Kernel9.lean ====
abbrev S4096x1024 : Shape := ⟨2, ![4096, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 10
  | .vmem => 14
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .bf16⟩
  | .hbm, ⟨3, _⟩ => ⟨S1x1024, .f32⟩
  | .hbm, ⟨4, _⟩ => ⟨S1x1024, .f32⟩
  | .hbm, ⟨5, _⟩ => ⟨S4096x1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .bf16⟩
  | .local _ .vmem, ⟨5, _⟩ => ⟨S256x1024, .bf16⟩
  | .local _ .vmem, ⟨6, _⟩ => ⟨S1x1024, .f32⟩
  | .local _ .vmem, ⟨7, _⟩ => ⟨S1x1024, .f32⟩
  | .local _ .vmem, ⟨8, _⟩ => ⟨S256x1024, .f32⟩
  | .local _ .vmem, ⟨9, _⟩ => ⟨S256x1024, .f32⟩
  | .local _ .vmem, ⟨10, _⟩ => ⟨S1x1024, .f32⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem9_0 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference9Ideal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 95
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .bf16⟩
  | .hbm, ⟨3, _⟩ => ⟨S1x1024, .f32⟩
  | .hbm, ⟨4, _⟩ => ⟨S1x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S_, .f32⟩
  | .hbm, ⟨15, _⟩ => ⟨S4096, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1, .f32⟩
  | .hbm, ⟨24, _⟩ => ⟨S4096x1, .f32⟩
  | .hbm, ⟨25, _⟩ => ⟨S_, .f32⟩
  | .hbm, ⟨26, _⟩ => ⟨S4096x1, .f32⟩
  | .hbm, ⟨27, _⟩ => ⟨S4096x1, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S_, .f32⟩
  | .hbm, ⟨37, _⟩ => ⟨S4096x1024, .f32⟩
  | .hbm, ⟨38, _⟩ => ⟨S4096x1024, .f32⟩
  | .hbm, ⟨39, _⟩ => ⟨S_, .f32⟩
  | .hbm, ⟨40, _⟩ => ⟨S4096x1024, .f32⟩
  | .hbm, ⟨41, _⟩ => ⟨S4096x1024, .f32⟩
  | .hbm, ⟨42, _⟩ => ⟨S_, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S_, .f32⟩
  | .hbm, ⟨52, _⟩ => ⟨S1024, .f32⟩
  | .hbm, ⟨53, _⟩ => ⟨S1x1024, .f32⟩
  | .hbm, ⟨54, _⟩ => ⟨S4096x1024, .f32⟩
  | .hbm, ⟨55, _⟩ => ⟨S_, .f32⟩
  | .hbm, ⟨56, _⟩ => ⟨S1024, .f32⟩
  | .hbm, ⟨57, _⟩ => ⟨S1x1024, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S_, .f32⟩
  | .hbm, ⟨62, _⟩ => ⟨S4096, .f32⟩
  | .hbm, ⟨63, _⟩ => ⟨S4096x1, .f32⟩
  | .hbm, ⟨64, _⟩ => ⟨S4096x1024, .f32⟩
  | .hbm, ⟨65, _⟩ => ⟨S4096x1024, .f32⟩
  | .hbm, ⟨66, _⟩ => ⟨S4096x1, .f32⟩
  | .hbm, ⟨67, _⟩ => ⟨S_, .f32⟩
  | .hbm, ⟨68, _⟩ => ⟨S4096x1, .f32⟩
  | .hbm, ⟨69, _⟩ => ⟨S4096x1, .f32⟩
  | .hbm, ⟨70, _⟩ => ⟨S_, .f32⟩
  | .hbm, ⟨71, _⟩ => ⟨S4096, .f32⟩
  | .hbm, ⟨72, _⟩ => ⟨S4096x1024, .f32⟩
  | .hbm, ⟨73, _⟩ => ⟨S4096x1024, .f32⟩
  | .hbm, ⟨74, _⟩ => ⟨S4096x1024, .f32⟩
  | .hbm, ⟨75, _⟩ => ⟨S4096x1024, .f32⟩
  | .hbm, ⟨76, _⟩ => ⟨S4096x1024, .f32⟩
  | .hbm, ⟨77, _⟩ => ⟨S4096x1024, .f32⟩
  | .hbm, ⟨78, _⟩ => ⟨S_, .f32⟩
  | .hbm, ⟨79, _⟩ => ⟨S4096, .f32⟩
  | .hbm, ⟨80, _⟩ => ⟨S4096x1, .f32⟩
  | .hbm, ⟨81, _⟩ => ⟨S_, .f32⟩
  | .hbm, ⟨82, _⟩ => ⟨S4096x1, .f32⟩
  | .hbm, ⟨83, _⟩ => ⟨S4096x1, .f32⟩
  | .hbm, ⟨84, _⟩ => ⟨S_, .f32⟩
  | .hbm, ⟨85, _⟩ => ⟨S4096, .f32⟩
  | .hbm, ⟨86, _⟩ => ⟨S4096x1024, .f32⟩
  | .hbm, ⟨87, _⟩ => ⟨S4096x1024, .f32⟩
  | .hbm, ⟨88, _⟩ => ⟨S_, .f32⟩
  | .hbm, ⟨89, _⟩ => ⟨S1024, .f32⟩
  | .hbm, ⟨90, _⟩ => ⟨S1x1024, .f32⟩
  | .hbm, ⟨91, _⟩ => ⟨S4096x1024, .f32⟩
  | .hbm, ⟨92, _⟩ => ⟨S_, .f32⟩
  | .hbm, ⟨93, _⟩ => ⟨S1024, .f32⟩
  | .hbm, ⟨94, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_call0_v0 : Ref sig .tc := ⟨.hbm, 34, rfl⟩
abbrev main_call0_v1 : Ref sig .tc := ⟨.hbm, 35, rfl⟩
abbrev main_call0_cst : Ref sig .tc := ⟨.hbm, 36, rfl⟩
abbrev main_call0_v2 : Ref sig .tc := ⟨.hbm, 37, rfl⟩
abbrev main_call0_v3 : Ref sig .tc := ⟨.hbm, 38, rfl⟩
abbrev main_call0_cst_0 : Ref sig .tc := ⟨.hbm, 39, rfl⟩
abbrev main_call0_v4 : Ref sig .tc := ⟨.hbm, 40, rfl⟩
abbrev main_v23_2 : Ref sig .tc := ⟨.hbm, 41, rfl⟩
abbrev main_call0_cst_1 : Ref sig .tc := ⟨.hbm, 42, rfl⟩
abbrev main_call0_v6 : Ref sig .tc := ⟨.hbm, 43, rfl⟩
abbrev main_call0_v7 : Ref sig .tc := ⟨.hbm, 44, rfl⟩
abbrev main_v23_1 : Ref sig .tc := ⟨.hbm, 45, rfl⟩
abbrev main_v23_0 : Ref sig .tc := ⟨.hbm, 46, rfl⟩
abbrev main_call1_v0 : Ref sig .tc := ⟨.hbm, 47, rfl⟩
abbrev main_call1_v1 : Ref sig .tc := ⟨.hbm, 48, rfl⟩
abbrev main_call1_v2 : Ref sig .tc := ⟨.hbm, 49, rfl⟩
abbrev main_v24 : Ref sig .tc := ⟨.hbm, 50, rfl⟩
abbrev main_cst_5 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_cst_6 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_cst_7 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_cst_8 : Ref sig .tc := ⟨.hbm, 67, rfl⟩
abbrev main_v38 : Ref sig .tc := ⟨.hbm, 68, rfl⟩
abbrev main_v39 : Ref sig .tc := ⟨.hbm, 69, rfl⟩
abbrev main_cst_9 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_cst_10 : Ref sig .tc := ⟨.hbm, 78, rfl⟩
abbrev main_v47 : Ref sig .tc := ⟨.hbm, 79, rfl⟩
abbrev main_v48 : Ref sig .tc := ⟨.hbm, 80, rfl⟩
abbrev main_cst_11 : Ref sig .tc := ⟨.hbm, 81, rfl⟩
abbrev main_v49 : Ref sig .tc := ⟨.hbm, 82, rfl⟩
abbrev main_v50 : Ref sig .tc := ⟨.hbm, 83, rfl⟩
abbrev main_cst_12 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_cst_13 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_cst_14 : Ref sig .tc := ⟨.hbm, 92, rfl⟩
abbrev main_v57 : Ref sig .tc := ⟨.hbm, 93, rfl⟩
abbrev main_v58 : Ref sig .tc := ⟨.hbm, 94, rfl⟩

abbrev nD : Nat := 1
abbrev τ : Topo := Topo.v7x

variable {F : FTy → Type} [FloatOps F]
-- ==== Kernel10.lean ====
abbrev S4096x1024 : Shape := ⟨2, ![4096, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 13
  | .vmem => 19
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S4096x1024, .f32⟩
  | .hbm, ⟨8, _⟩ => ⟨S4096x1024, .bf16⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .bf16⟩
  | .local _ .vmem, ⟨14, _⟩ => ⟨S256x1024, .bf16⟩
  | .local _ .vmem, ⟨15, _⟩ => ⟨S1x1024, .f32⟩
  | .local _ .vmem, ⟨16, _⟩ => ⟨S1x1024, .f32⟩
  | .local _ .vmem, ⟨17, _⟩ => ⟨S1x1024, .f32⟩
  | .local _ .vmem, ⟨18, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v0_4 : Ref sig .tc := ⟨.hbm, 11, rfl⟩
abbrev main_v0_5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem10_0 : DmaSem sig := 16
abbrev cc0_sem11_0 : DmaSem sig := 17
abbrev cc0_sem12_0 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== Reference10Ideal.lean ====
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 79
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S_, .f32⟩
  | .hbm, ⟨8, _⟩ => ⟨S1x1024, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S1x1024, .f32⟩
  | .hbm, ⟨30, _⟩ => ⟨S1x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S_, .f32⟩
  | .hbm, ⟨37, _⟩ => ⟨S1024, .f32⟩
  | .hbm, ⟨38, _⟩ => ⟨S1x1024, .f32⟩
  | .hbm, ⟨39, _⟩ => ⟨S4096x1024, .f32⟩
  | .hbm, ⟨40, _⟩ => ⟨S_, .f32⟩
  | .hbm, ⟨41, _⟩ => ⟨S1024, .f32⟩
  | .hbm, ⟨42, _⟩ => ⟨S1x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S_, .f32⟩
  | .hbm, ⟨47, _⟩ => ⟨S1024, .f32⟩
  | .hbm, ⟨48, _⟩ => ⟨S1x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S_, .f32⟩
  | .hbm, ⟨53, _⟩ => ⟨S4096, .f32⟩
  | .hbm, ⟨54, _⟩ => ⟨S4096x1, .f32⟩
  | .hbm, ⟨55, _⟩ => ⟨S4096x1024, .f32⟩
  | .hbm, ⟨56, _⟩ => ⟨S4096x1024, .f32⟩
  | .hbm, ⟨57, _⟩ => ⟨S4096x1, .f32⟩
  | .hbm, ⟨58, _⟩ => ⟨S_, .f32⟩
  | .hbm, ⟨59, _⟩ => ⟨S4096x1, .f32⟩
  | .hbm, ⟨60, _⟩ => ⟨S4096x1, .f32⟩
  | .hbm, ⟨61, _⟩ => ⟨S_, .f32⟩
  | .hbm, ⟨62, _⟩ => ⟨S4096, .f32⟩
  | .hbm, ⟨63, _⟩ => ⟨S4096x1024, .f32⟩
  | .hbm, ⟨64, _⟩ => ⟨S4096x1024, .f32⟩
  | .hbm, ⟨65, _⟩ => ⟨S4096x1024, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S4096x1024, .f32⟩
  | .hbm, ⟨72, _⟩ => ⟨S4096x1024, .f32⟩
  | .hbm, ⟨73, _⟩ => ⟨S4096x1024, .f32⟩
  | .hbm, ⟨74, _⟩ => ⟨S4096x1024, .f32⟩
  | .hbm, ⟨75, _⟩ => ⟨S_, .f32⟩
  | .hbm, ⟨76, _⟩ => ⟨S1024, .f32⟩
  | .hbm, ⟨77, _⟩ => ⟨S1x1024, .f32⟩
  | .hbm, ⟨78, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_cst_2 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_3 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_4 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_5 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_6 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_7 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_8 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_9 : Ref sig .tc := ⟨.hbm, 58, rfl⟩
abbrev main_v41 : Ref sig .tc := ⟨.hbm, 59, rfl⟩
abbrev main_v42 : Ref sig .tc := ⟨.hbm, 60, rfl⟩
abbrev main_cst_10 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_11 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩

abbrev nD : Nat := 1
abbrev τ : Topo := Topo.v7x

variable {F : FTy → Type} [FloatOps F]
-- ==== Kernel11.lean ====
abbrev S4096x1024 : Shape := ⟨2, ![4096, 1024]⟩
abbrev S1x1024 : Shape := ⟨2, ![1, 1024]⟩
abbrev S4096x2048 : Shape := ⟨2, ![4096, 2048]⟩
abbrev S1x2048 : Shape := ⟨2, ![1, 2048]⟩
abbrev S256x1024 : Shape := ⟨2, ![256, 1024]⟩
abbrev S256 : Shape := ⟨1, ![256]⟩
abbrev S256x1 : Shape := ⟨2, ![256, 1]⟩
abbrev S256x2048 : Shape := ⟨2, ![256, 2048]⟩

abbrev nBuf : Space → Nat
  | .hbm => 16
  | .vmem => 30
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S4096x2048, .f32⟩
  | .hbm, ⟨7, _⟩ => ⟨S1x2048, .f32⟩
  | .hbm, ⟨8, _⟩ => ⟨S4096x1024, .f32⟩
  | .hbm, ⟨9, _⟩ => ⟨S1x1024, .f32⟩
  | .hbm, ⟨10, _⟩ => ⟨S1x1024, .f32⟩
  | .hbm, ⟨11, _⟩ => ⟨S4096x1024, .bf16⟩
  | .hbm, ⟨12, _⟩ => ⟨S4096x1024, .f32⟩
  | .hbm, ⟨13, _⟩ => ⟨S4096x1024, .bf16⟩
  | .hbm, ⟨14, _⟩ => ⟨S4096x1024, .f32⟩
  | .hbm, ⟨15, _⟩ => ⟨S4096x1024, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S256x1024, .bf16⟩
  | .local _ .vmem, ⟨6, _⟩ => ⟨S256x1024, .bf16⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | .local _ .vmem, ⟨14, _⟩ => ⟨S1x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .bf16⟩
  | .local _ .vmem, ⟨18, _⟩ => ⟨S256x1024, .bf16⟩
  | .local _ .vmem, ⟨19, _⟩ => ⟨S256x2048, .f32⟩
  | .local _ .vmem, ⟨20, _⟩ => ⟨S256x2048, .f32⟩
  | .local _ .vmem, ⟨21, _⟩ => ⟨S1x2048, .f32⟩
  | .local _ .vmem, ⟨22, _⟩ => ⟨S256x1024, .f32⟩
  | .local _ .vmem, ⟨23, _⟩ => ⟨S256x1024, .f32⟩
  | .local _ .vmem, ⟨24, _⟩ => ⟨S256x1024, .f32⟩
  | .local _ .vmem, ⟨25, _⟩ => ⟨S256x1024, .f32⟩
  | .local _ .vmem, ⟨26, _⟩ => ⟨S1x1024, .f32⟩
  | .local _ .vmem, ⟨27, _⟩ => ⟨S1x1024, .f32⟩
  | .local _ .vmem, ⟨28, _⟩ => ⟨S256x1024, .bf16⟩
  | .local _ .vmem, ⟨29, _⟩ => ⟨S256x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1_0 : Ref sig .tc := ⟨.hbm, 12, rfl⟩
abbrev main_v1_1 : Ref sig .tc := ⟨.hbm, 13, rfl⟩
abbrev main_v2 : Ref sig .tc := ⟨.hbm, 14, rfl⟩
abbrev main_v3 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg6_1 : Ref sig .tc := ⟨.vmem, 16, rfl⟩
abbrev cc1_stg7_0 : Ref sig .tc := ⟨.vmem, 17, rfl⟩
abbrev cc1_stg7_1 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg2_0 : Ref sig .tc := ⟨.vmem, 22, rfl⟩
abbrev cc2_stg2_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg2_0 : Ref sig .tc := ⟨.vmem, 27, rfl⟩
abbrev cc3_stg3_0 : Ref sig .tc := ⟨.vmem, 28, rfl⟩
abbrev cc3_stg3_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem6_1 : DmaSem sig := 16
abbrev cc1_sem7_0 : DmaSem sig := 17
abbrev cc1_sem7_1 : DmaSem sig := 18
abbrev cc2_sem0_0 : DmaSem sig := 19
abbrev cc2_sem0_1 : DmaSem sig := 20
abbrev cc2_sem1_0 : DmaSem sig := 21
abbrev cc2_sem2_0 : DmaSem sig := 22
abbrev cc2_sem2_1 : DmaSem sig := 23
abbrev cc3_sem0_0 : DmaSem sig := 24
abbrev cc3_sem0_1 : DmaSem sig := 25
abbrev cc3_sem1_0 : DmaSem sig := 26
abbrev cc3_sem2_0 : DmaSem sig := 27
abbrev cc3_sem3_0 : DmaSem sig := 28
abbrev cc3_sem3_1 : DmaSem sig := 29

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S256x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S256x1024 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S256x2048 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x2048 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S256x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![16], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S256x1024 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x1024 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x1024 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S256x1024 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]
-- ==== Reference11Ideal.lean ====
abbrev S4096x1024 : Shape := ⟨2, ![4096, 1024]⟩
abbrev S1x1024 : Shape := ⟨2, ![1, 1024]⟩
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩

abbrev nBuf : Space → Nat
  | .hbm => 108
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S4096x2048, .f32⟩
  | .hbm, ⟨7, _⟩ => ⟨S1x2048, .f32⟩
  | .hbm, ⟨8, _⟩ => ⟨S4096x1024, .f32⟩
  | .hbm, ⟨9, _⟩ => ⟨S1x1024, .f32⟩
  | .hbm, ⟨10, _⟩ => ⟨S1x1024, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S_, .f32⟩
  | .hbm, ⟨16, _⟩ => ⟨S4096, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x1, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S1x1024, .f32⟩
  | .hbm, ⟨31, _⟩ => ⟨S1x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .bf16⟩
  | .hbm, ⟨37, _⟩ => ⟨S4096x1024, .f32⟩
  | .hbm, ⟨38, _⟩ => ⟨S_, .f32⟩
  | .hbm, ⟨39, _⟩ => ⟨S4096, .f32⟩
  | .hbm, ⟨40, _⟩ => ⟨S4096x1, .f32⟩
  | .hbm, ⟨41, _⟩ => ⟨S_, .f32⟩
  | .hbm, ⟨42, _⟩ => ⟨S4096x1, .f32⟩
  | .hbm, ⟨43, _⟩ => ⟨S4096x1, .f32⟩
  | .hbm, ⟨44, _⟩ => ⟨S_, .f32⟩
  | .hbm, ⟨45, _⟩ => ⟨S4096x1, .f32⟩
  | .hbm, ⟨46, _⟩ => ⟨S4096x1, .f32⟩
  | .hbm, ⟨47, _⟩ => ⟨S4096x1, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S_, .f32⟩
  | .hbm, ⟨53, _⟩ => ⟨S1x1024, .f32⟩
  | .hbm, ⟨54, _⟩ => ⟨S1x1024, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S4096x1024, .bf16⟩
  | .hbm, ⟨60, _⟩ => ⟨S4096x2048, .f32⟩
  | .hbm, ⟨61, _⟩ => ⟨S4096x2048, .f32⟩
  | .hbm, ⟨62, _⟩ => ⟨S4096x1024, .f32⟩
  | .hbm, ⟨63, _⟩ => ⟨S4096x1024, .f32⟩
  | .hbm, ⟨64, _⟩ => ⟨S4096x1024, .f32⟩
  | .hbm, ⟨65, _⟩ => ⟨S4096x1024, .f32⟩
  | .hbm, ⟨66, _⟩ => ⟨S_, .f32⟩
  | .hbm, ⟨67, _⟩ => ⟨S4096x1024, .f32⟩
  | .hbm, ⟨68, _⟩ => ⟨S4096x1024, .f32⟩
  | .hbm, ⟨69, _⟩ => ⟨S_, .f32⟩
  | .hbm, ⟨70, _⟩ => ⟨S4096x1024, .f32⟩
  | .hbm, ⟨71, _⟩ => ⟨S4096x1024, .f32⟩
  | .hbm, ⟨72, _⟩ => ⟨S4096x1024, .f32⟩
  | .hbm, ⟨73, _⟩ => ⟨S_, .f32⟩
  | .hbm, ⟨74, _⟩ => ⟨S4096, .f32⟩
  | .hbm, ⟨75, _⟩ => ⟨S4096x1, .f32⟩
  | .hbm, ⟨76, _⟩ => ⟨S_, .f32⟩
  | .hbm, ⟨77, _⟩ => ⟨S4096x1, .f32⟩
  | .hbm, ⟨78, _⟩ => ⟨S4096x1, .f32⟩
  | .hbm, ⟨79, _⟩ => ⟨S4096x1024, .f32⟩
  | .hbm, ⟨80, _⟩ => ⟨S4096x1024, .f32⟩
  | .hbm, ⟨81, _⟩ => ⟨S4096x1024, .f32⟩
  | .hbm, ⟨82, _⟩ => ⟨S_, .f32⟩
  | .hbm, ⟨83, _⟩ => ⟨S4096, .f32⟩
  | .hbm, ⟨84, _⟩ => ⟨S4096x1, .f32⟩
  | .hbm, ⟨85, _⟩ => ⟨S_, .f32⟩
  | .hbm, ⟨86, _⟩ => ⟨S4096x1, .f32⟩
  | .hbm, ⟨87, _⟩ => ⟨S4096x1, .f32⟩
  | .hbm, ⟨88, _⟩ => ⟨S_, .f32⟩
  | .hbm, ⟨89, _⟩ => ⟨S4096x1, .f32⟩
  | .hbm, ⟨90, _⟩ => ⟨S4096x1, .f32⟩
  | .hbm, ⟨91, _⟩ => ⟨S4096x1, .f32⟩
  | .hbm, ⟨92, _⟩ => ⟨S4096x1024, .f32⟩
  | .hbm, ⟨93, _⟩ => ⟨S4096x1024, .f32⟩
  | .hbm, ⟨94, _⟩ => ⟨S4096x1024, .f32⟩
  | .hbm, ⟨95, _⟩ => ⟨S4096x1024, .f32⟩
  | .hbm, ⟨96, _⟩ => ⟨S4096x1024, .f32⟩
  | .hbm, ⟨97, _⟩ => ⟨S4096x1024, .f32⟩
  | .hbm, ⟨98, _⟩ => ⟨S4096x1024, .f32⟩
  | .hbm, ⟨99, _⟩ => ⟨S4096x1024, .f32⟩
  | .hbm, ⟨100, _⟩ => ⟨S_, .f32⟩
  | .hbm, ⟨101, _⟩ => ⟨S4096x1024, .f32⟩
  | .hbm, ⟨102, _⟩ => ⟨S4096x1024, .f32⟩
  | .hbm, ⟨103, _⟩ => ⟨S_, .f32⟩
  | .hbm, ⟨104, _⟩ => ⟨S4096x1024, .f32⟩
  | .hbm, ⟨105, _⟩ => ⟨S4096x1024, .f32⟩
  | .hbm, ⟨106, _⟩ => ⟨S4096x1024, .f32⟩
  | .hbm, ⟨107, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_3 : Ref sig .tc := ⟨.hbm, 38, rfl⟩
abbrev main_v23 : Ref sig .tc := ⟨.hbm, 39, rfl⟩
abbrev main_v24 : Ref sig .tc := ⟨.hbm, 40, rfl⟩
abbrev main_cst_4 : Ref sig .tc := ⟨.hbm, 41, rfl⟩
abbrev main_v25 : Ref sig .tc := ⟨.hbm, 42, rfl⟩
abbrev main_v26 : Ref sig .tc := ⟨.hbm, 43, rfl⟩
abbrev main_cst_5 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_6 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_call0_v0 : Ref sig .tc := ⟨.hbm, 62, rfl⟩
abbrev main_call0_v1 : Ref sig .tc := ⟨.hbm, 63, rfl⟩
abbrev main_call0_v2 : Ref sig .tc := ⟨.hbm, 64, rfl⟩
abbrev main_call0_v3 : Ref sig .tc := ⟨.hbm, 65, rfl⟩
abbrev main_call0_cst : Ref sig .tc := ⟨.hbm, 66, rfl⟩
abbrev main_call0_v4 : Ref sig .tc := ⟨.hbm, 67, rfl⟩
abbrev main_call0_v5 : Ref sig .tc := ⟨.hbm, 68, rfl⟩
abbrev main_call0_cst_0 : Ref sig .tc := ⟨.hbm, 69, rfl⟩
abbrev main_call0_v6 : Ref sig .tc := ⟨.hbm, 70, rfl⟩
abbrev main_call0_v7 : Ref sig .tc := ⟨.hbm, 71, rfl⟩
abbrev main_v43 : Ref sig .tc := ⟨.hbm, 72, rfl⟩
abbrev main_cst_7 : Ref sig .tc := ⟨.hbm, 73, rfl⟩
abbrev main_v44 : Ref sig .tc := ⟨.hbm, 74, rfl⟩
abbrev main_v45 : Ref sig .tc := ⟨.hbm, 75, rfl⟩
abbrev main_cst_8 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_cst_9 : Ref sig .tc := ⟨.hbm, 82, rfl⟩
abbrev main_v51 : Ref sig .tc := ⟨.hbm, 83, rfl⟩
abbrev main_v52 : Ref sig .tc := ⟨.hbm, 84, rfl⟩
abbrev main_cst_10 : Ref sig .tc := ⟨.hbm, 85, rfl⟩
abbrev main_v53 : Ref sig .tc := ⟨.hbm, 86, rfl⟩
abbrev main_v54 : Ref sig .tc := ⟨.hbm, 87, rfl⟩
abbrev main_cst_11 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_call1_v0 : Ref sig .tc := ⟨.hbm, 98, rfl⟩
abbrev main_call1_v1 : Ref sig .tc := ⟨.hbm, 99, rfl⟩
abbrev main_call1_cst : Ref sig .tc := ⟨.hbm, 100, rfl⟩
abbrev main_call1_v2 : Ref sig .tc := ⟨.hbm, 101, rfl⟩
abbrev main_call1_v3 : Ref sig .tc := ⟨.hbm, 102, rfl⟩
abbrev main_call1_cst_0 : Ref sig .tc := ⟨.hbm, 103, rfl⟩
abbrev main_call1_v4 : Ref sig .tc := ⟨.hbm, 104, rfl⟩
abbrev main_call1_v5 : Ref sig .tc := ⟨.hbm, 105, rfl⟩
abbrev main_v64 : Ref sig .tc := ⟨.hbm, 106, rfl⟩
abbrev main_v65 : Ref sig .tc := ⟨.hbm, 107, rfl⟩

abbrev nD : Nat := 1
abbrev τ : Topo := Topo.v7x

variable {F : FTy → Type} [FloatOps F]
-- ==== Kernel12.lean ====
abbrev S4096x1024 : Shape := ⟨2, ![4096, 1024]⟩
abbrev S32x1024 : Shape := ⟨2, ![32, 1024]⟩
abbrev S1x1024 : Shape := ⟨2, ![1, 1024]⟩
abbrev S_ : Shape := ⟨0, ![]⟩
abbrev S4128x1024 : Shape := ⟨2, ![4128, 1024]⟩
abbrev S4128x128 : Shape := ⟨2, ![4128, 128]⟩
abbrev S32x128 : Shape := ⟨2, ![32, 128]⟩
abbrev S1x128 : Shape := ⟨2, ![1, 128]⟩
abbrev S4096x128 : Shape := ⟨2, ![4096, 128]⟩
abbrev S288x128 : Shape := ⟨2, ![288, 128]⟩
abbrev S256x128 : Shape := ⟨2, ![256, 128]⟩

abbrev nBuf : Space → Nat
  | .hbm => 7
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S32x1024, .f32⟩
  | .hbm, ⟨2, _⟩ => ⟨S1x1024, .f32⟩
  | .hbm, ⟨3, _⟩ => ⟨S_, .i32⟩
  | .hbm, ⟨4, _⟩ => ⟨S_, .f32⟩
  | .hbm, ⟨5, _⟩ => ⟨S4128x1024, .f32⟩
  | .hbm, ⟨6, _⟩ => ⟨S4096x1024, .f32⟩
  | .local _ .vmem, ⟨0, _⟩ => ⟨S4128x128, .f32⟩
  | .local _ .vmem, ⟨1, _⟩ => ⟨S4128x128, .f32⟩
  | .local _ .vmem, ⟨2, _⟩ => ⟨S32x128, .f32⟩
  | .local _ .vmem, ⟨3, _⟩ => ⟨S32x128, .f32⟩
  | .local _ .vmem, ⟨4, _⟩ => ⟨S1x128, .f32⟩
  | .local _ .vmem, ⟨5, _⟩ => ⟨S1x128, .f32⟩
  | .local _ .vmem, ⟨6, _⟩ => ⟨S4096x128, .f32⟩
  | .local _ .vmem, ⟨7, _⟩ => ⟨S4096x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c16_i32 : BitVec 32 := 16#32
  let v0 : BitVec 32 := Scalar.addi c0_i32 c16_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg5 : BitVec 32 := Scf.iv c0_i32 c1_i32 k0_t1
  let c256_i32 : BitVec 32 := 256#32
  let v1 : BitVec 32 := Scalar.muli arg5 c256_i32
  v1
def k0_off1 (k0_t1 : Fin k0_t1_loop.trips) : Fin 2 → Nat :=
  let c0_i32 : BitVec 32 := 0#32
  let c1_i32 : BitVec 32 := 1#32
  let arg5 : BitVec 32 := Scf.iv c0_i32 c1_i32 k0_t1
  let c256_i32 : BitVec 32 := 256#32
  let v1 : BitVec 32 := Scalar.muli arg5 c256_i32
  let v2 : BitVec 32 := v1
  let v3 : Index := Scalar.indexCast v2
  let c0 : Index := 0#32
  ![v3.toNat, 0]
def k0_off2 (k0_t1 : Fin k0_t1_loop.trips) : Fin 2 → Nat :=
  let c0_i32 : BitVec 32 := 0#32
  let c1_i32 : BitVec 32 := 1#32
  let arg5 : BitVec 32 := Scf.iv c0_i32 c1_i32 k0_t1
  let c256_i32 : BitVec 32 := 256#32
  let v1 : BitVec 32 := Scalar.muli arg5 c256_i32
  let v2 : BitVec 32 := v1
  let v196 : Index := Scalar.indexCast v2
  let c0_36 : Index := 0#32
  ![v196.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference12Ideal.lean ====
abbrev S4096x1024 : Shape := ⟨2, ![4096, 1024]⟩
abbrev S32x1024 : Shape := ⟨2, ![32, 1024]⟩
abbrev S1x1024 : Shape := ⟨2, ![1, 1024]⟩
abbrev S_ : Shape := ⟨0, ![]⟩
abbrev S4126x1024 : Shape := ⟨2, ![4126, 1024]⟩
abbrev S4096x31 : Shape := ⟨2, ![4096, 31]⟩
abbrev S4096x31x1 : Shape := ⟨3, ![4096, 31, 1]⟩
abbrev S4096x31x1024 : Shape := ⟨3, ![4096, 31, 1024]⟩
abbrev S31x1024 : Shape := ⟨2, ![31, 1024]⟩
abbrev S1x31x1024 : Shape := ⟨3, ![1, 31, 1024]⟩

abbrev nBuf : Space → Nat
  | .hbm => 19
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S32x1024, .f32⟩
  | .hbm, ⟨2, _⟩ => ⟨S1x1024, .f32⟩
  | .hbm, ⟨3, _⟩ => ⟨S_, .i32⟩
  | .hbm, ⟨4, _⟩ => ⟨S_, .f32⟩
  | .hbm, ⟨5, _⟩ => ⟨S4126x1024, .f32⟩
  | .hbm, ⟨6, _⟩ => ⟨S4096x31, .i32⟩
  | .hbm, ⟨7, _⟩ => ⟨S4096x31, .i32⟩
  | .hbm, ⟨8, _⟩ => ⟨S4096x31, .i32⟩
  | .hbm, ⟨9, _⟩ => ⟨S4096x31x1, .i32⟩
  | .hbm, ⟨10, _⟩ => ⟨S4096x31x1024, .f32⟩
  | .hbm, ⟨11, _⟩ => ⟨S31x1024, .f32⟩
  | .hbm, ⟨12, _⟩ => ⟨S1x31x1024, .f32⟩
  | .hbm, ⟨13, _⟩ => ⟨S4096x31x1024, .f32⟩
  | .hbm, ⟨14, _⟩ => ⟨S4096x31x1024, .f32⟩
  | .hbm, ⟨15, _⟩ => ⟨S_, .f32⟩
  | .hbm, ⟨16, _⟩ => ⟨S4096x1024, .f32⟩
  | .hbm, ⟨17, _⟩ => ⟨S4096x1024, .f32⟩
  | .hbm, ⟨18, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩

abbrev nD : Nat := 1
abbrev τ : Topo := Topo.v7x

variable {F : FTy → Type} [FloatOps F]
-- ==== Proof.MlpBlocks.lean ====
/-
The feed-forward layer: where the blocks of each call's windows lie in their arrays.
-/
module

public import proofs.«01_k».proof.Proof.Gen.Kernel3Ideal.Frame
public import Idealize.ShloMosaic.Lib.Pipeline.Value
public import Idealize.ShloMosaic.Lib.Pointwise
public import Idealize.ShloMosaic.Lib.ValueIdxCore

@[expose] public section

set_option maxRecDepth 16384

noncomputable section

namespace Cert.Kernel3Ideal.RefValue

open Cert.Kernel3Ideal Cert.Kernel3Ideal.Gen
open Idealize.ShloMosaic Idealize.ShloMosaic.TcCoe Idealize.SL.Sem
open Idealize.ShloMosaic.Pipeline (Dat)

/-! ## Region 0: where each window's block lies -/

/-- The block indices of region 0's windows at every point of its grid. -/
theorem idx0 : ∀ t : Fin grid0.N, win0_0.index t 0 = t.val / 8 ∧ win0_0.index t 1 = 0 ∧ win0_1.index t 0 = 0 ∧ win0_1.index t 1 = t.val % 8 ∧ win0_2.index t 0 = t.val / 8 ∧ win0_2.index t 1 = t.val % 8 ∧ win0_3.index t 0 = t.val / 8 ∧ win0_3.index t 1 = t.val % 8 := by decide +kernel

theorem lt0 (t : Fin cfg0.N) : t.val < 32 := lt_of_lt_of_eq t.isLt N_0

/-- Window 0 of region 0: its block at point `t` of an array, read at an index of the block. -/
theorem blk0_0 (t : Fin cfg0.N) (A : S4096x1024.Idx → EReal) (j : S1024x1024.Idx) :
    ((cfg0.win 0).blk t).view.read (Elt Ideal) A j = A (ix2 ⟨1024 * (t.val / 8) + (j 0).val, by have h := (j 0).isLt; have ht := lt0 t; change (j 0).val < 1024 at h; omega⟩ (j 1)) := by
  rw [View.read_apply]
  show A _ = A _
  congr 1
  funext a
  apply Fin.ext
  have hi := idx0 t
  match a with
  | ⟨0, _⟩ => show win0_0.index t 0 * 1024 + 1 * (j 0).val = 1024 * (t.val / 8) + (j 0).val; rw [hi.1]; omega
  | ⟨1, _⟩ => show win0_0.index t 1 * 1024 + 1 * (j 1).val = (j 1).val; rw [hi.2.1]; omega

/-- Window 1 of region 0: its block at point `t` of an array, read at an index of the block. -/
theorem blk0_1 (t : Fin cfg0.N) (A : S1024x4096.Idx → EReal) (j : S1024x512.Idx) :
    ((cfg0.win 1).blk t).view.read (Elt Ideal) A j = A (ix2 (j 0) ⟨512 * (t.val % 8) + (j 1).val, by have h := (j 1).isLt; have ht := lt0 t; change (j 1).val < 512 at h; omega⟩) := by
  rw [View.read_apply]
  show A _ = A _
  congr 1
  funext a
  apply Fin.ext
  have hi := idx0 t
  match a with
  | ⟨0, _⟩ => show win0_1.index t 0 * 1024 + 1 * (j 0).val = (j 0).val; rw [hi.2.2.1]; omega
  | ⟨1, _⟩ => show win0_1.index t 1 * 512 + 1 * (j 1).val = 512 * (t.val % 8) + (j 1).val; rw [hi.2.2.2.1]; omega

/-- Window 2 of region 0: its block at point `t` of an array, read at an index of the block. -/
theorem blk0_2 (t : Fin cfg0.N) (A : S4096x4096.Idx → EReal) (j : S1024x512.Idx) :
    ((cfg0.win 2).blk t).view.read (Elt Ideal) A j = A (ix2 ⟨1024 * (t.val / 8) + (j 0).val, by have h := (j 0).isLt; have ht := lt0 t; change (j 0).val < 1024 at h; omega⟩ ⟨512 * (t.val % 8) + (j 1).val, by have h := (j 1).isLt; have ht := lt0 t; change (j 1).val < 512 at h; omega⟩) := by
  rw [View.read_apply]
  show A _ = A _
  congr 1
  funext a
  apply Fin.ext
  have hi := idx0 t
  match a with
  | ⟨0, _⟩ => show win0_2.index t 0 * 1024 + 1 * (j 0).val = 1024 * (t.val / 8) + (j 0).val; rw [hi.2.2.2.2.1]; omega
  | ⟨1, _⟩ => show win0_2.index t 1 * 512 + 1 * (j 1).val = 512 * (t.val % 8) + (j 1).val; rw [hi.2.2.2.2.2.1]; omega

/-- Window 3 of region 0: its block at point `t` of an array, read at an index of the block. -/
theorem blk0_3 (t : Fin cfg0.N) (A : S4096x4096.Idx → EReal) (j : S1024x512.Idx) :
    ((cfg0.win 3).blk t).view.read (Elt Ideal) A j = A (ix2 ⟨1024 * (t.val / 8) + (j 0).val, by have h := (j 0).isLt; have ht := lt0 t; change (j 0).val < 1024 at h; omega⟩ ⟨512 * (t.val % 8) + (j 1).val, by have h := (j 1).isLt; have ht := lt0 t; change (j 1).val < 512 at h; omega⟩) := by
  rw [View.read_apply]
  show A _ = A _
  congr 1
  funext a
  apply Fin.ext
  have hi := idx0 t
  match a with
  | ⟨0, _⟩ => show win0_3.index t 0 * 1024 + 1 * (j 0).val = 1024 * (t.val / 8) + (j 0).val; rw [hi.2.2.2.2.2.2.1]; omega
  | ⟨1, _⟩ => show win0_3.index t 1 * 512 + 1 * (j 1).val = 512 * (t.val % 8) + (j 1).val; rw [hi.2.2.2.2.2.2.2]; omega

/-! ## Region 1: where each window's block lies -/

/-- The block indices of region 1's windows at every point of its grid. -/
theorem idx1 : ∀ t : Fin grid1.N, win1_0.index t 0 = t.val / 2 ∧ win1_0.index t 1 = 0 ∧ win1_1.index t 0 = 0 ∧ win1_1.index t 1 = t.val % 2 ∧ win1_2.index t 0 = t.val / 2 ∧ win1_2.index t 1 = t.val % 2 := by decide +kernel

theorem lt1 (t : Fin cfg1.N) : t.val < 16 := lt_of_lt_of_eq t.isLt N_1

/-- Window 0 of region 1: its block at point `t` of an array, read at an index of the block. -/
theorem blk1_0 (t : Fin cfg1.N) (A : S4096x4096.Idx → EReal) (j : S512x4096.Idx) :
    ((cfg1.win 0).blk t).view.read (Elt Ideal) A j = A (ix2 ⟨512 * (t.val / 2) + (j 0).val, by have h := (j 0).isLt; have ht := lt1 t; change (j 0).val < 512 at h; omega⟩ (j 1)) := by
  rw [View.read_apply]
  show A _ = A _
  congr 1
  funext a
  apply Fin.ext
  have hi := idx1 t
  match a with
  | ⟨0, _⟩ => show win1_0.index t 0 * 512 + 1 * (j 0).val = 512 * (t.val / 2) + (j 0).val; rw [hi.1]; omega
  | ⟨1, _⟩ => show win1_0.index t 1 * 4096 + 1 * (j 1).val = (j 1).val; rw [hi.2.1]; omega

/-- Window 1 of region 1: its block at point `t` of an array, read at an index of the block. -/
theorem blk1_1 (t : Fin cfg1.N) (A : S4096x1024.Idx → EReal) (j : S4096x512.Idx) :
    ((cfg1.win 1).blk t).view.read (Elt Ideal) A j = A (ix2 (j 0) ⟨512 * (t.val % 2) + (j 1).val, by have h := (j 1).isLt; have ht := lt1 t; change (j 1).val < 512 at h; omega⟩) := by
  rw [View.read_apply]
  show A _ = A _
  congr 1
  funext a
  apply Fin.ext
  have hi := idx1 t
  match a with
  | ⟨0, _⟩ => show win1_1.index t 0 * 4096 + 1 * (j 0).val = (j 0).val; rw [hi.2.2.1]; omega
  | ⟨1, _⟩ => show win1_1.index t 1 * 512 + 1 * (j 1).val = 512 * (t.val % 2) + (j 1).val; rw [hi.2.2.2.1]; omega

/-- Window 2 of region 1: its block at point `t` of an array, read at an index of the block. -/
theorem blk1_2 (t : Fin cfg1.N) (A : S4096x1024.Idx → EReal) (j : S512x512.Idx) :
    ((cfg1.win 2).blk t).view.read (Elt Ideal) A j = A (ix2 ⟨512 * (t.val / 2) + (j 0).val, by have h := (j 0).isLt; have ht := lt1 t; change (j 0).val < 512 at h; omega⟩ ⟨512 * (t.val % 2) + (j 1).val, by have h := (j 1).isLt; have ht := lt1 t; change (j 1).val < 512 at h; omega⟩) := by
  rw [View.read_apply]
  show A _ = A _
  congr 1
  funext a
  apply Fin.ext
  have hi := idx1 t
  match a with
  | ⟨0, _⟩ => show win1_2.index t 0 * 512 + 1 * (j 0).val = 512 * (t.val / 2) + (j 0).val; rw [hi.2.2.2.2.1]; omega
  | ⟨1, _⟩ => show win1_2.index t 1 * 512 + 1 * (j 1).val = 512 * (t.val % 2) + (j 1).val; rw [hi.2.2.2.2.2]; omega

/-! ## Region 2: where each window's block lies -/

/-- The block indices of region 2's windows at every point of its grid. -/
theorem idx2 : ∀ t : Fin grid2.N, win2_0.index t 0 = t.val / 8 ∧ win2_0.index t 1 = 0 ∧ win2_1.index t 0 = t.val % 8 ∧ win2_1.index t 1 = 0 ∧ win2_2.index t 0 = t.val / 8 ∧ win2_2.index t 1 = t.val % 8 ∧ win2_3.index t 0 = t.val / 8 ∧ win2_3.index t 1 = t.val % 8 := by decide +kernel

theorem lt2 (t : Fin cfg2.N) : t.val < 32 := lt_of_lt_of_eq t.isLt N_2

/-- Window 0 of region 2: its block at point `t` of an array, read at an index of the block. -/
theorem blk2_0 (t : Fin cfg2.N) (A : S4096x1024.Idx → EReal) (j : S1024x1024.Idx) :
    ((cfg2.win 0).blk t).view.read (Elt Ideal) A j = A (ix2 ⟨1024 * (t.val / 8) + (j 0).val, by have h := (j 0).isLt; have ht := lt2 t; change (j 0).val < 1024 at h; omega⟩ (j 1)) := by
  rw [View.read_apply]
  show A _ = A _
  congr 1
  funext a
  apply Fin.ext
  have hi := idx2 t
  match a with
  | ⟨0, _⟩ => show win2_0.index t 0 * 1024 + 1 * (j 0).val = 1024 * (t.val / 8) + (j 0).val; rw [hi.1]; omega
  | ⟨1, _⟩ => show win2_0.index t 1 * 1024 + 1 * (j 1).val = (j 1).val; rw [hi.2.1]; omega

/-- Window 1 of region 2: its block at point `t` of an array, read at an index of the block. -/
theorem blk2_1 (t : Fin cfg2.N) (A : S4096x1024.Idx → EReal) (j : S512x1024.Idx) :
    ((cfg2.win 1).blk t).view.read (Elt Ideal) A j = A (ix2 ⟨512 * (t.val % 8) + (j 0).val, by have h := (j 0).isLt; have ht := lt2 t; change (j 0).val < 512 at h; omega⟩ (j 1)) := by
  rw [View.read_apply]
  show A _ = A _
  congr 1
  funext a
  apply Fin.ext
  have hi := idx2 t
  match a with
  | ⟨0, _⟩ => show win2_1.index t 0 * 512 + 1 * (j 0).val = 512 * (t.val % 8) + (j 0).val; rw [hi.2.2.1]; omega
  | ⟨1, _⟩ => show win2_1.index t 1 * 1024 + 1 * (j 1).val = (j 1).val; rw [hi.2.2.2.1]; omega

/-- Window 2 of region 2: its block at point `t` of an array, read at an index of the block. -/
theorem blk2_2 (t : Fin cfg2.N) (A : S4096x4096.Idx → EReal) (j : S1024x512.Idx) :
    ((cfg2.win 2).blk t).view.read (Elt Ideal) A j = A (ix2 ⟨1024 * (t.val / 8) + (j 0).val, by have h := (j 0).isLt; have ht := lt2 t; change (j 0).val < 1024 at h; omega⟩ ⟨512 * (t.val % 8) + (j 1).val, by have h := (j 1).isLt; have ht := lt2 t; change (j 1).val < 512 at h; omega⟩) := by
  rw [View.read_apply]
  show A _ = A _
  congr 1
  funext a
  apply Fin.ext
  have hi := idx2 t
  match a with
  | ⟨0, _⟩ => show win2_2.index t 0 * 1024 + 1 * (j 0).val = 1024 * (t.val / 8) + (j 0).val; rw [hi.2.2.2.2.1]; omega
  | ⟨1, _⟩ => show win2_2.index t 1 * 512 + 1 * (j 1).val = 512 * (t.val % 8) + (j 1).val; rw [hi.2.2.2.2.2.1]; omega

/-- Window 3 of region 2: its block at point `t` of an array, read at an index of the block. -/
theorem blk2_3 (t : Fin cfg2.N) (A : S4096x4096.Idx → EReal) (j : S1024x512.Idx) :
    ((cfg2.win 3).blk t).view.read (Elt Ideal) A j = A (ix2 ⟨1024 * (t.val / 8) + (j 0).val, by have h := (j 0).isLt; have ht := lt2 t; change (j 0).val < 1024 at h; omega⟩ ⟨512 * (t.val % 8) + (j 1).val, by have h := (j 1).isLt; have ht := lt2 t; change (j 1).val < 512 at h; omega⟩) := by
  rw [View.read_apply]
  show A _ = A _
  congr 1
  funext a
  apply Fin.ext
  have hi := idx2 t
  match a with
  | ⟨0, _⟩ => show win2_3.index t 0 * 1024 + 1 * (j 0).val = 1024 * (t.val / 8) + (j 0).val; rw [hi.2.2.2.2.2.2.1]; omega
  | ⟨1, _⟩ => show win2_3.index t 1 * 512 + 1 * (j 1).val = 512 * (t.val % 8) + (j 1).val; rw [hi.2.2.2.2.2.2.2]; omega

/-! ## Region 3: where each window's block lies -/

/-- The block indices of region 3's windows at every point of its grid. -/
theorem idx3 : ∀ t : Fin grid3.N, win3_0.index t 0 = 0 ∧ win3_0.index t 1 = t.val / 2 ∧ win3_1.index t 0 = 0 ∧ win3_1.index t 1 = t.val % 2 ∧ win3_2.index t 0 = t.val / 2 ∧ win3_2.index t 1 = t.val % 2 := by decide +kernel

theorem lt3 (t : Fin cfg3.N) : t.val < 16 := lt_of_lt_of_eq t.isLt N_3

/-- Window 0 of region 3: its block at point `t` of an array, read at an index of the block. -/
theorem blk3_0 (t : Fin cfg3.N) (A : S4096x4096.Idx → EReal) (j : S4096x512.Idx) :
    ((cfg3.win 0).blk t).view.read (Elt Ideal) A j = A (ix2 (j 0) ⟨512 * (t.val / 2) + (j 1).val, by have h := (j 1).isLt; have ht := lt3 t; change (j 1).val < 512 at h; omega⟩) := by
  rw [View.read_apply]
  show A _ = A _
  congr 1
  funext a
  apply Fin.ext
  have hi := idx3 t
  match a with
  | ⟨0, _⟩ => show win3_0.index t 0 * 4096 + 1 * (j 0).val = (j 0).val; rw [hi.1]; omega
  | ⟨1, _⟩ => show win3_0.index t 1 * 512 + 1 * (j 1).val = 512 * (t.val / 2) + (j 1).val; rw [hi.2.1]; omega

/-- Window 1 of region 3: its block at point `t` of an array, read at an index of the block. -/
theorem blk3_1 (t : Fin cfg3.N) (A : S4096x1024.Idx → EReal) (j : S4096x512.Idx) :
    ((cfg3.win 1).blk t).view.read (Elt Ideal) A j = A (ix2 (j 0) ⟨512 * (t.val % 2) + (j 1).val, by have h := (j 1).isLt; have ht := lt3 t; change (j 1).val < 512 at h; omega⟩) := by
  rw [View.read_apply]
  show A _ = A _
  congr 1
  funext a
  apply Fin.ext
  have hi := idx3 t
  match a with
  | ⟨0, _⟩ => show win3_1.index t 0 * 4096 + 1 * (j 0).val = (j 0).val; rw [hi.2.2.1]; omega
  | ⟨1, _⟩ => show win3_1.index t 1 * 512 + 1 * (j 1).val = 512 * (t.val % 2) + (j 1).val; rw [hi.2.2.2.1]; omega

/-- Window 2 of region 3: its block at point `t` of an array, read at an index of the block. -/
theorem blk3_2 (t : Fin cfg3.N) (A : S4096x1024.Idx → EReal) (j : S512x512.Idx) :
    ((cfg3.win 2).blk t).view.read (Elt Ideal) A j = A (ix2 ⟨512 * (t.val / 2) + (j 0).val, by have h := (j 0).isLt; have ht := lt3 t; change (j 0).val < 512 at h; omega⟩ ⟨512 * (t.val % 2) + (j 1).val, by have h := (j 1).isLt; have ht := lt3 t; change (j 1).val < 512 at h; omega⟩) := by
  rw [View.read_apply]
  show A _ = A _
  congr 1
  funext a
  apply Fin.ext
  have hi := idx3 t
  match a with
  | ⟨0, _⟩ => show win3_2.index t 0 * 512 + 1 * (j 0).val = 512 * (t.val / 2) + (j 0).val; rw [hi.2.2.2.2.1]; omega
  | ⟨1, _⟩ => show win3_2.index t 1 * 512 + 1 * (j 1).val = 512 * (t.val % 2) + (j 1).val; rw [hi.2.2.2.2.2]; omega

/-! ## Region 4: where each window's block lies -/

/-- The block indices of region 4's windows at every point of its grid. -/
theorem idx4 : ∀ t : Fin grid4.N, win4_0.index t 0 = 0 ∧ win4_0.index t 1 = t.val / 8 ∧ win4_1.index t 0 = 0 ∧ win4_1.index t 1 = t.val % 8 ∧ win4_2.index t 0 = t.val % 8 ∧ win4_2.index t 1 = t.val / 8 ∧ win4_2.index t 2 = 0 := by decide +kernel

theorem lt4 (t : Fin cfg4.N) : t.val < 16 := lt_of_lt_of_eq t.isLt N_4

/-- Window 0 of region 4: its block at point `t` of an array, read at an index of the block. -/
theorem blk4_0 (t : Fin cfg4.N) (A : S4096x1024.Idx → EReal) (j : S4096x512.Idx) :
    ((cfg4.win 0).blk t).view.read (Elt Ideal) A j = A (ix2 (j 0) ⟨512 * (t.val / 8) + (j 1).val, by have h := (j 1).isLt; have ht := lt4 t; change (j 1).val < 512 at h; omega⟩) := by
  rw [View.read_apply]
  show A _ = A _
  congr 1
  funext a
  apply Fin.ext
  have hi := idx4 t
  match a with
  | ⟨0, _⟩ => show win4_0.index t 0 * 4096 + 1 * (j 0).val = (j 0).val; rw [hi.1]; omega
  | ⟨1, _⟩ => show win4_0.index t 1 * 512 + 1 * (j 1).val = 512 * (t.val / 8) + (j 1).val; rw [hi.2.1]; omega

/-- Window 1 of region 4: its block at point `t` of an array, read at an index of the block. -/
theorem blk4_1 (t : Fin cfg4.N) (A : S4096x4096.Idx → EReal) (j : S4096x512.Idx) :
    ((cfg4.win 1).blk t).view.read (Elt Ideal) A j = A (ix2 (j 0) ⟨512 * (t.val % 8) + (j 1).val, by have h := (j 1).isLt; have ht := lt4 t; change (j 1).val < 512 at h; omega⟩) := by
  rw [View.read_apply]
  show A _ = A _
  congr 1
  funext a
  apply Fin.ext
  have hi := idx4 t
  match a with
  | ⟨0, _⟩ => show win4_1.index t 0 * 4096 + 1 * (j 0).val = (j 0).val; rw [hi.2.2.1]; omega
  | ⟨1, _⟩ => show win4_1.index t 1 * 512 + 1 * (j 1).val = 512 * (t.val % 8) + (j 1).val; rw [hi.2.2.2.1]; omega

/-- Window 2 of region 4: its block at point `t` of an array, read at an index of the block. -/
theorem blk4_2 (t : Fin cfg4.N) (A : S8x1024x512.Idx → EReal) (j : S1x512x512.Idx) :
    ((cfg4.win 2).blk t).view.read (Elt Ideal) A j = A (ix3 ⟨1 * (t.val % 8) + (j 0).val, by have h := (j 0).isLt; have ht := lt4 t; change (j 0).val < 1 at h; omega⟩ ⟨512 * (t.val / 8) + (j 1).val, by have h := (j 1).isLt; have ht := lt4 t; change (j 1).val < 512 at h; omega⟩ (j 2)) := by
  rw [View.read_apply]
  show A _ = A _
  congr 1
  funext a
  apply Fin.ext
  have hi := idx4 t
  match a with
  | ⟨0, _⟩ => show win4_2.index t 0 * 1 + 1 * (j 0).val = 1 * (t.val % 8) + (j 0).val; rw [hi.2.2.2.2.1]; omega
  | ⟨1, _⟩ => show win4_2.index t 1 * 512 + 1 * (j 1).val = 512 * (t.val / 8) + (j 1).val; rw [hi.2.2.2.2.2.1]; omega
  | ⟨2, _⟩ => show win4_2.index t 2 * 512 + 1 * (j 2).val = (j 2).val; rw [hi.2.2.2.2.2.2]; omega

/-! ## Region 5: where each window's block lies -/

/-- The block indices of region 5's windows at every point of its grid. -/
theorem idx5 : ∀ t : Fin grid5.N, win5_0.index t 0 = t.val / 2 ∧ win5_0.index t 1 = 0 ∧ win5_1.index t 0 = t.val % 2 ∧ win5_1.index t 1 = 0 ∧ win5_2.index t 0 = t.val / 2 ∧ win5_2.index t 1 = t.val % 2 := by decide +kernel

theorem lt5 (t : Fin cfg5.N) : t.val < 16 := lt_of_lt_of_eq t.isLt N_5

/-- Window 0 of region 5: its block at point `t` of an array, read at an index of the block. -/
theorem blk5_0 (t : Fin cfg5.N) (A : S4096x4096.Idx → EReal) (j : S512x4096.Idx) :
    ((cfg5.win 0).blk t).view.read (Elt Ideal) A j = A (ix2 ⟨512 * (t.val / 2) + (j 0).val, by have h := (j 0).isLt; have ht := lt5 t; change (j 0).val < 512 at h; omega⟩ (j 1)) := by
  rw [View.read_apply]
  show A _ = A _
  congr 1
  funext a
  apply Fin.ext
  have hi := idx5 t
  match a with
  | ⟨0, _⟩ => show win5_0.index t 0 * 512 + 1 * (j 0).val = 512 * (t.val / 2) + (j 0).val; rw [hi.1]; omega
  | ⟨1, _⟩ => show win5_0.index t 1 * 4096 + 1 * (j 1).val = (j 1).val; rw [hi.2.1]; omega

/-- Window 1 of region 5: its block at point `t` of an array, read at an index of the block. -/
theorem blk5_1 (t : Fin cfg5.N) (A : S1024x4096.Idx → EReal) (j : S512x4096.Idx) :
    ((cfg5.win 1).blk t).view.read (Elt Ideal) A j = A (ix2 ⟨512 * (t.val % 2) + (j 0).val, by have h := (j 0).isLt; have ht := lt5 t; change (j 0).val < 512 at h; omega⟩ (j 1)) := by
  rw [View.read_apply]
  show A _ = A _
  congr 1
  funext a
  apply Fin.ext
  have hi := idx5 t
  match a with
  | ⟨0, _⟩ => show win5_1.index t 0 * 512 + 1 * (j 0).val = 512 * (t.val % 2) + (j 0).val; rw [hi.2.2.1]; omega
  | ⟨1, _⟩ => show win5_1.index t 1 * 4096 + 1 * (j 1).val = (j 1).val; rw [hi.2.2.2.1]; omega

/-- Window 2 of region 5: its block at point `t` of an array, read at an index of the block. -/
theorem blk5_2 (t : Fin cfg5.N) (A : S4096x1024.Idx → EReal) (j : S512x512.Idx) :
    ((cfg5.win 2).blk t).view.read (Elt Ideal) A j = A (ix2 ⟨512 * (t.val / 2) + (j 0).val, by have h := (j 0).isLt; have ht := lt5 t; change (j 0).val < 512 at h; omega⟩ ⟨512 * (t.val % 2) + (j 1).val, by have h := (j 1).isLt; have ht := lt5 t; change (j 1).val < 512 at h; omega⟩) := by
  rw [View.read_apply]
  show A _ = A _
  congr 1
  funext a
  apply Fin.ext
  have hi := idx5 t
  match a with
  | ⟨0, _⟩ => show win5_2.index t 0 * 512 + 1 * (j 0).val = 512 * (t.val / 2) + (j 0).val; rw [hi.2.2.2.2.1]; omega
  | ⟨1, _⟩ => show win5_2.index t 1 * 512 + 1 * (j 1).val = 512 * (t.val % 2) + (j 1).val; rw [hi.2.2.2.2.2]; omega

end Cert.Kernel3Ideal.RefValue
-- ==== Proof.MlpArrays.lean ====
/-
The feed-forward layer: the array that each call leaves, as a function of the arrays it reads.
-/
module

public import proofs.«01_k».proof.Proof.MlpBlocks
public import Idealize.ShloMosaic.Lib.Pipeline.Value
public import Idealize.ShloMosaic.Lib.Pointwise
public import Idealize.ShloMosaic.Lib.ValueIdxCore

@[expose] public section

set_option maxRecDepth 16384

noncomputable section

namespace Cert.Kernel3Ideal.RefValue

open Cert.Kernel3Ideal Cert.Kernel3Ideal.Gen
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl
theorem hz3 : (![0, 0, 0] : Fin 3 → Nat) = fun _ => 0 := funext fun a => by fin_cases a <;> rfl

/-! ## The whole-array functions -/

/-- The product of the activations and the first weight: the pre-activation. -/
def preAct (h : S4096x1024.Idx → EReal) (w1 : S1024x4096.Idx → EReal) : S4096x4096.Idx → EReal :=
  fun i => ∑ k : Fin 1024, h (ix2 (i 0) k) * w1 (ix2 k (i 1))
/-- Its squared rectifier. -/
def hidden (h : S4096x1024.Idx → EReal) (w1 : S1024x4096.Idx → EReal) : S4096x4096.Idx → EReal :=
  fun i => max (preAct h w1 i) 0 * max (preAct h w1 i) 0
/-- The layer's output from its hidden array. -/
def outFn (a : S4096x4096.Idx → EReal) (w2 : S4096x1024.Idx → EReal) : S4096x1024.Idx → EReal :=
  fun i => ∑ k : Fin 4096, a (ix2 (i 0) k) * w2 (ix2 k (i 1))
/-- The constant two, as both programs spell it. -/
def two : EReal := Ideal.ofBits .f32 0x40000000#32
/-- The gradient of the pre-activation: the cotangent through the second weight, times twice the rectified value. -/
def dzFn (dy w2 : S4096x1024.Idx → EReal) (z : S4096x4096.Idx → EReal) : S4096x4096.Idx → EReal :=
  fun i => (∑ k : Fin 1024, dy (ix2 (i 0) k) * w2 (ix2 (i 1) k)) * (two * max (z i) 0)
/-- The gradient of the second weight. -/
def dw2Fn (a : S4096x4096.Idx → EReal) (dy : S4096x1024.Idx → EReal) : S4096x1024.Idx → EReal :=
  fun i => ∑ k : Fin 4096, a (ix2 k (i 0)) * dy (ix2 k (i 1))
/-- The gradient of the first weight, its columns in eight slots. -/
def dw1Fn (h : S4096x1024.Idx → EReal) (dz : S4096x4096.Idx → EReal) : S8x1024x512.Idx → EReal :=
  fun i => ∑ k : Fin 4096, h (ix2 k (i 1)) * dz (ix2 k ⟨512 * (i 0).val + (i 2).val, by
    have h0 : (i 0).val < 8 := (i 0).isLt; have h2 : (i 2).val < 512 := (i 2).isLt; omega⟩)
/-- The gradient of the activations. -/
def dhFn (dz : S4096x4096.Idx → EReal) (w1 : S1024x4096.Idx → EReal) : S4096x1024.Idx → EReal :=
  fun i => ∑ k : Fin 4096, dz (ix2 (i 0) k) * w1 (ix2 (i 1) k)

/-! ## Region 0, window 2 -/

theorem k0_pay2_apply (x0 : Vec Ideal S1024x1024 .bf16) (x1 : Vec Ideal S1024x512 .bf16) (j : S1024x512.Idx) :
    k0_pay2 x0 x1 j = ∑ k : Fin 1024, x0 (ix2 (j 0) k) * x1 (ix2 k (j 1)) := by
  unfold k0_pay2 k0_pay1
  pointwise

theorem out0_2_apply (x0 : Vec Ideal S1024x1024 .bf16) (x1 : Vec Ideal S1024x512 .bf16) (j : S1024x512.Idx) :
    out0_2 x0 x1 j = ∑ k : Fin 1024, x0 (ix2 (j 0) k) * x1 (ix2 k (j 1)) := by
  unfold out0_2
  rw [View.canon_unit_zero hz]
  rw [View.ld_unit_zero (S := S1024x1024) hz, View.ld_unit_zero (S := S1024x512) hz]
  exact k0_pay2_apply x0 x1 j

theorem iblk0_0 (c : Dev nD) (t : Fin cfg0.N) (j : S1024x1024.Idx) :
    (iblk0 V c 0 t : S1024x1024.Idx → EReal) j = (V c (Pipeline.arrRef spec0 0) : S4096x1024.Idx → EReal) (ix2 ⟨1024 * (t.val / 8) + (j 0).val, by have h := (j 0).isLt; have ht := lt0 t; change (j 0).val < 1024 at h; omega⟩ (j 1)) := blk0_0 t (V c (Pipeline.arrRef spec0 0)) j

theorem iblk0_1 (c : Dev nD) (t : Fin cfg0.N) (j : S1024x512.Idx) :
    (iblk0 V c 1 t : S1024x512.Idx → EReal) j = (V c (Pipeline.arrRef spec0 1) : S1024x4096.Idx → EReal) (ix2 (j 0) ⟨512 * (t.val % 8) + (j 1).val, by have h := (j 1).isLt; have ht := lt0 t; change (j 1).val < 512 at h; omega⟩) := blk0_1 t (V c (Pipeline.arrRef spec0 1)) j

/-- Every index of the array lies in the block of some point. -/
theorem cover0_2' (i : S4096x4096.Idx) :
    ∃ t : Fin cfg0.N, (cfg0.win 2).flush t = true ∧ i ∈ ((cfg0.win 2).blk t).view.set := by
  have h0 : (i 0).val < 4096 := (i 0).isLt
  have h1 : (i 1).val < 4096 := (i 1).isLt
  have ht : 8 * ((i 0).val / 1024) + (i 1).val / 512 < cfg0.N := lt_of_lt_of_eq (by omega : _ < 32) N_0.symm
  refine ⟨⟨8 * ((i 0).val / 1024) + (i 1).val / 512, ht⟩, flush0_2 _, ?_⟩
  have hi := idx0 ⟨8 * ((i 0).val / 1024) + (i 1).val / 512, ht⟩
  show i ∈ ((View.whole (Pipeline.arrRef spec0 2)).slice (win0_2.rect ⟨8 * ((i 0).val / 1024) + (i 1).val / 512, ht⟩)).set
  rw [View.set_slice_whole, Rect.mem_set_unit]
  intro a
  match a with
  | ⟨0, _⟩ => show win0_2.index ⟨8 * ((i 0).val / 1024) + (i 1).val / 512, ht⟩ 0 * 1024 ≤ (i 0).val ∧ (i 0).val < win0_2.index ⟨8 * ((i 0).val / 1024) + (i 1).val / 512, ht⟩ 0 * 1024 + 1024; rw [hi.2.2.2.2.1]; dsimp only; omega
  | ⟨1, _⟩ => show win0_2.index ⟨8 * ((i 0).val / 1024) + (i 1).val / 512, ht⟩ 1 * 512 ≤ (i 1).val ∧ (i 1).val < win0_2.index ⟨8 * ((i 0).val / 1024) + (i 1).val / 512, ht⟩ 1 * 512 + 512; rw [hi.2.2.2.2.2.1]; dsimp only; omega

/-- What a point writes back is its block of the whole-array function. -/
theorem flushed0_2 (c : Dev nD) (t : Fin cfg0.N) :
    (dat0 V c).flushed 2 t = ((cfg0.win 2).blk t).view.read (Elt Ideal) (preAct (V c main_arg0) (V c main_arg1)) := by
  show (cfg0.win 2).cut (grid0.coords t) ((dat0 V c).after 2 t) = _
  rw [after0_2]
  refine funext fun (j : S1024x512.Idx) => ?_
  refine Eq.trans ?_ (blk0_2 t (preAct (V c main_arg0) (V c main_arg1)) j).symm
  refine (out0_2_apply (iblk0 V c 0 t) (iblk0 V c 1 t) j).trans ?_
  simp only [iblk0_0, iblk0_1]
  rfl

/-- The array this region leaves. -/
theorem final0_2 (c : Dev nD) : (dat0 V c).arrAt 2 cfg0.N = preAct (V c main_arg0) (V c main_arg1) :=
  (dat0 V c).arrAt_eq_of_cover 2 (preAct (V c main_arg0) (V c main_arg1)) (fun t _ => flushed0_2 V c t) cover0_2'

/-! ## Region 0, window 3 -/

theorem k0_pay3_apply (x0 : Vec Ideal S1024x1024 .bf16) (x1 : Vec Ideal S1024x512 .bf16) (j : S1024x512.Idx) :
    k0_pay3 x0 x1 j = max (∑ k : Fin 1024, x0 (ix2 (j 0) k) * x1 (ix2 k (j 1))) 0 * max (∑ k : Fin 1024, x0 (ix2 (j 0) k) * x1 (ix2 k (j 1))) 0 := by
  unfold k0_pay3 k0_pay1
  pointwise

theorem out0_3_apply (x0 : Vec Ideal S1024x1024 .bf16) (x1 : Vec Ideal S1024x512 .bf16) (j : S1024x512.Idx) :
    out0_3 x0 x1 j = max (∑ k : Fin 1024, x0 (ix2 (j 0) k) * x1 (ix2 k (j 1))) 0 * max (∑ k : Fin 1024, x0 (ix2 (j 0) k) * x1 (ix2 k (j 1))) 0 := by
  unfold out0_3
  rw [View.canon_unit_zero hz]
  rw [View.ld_unit_zero (S := S1024x1024) hz, View.ld_unit_zero (S := S1024x512) hz]
  exact k0_pay3_apply x0 x1 j

/-- Every index of the array lies in the block of some point. -/
theorem cover0_3' (i : S4096x4096.Idx) :
    ∃ t : Fin cfg0.N, (cfg0.win 3).flush t = true ∧ i ∈ ((cfg0.win 3).blk t).view.set := by
  have h0 : (i 0).val < 4096 := (i 0).isLt
  have h1 : (i 1).val < 4096 := (i 1).isLt
  have ht : 8 * ((i 0).val / 1024) + (i 1).val / 512 < cfg0.N := lt_of_lt_of_eq (by omega : _ < 32) N_0.symm
  refine ⟨⟨8 * ((i 0).val / 1024) + (i 1).val / 512, ht⟩, flush0_3 _, ?_⟩
  have hi := idx0 ⟨8 * ((i 0).val / 1024) + (i 1).val / 512, ht⟩
  show i ∈ ((View.whole (Pipeline.arrRef spec0 3)).slice (win0_3.rect ⟨8 * ((i 0).val / 1024) + (i 1).val / 512, ht⟩)).set
  rw [View.set_slice_whole, Rect.mem_set_unit]
  intro a
  match a with
  | ⟨0, _⟩ => show win0_3.index ⟨8 * ((i 0).val / 1024) + (i 1).val / 512, ht⟩ 0 * 1024 ≤ (i 0).val ∧ (i 0).val < win0_3.index ⟨8 * ((i 0).val / 1024) + (i 1).val / 512, ht⟩ 0 * 1024 + 1024; rw [hi.2.2.2.2.2.2.1]; dsimp only; omega
  | ⟨1, _⟩ => show win0_3.index ⟨8 * ((i 0).val / 1024) + (i 1).val / 512, ht⟩ 1 * 512 ≤ (i 1).val ∧ (i 1).val < win0_3.index ⟨8 * ((i 0).val / 1024) + (i 1).val / 512, ht⟩ 1 * 512 + 512; rw [hi.2.2.2.2.2.2.2]; dsimp only; omega

/-- What a point writes back is its block of the whole-array function. -/
theorem flushed0_3 (c : Dev nD) (t : Fin cfg0.N) :
    (dat0 V c).flushed 3 t = ((cfg0.win 3).blk t).view.read (Elt Ideal) (hidden (V c main_arg0) (V c main_arg1)) := by
  show (cfg0.win 3).cut (grid0.coords t) ((dat0 V c).after 3 t) = _
  rw [after0_3]
  refine funext fun (j : S1024x512.Idx) => ?_
  refine Eq.trans ?_ (blk0_3 t (hidden (V c main_arg0) (V c main_arg1)) j).symm
  refine (out0_3_apply (iblk0 V c 0 t) (iblk0 V c 1 t) j).trans ?_
  simp only [iblk0_0, iblk0_1]
  rfl

/-- The array this region leaves. -/
theorem final0_3 (c : Dev nD) : (dat0 V c).arrAt 3 cfg0.N = hidden (V c main_arg0) (V c main_arg1) :=
  (dat0 V c).arrAt_eq_of_cover 3 (hidden (V c main_arg0) (V c main_arg1)) (fun t _ => flushed0_3 V c t) cover0_3'

/-! ## Region 1, window 2 -/

theorem k1_pay1_apply (x0 : Vec Ideal S512x4096 .bf16) (x1 : Vec Ideal S4096x512 .bf16) (j : S512x512.Idx) :
    k1_pay1 x0 x1 j = ∑ k : Fin 4096, x0 (ix2 (j 0) k) * x1 (ix2 k (j 1)) := by
  unfold k1_pay1
  pointwise

theorem out1_2_apply (x0 : Vec Ideal S512x4096 .bf16) (x1 : Vec Ideal S4096x512 .bf16) (j : S512x512.Idx) :
    out1_2 x0 x1 j = ∑ k : Fin 4096, x0 (ix2 (j 0) k) * x1 (ix2 k (j 1)) := by
  unfold out1_2
  rw [View.canon_unit_zero hz]
  rw [View.ld_unit_zero (S := S512x4096) hz, View.ld_unit_zero (S := S4096x512) hz]
  exact k1_pay1_apply x0 x1 j

theorem iblk1_0 (c : Dev nD) (t : Fin cfg1.N) (j : S512x4096.Idx) :
    (iblk1 V c 0 t : S512x4096.Idx → EReal) j = (V c (Pipeline.arrRef spec1 0) : S4096x4096.Idx → EReal) (ix2 ⟨512 * (t.val / 2) + (j 0).val, by have h := (j 0).isLt; have ht := lt1 t; change (j 0).val < 512 at h; omega⟩ (j 1)) := blk1_0 t (V c (Pipeline.arrRef spec1 0)) j

theorem iblk1_1 (c : Dev nD) (t : Fin cfg1.N) (j : S4096x512.Idx) :
    (iblk1 V c 1 t : S4096x512.Idx → EReal) j = (V c (Pipeline.arrRef spec1 1) : S4096x1024.Idx → EReal) (ix2 (j 0) ⟨512 * (t.val % 2) + (j 1).val, by have h := (j 1).isLt; have ht := lt1 t; change (j 1).val < 512 at h; omega⟩) := blk1_1 t (V c (Pipeline.arrRef spec1 1)) j

/-- Every index of the array lies in the block of some point. -/
theorem cover1_2' (i : S4096x1024.Idx) :
    ∃ t : Fin cfg1.N, (cfg1.win 2).flush t = true ∧ i ∈ ((cfg1.win 2).blk t).view.set := by
  have h0 : (i 0).val < 4096 := (i 0).isLt
  have h1 : (i 1).val < 1024 := (i 1).isLt
  have ht : 2 * ((i 0).val / 512) + (i 1).val / 512 < cfg1.N := lt_of_lt_of_eq (by omega : _ < 16) N_1.symm
  refine ⟨⟨2 * ((i 0).val / 512) + (i 1).val / 512, ht⟩, flush1_2 _, ?_⟩
  have hi := idx1 ⟨2 * ((i 0).val / 512) + (i 1).val / 512, ht⟩
  show i ∈ ((View.whole (Pipeline.arrRef spec1 2)).slice (win1_2.rect ⟨2 * ((i 0).val / 512) + (i 1).val / 512, ht⟩)).set
  rw [View.set_slice_whole, Rect.mem_set_unit]
  intro a
  match a with
  | ⟨0, _⟩ => show win1_2.index ⟨2 * ((i 0).val / 512) + (i 1).val / 512, ht⟩ 0 * 512 ≤ (i 0).val ∧ (i 0).val < win1_2.index ⟨2 * ((i 0).val / 512) + (i 1).val / 512, ht⟩ 0 * 512 + 512; rw [hi.2.2.2.2.1]; dsimp only; omega
  | ⟨1, _⟩ => show win1_2.index ⟨2 * ((i 0).val / 512) + (i 1).val / 512, ht⟩ 1 * 512 ≤ (i 1).val ∧ (i 1).val < win1_2.index ⟨2 * ((i 0).val / 512) + (i 1).val / 512, ht⟩ 1 * 512 + 512; rw [hi.2.2.2.2.2]; dsimp only; omega

/-- What a point writes back is its block of the whole-array function. -/
theorem flushed1_2 (c : Dev nD) (t : Fin cfg1.N) :
    (dat1 V c).flushed 2 t = ((cfg1.win 2).blk t).view.read (Elt Ideal) (outFn (V c main_v0_1) (V c main_arg2)) := by
  show (cfg1.win 2).cut (grid1.coords t) ((dat1 V c).after 2 t) = _
  rw [after1_2]
  refine funext fun (j : S512x512.Idx) => ?_
  refine Eq.trans ?_ (blk1_2 t (outFn (V c main_v0_1) (V c main_arg2)) j).symm
  refine (out1_2_apply (iblk1 V c 0 t) (iblk1 V c 1 t) j).trans ?_
  simp only [iblk1_0, iblk1_1]
  rfl

/-- The array this region leaves. -/
theorem final1_2 (c : Dev nD) : (dat1 V c).arrAt 2 cfg1.N = outFn (V c main_v0_1) (V c main_arg2) :=
  (dat1 V c).arrAt_eq_of_cover 2 (outFn (V c main_v0_1) (V c main_arg2)) (fun t _ => flushed1_2 V c t) cover1_2'

/-! ## Region 2, window 3 -/

theorem k2_pay1_apply (x0 : Vec Ideal S1024x1024 .bf16) (x1 : Vec Ideal S512x1024 .bf16) (x2 : Vec Ideal S1024x512 .bf16) (j : S1024x512.Idx) :
    k2_pay1 x0 x1 x2 j = (∑ k : Fin 1024, x0 (ix2 (j 0) k) * x1 (ix2 (j 1) k)) * (two * max (x2 j) 0) := by
  unfold k2_pay1
  pointwise
  rfl

theorem out2_3_apply (x0 : Vec Ideal S1024x1024 .bf16) (x1 : Vec Ideal S512x1024 .bf16) (x2 : Vec Ideal S1024x512 .bf16) (j : S1024x512.Idx) :
    out2_3 x0 x1 x2 j = (∑ k : Fin 1024, x0 (ix2 (j 0) k) * x1 (ix2 (j 1) k)) * (two * max (x2 j) 0) := by
  unfold out2_3
  rw [View.canon_unit_zero hz]
  rw [View.ld_unit_zero (S := S1024x1024) hz, View.ld_unit_zero (S := S512x1024) hz, View.ld_unit_zero (S := S1024x512) hz]
  exact k2_pay1_apply x0 x1 x2 j

theorem iblk2_0 (c : Dev nD) (t : Fin cfg2.N) (j : S1024x1024.Idx) :
    (iblk2 V c 0 t : S1024x1024.Idx → EReal) j = (V c (Pipeline.arrRef spec2 0) : S4096x1024.Idx → EReal) (ix2 ⟨1024 * (t.val / 8) + (j 0).val, by have h := (j 0).isLt; have ht := lt2 t; change (j 0).val < 1024 at h; omega⟩ (j 1)) := blk2_0 t (V c (Pipeline.arrRef spec2 0)) j

theorem iblk2_1 (c : Dev nD) (t : Fin cfg2.N) (j : S512x1024.Idx) :
    (iblk2 V c 1 t : S512x1024.Idx → EReal) j = (V c (Pipeline.arrRef spec2 1) : S4096x1024.Idx → EReal) (ix2 ⟨512 * (t.val % 8) + (j 0).val, by have h := (j 0).isLt; have ht := lt2 t; change (j 0).val < 512 at h; omega⟩ (j 1)) := blk2_1 t (V c (Pipeline.arrRef spec2 1)) j

theorem iblk2_2 (c : Dev nD) (t : Fin cfg2.N) (j : S1024x512.Idx) :
    (iblk2 V c 2 t : S1024x512.Idx → EReal) j = (V c (Pipeline.arrRef spec2 2) : S4096x4096.Idx → EReal) (ix2 ⟨1024 * (t.val / 8) + (j 0).val, by have h := (j 0).isLt; have ht := lt2 t; change (j 0).val < 1024 at h; omega⟩ ⟨512 * (t.val % 8) + (j 1).val, by have h := (j 1).isLt; have ht := lt2 t; change (j 1).val < 512 at h; omega⟩) := blk2_2 t (V c (Pipeline.arrRef spec2 2)) j

/-- Every index of the array lies in the block of some point. -/
theorem cover2_3' (i : S4096x4096.Idx) :
    ∃ t : Fin cfg2.N, (cfg2.win 3).flush t = true ∧ i ∈ ((cfg2.win 3).blk t).view.set := by
  have h0 : (i 0).val < 4096 := (i 0).isLt
  have h1 : (i 1).val < 4096 := (i 1).isLt
  have ht : 8 * ((i 0).val / 1024) + (i 1).val / 512 < cfg2.N := lt_of_lt_of_eq (by omega : _ < 32) N_2.symm
  refine ⟨⟨8 * ((i 0).val / 1024) + (i 1).val / 512, ht⟩, flush2_3 _, ?_⟩
  have hi := idx2 ⟨8 * ((i 0).val / 1024) + (i 1).val / 512, ht⟩
  show i ∈ ((View.whole (Pipeline.arrRef spec2 3)).slice (win2_3.rect ⟨8 * ((i 0).val / 1024) + (i 1).val / 512, ht⟩)).set
  rw [View.set_slice_whole, Rect.mem_set_unit]
  intro a
  match a with
  | ⟨0, _⟩ => show win2_3.index ⟨8 * ((i 0).val / 1024) + (i 1).val / 512, ht⟩ 0 * 1024 ≤ (i 0).val ∧ (i 0).val < win2_3.index ⟨8 * ((i 0).val / 1024) + (i 1).val / 512, ht⟩ 0 * 1024 + 1024; rw [hi.2.2.2.2.2.2.1]; dsimp only; omega
  | ⟨1, _⟩ => show win2_3.index ⟨8 * ((i 0).val / 1024) + (i 1).val / 512, ht⟩ 1 * 512 ≤ (i 1).val ∧ (i 1).val < win2_3.index ⟨8 * ((i 0).val / 1024) + (i 1).val / 512, ht⟩ 1 * 512 + 512; rw [hi.2.2.2.2.2.2.2]; dsimp only; omega

/-- What a point writes back is its block of the whole-array function. -/
theorem flushed2_3 (c : Dev nD) (t : Fin cfg2.N) :
    (dat2 V c).flushed 3 t = ((cfg2.win 3).blk t).view.read (Elt Ideal) (dzFn (V c main_arg3) (V c main_arg2) (V c main_v0_0)) := by
  show (cfg2.win 3).cut (grid2.coords t) ((dat2 V c).after 3 t) = _
  rw [after2_3]
  refine funext fun (j : S1024x512.Idx) => ?_
  refine Eq.trans ?_ (blk2_3 t (dzFn (V c main_arg3) (V c main_arg2) (V c main_v0_0)) j).symm
  refine (out2_3_apply (iblk2 V c 0 t) (iblk2 V c 1 t) (iblk2 V c 2 t) j).trans ?_
  simp only [iblk2_0, iblk2_1, iblk2_2]
  rfl

/-- The array this region leaves. -/
theorem final2_3 (c : Dev nD) : (dat2 V c).arrAt 3 cfg2.N = dzFn (V c main_arg3) (V c main_arg2) (V c main_v0_0) :=
  (dat2 V c).arrAt_eq_of_cover 3 (dzFn (V c main_arg3) (V c main_arg2) (V c main_v0_0)) (fun t _ => flushed2_3 V c t) cover2_3'

/-! ## Region 3, window 2 -/

theorem k3_pay1_apply (x0 : Vec Ideal S4096x512 .bf16) (x1 : Vec Ideal S4096x512 .bf16) (j : S512x512.Idx) :
    k3_pay1 x0 x1 j = ∑ k : Fin 4096, x0 (ix2 k (j 0)) * x1 (ix2 k (j 1)) := by
  unfold k3_pay1
  pointwise

theorem out3_2_apply (x0 : Vec Ideal S4096x512 .bf16) (x1 : Vec Ideal S4096x512 .bf16) (j : S512x512.Idx) :
    out3_2 x0 x1 j = ∑ k : Fin 4096, x0 (ix2 k (j 0)) * x1 (ix2 k (j 1)) := by
  unfold out3_2
  rw [View.canon_unit_zero hz]
  rw [View.ld_unit_zero (S := S4096x512) hz, View.ld_unit_zero (S := S4096x512) hz]
  exact k3_pay1_apply x0 x1 j

theorem iblk3_0 (c : Dev nD) (t : Fin cfg3.N) (j : S4096x512.Idx) :
    (iblk3 V c 0 t : S4096x512.Idx → EReal) j = (V c (Pipeline.arrRef spec3 0) : S4096x4096.Idx → EReal) (ix2 (j 0) ⟨512 * (t.val / 2) + (j 1).val, by have h := (j 1).isLt; have ht := lt3 t; change (j 1).val < 512 at h; omega⟩) := blk3_0 t (V c (Pipeline.arrRef spec3 0)) j

theorem iblk3_1 (c : Dev nD) (t : Fin cfg3.N) (j : S4096x512.Idx) :
    (iblk3 V c 1 t : S4096x512.Idx → EReal) j = (V c (Pipeline.arrRef spec3 1) : S4096x1024.Idx → EReal) (ix2 (j 0) ⟨512 * (t.val % 2) + (j 1).val, by have h := (j 1).isLt; have ht := lt3 t; change (j 1).val < 512 at h; omega⟩) := blk3_1 t (V c (Pipeline.arrRef spec3 1)) j

/-- Every index of the array lies in the block of some point. -/
theorem cover3_2' (i : S4096x1024.Idx) :
    ∃ t : Fin cfg3.N, (cfg3.win 2).flush t = true ∧ i ∈ ((cfg3.win 2).blk t).view.set := by
  have h0 : (i 0).val < 4096 := (i 0).isLt
  have h1 : (i 1).val < 1024 := (i 1).isLt
  have ht : 2 * ((i 0).val / 512) + (i 1).val / 512 < cfg3.N := lt_of_lt_of_eq (by omega : _ < 16) N_3.symm
  refine ⟨⟨2 * ((i 0).val / 512) + (i 1).val / 512, ht⟩, flush3_2 _, ?_⟩
  have hi := idx3 ⟨2 * ((i 0).val / 512) + (i 1).val / 512, ht⟩
  show i ∈ ((View.whole (Pipeline.arrRef spec3 2)).slice (win3_2.rect ⟨2 * ((i 0).val / 512) + (i 1).val / 512, ht⟩)).set
  rw [View.set_slice_whole, Rect.mem_set_unit]
  intro a
  match a with
  | ⟨0, _⟩ => show win3_2.index ⟨2 * ((i 0).val / 512) + (i 1).val / 512, ht⟩ 0 * 512 ≤ (i 0).val ∧ (i 0).val < win3_2.index ⟨2 * ((i 0).val / 512) + (i 1).val / 512, ht⟩ 0 * 512 + 512; rw [hi.2.2.2.2.1]; dsimp only; omega
  | ⟨1, _⟩ => show win3_2.index ⟨2 * ((i 0).val / 512) + (i 1).val / 512, ht⟩ 1 * 512 ≤ (i 1).val ∧ (i 1).val < win3_2.index ⟨2 * ((i 0).val / 512) + (i 1).val / 512, ht⟩ 1 * 512 + 512; rw [hi.2.2.2.2.2]; dsimp only; omega

/-- What a point writes back is its block of the whole-array function. -/
theorem flushed3_2 (c : Dev nD) (t : Fin cfg3.N) :
    (dat3 V c).flushed 2 t = ((cfg3.win 2).blk t).view.read (Elt Ideal) (dw2Fn (V c main_v0_1) (V c main_arg3)) := by
  show (cfg3.win 2).cut (grid3.coords t) ((dat3 V c).after 2 t) = _
  rw [after3_2]
  refine funext fun (j : S512x512.Idx) => ?_
  refine Eq.trans ?_ (blk3_2 t (dw2Fn (V c main_v0_1) (V c main_arg3)) j).symm
  refine (out3_2_apply (iblk3 V c 0 t) (iblk3 V c 1 t) j).trans ?_
  simp only [iblk3_0, iblk3_1]
  rfl

/-- The array this region leaves. -/
theorem final3_2 (c : Dev nD) : (dat3 V c).arrAt 2 cfg3.N = dw2Fn (V c main_v0_1) (V c main_arg3) :=
  (dat3 V c).arrAt_eq_of_cover 2 (dw2Fn (V c main_v0_1) (V c main_arg3)) (fun t _ => flushed3_2 V c t) cover3_2'

/-! ## Region 4, window 2 -/

theorem k4_pay1_apply (x0 : Vec Ideal S4096x512 .bf16) (x1 : Vec Ideal S4096x512 .bf16) (j : S1x512x512.Idx) :
    k4_pay1 x0 x1 j = ∑ k : Fin 4096, x0 (ix2 k (j 1)) * x1 (ix2 k (j 2)) := by
  unfold k4_pay1
  pointwise

theorem out4_2_apply (x0 : Vec Ideal S4096x512 .bf16) (x1 : Vec Ideal S4096x512 .bf16) (j : S1x512x512.Idx) :
    out4_2 x0 x1 j = ∑ k : Fin 4096, x0 (ix2 k (j 1)) * x1 (ix2 k (j 2)) := by
  unfold out4_2
  rw [View.canon_unit_zero hz3]
  rw [View.ld_unit_zero (S := S4096x512) hz, View.ld_unit_zero (S := S4096x512) hz]
  exact k4_pay1_apply x0 x1 j

theorem iblk4_0 (c : Dev nD) (t : Fin cfg4.N) (j : S4096x512.Idx) :
    (iblk4 V c 0 t : S4096x512.Idx → EReal) j = (V c (Pipeline.arrRef spec4 0) : S4096x1024.Idx → EReal) (ix2 (j 0) ⟨512 * (t.val / 8) + (j 1).val, by have h := (j 1).isLt; have ht := lt4 t; change (j 1).val < 512 at h; omega⟩) := blk4_0 t (V c (Pipeline.arrRef spec4 0)) j

theorem iblk4_1 (c : Dev nD) (t : Fin cfg4.N) (j : S4096x512.Idx) :
    (iblk4 V c 1 t : S4096x512.Idx → EReal) j = (V c (Pipeline.arrRef spec4 1) : S4096x4096.Idx → EReal) (ix2 (j 0) ⟨512 * (t.val % 8) + (j 1).val, by have h := (j 1).isLt; have ht := lt4 t; change (j 1).val < 512 at h; omega⟩) := blk4_1 t (V c (Pipeline.arrRef spec4 1)) j

/-- Every index of the array lies in the block of some point. -/
theorem cover4_2' (i : S8x1024x512.Idx) :
    ∃ t : Fin cfg4.N, (cfg4.win 2).flush t = true ∧ i ∈ ((cfg4.win 2).blk t).view.set := by
  have h0 : (i 0).val < 8 := (i 0).isLt
  have h1 : (i 1).val < 1024 := (i 1).isLt
  have h2 : (i 2).val < 512 := (i 2).isLt
  have ht : 8 * ((i 1).val / 512) + (i 0).val < cfg4.N := lt_of_lt_of_eq (by omega : _ < 16) N_4.symm
  refine ⟨⟨8 * ((i 1).val / 512) + (i 0).val, ht⟩, flush4_2 _, ?_⟩
  have hi := idx4 ⟨8 * ((i 1).val / 512) + (i 0).val, ht⟩
  show i ∈ ((View.whole (Pipeline.arrRef spec4 2)).slice (win4_2.rect ⟨8 * ((i 1).val / 512) + (i 0).val, ht⟩)).set
  rw [View.set_slice_whole, Rect.mem_set_unit]
  intro a
  match a with
  | ⟨0, _⟩ => show win4_2.index ⟨8 * ((i 1).val / 512) + (i 0).val, ht⟩ 0 * 1 ≤ (i 0).val ∧ (i 0).val < win4_2.index ⟨8 * ((i 1).val / 512) + (i 0).val, ht⟩ 0 * 1 + 1; rw [hi.2.2.2.2.1]; dsimp only; omega
  | ⟨1, _⟩ => show win4_2.index ⟨8 * ((i 1).val / 512) + (i 0).val, ht⟩ 1 * 512 ≤ (i 1).val ∧ (i 1).val < win4_2.index ⟨8 * ((i 1).val / 512) + (i 0).val, ht⟩ 1 * 512 + 512; rw [hi.2.2.2.2.2.1]; dsimp only; omega
  | ⟨2, _⟩ => show win4_2.index ⟨8 * ((i 1).val / 512) + (i 0).val, ht⟩ 2 * 512 ≤ (i 2).val ∧ (i 2).val < win4_2.index ⟨8 * ((i 1).val / 512) + (i 0).val, ht⟩ 2 * 512 + 512; rw [hi.2.2.2.2.2.2]; dsimp only; omega

/-- What a point writes back is its block of the whole-array function. -/
theorem flushed4_2 (c : Dev nD) (t : Fin cfg4.N) :
    (dat4 V c).flushed 2 t = ((cfg4.win 2).blk t).view.read (Elt Ideal) (dw1Fn (V c main_arg0) (V c main_v2)) := by
  show (cfg4.win 2).cut (grid4.coords t) ((dat4 V c).after 2 t) = _
  rw [after4_2]
  refine funext fun (j : S1x512x512.Idx) => ?_
  refine Eq.trans ?_ (blk4_2 t (dw1Fn (V c main_arg0) (V c main_v2)) j).symm
  refine (out4_2_apply (iblk4 V c 0 t) (iblk4 V c 1 t) j).trans ?_
  simp only [iblk4_0, iblk4_1]
  refine Finset.sum_congr rfl fun k _ => congrArg₂ (· * ·) rfl (congrArg (V c main_v2) (congrArg (ix2 k) (Fin.ext ?_)))
  have h0 : (j 0).val < 1 := (j 0).isLt
  show 512 * (t.val % 8) + (j 2).val = 512 * (1 * (t.val % 8) + (j 0).val) + (j 2).val
  omega

/-- The array this region leaves. -/
theorem final4_2 (c : Dev nD) : (dat4 V c).arrAt 2 cfg4.N = dw1Fn (V c main_arg0) (V c main_v2) :=
  (dat4 V c).arrAt_eq_of_cover 2 (dw1Fn (V c main_arg0) (V c main_v2)) (fun t _ => flushed4_2 V c t) cover4_2'

/-! ## Region 5, window 2 -/

theorem k5_pay1_apply (x0 : Vec Ideal S512x4096 .bf16) (x1 : Vec Ideal S512x4096 .bf16) (j : S512x512.Idx) :
    k5_pay1 x0 x1 j = ∑ k : Fin 4096, x0 (ix2 (j 0) k) * x1 (ix2 (j 1) k) := by
  unfold k5_pay1
  pointwise

theorem out5_2_apply (x0 : Vec Ideal S512x4096 .bf16) (x1 : Vec Ideal S512x4096 .bf16) (j : S512x512.Idx) :
    out5_2 x0 x1 j = ∑ k : Fin 4096, x0 (ix2 (j 0) k) * x1 (ix2 (j 1) k) := by
  unfold out5_2
  rw [View.canon_unit_zero hz]
  rw [View.ld_unit_zero (S := S512x4096) hz, View.ld_unit_zero (S := S512x4096) hz]
  exact k5_pay1_apply x0 x1 j

theorem iblk5_0 (c : Dev nD) (t : Fin cfg5.N) (j : S512x4096.Idx) :
    (iblk5 V c 0 t : S512x4096.Idx → EReal) j = (V c (Pipeline.arrRef spec5 0) : S4096x4096.Idx → EReal) (ix2 ⟨512 * (t.val / 2) + (j 0).val, by have h := (j 0).isLt; have ht := lt5 t; change (j 0).val < 512 at h; omega⟩ (j 1)) := blk5_0 t (V c (Pipeline.arrRef spec5 0)) j

theorem iblk5_1 (c : Dev nD) (t : Fin cfg5.N) (j : S512x4096.Idx) :
    (iblk5 V c 1 t : S512x4096.Idx → EReal) j = (V c (Pipeline.arrRef spec5 1) : S1024x4096.Idx → EReal) (ix2 ⟨512 * (t.val % 2) + (j 0).val, by have h := (j 0).isLt; have ht := lt5 t; change (j 0).val < 512 at h; omega⟩ (j 1)) := blk5_1 t (V c (Pipeline.arrRef spec5 1)) j

/-- Every index of the array lies in the block of some point. -/
theorem cover5_2' (i : S4096x1024.Idx) :
    ∃ t : Fin cfg5.N, (cfg5.win 2).flush t = true ∧ i ∈ ((cfg5.win 2).blk t).view.set := by
  have h0 : (i 0).val < 4096 := (i 0).isLt
  have h1 : (i 1).val < 1024 := (i 1).isLt
  have ht : 2 * ((i 0).val / 512) + (i 1).val / 512 < cfg5.N := lt_of_lt_of_eq (by omega : _ < 16) N_5.symm
  refine ⟨⟨2 * ((i 0).val / 512) + (i 1).val / 512, ht⟩, flush5_2 _, ?_⟩
  have hi := idx5 ⟨2 * ((i 0).val / 512) + (i 1).val / 512, ht⟩
  show i ∈ ((View.whole (Pipeline.arrRef spec5 2)).slice (win5_2.rect ⟨2 * ((i 0).val / 512) + (i 1).val / 512, ht⟩)).set
  rw [View.set_slice_whole, Rect.mem_set_unit]
  intro a
  match a with
  | ⟨0, _⟩ => show win5_2.index ⟨2 * ((i 0).val / 512) + (i 1).val / 512, ht⟩ 0 * 512 ≤ (i 0).val ∧ (i 0).val < win5_2.index ⟨2 * ((i 0).val / 512) + (i 1).val / 512, ht⟩ 0 * 512 + 512; rw [hi.2.2.2.2.1]; dsimp only; omega
  | ⟨1, _⟩ => show win5_2.index ⟨2 * ((i 0).val / 512) + (i 1).val / 512, ht⟩ 1 * 512 ≤ (i 1).val ∧ (i 1).val < win5_2.index ⟨2 * ((i 0).val / 512) + (i 1).val / 512, ht⟩ 1 * 512 + 512; rw [hi.2.2.2.2.2]; dsimp only; omega

/-- What a point writes back is its block of the whole-array function. -/
theorem flushed5_2 (c : Dev nD) (t : Fin cfg5.N) :
    (dat5 V c).flushed 2 t = ((cfg5.win 2).blk t).view.read (Elt Ideal) (dhFn (V c main_v2) (V c main_arg1)) := by
  show (cfg5.win 2).cut (grid5.coords t) ((dat5 V c).after 2 t) = _
  rw [after5_2]
  refine funext fun (j : S512x512.Idx) => ?_
  refine Eq.trans ?_ (blk5_2 t (dhFn (V c main_v2) (V c main_arg1)) j).symm
  refine (out5_2_apply (iblk5 V c 0 t) (iblk5 V c 1 t) j).trans ?_
  simp only [iblk5_0, iblk5_1]
  rfl

/-- The array this region leaves. -/
theorem final5_2 (c : Dev nD) : (dat5 V c).arrAt 2 cfg5.N = dhFn (V c main_v2) (V c main_arg1) :=
  (dat5 V c).arrAt_eq_of_cover 2 (dhFn (V c main_v2) (V c main_arg1)) (fun t _ => flushed5_2 V c t) cover5_2'

end Cert.Kernel3Ideal.RefValue
-- ==== Proof.MlpRun.lean ====
/-
The feed-forward layer: the run of the six calls, and what it leaves in the results.
-/
module

public import proofs.«01_k».proof.Proof.MlpArrays
public import Idealize.ShloMosaic.Lib.Quiescent

@[expose] public section

set_option maxRecDepth 16384

noncomputable section

namespace Cert.Kernel3Ideal.RefValue

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

section Any
variable {F : FTy → Type} [FloatOps F]
variable (m : (ℓ : Loc nD τ sig) → Buf (Elt F) ℓ) (ρ : Dev nD → PrngReg)

local notation "𝕄" => MT nD τ sig Unit (Elt F) ℕ (UR sig nD τ) ℕ

set_option backward.isDefEq.respectTransparency.types false in
/-- The whole program runs from any memory with zero counters, and every buffer of the TensorCore ends at the contents that
    the six regions leave in turn (`W6`). -/
theorem run_bufs : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h _ => h)

end Any

section AtIdeal
variable (m : (ℓ : Loc nD τ sig) → Buf (Elt Ideal) ℓ) (ρ : Dev nD → PrngReg)

/-- The first call's arrays, as the later calls find them. -/
theorem V1_z (c : Dev nD) : V1 m ρ c main_v0_0 = preAct (m ((c : Thread nD τ).loc main_arg0)) (m ((c : Thread nD τ).loc main_arg1)) :=
  (W1_arr m ρ c 2).trans (final0_2 (V0 m ρ) c)
theorem V1_a (c : Dev nD) : V1 m ρ c main_v0_1 = hidden (m ((c : Thread nD τ).loc main_arg0)) (m ((c : Thread nD τ).loc main_arg1)) :=
  (W1_arr m ρ c 3).trans (final0_3 (V0 m ρ) c)

theorem V2_z (c : Dev nD) : V2 m ρ c main_v0_0 = V1 m ρ c main_v0_0 := W2_of m ρ c main_v0_0 (by decide +kernel)
theorem V3_a (c : Dev nD) : V3 m ρ c main_v0_1 = V1 m ρ c main_v0_1 :=
  (W3_of m ρ c main_v0_1 (by decide +kernel)).trans (W2_of m ρ c main_v0_1 (by decide +kernel))

theorem V1_arg (c : Dev nD) : ∀ a ∈ argRefs, V1 m ρ c a = m ((c : Thread nD τ).loc a) := fun a ha => W1_args m ρ c a ha
theorem V2_arg (c : Dev nD) : ∀ a ∈ argRefs, V2 m ρ c a = m ((c : Thread nD τ).loc a) := fun a ha => W2_args m ρ c a ha
theorem V3_arg (c : Dev nD) : ∀ a ∈ argRefs, V3 m ρ c a = m ((c : Thread nD τ).loc a) := fun a ha => W3_args m ρ c a ha
theorem V4_arg (c : Dev nD) : ∀ a ∈ argRefs, V4 m ρ c a = m ((c : Thread nD τ).loc a) := fun a ha => W4_args m ρ c a ha
theorem V5_arg (c : Dev nD) : ∀ a ∈ argRefs, V5 m ρ c a = m ((c : Thread nD τ).loc a) := fun a ha => W5_args m ρ c a ha

/-- The gradient of the pre-activation, as the third call leaves it. -/
theorem V3_dz (c : Dev nD) : V3 m ρ c main_v2 = dzFn (m ((c : Thread nD τ).loc main_arg3)) (m ((c : Thread nD τ).loc main_arg2))
    (preAct (m ((c : Thread nD τ).loc main_arg0)) (m ((c : Thread nD τ).loc main_arg1))) := by
  refine (W3_arr m ρ c 3).trans ((final2_3 (V2 m ρ) c).trans ?_)
  rw [V2_z, V1_z, V2_arg m ρ c main_arg3 (by decide), V2_arg m ρ c main_arg2 (by decide)]
theorem V4_dz (c : Dev nD) : V4 m ρ c main_v2 = V3 m ρ c main_v2 := W4_of m ρ c main_v2 (by decide +kernel)
theorem V5_dz (c : Dev nD) : V5 m ρ c main_v2 = V3 m ρ c main_v2 :=
  (W5_of m ρ c main_v2 (by decide +kernel)).trans (V4_dz m ρ c)

/-- The layer's output at the end of the program. -/
theorem W6_out (c : Dev nD) : W6 m ρ c main_v1 = outFn (hidden (m ((c : Thread nD τ).loc main_arg0)) (m ((c : Thread nD τ).loc main_arg1)))
    (m ((c : Thread nD τ).loc main_arg2)) := by
  refine (W6_of m ρ c main_v1 (by decide +kernel)).trans ((W5_of m ρ c main_v1 (by decide +kernel)).trans
    ((W4_of m ρ c main_v1 (by decide +kernel)).trans ((W3_of m ρ c main_v1 (by decide +kernel)).trans
    ((W2_arr m ρ c 2).trans ((final1_2 (V1 m ρ) c).trans ?_)))))
  rw [V1_a, V1_arg m ρ c main_arg2 (by decide)]
/-- The second weight's gradient at the end of the program. -/
theorem W6_dw2 (c : Dev nD) : W6 m ρ c main_v3 = dw2Fn (hidden (m ((c : Thread nD τ).loc main_arg0)) (m ((c : Thread nD τ).loc main_arg1)))
    (m ((c : Thread nD τ).loc main_arg3)) := by
  refine (W6_of m ρ c main_v3 (by decide +kernel)).trans ((W5_of m ρ c main_v3 (by decide +kernel)).trans
    ((W4_arr m ρ c 2).trans ((final3_2 (V3 m ρ) c).trans ?_)))
  rw [V3_a, V1_a, V3_arg m ρ c main_arg3 (by decide)]
/-- The first weight's gradient at the end of the program. -/
theorem W6_dw1 (c : Dev nD) : W6 m ρ c main_v4 = dw1Fn (m ((c : Thread nD τ).loc main_arg0))
    (dzFn (m ((c : Thread nD τ).loc main_arg3)) (m ((c : Thread nD τ).loc main_arg2))
      (preAct (m ((c : Thread nD τ).loc main_arg0)) (m ((c : Thread nD τ).loc main_arg1)))) := by
  refine (W6_of m ρ c main_v4 (by decide +kernel)).trans ((W5_arr m ρ c 2).trans ((final4_2 (V4 m ρ) c).trans ?_))
  rw [V4_dz, V3_dz, V4_arg m ρ c main_arg0 (by decide)]
/-- The activations' gradient at the end of the program. -/
theorem W6_dh (c : Dev nD) : W6 m ρ c main_v5 = dhFn
    (dzFn (m ((c : Thread nD τ).loc main_arg3)) (m ((c : Thread nD τ).loc main_arg2))
      (preAct (m ((c : Thread nD τ).loc main_arg0)) (m ((c : Thread nD τ).loc main_arg1)))) (m ((c : Thread nD τ).loc main_arg1)) := by
  refine (W6_arr m ρ c 2).trans ((final5_2 (V5 m ρ) c).trans ?_)
  rw [V5_dz, V3_dz, V5_arg m ρ c main_arg1 (by decide)]

/-- The run, read: the four results at the whole-array functions of the arguments, the arguments unchanged. -/
theorem run : θ_run defs (onTc (τ := τ) (main (F := Ideal))) ⟨m, fun _ => 0, ρ⟩ (fun r => ∀ c : Dev nD,
      r.2.mem ((c : Thread nD τ).loc main_v1) = outFn (hidden (m ((c : Thread nD τ).loc main_arg0)) (m ((c : Thread nD τ).loc main_arg1)))
          (m ((c : Thread nD τ).loc main_arg2))
      ∧ r.2.mem ((c : Thread nD τ).loc main_v5) = dhFn
          (dzFn (m ((c : Thread nD τ).loc main_arg3)) (m ((c : Thread nD τ).loc main_arg2))
            (preAct (m ((c : Thread nD τ).loc main_arg0)) (m ((c : Thread nD τ).loc main_arg1)))) (m ((c : Thread nD τ).loc main_arg1))
      ∧ r.2.mem ((c : Thread nD τ).loc main_v4) = dw1Fn (m ((c : Thread nD τ).loc main_arg0))
          (dzFn (m ((c : Thread nD τ).loc main_arg3)) (m ((c : Thread nD τ).loc main_arg2))
            (preAct (m ((c : Thread nD τ).loc main_arg0)) (m ((c : Thread nD τ).loc main_arg1))))
      ∧ r.2.mem ((c : Thread nD τ).loc main_v3) = dw2Fn (hidden (m ((c : Thread nD τ).loc main_arg0)) (m ((c : Thread nD τ).loc main_arg1)))
          (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) :=
  (θ_run defs _ _).mono (fun _ h c =>
    ⟨(h c _ (mem_uc main_v1 (by decide))).trans (W6_out m ρ c),
     (h c _ (mem_uc main_v5 (by decide))).trans (W6_dh m ρ c),
     (h c _ (mem_uc main_v4 (by decide))).trans (W6_dw1 m ρ c),
     (h c _ (mem_uc main_v3 (by decide))).trans (W6_dw2 m ρ c),
     (h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c),
     (h c _ (mem_uc main_arg3 (by decide))).trans (W6_main_arg3 m ρ c)⟩)
    (run_bufs m ρ)

end AtIdeal

end Cert.Kernel3Ideal.RefValue
-- ==== Proof.Products.lean ====
/-
Matrix products on the extended reals in the three orders that a linear map and its gradients take, written as sums.
-/
module

public import Idealize.ShloMosaic.PureOps
public import Idealize.ShloMosaic.Lib.Pointwise
public import Idealize.ShloMosaic.Lib.ValueIdxCore

@[expose] public section

set_option maxRecDepth 16384

noncomputable section

namespace Cert.Products

open Idealize.ShloMosaic

/-- A matrix of extended reals. -/
abbrev Mat (a b : Nat) := Shape.Idx ⟨2, ![a, b]⟩ → EReal

/-- Rows times columns. -/
def nn {a k b : Nat} (x : Mat a k) (y : Mat k b) : Mat a b :=
  fun i => ∑ q : Fin k, x (ix2 (n0 := a) (n1 := k) (i 0) q) * y (ix2 (n0 := k) (n1 := b) q (i 1))

/-- Rows times rows: the second factor is transposed. -/
def nt {a k b : Nat} (x : Mat a k) (y : Mat b k) : Mat a b :=
  fun i => ∑ q : Fin k, x (ix2 (n0 := a) (n1 := k) (i 0) q) * y (ix2 (n0 := b) (n1 := k) (i 1) q)

/-- Columns times columns: the first factor is transposed. -/
def tn {a k b : Nat} (x : Mat k a) (y : Mat k b) : Mat a b :=
  fun i => ∑ q : Fin k, x (ix2 (n0 := k) (n1 := a) q (i 0)) * y (ix2 (n0 := k) (n1 := b) q (i 1))

/-- A row added to every row. -/
def addRow {a b : Nat} (x : Mat a b) (r : Mat 1 b) : Mat a b := fun i => x i + r (ix2 (n0 := 1) (n1 := b) 0 (i 1))

/-- The columns of a matrix in eight slots of 256. -/
def slots (y : Mat 1024 2048) : Shape.Idx ⟨3, ![8, 1024, 256]⟩ → EReal :=
  fun i => y (ix2 (n0 := 1024) (n1 := 2048) (i 1) ⟨256 * (i 0).val + (i 2).val, by
    have h0 : (i 0).val < 8 := (i 0).isLt; have h2 : (i 2).val < 256 := (i 2).isLt; omega⟩)

/-- A function of a two-axis index at an index given by its coordinates. -/
theorem at2 {n0 n1 : Nat} (f : Mat n0 n1) (x : Shape.Idx ⟨2, ![n0, n1]⟩) (a : Fin n0) (b : Fin n1)
    (ha : (x 0).val = a.val) (hb : (x 1).val = b.val) : f x = f (ix2 a b) := by
  congr 1
  funext d
  match d with
  | ⟨0, _⟩ => exact Fin.ext ha
  | ⟨1, _⟩ => exact Fin.ext hb

/-- The same for a product of two functions. -/
theorem prod2 {n0 n1 n2 n3 : Nat} (f : Mat n0 n1) (g : Mat n2 n3) (x y) (a b) (a' b')
    (ha : (x 0).val = a.val) (hb : (x 1).val = b.val) (ha' : (y 0).val = a'.val) (hb' : (y 1).val = b'.val) :
    f x * g y = f (ix2 a b) * g (ix2 a' b') := congrArg₂ (· * ·) (at2 f x a b ha hb) (at2 g y a' b' ha' hb')

end Cert.Products

end
-- ==== Proof.MlpReference.lean ====
/-
The feed-forward layer's reference: each of its results is the function that the kernel computes.
-/
module

public import proofs.«01_k».proof.Proof.MlpRun
public import proofs.«01_k».proof.Proof.Products
public import proofs.«01_k».proof.Proof.Gen.Reference3Ideal.Read

@[expose] public section

set_option maxRecDepth 16384

noncomputable section

namespace Cert.Reference3Ideal.RefValue

open Cert.Reference3Ideal Cert.Reference3Ideal.Read
open Idealize.ShloMosaic Idealize.ShloMosaic.TcCoe Idealize.SL.Sem
open Cert.Products (at2 prod2)
open Cert.Kernel3Ideal.RefValue (preAct hidden outFn dzFn dw2Fn dw1Fn dhFn two)

abbrev A (s : Shape) := s.Idx → EReal

/-- The reference's pre-activation. -/
theorem z_eq (h : A S4096x1024) (w1 : A S1024x4096) : val_main_v4 (F := Ideal) h w1 = preAct h w1 := by
  funext i
  rw [val_main_v4_apply]
  exact Finset.sum_congr rfl fun k _ => prod2 h w1 _ _ (i 0) k k (i 1) rfl rfl rfl rfl

/-- The rectified pre-activation. -/
theorem relu_eq (h : A S4096x1024) (w1 : A S1024x4096) (i : S4096x4096.Idx) :
    val_main_v5 (F := Ideal) h w1 i = max (preAct h w1 i) 0 := by
  rw [val_main_v5_apply, val_main_call0_v0_apply, val_main_call0_cst_apply, z_eq]
  exact congrArg (max (preAct h w1 i)) Ideal.ofBits_zero_f32

/-- Its square. -/
theorem hidden_eq (h : A S4096x1024) (w1 : A S1024x4096) : val_main_v9 (F := Ideal) h w1 = hidden h w1 := by
  funext i
  rw [val_main_v9_apply, relu_eq]
  rfl

/-- The layer's output. -/
theorem out_eq (h : A S4096x1024) (w1 : A S1024x4096) (w2 : A S4096x1024) :
    val_main_v12 (F := Ideal) h w1 w2 = outFn (hidden h w1) w2 := by
  funext i
  rw [val_main_v12_apply, hidden_eq]
  exact Finset.sum_congr rfl fun k _ => prod2 (hidden h w1) w2 _ _ (i 0) k k (i 1) rfl rfl rfl rfl

/-- The second weight's gradient. -/
theorem dw2_eq (h : A S4096x1024) (w1 : A S1024x4096) (dy : A S4096x1024) :
    val_main_v25 (F := Ideal) h w1 dy = dw2Fn (hidden h w1) dy := by
  funext i
  rw [val_main_v25_apply]
  show val_main_v14 (F := Ideal) h w1 dy i = _
  rw [val_main_v14_apply, val_main_v13_apply, hidden_eq]
  refine Finset.sum_congr rfl fun k _ => ?_
  rw [mul_comm]
  exact prod2 (hidden h w1) dy _ _ k (i 0) k (i 1) rfl rfl rfl rfl

/-- The gradient of the pre-activation: where the pre-activation is not positive, both sides are zero. -/
theorem dz_eq (h : A S4096x1024) (w1 : A S1024x4096) (w2 dy : A S4096x1024) :
    val_main_v18 (F := Ideal) h w1 w2 dy = dzFn dy w2 (preAct h w1) := by
  funext i
  rw [val_main_v18_apply, val_main_v7_apply, val_main_v16_apply, val_main_v17_apply, val_main_v6_apply, val_main_v11_apply,
    val_main_v10_apply, relu_eq, z_eq, val_main_v15_apply, val_main_cst_apply, val_main_cst_1_apply, val_main_cst_2_apply]
  have hs : ∑ k : Fin 1024, val_main_v3 (F := Ideal) dy (lidx_main_v15 i k) * val_main_v2 (F := Ideal) w2 (ridx_main_v15 i k)
      = ∑ k : Fin 1024, dy (ix2 (i 0) k) * w2 (ix2 (i 1) k) :=
    Finset.sum_congr rfl fun k _ => prod2 dy w2 _ _ (i 0) k (i 1) k rfl rfl rfl rfl
  rw [hs]
  unfold dzFn
  generalize (∑ k : Fin 1024, dy (ix2 (i 0) k) * w2 (ix2 (i 1) k)) = s
  generalize preAct h w1 i = z
  show Scalar.select (FloatOps.cmpf (F := Ideal) (φ := .f32) .ogt z (Ideal.ofBits .f32 0x00000000#32)) (s * (two * max z 0)) (Ideal.ofBits .f32 0x00000000#32) = s * (two * max z 0)
  rw [Ideal.ofBits_zero_f32]
  by_cases hz : 0 < z
  · have hc : FloatOps.cmpf (F := Ideal) (φ := .f32) .ogt z 0 = 1#1 := by simp [FloatOps.cmpf, Ideal.cmp, hz]
    rw [hc]; simp [Scalar.select]
  · have hc : FloatOps.cmpf (F := Ideal) (φ := .f32) .ogt z 0 = 0#1 := by simp [FloatOps.cmpf, Ideal.cmp, hz]
    rw [hc, max_eq_right (not_lt.mp hz)]; simp [Scalar.select]

/-- The first weight's gradient, in its eight slots. -/
theorem dw1_eq (h : A S4096x1024) (w1 : A S1024x4096) (w2 dy : A S4096x1024) :
    val_main_v24 (F := Ideal) h w1 w2 dy = dw1Fn h (dzFn dy w2 (preAct h w1)) := by
  funext i
  rw [val_main_v24_apply]
  show val_main_v23 (F := Ideal) h w1 w2 dy i = _
  rw [val_main_v23_apply, val_main_v22_apply, val_main_v20_apply, val_main_v19_apply, dz_eq]
  refine Finset.sum_congr rfl fun k _ => ?_
  rw [mul_comm]
  have h0 : (i 0).val < 8 := (i 0).isLt
  have h1 : (i 1).val < 1024 := (i 1).isLt
  have h2 : (i 2).val < 512 := (i 2).isLt
  refine prod2 h (dzFn dy w2 (preAct h w1)) _ _ k (i 1) k ⟨512 * (i 0).val + (i 2).val, by omega⟩ rfl ?_ rfl ?_
  · show (((i 1).val * 8 + (i 0).val) * 512 + (i 2).val) / 4096 = (i 1).val
    omega
  · show (((i 1).val * 8 + (i 0).val) * 512 + (i 2).val) % 4096 = 512 * (i 0).val + (i 2).val
    omega

/-- The activations' gradient. -/
theorem dh_eq (h : A S4096x1024) (w1 : A S1024x4096) (w2 dy : A S4096x1024) :
    val_main_v21 (F := Ideal) h w1 w2 dy = dhFn (dzFn dy w2 (preAct h w1)) w1 := by
  funext i
  rw [val_main_v21_apply, dz_eq]
  exact Finset.sum_congr rfl fun k _ => prod2 (dzFn dy w2 (preAct h w1)) w1 _ _ (i 0) k (i 1) k rfl rfl rfl rfl

end Cert.Reference3Ideal.RefValue
-- ==== Proof.Mlp.lean ====
/-
The feed-forward layer and its gradient: the run of the reference, and the claims about the two programs.
-/
module

public import proofs.«01_k».proof.Defs
public import proofs.«01_k».proof.Proof.Gen.Kernel3.Frame
public import proofs.«01_k».proof.Proof.MlpReference
public import Idealize.ShloMosaic.Lib.Quiescent

@[expose] public section

set_option maxRecDepth 16384

noncomputable section

namespace Cert.MlpProof

open Idealize.ShloMosaic Idealize.ShloMosaic.TcCoe Idealize.SL.Sem
open Cert.Kernel3Ideal.RefValue (preAct hidden outFn dzFn dw2Fn dw1Fn dhFn)

/-- The run at the machine's words leaves the arguments and the counters as they were. -/
theorem frame_kernel : Cert.quiescent_Kernel3 := fun m ρ _ => Cert.Kernel3.Gen.frame (F := Bits) m ρ

/-- So does the run on the extended reals. -/
theorem frame_ideal : Cert.quiescent_Kernel3Ideal := fun m ρ _ => Cert.Kernel3Ideal.Gen.frame (F := Ideal) m ρ

section
open Cert.Reference3Ideal

/-- The reference leaves its arguments as they were; it has no counters. -/
theorem frame_reference : Cert.quiescent_Reference3Ideal := fun m ρ _ =>
  (θ_run defs _ _).mono (fun r h => ⟨fun c => (h c).2.2.2.2, sem_eq_zero_of_no_sems (by decide) r.2⟩)
    (Cert.Reference3Ideal.Value.run (F := Ideal) m ρ)

variable (m : (ℓ : Loc nD τ sig) → Buf (Elt Ideal) ℓ) (ρ : Dev nD → PrngReg)

/-- The reference ends with the same four functions of its arguments that the kernel computes. -/
theorem reference_run : θ_run defs (onTc (τ := τ) (main (F := Ideal))) ⟨m, fun _ => 0, ρ⟩ (fun r => ∀ c : Dev nD,
      r.2.mem ((c : Thread nD τ).loc main_v12) = outFn (hidden (m ((c : Thread nD τ).loc main_arg0)) (m ((c : Thread nD τ).loc main_arg1)))
          (m ((c : Thread nD τ).loc main_arg2))
      ∧ r.2.mem ((c : Thread nD τ).loc main_v21) = dhFn
          (dzFn (m ((c : Thread nD τ).loc main_arg3)) (m ((c : Thread nD τ).loc main_arg2))
            (preAct (m ((c : Thread nD τ).loc main_arg0)) (m ((c : Thread nD τ).loc main_arg1)))) (m ((c : Thread nD τ).loc main_arg1))
      ∧ r.2.mem ((c : Thread nD τ).loc main_v24) = dw1Fn (m ((c : Thread nD τ).loc main_arg0))
          (dzFn (m ((c : Thread nD τ).loc main_arg3)) (m ((c : Thread nD τ).loc main_arg2))
            (preAct (m ((c : Thread nD τ).loc main_arg0)) (m ((c : Thread nD τ).loc main_arg1))))
      ∧ r.2.mem ((c : Thread nD τ).loc main_v25) = dw2Fn (hidden (m ((c : Thread nD τ).loc main_arg0)) (m ((c : Thread nD τ).loc main_arg1)))
          (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) :=
  (θ_run defs _ _).mono (fun _ h c =>
    ⟨((h c).1.trans (Read.val_main_v12_eq _ _ _)).trans (RefValue.out_eq _ _ _),
     ((h c).2.1.trans (Read.val_main_v21_eq _ _ _ _)).trans (RefValue.dh_eq _ _ _ _),
     ((h c).2.2.1.trans (Read.val_main_v24_eq _ _ _ _)).trans (RefValue.dw1_eq _ _ _ _),
     ((h c).2.2.2.1.trans (Read.val_main_v25_eq _ _ _)).trans (RefValue.dw2_eq _ _ _), (h c).2.2.2.2⟩)
    (Value.run (F := Ideal) m ρ)

end

section
open Cert.Kernel3Ideal

/-- From equal arguments the kernel and the reference end with equal results: the layer's output, the gradient of its
    input, and those of its two weights. -/
theorem algebraic : Cert.algebraic_Kernel3Ideal_Reference3Ideal := fun m ρ m' ρ' _ hag =>
  ⟨fun c => outFn (hidden (m ((c : Thread nD τ).loc main_arg0)) (m ((c : Thread nD τ).loc main_arg1))) (m ((c : Thread nD τ).loc main_arg2)),
   fun c => dhFn (dzFn (m ((c : Thread nD τ).loc main_arg3)) (m ((c : Thread nD τ).loc main_arg2))
     (preAct (m ((c : Thread nD τ).loc main_arg0)) (m ((c : Thread nD τ).loc main_arg1)))) (m ((c : Thread nD τ).loc main_arg1)),
   fun c => dw1Fn (m ((c : Thread nD τ).loc main_arg0)) (dzFn (m ((c : Thread nD τ).loc main_arg3)) (m ((c : Thread nD τ).loc main_arg2))
     (preAct (m ((c : Thread nD τ).loc main_arg0)) (m ((c : Thread nD τ).loc main_arg1)))),
   fun c => dw2Fn (hidden (m ((c : Thread nD τ).loc main_arg0)) (m ((c : Thread nD τ).loc main_arg1))) (m ((c : Thread nD τ).loc main_arg3)),
   RefValue.run m ρ,
   (θ_run _ _ _).mono (fun r h c => by
      obtain ⟨h0, h1, h2, h3⟩ := hag c
      have hc := h c
      rw [h0, h1, h2, h3] at hc
      obtain ⟨e1, e2, e3, e4, e5, e6, e7, e8⟩ := hc
      exact ⟨e1, e2, e3, e4, e5.trans h0.symm, e6.trans h1.symm, e7.trans h2.symm, e8.trans h3.symm⟩) (reference_run m' ρ')⟩

end

end Cert.MlpProof
-- ==== Proof.GateBlock.lean ====
/-
The gate's one block: the loop over its tiles, from the last row to the first, leaves in the two result blocks the
gradient of the gate's columns and its column sums.
-/
module

public import proofs.«01_k».proof.Proof.Gen.Kernel4Ideal.Value
public import Idealize.ShloMosaic.Lib.Pipeline.Value
public import Idealize.ShloMosaic.Lib.Pointwise
public import Idealize.ShloMosaic.Lib.ValueIdxCore

@[expose] public section

set_option maxRecDepth 16384

noncomputable section

namespace Cert.Kernel4Ideal.RefValue

open Cert.Kernel4Ideal Cert.Kernel4Ideal.Gen
open Idealize.ShloMosaic Idealize.ShloMosaic.TcCoe Idealize.SL.Sem

/-! ## What the gate's gradient is -/

/-- Column `l` of a [4096, 128] array as a function of every natural number: zero past the last row. -/
def col (d : S4096x128.Idx → EReal) (l : Fin 128) (n : ℕ) : EReal :=
  if h : n < 4096 then d (ix2 ⟨n, h⟩ l) else 0

/-- The sum of column `l` from row `n` to the last. -/
def tailSum (d : S4096x128.Idx → EReal) (n : ℕ) (l : Fin 128) : EReal := ∑ k ∈ Finset.Ico n 4096, col d l k

/-- The derivative of the logarithm of the logistic function at `z`: `1 / (1 + exp z)`. -/
def weight (z : EReal) : EReal := Ideal.div 1 (1 + Ideal.exp z)

/-- The gradient of the gate's pre-activation. -/
def dPre (f : S4096x128.Idx → EReal) (b : S1x128.Idx → EReal) (d : S4096x128.Idx → EReal) : S4096x128.Idx → EReal :=
  fun j => tailSum d (j 0).val (j 1) * weight (f j + b (ix2 0 (j 1)))

/-- The 256 rows from row `n` on, those before row `i` of them left out, and the rows after them are the rows from `n + i`. -/
theorem tailSum_block (d : S4096x128.Idx → EReal) (l : Fin 128) (n i : ℕ) (hn : n + 256 ≤ 4096) (hi : i ≤ 256) :
    (∑ q : Fin 256, if i ≤ q.val then col d l (n + q.val) else 0) + tailSum d (n + 256) l = tailSum d (n + i) l := by
  have h1 : (∑ q : Fin 256, if i ≤ q.val then col d l (n + q.val) else 0) = ∑ q ∈ Finset.Ico i 256, col d l (n + q) := by
    rw [Fin.sum_univ_eq_sum_range (fun q => if i ≤ q then col d l (n + q) else 0) 256, ← Finset.sum_filter]
    refine Finset.sum_congr ?_ fun _ _ => rfl
    ext q
    simp only [Finset.mem_filter, Finset.mem_range, Finset.mem_Ico]
    exact and_comm
  have h2 : (∑ q ∈ Finset.Ico i 256, col d l (n + q)) = ∑ q ∈ Finset.Ico (n + i) (n + 256), col d l q := by
    rw [Finset.sum_Ico_add (col d l) i 256 n, Nat.add_comm n i, Nat.add_comm n 256]
  rw [h1, h2]
  exact Finset.sum_Ico_consecutive _ (by omega) hn

/-! ## One trip's payloads -/

/-- A column index of a [4096, 128] array is an index below 4096. -/
theorem col_of_lt (d : S4096x128.Idx → EReal) (l : Fin 128) (n : ℕ) (h : n < 4096) : col d l n = d (ix2 ⟨n, h⟩ l) := dif_pos h

/-- A finite number less itself is zero. -/
theorem sub_self_finite (x : EReal) (h1 : x ≠ ⊤) (h2 : x ≠ ⊥) : x - x = 0 := by
  lift x to ℝ using ⟨h1, h2⟩
  rw [← EReal.coe_sub, sub_self]; rfl

/-- The mask's entry at row `i` and column `q`: one where the column is not before the row. -/
theorem mask_entry (i q : Fin 256) :
    FloatOps.sitofp (F := Ideal) .f32 (BitVec.setWidth 32 (IntOp.cmpi .sge (BitVec.ofNat 32 q.val) (BitVec.ofNat 32 i.val)))
      = if i.val ≤ q.val then (1 : EReal) else 0 := by
  have hn : ∀ n : Fin 256, (BitVec.ofNat 32 n.val).toInt = n.val := by decide +kernel
  have h1 : IntOp.cmpi .sge (BitVec.ofNat 32 q.val) (BitVec.ofNat 32 i.val) = if i.val ≤ q.val then 1#1 else 0#1 := by
    have h := IntOp.cmpi_sge (x := BitVec.ofNat 32 q.val) (y := BitVec.ofNat 32 i.val)
    rw [hn, hn, Nat.cast_le] at h
    by_cases hc : i.val ≤ q.val
    · rw [if_pos hc]; exact h.mpr hc
    · rw [if_neg hc]; exact (by decide : ∀ w : BitVec 1, w ≠ 1#1 → w = 0#1) _ fun h1 => hc (h.mp h1)
  rw [h1]
  split
  · show (((BitVec.setWidth 32 (1#1)).toInt : ℝ) : EReal) = 1
    have : (BitVec.setWidth 32 (1#1)).toInt = 1 := by decide
    rw [this]; norm_num
  · show (((BitVec.setWidth 32 (0#1)).toInt : ℝ) : EReal) = 0
    have : (BitVec.setWidth 32 (0#1)).toInt = 0 := by decide
    rw [this]; norm_num

/-- The reverse sums of one block: the sum of its rows from row `i` on, and the carried row. -/
theorem pay3_apply (acc : S1x128.Idx → EReal) (x : S256x128.Idx → EReal) (hx : ∀ j, x j ≠ ⊤ ∧ x j ≠ ⊥) (i : Fin 256) (l : Fin 128) :
    k0_pay3 (F := Ideal) acc x (ix2 i l) = (∑ q : Fin 256, if i.val ≤ q.val then x (ix2 q l) else 0) + acc (ix2 0 l) := by
  unfold k0_pay3
  pointwise
  have hz : ∀ q : Fin 256, x (ix2 q l) - x (ix2 q l) = 0 := fun q => sub_self_finite _ (hx _).1 (hx _).2
  simp only [hz, mask_entry, sub_zero, mul_zero, Finset.sum_const_zero, add_zero, ite_mul, one_mul, zero_mul]

/-- The gradient of one block: the reverse sums times the weights. -/
theorem pay4_apply (acc : S1x128.Idx → EReal) (x f : S256x128.Idx → EReal) (b : S1x128.Idx → EReal) (j : S256x128.Idx) :
    k0_pay4 (F := Ideal) acc x f b j = k0_pay3 (F := Ideal) acc x j * weight (f j + b (ix2 0 (j 1))) := by
  unfold k0_pay4 weight
  pointwise
  rw [zero_sub, zero_sub, neg_neg]

/-- The bias gradient so far and the block's column sums. -/
theorem pay7_apply (acc acc' : S1x128.Idx → EReal) (x f : S256x128.Idx → EReal) (b : S1x128.Idx → EReal) (j : S1x128.Idx) :
    k0_pay7 (F := Ideal) acc acc' x f b j = acc' j + ∑ q : Fin 256, k0_pay4 (F := Ideal) acc x f b (ix2 q (j 1)) := by
  unfold k0_pay7
  pointwise

/-- The row carried to the block before: the reverse sums' first row. -/
theorem pay6_apply (acc : S1x128.Idx → EReal) (x : S256x128.Idx → EReal) (j : S1x128.Idx) :
    k0_pay6 (F := Ideal) acc x j = k0_pay3 (F := Ideal) acc x (ix2 0 (j 1)) := by
  unfold k0_pay6
  pointwise

/-! ## One trip -/

/-- The rows that trip `k` reads and writes begin at row `3840 - 256 k`. -/
theorem off_eq : ∀ k : Fin k0_t1_loop.trips, k0_off1 k = ![3840 - 256 * k.val, 0] := by decide +kernel

/-- The rectangle of trip `k`. -/
abbrev rows (k : Fin k0_t1_loop.trips) : Rect S4096x128 := Rect.unit (s := S4096x128) (k0_off1 k) S256x128.size (k0_off1_inb k)

/-- An index of trip `k`'s rectangle in the array. -/
theorem rows_idx (k : Fin k0_t1_loop.trips) (j : S256x128.Idx) :
    (rows k).idx j = ix2 ⟨3840 - 256 * k.val + (j 0).val, by have h := (j 0).isLt; change (j 0).val < 256 at h; omega⟩ (j 1) := by
  funext a
  apply Fin.ext
  have h := congrFun (off_eq k) a
  match a with
  | ⟨0, _⟩ => show k0_off1 k 0 + 1 * (j 0).val = _; rw [show k0_off1 k 0 = _ from h]; show 3840 - 256 * k.val + 1 * (j 0).val = 3840 - 256 * k.val + (j 0).val; omega
  | ⟨1, _⟩ => show k0_off1 k 1 + 1 * (j 1).val = _; rw [show k0_off1 k 1 = _ from h]; show 0 + 1 * (j 1).val = (j 1).val; omega

variable (c : Dev nD) (i : grid0.Coords) (arg1 : Memref sig .tc .vmem S4096x128 .f32) (harg1 : arg1.IsWhole) (arg2 : Memref sig .tc .vmem S1x128 .f32) (harg2 : arg2.IsWhole) (arg3 : Memref sig .tc .vmem S4096x128 .f32) (harg3 : arg3.IsWhole) (arg4 : Memref sig .tc .vmem S4096x128 .bf16) (harg4 : arg4.IsWhole) (arg5 : Memref sig .tc .vmem S1x128 .f32) (harg5 : arg5.IsWhole)
  (f : S4096x128.Idx → EReal) (b : S1x128.Idx → EReal) (d : S4096x128.Idx → EReal)

/-- What trip `k` yields: the carried row and the bias gradient, from its rows. -/
theorem trip_result (k : Fin k0_t1_loop.trips) (acc : FVec Ideal S1x128 .f32 × FVec Ideal S1x128 .f32) :
    tripR_k0_t1 (F := Ideal) Variants.none c none i arg1 harg1 arg2 harg2 arg3 harg3 arg4 harg4 arg5 harg5 (harg1.unread f) (harg2.unread b) (harg3.unread d) k acc
      = (k0_pay6 (F := Ideal) acc.1 (View.ld d (rows k)), k0_pay7 (F := Ideal) acc.1 acc.2 (View.ld d (rows k)) (View.ld f (rows k)) b) := by
  have hz : (![0, 0] : Fin S1x128.rank → Nat) = fun _ => 0 := funext fun a => by fin_cases a <;> rfl
  unfold tripR_k0_t1 trip_k0_t1
  dsimp only
  simp only [View.readAt_eq_ld, harg1.read_unread, harg2.read_unread, harg3.read_unread, View.ld_unit_zero (S := S1x128) hz]

/-- The one piece that trip `k` stores. -/
theorem trip_pieces (k : Fin k0_t1_loop.trips) (acc : FVec Ideal S1x128 .f32 × FVec Ideal S1x128 .f32) :
    tripL_k0_t1 (F := Ideal) Variants.none c none i arg1 harg1 arg2 harg2 arg3 harg3 arg4 harg4 arg5 harg5 (harg1.unread f) (harg2.unread b) (harg3.unread d) k acc
      = [⟨rows k, k0_pay5 (F := Ideal) acc.1 (View.ld d (rows k)) (View.ld f (rows k)) b⟩] := by
  have hz : (![0, 0] : Fin S1x128.rank → Nat) = fun _ => 0 := funext fun a => by fin_cases a <;> rfl
  unfold tripL_k0_t1 trip_k0_t1
  dsimp only
  simp only [View.readAt_eq_ld, harg1.read_unread, harg2.read_unread, harg3.read_unread, View.ld_unit_zero (S := S1x128) hz]

/-- Trip `k`'s rows of an array, by their row number in the array. -/
theorem ld_rows (g : S4096x128.Idx → EReal) (k : Fin k0_t1_loop.trips) (q : Fin 256) (l : Fin 128) :
    View.ld (Val := Elt Ideal) (e' := .f32) g (rows k) (ix2 q l) = col g l (3840 - 256 * k.val + q.val) := by
  have hq := q.isLt
  show g ((rows k).idx (ix2 q l)) = _
  rw [rows_idx, col_of_lt g l _ (by omega)]
  rfl

/-- With the sums of the rows after trip `k`'s carried in, the block's reverse sums are the array's. -/
theorem pay3_rows (hd : ∀ j, d j ≠ ⊤ ∧ d j ≠ ⊥) (k : Fin k0_t1_loop.trips) (acc : S1x128.Idx → EReal)
    (hacc : ∀ l, acc (ix2 0 l) = tailSum d (3840 - 256 * k.val + 256) l) (q : Fin 256) (l : Fin 128) :
    k0_pay3 (F := Ideal) acc (View.ld d (rows k)) (ix2 q l) = tailSum d (3840 - 256 * k.val + q.val) l := by
  have hq := q.isLt
  rw [pay3_apply acc (View.ld (Val := Elt Ideal) (e' := .f32) d (rows k)) (fun j => hd _), hacc]
  exact (congrArg (· + _) (Finset.sum_congr rfl fun q' _ => if_congr Iff.rfl (ld_rows d k q' l) rfl)).trans
    (tailSum_block d l _ _ (by omega) (by omega))

/-- … and its gradient is the array's gradient. -/
theorem pay4_rows (hd : ∀ j, d j ≠ ⊤ ∧ d j ≠ ⊥) (k : Fin k0_t1_loop.trips) (acc : S1x128.Idx → EReal)
    (hacc : ∀ l, acc (ix2 0 l) = tailSum d (3840 - 256 * k.val + 256) l) (q : Fin 256) (l : Fin 128) :
    k0_pay4 (F := Ideal) acc (View.ld d (rows k)) (View.ld f (rows k)) b (ix2 q l) = dPre f b d ((rows k).idx (ix2 q l)) := by
  rw [pay4_apply, pay3_rows d hd k acc hacc, rows_idx]
  show _ * weight (f ((rows k).idx (ix2 q l)) + _) = _
  rw [rows_idx]
  rfl

/-! ## The sixteen trips -/

/-- The state before trip `n`: the carried row holds the sums of the rows the trips before have gone through, the
    second carried row the sums of their gradients, and every piece stored is a block of the gradient. -/
theorem state (hd : ∀ j, d j ≠ ⊤ ∧ d j ≠ ⊥) (n : ℕ) (hn : n ≤ 16) :
    let st := st_k0_t1 (F := Ideal) Variants.none c none i arg1 harg1 arg2 harg2 arg3 harg3 arg4 harg4 arg5 harg5 (harg1.unread f) (harg2.unread b) (harg3.unread d) (k0_pay1 (F := Ideal), k0_pay2 (F := Ideal)) n
    (∀ l, st.1.1 (ix2 0 l) = tailSum d (4096 - 256 * n) l)
      ∧ (∀ l, st.1.2 (ix2 0 l) = tailSum (dPre f b d) (4096 - 256 * n) l)
      ∧ ∀ p ∈ st.2, ∀ x : p.1.shape.Idx, p.2 x = dPre f b d (p.1.emb x) := by
  induction n with
  | zero =>
    refine ⟨fun l => ?_, fun l => ?_, fun p hp => absurd hp (by simp [st_k0_t1])⟩
    · show k0_pay1 (F := Ideal) (ix2 0 l) = _
      unfold k0_pay1 tailSum
      pointwise
      exact (Finset.sum_eq_zero fun k hk => absurd (Finset.mem_Ico.mp hk) (by omega)).symm
    · show k0_pay2 (F := Ideal) (ix2 0 l) = _
      unfold k0_pay2 tailSum
      pointwise
      exact (Finset.sum_eq_zero fun k hk => absurd (Finset.mem_Ico.mp hk) (by omega)).symm
  | succ n ih =>
    obtain ⟨h1, h2, h3⟩ := ih (by omega)
    have e := st_k0_t1_succ (F := Ideal) Variants.none c none i arg1 harg1 arg2 harg2 arg3 harg3 arg4 harg4 arg5 harg5 (harg1.unread f) (harg2.unread b) (harg3.unread d) (k0_pay1 (F := Ideal), k0_pay2 (F := Ideal)) ⟨n, show n < 16 by omega⟩
    simp only at e
    generalize st_k0_t1 (F := Ideal) Variants.none c none i arg1 harg1 arg2 harg2 arg3 harg3 arg4 harg4 arg5 harg5 (harg1.unread f) (harg2.unread b) (harg3.unread d) (k0_pay1 (F := Ideal), k0_pay2 (F := Ideal)) n = s at *
    rw [trip_result, trip_pieces] at e
    have hacc : ∀ l, s.1.1 (ix2 0 l) = tailSum d (3840 - 256 * n + 256) l := fun l => by
      rw [h1 l]; congr 1; omega
    have hk : 4096 - 256 * (n + 1) = 3840 - 256 * n + 0 := by omega
    rw [e]
    refine ⟨fun l => ?_, fun l => ?_, fun p hp => ?_⟩
    · show k0_pay6 (F := Ideal) _ _ (ix2 0 l) = _
      rw [pay6_apply, hk]
      exact pay3_rows d hd ⟨n, _⟩ s.1.1 hacc 0 l
    · show k0_pay7 (F := Ideal) _ _ _ _ _ (ix2 0 l) = _
      rw [pay7_apply, h2 l, hk, ← tailSum_block _ l _ 0 (by omega) (by omega), add_comm]
      congr 1
      · refine Finset.sum_congr rfl fun q _ => ?_
        rw [if_pos (Nat.zero_le _)]
        have hq := q.isLt
        refine (pay4_rows f b d hd ⟨n, show n < 16 by omega⟩ s.1.1 hacc q l).trans ?_
        rw [rows_idx, col_of_lt _ _ _ (by omega)]
        rfl
      · congr 1; omega
    · rcases List.mem_cons.mp hp with rfl | hp
      · intro x
        obtain ⟨q, l, rfl⟩ : ∃ q l, x = ix2 q l := ⟨x 0, x 1, by funext a; match a with | ⟨0, _⟩ => rfl | ⟨1, _⟩ => rfl⟩
        exact pay4_rows f b d hd ⟨n, show n < 16 by omega⟩ s.1.1 hacc q l
      · exact h3 p hp

/-! ## The two result arrays -/

/-- The loop makes sixteen trips. -/
theorem trips_eq : k0_t1_loop.trips = 16 := by decide +kernel

/-- The first output's block after the body: the gradient of the gate's pre-activation. -/
theorem out3_eq (hd : ∀ j, d j ≠ ⊤ ∧ d j ≠ ⊥) :
    out0_A_3 (F := Ideal) c i arg1 harg1 arg2 harg2 arg3 harg3 arg4 harg4 arg5 harg5 f b d = dPre f b d := by
  funext y
  have hc := cover0_A_3 (F := Ideal) c i arg1 harg1 arg2 harg2 arg3 harg3 arg4 harg4 arg5 harg5 f b d
  unfold out0_A_3
  rw [View.read_writes_eq_canon _ _ _ hc]
  refine View.canon_apply_of_pieces (dPre f b d) _ ?_ y (hc y)
  have hs := (state c i arg1 harg1 arg2 harg2 arg3 harg3 arg4 harg4 arg5 harg5 f b d hd k0_t1_loop.trips (le_of_eq trips_eq)).2.2
  unfold kernelRun0_A
  dsimp only
  simpa using hs

/-- The second output's block after the body: the gradient of the bias. -/
theorem out4_eq (hd : ∀ j, d j ≠ ⊤ ∧ d j ≠ ⊥) :
    out0_A_4 (F := Ideal) c i arg1 harg1 arg2 harg2 arg3 harg3 arg4 harg4 arg5 harg5 f b d = fun j => tailSum (dPre f b d) 0 (j 1) := by
  have hz : (![0, 0] : Fin S1x128.rank → Nat) = fun _ => 0 := funext fun a => by fin_cases a <;> rfl
  have hc := cover0_A_4 (F := Ideal) c i arg1 harg1 arg2 harg2 arg3 harg3 arg4 harg4 arg5 harg5 f b d
  have hs := (state c i arg1 harg1 arg2 harg2 arg3 harg3 arg4 harg4 arg5 harg5 f b d hd k0_t1_loop.trips (le_of_eq trips_eq)).2.1
  unfold out0_A_4
  rw [View.read_writes_eq_canon _ _ _ hc]
  unfold kernelRun0_A
  dsimp only
  rw [View.canon_unit_zero hz]
  funext j
  have hj : j = ix2 0 (j 1) := by
    funext a
    match a with
    | ⟨0, _⟩ => exact Subsingleton.elim (α := Fin 1) _ _
    | ⟨1, _⟩ => rfl
  rw [hj]
  refine (hs (j 1)).trans ?_
  rw [trips_eq]
  rfl

end Cert.Kernel4Ideal.RefValue

end
-- ==== Proof.GateArrays.lean ====
/-
The gate's result arrays as functions of its arguments, and the kernel's run.
-/
module

public import proofs.«01_k».proof.Proof.GateBlock

@[expose] public section

set_option maxRecDepth 16384

noncomputable section

namespace Cert.Kernel4Ideal.RefValue

open Cert.Kernel4Ideal Cert.Kernel4Ideal.Gen
open Idealize.ShloMosaic Idealize.ShloMosaic.TcCoe Idealize.SL.Sem
open Idealize.ShloMosaic.Pipeline (Dat)

/-- The gate's columns of the projection, from column 3072 on. -/
def gateIn (proj : S4096x3200.Idx → EReal) : S4096x128.Idx → EReal :=
  fun j => proj (ix2 (j 0) ⟨3072 + (j 1).val, by have h := (j 1).isLt; change (j 1).val < 128 at h; omega⟩)

/-- No entry of the array is infinite. -/
def NoInfinity (d : S4096x128.Idx → EReal) : Prop := ∀ j, d j ≠ ⊤ ∧ d j ≠ ⊥

/-- The gradient of the gate's columns. -/
def dGate (proj : S4096x3200.Idx → EReal) (b : S1x128.Idx → EReal) (d : S4096x128.Idx → EReal) : S4096x128.Idx → EReal :=
  dPre (gateIn proj) b d

/-- The gradient of the bias: the column sums of the gate's gradient. -/
def dBias (proj : S4096x3200.Idx → EReal) (b : S1x128.Idx → EReal) (d : S4096x128.Idx → EReal) : S1x128.Idx → EReal :=
  fun j => tailSum (dGate proj b d) 0 (j 1)

/-! ## The windows' blocks -/

/-- The block indices of the five windows at the grid's one point. -/
theorem idx0 : ∀ t : Fin grid0.N, (∀ a, win0_3.index t a = 0) ∧ (∀ a, win0_4.index t a = 0) ∧ win0_0.index t 0 = 0 ∧ win0_0.index t 1 = 24 ∧ (∀ a, win0_1.index t a = 0) ∧ (∀ a, win0_2.index t a = 0) := by
  decide +kernel

/-- The gate's columns are window 0's block. -/
theorem blk_0 (t : Fin cfg0.N) (A : S4096x3200.Idx → EReal) : ((cfg0.win 0).blk t).view.read (Elt Ideal) A = gateIn A := by
  refine funext fun (j : S4096x128.Idx) => ?_
  rw [View.read_apply]
  show A _ = A _
  congr 1
  funext a
  apply Fin.ext
  have hi := idx0 t
  match a with
  | ⟨0, _⟩ => show win0_0.index t 0 * 4096 + 1 * (j 0).val = (j 0).val; rw [hi.2.2.1]; omega
  | ⟨1, _⟩ => show win0_0.index t 1 * 128 + 1 * (j 1).val = 3072 + (j 1).val; rw [hi.2.2.2.1]; omega

/-- Window 1's block is its whole array. -/
theorem blk_1 (t : Fin cfg0.N) (A : S1x128.Idx → EReal) : ((cfg0.win 1).blk t).view.read (Elt Ideal) A = A := by
  refine funext fun (j : S1x128.Idx) => ?_
  rw [View.read_apply]
  show A _ = A _
  congr 1
  funext a
  apply Fin.ext
  have hi := (idx0 t).2.2.2.2.1
  match a with
  | ⟨0, _⟩ => show win0_1.index t 0 * 1 + 1 * (j 0).val = (j 0).val; rw [hi]; omega
  | ⟨1, _⟩ => show win0_1.index t 1 * 128 + 1 * (j 1).val = (j 1).val; rw [hi]; omega

/-- Window 2's block is its whole array. -/
theorem blk_2 (t : Fin cfg0.N) (A : S4096x128.Idx → EReal) : ((cfg0.win 2).blk t).view.read (Elt Ideal) A = A := by
  refine funext fun (j : S4096x128.Idx) => ?_
  rw [View.read_apply]
  show A _ = A _
  congr 1
  funext a
  apply Fin.ext
  have hi := (idx0 t).2.2.2.2.2
  match a with
  | ⟨0, _⟩ => show win0_2.index t 0 * 4096 + 1 * (j 0).val = (j 0).val; rw [hi]; omega
  | ⟨1, _⟩ => show win0_2.index t 1 * 128 + 1 * (j 1).val = (j 1).val; rw [hi]; omega

/-- Window 3's block is its whole array. -/
theorem blk_3 (t : Fin cfg0.N) (A : S4096x128.Idx → EReal) : ((cfg0.win 3).blk t).view.read (Elt Ideal) A = A := by
  refine funext fun (j : S4096x128.Idx) => ?_
  rw [View.read_apply]
  show A _ = A _
  congr 1
  funext a
  apply Fin.ext
  have hi := (idx0 t).1
  match a with
  | ⟨0, _⟩ => show win0_3.index t 0 * 4096 + 1 * (j 0).val = (j 0).val; rw [hi]; omega
  | ⟨1, _⟩ => show win0_3.index t 1 * 128 + 1 * (j 1).val = (j 1).val; rw [hi]; omega

/-- Window 4's block is its whole array. -/
theorem blk_4 (t : Fin cfg0.N) (A : S1x128.Idx → EReal) : ((cfg0.win 4).blk t).view.read (Elt Ideal) A = A := by
  refine funext fun (j : S1x128.Idx) => ?_
  rw [View.read_apply]
  show A _ = A _
  congr 1
  funext a
  apply Fin.ext
  have hi := (idx0 t).2.1
  match a with
  | ⟨0, _⟩ => show win0_4.index t 0 * 1 + 1 * (j 0).val = (j 0).val; rw [hi]; omega
  | ⟨1, _⟩ => show win0_4.index t 1 * 128 + 1 * (j 1).val = (j 1).val; rw [hi]; omega

/-! ## The result arrays after the run -/

/-- The grid's one point. -/
abbrev t₀ : Fin cfg0.N := ⟨0, by decide +kernel⟩

variable (m : (ℓ : Loc nD τ sig) → Buf (Elt Ideal) ℓ) (ρ : Dev nD → PrngReg)

/-- The first result: the gradient of the gate's columns. -/
theorem final3 (c : Dev nD) (hd : NoInfinity (m ((c : Thread nD τ).loc main_arg2))) :
    (dats (F := Ideal) m 0 c).arrAt 3 cfg0.N = dGate (m ((c : Thread nD τ).loc main_arg0)) (m ((c : Thread nD τ).loc main_arg1)) (m ((c : Thread nD τ).loc main_arg2)) := by
  have h := Value.blocks3 (F := Ideal) m c t₀ (by decide +kernel)
  rw [Value.flushed3_A, blk_3] at h
  refine h.trans ?_
  have e0 : (iblk (F := Ideal) m c 0 t₀ : S4096x128.Idx → EReal) = gateIn (m ((c : Thread nD τ).loc main_arg0)) := blk_0 t₀ _
  have e1 : (iblk (F := Ideal) m c 1 t₀ : S1x128.Idx → EReal) = m ((c : Thread nD τ).loc main_arg1) := blk_1 t₀ _
  have e2 : (iblk (F := Ideal) m c 2 t₀ : S4096x128.Idx → EReal) = m ((c : Thread nD τ).loc main_arg2) := blk_2 t₀ _
  show out0_A_3 (F := Ideal) c _ _ _ _ _ _ _ _ _ _ _ (iblk (F := Ideal) m c 0 t₀) (iblk (F := Ideal) m c 1 t₀) (iblk (F := Ideal) m c 2 t₀) = _
  rw [out3_eq _ _ _ _ _ _ _ _ _ _ _ _ _ _ _ (fun j => by rw [e2]; exact hd j)]
  rw [e0, e1, e2]
  rfl

/-- The second result: the gradient of the bias. -/
theorem final4 (c : Dev nD) (hd : NoInfinity (m ((c : Thread nD τ).loc main_arg2))) :
    (dats (F := Ideal) m 0 c).arrAt 4 cfg0.N = dBias (m ((c : Thread nD τ).loc main_arg0)) (m ((c : Thread nD τ).loc main_arg1)) (m ((c : Thread nD τ).loc main_arg2)) := by
  have h := Value.blocks4 (F := Ideal) m c t₀ (by decide +kernel)
  rw [Value.flushed4_A, blk_4] at h
  refine h.trans ?_
  have e0 : (iblk (F := Ideal) m c 0 t₀ : S4096x128.Idx → EReal) = gateIn (m ((c : Thread nD τ).loc main_arg0)) := blk_0 t₀ _
  have e1 : (iblk (F := Ideal) m c 1 t₀ : S1x128.Idx → EReal) = m ((c : Thread nD τ).loc main_arg1) := blk_1 t₀ _
  have e2 : (iblk (F := Ideal) m c 2 t₀ : S4096x128.Idx → EReal) = m ((c : Thread nD τ).loc main_arg2) := blk_2 t₀ _
  show out0_A_4 (F := Ideal) c _ _ _ _ _ _ _ _ _ _ _ (iblk (F := Ideal) m c 0 t₀) (iblk (F := Ideal) m c 1 t₀) (iblk (F := Ideal) m c 2 t₀) = _
  rw [out4_eq _ _ _ _ _ _ _ _ _ _ _ _ _ _ _ (fun j => by rw [e2]; exact hd j)]
  rw [e0, e1, e2]
  rfl

/-- The kernel's run: with no infinite entry in the incoming gradient, the gate's gradient and the bias's, and the
    arguments as they were. -/
theorem run (hd : ∀ c : Dev nD, NoInfinity (m ((c : Thread nD τ).loc main_arg2))) :
    θ_run defs (onTc (τ := τ) (main (F := Ideal))) ⟨m, fun _ => 0, ρ⟩ (fun r => ∀ c : Dev nD,
      r.2.mem ((c : Thread nD τ).loc main_v0_0) = dGate (m ((c : Thread nD τ).loc main_arg0)) (m ((c : Thread nD τ).loc main_arg1)) (m ((c : Thread nD τ).loc main_arg2))
      ∧ r.2.mem ((c : Thread nD τ).loc main_v0_1) = dBias (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)) :=
  (θ_run defs _ _).mono (fun _ h c => ⟨(h c).1.trans (final3 m c (hd c)), (h c).2.1.trans (final4 m c (hd c)), (h c).2.2⟩)
    (Value.run_blocks (F := Ideal) m ρ)

end Cert.Kernel4Ideal.RefValue

end
-- ==== Proof.Words.lean ====
/-
The values of the constants' words.
-/
module

public import Idealize.ShloMosaic.PureOps.Ideal

@[expose] public section

noncomputable section

namespace Cert.Words

open Idealize.ShloMosaic

/-- Positive infinity. -/
theorem infinity_word : Ideal.ofBits .f32 0x7F800000#32 = (⊤ : EReal) := by
  simp [Ideal.ofBits, Ideal.ieee]

/-- 1024, the number of entries of a row. -/
theorem width_word : Ideal.ofBits .f32 0x44800000#32 = ((1024 : ℝ) : EReal) := by
  simp [Ideal.ofBits, Ideal.ieee, -EReal.coe_mul]
  norm_num

/-- The number that the normalisation adds to the variance. -/
theorem eps_word : Ideal.ofBits .f32 0x358637BD#32 = ((8796093 / 2 ^ 43 : ℝ) : EReal) := by
  simp [Ideal.ofBits, Ideal.ieee, -EReal.coe_mul]
  norm_num

/-- Minus one half. -/
theorem neg_half_word : Ideal.ofBits .f32 0xBF000000#32 = ((-(1 / 2) : ℝ) : EReal) := by
  simp [Ideal.ofBits, Ideal.ieee, -EReal.coe_mul]
  norm_num

end Cert.Words

end
-- ==== Proof.GateReference.lean ====
/-
The gate's reference: the derivative of the logarithm of the logistic function as the differentiated text has it is the
kernel's weight, its windowed sums are the sums from a row on, and its results are the kernel's.
-/
module

public import proofs.«01_k».proof.Proof.GateArrays
public import proofs.«01_k».proof.Proof.Words
public import proofs.«01_k».proof.Proof.Gen.Reference4Ideal.Read

@[expose] public section

set_option maxRecDepth 16384

noncomputable section

namespace Cert.Reference4Ideal.RefValue

open Cert.Reference4Ideal Cert.Reference4Ideal.Gen Cert.Reference4Ideal.Read
open Idealize.ShloMosaic Idealize.ShloMosaic.TcCoe Idealize.SL.Sem
open Cert.Kernel4Ideal.RefValue (col tailSum weight dPre gateIn dGate dBias col_of_lt)

/-! ## The derivative of the logarithm of the logistic function -/

/-- The word of positive infinity. -/
theorem infinity_word : (FloatOps.ofBits .f32 0x7F800000#32 : Ideal .f32) = (⊤ : EReal) := by
  exact Cert.Words.infinity_word

/-- An equality test picks its first branch where the two are equal. -/
theorem select_oeq (x y a b : EReal) : (Scalar.select (FloatOps.cmpf (F := Ideal) (φ := .f32) .oeq x y) a b : EReal) = if x = y then a else b := by
  by_cases h : x = y <;> simp [FloatOps.cmpf, Ideal.cmp, Scalar.select, h]

/-- A test for unequal to itself never holds. -/
theorem select_une (x a b : EReal) : (Scalar.select (FloatOps.cmpf (F := Ideal) (φ := .f32) .une x x) a b : EReal) = b := by
  simp [FloatOps.cmpf, Ideal.cmp, Scalar.select]

/-- The softplus function, as the larger of `u` and zero and a logarithm. -/
def softplus (u : EReal) : EReal := max u 0 + Ideal.log1p (Ideal.exp (-(max (u - 0) (-(u - 0)))))

/-- The softplus function of a real number. -/
theorem softplus_coe (u : ℝ) : softplus (u : EReal) = ((max u 0 + Real.log (1 + Real.exp (-|u|)) : ℝ) : EReal) := by
  have h : max ((u : EReal) - 0) (-((u : EReal) - 0)) = ((|u| : ℝ) : EReal) := by
    rw [sub_zero, ← EReal.coe_neg, abs_eq_max_neg]
    exact (EReal.coe_strictMono.monotone.map_max).symm
  have h0 : max (u : EReal) 0 = ((max u 0 : ℝ) : EReal) := (EReal.coe_strictMono.monotone.map_max).symm
  have hp : ¬ (1 + Real.exp (-|u|) ≤ 0) := not_le.mpr (by positivity)
  unfold softplus
  rw [h, h0, ← EReal.coe_neg, Ideal.exp_coe]
  show _ + Ideal.log (1 + ((Real.exp (-|u|) : ℝ) : EReal)) = _
  rw [← EReal.coe_one, ← EReal.coe_add]
  show _ + (if 1 + Real.exp (-|u|) ≤ 0 then (⊥ : EReal) else ((Real.log (1 + Real.exp (-|u|)) : ℝ) : EReal)) = _
  rw [if_neg hp, ← EReal.coe_add]

/-- On the reals: the exponential of `u` less its softplus is the logistic function of `u`. -/
theorem exp_sub_softplus_real (u : ℝ) :
    Real.exp (u - (max u 0 + Real.log (1 + Real.exp (-|u|)))) = (1 + Real.exp (-u))⁻¹ := by
  have hp : (0 : ℝ) < 1 + Real.exp (-|u|) := by positivity
  rw [← sub_sub, Real.exp_sub, Real.exp_log hp]
  rcases le_total 0 u with h | h
  · rw [max_eq_left h, abs_of_nonneg h, sub_self, Real.exp_zero, one_div]
  · rw [max_eq_right h, abs_of_nonpos h, sub_zero, neg_neg, Real.exp_neg]
    have := Real.exp_pos u
    field_simp
    ring

/-- The exponential of `u` less its softplus is the weight at `-u`. -/
theorem exp_sub_softplus (z : EReal) :
    Ideal.exp ((if -z = ⊤ then 0 else -z) - (if softplus (-z) = ⊤ then 0 else softplus (-z))) = weight z := by
  have hl : Ideal.log 1 = 0 := by
    show Ideal.log ((1 : ℝ) : EReal) = 0
    show (if (1 : ℝ) ≤ 0 then (⊥ : EReal) else ((Real.log 1 : ℝ) : EReal)) = 0
    rw [if_neg (by norm_num), Real.log_one]; rfl
  have he : Ideal.exp 0 = 1 := by
    show Ideal.exp ((0 : ℝ) : EReal) = 1
    rw [Ideal.exp_coe, Real.exp_zero]; rfl
  induction z with
  | bot =>
    have h : softplus ⊤ = ⊤ := by simp [softplus, Ideal.log1p, hl]
    simp [h, weight, he, Ideal.div]
  | top =>
    have h : softplus ⊥ = 0 := by simp [softplus, Ideal.log1p, hl]
    have ht : (1 : EReal) + ⊤ = ⊤ := EReal.coe_add_top 1
    simp [h, weight, Ideal.div, ht]
  | coe r =>
    have hp : (1 + Real.exp r) ≠ 0 := by positivity
    rw [← EReal.coe_neg, softplus_coe, if_neg (EReal.coe_ne_top _), if_neg (EReal.coe_ne_top _), ← EReal.coe_sub, Ideal.exp_coe,
      exp_sub_softplus_real, neg_neg]
    unfold weight Ideal.div
    rw [Ideal.exp_coe, ← EReal.coe_one, ← EReal.coe_add, if_neg (fun h => hp (by exact_mod_cast h)), ← EReal.coe_inv, ← EReal.coe_mul, one_mul]

/-- The reference's derivative of the logarithm of the logistic function. -/
theorem weight_eq (x0 : S4096x3200.Idx → EReal) (x1 : S1x128.Idx → EReal) (i : S4096x128.Idx) :
    val_main_v3_1 (F := Ideal) x0 x1 i = weight (gateIn x0 i + x1 (ix2 0 (i 1))) := by
  have h2 : val_main_v2 (F := Ideal) x0 x1 i = gateIn x0 i + x1 (ix2 0 (i 1)) := by
    rw [val_main_v2_apply, val_main_v0_apply, val_main_v1_apply]
    refine congrArg₂ (· + ·) (congrArg x0 ?_) (congrArg x1 ?_)
    · funext a
      match a with
      | ⟨0, _⟩ => exact Fin.ext rfl
      | ⟨1, _⟩ => exact Fin.ext rfl
    · funext a
      match a with
      | ⟨0, _⟩ => exact Fin.ext rfl
      | ⟨1, _⟩ => exact Fin.ext rfl
  rw [← h2, ← exp_sub_softplus]
  simp only [val_main_v3_1_apply, val_main_call0_call0_v21_apply, val_main_call0_call0_v20_apply, val_main_call0_call0_v19_apply, val_main_call0_call0_v18_apply, val_main_call0_call0_v17_apply, val_main_call0_call0_v16_apply, val_main_call0_call0_v15_apply, val_main_call0_call0_v14_apply, val_main_call0_call0_v13_apply, val_main_call0_v1_0_apply, val_main_call0_call0_v11_apply, val_main_call0_call0_v10_apply, val_main_call0_call0_v9_apply, val_main_call0_call0_v8_apply, val_main_call0_call0_v7_apply, val_main_call0_call0_v4_apply, val_main_call0_call0_v3_apply, val_main_call0_call0_v2_apply, val_main_call0_call0_v1_apply, val_main_call0_call0_v0_apply, val_main_call0_v0_apply, val_main_call0_call0_cst_apply, val_main_call0_call0_cst_0_apply, val_main_call0_call0_cst_1_apply, val_main_call0_call0_cst_2_apply, val_main_call0_call0_cst_3_apply, infinity_word, select_oeq, select_une]
  have hz : (FloatOps.ofBits .f32 0#32 : Ideal .f32) = (0 : EReal) := Ideal.ofBits_zero_f32
  rw [hz]
  rfl

/-! ## The reversed running sums -/

/-- A left fold of additions from zero over all positions is the sum over them. -/
theorem foldl_add (n : ℕ) (g : Fin n → EReal) : (List.finRange n).foldl (fun r k => r + g k) 0 = ∑ k, g k := by
  rw [Fin.sum_univ_def, List.sum_eq_foldl, List.foldl_map]

/-- A window sum over the rows from a row on, the rows past the last read as zero. -/
theorem window_sum (n p : ℕ) (hi : Fin 2 → ℕ) (x : (⟨2, ![n, p]⟩ : Shape).Idx → EReal)
    (h : (⟨2, ![n, p]⟩ : Shape).ReduceWindows ![n, 1] ![1, 1] ![0, 0] hi ⟨2, ![n, p]⟩) (i : (⟨2, ![n, p]⟩ : Shape).Idx) :
    Ideal.hostReduceWindowAdd (s := ⟨2, ![n, p]⟩) ![n, 1] ![1, 1] ![0, 0] hi h x 0 i
      = ∑ w : Fin n, if hw : (i 0).val + w.val < n then x (ix2 ⟨(i 0).val + w.val, hw⟩ (i 1)) else 0 := by
  unfold Ideal.hostReduceWindowAdd Host.reduceWindow
  dsimp only
  rw [foldl_add]
  refine (Eq.trans (Finset.sum_congr rfl fun k _ => dite_congr rfl (fun _ => rfl) fun _ => rfl) (Equiv.sum_comp (Shape.rowMajor ⟨2, ![n, 1]⟩).symm (fun q : (⟨2, ![n, 1]⟩ : Shape).Idx =>
    if hin : ∀ a : Fin 2, (![0, 0] : Fin 2 → ℕ) a ≤ (i a).val * (![1, 1] : Fin 2 → ℕ) a + (q a).val ∧ (i a).val * (![1, 1] : Fin 2 → ℕ) a + (q a).val - (![0, 0] : Fin 2 → ℕ) a < (![n, p] : Fin 2 → ℕ) a
      then x (fun a => ⟨(i a).val * (![1, 1] : Fin 2 → ℕ) a + (q a).val - (![0, 0] : Fin 2 → ℕ) a, (hin a).2⟩) else 0))).trans ?_
  rw [sum_idx2]
  refine Finset.sum_congr rfl fun w _ => ?_
  rw [Fin.sum_univ_one]
  have h1 : (i 1).val < p := (i 1).isLt
  by_cases hw : (i 0).val + w.val < n
  · rw [dif_pos hw, dif_pos]
    · congr 1
      funext a
      apply Fin.ext
      match a with
      | ⟨0, _⟩ => show (i 0).val * 1 + w.val - 0 = (i 0).val + w.val; omega
      | ⟨1, _⟩ => show (i 1).val * 1 + 0 - 0 = (i 1).val; omega
    · intro a
      match a with
      | ⟨0, _⟩ => show 0 ≤ (i 0).val * 1 + w.val ∧ (i 0).val * 1 + w.val - 0 < n; omega
      | ⟨1, _⟩ => show 0 ≤ (i 1).val * 1 + 0 ∧ (i 1).val * 1 + 0 - 0 < p; omega
  · rw [dif_neg hw, dif_neg]
    intro hin
    have := (hin 0).2
    change (i 0).val * 1 + w.val - 0 < n at this
    omega

/-- The window sum at a row is the sum of the rows from it on. -/
theorem v5_apply (x2 : S4096x128.Idx → EReal) (i : S4096x128.Idx) : val_main_v5 (F := Ideal) x2 i = tailSum x2 (i 0).val (i 1) := by
  have hz : (val_main_call2_call0_v0 (F := Ideal) (Shape.Idx.first h_S_) : EReal) = 0 := by
    rw [val_main_call2_call0_v0_apply, val_main_call2_call0_cst_apply]
    exact Ideal.ofBits_zero_f32
  have h0 : (i 0).val < 4096 := (i 0).isLt
  unfold val_main_v5 Host.reduceWindowAdd
  rw [hz]
  refine (window_sum 4096 128 _ x2 _ i).trans ?_
  unfold tailSum
  have e1 : ∑ w : Fin 4096, (if hw : (i 0).val + w.val < 4096 then x2 (ix2 ⟨(i 0).val + w.val, hw⟩ (i 1)) else 0)
      = ∑ w ∈ Finset.range 4096, col x2 (i 1) ((i 0).val + w) :=
    Fin.sum_univ_eq_sum_range (fun w => col x2 (i 1) ((i 0).val + w)) 4096
  refine e1.trans ?_
  rw [Finset.range_eq_Ico, Finset.sum_Ico_add (col x2 (i 1)) 0 4096 (i 0).val, zero_add,
    ← Finset.sum_Ico_consecutive _ (le_of_lt h0) (Nat.le_add_right 4096 (i 0).val)]
  rw [Finset.sum_eq_zero (s := Finset.Ico 4096 _) (fun k hk => dif_neg (by have := Finset.mem_Ico.mp hk; omega)), add_zero]

/-! ## The results -/

/-- The gate's gradient. -/
theorem v6_eq (x0 : S4096x3200.Idx → EReal) (x1 : S1x128.Idx → EReal) (x2 : S4096x128.Idx → EReal) (i : S4096x128.Idx) :
    val_main_v6 (F := Ideal) x0 x1 x2 i = dGate x0 x1 x2 i := by
  rw [val_main_v6_apply, val_main_call3_v1_apply, val_main_call3_v0_apply, v5_apply, weight_eq]
  show -(-(tailSum x2 (i 0).val (i 1)) * weight _) = _
  rw [EReal.neg_mul, neg_neg]
  rfl

/-- The gate's gradient, in the narrower format. -/
theorem v9_eq (x0 : S4096x3200.Idx → EReal) (x1 : S1x128.Idx → EReal) (x2 : S4096x128.Idx → EReal) :
    val_main_v9 (F := Ideal) x0 x1 x2 = dGate x0 x1 x2 := by
  funext i
  rw [val_main_v9_apply]
  exact v6_eq x0 x1 x2 i

/-- The gradient of the bias. -/
theorem v8_eq (x0 : S4096x3200.Idx → EReal) (x1 : S1x128.Idx → EReal) (x2 : S4096x128.Idx → EReal) :
    val_main_v8 (F := Ideal) x0 x1 x2 = dBias x0 x1 x2 := by
  funext i
  rw [val_main_v8_apply, val_main_v7_apply]
  simp only [v6_eq, val_main_cst_apply]
  rw [show (FloatOps.ofBits .f32 0x00000000#32 : Ideal .f32) = (0 : EReal) from Ideal.ofBits_zero_f32]
  refine (zero_add _).trans ?_
  unfold dBias tailSum
  rw [← Finset.range_eq_Ico, ← Fin.sum_univ_eq_sum_range (col (dGate x0 x1 x2) (i 1)) 4096]
  refine Finset.sum_congr rfl fun k _ => ?_
  refine Eq.trans ?_ (col_of_lt (dGate x0 x1 x2) (i 1) k.val k.isLt).symm
  congr 1
  funext a
  apply Fin.ext
  match a with
  | ⟨0, _⟩ => rfl
  | ⟨1, _⟩ =>
    have h0 := (i 0).isLt
    change (i 0).val < 1 at h0
    change (i 0).val * 128 + (i 1).val = (i 1).val
    omega

end Cert.Reference4Ideal.RefValue

end
-- ==== Proof.Gate.lean ====
/-
The gradient of the log-sigmoid gate's running sum: the run of the reference, and the claims about the two programs.
-/
module

public import proofs.«01_k».proof.Defs
public import proofs.«01_k».proof.Proof.Gen.Kernel4.Frame
public import proofs.«01_k».proof.Proof.Gen.Pre_finite_gradient
public import proofs.«01_k».proof.Proof.GateReference
public import Idealize.ShloMosaic.Lib.Quiescent

@[expose] public section

set_option maxRecDepth 16384

noncomputable section

namespace Cert.GateProof

open Idealize.ShloMosaic Idealize.ShloMosaic.TcCoe Idealize.SL.Sem
open Cert.Kernel4Ideal.RefValue (dGate dBias NoInfinity)

/-- The run at the machine's words leaves the arguments and the counters as they were. -/
theorem frame_kernel : Cert.quiescent_Kernel4 := fun m ρ _ => Cert.Kernel4.Gen.frame (F := Bits) m ρ

/-- So does the run on the extended reals. -/
theorem frame_ideal : Cert.quiescent_Kernel4Ideal := fun m ρ _ => Cert.Kernel4Ideal.Gen.frame (F := Ideal) m ρ

/-- And so from the initial memories that the precondition allows. -/
theorem frame_ideal_pre [Cert.Pre_finite_gradient.Facts] : Cert.quiescent_Kernel4Ideal_pre_finite_gradient :=
  fun m ρ _ => Cert.Kernel4Ideal.Gen.frame (F := Ideal) m ρ

section
open Cert.Reference4Ideal

/-- The reference leaves its arguments as they were; it has no counters. -/
theorem frame_reference : Cert.quiescent_Reference4Ideal := fun m ρ _ =>
  (θ_run defs _ _).mono (fun r h => ⟨fun c => (h c).2.2, sem_eq_zero_of_no_sems (by decide) r.2⟩)
    (Cert.Reference4Ideal.Value.run (F := Ideal) m ρ)

/-- And so from the initial memories that the precondition allows. -/
theorem frame_reference_pre [Cert.Pre_finite_gradient.Facts] : Cert.quiescent_Reference4Ideal_pre_finite_gradient :=
  fun m ρ _ => frame_reference m ρ trivial

variable (m : (ℓ : Loc nD τ sig) → Buf (Elt Ideal) ℓ) (ρ : Dev nD → PrngReg)

/-- The reference ends with the same two functions of its arguments that the kernel computes. -/
theorem reference_run : θ_run defs (onTc (τ := τ) (main (F := Ideal))) ⟨m, fun _ => 0, ρ⟩ (fun r => ∀ c : Dev nD,
      r.2.mem ((c : Thread nD τ).loc main_v9) = dGate (m ((c : Thread nD τ).loc main_arg0)) (m ((c : Thread nD τ).loc main_arg1)) (m ((c : Thread nD τ).loc main_arg2))
      ∧ r.2.mem ((c : Thread nD τ).loc main_v8) = dBias (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)) :=
  (θ_run defs _ _).mono (fun _ h c =>
    ⟨((h c).1.trans (Read.val_main_v9_eq _ _)).trans (RefValue.v9_eq _ _ _),
     ((h c).2.1.trans (Read.val_main_v8_eq _ _)).trans (RefValue.v8_eq _ _ _), (h c).2.2⟩)
    (Value.run (F := Ideal) m ρ)

end

/-- Where the precondition's test succeeds at every entry, no entry of the incoming gradient is infinite. -/
theorem noInfinity (x0 : Cert.Pre_finite_gradient.S4096x3200.Idx → EReal) (x1 : Cert.Pre_finite_gradient.S1x128.Idx → EReal)
    (x2 : Cert.Pre_finite_gradient.S4096x128.Idx → EReal)
    (h : Cert.Pre_finite_gradient.fn (F := Ideal) x0 x1 x2 = fun _ => 1#1) : NoInfinity x2 := by
  intro j
  simp only [Cert.Pre_finite_gradient.fn] at h
  have hj := congrFun h j
  simp only [cmpf, Host.absf, broadcastInDim, constant] at hj
  rw [Cert.Reference4Ideal.RefValue.infinity_word] at hj
  have hlt : max (x2 j) (-(x2 j)) < (⊤ : EReal) := by
    by_contra hn
    have : (FloatOps.cmpf (F := Ideal) (φ := .f32) .olt (max (x2 j) (-(x2 j)) : EReal) (⊤ : EReal)) = 0#1 := by
      simp [FloatOps.cmpf, Ideal.cmp, hn]
    exact absurd (this.symm.trans hj) (by decide)
  constructor
  · intro e
    rw [e] at hlt
    simp at hlt
  · intro e
    rw [e] at hlt
    simp at hlt

section
open Cert.Kernel4Ideal

/-- From equal arguments with no infinite entry of the incoming gradient, the kernel and the reference end with equal
    results: the gradient of the gate's columns and that of the gate's bias. -/
theorem algebraic : Cert.algebraic_Kernel4Ideal_Reference4Ideal_pre_finite_gradient := fun m ρ m' ρ' hpre hag =>
  ⟨fun c => dGate (m ((c : Thread nD τ).loc main_arg0)) (m ((c : Thread nD τ).loc main_arg1)) (m ((c : Thread nD τ).loc main_arg2)),
   fun c => dBias (m ((c : Thread nD τ).loc main_arg0)) (m ((c : Thread nD τ).loc main_arg1)) (m ((c : Thread nD τ).loc main_arg2)),
   RefValue.run m ρ (fun c => noInfinity _ _ _ (hpre c)),
   (θ_run _ _ _).mono (fun r h c => by
      obtain ⟨h0, h1, h2⟩ := hag c
      have hc := h c
      rw [h0, h1, h2] at hc
      obtain ⟨e1, e2, e3, e4, e5⟩ := hc
      exact ⟨e1, e2, e3.trans h0.symm, e4.trans h1.symm, e5.trans h2.symm⟩) (reference_run m' ρ')⟩

end

end Cert.GateProof
-- ==== Proof.AttentionArrays.lean ====
/-
The products of the attention layer and their gradients: where each call's blocks lie, and the array that each call leaves.
-/
module

public import proofs.«01_k».proof.Proof.Gen.Kernel5Ideal.Frame
public import proofs.«01_k».proof.Proof.Products
public import Idealize.ShloMosaic.Lib.Pipeline.Value
public import Idealize.ShloMosaic.Lib.Pointwise
public import Idealize.ShloMosaic.Lib.ValueIdxCore

@[expose] public section

set_option maxRecDepth 16384

noncomputable section

namespace Cert.Kernel5Ideal.RefValue

open Cert.Kernel5Ideal Cert.Kernel5Ideal.Gen
open Idealize.ShloMosaic Idealize.ShloMosaic.TcCoe Idealize.SL.Sem
open Idealize.ShloMosaic.Pipeline (Dat)
open Cert.Products (nn nt tn addRow slots)

variable (V : (c : Dev nD) → (b : Ref sig .tc) → Buf (Elt Ideal) ((c : Thread nD τ).loc b))

theorem hz : (![0, 0] : Fin 2 → Nat) = fun _ => 0 := funext fun a => by fin_cases a <;> rfl
theorem hz3 : (![0, 0, 0] : Fin 3 → Nat) = fun _ => 0 := funext fun a => by fin_cases a <;> rfl

/-! ## Call 0: where each window's block lies -/

/-- The block indices of call 0's windows at every point of its grid. -/
theorem idx0 : ∀ t : Fin grid0.N, win0_0.index t 0 = t.val / 5 ∧ win0_0.index t 1 = 0 ∧ win0_1.index t 0 = 0 ∧ win0_1.index t 1 = t.val % 5 ∧ win0_2.index t 0 = t.val / 5 ∧ win0_2.index t 1 = t.val % 5 := by decide +kernel

theorem lt0 (t : Fin cfg0.N) : t.val < 20 := lt_of_lt_of_eq t.isLt N_0

/-- Window 0 of call 0: its block at point `t` of an array, read at an index of the block. -/
theorem blk0_0 (t : Fin cfg0.N) (A : S4096x1024.Idx → EReal) (j : S1024x1024.Idx) :
    ((cfg0.win 0).blk t).view.read (Elt Ideal) A j = A (ix2 ⟨1024 * (t.val / 5) + (j 0).val, by have h := (j 0).isLt; have ht := lt0 t; change (j 0).val < 1024 at h; omega⟩ (j 1)) := by
  rw [View.read_apply]
  show A _ = A _
  congr 1
  funext a
  apply Fin.ext
  have hi := idx0 t
  match a with
  | ⟨0, _⟩ => show win0_0.index t 0 * 1024 + 1 * (j 0).val = 1024 * (t.val / 5) + (j 0).val; rw [hi.1]; omega
  | ⟨1, _⟩ => show win0_0.index t 1 * 1024 + 1 * (j 1).val = (j 1).val; rw [hi.2.1]; omega

/-- Window 1 of call 0: its block at point `t` of an array, read at an index of the block. -/
theorem blk0_1 (t : Fin cfg0.N) (A : S1024x3200.Idx → EReal) (j : S1024x640.Idx) :
    ((cfg0.win 1).blk t).view.read (Elt Ideal) A j = A (ix2 (j 0) ⟨640 * (t.val % 5) + (j 1).val, by have h := (j 1).isLt; have ht := lt0 t; change (j 1).val < 640 at h; omega⟩) := by
  rw [View.read_apply]
  show A _ = A _
  congr 1
  funext a
  apply Fin.ext
  have hi := idx0 t
  match a with
  | ⟨0, _⟩ => show win0_1.index t 0 * 1024 + 1 * (j 0).val = (j 0).val; rw [hi.2.2.1]; omega
  | ⟨1, _⟩ => show win0_1.index t 1 * 640 + 1 * (j 1).val = 640 * (t.val % 5) + (j 1).val; rw [hi.2.2.2.1]; omega

/-- Window 2 of call 0: its block at point `t` of an array, read at an index of the block. -/
theorem blk0_2 (t : Fin cfg0.N) (A : S4096x3200.Idx → EReal) (j : S1024x640.Idx) :
    ((cfg0.win 2).blk t).view.read (Elt Ideal) A j = A (ix2 ⟨1024 * (t.val / 5) + (j 0).val, by have h := (j 0).isLt; have ht := lt0 t; change (j 0).val < 1024 at h; omega⟩ ⟨640 * (t.val % 5) + (j 1).val, by have h := (j 1).isLt; have ht := lt0 t; change (j 1).val < 640 at h; omega⟩) := by
  rw [View.read_apply]
  show A _ = A _
  congr 1
  funext a
  apply Fin.ext
  have hi := idx0 t
  match a with
  | ⟨0, _⟩ => show win0_2.index t 0 * 1024 + 1 * (j 0).val = 1024 * (t.val / 5) + (j 0).val; rw [hi.2.2.2.2.1]; omega
  | ⟨1, _⟩ => show win0_2.index t 1 * 640 + 1 * (j 1).val = 640 * (t.val % 5) + (j 1).val; rw [hi.2.2.2.2.2]; omega

/-! ## Call 0: the array it leaves -/

theorem k0_pay1_apply (x0 : Vec Ideal S1024x1024 .bf16) (x1 : Vec Ideal S1024x640 .bf16) (j : S1024x640.Idx) :
    k0_pay1 x0 x1 j = ∑ q : Fin 1024, x0 (ix2 (j 0) q) * x1 (ix2 q (j 1)) := by
  unfold k0_pay1
  pointwise

theorem out0_2_apply (x0 : Vec Ideal S1024x1024 .bf16) (x1 : Vec Ideal S1024x640 .bf16) (j : S1024x640.Idx) :
    out0_2 x0 x1 j = ∑ q : Fin 1024, x0 (ix2 (j 0) q) * x1 (ix2 q (j 1)) := by
  unfold out0_2
  rw [View.canon_unit_zero hz]
  rw [View.ld_unit_zero (S := S1024x1024) hz, View.ld_unit_zero (S := S1024x640) hz]
  exact k0_pay1_apply x0 x1 j

theorem iblk0_0 (c : Dev nD) (t : Fin cfg0.N) (j : S1024x1024.Idx) :
    (iblk0 V c 0 t : S1024x1024.Idx → EReal) j = (V c (Pipeline.arrRef spec0 0) : S4096x1024.Idx → EReal) (ix2 ⟨1024 * (t.val / 5) + (j 0).val, by have h := (j 0).isLt; have ht := lt0 t; change (j 0).val < 1024 at h; omega⟩ (j 1)) := blk0_0 t (V c (Pipeline.arrRef spec0 0)) j

theorem iblk0_1 (c : Dev nD) (t : Fin cfg0.N) (j : S1024x640.Idx) :
    (iblk0 V c 1 t : S1024x640.Idx → EReal) j = (V c (Pipeline.arrRef spec0 1) : S1024x3200.Idx → EReal) (ix2 (j 0) ⟨640 * (t.val % 5) + (j 1).val, by have h := (j 1).isLt; have ht := lt0 t; change (j 1).val < 640 at h; omega⟩) := blk0_1 t (V c (Pipeline.arrRef spec0 1)) j

/-- Every index of the array lies in the block of some point. -/
theorem cover0_2' (i : S4096x3200.Idx) :
    ∃ t : Fin cfg0.N, (cfg0.win 2).flush t = true ∧ i ∈ ((cfg0.win 2).blk t).view.set := by
  have h0 : (i 0).val < 4096 := (i 0).isLt
  have h1 : (i 1).val < 3200 := (i 1).isLt
  have ht : 5 * ((i 0).val / 1024) + (i 1).val / 640 < cfg0.N := lt_of_lt_of_eq (by omega : _ < 20) N_0.symm
  refine ⟨⟨5 * ((i 0).val / 1024) + (i 1).val / 640, ht⟩, flush0_2 _, ?_⟩
  have hi := idx0 ⟨5 * ((i 0).val / 1024) + (i 1).val / 640, ht⟩
  show i ∈ ((View.whole (Pipeline.arrRef spec0 2)).slice (win0_2.rect ⟨5 * ((i 0).val / 1024) + (i 1).val / 640, ht⟩)).set
  rw [View.set_slice_whole, Rect.mem_set_unit]
  intro a
  match a with
  | ⟨0, _⟩ => show win0_2.index ⟨5 * ((i 0).val / 1024) + (i 1).val / 640, ht⟩ 0 * 1024 ≤ (i 0).val ∧ (i 0).val < win0_2.index ⟨5 * ((i 0).val / 1024) + (i 1).val / 640, ht⟩ 0 * 1024 + 1024; rw [hi.2.2.2.2.1]; dsimp only; omega
  | ⟨1, _⟩ => show win0_2.index ⟨5 * ((i 0).val / 1024) + (i 1).val / 640, ht⟩ 1 * 640 ≤ (i 1).val ∧ (i 1).val < win0_2.index ⟨5 * ((i 0).val / 1024) + (i 1).val / 640, ht⟩ 1 * 640 + 640; rw [hi.2.2.2.2.2]; dsimp only; omega

/-- What a point writes back is its block of the whole-array function. -/
theorem flushed0_2 (c : Dev nD) (t : Fin cfg0.N) :
    (dat0 V c).flushed 2 t = ((cfg0.win 2).blk t).view.read (Elt Ideal) (nn (V c main_arg0) (V c main_arg1)) := by
  show (cfg0.win 2).cut (grid0.coords t) ((dat0 V c).after 2 t) = _
  rw [after0_2]
  refine funext fun (j : S1024x640.Idx) => ?_
  refine Eq.trans ?_ (blk0_2 t (nn (V c main_arg0) (V c main_arg1)) j).symm
  refine (out0_2_apply (iblk0 V c 0 t) (iblk0 V c 1 t) j).trans ?_
  simp only [iblk0_0, iblk0_1]
  rfl

/-- The array this call leaves. -/
theorem final0_2 (c : Dev nD) : (dat0 V c).arrAt 2 cfg0.N = nn (V c main_arg0) (V c main_arg1) :=
  (dat0 V c).arrAt_eq_of_cover 2 (nn (V c main_arg0) (V c main_arg1)) (fun t _ => flushed0_2 V c t) cover0_2'

/-! ## Call 1: where each window's block lies -/

/-- The block indices of call 1's windows at every point of its grid. -/
theorem idx1 : ∀ t : Fin grid1.N, win1_0.index t 0 = t.val / 2 ∧ win1_0.index t 1 = 0 ∧ win1_1.index t 0 = 0 ∧ win1_1.index t 1 = t.val % 2 ∧ win1_2.index t 0 = t.val / 2 ∧ win1_2.index t 1 = t.val % 2 := by decide +kernel

theorem lt1 (t : Fin cfg1.N) : t.val < 16 := lt_of_lt_of_eq t.isLt N_1

/-- Window 0 of call 1: its block at point `t` of an array, read at an index of the block. -/
theorem blk1_0 (t : Fin cfg1.N) (A : S4096x1024.Idx → EReal) (j : S512x1024.Idx) :
    ((cfg1.win 0).blk t).view.read (Elt Ideal) A j = A (ix2 ⟨512 * (t.val / 2) + (j 0).val, by have h := (j 0).isLt; have ht := lt1 t; change (j 0).val < 512 at h; omega⟩ (j 1)) := by
  rw [View.read_apply]
  show A _ = A _
  congr 1
  funext a
  apply Fin.ext
  have hi := idx1 t
  match a with
  | ⟨0, _⟩ => show win1_0.index t 0 * 512 + 1 * (j 0).val = 512 * (t.val / 2) + (j 0).val; rw [hi.1]; omega
  | ⟨1, _⟩ => show win1_0.index t 1 * 1024 + 1 * (j 1).val = (j 1).val; rw [hi.2.1]; omega

/-- Window 1 of call 1: its block at point `t` of an array, read at an index of the block. -/
theorem blk1_1 (t : Fin cfg1.N) (A : S1024x1024.Idx → EReal) (j : S1024x512.Idx) :
    ((cfg1.win 1).blk t).view.read (Elt Ideal) A j = A (ix2 (j 0) ⟨512 * (t.val % 2) + (j 1).val, by have h := (j 1).isLt; have ht := lt1 t; change (j 1).val < 512 at h; omega⟩) := by
  rw [View.read_apply]
  show A _ = A _
  congr 1
  funext a
  apply Fin.ext
  have hi := idx1 t
  match a with
  | ⟨0, _⟩ => show win1_1.index t 0 * 1024 + 1 * (j 0).val = (j 0).val; rw [hi.2.2.1]; omega
  | ⟨1, _⟩ => show win1_1.index t 1 * 512 + 1 * (j 1).val = 512 * (t.val % 2) + (j 1).val; rw [hi.2.2.2.1]; omega

/-- Window 2 of call 1: its block at point `t` of an array, read at an index of the block. -/
theorem blk1_2 (t : Fin cfg1.N) (A : S4096x1024.Idx → EReal) (j : S512x512.Idx) :
    ((cfg1.win 2).blk t).view.read (Elt Ideal) A j = A (ix2 ⟨512 * (t.val / 2) + (j 0).val, by have h := (j 0).isLt; have ht := lt1 t; change (j 0).val < 512 at h; omega⟩ ⟨512 * (t.val % 2) + (j 1).val, by have h := (j 1).isLt; have ht := lt1 t; change (j 1).val < 512 at h; omega⟩) := by
  rw [View.read_apply]
  show A _ = A _
  congr 1
  funext a
  apply Fin.ext
  have hi := idx1 t
  match a with
  | ⟨0, _⟩ => show win1_2.index t 0 * 512 + 1 * (j 0).val = 512 * (t.val / 2) + (j 0).val; rw [hi.2.2.2.2.1]; omega
  | ⟨1, _⟩ => show win1_2.index t 1 * 512 + 1 * (j 1).val = 512 * (t.val % 2) + (j 1).val; rw [hi.2.2.2.2.2]; omega

/-! ## Call 1: the array it leaves -/

theorem k1_pay1_apply (x0 : Vec Ideal S512x1024 .bf16) (x1 : Vec Ideal S1024x512 .bf16) (j : S512x512.Idx) :
    k1_pay1 x0 x1 j = ∑ q : Fin 1024, x0 (ix2 (j 0) q) * x1 (ix2 q (j 1)) := by
  unfold k1_pay1
  pointwise

theorem out1_2_apply (x0 : Vec Ideal S512x1024 .bf16) (x1 : Vec Ideal S1024x512 .bf16) (j : S512x512.Idx) :
    out1_2 x0 x1 j = ∑ q : Fin 1024, x0 (ix2 (j 0) q) * x1 (ix2 q (j 1)) := by
  unfold out1_2
  rw [View.canon_unit_zero hz]
  rw [View.ld_unit_zero (S := S512x1024) hz, View.ld_unit_zero (S := S1024x512) hz]
  exact k1_pay1_apply x0 x1 j

theorem iblk1_0 (c : Dev nD) (t : Fin cfg1.N) (j : S512x1024.Idx) :
    (iblk1 V c 0 t : S512x1024.Idx → EReal) j = (V c (Pipeline.arrRef spec1 0) : S4096x1024.Idx → EReal) (ix2 ⟨512 * (t.val / 2) + (j 0).val, by have h := (j 0).isLt; have ht := lt1 t; change (j 0).val < 512 at h; omega⟩ (j 1)) := blk1_0 t (V c (Pipeline.arrRef spec1 0)) j

theorem iblk1_1 (c : Dev nD) (t : Fin cfg1.N) (j : S1024x512.Idx) :
    (iblk1 V c 1 t : S1024x512.Idx → EReal) j = (V c (Pipeline.arrRef spec1 1) : S1024x1024.Idx → EReal) (ix2 (j 0) ⟨512 * (t.val % 2) + (j 1).val, by have h := (j 1).isLt; have ht := lt1 t; change (j 1).val < 512 at h; omega⟩) := blk1_1 t (V c (Pipeline.arrRef spec1 1)) j

/-- Every index of the array lies in the block of some point. -/
theorem cover1_2' (i : S4096x1024.Idx) :
    ∃ t : Fin cfg1.N, (cfg1.win 2).flush t = true ∧ i ∈ ((cfg1.win 2).blk t).view.set := by
  have h0 : (i 0).val < 4096 := (i 0).isLt
  have h1 : (i 1).val < 1024 := (i 1).isLt
  have ht : 2 * ((i 0).val / 512) + (i 1).val / 512 < cfg1.N := lt_of_lt_of_eq (by omega : _ < 16) N_1.symm
  refine ⟨⟨2 * ((i 0).val / 512) + (i 1).val / 512, ht⟩, flush1_2 _, ?_⟩
  have hi := idx1 ⟨2 * ((i 0).val / 512) + (i 1).val / 512, ht⟩
  show i ∈ ((View.whole (Pipeline.arrRef spec1 2)).slice (win1_2.rect ⟨2 * ((i 0).val / 512) + (i 1).val / 512, ht⟩)).set
  rw [View.set_slice_whole, Rect.mem_set_unit]
  intro a
  match a with
  | ⟨0, _⟩ => show win1_2.index ⟨2 * ((i 0).val / 512) + (i 1).val / 512, ht⟩ 0 * 512 ≤ (i 0).val ∧ (i 0).val < win1_2.index ⟨2 * ((i 0).val / 512) + (i 1).val / 512, ht⟩ 0 * 512 + 512; rw [hi.2.2.2.2.1]; dsimp only; omega
  | ⟨1, _⟩ => show win1_2.index ⟨2 * ((i 0).val / 512) + (i 1).val / 512, ht⟩ 1 * 512 ≤ (i 1).val ∧ (i 1).val < win1_2.index ⟨2 * ((i 0).val / 512) + (i 1).val / 512, ht⟩ 1 * 512 + 512; rw [hi.2.2.2.2.2]; dsimp only; omega

/-- What a point writes back is its block of the whole-array function. -/
theorem flushed1_2 (c : Dev nD) (t : Fin cfg1.N) :
    (dat1 V c).flushed 2 t = ((cfg1.win 2).blk t).view.read (Elt Ideal) (nn (V c main_arg2) (V c main_arg3)) := by
  show (cfg1.win 2).cut (grid1.coords t) ((dat1 V c).after 2 t) = _
  rw [after1_2]
  refine funext fun (j : S512x512.Idx) => ?_
  refine Eq.trans ?_ (blk1_2 t (nn (V c main_arg2) (V c main_arg3)) j).symm
  refine (out1_2_apply (iblk1 V c 0 t) (iblk1 V c 1 t) j).trans ?_
  simp only [iblk1_0, iblk1_1]
  rfl

/-- The array this call leaves. -/
theorem final1_2 (c : Dev nD) : (dat1 V c).arrAt 2 cfg1.N = nn (V c main_arg2) (V c main_arg3) :=
  (dat1 V c).arrAt_eq_of_cover 2 (nn (V c main_arg2) (V c main_arg3)) (fun t _ => flushed1_2 V c t) cover1_2'

/-! ## Call 2: where each window's block lies -/

/-- The block indices of call 2's windows at every point of its grid. -/
theorem idx2 : ∀ t : Fin grid2.N, win2_0.index t 0 = t.val / 2 ∧ win2_0.index t 1 = 0 ∧ win2_1.index t 0 = t.val % 2 ∧ win2_1.index t 1 = 0 ∧ win2_2.index t 0 = t.val / 2 ∧ win2_2.index t 1 = t.val % 2 := by decide +kernel

theorem lt2 (t : Fin cfg2.N) : t.val < 16 := lt_of_lt_of_eq t.isLt N_2

/-- Window 0 of call 2: its block at point `t` of an array, read at an index of the block. -/
theorem blk2_0 (t : Fin cfg2.N) (A : S4096x1024.Idx → EReal) (j : S512x1024.Idx) :
    ((cfg2.win 0).blk t).view.read (Elt Ideal) A j = A (ix2 ⟨512 * (t.val / 2) + (j 0).val, by have h := (j 0).isLt; have ht := lt2 t; change (j 0).val < 512 at h; omega⟩ (j 1)) := by
  rw [View.read_apply]
  show A _ = A _
  congr 1
  funext a
  apply Fin.ext
  have hi := idx2 t
  match a with
  | ⟨0, _⟩ => show win2_0.index t 0 * 512 + 1 * (j 0).val = 512 * (t.val / 2) + (j 0).val; rw [hi.1]; omega
  | ⟨1, _⟩ => show win2_0.index t 1 * 1024 + 1 * (j 1).val = (j 1).val; rw [hi.2.1]; omega

/-- Window 1 of call 2: its block at point `t` of an array, read at an index of the block. -/
theorem blk2_1 (t : Fin cfg2.N) (A : S1024x1024.Idx → EReal) (j : S512x1024.Idx) :
    ((cfg2.win 1).blk t).view.read (Elt Ideal) A j = A (ix2 ⟨512 * (t.val % 2) + (j 0).val, by have h := (j 0).isLt; have ht := lt2 t; change (j 0).val < 512 at h; omega⟩ (j 1)) := by
  rw [View.read_apply]
  show A _ = A _
  congr 1
  funext a
  apply Fin.ext
  have hi := idx2 t
  match a with
  | ⟨0, _⟩ => show win2_1.index t 0 * 512 + 1 * (j 0).val = 512 * (t.val % 2) + (j 0).val; rw [hi.2.2.1]; omega
  | ⟨1, _⟩ => show win2_1.index t 1 * 1024 + 1 * (j 1).val = (j 1).val; rw [hi.2.2.2.1]; omega

/-- Window 2 of call 2: its block at point `t` of an array, read at an index of the block. -/
theorem blk2_2 (t : Fin cfg2.N) (A : S4096x1024.Idx → EReal) (j : S512x512.Idx) :
    ((cfg2.win 2).blk t).view.read (Elt Ideal) A j = A (ix2 ⟨512 * (t.val / 2) + (j 0).val, by have h := (j 0).isLt; have ht := lt2 t; change (j 0).val < 512 at h; omega⟩ ⟨512 * (t.val % 2) + (j 1).val, by have h := (j 1).isLt; have ht := lt2 t; change (j 1).val < 512 at h; omega⟩) := by
  rw [View.read_apply]
  show A _ = A _
  congr 1
  funext a
  apply Fin.ext
  have hi := idx2 t
  match a with
  | ⟨0, _⟩ => show win2_2.index t 0 * 512 + 1 * (j 0).val = 512 * (t.val / 2) + (j 0).val; rw [hi.2.2.2.2.1]; omega
  | ⟨1, _⟩ => show win2_2.index t 1 * 512 + 1 * (j 1).val = 512 * (t.val % 2) + (j 1).val; rw [hi.2.2.2.2.2]; omega

/-! ## Call 2: the array it leaves -/

theorem k2_pay1_apply (x0 : Vec Ideal S512x1024 .bf16) (x1 : Vec Ideal S512x1024 .bf16) (j : S512x512.Idx) :
    k2_pay1 x0 x1 j = ∑ q : Fin 1024, x0 (ix2 (j 0) q) * x1 (ix2 (j 1) q) := by
  unfold k2_pay1
  pointwise

theorem out2_2_apply (x0 : Vec Ideal S512x1024 .bf16) (x1 : Vec Ideal S512x1024 .bf16) (j : S512x512.Idx) :
    out2_2 x0 x1 j = ∑ q : Fin 1024, x0 (ix2 (j 0) q) * x1 (ix2 (j 1) q) := by
  unfold out2_2
  rw [View.canon_unit_zero hz]
  rw [View.ld_unit_zero (S := S512x1024) hz, View.ld_unit_zero (S := S512x1024) hz]
  exact k2_pay1_apply x0 x1 j

theorem iblk2_0 (c : Dev nD) (t : Fin cfg2.N) (j : S512x1024.Idx) :
    (iblk2 V c 0 t : S512x1024.Idx → EReal) j = (V c (Pipeline.arrRef spec2 0) : S4096x1024.Idx → EReal) (ix2 ⟨512 * (t.val / 2) + (j 0).val, by have h := (j 0).isLt; have ht := lt2 t; change (j 0).val < 512 at h; omega⟩ (j 1)) := blk2_0 t (V c (Pipeline.arrRef spec2 0)) j

theorem iblk2_1 (c : Dev nD) (t : Fin cfg2.N) (j : S512x1024.Idx) :
    (iblk2 V c 1 t : S512x1024.Idx → EReal) j = (V c (Pipeline.arrRef spec2 1) : S1024x1024.Idx → EReal) (ix2 ⟨512 * (t.val % 2) + (j 0).val, by have h := (j 0).isLt; have ht := lt2 t; change (j 0).val < 512 at h; omega⟩ (j 1)) := blk2_1 t (V c (Pipeline.arrRef spec2 1)) j

/-- Every index of the array lies in the block of some point. -/
theorem cover2_2' (i : S4096x1024.Idx) :
    ∃ t : Fin cfg2.N, (cfg2.win 2).flush t = true ∧ i ∈ ((cfg2.win 2).blk t).view.set := by
  have h0 : (i 0).val < 4096 := (i 0).isLt
  have h1 : (i 1).val < 1024 := (i 1).isLt
  have ht : 2 * ((i 0).val / 512) + (i 1).val / 512 < cfg2.N := lt_of_lt_of_eq (by omega : _ < 16) N_2.symm
  refine ⟨⟨2 * ((i 0).val / 512) + (i 1).val / 512, ht⟩, flush2_2 _, ?_⟩
  have hi := idx2 ⟨2 * ((i 0).val / 512) + (i 1).val / 512, ht⟩
  show i ∈ ((View.whole (Pipeline.arrRef spec2 2)).slice (win2_2.rect ⟨2 * ((i 0).val / 512) + (i 1).val / 512, ht⟩)).set
  rw [View.set_slice_whole, Rect.mem_set_unit]
  intro a
  match a with
  | ⟨0, _⟩ => show win2_2.index ⟨2 * ((i 0).val / 512) + (i 1).val / 512, ht⟩ 0 * 512 ≤ (i 0).val ∧ (i 0).val < win2_2.index ⟨2 * ((i 0).val / 512) + (i 1).val / 512, ht⟩ 0 * 512 + 512; rw [hi.2.2.2.2.1]; dsimp only; omega
  | ⟨1, _⟩ => show win2_2.index ⟨2 * ((i 0).val / 512) + (i 1).val / 512, ht⟩ 1 * 512 ≤ (i 1).val ∧ (i 1).val < win2_2.index ⟨2 * ((i 0).val / 512) + (i 1).val / 512, ht⟩ 1 * 512 + 512; rw [hi.2.2.2.2.2]; dsimp only; omega

/-- What a point writes back is its block of the whole-array function. -/
theorem flushed2_2 (c : Dev nD) (t : Fin cfg2.N) :
    (dat2 V c).flushed 2 t = ((cfg2.win 2).blk t).view.read (Elt Ideal) (nt (V c main_arg4) (V c main_arg3)) := by
  show (cfg2.win 2).cut (grid2.coords t) ((dat2 V c).after 2 t) = _
  rw [after2_2]
  refine funext fun (j : S512x512.Idx) => ?_
  refine Eq.trans ?_ (blk2_2 t (nt (V c main_arg4) (V c main_arg3)) j).symm
  refine (out2_2_apply (iblk2 V c 0 t) (iblk2 V c 1 t) j).trans ?_
  simp only [iblk2_0, iblk2_1]
  rfl

/-- The array this call leaves. -/
theorem final2_2 (c : Dev nD) : (dat2 V c).arrAt 2 cfg2.N = nt (V c main_arg4) (V c main_arg3) :=
  (dat2 V c).arrAt_eq_of_cover 2 (nt (V c main_arg4) (V c main_arg3)) (fun t _ => flushed2_2 V c t) cover2_2'

/-! ## Call 3: where each window's block lies -/

/-- The block indices of call 3's windows at every point of its grid. -/
theorem idx3 : ∀ t : Fin grid3.N, win3_0.index t 0 = 0 ∧ win3_0.index t 1 = t.val / 2 ∧ win3_1.index t 0 = 0 ∧ win3_1.index t 1 = t.val % 2 ∧ win3_2.index t 0 = t.val / 2 ∧ win3_2.index t 1 = t.val % 2 := by decide +kernel

theorem lt3 (t : Fin cfg3.N) : t.val < 4 := lt_of_lt_of_eq t.isLt N_3

/-- Window 0 of call 3: its block at point `t` of an array, read at an index of the block. -/
theorem blk3_0 (t : Fin cfg3.N) (A : S4096x1024.Idx → EReal) (j : S4096x512.Idx) :
    ((cfg3.win 0).blk t).view.read (Elt Ideal) A j = A (ix2 (j 0) ⟨512 * (t.val / 2) + (j 1).val, by have h := (j 1).isLt; have ht := lt3 t; change (j 1).val < 512 at h; omega⟩) := by
  rw [View.read_apply]
  show A _ = A _
  congr 1
  funext a
  apply Fin.ext
  have hi := idx3 t
  match a with
  | ⟨0, _⟩ => show win3_0.index t 0 * 4096 + 1 * (j 0).val = (j 0).val; rw [hi.1]; omega
  | ⟨1, _⟩ => show win3_0.index t 1 * 512 + 1 * (j 1).val = 512 * (t.val / 2) + (j 1).val; rw [hi.2.1]; omega

/-- Window 1 of call 3: its block at point `t` of an array, read at an index of the block. -/
theorem blk3_1 (t : Fin cfg3.N) (A : S4096x1024.Idx → EReal) (j : S4096x512.Idx) :
    ((cfg3.win 1).blk t).view.read (Elt Ideal) A j = A (ix2 (j 0) ⟨512 * (t.val % 2) + (j 1).val, by have h := (j 1).isLt; have ht := lt3 t; change (j 1).val < 512 at h; omega⟩) := by
  rw [View.read_apply]
  show A _ = A _
  congr 1
  funext a
  apply Fin.ext
  have hi := idx3 t
  match a with
  | ⟨0, _⟩ => show win3_1.index t 0 * 4096 + 1 * (j 0).val = (j 0).val; rw [hi.2.2.1]; omega
  | ⟨1, _⟩ => show win3_1.index t 1 * 512 + 1 * (j 1).val = 512 * (t.val % 2) + (j 1).val; rw [hi.2.2.2.1]; omega

/-- Window 2 of call 3: its block at point `t` of an array, read at an index of the block. -/
theorem blk3_2 (t : Fin cfg3.N) (A : S1024x1024.Idx → EReal) (j : S512x512.Idx) :
    ((cfg3.win 2).blk t).view.read (Elt Ideal) A j = A (ix2 ⟨512 * (t.val / 2) + (j 0).val, by have h := (j 0).isLt; have ht := lt3 t; change (j 0).val < 512 at h; omega⟩ ⟨512 * (t.val % 2) + (j 1).val, by have h := (j 1).isLt; have ht := lt3 t; change (j 1).val < 512 at h; omega⟩) := by
  rw [View.read_apply]
  show A _ = A _
  congr 1
  funext a
  apply Fin.ext
  have hi := idx3 t
  match a with
  | ⟨0, _⟩ => show win3_2.index t 0 * 512 + 1 * (j 0).val = 512 * (t.val / 2) + (j 0).val; rw [hi.2.2.2.2.1]; omega
  | ⟨1, _⟩ => show win3_2.index t 1 * 512 + 1 * (j 1).val = 512 * (t.val % 2) + (j 1).val; rw [hi.2.2.2.2.2]; omega

/-! ## Call 3: the array it leaves -/

theorem k3_pay1_apply (x0 : Vec Ideal S4096x512 .bf16) (x1 : Vec Ideal S4096x512 .bf16) (j : S512x512.Idx) :
    k3_pay1 x0 x1 j = ∑ q : Fin 4096, x0 (ix2 q (j 0)) * x1 (ix2 q (j 1)) := by
  unfold k3_pay1
  pointwise

theorem out3_2_apply (x0 : Vec Ideal S4096x512 .bf16) (x1 : Vec Ideal S4096x512 .bf16) (j : S512x512.Idx) :
    out3_2 x0 x1 j = ∑ q : Fin 4096, x0 (ix2 q (j 0)) * x1 (ix2 q (j 1)) := by
  unfold out3_2
  rw [View.canon_unit_zero hz]
  rw [View.ld_unit_zero (S := S4096x512) hz, View.ld_unit_zero (S := S4096x512) hz]
  exact k3_pay1_apply x0 x1 j

theorem iblk3_0 (c : Dev nD) (t : Fin cfg3.N) (j : S4096x512.Idx) :
    (iblk3 V c 0 t : S4096x512.Idx → EReal) j = (V c (Pipeline.arrRef spec3 0) : S4096x1024.Idx → EReal) (ix2 (j 0) ⟨512 * (t.val / 2) + (j 1).val, by have h := (j 1).isLt; have ht := lt3 t; change (j 1).val < 512 at h; omega⟩) := blk3_0 t (V c (Pipeline.arrRef spec3 0)) j

theorem iblk3_1 (c : Dev nD) (t : Fin cfg3.N) (j : S4096x512.Idx) :
    (iblk3 V c 1 t : S4096x512.Idx → EReal) j = (V c (Pipeline.arrRef spec3 1) : S4096x1024.Idx → EReal) (ix2 (j 0) ⟨512 * (t.val % 2) + (j 1).val, by have h := (j 1).isLt; have ht := lt3 t; change (j 1).val < 512 at h; omega⟩) := blk3_1 t (V c (Pipeline.arrRef spec3 1)) j

/-- Every index of the array lies in the block of some point. -/
theorem cover3_2' (i : S1024x1024.Idx) :
    ∃ t : Fin cfg3.N, (cfg3.win 2).flush t = true ∧ i ∈ ((cfg3.win 2).blk t).view.set := by
  have h0 : (i 0).val < 1024 := (i 0).isLt
  have h1 : (i 1).val < 1024 := (i 1).isLt
  have ht : 2 * ((i 0).val / 512) + (i 1).val / 512 < cfg3.N := lt_of_lt_of_eq (by omega : _ < 4) N_3.symm
  refine ⟨⟨2 * ((i 0).val / 512) + (i 1).val / 512, ht⟩, flush3_2 _, ?_⟩
  have hi := idx3 ⟨2 * ((i 0).val / 512) + (i 1).val / 512, ht⟩
  show i ∈ ((View.whole (Pipeline.arrRef spec3 2)).slice (win3_2.rect ⟨2 * ((i 0).val / 512) + (i 1).val / 512, ht⟩)).set
  rw [View.set_slice_whole, Rect.mem_set_unit]
  intro a
  match a with
  | ⟨0, _⟩ => show win3_2.index ⟨2 * ((i 0).val / 512) + (i 1).val / 512, ht⟩ 0 * 512 ≤ (i 0).val ∧ (i 0).val < win3_2.index ⟨2 * ((i 0).val / 512) + (i 1).val / 512, ht⟩ 0 * 512 + 512; rw [hi.2.2.2.2.1]; dsimp only; omega
  | ⟨1, _⟩ => show win3_2.index ⟨2 * ((i 0).val / 512) + (i 1).val / 512, ht⟩ 1 * 512 ≤ (i 1).val ∧ (i 1).val < win3_2.index ⟨2 * ((i 0).val / 512) + (i 1).val / 512, ht⟩ 1 * 512 + 512; rw [hi.2.2.2.2.2]; dsimp only; omega

/-- What a point writes back is its block of the whole-array function. -/
theorem flushed3_2 (c : Dev nD) (t : Fin cfg3.N) :
    (dat3 V c).flushed 2 t = ((cfg3.win 2).blk t).view.read (Elt Ideal) (tn (V c main_arg2) (V c main_arg4)) := by
  show (cfg3.win 2).cut (grid3.coords t) ((dat3 V c).after 2 t) = _
  rw [after3_2]
  refine funext fun (j : S512x512.Idx) => ?_
  refine Eq.trans ?_ (blk3_2 t (tn (V c main_arg2) (V c main_arg4)) j).symm
  refine (out3_2_apply (iblk3 V c 0 t) (iblk3 V c 1 t) j).trans ?_
  simp only [iblk3_0, iblk3_1]
  rfl

/-- The array this call leaves. -/
theorem final3_2 (c : Dev nD) : (dat3 V c).arrAt 2 cfg3.N = tn (V c main_arg2) (V c main_arg4) :=
  (dat3 V c).arrAt_eq_of_cover 2 (tn (V c main_arg2) (V c main_arg4)) (fun t _ => flushed3_2 V c t) cover3_2'

/-! ## Call 4: where each window's block lies -/

/-- The block indices of call 4's windows at every point of its grid. -/
theorem idx4 : ∀ t : Fin grid4.N, win4_0.index t 0 = 0 ∧ win4_0.index t 1 = t.val / 5 ∧ win4_1.index t 0 = 0 ∧ win4_1.index t 1 = t.val % 5 ∧ win4_2.index t 0 = t.val / 5 ∧ win4_2.index t 1 = t.val % 5 := by decide +kernel

theorem lt4 (t : Fin cfg4.N) : t.val < 10 := lt_of_lt_of_eq t.isLt N_4

/-- Window 0 of call 4: its block at point `t` of an array, read at an index of the block. -/
theorem blk4_0 (t : Fin cfg4.N) (A : S4096x1024.Idx → EReal) (j : S4096x512.Idx) :
    ((cfg4.win 0).blk t).view.read (Elt Ideal) A j = A (ix2 (j 0) ⟨512 * (t.val / 5) + (j 1).val, by have h := (j 1).isLt; have ht := lt4 t; change (j 1).val < 512 at h; omega⟩) := by
  rw [View.read_apply]
  show A _ = A _
  congr 1
  funext a
  apply Fin.ext
  have hi := idx4 t
  match a with
  | ⟨0, _⟩ => show win4_0.index t 0 * 4096 + 1 * (j 0).val = (j 0).val; rw [hi.1]; omega
  | ⟨1, _⟩ => show win4_0.index t 1 * 512 + 1 * (j 1).val = 512 * (t.val / 5) + (j 1).val; rw [hi.2.1]; omega

/-- Window 1 of call 4: its block at point `t` of an array, read at an index of the block. -/
theorem blk4_1 (t : Fin cfg4.N) (A : S4096x3200.Idx → EReal) (j : S4096x640.Idx) :
    ((cfg4.win 1).blk t).view.read (Elt Ideal) A j = A (ix2 (j 0) ⟨640 * (t.val % 5) + (j 1).val, by have h := (j 1).isLt; have ht := lt4 t; change (j 1).val < 640 at h; omega⟩) := by
  rw [View.read_apply]
  show A _ = A _
  congr 1
  funext a
  apply Fin.ext
  have hi := idx4 t
  match a with
  | ⟨0, _⟩ => show win4_1.index t 0 * 4096 + 1 * (j 0).val = (j 0).val; rw [hi.2.2.1]; omega
  | ⟨1, _⟩ => show win4_1.index t 1 * 640 + 1 * (j 1).val = 640 * (t.val % 5) + (j 1).val; rw [hi.2.2.2.1]; omega

/-- Window 2 of call 4: its block at point `t` of an array, read at an index of the block. -/
theorem blk4_2 (t : Fin cfg4.N) (A : S1024x3200.Idx → EReal) (j : S512x640.Idx) :
    ((cfg4.win 2).blk t).view.read (Elt Ideal) A j = A (ix2 ⟨512 * (t.val / 5) + (j 0).val, by have h := (j 0).isLt; have ht := lt4 t; change (j 0).val < 512 at h; omega⟩ ⟨640 * (t.val % 5) + (j 1).val, by have h := (j 1).isLt; have ht := lt4 t; change (j 1).val < 640 at h; omega⟩) := by
  rw [View.read_apply]
  show A _ = A _
  congr 1
  funext a
  apply Fin.ext
  have hi := idx4 t
  match a with
  | ⟨0, _⟩ => show win4_2.index t 0 * 512 + 1 * (j 0).val = 512 * (t.val / 5) + (j 0).val; rw [hi.2.2.2.2.1]; omega
  | ⟨1, _⟩ => show win4_2.index t 1 * 640 + 1 * (j 1).val = 640 * (t.val % 5) + (j 1).val; rw [hi.2.2.2.2.2]; omega

/-! ## Call 4: the array it leaves -/

theorem k4_pay1_apply (x0 : Vec Ideal S4096x512 .bf16) (x1 : Vec Ideal S4096x640 .bf16) (j : S512x640.Idx) :
    k4_pay1 x0 x1 j = ∑ q : Fin 4096, x0 (ix2 q (j 0)) * x1 (ix2 q (j 1)) := by
  unfold k4_pay1
  pointwise

theorem out4_2_apply (x0 : Vec Ideal S4096x512 .bf16) (x1 : Vec Ideal S4096x640 .bf16) (j : S512x640.Idx) :
    out4_2 x0 x1 j = ∑ q : Fin 4096, x0 (ix2 q (j 0)) * x1 (ix2 q (j 1)) := by
  unfold out4_2
  rw [View.canon_unit_zero hz]
  rw [View.ld_unit_zero (S := S4096x512) hz, View.ld_unit_zero (S := S4096x640) hz]
  exact k4_pay1_apply x0 x1 j

theorem iblk4_0 (c : Dev nD) (t : Fin cfg4.N) (j : S4096x512.Idx) :
    (iblk4 V c 0 t : S4096x512.Idx → EReal) j = (V c (Pipeline.arrRef spec4 0) : S4096x1024.Idx → EReal) (ix2 (j 0) ⟨512 * (t.val / 5) + (j 1).val, by have h := (j 1).isLt; have ht := lt4 t; change (j 1).val < 512 at h; omega⟩) := blk4_0 t (V c (Pipeline.arrRef spec4 0)) j

theorem iblk4_1 (c : Dev nD) (t : Fin cfg4.N) (j : S4096x640.Idx) :
    (iblk4 V c 1 t : S4096x640.Idx → EReal) j = (V c (Pipeline.arrRef spec4 1) : S4096x3200.Idx → EReal) (ix2 (j 0) ⟨640 * (t.val % 5) + (j 1).val, by have h := (j 1).isLt; have ht := lt4 t; change (j 1).val < 640 at h; omega⟩) := blk4_1 t (V c (Pipeline.arrRef spec4 1)) j

/-- Every index of the array lies in the block of some point. -/
theorem cover4_2' (i : S1024x3200.Idx) :
    ∃ t : Fin cfg4.N, (cfg4.win 2).flush t = true ∧ i ∈ ((cfg4.win 2).blk t).view.set := by
  have h0 : (i 0).val < 1024 := (i 0).isLt
  have h1 : (i 1).val < 3200 := (i 1).isLt
  have ht : 5 * ((i 0).val / 512) + (i 1).val / 640 < cfg4.N := lt_of_lt_of_eq (by omega : _ < 10) N_4.symm
  refine ⟨⟨5 * ((i 0).val / 512) + (i 1).val / 640, ht⟩, flush4_2 _, ?_⟩
  have hi := idx4 ⟨5 * ((i 0).val / 512) + (i 1).val / 640, ht⟩
  show i ∈ ((View.whole (Pipeline.arrRef spec4 2)).slice (win4_2.rect ⟨5 * ((i 0).val / 512) + (i 1).val / 640, ht⟩)).set
  rw [View.set_slice_whole, Rect.mem_set_unit]
  intro a
  match a with
  | ⟨0, _⟩ => show win4_2.index ⟨5 * ((i 0).val / 512) + (i 1).val / 640, ht⟩ 0 * 512 ≤ (i 0).val ∧ (i 0).val < win4_2.index ⟨5 * ((i 0).val / 512) + (i 1).val / 640, ht⟩ 0 * 512 + 512; rw [hi.2.2.2.2.1]; dsimp only; omega
  | ⟨1, _⟩ => show win4_2.index ⟨5 * ((i 0).val / 512) + (i 1).val / 640, ht⟩ 1 * 640 ≤ (i 1).val ∧ (i 1).val < win4_2.index ⟨5 * ((i 0).val / 512) + (i 1).val / 640, ht⟩ 1 * 640 + 640; rw [hi.2.2.2.2.2]; dsimp only; omega

/-- What a point writes back is its block of the whole-array function. -/
theorem flushed4_2 (c : Dev nD) (t : Fin cfg4.N) :
    (dat4 V c).flushed 2 t = ((cfg4.win 2).blk t).view.read (Elt Ideal) (tn (V c main_arg0) (V c main_arg5)) := by
  show (cfg4.win 2).cut (grid4.coords t) ((dat4 V c).after 2 t) = _
  rw [after4_2]
  refine funext fun (j : S512x640.Idx) => ?_
  refine Eq.trans ?_ (blk4_2 t (tn (V c main_arg0) (V c main_arg5)) j).symm
  refine (out4_2_apply (iblk4 V c 0 t) (iblk4 V c 1 t) j).trans ?_
  simp only [iblk4_0, iblk4_1]
  rfl

/-- The array this call leaves. -/
theorem final4_2 (c : Dev nD) : (dat4 V c).arrAt 2 cfg4.N = tn (V c main_arg0) (V c main_arg5) :=
  (dat4 V c).arrAt_eq_of_cover 2 (tn (V c main_arg0) (V c main_arg5)) (fun t _ => flushed4_2 V c t) cover4_2'

/-! ## Call 5: where each window's block lies -/

/-- The block indices of call 5's windows at every point of its grid. -/
theorem idx5 : ∀ t : Fin grid5.N, win5_0.index t 0 = t.val / 2 ∧ win5_0.index t 1 = 0 ∧ win5_1.index t 0 = t.val % 2 ∧ win5_1.index t 1 = 0 ∧ win5_2.index t 0 = t.val / 2 ∧ win5_2.index t 1 = t.val % 2 := by decide +kernel

theorem lt5 (t : Fin cfg5.N) : t.val < 16 := lt_of_lt_of_eq t.isLt N_5

/-- Window 0 of call 5: its block at point `t` of an array, read at an index of the block. -/
theorem blk5_0 (t : Fin cfg5.N) (A : S4096x3200.Idx → EReal) (j : S512x3200.Idx) :
    ((cfg5.win 0).blk t).view.read (Elt Ideal) A j = A (ix2 ⟨512 * (t.val / 2) + (j 0).val, by have h := (j 0).isLt; have ht := lt5 t; change (j 0).val < 512 at h; omega⟩ (j 1)) := by
  rw [View.read_apply]
  show A _ = A _
  congr 1
  funext a
  apply Fin.ext
  have hi := idx5 t
  match a with
  | ⟨0, _⟩ => show win5_0.index t 0 * 512 + 1 * (j 0).val = 512 * (t.val / 2) + (j 0).val; rw [hi.1]; omega
  | ⟨1, _⟩ => show win5_0.index t 1 * 3200 + 1 * (j 1).val = (j 1).val; rw [hi.2.1]; omega

/-- Window 1 of call 5: its block at point `t` of an array, read at an index of the block. -/
theorem blk5_1 (t : Fin cfg5.N) (A : S1024x3200.Idx → EReal) (j : S512x3200.Idx) :
    ((cfg5.win 1).blk t).view.read (Elt Ideal) A j = A (ix2 ⟨512 * (t.val % 2) + (j 0).val, by have h := (j 0).isLt; have ht := lt5 t; change (j 0).val < 512 at h; omega⟩ (j 1)) := by
  rw [View.read_apply]
  show A _ = A _
  congr 1
  funext a
  apply Fin.ext
  have hi := idx5 t
  match a with
  | ⟨0, _⟩ => show win5_1.index t 0 * 512 + 1 * (j 0).val = 512 * (t.val % 2) + (j 0).val; rw [hi.2.2.1]; omega
  | ⟨1, _⟩ => show win5_1.index t 1 * 3200 + 1 * (j 1).val = (j 1).val; rw [hi.2.2.2.1]; omega

/-- Window 2 of call 5: its block at point `t` of an array, read at an index of the block. -/
theorem blk5_2 (t : Fin cfg5.N) (A : S4096x1024.Idx → EReal) (j : S512x512.Idx) :
    ((cfg5.win 2).blk t).view.read (Elt Ideal) A j = A (ix2 ⟨512 * (t.val / 2) + (j 0).val, by have h := (j 0).isLt; have ht := lt5 t; change (j 0).val < 512 at h; omega⟩ ⟨512 * (t.val % 2) + (j 1).val, by have h := (j 1).isLt; have ht := lt5 t; change (j 1).val < 512 at h; omega⟩) := by
  rw [View.read_apply]
  show A _ = A _
  congr 1
  funext a
  apply Fin.ext
  have hi := idx5 t
  match a with
  | ⟨0, _⟩ => show win5_2.index t 0 * 512 + 1 * (j 0).val = 512 * (t.val / 2) + (j 0).val; rw [hi.2.2.2.2.1]; omega
  | ⟨1, _⟩ => show win5_2.index t 1 * 512 + 1 * (j 1).val = 512 * (t.val % 2) + (j 1).val; rw [hi.2.2.2.2.2]; omega

/-! ## Call 5: the array it leaves -/

theorem k5_pay1_apply (x0 : Vec Ideal S512x3200 .bf16) (x1 : Vec Ideal S512x3200 .bf16) (j : S512x512.Idx) :
    k5_pay1 x0 x1 j = ∑ q : Fin 3200, x0 (ix2 (j 0) q) * x1 (ix2 (j 1) q) := by
  unfold k5_pay1
  pointwise

theorem out5_2_apply (x0 : Vec Ideal S512x3200 .bf16) (x1 : Vec Ideal S512x3200 .bf16) (j : S512x512.Idx) :
    out5_2 x0 x1 j = ∑ q : Fin 3200, x0 (ix2 (j 0) q) * x1 (ix2 (j 1) q) := by
  unfold out5_2
  rw [View.canon_unit_zero hz]
  rw [View.ld_unit_zero (S := S512x3200) hz, View.ld_unit_zero (S := S512x3200) hz]
  exact k5_pay1_apply x0 x1 j

theorem iblk5_0 (c : Dev nD) (t : Fin cfg5.N) (j : S512x3200.Idx) :
    (iblk5 V c 0 t : S512x3200.Idx → EReal) j = (V c (Pipeline.arrRef spec5 0) : S4096x3200.Idx → EReal) (ix2 ⟨512 * (t.val / 2) + (j 0).val, by have h := (j 0).isLt; have ht := lt5 t; change (j 0).val < 512 at h; omega⟩ (j 1)) := blk5_0 t (V c (Pipeline.arrRef spec5 0)) j

theorem iblk5_1 (c : Dev nD) (t : Fin cfg5.N) (j : S512x3200.Idx) :
    (iblk5 V c 1 t : S512x3200.Idx → EReal) j = (V c (Pipeline.arrRef spec5 1) : S1024x3200.Idx → EReal) (ix2 ⟨512 * (t.val % 2) + (j 0).val, by have h := (j 0).isLt; have ht := lt5 t; change (j 0).val < 512 at h; omega⟩ (j 1)) := blk5_1 t (V c (Pipeline.arrRef spec5 1)) j

/-- Every index of the array lies in the block of some point. -/
theorem cover5_2' (i : S4096x1024.Idx) :
    ∃ t : Fin cfg5.N, (cfg5.win 2).flush t = true ∧ i ∈ ((cfg5.win 2).blk t).view.set := by
  have h0 : (i 0).val < 4096 := (i 0).isLt
  have h1 : (i 1).val < 1024 := (i 1).isLt
  have ht : 2 * ((i 0).val / 512) + (i 1).val / 512 < cfg5.N := lt_of_lt_of_eq (by omega : _ < 16) N_5.symm
  refine ⟨⟨2 * ((i 0).val / 512) + (i 1).val / 512, ht⟩, flush5_2 _, ?_⟩
  have hi := idx5 ⟨2 * ((i 0).val / 512) + (i 1).val / 512, ht⟩
  show i ∈ ((View.whole (Pipeline.arrRef spec5 2)).slice (win5_2.rect ⟨2 * ((i 0).val / 512) + (i 1).val / 512, ht⟩)).set
  rw [View.set_slice_whole, Rect.mem_set_unit]
  intro a
  match a with
  | ⟨0, _⟩ => show win5_2.index ⟨2 * ((i 0).val / 512) + (i 1).val / 512, ht⟩ 0 * 512 ≤ (i 0).val ∧ (i 0).val < win5_2.index ⟨2 * ((i 0).val / 512) + (i 1).val / 512, ht⟩ 0 * 512 + 512; rw [hi.2.2.2.2.1]; dsimp only; omega
  | ⟨1, _⟩ => show win5_2.index ⟨2 * ((i 0).val / 512) + (i 1).val / 512, ht⟩ 1 * 512 ≤ (i 1).val ∧ (i 1).val < win5_2.index ⟨2 * ((i 0).val / 512) + (i 1).val / 512, ht⟩ 1 * 512 + 512; rw [hi.2.2.2.2.2]; dsimp only; omega

/-- What a point writes back is its block of the whole-array function. -/
theorem flushed5_2 (c : Dev nD) (t : Fin cfg5.N) :
    (dat5 V c).flushed 2 t = ((cfg5.win 2).blk t).view.read (Elt Ideal) (nt (V c main_arg5) (V c main_arg1)) := by
  show (cfg5.win 2).cut (grid5.coords t) ((dat5 V c).after 2 t) = _
  rw [after5_2]
  refine funext fun (j : S512x512.Idx) => ?_
  refine Eq.trans ?_ (blk5_2 t (nt (V c main_arg5) (V c main_arg1)) j).symm
  refine (out5_2_apply (iblk5 V c 0 t) (iblk5 V c 1 t) j).trans ?_
  simp only [iblk5_0, iblk5_1]
  rfl

/-- The array this call leaves. -/
theorem final5_2 (c : Dev nD) : (dat5 V c).arrAt 2 cfg5.N = nt (V c main_arg5) (V c main_arg1) :=
  (dat5 V c).arrAt_eq_of_cover 2 (nt (V c main_arg5) (V c main_arg1)) (fun t _ => flushed5_2 V c t) cover5_2'

end Cert.Kernel5Ideal.RefValue

end
-- ==== Proof.AttentionRun.lean ====
/-
The products of the attention layer and their gradients: the run of the six calls, and what it leaves in the results.
-/
module

public import proofs.«01_k».proof.Proof.AttentionArrays
public import Idealize.ShloMosaic.Lib.Quiescent

@[expose] public section

set_option maxRecDepth 16384

noncomputable section

namespace Cert.Kernel5Ideal.RefValue

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)
open Cert.Products (nn nt tn addRow slots)

section Any
variable {F : FTy → Type} [FloatOps F]
variable (m : (ℓ : Loc nD τ sig) → Buf (Elt F) ℓ) (ρ : Dev nD → PrngReg)

local notation "𝕄" => MT nD τ sig Unit (Elt F) ℕ (UR sig nD τ) ℕ

set_option backward.isDefEq.respectTransparency.types false in
/-- The whole program runs from any memory with zero counters, and every buffer of the TensorCore ends at the contents that
    the six calls leave in turn (`W6`). -/
theorem run_bufs : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h _ => h)

end Any

section AtIdeal
variable (m : (ℓ : Loc nD τ sig) → Buf (Elt Ideal) ℓ) (ρ : Dev nD → PrngReg)

theorem V1_arg (c : Dev nD) : ∀ a ∈ argRefs, V1 m ρ c a = m ((c : Thread nD τ).loc a) := fun a ha => W1_args m ρ c a ha
theorem V2_arg (c : Dev nD) : ∀ a ∈ argRefs, V2 m ρ c a = m ((c : Thread nD τ).loc a) := fun a ha => W2_args m ρ c a ha
theorem V3_arg (c : Dev nD) : ∀ a ∈ argRefs, V3 m ρ c a = m ((c : Thread nD τ).loc a) := fun a ha => W3_args m ρ c a ha
theorem V4_arg (c : Dev nD) : ∀ a ∈ argRefs, V4 m ρ c a = m ((c : Thread nD τ).loc a) := fun a ha => W4_args m ρ c a ha
theorem V5_arg (c : Dev nD) : ∀ a ∈ argRefs, V5 m ρ c a = m ((c : Thread nD τ).loc a) := fun a ha => W5_args m ρ c a ha

/-- The projection, at the end of the program. -/
theorem W6_v0 (c : Dev nD) : W6 m ρ c main_v0 = nn (m ((c : Thread nD τ).loc main_arg0)) (m ((c : Thread nD τ).loc main_arg1)) := by
  refine (W6_of m ρ c main_v0 (by decide +kernel)).trans ((W5_of m ρ c main_v0 (by decide +kernel)).trans ((W4_of m ρ c main_v0 (by decide +kernel)).trans ((W3_of m ρ c main_v0 (by decide +kernel)).trans ((W2_of m ρ c main_v0 (by decide +kernel)).trans ((W1_arr m ρ c 2).trans ((final0_2 (V0 m ρ) c).trans ?_))))))
  rfl

/-- The layer's output, at the end of the program. -/
theorem W6_v1 (c : Dev nD) : W6 m ρ c main_v1 = nn (m ((c : Thread nD τ).loc main_arg2)) (m ((c : Thread nD τ).loc main_arg3)) := by
  refine (W6_of m ρ c main_v1 (by decide +kernel)).trans ((W5_of m ρ c main_v1 (by decide +kernel)).trans ((W4_of m ρ c main_v1 (by decide +kernel)).trans ((W3_of m ρ c main_v1 (by decide +kernel)).trans ((W2_arr m ρ c 2).trans ((final1_2 (V1 m ρ) c).trans ?_)))))
  rw [V1_arg m ρ c main_arg2 (by decide), V1_arg m ρ c main_arg3 (by decide)]

/-- The gradient of the output product's first factor, at the end of the program. -/
theorem W6_v2 (c : Dev nD) : W6 m ρ c main_v2 = nt (m ((c : Thread nD τ).loc main_arg4)) (m ((c : Thread nD τ).loc main_arg3)) := by
  refine (W6_of m ρ c main_v2 (by decide +kernel)).trans ((W5_of m ρ c main_v2 (by decide +kernel)).trans ((W4_of m ρ c main_v2 (by decide +kernel)).trans ((W3_arr m ρ c 2).trans ((final2_2 (V2 m ρ) c).trans ?_))))
  rw [V2_arg m ρ c main_arg4 (by decide), V2_arg m ρ c main_arg3 (by decide)]

/-- The gradient of the output weight, at the end of the program. -/
theorem W6_v3 (c : Dev nD) : W6 m ρ c main_v3 = tn (m ((c : Thread nD τ).loc main_arg2)) (m ((c : Thread nD τ).loc main_arg4)) := by
  refine (W6_of m ρ c main_v3 (by decide +kernel)).trans ((W5_of m ρ c main_v3 (by decide +kernel)).trans ((W4_arr m ρ c 2).trans ((final3_2 (V3 m ρ) c).trans ?_)))
  rw [V3_arg m ρ c main_arg2 (by decide), V3_arg m ρ c main_arg4 (by decide)]

/-- The gradient of the projection's weight, at the end of the program. -/
theorem W6_v4 (c : Dev nD) : W6 m ρ c main_v4 = tn (m ((c : Thread nD τ).loc main_arg0)) (m ((c : Thread nD τ).loc main_arg5)) := by
  refine (W6_of m ρ c main_v4 (by decide +kernel)).trans ((W5_arr m ρ c 2).trans ((final4_2 (V4 m ρ) c).trans ?_))
  rw [V4_arg m ρ c main_arg0 (by decide), V4_arg m ρ c main_arg5 (by decide)]

/-- The gradient of the layer's input, at the end of the program. -/
theorem W6_v5 (c : Dev nD) : W6 m ρ c main_v5 = nt (m ((c : Thread nD τ).loc main_arg5)) (m ((c : Thread nD τ).loc main_arg1)) := by
  refine (W6_arr m ρ c 2).trans ((final5_2 (V5 m ρ) c).trans ?_)
  rw [V5_arg m ρ c main_arg5 (by decide), V5_arg m ρ c main_arg1 (by decide)]

/-- The run, read: the results at the products of the arguments, the arguments unchanged. -/
theorem run : θ_run defs (onTc (τ := τ) (main (F := Ideal))) ⟨m, fun _ => 0, ρ⟩ (fun r => ∀ c : Dev nD,
      r.2.mem ((c : Thread nD τ).loc main_v0) = nn (m ((c : Thread nD τ).loc main_arg0)) (m ((c : Thread nD τ).loc main_arg1))
      ∧ r.2.mem ((c : Thread nD τ).loc main_v1) = nn (m ((c : Thread nD τ).loc main_arg2)) (m ((c : Thread nD τ).loc main_arg3))
      ∧ r.2.mem ((c : Thread nD τ).loc main_v2) = nt (m ((c : Thread nD τ).loc main_arg4)) (m ((c : Thread nD τ).loc main_arg3))
      ∧ r.2.mem ((c : Thread nD τ).loc main_v3) = tn (m ((c : Thread nD τ).loc main_arg2)) (m ((c : Thread nD τ).loc main_arg4))
      ∧ r.2.mem ((c : Thread nD τ).loc main_v4) = tn (m ((c : Thread nD τ).loc main_arg0)) (m ((c : Thread nD τ).loc main_arg5))
      ∧ r.2.mem ((c : Thread nD τ).loc main_v5) = nt (m ((c : Thread nD τ).loc main_arg5)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)) :=
  (θ_run defs _ _).mono (fun _ h c =>
    ⟨(h c _ (mem_uc main_v0 (by decide))).trans (W6_v0 m ρ c),
     (h c _ (mem_uc main_v1 (by decide))).trans (W6_v1 m ρ c),
     (h c _ (mem_uc main_v2 (by decide))).trans (W6_v2 m ρ c),
     (h c _ (mem_uc main_v3 (by decide))).trans (W6_v3 m ρ c),
     (h c _ (mem_uc main_v4 (by decide))).trans (W6_v4 m ρ c),
     (h c _ (mem_uc main_v5 (by decide))).trans (W6_v5 m ρ c),
     (h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c),
     (h c _ (mem_uc main_arg3 (by decide))).trans (W6_main_arg3 m ρ c),
     (h c _ (mem_uc main_arg4 (by decide))).trans (W6_main_arg4 m ρ c),
     (h c _ (mem_uc main_arg5 (by decide))).trans (W6_main_arg5 m ρ c)⟩)
    (run_bufs m ρ)

end AtIdeal

end Cert.Kernel5Ideal.RefValue

end
-- ==== Proof.Attention.lean ====
/-
The products of the attention layer and their gradients: what the reference computes, its run, and the claims about the two
programs.
-/
module

public import proofs.«01_k».proof.Defs
public import proofs.«01_k».proof.Proof.Gen.Kernel5.Frame
public import proofs.«01_k».proof.Proof.Gen.Reference5Ideal.Read
public import proofs.«01_k».proof.Proof.AttentionRun
public import Idealize.ShloMosaic.Lib.Quiescent

@[expose] public section

set_option maxRecDepth 16384

noncomputable section

namespace Cert.Reference5Ideal.RefValue

open Cert.Reference5Ideal Cert.Reference5Ideal.Read
open Idealize.ShloMosaic Idealize.ShloMosaic.TcCoe Idealize.SL.Sem
open Cert.Products

/-- The projection, in the reference. -/
theorem v6_eq (x0 : Mat 4096 1024) (x1 : Mat 1024 3200) : val_main_v6 (F := Ideal) x0 x1 = nn (x0) (x1) := by
  funext i
  rw [val_main_v6_apply]
  exact Finset.sum_congr rfl fun k _ => prod2 x0 x1 _ _ (i 0) k k (i 1) rfl rfl rfl rfl

/-- The layer's output, in the reference. -/
theorem v7_eq (x2 : Mat 4096 1024) (x3 : Mat 1024 1024) : val_main_v7 (F := Ideal) x2 x3 = nn (x2) (x3) := by
  funext i
  rw [val_main_v7_apply]
  exact Finset.sum_congr rfl fun k _ => prod2 x2 x3 _ _ (i 0) k k (i 1) rfl rfl rfl rfl

/-- The gradient of the output product's first factor, in the reference. -/
theorem v14_eq (x3 : Mat 1024 1024) (x4 : Mat 4096 1024) : val_main_v14 (F := Ideal) x3 x4 = nt (x4) (x3) := by
  funext i
  rw [val_main_v14_apply]
  show val_main_v10 (F := Ideal) x3 x4 i = _
  rw [val_main_v10_apply]
  exact Finset.sum_congr rfl fun k _ => prod2 x4 x3 _ _ (i 0) k (i 1) k rfl rfl rfl rfl

/-- The gradient of the output weight, in the reference. -/
theorem v15_eq (x2 : Mat 4096 1024) (x4 : Mat 4096 1024) : val_main_v15 (F := Ideal) x2 x4 = tn (x2) (x4) := by
  funext i
  rw [val_main_v15_apply]
  show val_main_v9 (F := Ideal) x2 x4 i = _
  rw [val_main_v9_apply, val_main_v8_apply]
  refine Finset.sum_congr rfl fun k _ => ?_
  rw [mul_comm]
  exact prod2 x2 x4 _ _ k (i 0) k (i 1) rfl rfl rfl rfl

/-- The gradient of the projection's weight, in the reference. -/
theorem v16_eq (x0 : Mat 4096 1024) (x5 : Mat 4096 3200) : val_main_v16 (F := Ideal) x0 x5 = tn (x0) (x5) := by
  funext i
  rw [val_main_v16_apply]
  show val_main_v12 (F := Ideal) x0 x5 i = _
  rw [val_main_v12_apply, val_main_v11_apply]
  refine Finset.sum_congr rfl fun k _ => ?_
  rw [mul_comm]
  exact prod2 x0 x5 _ _ k (i 0) k (i 1) rfl rfl rfl rfl

/-- The gradient of the layer's input, in the reference. -/
theorem v13_eq (x1 : Mat 1024 3200) (x5 : Mat 4096 3200) : val_main_v13 (F := Ideal) x1 x5 = nt (x5) (x1) := by
  funext i
  rw [val_main_v13_apply]
  exact Finset.sum_congr rfl fun k _ => prod2 x5 x1 _ _ (i 0) k (i 1) k rfl rfl rfl rfl

end Cert.Reference5Ideal.RefValue

namespace Cert.AttentionProof

open Idealize.ShloMosaic Idealize.ShloMosaic.TcCoe Idealize.SL.Sem
open Cert.Products (nn nt tn addRow slots)

/-- The run at the machine's words leaves the arguments and the counters as they were. -/
theorem frame_kernel : Cert.quiescent_Kernel5 := fun m ρ _ => Cert.Kernel5.Gen.frame (F := Bits) m ρ

/-- So does the run on the extended reals. -/
theorem frame_ideal : Cert.quiescent_Kernel5Ideal := fun m ρ _ => Cert.Kernel5Ideal.Gen.frame (F := Ideal) m ρ

section
open Cert.Reference5Ideal

/-- The reference leaves its arguments as they were; it has no counters. -/
theorem frame_reference : Cert.quiescent_Reference5Ideal := fun m ρ _ =>
  (θ_run defs _ _).mono (fun r h => ⟨fun c => (h c).2.2.2.2.2.2, sem_eq_zero_of_no_sems (by decide) r.2⟩)
    (Cert.Reference5Ideal.Value.run (F := Ideal) m ρ)

variable (m : (ℓ : Loc nD τ sig) → Buf (Elt Ideal) ℓ) (ρ : Dev nD → PrngReg)

/-- The reference ends with the same products of its arguments that the kernel computes. -/
theorem reference_run : θ_run defs (onTc (τ := τ) (main (F := Ideal))) ⟨m, fun _ => 0, ρ⟩ (fun r => ∀ c : Dev nD,
      r.2.mem ((c : Thread nD τ).loc main_v6) = nn (m ((c : Thread nD τ).loc main_arg0)) (m ((c : Thread nD τ).loc main_arg1))
      ∧ r.2.mem ((c : Thread nD τ).loc main_v7) = nn (m ((c : Thread nD τ).loc main_arg2)) (m ((c : Thread nD τ).loc main_arg3))
      ∧ r.2.mem ((c : Thread nD τ).loc main_v14) = nt (m ((c : Thread nD τ).loc main_arg4)) (m ((c : Thread nD τ).loc main_arg3))
      ∧ r.2.mem ((c : Thread nD τ).loc main_v15) = tn (m ((c : Thread nD τ).loc main_arg2)) (m ((c : Thread nD τ).loc main_arg4))
      ∧ r.2.mem ((c : Thread nD τ).loc main_v16) = tn (m ((c : Thread nD τ).loc main_arg0)) (m ((c : Thread nD τ).loc main_arg5))
      ∧ r.2.mem ((c : Thread nD τ).loc main_v13) = nt (m ((c : Thread nD τ).loc main_arg5)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)) :=
  (θ_run defs _ _).mono (fun _ h c =>
    ⟨((h c).1.trans (Read.val_main_v6_eq _ _)).trans (RefValue.v6_eq _ _),
     ((h c).2.1.trans (Read.val_main_v7_eq _ _)).trans (RefValue.v7_eq _ _),
     ((h c).2.2.1.trans (Read.val_main_v14_eq _ _)).trans (RefValue.v14_eq _ _),
     ((h c).2.2.2.1.trans (Read.val_main_v15_eq _ _)).trans (RefValue.v15_eq _ _),
     ((h c).2.2.2.2.1.trans (Read.val_main_v16_eq _ _)).trans (RefValue.v16_eq _ _),
     ((h c).2.2.2.2.2.1.trans (Read.val_main_v13_eq _ _)).trans (RefValue.v13_eq _ _),
     (h c).2.2.2.2.2.2⟩)
    (Value.run (F := Ideal) m ρ)

end

section
open Cert.Kernel5Ideal

/-- From equal arguments the kernel and the reference end with equal results. -/
theorem algebraic : Cert.algebraic_Kernel5Ideal_Reference5Ideal := fun m ρ m' ρ' _ hag =>
  ⟨fun c => nn (m ((c : Thread nD τ).loc main_arg0)) (m ((c : Thread nD τ).loc main_arg1)),
   fun c => nn (m ((c : Thread nD τ).loc main_arg2)) (m ((c : Thread nD τ).loc main_arg3)),
   fun c => nt (m ((c : Thread nD τ).loc main_arg4)) (m ((c : Thread nD τ).loc main_arg3)),
   fun c => tn (m ((c : Thread nD τ).loc main_arg2)) (m ((c : Thread nD τ).loc main_arg4)),
   fun c => tn (m ((c : Thread nD τ).loc main_arg0)) (m ((c : Thread nD τ).loc main_arg5)),
   fun c => nt (m ((c : Thread nD τ).loc main_arg5)) (m ((c : Thread nD τ).loc main_arg1)),
   RefValue.run m ρ,
   (θ_run _ _ _).mono (fun r h c => by
      obtain ⟨h0, h1, h2, h3, h4, h5⟩ := hag c
      have hc := h c
      rw [h0, h1, h2, h3, h4, h5] at hc
      obtain ⟨e0, e1, e2, e3, e4, e5, e6, e7, e8, e9, e10, e11⟩ := hc
      exact ⟨e0, e1, e2, e3, e4, e5, e6.trans h0.symm, e7.trans h1.symm, e8.trans h2.symm, e9.trans h3.symm, e10.trans h4.symm, e11.trans h5.symm⟩) (reference_run m' ρ')⟩

end

end Cert.AttentionProof

end
-- ==== Proof.GatingArrays.lean ====
/-
The products of the spatial gating layer and their gradients: where each call's blocks lie, and the array that each call leaves.
-/
module

public import proofs.«01_k».proof.Proof.Gen.Kernel6Ideal.Frame
public import proofs.«01_k».proof.Proof.Products
public import Idealize.ShloMosaic.Lib.Pipeline.Value
public import Idealize.ShloMosaic.Lib.Pointwise
public import Idealize.ShloMosaic.Lib.ValueIdxCore

@[expose] public section

set_option maxRecDepth 16384

noncomputable section

namespace Cert.Kernel6Ideal.RefValue

open Cert.Kernel6Ideal Cert.Kernel6Ideal.Gen
open Idealize.ShloMosaic Idealize.ShloMosaic.TcCoe Idealize.SL.Sem
open Idealize.ShloMosaic.Pipeline (Dat)
open Cert.Products (nn nt tn addRow slots)

variable (V : (c : Dev nD) → (b : Ref sig .tc) → Buf (Elt Ideal) ((c : Thread nD τ).loc b))

theorem hz : (![0, 0] : Fin 2 → Nat) = fun _ => 0 := funext fun a => by fin_cases a <;> rfl
theorem hz3 : (![0, 0, 0] : Fin 3 → Nat) = fun _ => 0 := funext fun a => by fin_cases a <;> rfl

/-! ## Call 0: where each window's block lies -/

/-- The block indices of call 0's windows at every point of its grid. -/
theorem idx0 : ∀ t : Fin grid0.N, win0_0.index t 0 = t.val / 4 ∧ win0_0.index t 1 = 0 ∧ win0_1.index t 0 = 0 ∧ win0_1.index t 1 = t.val % 4 ∧ win0_2.index t 0 = t.val / 4 ∧ win0_2.index t 1 = t.val % 4 := by decide +kernel

theorem lt0 (t : Fin cfg0.N) : t.val < 16 := lt_of_lt_of_eq t.isLt N_0

/-- Window 0 of call 0: its block at point `t` of an array, read at an index of the block. -/
theorem blk0_0 (t : Fin cfg0.N) (A : S4096x1024.Idx → EReal) (j : S1024x1024.Idx) :
    ((cfg0.win 0).blk t).view.read (Elt Ideal) A j = A (ix2 ⟨1024 * (t.val / 4) + (j 0).val, by have h := (j 0).isLt; have ht := lt0 t; change (j 0).val < 1024 at h; omega⟩ (j 1)) := by
  rw [View.read_apply]
  show A _ = A _
  congr 1
  funext a
  apply Fin.ext
  have hi := idx0 t
  match a with
  | ⟨0, _⟩ => show win0_0.index t 0 * 1024 + 1 * (j 0).val = 1024 * (t.val / 4) + (j 0).val; rw [hi.1]; omega
  | ⟨1, _⟩ => show win0_0.index t 1 * 1024 + 1 * (j 1).val = (j 1).val; rw [hi.2.1]; omega

/-- Window 1 of call 0: its block at point `t` of an array, read at an index of the block. -/
theorem blk0_1 (t : Fin cfg0.N) (A : S1024x2048.Idx → EReal) (j : S1024x512.Idx) :
    ((cfg0.win 1).blk t).view.read (Elt Ideal) A j = A (ix2 (j 0) ⟨512 * (t.val % 4) + (j 1).val, by have h := (j 1).isLt; have ht := lt0 t; change (j 1).val < 512 at h; omega⟩) := by
  rw [View.read_apply]
  show A _ = A _
  congr 1
  funext a
  apply Fin.ext
  have hi := idx0 t
  match a with
  | ⟨0, _⟩ => show win0_1.index t 0 * 1024 + 1 * (j 0).val = (j 0).val; rw [hi.2.2.1]; omega
  | ⟨1, _⟩ => show win0_1.index t 1 * 512 + 1 * (j 1).val = 512 * (t.val % 4) + (j 1).val; rw [hi.2.2.2.1]; omega

/-- Window 2 of call 0: its block at point `t` of an array, read at an index of the block. -/
theorem blk0_2 (t : Fin cfg0.N) (A : S4096x2048.Idx → EReal) (j : S1024x512.Idx) :
    ((cfg0.win 2).blk t).view.read (Elt Ideal) A j = A (ix2 ⟨1024 * (t.val / 4) + (j 0).val, by have h := (j 0).isLt; have ht := lt0 t; change (j 0).val < 1024 at h; omega⟩ ⟨512 * (t.val % 4) + (j 1).val, by have h := (j 1).isLt; have ht := lt0 t; change (j 1).val < 512 at h; omega⟩) := by
  rw [View.read_apply]
  show A _ = A _
  congr 1
  funext a
  apply Fin.ext
  have hi := idx0 t
  match a with
  | ⟨0, _⟩ => show win0_2.index t 0 * 1024 + 1 * (j 0).val = 1024 * (t.val / 4) + (j 0).val; rw [hi.2.2.2.2.1]; omega
  | ⟨1, _⟩ => show win0_2.index t 1 * 512 + 1 * (j 1).val = 512 * (t.val % 4) + (j 1).val; rw [hi.2.2.2.2.2]; omega

/-! ## Call 0: the array it leaves -/

theorem k0_pay1_apply (x0 : Vec Ideal S1024x1024 .bf16) (x1 : Vec Ideal S1024x512 .bf16) (j : S1024x512.Idx) :
    k0_pay1 x0 x1 j = ∑ q : Fin 1024, x0 (ix2 (j 0) q) * x1 (ix2 q (j 1)) := by
  unfold k0_pay1
  pointwise

theorem out0_2_apply (x0 : Vec Ideal S1024x1024 .bf16) (x1 : Vec Ideal S1024x512 .bf16) (j : S1024x512.Idx) :
    out0_2 x0 x1 j = ∑ q : Fin 1024, x0 (ix2 (j 0) q) * x1 (ix2 q (j 1)) := by
  unfold out0_2
  rw [View.canon_unit_zero hz]
  rw [View.ld_unit_zero (S := S1024x1024) hz, View.ld_unit_zero (S := S1024x512) hz]
  exact k0_pay1_apply x0 x1 j

theorem iblk0_0 (c : Dev nD) (t : Fin cfg0.N) (j : S1024x1024.Idx) :
    (iblk0 V c 0 t : S1024x1024.Idx → EReal) j = (V c (Pipeline.arrRef spec0 0) : S4096x1024.Idx → EReal) (ix2 ⟨1024 * (t.val / 4) + (j 0).val, by have h := (j 0).isLt; have ht := lt0 t; change (j 0).val < 1024 at h; omega⟩ (j 1)) := blk0_0 t (V c (Pipeline.arrRef spec0 0)) j

theorem iblk0_1 (c : Dev nD) (t : Fin cfg0.N) (j : S1024x512.Idx) :
    (iblk0 V c 1 t : S1024x512.Idx → EReal) j = (V c (Pipeline.arrRef spec0 1) : S1024x2048.Idx → EReal) (ix2 (j 0) ⟨512 * (t.val % 4) + (j 1).val, by have h := (j 1).isLt; have ht := lt0 t; change (j 1).val < 512 at h; omega⟩) := blk0_1 t (V c (Pipeline.arrRef spec0 1)) j

/-- Every index of the array lies in the block of some point. -/
theorem cover0_2' (i : S4096x2048.Idx) :
    ∃ t : Fin cfg0.N, (cfg0.win 2).flush t = true ∧ i ∈ ((cfg0.win 2).blk t).view.set := by
  have h0 : (i 0).val < 4096 := (i 0).isLt
  have h1 : (i 1).val < 2048 := (i 1).isLt
  have ht : 4 * ((i 0).val / 1024) + (i 1).val / 512 < cfg0.N := lt_of_lt_of_eq (by omega : _ < 16) N_0.symm
  refine ⟨⟨4 * ((i 0).val / 1024) + (i 1).val / 512, ht⟩, flush0_2 _, ?_⟩
  have hi := idx0 ⟨4 * ((i 0).val / 1024) + (i 1).val / 512, ht⟩
  show i ∈ ((View.whole (Pipeline.arrRef spec0 2)).slice (win0_2.rect ⟨4 * ((i 0).val / 1024) + (i 1).val / 512, ht⟩)).set
  rw [View.set_slice_whole, Rect.mem_set_unit]
  intro a
  match a with
  | ⟨0, _⟩ => show win0_2.index ⟨4 * ((i 0).val / 1024) + (i 1).val / 512, ht⟩ 0 * 1024 ≤ (i 0).val ∧ (i 0).val < win0_2.index ⟨4 * ((i 0).val / 1024) + (i 1).val / 512, ht⟩ 0 * 1024 + 1024; rw [hi.2.2.2.2.1]; dsimp only; omega
  | ⟨1, _⟩ => show win0_2.index ⟨4 * ((i 0).val / 1024) + (i 1).val / 512, ht⟩ 1 * 512 ≤ (i 1).val ∧ (i 1).val < win0_2.index ⟨4 * ((i 0).val / 1024) + (i 1).val / 512, ht⟩ 1 * 512 + 512; rw [hi.2.2.2.2.2]; dsimp only; omega

/-- What a point writes back is its block of the whole-array function. -/
theorem flushed0_2 (c : Dev nD) (t : Fin cfg0.N) :
    (dat0 V c).flushed 2 t = ((cfg0.win 2).blk t).view.read (Elt Ideal) (nn (V c main_arg0) (V c main_arg1)) := by
  show (cfg0.win 2).cut (grid0.coords t) ((dat0 V c).after 2 t) = _
  rw [after0_2]
  refine funext fun (j : S1024x512.Idx) => ?_
  refine Eq.trans ?_ (blk0_2 t (nn (V c main_arg0) (V c main_arg1)) j).symm
  refine (out0_2_apply (iblk0 V c 0 t) (iblk0 V c 1 t) j).trans ?_
  simp only [iblk0_0, iblk0_1]
  rfl

/-- The array this call leaves. -/
theorem final0_2 (c : Dev nD) : (dat0 V c).arrAt 2 cfg0.N = nn (V c main_arg0) (V c main_arg1) :=
  (dat0 V c).arrAt_eq_of_cover 2 (nn (V c main_arg0) (V c main_arg1)) (fun t _ => flushed0_2 V c t) cover0_2'

/-! ## Call 1: where each window's block lies -/

/-- The block indices of call 1's windows at every point of its grid. -/
theorem idx1 : ∀ t : Fin grid1.N, win1_0.index t 0 = t.val / 2 ∧ win1_0.index t 1 = 0 ∧ win1_1.index t 0 = 0 ∧ win1_1.index t 1 = t.val % 2 ∧ win1_2.index t 0 = t.val / 2 ∧ win1_2.index t 1 = t.val % 2 := by decide +kernel

theorem lt1 (t : Fin cfg1.N) : t.val < 16 := lt_of_lt_of_eq t.isLt N_1

/-- Window 0 of call 1: its block at point `t` of an array, read at an index of the block. -/
theorem blk1_0 (t : Fin cfg1.N) (A : S4096x1024.Idx → EReal) (j : S512x1024.Idx) :
    ((cfg1.win 0).blk t).view.read (Elt Ideal) A j = A (ix2 ⟨512 * (t.val / 2) + (j 0).val, by have h := (j 0).isLt; have ht := lt1 t; change (j 0).val < 512 at h; omega⟩ (j 1)) := by
  rw [View.read_apply]
  show A _ = A _
  congr 1
  funext a
  apply Fin.ext
  have hi := idx1 t
  match a with
  | ⟨0, _⟩ => show win1_0.index t 0 * 512 + 1 * (j 0).val = 512 * (t.val / 2) + (j 0).val; rw [hi.1]; omega
  | ⟨1, _⟩ => show win1_0.index t 1 * 1024 + 1 * (j 1).val = (j 1).val; rw [hi.2.1]; omega

/-- Window 1 of call 1: its block at point `t` of an array, read at an index of the block. -/
theorem blk1_1 (t : Fin cfg1.N) (A : S1024x1024.Idx → EReal) (j : S1024x512.Idx) :
    ((cfg1.win 1).blk t).view.read (Elt Ideal) A j = A (ix2 (j 0) ⟨512 * (t.val % 2) + (j 1).val, by have h := (j 1).isLt; have ht := lt1 t; change (j 1).val < 512 at h; omega⟩) := by
  rw [View.read_apply]
  show A _ = A _
  congr 1
  funext a
  apply Fin.ext
  have hi := idx1 t
  match a with
  | ⟨0, _⟩ => show win1_1.index t 0 * 1024 + 1 * (j 0).val = (j 0).val; rw [hi.2.2.1]; omega
  | ⟨1, _⟩ => show win1_1.index t 1 * 512 + 1 * (j 1).val = 512 * (t.val % 2) + (j 1).val; rw [hi.2.2.2.1]; omega

/-- Window 2 of call 1: its block at point `t` of an array, read at an index of the block. -/
theorem blk1_2 (t : Fin cfg1.N) (A : S4096x1024.Idx → EReal) (j : S512x512.Idx) :
    ((cfg1.win 2).blk t).view.read (Elt Ideal) A j = A (ix2 ⟨512 * (t.val / 2) + (j 0).val, by have h := (j 0).isLt; have ht := lt1 t; change (j 0).val < 512 at h; omega⟩ ⟨512 * (t.val % 2) + (j 1).val, by have h := (j 1).isLt; have ht := lt1 t; change (j 1).val < 512 at h; omega⟩) := by
  rw [View.read_apply]
  show A _ = A _
  congr 1
  funext a
  apply Fin.ext
  have hi := idx1 t
  match a with
  | ⟨0, _⟩ => show win1_2.index t 0 * 512 + 1 * (j 0).val = 512 * (t.val / 2) + (j 0).val; rw [hi.2.2.2.2.1]; omega
  | ⟨1, _⟩ => show win1_2.index t 1 * 512 + 1 * (j 1).val = 512 * (t.val % 2) + (j 1).val; rw [hi.2.2.2.2.2]; omega

/-! ## Call 1: the array it leaves -/

theorem k1_pay1_apply (x0 : Vec Ideal S512x1024 .bf16) (x1 : Vec Ideal S1024x512 .bf16) (j : S512x512.Idx) :
    k1_pay1 x0 x1 j = ∑ q : Fin 1024, x0 (ix2 (j 0) q) * x1 (ix2 q (j 1)) := by
  unfold k1_pay1
  pointwise

theorem out1_2_apply (x0 : Vec Ideal S512x1024 .bf16) (x1 : Vec Ideal S1024x512 .bf16) (j : S512x512.Idx) :
    out1_2 x0 x1 j = ∑ q : Fin 1024, x0 (ix2 (j 0) q) * x1 (ix2 q (j 1)) := by
  unfold out1_2
  rw [View.canon_unit_zero hz]
  rw [View.ld_unit_zero (S := S512x1024) hz, View.ld_unit_zero (S := S1024x512) hz]
  exact k1_pay1_apply x0 x1 j

theorem iblk1_0 (c : Dev nD) (t : Fin cfg1.N) (j : S512x1024.Idx) :
    (iblk1 V c 0 t : S512x1024.Idx → EReal) j = (V c (Pipeline.arrRef spec1 0) : S4096x1024.Idx → EReal) (ix2 ⟨512 * (t.val / 2) + (j 0).val, by have h := (j 0).isLt; have ht := lt1 t; change (j 0).val < 512 at h; omega⟩ (j 1)) := blk1_0 t (V c (Pipeline.arrRef spec1 0)) j

theorem iblk1_1 (c : Dev nD) (t : Fin cfg1.N) (j : S1024x512.Idx) :
    (iblk1 V c 1 t : S1024x512.Idx → EReal) j = (V c (Pipeline.arrRef spec1 1) : S1024x1024.Idx → EReal) (ix2 (j 0) ⟨512 * (t.val % 2) + (j 1).val, by have h := (j 1).isLt; have ht := lt1 t; change (j 1).val < 512 at h; omega⟩) := blk1_1 t (V c (Pipeline.arrRef spec1 1)) j

/-- Every index of the array lies in the block of some point. -/
theorem cover1_2' (i : S4096x1024.Idx) :
    ∃ t : Fin cfg1.N, (cfg1.win 2).flush t = true ∧ i ∈ ((cfg1.win 2).blk t).view.set := by
  have h0 : (i 0).val < 4096 := (i 0).isLt
  have h1 : (i 1).val < 1024 := (i 1).isLt
  have ht : 2 * ((i 0).val / 512) + (i 1).val / 512 < cfg1.N := lt_of_lt_of_eq (by omega : _ < 16) N_1.symm
  refine ⟨⟨2 * ((i 0).val / 512) + (i 1).val / 512, ht⟩, flush1_2 _, ?_⟩
  have hi := idx1 ⟨2 * ((i 0).val / 512) + (i 1).val / 512, ht⟩
  show i ∈ ((View.whole (Pipeline.arrRef spec1 2)).slice (win1_2.rect ⟨2 * ((i 0).val / 512) + (i 1).val / 512, ht⟩)).set
  rw [View.set_slice_whole, Rect.mem_set_unit]
  intro a
  match a with
  | ⟨0, _⟩ => show win1_2.index ⟨2 * ((i 0).val / 512) + (i 1).val / 512, ht⟩ 0 * 512 ≤ (i 0).val ∧ (i 0).val < win1_2.index ⟨2 * ((i 0).val / 512) + (i 1).val / 512, ht⟩ 0 * 512 + 512; rw [hi.2.2.2.2.1]; dsimp only; omega
  | ⟨1, _⟩ => show win1_2.index ⟨2 * ((i 0).val / 512) + (i 1).val / 512, ht⟩ 1 * 512 ≤ (i 1).val ∧ (i 1).val < win1_2.index ⟨2 * ((i 0).val / 512) + (i 1).val / 512, ht⟩ 1 * 512 + 512; rw [hi.2.2.2.2.2]; dsimp only; omega

/-- What a point writes back is its block of the whole-array function. -/
theorem flushed1_2 (c : Dev nD) (t : Fin cfg1.N) :
    (dat1 V c).flushed 2 t = ((cfg1.win 2).blk t).view.read (Elt Ideal) (nn (V c main_arg2) (V c main_arg3)) := by
  show (cfg1.win 2).cut (grid1.coords t) ((dat1 V c).after 2 t) = _
  rw [after1_2]
  refine funext fun (j : S512x512.Idx) => ?_
  refine Eq.trans ?_ (blk1_2 t (nn (V c main_arg2) (V c main_arg3)) j).symm
  refine (out1_2_apply (iblk1 V c 0 t) (iblk1 V c 1 t) j).trans ?_
  simp only [iblk1_0, iblk1_1]
  rfl

/-- The array this call leaves. -/
theorem final1_2 (c : Dev nD) : (dat1 V c).arrAt 2 cfg1.N = nn (V c main_arg2) (V c main_arg3) :=
  (dat1 V c).arrAt_eq_of_cover 2 (nn (V c main_arg2) (V c main_arg3)) (fun t _ => flushed1_2 V c t) cover1_2'

/-! ## Call 2: where each window's block lies -/

/-- The block indices of call 2's windows at every point of its grid. -/
theorem idx2 : ∀ t : Fin grid2.N, win2_0.index t 0 = t.val / 2 ∧ win2_0.index t 1 = 0 ∧ win2_1.index t 0 = t.val % 2 ∧ win2_1.index t 1 = 0 ∧ win2_2.index t 0 = t.val / 2 ∧ win2_2.index t 1 = t.val % 2 := by decide +kernel

theorem lt2 (t : Fin cfg2.N) : t.val < 16 := lt_of_lt_of_eq t.isLt N_2

/-- Window 0 of call 2: its block at point `t` of an array, read at an index of the block. -/
theorem blk2_0 (t : Fin cfg2.N) (A : S4096x1024.Idx → EReal) (j : S512x1024.Idx) :
    ((cfg2.win 0).blk t).view.read (Elt Ideal) A j = A (ix2 ⟨512 * (t.val / 2) + (j 0).val, by have h := (j 0).isLt; have ht := lt2 t; change (j 0).val < 512 at h; omega⟩ (j 1)) := by
  rw [View.read_apply]
  show A _ = A _
  congr 1
  funext a
  apply Fin.ext
  have hi := idx2 t
  match a with
  | ⟨0, _⟩ => show win2_0.index t 0 * 512 + 1 * (j 0).val = 512 * (t.val / 2) + (j 0).val; rw [hi.1]; omega
  | ⟨1, _⟩ => show win2_0.index t 1 * 1024 + 1 * (j 1).val = (j 1).val; rw [hi.2.1]; omega

/-- Window 1 of call 2: its block at point `t` of an array, read at an index of the block. -/
theorem blk2_1 (t : Fin cfg2.N) (A : S1024x1024.Idx → EReal) (j : S512x1024.Idx) :
    ((cfg2.win 1).blk t).view.read (Elt Ideal) A j = A (ix2 ⟨512 * (t.val % 2) + (j 0).val, by have h := (j 0).isLt; have ht := lt2 t; change (j 0).val < 512 at h; omega⟩ (j 1)) := by
  rw [View.read_apply]
  show A _ = A _
  congr 1
  funext a
  apply Fin.ext
  have hi := idx2 t
  match a with
  | ⟨0, _⟩ => show win2_1.index t 0 * 512 + 1 * (j 0).val = 512 * (t.val % 2) + (j 0).val; rw [hi.2.2.1]; omega
  | ⟨1, _⟩ => show win2_1.index t 1 * 1024 + 1 * (j 1).val = (j 1).val; rw [hi.2.2.2.1]; omega

/-- Window 2 of call 2: its block at point `t` of an array, read at an index of the block. -/
theorem blk2_2 (t : Fin cfg2.N) (A : S4096x1024.Idx → EReal) (j : S512x512.Idx) :
    ((cfg2.win 2).blk t).view.read (Elt Ideal) A j = A (ix2 ⟨512 * (t.val / 2) + (j 0).val, by have h := (j 0).isLt; have ht := lt2 t; change (j 0).val < 512 at h; omega⟩ ⟨512 * (t.val % 2) + (j 1).val, by have h := (j 1).isLt; have ht := lt2 t; change (j 1).val < 512 at h; omega⟩) := by
  rw [View.read_apply]
  show A _ = A _
  congr 1
  funext a
  apply Fin.ext
  have hi := idx2 t
  match a with
  | ⟨0, _⟩ => show win2_2.index t 0 * 512 + 1 * (j 0).val = 512 * (t.val / 2) + (j 0).val; rw [hi.2.2.2.2.1]; omega
  | ⟨1, _⟩ => show win2_2.index t 1 * 512 + 1 * (j 1).val = 512 * (t.val % 2) + (j 1).val; rw [hi.2.2.2.2.2]; omega

/-! ## Call 2: the array it leaves -/

theorem k2_pay1_apply (x0 : Vec Ideal S512x1024 .bf16) (x1 : Vec Ideal S512x1024 .bf16) (j : S512x512.Idx) :
    k2_pay1 x0 x1 j = ∑ q : Fin 1024, x0 (ix2 (j 0) q) * x1 (ix2 (j 1) q) := by
  unfold k2_pay1
  pointwise

theorem out2_2_apply (x0 : Vec Ideal S512x1024 .bf16) (x1 : Vec Ideal S512x1024 .bf16) (j : S512x512.Idx) :
    out2_2 x0 x1 j = ∑ q : Fin 1024, x0 (ix2 (j 0) q) * x1 (ix2 (j 1) q) := by
  unfold out2_2
  rw [View.canon_unit_zero hz]
  rw [View.ld_unit_zero (S := S512x1024) hz, View.ld_unit_zero (S := S512x1024) hz]
  exact k2_pay1_apply x0 x1 j

theorem iblk2_0 (c : Dev nD) (t : Fin cfg2.N) (j : S512x1024.Idx) :
    (iblk2 V c 0 t : S512x1024.Idx → EReal) j = (V c (Pipeline.arrRef spec2 0) : S4096x1024.Idx → EReal) (ix2 ⟨512 * (t.val / 2) + (j 0).val, by have h := (j 0).isLt; have ht := lt2 t; change (j 0).val < 512 at h; omega⟩ (j 1)) := blk2_0 t (V c (Pipeline.arrRef spec2 0)) j

theorem iblk2_1 (c : Dev nD) (t : Fin cfg2.N) (j : S512x1024.Idx) :
    (iblk2 V c 1 t : S512x1024.Idx → EReal) j = (V c (Pipeline.arrRef spec2 1) : S1024x1024.Idx → EReal) (ix2 ⟨512 * (t.val % 2) + (j 0).val, by have h := (j 0).isLt; have ht := lt2 t; change (j 0).val < 512 at h; omega⟩ (j 1)) := blk2_1 t (V c (Pipeline.arrRef spec2 1)) j

/-- Every index of the array lies in the block of some point. -/
theorem cover2_2' (i : S4096x1024.Idx) :
    ∃ t : Fin cfg2.N, (cfg2.win 2).flush t = true ∧ i ∈ ((cfg2.win 2).blk t).view.set := by
  have h0 : (i 0).val < 4096 := (i 0).isLt
  have h1 : (i 1).val < 1024 := (i 1).isLt
  have ht : 2 * ((i 0).val / 512) + (i 1).val / 512 < cfg2.N := lt_of_lt_of_eq (by omega : _ < 16) N_2.symm
  refine ⟨⟨2 * ((i 0).val / 512) + (i 1).val / 512, ht⟩, flush2_2 _, ?_⟩
  have hi := idx2 ⟨2 * ((i 0).val / 512) + (i 1).val / 512, ht⟩
  show i ∈ ((View.whole (Pipeline.arrRef spec2 2)).slice (win2_2.rect ⟨2 * ((i 0).val / 512) + (i 1).val / 512, ht⟩)).set
  rw [View.set_slice_whole, Rect.mem_set_unit]
  intro a
  match a with
  | ⟨0, _⟩ => show win2_2.index ⟨2 * ((i 0).val / 512) + (i 1).val / 512, ht⟩ 0 * 512 ≤ (i 0).val ∧ (i 0).val < win2_2.index ⟨2 * ((i 0).val / 512) + (i 1).val / 512, ht⟩ 0 * 512 + 512; rw [hi.2.2.2.2.1]; dsimp only; omega
  | ⟨1, _⟩ => show win2_2.index ⟨2 * ((i 0).val / 512) + (i 1).val / 512, ht⟩ 1 * 512 ≤ (i 1).val ∧ (i 1).val < win2_2.index ⟨2 * ((i 0).val / 512) + (i 1).val / 512, ht⟩ 1 * 512 + 512; rw [hi.2.2.2.2.2]; dsimp only; omega

/-- What a point writes back is its block of the whole-array function. -/
theorem flushed2_2 (c : Dev nD) (t : Fin cfg2.N) :
    (dat2 V c).flushed 2 t = ((cfg2.win 2).blk t).view.read (Elt Ideal) (nt (V c main_arg4) (V c main_arg3)) := by
  show (cfg2.win 2).cut (grid2.coords t) ((dat2 V c).after 2 t) = _
  rw [after2_2]
  refine funext fun (j : S512x512.Idx) => ?_
  refine Eq.trans ?_ (blk2_2 t (nt (V c main_arg4) (V c main_arg3)) j).symm
  refine (out2_2_apply (iblk2 V c 0 t) (iblk2 V c 1 t) j).trans ?_
  simp only [iblk2_0, iblk2_1]
  rfl

/-- The array this call leaves. -/
theorem final2_2 (c : Dev nD) : (dat2 V c).arrAt 2 cfg2.N = nt (V c main_arg4) (V c main_arg3) :=
  (dat2 V c).arrAt_eq_of_cover 2 (nt (V c main_arg4) (V c main_arg3)) (fun t _ => flushed2_2 V c t) cover2_2'

/-! ## Call 3: where each window's block lies -/

/-- The block indices of call 3's windows at every point of its grid. -/
theorem idx3 : ∀ t : Fin grid3.N, win3_0.index t 0 = 0 ∧ win3_0.index t 1 = t.val / 2 ∧ win3_1.index t 0 = 0 ∧ win3_1.index t 1 = t.val % 2 ∧ win3_2.index t 0 = t.val / 2 ∧ win3_2.index t 1 = t.val % 2 := by decide +kernel

theorem lt3 (t : Fin cfg3.N) : t.val < 4 := lt_of_lt_of_eq t.isLt N_3

/-- Window 0 of call 3: its block at point `t` of an array, read at an index of the block. -/
theorem blk3_0 (t : Fin cfg3.N) (A : S4096x1024.Idx → EReal) (j : S4096x512.Idx) :
    ((cfg3.win 0).blk t).view.read (Elt Ideal) A j = A (ix2 (j 0) ⟨512 * (t.val / 2) + (j 1).val, by have h := (j 1).isLt; have ht := lt3 t; change (j 1).val < 512 at h; omega⟩) := by
  rw [View.read_apply]
  show A _ = A _
  congr 1
  funext a
  apply Fin.ext
  have hi := idx3 t
  match a with
  | ⟨0, _⟩ => show win3_0.index t 0 * 4096 + 1 * (j 0).val = (j 0).val; rw [hi.1]; omega
  | ⟨1, _⟩ => show win3_0.index t 1 * 512 + 1 * (j 1).val = 512 * (t.val / 2) + (j 1).val; rw [hi.2.1]; omega

/-- Window 1 of call 3: its block at point `t` of an array, read at an index of the block. -/
theorem blk3_1 (t : Fin cfg3.N) (A : S4096x1024.Idx → EReal) (j : S4096x512.Idx) :
    ((cfg3.win 1).blk t).view.read (Elt Ideal) A j = A (ix2 (j 0) ⟨512 * (t.val % 2) + (j 1).val, by have h := (j 1).isLt; have ht := lt3 t; change (j 1).val < 512 at h; omega⟩) := by
  rw [View.read_apply]
  show A _ = A _
  congr 1
  funext a
  apply Fin.ext
  have hi := idx3 t
  match a with
  | ⟨0, _⟩ => show win3_1.index t 0 * 4096 + 1 * (j 0).val = (j 0).val; rw [hi.2.2.1]; omega
  | ⟨1, _⟩ => show win3_1.index t 1 * 512 + 1 * (j 1).val = 512 * (t.val % 2) + (j 1).val; rw [hi.2.2.2.1]; omega

/-- Window 2 of call 3: its block at point `t` of an array, read at an index of the block. -/
theorem blk3_2 (t : Fin cfg3.N) (A : S1024x1024.Idx → EReal) (j : S512x512.Idx) :
    ((cfg3.win 2).blk t).view.read (Elt Ideal) A j = A (ix2 ⟨512 * (t.val / 2) + (j 0).val, by have h := (j 0).isLt; have ht := lt3 t; change (j 0).val < 512 at h; omega⟩ ⟨512 * (t.val % 2) + (j 1).val, by have h := (j 1).isLt; have ht := lt3 t; change (j 1).val < 512 at h; omega⟩) := by
  rw [View.read_apply]
  show A _ = A _
  congr 1
  funext a
  apply Fin.ext
  have hi := idx3 t
  match a with
  | ⟨0, _⟩ => show win3_2.index t 0 * 512 + 1 * (j 0).val = 512 * (t.val / 2) + (j 0).val; rw [hi.2.2.2.2.1]; omega
  | ⟨1, _⟩ => show win3_2.index t 1 * 512 + 1 * (j 1).val = 512 * (t.val % 2) + (j 1).val; rw [hi.2.2.2.2.2]; omega

/-! ## Call 3: the array it leaves -/

theorem k3_pay1_apply (x0 : Vec Ideal S4096x512 .bf16) (x1 : Vec Ideal S4096x512 .bf16) (j : S512x512.Idx) :
    k3_pay1 x0 x1 j = ∑ q : Fin 4096, x0 (ix2 q (j 0)) * x1 (ix2 q (j 1)) := by
  unfold k3_pay1
  pointwise

theorem out3_2_apply (x0 : Vec Ideal S4096x512 .bf16) (x1 : Vec Ideal S4096x512 .bf16) (j : S512x512.Idx) :
    out3_2 x0 x1 j = ∑ q : Fin 4096, x0 (ix2 q (j 0)) * x1 (ix2 q (j 1)) := by
  unfold out3_2
  rw [View.canon_unit_zero hz]
  rw [View.ld_unit_zero (S := S4096x512) hz, View.ld_unit_zero (S := S4096x512) hz]
  exact k3_pay1_apply x0 x1 j

theorem iblk3_0 (c : Dev nD) (t : Fin cfg3.N) (j : S4096x512.Idx) :
    (iblk3 V c 0 t : S4096x512.Idx → EReal) j = (V c (Pipeline.arrRef spec3 0) : S4096x1024.Idx → EReal) (ix2 (j 0) ⟨512 * (t.val / 2) + (j 1).val, by have h := (j 1).isLt; have ht := lt3 t; change (j 1).val < 512 at h; omega⟩) := blk3_0 t (V c (Pipeline.arrRef spec3 0)) j

theorem iblk3_1 (c : Dev nD) (t : Fin cfg3.N) (j : S4096x512.Idx) :
    (iblk3 V c 1 t : S4096x512.Idx → EReal) j = (V c (Pipeline.arrRef spec3 1) : S4096x1024.Idx → EReal) (ix2 (j 0) ⟨512 * (t.val % 2) + (j 1).val, by have h := (j 1).isLt; have ht := lt3 t; change (j 1).val < 512 at h; omega⟩) := blk3_1 t (V c (Pipeline.arrRef spec3 1)) j

/-- Every index of the array lies in the block of some point. -/
theorem cover3_2' (i : S1024x1024.Idx) :
    ∃ t : Fin cfg3.N, (cfg3.win 2).flush t = true ∧ i ∈ ((cfg3.win 2).blk t).view.set := by
  have h0 : (i 0).val < 1024 := (i 0).isLt
  have h1 : (i 1).val < 1024 := (i 1).isLt
  have ht : 2 * ((i 0).val / 512) + (i 1).val / 512 < cfg3.N := lt_of_lt_of_eq (by omega : _ < 4) N_3.symm
  refine ⟨⟨2 * ((i 0).val / 512) + (i 1).val / 512, ht⟩, flush3_2 _, ?_⟩
  have hi := idx3 ⟨2 * ((i 0).val / 512) + (i 1).val / 512, ht⟩
  show i ∈ ((View.whole (Pipeline.arrRef spec3 2)).slice (win3_2.rect ⟨2 * ((i 0).val / 512) + (i 1).val / 512, ht⟩)).set
  rw [View.set_slice_whole, Rect.mem_set_unit]
  intro a
  match a with
  | ⟨0, _⟩ => show win3_2.index ⟨2 * ((i 0).val / 512) + (i 1).val / 512, ht⟩ 0 * 512 ≤ (i 0).val ∧ (i 0).val < win3_2.index ⟨2 * ((i 0).val / 512) + (i 1).val / 512, ht⟩ 0 * 512 + 512; rw [hi.2.2.2.2.1]; dsimp only; omega
  | ⟨1, _⟩ => show win3_2.index ⟨2 * ((i 0).val / 512) + (i 1).val / 512, ht⟩ 1 * 512 ≤ (i 1).val ∧ (i 1).val < win3_2.index ⟨2 * ((i 0).val / 512) + (i 1).val / 512, ht⟩ 1 * 512 + 512; rw [hi.2.2.2.2.2]; dsimp only; omega

/-- What a point writes back is its block of the whole-array function. -/
theorem flushed3_2 (c : Dev nD) (t : Fin cfg3.N) :
    (dat3 V c).flushed 2 t = ((cfg3.win 2).blk t).view.read (Elt Ideal) (tn (V c main_arg2) (V c main_arg4)) := by
  show (cfg3.win 2).cut (grid3.coords t) ((dat3 V c).after 2 t) = _
  rw [after3_2]
  refine funext fun (j : S512x512.Idx) => ?_
  refine Eq.trans ?_ (blk3_2 t (tn (V c main_arg2) (V c main_arg4)) j).symm
  refine (out3_2_apply (iblk3 V c 0 t) (iblk3 V c 1 t) j).trans ?_
  simp only [iblk3_0, iblk3_1]
  rfl

/-- The array this call leaves. -/
theorem final3_2 (c : Dev nD) : (dat3 V c).arrAt 2 cfg3.N = tn (V c main_arg2) (V c main_arg4) :=
  (dat3 V c).arrAt_eq_of_cover 2 (tn (V c main_arg2) (V c main_arg4)) (fun t _ => flushed3_2 V c t) cover3_2'

/-! ## Call 4: where each window's block lies -/

/-- The block indices of call 4's windows at every point of its grid. -/
theorem idx4 : ∀ t : Fin grid4.N, win4_0.index t 0 = 0 ∧ win4_0.index t 1 = t.val / 8 ∧ win4_1.index t 0 = 0 ∧ win4_1.index t 1 = t.val % 8 ∧ win4_2.index t 0 = t.val % 8 ∧ win4_2.index t 1 = t.val / 8 ∧ win4_2.index t 2 = 0 := by decide +kernel

theorem lt4 (t : Fin cfg4.N) : t.val < 16 := lt_of_lt_of_eq t.isLt N_4

/-- Window 0 of call 4: its block at point `t` of an array, read at an index of the block. -/
theorem blk4_0 (t : Fin cfg4.N) (A : S4096x1024.Idx → EReal) (j : S4096x512.Idx) :
    ((cfg4.win 0).blk t).view.read (Elt Ideal) A j = A (ix2 (j 0) ⟨512 * (t.val / 8) + (j 1).val, by have h := (j 1).isLt; have ht := lt4 t; change (j 1).val < 512 at h; omega⟩) := by
  rw [View.read_apply]
  show A _ = A _
  congr 1
  funext a
  apply Fin.ext
  have hi := idx4 t
  match a with
  | ⟨0, _⟩ => show win4_0.index t 0 * 4096 + 1 * (j 0).val = (j 0).val; rw [hi.1]; omega
  | ⟨1, _⟩ => show win4_0.index t 1 * 512 + 1 * (j 1).val = 512 * (t.val / 8) + (j 1).val; rw [hi.2.1]; omega

/-- Window 1 of call 4: its block at point `t` of an array, read at an index of the block. -/
theorem blk4_1 (t : Fin cfg4.N) (A : S4096x2048.Idx → EReal) (j : S4096x256.Idx) :
    ((cfg4.win 1).blk t).view.read (Elt Ideal) A j = A (ix2 (j 0) ⟨256 * (t.val % 8) + (j 1).val, by have h := (j 1).isLt; have ht := lt4 t; change (j 1).val < 256 at h; omega⟩) := by
  rw [View.read_apply]
  show A _ = A _
  congr 1
  funext a
  apply Fin.ext
  have hi := idx4 t
  match a with
  | ⟨0, _⟩ => show win4_1.index t 0 * 4096 + 1 * (j 0).val = (j 0).val; rw [hi.2.2.1]; omega
  | ⟨1, _⟩ => show win4_1.index t 1 * 256 + 1 * (j 1).val = 256 * (t.val % 8) + (j 1).val; rw [hi.2.2.2.1]; omega

/-- Window 2 of call 4: its block at point `t` of an array, read at an index of the block. -/
theorem blk4_2 (t : Fin cfg4.N) (A : S8x1024x256.Idx → EReal) (j : S1x512x256.Idx) :
    ((cfg4.win 2).blk t).view.read (Elt Ideal) A j = A (ix3 ⟨1 * (t.val % 8) + (j 0).val, by have h := (j 0).isLt; have ht := lt4 t; change (j 0).val < 1 at h; omega⟩ ⟨512 * (t.val / 8) + (j 1).val, by have h := (j 1).isLt; have ht := lt4 t; change (j 1).val < 512 at h; omega⟩ (j 2)) := by
  rw [View.read_apply]
  show A _ = A _
  congr 1
  funext a
  apply Fin.ext
  have hi := idx4 t
  match a with
  | ⟨0, _⟩ => show win4_2.index t 0 * 1 + 1 * (j 0).val = 1 * (t.val % 8) + (j 0).val; rw [hi.2.2.2.2.1]; omega
  | ⟨1, _⟩ => show win4_2.index t 1 * 512 + 1 * (j 1).val = 512 * (t.val / 8) + (j 1).val; rw [hi.2.2.2.2.2.1]; omega
  | ⟨2, _⟩ => show win4_2.index t 2 * 256 + 1 * (j 2).val = (j 2).val; rw [hi.2.2.2.2.2.2]; omega

/-! ## Call 4: the array it leaves -/

theorem k4_pay1_apply (x0 : Vec Ideal S4096x512 .bf16) (x1 : Vec Ideal S4096x256 .bf16) (j : S1x512x256.Idx) :
    k4_pay1 x0 x1 j = ∑ q : Fin 4096, x0 (ix2 q (j 1)) * x1 (ix2 q (j 2)) := by
  unfold k4_pay1
  pointwise

theorem out4_2_apply (x0 : Vec Ideal S4096x512 .bf16) (x1 : Vec Ideal S4096x256 .bf16) (j : S1x512x256.Idx) :
    out4_2 x0 x1 j = ∑ q : Fin 4096, x0 (ix2 q (j 1)) * x1 (ix2 q (j 2)) := by
  unfold out4_2
  rw [View.canon_unit_zero hz3]
  rw [View.ld_unit_zero (S := S4096x512) hz, View.ld_unit_zero (S := S4096x256) hz]
  exact k4_pay1_apply x0 x1 j

theorem iblk4_0 (c : Dev nD) (t : Fin cfg4.N) (j : S4096x512.Idx) :
    (iblk4 V c 0 t : S4096x512.Idx → EReal) j = (V c (Pipeline.arrRef spec4 0) : S4096x1024.Idx → EReal) (ix2 (j 0) ⟨512 * (t.val / 8) + (j 1).val, by have h := (j 1).isLt; have ht := lt4 t; change (j 1).val < 512 at h; omega⟩) := blk4_0 t (V c (Pipeline.arrRef spec4 0)) j

theorem iblk4_1 (c : Dev nD) (t : Fin cfg4.N) (j : S4096x256.Idx) :
    (iblk4 V c 1 t : S4096x256.Idx → EReal) j = (V c (Pipeline.arrRef spec4 1) : S4096x2048.Idx → EReal) (ix2 (j 0) ⟨256 * (t.val % 8) + (j 1).val, by have h := (j 1).isLt; have ht := lt4 t; change (j 1).val < 256 at h; omega⟩) := blk4_1 t (V c (Pipeline.arrRef spec4 1)) j

/-- Every index of the array lies in the block of some point. -/
theorem cover4_2' (i : S8x1024x256.Idx) :
    ∃ t : Fin cfg4.N, (cfg4.win 2).flush t = true ∧ i ∈ ((cfg4.win 2).blk t).view.set := by
  have h0 : (i 0).val < 8 := (i 0).isLt
  have h1 : (i 1).val < 1024 := (i 1).isLt
  have h2 : (i 2).val < 256 := (i 2).isLt
  have ht : 8 * ((i 1).val / 512) + (i 0).val < cfg4.N := lt_of_lt_of_eq (by omega : _ < 16) N_4.symm
  refine ⟨⟨8 * ((i 1).val / 512) + (i 0).val, ht⟩, flush4_2 _, ?_⟩
  have hi := idx4 ⟨8 * ((i 1).val / 512) + (i 0).val, ht⟩
  show i ∈ ((View.whole (Pipeline.arrRef spec4 2)).slice (win4_2.rect ⟨8 * ((i 1).val / 512) + (i 0).val, ht⟩)).set
  rw [View.set_slice_whole, Rect.mem_set_unit]
  intro a
  match a with
  | ⟨0, _⟩ => show win4_2.index ⟨8 * ((i 1).val / 512) + (i 0).val, ht⟩ 0 * 1 ≤ (i 0).val ∧ (i 0).val < win4_2.index ⟨8 * ((i 1).val / 512) + (i 0).val, ht⟩ 0 * 1 + 1; rw [hi.2.2.2.2.1]; dsimp only; omega
  | ⟨1, _⟩ => show win4_2.index ⟨8 * ((i 1).val / 512) + (i 0).val, ht⟩ 1 * 512 ≤ (i 1).val ∧ (i 1).val < win4_2.index ⟨8 * ((i 1).val / 512) + (i 0).val, ht⟩ 1 * 512 + 512; rw [hi.2.2.2.2.2.1]; dsimp only; omega
  | ⟨2, _⟩ => show win4_2.index ⟨8 * ((i 1).val / 512) + (i 0).val, ht⟩ 2 * 256 ≤ (i 2).val ∧ (i 2).val < win4_2.index ⟨8 * ((i 1).val / 512) + (i 0).val, ht⟩ 2 * 256 + 256; rw [hi.2.2.2.2.2.2]; omega

/-- What a point writes back is its block of the whole-array function. -/
theorem flushed4_2 (c : Dev nD) (t : Fin cfg4.N) :
    (dat4 V c).flushed 2 t = ((cfg4.win 2).blk t).view.read (Elt Ideal) (slots (tn (V c main_arg0) (V c main_arg5))) := by
  show (cfg4.win 2).cut (grid4.coords t) ((dat4 V c).after 2 t) = _
  rw [after4_2]
  refine funext fun (j : S1x512x256.Idx) => ?_
  refine Eq.trans ?_ (blk4_2 t (slots (tn (V c main_arg0) (V c main_arg5))) j).symm
  refine (out4_2_apply (iblk4 V c 0 t) (iblk4 V c 1 t) j).trans ?_
  simp only [iblk4_0, iblk4_1]
  refine Finset.sum_congr rfl fun q _ => congrArg₂ (fun (u v : EReal) => u * v) rfl (congrArg (V c main_arg5 : Cert.Products.Mat 4096 2048) (congrArg (ix2 q) (Fin.ext ?_)))
  have h0 : (j 0).val < 1 := (j 0).isLt
  show 256 * (t.val % 8) + (j 2).val = 256 * (1 * (t.val % 8) + (j 0).val) + (j 2).val
  omega

/-- The array this call leaves. -/
theorem final4_2 (c : Dev nD) : (dat4 V c).arrAt 2 cfg4.N = slots (tn (V c main_arg0) (V c main_arg5)) :=
  (dat4 V c).arrAt_eq_of_cover 2 (slots (tn (V c main_arg0) (V c main_arg5))) (fun t _ => flushed4_2 V c t) cover4_2'

/-! ## Call 5: where each window's block lies -/

/-- The block indices of call 5's windows at every point of its grid. -/
theorem idx5 : ∀ t : Fin grid5.N, win5_0.index t 0 = t.val / 2 ∧ win5_0.index t 1 = 0 ∧ win5_1.index t 0 = t.val % 2 ∧ win5_1.index t 1 = 0 ∧ win5_2.index t 0 = t.val / 2 ∧ win5_2.index t 1 = t.val % 2 := by decide +kernel

theorem lt5 (t : Fin cfg5.N) : t.val < 16 := lt_of_lt_of_eq t.isLt N_5

/-- Window 0 of call 5: its block at point `t` of an array, read at an index of the block. -/
theorem blk5_0 (t : Fin cfg5.N) (A : S4096x2048.Idx → EReal) (j : S512x2048.Idx) :
    ((cfg5.win 0).blk t).view.read (Elt Ideal) A j = A (ix2 ⟨512 * (t.val / 2) + (j 0).val, by have h := (j 0).isLt; have ht := lt5 t; change (j 0).val < 512 at h; omega⟩ (j 1)) := by
  rw [View.read_apply]
  show A _ = A _
  congr 1
  funext a
  apply Fin.ext
  have hi := idx5 t
  match a with
  | ⟨0, _⟩ => show win5_0.index t 0 * 512 + 1 * (j 0).val = 512 * (t.val / 2) + (j 0).val; rw [hi.1]; omega
  | ⟨1, _⟩ => show win5_0.index t 1 * 2048 + 1 * (j 1).val = (j 1).val; rw [hi.2.1]; omega

/-- Window 1 of call 5: its block at point `t` of an array, read at an index of the block. -/
theorem blk5_1 (t : Fin cfg5.N) (A : S1024x2048.Idx → EReal) (j : S512x2048.Idx) :
    ((cfg5.win 1).blk t).view.read (Elt Ideal) A j = A (ix2 ⟨512 * (t.val % 2) + (j 0).val, by have h := (j 0).isLt; have ht := lt5 t; change (j 0).val < 512 at h; omega⟩ (j 1)) := by
  rw [View.read_apply]
  show A _ = A _
  congr 1
  funext a
  apply Fin.ext
  have hi := idx5 t
  match a with
  | ⟨0, _⟩ => show win5_1.index t 0 * 512 + 1 * (j 0).val = 512 * (t.val % 2) + (j 0).val; rw [hi.2.2.1]; omega
  | ⟨1, _⟩ => show win5_1.index t 1 * 2048 + 1 * (j 1).val = (j 1).val; rw [hi.2.2.2.1]; omega

/-- Window 2 of call 5: its block at point `t` of an array, read at an index of the block. -/
theorem blk5_2 (t : Fin cfg5.N) (A : S4096x1024.Idx → EReal) (j : S512x512.Idx) :
    ((cfg5.win 2).blk t).view.read (Elt Ideal) A j = A (ix2 ⟨512 * (t.val / 2) + (j 0).val, by have h := (j 0).isLt; have ht := lt5 t; change (j 0).val < 512 at h; omega⟩ ⟨512 * (t.val % 2) + (j 1).val, by have h := (j 1).isLt; have ht := lt5 t; change (j 1).val < 512 at h; omega⟩) := by
  rw [View.read_apply]
  show A _ = A _
  congr 1
  funext a
  apply Fin.ext
  have hi := idx5 t
  match a with
  | ⟨0, _⟩ => show win5_2.index t 0 * 512 + 1 * (j 0).val = 512 * (t.val / 2) + (j 0).val; rw [hi.2.2.2.2.1]; omega
  | ⟨1, _⟩ => show win5_2.index t 1 * 512 + 1 * (j 1).val = 512 * (t.val % 2) + (j 1).val; rw [hi.2.2.2.2.2]; omega

/-! ## Call 5: the array it leaves -/

theorem k5_pay1_apply (x0 : Vec Ideal S512x2048 .bf16) (x1 : Vec Ideal S512x2048 .bf16) (j : S512x512.Idx) :
    k5_pay1 x0 x1 j = ∑ q : Fin 2048, x0 (ix2 (j 0) q) * x1 (ix2 (j 1) q) := by
  unfold k5_pay1
  pointwise

theorem out5_2_apply (x0 : Vec Ideal S512x2048 .bf16) (x1 : Vec Ideal S512x2048 .bf16) (j : S512x512.Idx) :
    out5_2 x0 x1 j = ∑ q : Fin 2048, x0 (ix2 (j 0) q) * x1 (ix2 (j 1) q) := by
  unfold out5_2
  rw [View.canon_unit_zero hz]
  rw [View.ld_unit_zero (S := S512x2048) hz, View.ld_unit_zero (S := S512x2048) hz]
  exact k5_pay1_apply x0 x1 j

theorem iblk5_0 (c : Dev nD) (t : Fin cfg5.N) (j : S512x2048.Idx) :
    (iblk5 V c 0 t : S512x2048.Idx → EReal) j = (V c (Pipeline.arrRef spec5 0) : S4096x2048.Idx → EReal) (ix2 ⟨512 * (t.val / 2) + (j 0).val, by have h := (j 0).isLt; have ht := lt5 t; change (j 0).val < 512 at h; omega⟩ (j 1)) := blk5_0 t (V c (Pipeline.arrRef spec5 0)) j

theorem iblk5_1 (c : Dev nD) (t : Fin cfg5.N) (j : S512x2048.Idx) :
    (iblk5 V c 1 t : S512x2048.Idx → EReal) j = (V c (Pipeline.arrRef spec5 1) : S1024x2048.Idx → EReal) (ix2 ⟨512 * (t.val % 2) + (j 0).val, by have h := (j 0).isLt; have ht := lt5 t; change (j 0).val < 512 at h; omega⟩ (j 1)) := blk5_1 t (V c (Pipeline.arrRef spec5 1)) j

/-- Every index of the array lies in the block of some point. -/
theorem cover5_2' (i : S4096x1024.Idx) :
    ∃ t : Fin cfg5.N, (cfg5.win 2).flush t = true ∧ i ∈ ((cfg5.win 2).blk t).view.set := by
  have h0 : (i 0).val < 4096 := (i 0).isLt
  have h1 : (i 1).val < 1024 := (i 1).isLt
  have ht : 2 * ((i 0).val / 512) + (i 1).val / 512 < cfg5.N := lt_of_lt_of_eq (by omega : _ < 16) N_5.symm
  refine ⟨⟨2 * ((i 0).val / 512) + (i 1).val / 512, ht⟩, flush5_2 _, ?_⟩
  have hi := idx5 ⟨2 * ((i 0).val / 512) + (i 1).val / 512, ht⟩
  show i ∈ ((View.whole (Pipeline.arrRef spec5 2)).slice (win5_2.rect ⟨2 * ((i 0).val / 512) + (i 1).val / 512, ht⟩)).set
  rw [View.set_slice_whole, Rect.mem_set_unit]
  intro a
  match a with
  | ⟨0, _⟩ => show win5_2.index ⟨2 * ((i 0).val / 512) + (i 1).val / 512, ht⟩ 0 * 512 ≤ (i 0).val ∧ (i 0).val < win5_2.index ⟨2 * ((i 0).val / 512) + (i 1).val / 512, ht⟩ 0 * 512 + 512; rw [hi.2.2.2.2.1]; dsimp only; omega
  | ⟨1, _⟩ => show win5_2.index ⟨2 * ((i 0).val / 512) + (i 1).val / 512, ht⟩ 1 * 512 ≤ (i 1).val ∧ (i 1).val < win5_2.index ⟨2 * ((i 0).val / 512) + (i 1).val / 512, ht⟩ 1 * 512 + 512; rw [hi.2.2.2.2.2]; dsimp only; omega

/-- What a point writes back is its block of the whole-array function. -/
theorem flushed5_2 (c : Dev nD) (t : Fin cfg5.N) :
    (dat5 V c).flushed 2 t = ((cfg5.win 2).blk t).view.read (Elt Ideal) (nt (V c main_arg5) (V c main_arg1)) := by
  show (cfg5.win 2).cut (grid5.coords t) ((dat5 V c).after 2 t) = _
  rw [after5_2]
  refine funext fun (j : S512x512.Idx) => ?_
  refine Eq.trans ?_ (blk5_2 t (nt (V c main_arg5) (V c main_arg1)) j).symm
  refine (out5_2_apply (iblk5 V c 0 t) (iblk5 V c 1 t) j).trans ?_
  simp only [iblk5_0, iblk5_1]
  rfl

/-- The array this call leaves. -/
theorem final5_2 (c : Dev nD) : (dat5 V c).arrAt 2 cfg5.N = nt (V c main_arg5) (V c main_arg1) :=
  (dat5 V c).arrAt_eq_of_cover 2 (nt (V c main_arg5) (V c main_arg1)) (fun t _ => flushed5_2 V c t) cover5_2'

end Cert.Kernel6Ideal.RefValue

end
-- ==== Proof.GatingRun.lean ====
/-
The products of the spatial gating layer and their gradients: the run of the six calls, and what it leaves in the results.
-/
module

public import proofs.«01_k».proof.Proof.GatingArrays
public import Idealize.ShloMosaic.Lib.Quiescent

@[expose] public section

set_option maxRecDepth 16384

noncomputable section

namespace Cert.Kernel6Ideal.RefValue

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)
open Cert.Products (nn nt tn addRow slots)

section Any
variable {F : FTy → Type} [FloatOps F]
variable (m : (ℓ : Loc nD τ sig) → Buf (Elt F) ℓ) (ρ : Dev nD → PrngReg)

local notation "𝕄" => MT nD τ sig Unit (Elt F) ℕ (UR sig nD τ) ℕ

set_option backward.isDefEq.respectTransparency.types false in
/-- The whole program runs from any memory with zero counters, and every buffer of the TensorCore ends at the contents that
    the six calls leave in turn (`W6`). -/
theorem run_bufs : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h _ => h)

end Any

section AtIdeal
variable (m : (ℓ : Loc nD τ sig) → Buf (Elt Ideal) ℓ) (ρ : Dev nD → PrngReg)

theorem V1_arg (c : Dev nD) : ∀ a ∈ argRefs, V1 m ρ c a = m ((c : Thread nD τ).loc a) := fun a ha => W1_args m ρ c a ha
theorem V2_arg (c : Dev nD) : ∀ a ∈ argRefs, V2 m ρ c a = m ((c : Thread nD τ).loc a) := fun a ha => W2_args m ρ c a ha
theorem V3_arg (c : Dev nD) : ∀ a ∈ argRefs, V3 m ρ c a = m ((c : Thread nD τ).loc a) := fun a ha => W3_args m ρ c a ha
theorem V4_arg (c : Dev nD) : ∀ a ∈ argRefs, V4 m ρ c a = m ((c : Thread nD τ).loc a) := fun a ha => W4_args m ρ c a ha
theorem V5_arg (c : Dev nD) : ∀ a ∈ argRefs, V5 m ρ c a = m ((c : Thread nD τ).loc a) := fun a ha => W5_args m ρ c a ha

/-- The inner product, at the end of the program. -/
theorem W6_v0 (c : Dev nD) : W6 m ρ c main_v0 = nn (m ((c : Thread nD τ).loc main_arg0)) (m ((c : Thread nD τ).loc main_arg1)) := by
  refine (W6_of m ρ c main_v0 (by decide +kernel)).trans ((W5_of m ρ c main_v0 (by decide +kernel)).trans ((W4_of m ρ c main_v0 (by decide +kernel)).trans ((W3_of m ρ c main_v0 (by decide +kernel)).trans ((W2_of m ρ c main_v0 (by decide +kernel)).trans ((W1_arr m ρ c 2).trans ((final0_2 (V0 m ρ) c).trans ?_))))))
  rfl

/-- The layer's output, at the end of the program. -/
theorem W6_v1 (c : Dev nD) : W6 m ρ c main_v1 = nn (m ((c : Thread nD τ).loc main_arg2)) (m ((c : Thread nD τ).loc main_arg3)) := by
  refine (W6_of m ρ c main_v1 (by decide +kernel)).trans ((W5_of m ρ c main_v1 (by decide +kernel)).trans ((W4_of m ρ c main_v1 (by decide +kernel)).trans ((W3_of m ρ c main_v1 (by decide +kernel)).trans ((W2_arr m ρ c 2).trans ((final1_2 (V1 m ρ) c).trans ?_)))))
  rw [V1_arg m ρ c main_arg2 (by decide), V1_arg m ρ c main_arg3 (by decide)]

/-- The gradient of the output product's first factor, at the end of the program. -/
theorem W6_v2 (c : Dev nD) : W6 m ρ c main_v2 = nt (m ((c : Thread nD τ).loc main_arg4)) (m ((c : Thread nD τ).loc main_arg3)) := by
  refine (W6_of m ρ c main_v2 (by decide +kernel)).trans ((W5_of m ρ c main_v2 (by decide +kernel)).trans ((W4_of m ρ c main_v2 (by decide +kernel)).trans ((W3_arr m ρ c 2).trans ((final2_2 (V2 m ρ) c).trans ?_))))
  rw [V2_arg m ρ c main_arg4 (by decide), V2_arg m ρ c main_arg3 (by decide)]

/-- The gradient of the output weight, at the end of the program. -/
theorem W6_v3 (c : Dev nD) : W6 m ρ c main_v3 = tn (m ((c : Thread nD τ).loc main_arg2)) (m ((c : Thread nD τ).loc main_arg4)) := by
  refine (W6_of m ρ c main_v3 (by decide +kernel)).trans ((W5_of m ρ c main_v3 (by decide +kernel)).trans ((W4_arr m ρ c 2).trans ((final3_2 (V3 m ρ) c).trans ?_)))
  rw [V3_arg m ρ c main_arg2 (by decide), V3_arg m ρ c main_arg4 (by decide)]

/-- The gradient of the inner weight, its columns in eight slots, at the end of the program. -/
theorem W6_v4 (c : Dev nD) : W6 m ρ c main_v4 = slots (tn (m ((c : Thread nD τ).loc main_arg0)) (m ((c : Thread nD τ).loc main_arg5))) := by
  refine (W6_of m ρ c main_v4 (by decide +kernel)).trans ((W5_arr m ρ c 2).trans ((final4_2 (V4 m ρ) c).trans ?_))
  rw [V4_arg m ρ c main_arg0 (by decide), V4_arg m ρ c main_arg5 (by decide)]

/-- The gradient of the layer's input, at the end of the program. -/
theorem W6_v5 (c : Dev nD) : W6 m ρ c main_v5 = nt (m ((c : Thread nD τ).loc main_arg5)) (m ((c : Thread nD τ).loc main_arg1)) := by
  refine (W6_arr m ρ c 2).trans ((final5_2 (V5 m ρ) c).trans ?_)
  rw [V5_arg m ρ c main_arg5 (by decide), V5_arg m ρ c main_arg1 (by decide)]

/-- The run, read: the results at the products of the arguments, the arguments unchanged. -/
theorem run : θ_run defs (onTc (τ := τ) (main (F := Ideal))) ⟨m, fun _ => 0, ρ⟩ (fun r => ∀ c : Dev nD,
      r.2.mem ((c : Thread nD τ).loc main_v0) = nn (m ((c : Thread nD τ).loc main_arg0)) (m ((c : Thread nD τ).loc main_arg1))
      ∧ r.2.mem ((c : Thread nD τ).loc main_v1) = nn (m ((c : Thread nD τ).loc main_arg2)) (m ((c : Thread nD τ).loc main_arg3))
      ∧ r.2.mem ((c : Thread nD τ).loc main_v2) = nt (m ((c : Thread nD τ).loc main_arg4)) (m ((c : Thread nD τ).loc main_arg3))
      ∧ r.2.mem ((c : Thread nD τ).loc main_v3) = tn (m ((c : Thread nD τ).loc main_arg2)) (m ((c : Thread nD τ).loc main_arg4))
      ∧ r.2.mem ((c : Thread nD τ).loc main_v4) = slots (tn (m ((c : Thread nD τ).loc main_arg0)) (m ((c : Thread nD τ).loc main_arg5)))
      ∧ r.2.mem ((c : Thread nD τ).loc main_v5) = nt (m ((c : Thread nD τ).loc main_arg5)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)) :=
  (θ_run defs _ _).mono (fun _ h c =>
    ⟨(h c _ (mem_uc main_v0 (by decide))).trans (W6_v0 m ρ c),
     (h c _ (mem_uc main_v1 (by decide))).trans (W6_v1 m ρ c),
     (h c _ (mem_uc main_v2 (by decide))).trans (W6_v2 m ρ c),
     (h c _ (mem_uc main_v3 (by decide))).trans (W6_v3 m ρ c),
     (h c _ (mem_uc main_v4 (by decide))).trans (W6_v4 m ρ c),
     (h c _ (mem_uc main_v5 (by decide))).trans (W6_v5 m ρ c),
     (h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c),
     (h c _ (mem_uc main_arg3 (by decide))).trans (W6_main_arg3 m ρ c),
     (h c _ (mem_uc main_arg4 (by decide))).trans (W6_main_arg4 m ρ c),
     (h c _ (mem_uc main_arg5 (by decide))).trans (W6_main_arg5 m ρ c)⟩)
    (run_bufs m ρ)

end AtIdeal

end Cert.Kernel6Ideal.RefValue

end
-- ==== Proof.Gating.lean ====
/-
The products of the spatial gating layer and their gradients: what the reference computes, its run, and the claims about the two
programs.
-/
module

public import proofs.«01_k».proof.Defs
public import proofs.«01_k».proof.Proof.Gen.Kernel6.Frame
public import proofs.«01_k».proof.Proof.Gen.Reference6Ideal.Read
public import proofs.«01_k».proof.Proof.GatingRun
public import Idealize.ShloMosaic.Lib.Quiescent

@[expose] public section

set_option maxRecDepth 16384

noncomputable section

namespace Cert.Reference6Ideal.RefValue

open Cert.Reference6Ideal Cert.Reference6Ideal.Read
open Idealize.ShloMosaic Idealize.ShloMosaic.TcCoe Idealize.SL.Sem
open Cert.Products

/-- The inner product, in the reference. -/
theorem v6_eq (x0 : Mat 4096 1024) (x1 : Mat 1024 2048) : val_main_v6 (F := Ideal) x0 x1 = nn (x0) (x1) := by
  funext i
  rw [val_main_v6_apply]
  exact Finset.sum_congr rfl fun k _ => prod2 x0 x1 _ _ (i 0) k k (i 1) rfl rfl rfl rfl

/-- The layer's output, in the reference. -/
theorem v7_eq (x2 : Mat 4096 1024) (x3 : Mat 1024 1024) : val_main_v7 (F := Ideal) x2 x3 = nn (x2) (x3) := by
  funext i
  rw [val_main_v7_apply]
  exact Finset.sum_congr rfl fun k _ => prod2 x2 x3 _ _ (i 0) k k (i 1) rfl rfl rfl rfl

/-- The gradient of the output product's first factor, in the reference. -/
theorem v10_eq (x3 : Mat 1024 1024) (x4 : Mat 4096 1024) : val_main_v10 (F := Ideal) x3 x4 = nt (x4) (x3) := by
  funext i
  rw [val_main_v10_apply]
  exact Finset.sum_congr rfl fun k _ => prod2 x4 x3 _ _ (i 0) k (i 1) k rfl rfl rfl rfl

/-- The gradient of the output weight, in the reference. -/
theorem v14_eq (x2 : Mat 4096 1024) (x4 : Mat 4096 1024) : val_main_v14 (F := Ideal) x2 x4 = tn (x2) (x4) := by
  funext i
  rw [val_main_v14_apply]
  show val_main_v9 (F := Ideal) x2 x4 i = _
  rw [val_main_v9_apply, val_main_v8_apply]
  refine Finset.sum_congr rfl fun k _ => ?_
  rw [mul_comm]
  exact prod2 x2 x4 _ _ k (i 0) k (i 1) rfl rfl rfl rfl

/-- The gradient of the inner weight, its columns in eight slots, in the reference. -/
theorem v17_eq (x0 : Mat 4096 1024) (x5 : Mat 4096 2048) : val_main_v17 (F := Ideal) x0 x5 = slots (tn (x0) (x5)) := by
  funext i
  rw [val_main_v17_apply]
  show val_main_v16 (F := Ideal) x0 x5 i = _
  rw [val_main_v16_apply, val_main_v15_apply, val_main_v12_apply, val_main_v11_apply]
  unfold slots tn
  refine Finset.sum_congr rfl fun k _ => ?_
  rw [mul_comm]
  have h0 : (i 0).val < 8 := (i 0).isLt
  have h1 : (i 1).val < 1024 := (i 1).isLt
  have h2 : (i 2).val < 256 := (i 2).isLt
  refine prod2 x0 x5 _ _ k (i 1) k ⟨256 * (i 0).val + (i 2).val, by omega⟩ rfl ?_ rfl ?_
  · show (((i 1).val * 8 + (i 0).val) * 256 + (i 2).val) / 2048 = (i 1).val
    omega
  · show (((i 1).val * 8 + (i 0).val) * 256 + (i 2).val) % 2048 = 256 * (i 0).val + (i 2).val
    omega

/-- The gradient of the layer's input, in the reference. -/
theorem v13_eq (x1 : Mat 1024 2048) (x5 : Mat 4096 2048) : val_main_v13 (F := Ideal) x1 x5 = nt (x5) (x1) := by
  funext i
  rw [val_main_v13_apply]
  exact Finset.sum_congr rfl fun k _ => prod2 x5 x1 _ _ (i 0) k (i 1) k rfl rfl rfl rfl

end Cert.Reference6Ideal.RefValue

namespace Cert.GatingProof

open Idealize.ShloMosaic Idealize.ShloMosaic.TcCoe Idealize.SL.Sem
open Cert.Products (nn nt tn addRow slots)

/-- The run at the machine's words leaves the arguments and the counters as they were. -/
theorem frame_kernel : Cert.quiescent_Kernel6 := fun m ρ _ => Cert.Kernel6.Gen.frame (F := Bits) m ρ

/-- So does the run on the extended reals. -/
theorem frame_ideal : Cert.quiescent_Kernel6Ideal := fun m ρ _ => Cert.Kernel6Ideal.Gen.frame (F := Ideal) m ρ

section
open Cert.Reference6Ideal

/-- The reference leaves its arguments as they were; it has no counters. -/
theorem frame_reference : Cert.quiescent_Reference6Ideal := fun m ρ _ =>
  (θ_run defs _ _).mono (fun r h => ⟨fun c => (h c).2.2.2.2.2.2, sem_eq_zero_of_no_sems (by decide) r.2⟩)
    (Cert.Reference6Ideal.Value.run (F := Ideal) m ρ)

variable (m : (ℓ : Loc nD τ sig) → Buf (Elt Ideal) ℓ) (ρ : Dev nD → PrngReg)

/-- The reference ends with the same products of its arguments that the kernel computes. -/
theorem reference_run : θ_run defs (onTc (τ := τ) (main (F := Ideal))) ⟨m, fun _ => 0, ρ⟩ (fun r => ∀ c : Dev nD,
      r.2.mem ((c : Thread nD τ).loc main_v6) = nn (m ((c : Thread nD τ).loc main_arg0)) (m ((c : Thread nD τ).loc main_arg1))
      ∧ r.2.mem ((c : Thread nD τ).loc main_v7) = nn (m ((c : Thread nD τ).loc main_arg2)) (m ((c : Thread nD τ).loc main_arg3))
      ∧ r.2.mem ((c : Thread nD τ).loc main_v10) = nt (m ((c : Thread nD τ).loc main_arg4)) (m ((c : Thread nD τ).loc main_arg3))
      ∧ r.2.mem ((c : Thread nD τ).loc main_v14) = tn (m ((c : Thread nD τ).loc main_arg2)) (m ((c : Thread nD τ).loc main_arg4))
      ∧ r.2.mem ((c : Thread nD τ).loc main_v17) = slots (tn (m ((c : Thread nD τ).loc main_arg0)) (m ((c : Thread nD τ).loc main_arg5)))
      ∧ r.2.mem ((c : Thread nD τ).loc main_v13) = nt (m ((c : Thread nD τ).loc main_arg5)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)) :=
  (θ_run defs _ _).mono (fun _ h c =>
    ⟨((h c).1.trans (Read.val_main_v6_eq _ _)).trans (RefValue.v6_eq _ _),
     ((h c).2.1.trans (Read.val_main_v7_eq _ _)).trans (RefValue.v7_eq _ _),
     ((h c).2.2.1.trans (Read.val_main_v10_eq _ _)).trans (RefValue.v10_eq _ _),
     ((h c).2.2.2.1.trans (Read.val_main_v14_eq _ _)).trans (RefValue.v14_eq _ _),
     ((h c).2.2.2.2.1.trans (Read.val_main_v17_eq _ _)).trans (RefValue.v17_eq _ _),
     ((h c).2.2.2.2.2.1.trans (Read.val_main_v13_eq _ _)).trans (RefValue.v13_eq _ _),
     (h c).2.2.2.2.2.2⟩)
    (Value.run (F := Ideal) m ρ)

end

section
open Cert.Kernel6Ideal

/-- From equal arguments the kernel and the reference end with equal results. -/
theorem algebraic : Cert.algebraic_Kernel6Ideal_Reference6Ideal := fun m ρ m' ρ' _ hag =>
  ⟨fun c => nn (m ((c : Thread nD τ).loc main_arg0)) (m ((c : Thread nD τ).loc main_arg1)),
   fun c => nn (m ((c : Thread nD τ).loc main_arg2)) (m ((c : Thread nD τ).loc main_arg3)),
   fun c => nt (m ((c : Thread nD τ).loc main_arg4)) (m ((c : Thread nD τ).loc main_arg3)),
   fun c => tn (m ((c : Thread nD τ).loc main_arg2)) (m ((c : Thread nD τ).loc main_arg4)),
   fun c => slots (tn (m ((c : Thread nD τ).loc main_arg0)) (m ((c : Thread nD τ).loc main_arg5))),
   fun c => nt (m ((c : Thread nD τ).loc main_arg5)) (m ((c : Thread nD τ).loc main_arg1)),
   RefValue.run m ρ,
   (θ_run _ _ _).mono (fun r h c => by
      obtain ⟨h0, h1, h2, h3, h4, h5⟩ := hag c
      have hc := h c
      rw [h0, h1, h2, h3, h4, h5] at hc
      obtain ⟨e0, e1, e2, e3, e4, e5, e6, e7, e8, e9, e10, e11⟩ := hc
      exact ⟨e0, e1, e2, e3, e4, e5, e6.trans h0.symm, e7.trans h1.symm, e8.trans h2.symm, e9.trans h3.symm, e10.trans h4.symm, e11.trans h5.symm⟩) (reference_run m' ρ')⟩

end

end Cert.GatingProof

end
-- ==== Proof.ConvolutionArrays.lean ====
/-
The products of the convolution layer and their gradients: where each call's blocks lie, and the array that each call leaves.
-/
module

public import proofs.«01_k».proof.Proof.Gen.Kernel7Ideal.Frame
public import proofs.«01_k».proof.Proof.Products
public import Idealize.ShloMosaic.Lib.Pipeline.Value
public import Idealize.ShloMosaic.Lib.Pointwise
public import Idealize.ShloMosaic.Lib.ValueIdxCore

@[expose] public section

set_option maxRecDepth 16384

noncomputable section

namespace Cert.Kernel7Ideal.RefValue

open Cert.Kernel7Ideal Cert.Kernel7Ideal.Gen
open Idealize.ShloMosaic Idealize.ShloMosaic.TcCoe Idealize.SL.Sem
open Idealize.ShloMosaic.Pipeline (Dat)
open Cert.Products (nn nt tn addRow slots)

variable (V : (c : Dev nD) → (b : Ref sig .tc) → Buf (Elt Ideal) ((c : Thread nD τ).loc b))

theorem hz : (![0, 0] : Fin 2 → Nat) = fun _ => 0 := funext fun a => by fin_cases a <;> rfl
theorem hz3 : (![0, 0, 0] : Fin 3 → Nat) = fun _ => 0 := funext fun a => by fin_cases a <;> rfl

/-! ## Call 0: where each window's block lies -/

/-- The block indices of call 0's windows at every point of its grid. -/
theorem idx0 : ∀ t : Fin grid0.N, win0_0.index t 0 = t.val / 4 ∧ win0_0.index t 1 = 0 ∧ win0_1.index t 0 = 0 ∧ win0_1.index t 1 = t.val % 4 ∧ win0_2.index t 0 = t.val / 4 ∧ win0_2.index t 1 = t.val % 4 := by decide +kernel

theorem lt0 (t : Fin cfg0.N) : t.val < 16 := lt_of_lt_of_eq t.isLt N_0

/-- Window 0 of call 0: its block at point `t` of an array, read at an index of the block. -/
theorem blk0_0 (t : Fin cfg0.N) (A : S4096x1024.Idx → EReal) (j : S1024x1024.Idx) :
    ((cfg0.win 0).blk t).view.read (Elt Ideal) A j = A (ix2 ⟨1024 * (t.val / 4) + (j 0).val, by have h := (j 0).isLt; have ht := lt0 t; change (j 0).val < 1024 at h; omega⟩ (j 1)) := by
  rw [View.read_apply]
  show A _ = A _
  congr 1
  funext a
  apply Fin.ext
  have hi := idx0 t
  match a with
  | ⟨0, _⟩ => show win0_0.index t 0 * 1024 + 1 * (j 0).val = 1024 * (t.val / 4) + (j 0).val; rw [hi.1]; omega
  | ⟨1, _⟩ => show win0_0.index t 1 * 1024 + 1 * (j 1).val = (j 1).val; rw [hi.2.1]; omega

/-- Window 1 of call 0: its block at point `t` of an array, read at an index of the block. -/
theorem blk0_1 (t : Fin cfg0.N) (A : S1024x2048.Idx → EReal) (j : S1024x512.Idx) :
    ((cfg0.win 1).blk t).view.read (Elt Ideal) A j = A (ix2 (j 0) ⟨512 * (t.val % 4) + (j 1).val, by have h := (j 1).isLt; have ht := lt0 t; change (j 1).val < 512 at h; omega⟩) := by
  rw [View.read_apply]
  show A _ = A _
  congr 1
  funext a
  apply Fin.ext
  have hi := idx0 t
  match a with
  | ⟨0, _⟩ => show win0_1.index t 0 * 1024 + 1 * (j 0).val = (j 0).val; rw [hi.2.2.1]; omega
  | ⟨1, _⟩ => show win0_1.index t 1 * 512 + 1 * (j 1).val = 512 * (t.val % 4) + (j 1).val; rw [hi.2.2.2.1]; omega

/-- Window 2 of call 0: its block at point `t` of an array, read at an index of the block. -/
theorem blk0_2 (t : Fin cfg0.N) (A : S4096x2048.Idx → EReal) (j : S1024x512.Idx) :
    ((cfg0.win 2).blk t).view.read (Elt Ideal) A j = A (ix2 ⟨1024 * (t.val / 4) + (j 0).val, by have h := (j 0).isLt; have ht := lt0 t; change (j 0).val < 1024 at h; omega⟩ ⟨512 * (t.val % 4) + (j 1).val, by have h := (j 1).isLt; have ht := lt0 t; change (j 1).val < 512 at h; omega⟩) := by
  rw [View.read_apply]
  show A _ = A _
  congr 1
  funext a
  apply Fin.ext
  have hi := idx0 t
  match a with
  | ⟨0, _⟩ => show win0_2.index t 0 * 1024 + 1 * (j 0).val = 1024 * (t.val / 4) + (j 0).val; rw [hi.2.2.2.2.1]; omega
  | ⟨1, _⟩ => show win0_2.index t 1 * 512 + 1 * (j 1).val = 512 * (t.val % 4) + (j 1).val; rw [hi.2.2.2.2.2]; omega

/-! ## Call 0: the array it leaves -/

theorem k0_pay1_apply (x0 : Vec Ideal S1024x1024 .bf16) (x1 : Vec Ideal S1024x512 .bf16) (j : S1024x512.Idx) :
    k0_pay1 x0 x1 j = ∑ q : Fin 1024, x0 (ix2 (j 0) q) * x1 (ix2 q (j 1)) := by
  unfold k0_pay1
  pointwise

theorem out0_2_apply (x0 : Vec Ideal S1024x1024 .bf16) (x1 : Vec Ideal S1024x512 .bf16) (j : S1024x512.Idx) :
    out0_2 x0 x1 j = ∑ q : Fin 1024, x0 (ix2 (j 0) q) * x1 (ix2 q (j 1)) := by
  unfold out0_2
  rw [View.canon_unit_zero hz]
  rw [View.ld_unit_zero (S := S1024x1024) hz, View.ld_unit_zero (S := S1024x512) hz]
  exact k0_pay1_apply x0 x1 j

theorem iblk0_0 (c : Dev nD) (t : Fin cfg0.N) (j : S1024x1024.Idx) :
    (iblk0 V c 0 t : S1024x1024.Idx → EReal) j = (V c (Pipeline.arrRef spec0 0) : S4096x1024.Idx → EReal) (ix2 ⟨1024 * (t.val / 4) + (j 0).val, by have h := (j 0).isLt; have ht := lt0 t; change (j 0).val < 1024 at h; omega⟩ (j 1)) := blk0_0 t (V c (Pipeline.arrRef spec0 0)) j

theorem iblk0_1 (c : Dev nD) (t : Fin cfg0.N) (j : S1024x512.Idx) :
    (iblk0 V c 1 t : S1024x512.Idx → EReal) j = (V c (Pipeline.arrRef spec0 1) : S1024x2048.Idx → EReal) (ix2 (j 0) ⟨512 * (t.val % 4) + (j 1).val, by have h := (j 1).isLt; have ht := lt0 t; change (j 1).val < 512 at h; omega⟩) := blk0_1 t (V c (Pipeline.arrRef spec0 1)) j

/-- Every index of the array lies in the block of some point. -/
theorem cover0_2' (i : S4096x2048.Idx) :
    ∃ t : Fin cfg0.N, (cfg0.win 2).flush t = true ∧ i ∈ ((cfg0.win 2).blk t).view.set := by
  have h0 : (i 0).val < 4096 := (i 0).isLt
  have h1 : (i 1).val < 2048 := (i 1).isLt
  have ht : 4 * ((i 0).val / 1024) + (i 1).val / 512 < cfg0.N := lt_of_lt_of_eq (by omega : _ < 16) N_0.symm
  refine ⟨⟨4 * ((i 0).val / 1024) + (i 1).val / 512, ht⟩, flush0_2 _, ?_⟩
  have hi := idx0 ⟨4 * ((i 0).val / 1024) + (i 1).val / 512, ht⟩
  show i ∈ ((View.whole (Pipeline.arrRef spec0 2)).slice (win0_2.rect ⟨4 * ((i 0).val / 1024) + (i 1).val / 512, ht⟩)).set
  rw [View.set_slice_whole, Rect.mem_set_unit]
  intro a
  match a with
  | ⟨0, _⟩ => show win0_2.index ⟨4 * ((i 0).val / 1024) + (i 1).val / 512, ht⟩ 0 * 1024 ≤ (i 0).val ∧ (i 0).val < win0_2.index ⟨4 * ((i 0).val / 1024) + (i 1).val / 512, ht⟩ 0 * 1024 + 1024; rw [hi.2.2.2.2.1]; dsimp only; omega
  | ⟨1, _⟩ => show win0_2.index ⟨4 * ((i 0).val / 1024) + (i 1).val / 512, ht⟩ 1 * 512 ≤ (i 1).val ∧ (i 1).val < win0_2.index ⟨4 * ((i 0).val / 1024) + (i 1).val / 512, ht⟩ 1 * 512 + 512; rw [hi.2.2.2.2.2]; dsimp only; omega

/-- What a point writes back is its block of the whole-array function. -/
theorem flushed0_2 (c : Dev nD) (t : Fin cfg0.N) :
    (dat0 V c).flushed 2 t = ((cfg0.win 2).blk t).view.read (Elt Ideal) (nn (V c main_arg0) (V c main_arg1)) := by
  show (cfg0.win 2).cut (grid0.coords t) ((dat0 V c).after 2 t) = _
  rw [after0_2]
  refine funext fun (j : S1024x512.Idx) => ?_
  refine Eq.trans ?_ (blk0_2 t (nn (V c main_arg0) (V c main_arg1)) j).symm
  refine (out0_2_apply (iblk0 V c 0 t) (iblk0 V c 1 t) j).trans ?_
  simp only [iblk0_0, iblk0_1]
  rfl

/-- The array this call leaves. -/
theorem final0_2 (c : Dev nD) : (dat0 V c).arrAt 2 cfg0.N = nn (V c main_arg0) (V c main_arg1) :=
  (dat0 V c).arrAt_eq_of_cover 2 (nn (V c main_arg0) (V c main_arg1)) (fun t _ => flushed0_2 V c t) cover0_2'

/-! ## Call 1: where each window's block lies -/

/-- The block indices of call 1's windows at every point of its grid. -/
theorem idx1 : ∀ t : Fin grid1.N, win1_0.index t 0 = t.val / 2 ∧ win1_0.index t 1 = 0 ∧ win1_1.index t 0 = 0 ∧ win1_1.index t 1 = t.val % 2 ∧ win1_2.index t 0 = 0 ∧ win1_2.index t 1 = t.val % 2 ∧ win1_3.index t 0 = t.val / 2 ∧ win1_3.index t 1 = t.val % 2 := by decide +kernel

theorem lt1 (t : Fin cfg1.N) : t.val < 16 := lt_of_lt_of_eq t.isLt N_1

/-- Window 0 of call 1: its block at point `t` of an array, read at an index of the block. -/
theorem blk1_0 (t : Fin cfg1.N) (A : S4096x1024.Idx → EReal) (j : S512x1024.Idx) :
    ((cfg1.win 0).blk t).view.read (Elt Ideal) A j = A (ix2 ⟨512 * (t.val / 2) + (j 0).val, by have h := (j 0).isLt; have ht := lt1 t; change (j 0).val < 512 at h; omega⟩ (j 1)) := by
  rw [View.read_apply]
  show A _ = A _
  congr 1
  funext a
  apply Fin.ext
  have hi := idx1 t
  match a with
  | ⟨0, _⟩ => show win1_0.index t 0 * 512 + 1 * (j 0).val = 512 * (t.val / 2) + (j 0).val; rw [hi.1]; omega
  | ⟨1, _⟩ => show win1_0.index t 1 * 1024 + 1 * (j 1).val = (j 1).val; rw [hi.2.1]; omega

/-- Window 1 of call 1: its block at point `t` of an array, read at an index of the block. -/
theorem blk1_1 (t : Fin cfg1.N) (A : S1024x1024.Idx → EReal) (j : S1024x512.Idx) :
    ((cfg1.win 1).blk t).view.read (Elt Ideal) A j = A (ix2 (j 0) ⟨512 * (t.val % 2) + (j 1).val, by have h := (j 1).isLt; have ht := lt1 t; change (j 1).val < 512 at h; omega⟩) := by
  rw [View.read_apply]
  show A _ = A _
  congr 1
  funext a
  apply Fin.ext
  have hi := idx1 t
  match a with
  | ⟨0, _⟩ => show win1_1.index t 0 * 1024 + 1 * (j 0).val = (j 0).val; rw [hi.2.2.1]; omega
  | ⟨1, _⟩ => show win1_1.index t 1 * 512 + 1 * (j 1).val = 512 * (t.val % 2) + (j 1).val; rw [hi.2.2.2.1]; omega

/-- Window 2 of call 1: its block at point `t` of an array, read at an index of the block. -/
theorem blk1_2 (t : Fin cfg1.N) (A : S1x1024.Idx → EReal) (j : S1x512.Idx) :
    ((cfg1.win 2).blk t).view.read (Elt Ideal) A j = A (ix2 (j 0) ⟨512 * (t.val % 2) + (j 1).val, by have h := (j 1).isLt; have ht := lt1 t; change (j 1).val < 512 at h; omega⟩) := by
  rw [View.read_apply]
  show A _ = A _
  congr 1
  funext a
  apply Fin.ext
  have hi := idx1 t
  match a with
  | ⟨0, _⟩ => show win1_2.index t 0 * 1 + 1 * (j 0).val = (j 0).val; rw [hi.2.2.2.2.1]; omega
  | ⟨1, _⟩ => show win1_2.index t 1 * 512 + 1 * (j 1).val = 512 * (t.val % 2) + (j 1).val; rw [hi.2.2.2.2.2.1]; omega

/-- Window 3 of call 1: its block at point `t` of an array, read at an index of the block. -/
theorem blk1_3 (t : Fin cfg1.N) (A : S4096x1024.Idx → EReal) (j : S512x512.Idx) :
    ((cfg1.win 3).blk t).view.read (Elt Ideal) A j = A (ix2 ⟨512 * (t.val / 2) + (j 0).val, by have h := (j 0).isLt; have ht := lt1 t; change (j 0).val < 512 at h; omega⟩ ⟨512 * (t.val % 2) + (j 1).val, by have h := (j 1).isLt; have ht := lt1 t; change (j 1).val < 512 at h; omega⟩) := by
  rw [View.read_apply]
  show A _ = A _
  congr 1
  funext a
  apply Fin.ext
  have hi := idx1 t
  match a with
  | ⟨0, _⟩ => show win1_3.index t 0 * 512 + 1 * (j 0).val = 512 * (t.val / 2) + (j 0).val; rw [hi.2.2.2.2.2.2.1]; omega
  | ⟨1, _⟩ => show win1_3.index t 1 * 512 + 1 * (j 1).val = 512 * (t.val % 2) + (j 1).val; rw [hi.2.2.2.2.2.2.2]; omega

/-! ## Call 1: the array it leaves -/

theorem k1_pay1_apply (x0 : Vec Ideal S512x1024 .bf16) (x1 : Vec Ideal S1024x512 .bf16) (x2 : Vec Ideal S1x512 .f32) (j : S512x512.Idx) :
    k1_pay1 x0 x1 x2 j = (∑ q : Fin 1024, x0 (ix2 (j 0) q) * x1 (ix2 q (j 1))) + x2 (ix2 (n0 := 1) 0 (j 1)) := by
  unfold k1_pay1
  pointwise

theorem out1_3_apply (x0 : Vec Ideal S512x1024 .bf16) (x1 : Vec Ideal S1024x512 .bf16) (x2 : Vec Ideal S1x512 .f32) (j : S512x512.Idx) :
    out1_3 x0 x1 x2 j = (∑ q : Fin 1024, x0 (ix2 (j 0) q) * x1 (ix2 q (j 1))) + x2 (ix2 (n0 := 1) 0 (j 1)) := by
  unfold out1_3
  rw [View.canon_unit_zero hz]
  rw [View.ld_unit_zero (S := S512x1024) hz, View.ld_unit_zero (S := S1024x512) hz, View.ld_unit_zero (S := S1x512) hz]
  exact k1_pay1_apply x0 x1 x2 j

theorem iblk1_0 (c : Dev nD) (t : Fin cfg1.N) (j : S512x1024.Idx) :
    (iblk1 V c 0 t : S512x1024.Idx → EReal) j = (V c (Pipeline.arrRef spec1 0) : S4096x1024.Idx → EReal) (ix2 ⟨512 * (t.val / 2) + (j 0).val, by have h := (j 0).isLt; have ht := lt1 t; change (j 0).val < 512 at h; omega⟩ (j 1)) := blk1_0 t (V c (Pipeline.arrRef spec1 0)) j

theorem iblk1_1 (c : Dev nD) (t : Fin cfg1.N) (j : S1024x512.Idx) :
    (iblk1 V c 1 t : S1024x512.Idx → EReal) j = (V c (Pipeline.arrRef spec1 1) : S1024x1024.Idx → EReal) (ix2 (j 0) ⟨512 * (t.val % 2) + (j 1).val, by have h := (j 1).isLt; have ht := lt1 t; change (j 1).val < 512 at h; omega⟩) := blk1_1 t (V c (Pipeline.arrRef spec1 1)) j

theorem iblk1_2 (c : Dev nD) (t : Fin cfg1.N) (j : S1x512.Idx) :
    (iblk1 V c 2 t : S1x512.Idx → EReal) j = (V c (Pipeline.arrRef spec1 2) : S1x1024.Idx → EReal) (ix2 (j 0) ⟨512 * (t.val % 2) + (j 1).val, by have h := (j 1).isLt; have ht := lt1 t; change (j 1).val < 512 at h; omega⟩) := blk1_2 t (V c (Pipeline.arrRef spec1 2)) j

/-- Every index of the array lies in the block of some point. -/
theorem cover1_3' (i : S4096x1024.Idx) :
    ∃ t : Fin cfg1.N, (cfg1.win 3).flush t = true ∧ i ∈ ((cfg1.win 3).blk t).view.set := by
  have h0 : (i 0).val < 4096 := (i 0).isLt
  have h1 : (i 1).val < 1024 := (i 1).isLt
  have ht : 2 * ((i 0).val / 512) + (i 1).val / 512 < cfg1.N := lt_of_lt_of_eq (by omega : _ < 16) N_1.symm
  refine ⟨⟨2 * ((i 0).val / 512) + (i 1).val / 512, ht⟩, flush1_3 _, ?_⟩
  have hi := idx1 ⟨2 * ((i 0).val / 512) + (i 1).val / 512, ht⟩
  show i ∈ ((View.whole (Pipeline.arrRef spec1 3)).slice (win1_3.rect ⟨2 * ((i 0).val / 512) + (i 1).val / 512, ht⟩)).set
  rw [View.set_slice_whole, Rect.mem_set_unit]
  intro a
  match a with
  | ⟨0, _⟩ => show win1_3.index ⟨2 * ((i 0).val / 512) + (i 1).val / 512, ht⟩ 0 * 512 ≤ (i 0).val ∧ (i 0).val < win1_3.index ⟨2 * ((i 0).val / 512) + (i 1).val / 512, ht⟩ 0 * 512 + 512; rw [hi.2.2.2.2.2.2.1]; dsimp only; omega
  | ⟨1, _⟩ => show win1_3.index ⟨2 * ((i 0).val / 512) + (i 1).val / 512, ht⟩ 1 * 512 ≤ (i 1).val ∧ (i 1).val < win1_3.index ⟨2 * ((i 0).val / 512) + (i 1).val / 512, ht⟩ 1 * 512 + 512; rw [hi.2.2.2.2.2.2.2]; dsimp only; omega

/-- What a point writes back is its block of the whole-array function. -/
theorem flushed1_3 (c : Dev nD) (t : Fin cfg1.N) :
    (dat1 V c).flushed 3 t = ((cfg1.win 3).blk t).view.read (Elt Ideal) (addRow (nn (V c main_arg2) (V c main_arg3)) (V c main_arg4)) := by
  show (cfg1.win 3).cut (grid1.coords t) ((dat1 V c).after 3 t) = _
  rw [after1_3]
  refine funext fun (j : S512x512.Idx) => ?_
  refine Eq.trans ?_ (blk1_3 t (addRow (nn (V c main_arg2) (V c main_arg3)) (V c main_arg4)) j).symm
  refine (out1_3_apply (iblk1 V c 0 t) (iblk1 V c 1 t) (iblk1 V c 2 t) j).trans ?_
  simp only [iblk1_0, iblk1_1, iblk1_2]
  rfl

/-- The array this call leaves. -/
theorem final1_3 (c : Dev nD) : (dat1 V c).arrAt 3 cfg1.N = addRow (nn (V c main_arg2) (V c main_arg3)) (V c main_arg4) :=
  (dat1 V c).arrAt_eq_of_cover 3 (addRow (nn (V c main_arg2) (V c main_arg3)) (V c main_arg4)) (fun t _ => flushed1_3 V c t) cover1_3'

/-! ## Call 2: where each window's block lies -/

/-- The block indices of call 2's windows at every point of its grid. -/
theorem idx2 : ∀ t : Fin grid2.N, win2_0.index t 0 = t.val / 2 ∧ win2_0.index t 1 = 0 ∧ win2_1.index t 0 = t.val % 2 ∧ win2_1.index t 1 = 0 ∧ win2_2.index t 0 = t.val / 2 ∧ win2_2.index t 1 = t.val % 2 := by decide +kernel

theorem lt2 (t : Fin cfg2.N) : t.val < 16 := lt_of_lt_of_eq t.isLt N_2

/-- Window 0 of call 2: its block at point `t` of an array, read at an index of the block. -/
theorem blk2_0 (t : Fin cfg2.N) (A : S4096x1024.Idx → EReal) (j : S512x1024.Idx) :
    ((cfg2.win 0).blk t).view.read (Elt Ideal) A j = A (ix2 ⟨512 * (t.val / 2) + (j 0).val, by have h := (j 0).isLt; have ht := lt2 t; change (j 0).val < 512 at h; omega⟩ (j 1)) := by
  rw [View.read_apply]
  show A _ = A _
  congr 1
  funext a
  apply Fin.ext
  have hi := idx2 t
  match a with
  | ⟨0, _⟩ => show win2_0.index t 0 * 512 + 1 * (j 0).val = 512 * (t.val / 2) + (j 0).val; rw [hi.1]; omega
  | ⟨1, _⟩ => show win2_0.index t 1 * 1024 + 1 * (j 1).val = (j 1).val; rw [hi.2.1]; omega

/-- Window 1 of call 2: its block at point `t` of an array, read at an index of the block. -/
theorem blk2_1 (t : Fin cfg2.N) (A : S1024x1024.Idx → EReal) (j : S512x1024.Idx) :
    ((cfg2.win 1).blk t).view.read (Elt Ideal) A j = A (ix2 ⟨512 * (t.val % 2) + (j 0).val, by have h := (j 0).isLt; have ht := lt2 t; change (j 0).val < 512 at h; omega⟩ (j 1)) := by
  rw [View.read_apply]
  show A _ = A _
  congr 1
  funext a
  apply Fin.ext
  have hi := idx2 t
  match a with
  | ⟨0, _⟩ => show win2_1.index t 0 * 512 + 1 * (j 0).val = 512 * (t.val % 2) + (j 0).val; rw [hi.2.2.1]; omega
  | ⟨1, _⟩ => show win2_1.index t 1 * 1024 + 1 * (j 1).val = (j 1).val; rw [hi.2.2.2.1]; omega

/-- Window 2 of call 2: its block at point `t` of an array, read at an index of the block. -/
theorem blk2_2 (t : Fin cfg2.N) (A : S4096x1024.Idx → EReal) (j : S512x512.Idx) :
    ((cfg2.win 2).blk t).view.read (Elt Ideal) A j = A (ix2 ⟨512 * (t.val / 2) + (j 0).val, by have h := (j 0).isLt; have ht := lt2 t; change (j 0).val < 512 at h; omega⟩ ⟨512 * (t.val % 2) + (j 1).val, by have h := (j 1).isLt; have ht := lt2 t; change (j 1).val < 512 at h; omega⟩) := by
  rw [View.read_apply]
  show A _ = A _
  congr 1
  funext a
  apply Fin.ext
  have hi := idx2 t
  match a with
  | ⟨0, _⟩ => show win2_2.index t 0 * 512 + 1 * (j 0).val = 512 * (t.val / 2) + (j 0).val; rw [hi.2.2.2.2.1]; omega
  | ⟨1, _⟩ => show win2_2.index t 1 * 512 + 1 * (j 1).val = 512 * (t.val % 2) + (j 1).val; rw [hi.2.2.2.2.2]; omega

/-! ## Call 2: the array it leaves -/

theorem k2_pay1_apply (x0 : Vec Ideal S512x1024 .bf16) (x1 : Vec Ideal S512x1024 .bf16) (j : S512x512.Idx) :
    k2_pay1 x0 x1 j = ∑ q : Fin 1024, x0 (ix2 (j 0) q) * x1 (ix2 (j 1) q) := by
  unfold k2_pay1
  pointwise

theorem out2_2_apply (x0 : Vec Ideal S512x1024 .bf16) (x1 : Vec Ideal S512x1024 .bf16) (j : S512x512.Idx) :
    out2_2 x0 x1 j = ∑ q : Fin 1024, x0 (ix2 (j 0) q) * x1 (ix2 (j 1) q) := by
  unfold out2_2
  rw [View.canon_unit_zero hz]
  rw [View.ld_unit_zero (S := S512x1024) hz, View.ld_unit_zero (S := S512x1024) hz]
  exact k2_pay1_apply x0 x1 j

theorem iblk2_0 (c : Dev nD) (t : Fin cfg2.N) (j : S512x1024.Idx) :
    (iblk2 V c 0 t : S512x1024.Idx → EReal) j = (V c (Pipeline.arrRef spec2 0) : S4096x1024.Idx → EReal) (ix2 ⟨512 * (t.val / 2) + (j 0).val, by have h := (j 0).isLt; have ht := lt2 t; change (j 0).val < 512 at h; omega⟩ (j 1)) := blk2_0 t (V c (Pipeline.arrRef spec2 0)) j

theorem iblk2_1 (c : Dev nD) (t : Fin cfg2.N) (j : S512x1024.Idx) :
    (iblk2 V c 1 t : S512x1024.Idx → EReal) j = (V c (Pipeline.arrRef spec2 1) : S1024x1024.Idx → EReal) (ix2 ⟨512 * (t.val % 2) + (j 0).val, by have h := (j 0).isLt; have ht := lt2 t; change (j 0).val < 512 at h; omega⟩ (j 1)) := blk2_1 t (V c (Pipeline.arrRef spec2 1)) j

/-- Every index of the array lies in the block of some point. -/
theorem cover2_2' (i : S4096x1024.Idx) :
    ∃ t : Fin cfg2.N, (cfg2.win 2).flush t = true ∧ i ∈ ((cfg2.win 2).blk t).view.set := by
  have h0 : (i 0).val < 4096 := (i 0).isLt
  have h1 : (i 1).val < 1024 := (i 1).isLt
  have ht : 2 * ((i 0).val / 512) + (i 1).val / 512 < cfg2.N := lt_of_lt_of_eq (by omega : _ < 16) N_2.symm
  refine ⟨⟨2 * ((i 0).val / 512) + (i 1).val / 512, ht⟩, flush2_2 _, ?_⟩
  have hi := idx2 ⟨2 * ((i 0).val / 512) + (i 1).val / 512, ht⟩
  show i ∈ ((View.whole (Pipeline.arrRef spec2 2)).slice (win2_2.rect ⟨2 * ((i 0).val / 512) + (i 1).val / 512, ht⟩)).set
  rw [View.set_slice_whole, Rect.mem_set_unit]
  intro a
  match a with
  | ⟨0, _⟩ => show win2_2.index ⟨2 * ((i 0).val / 512) + (i 1).val / 512, ht⟩ 0 * 512 ≤ (i 0).val ∧ (i 0).val < win2_2.index ⟨2 * ((i 0).val / 512) + (i 1).val / 512, ht⟩ 0 * 512 + 512; rw [hi.2.2.2.2.1]; dsimp only; omega
  | ⟨1, _⟩ => show win2_2.index ⟨2 * ((i 0).val / 512) + (i 1).val / 512, ht⟩ 1 * 512 ≤ (i 1).val ∧ (i 1).val < win2_2.index ⟨2 * ((i 0).val / 512) + (i 1).val / 512, ht⟩ 1 * 512 + 512; rw [hi.2.2.2.2.2]; dsimp only; omega

/-- What a point writes back is its block of the whole-array function. -/
theorem flushed2_2 (c : Dev nD) (t : Fin cfg2.N) :
    (dat2 V c).flushed 2 t = ((cfg2.win 2).blk t).view.read (Elt Ideal) (nt (V c main_arg5) (V c main_arg3)) := by
  show (cfg2.win 2).cut (grid2.coords t) ((dat2 V c).after 2 t) = _
  rw [after2_2]
  refine funext fun (j : S512x512.Idx) => ?_
  refine Eq.trans ?_ (blk2_2 t (nt (V c main_arg5) (V c main_arg3)) j).symm
  refine (out2_2_apply (iblk2 V c 0 t) (iblk2 V c 1 t) j).trans ?_
  simp only [iblk2_0, iblk2_1]
  rfl

/-- The array this call leaves. -/
theorem final2_2 (c : Dev nD) : (dat2 V c).arrAt 2 cfg2.N = nt (V c main_arg5) (V c main_arg3) :=
  (dat2 V c).arrAt_eq_of_cover 2 (nt (V c main_arg5) (V c main_arg3)) (fun t _ => flushed2_2 V c t) cover2_2'

/-! ## Call 3: where each window's block lies -/

/-- The block indices of call 3's windows at every point of its grid. -/
theorem idx3 : ∀ t : Fin grid3.N, win3_0.index t 0 = 0 ∧ win3_0.index t 1 = t.val / 2 ∧ win3_1.index t 0 = 0 ∧ win3_1.index t 1 = t.val % 2 ∧ win3_2.index t 0 = t.val / 2 ∧ win3_2.index t 1 = t.val % 2 := by decide +kernel

theorem lt3 (t : Fin cfg3.N) : t.val < 4 := lt_of_lt_of_eq t.isLt N_3

/-- Window 0 of call 3: its block at point `t` of an array, read at an index of the block. -/
theorem blk3_0 (t : Fin cfg3.N) (A : S4096x1024.Idx → EReal) (j : S4096x512.Idx) :
    ((cfg3.win 0).blk t).view.read (Elt Ideal) A j = A (ix2 (j 0) ⟨512 * (t.val / 2) + (j 1).val, by have h := (j 1).isLt; have ht := lt3 t; change (j 1).val < 512 at h; omega⟩) := by
  rw [View.read_apply]
  show A _ = A _
  congr 1
  funext a
  apply Fin.ext
  have hi := idx3 t
  match a with
  | ⟨0, _⟩ => show win3_0.index t 0 * 4096 + 1 * (j 0).val = (j 0).val; rw [hi.1]; omega
  | ⟨1, _⟩ => show win3_0.index t 1 * 512 + 1 * (j 1).val = 512 * (t.val / 2) + (j 1).val; rw [hi.2.1]; omega

/-- Window 1 of call 3: its block at point `t` of an array, read at an index of the block. -/
theorem blk3_1 (t : Fin cfg3.N) (A : S4096x1024.Idx → EReal) (j : S4096x512.Idx) :
    ((cfg3.win 1).blk t).view.read (Elt Ideal) A j = A (ix2 (j 0) ⟨512 * (t.val % 2) + (j 1).val, by have h := (j 1).isLt; have ht := lt3 t; change (j 1).val < 512 at h; omega⟩) := by
  rw [View.read_apply]
  show A _ = A _
  congr 1
  funext a
  apply Fin.ext
  have hi := idx3 t
  match a with
  | ⟨0, _⟩ => show win3_1.index t 0 * 4096 + 1 * (j 0).val = (j 0).val; rw [hi.2.2.1]; omega
  | ⟨1, _⟩ => show win3_1.index t 1 * 512 + 1 * (j 1).val = 512 * (t.val % 2) + (j 1).val; rw [hi.2.2.2.1]; omega

/-- Window 2 of call 3: its block at point `t` of an array, read at an index of the block. -/
theorem blk3_2 (t : Fin cfg3.N) (A : S1024x1024.Idx → EReal) (j : S512x512.Idx) :
    ((cfg3.win 2).blk t).view.read (Elt Ideal) A j = A (ix2 ⟨512 * (t.val / 2) + (j 0).val, by have h := (j 0).isLt; have ht := lt3 t; change (j 0).val < 512 at h; omega⟩ ⟨512 * (t.val % 2) + (j 1).val, by have h := (j 1).isLt; have ht := lt3 t; change (j 1).val < 512 at h; omega⟩) := by
  rw [View.read_apply]
  show A _ = A _
  congr 1
  funext a
  apply Fin.ext
  have hi := idx3 t
  match a with
  | ⟨0, _⟩ => show win3_2.index t 0 * 512 + 1 * (j 0).val = 512 * (t.val / 2) + (j 0).val; rw [hi.2.2.2.2.1]; omega
  | ⟨1, _⟩ => show win3_2.index t 1 * 512 + 1 * (j 1).val = 512 * (t.val % 2) + (j 1).val; rw [hi.2.2.2.2.2]; omega

/-! ## Call 3: the array it leaves -/

theorem k3_pay1_apply (x0 : Vec Ideal S4096x512 .bf16) (x1 : Vec Ideal S4096x512 .bf16) (j : S512x512.Idx) :
    k3_pay1 x0 x1 j = ∑ q : Fin 4096, x0 (ix2 q (j 0)) * x1 (ix2 q (j 1)) := by
  unfold k3_pay1
  pointwise

theorem out3_2_apply (x0 : Vec Ideal S4096x512 .bf16) (x1 : Vec Ideal S4096x512 .bf16) (j : S512x512.Idx) :
    out3_2 x0 x1 j = ∑ q : Fin 4096, x0 (ix2 q (j 0)) * x1 (ix2 q (j 1)) := by
  unfold out3_2
  rw [View.canon_unit_zero hz]
  rw [View.ld_unit_zero (S := S4096x512) hz, View.ld_unit_zero (S := S4096x512) hz]
  exact k3_pay1_apply x0 x1 j

theorem iblk3_0 (c : Dev nD) (t : Fin cfg3.N) (j : S4096x512.Idx) :
    (iblk3 V c 0 t : S4096x512.Idx → EReal) j = (V c (Pipeline.arrRef spec3 0) : S4096x1024.Idx → EReal) (ix2 (j 0) ⟨512 * (t.val / 2) + (j 1).val, by have h := (j 1).isLt; have ht := lt3 t; change (j 1).val < 512 at h; omega⟩) := blk3_0 t (V c (Pipeline.arrRef spec3 0)) j

theorem iblk3_1 (c : Dev nD) (t : Fin cfg3.N) (j : S4096x512.Idx) :
    (iblk3 V c 1 t : S4096x512.Idx → EReal) j = (V c (Pipeline.arrRef spec3 1) : S4096x1024.Idx → EReal) (ix2 (j 0) ⟨512 * (t.val % 2) + (j 1).val, by have h := (j 1).isLt; have ht := lt3 t; change (j 1).val < 512 at h; omega⟩) := blk3_1 t (V c (Pipeline.arrRef spec3 1)) j

/-- Every index of the array lies in the block of some point. -/
theorem cover3_2' (i : S1024x1024.Idx) :
    ∃ t : Fin cfg3.N, (cfg3.win 2).flush t = true ∧ i ∈ ((cfg3.win 2).blk t).view.set := by
  have h0 : (i 0).val < 1024 := (i 0).isLt
  have h1 : (i 1).val < 1024 := (i 1).isLt
  have ht : 2 * ((i 0).val / 512) + (i 1).val / 512 < cfg3.N := lt_of_lt_of_eq (by omega : _ < 4) N_3.symm
  refine ⟨⟨2 * ((i 0).val / 512) + (i 1).val / 512, ht⟩, flush3_2 _, ?_⟩
  have hi := idx3 ⟨2 * ((i 0).val / 512) + (i 1).val / 512, ht⟩
  show i ∈ ((View.whole (Pipeline.arrRef spec3 2)).slice (win3_2.rect ⟨2 * ((i 0).val / 512) + (i 1).val / 512, ht⟩)).set
  rw [View.set_slice_whole, Rect.mem_set_unit]
  intro a
  match a with
  | ⟨0, _⟩ => show win3_2.index ⟨2 * ((i 0).val / 512) + (i 1).val / 512, ht⟩ 0 * 512 ≤ (i 0).val ∧ (i 0).val < win3_2.index ⟨2 * ((i 0).val / 512) + (i 1).val / 512, ht⟩ 0 * 512 + 512; rw [hi.2.2.2.2.1]; dsimp only; omega
  | ⟨1, _⟩ => show win3_2.index ⟨2 * ((i 0).val / 512) + (i 1).val / 512, ht⟩ 1 * 512 ≤ (i 1).val ∧ (i 1).val < win3_2.index ⟨2 * ((i 0).val / 512) + (i 1).val / 512, ht⟩ 1 * 512 + 512; rw [hi.2.2.2.2.2]; dsimp only; omega

/-- What a point writes back is its block of the whole-array function. -/
theorem flushed3_2 (c : Dev nD) (t : Fin cfg3.N) :
    (dat3 V c).flushed 2 t = ((cfg3.win 2).blk t).view.read (Elt Ideal) (tn (V c main_arg2) (V c main_arg5)) := by
  show (cfg3.win 2).cut (grid3.coords t) ((dat3 V c).after 2 t) = _
  rw [after3_2]
  refine funext fun (j : S512x512.Idx) => ?_
  refine Eq.trans ?_ (blk3_2 t (tn (V c main_arg2) (V c main_arg5)) j).symm
  refine (out3_2_apply (iblk3 V c 0 t) (iblk3 V c 1 t) j).trans ?_
  simp only [iblk3_0, iblk3_1]
  rfl

/-- The array this call leaves. -/
theorem final3_2 (c : Dev nD) : (dat3 V c).arrAt 2 cfg3.N = tn (V c main_arg2) (V c main_arg5) :=
  (dat3 V c).arrAt_eq_of_cover 2 (tn (V c main_arg2) (V c main_arg5)) (fun t _ => flushed3_2 V c t) cover3_2'

/-! ## Call 4: where each window's block lies -/

/-- The block indices of call 4's windows at every point of its grid. -/
theorem idx4 : ∀ t : Fin grid4.N, win4_0.index t 0 = 0 ∧ win4_0.index t 1 = t.val / 8 ∧ win4_1.index t 0 = 0 ∧ win4_1.index t 1 = t.val % 8 ∧ win4_2.index t 0 = t.val % 8 ∧ win4_2.index t 1 = t.val / 8 ∧ win4_2.index t 2 = 0 := by decide +kernel

theorem lt4 (t : Fin cfg4.N) : t.val < 16 := lt_of_lt_of_eq t.isLt N_4

/-- Window 0 of call 4: its block at point `t` of an array, read at an index of the block. -/
theorem blk4_0 (t : Fin cfg4.N) (A : S4096x1024.Idx → EReal) (j : S4096x512.Idx) :
    ((cfg4.win 0).blk t).view.read (Elt Ideal) A j = A (ix2 (j 0) ⟨512 * (t.val / 8) + (j 1).val, by have h := (j 1).isLt; have ht := lt4 t; change (j 1).val < 512 at h; omega⟩) := by
  rw [View.read_apply]
  show A _ = A _
  congr 1
  funext a
  apply Fin.ext
  have hi := idx4 t
  match a with
  | ⟨0, _⟩ => show win4_0.index t 0 * 4096 + 1 * (j 0).val = (j 0).val; rw [hi.1]; omega
  | ⟨1, _⟩ => show win4_0.index t 1 * 512 + 1 * (j 1).val = 512 * (t.val / 8) + (j 1).val; rw [hi.2.1]; omega

/-- Window 1 of call 4: its block at point `t` of an array, read at an index of the block. -/
theorem blk4_1 (t : Fin cfg4.N) (A : S4096x2048.Idx → EReal) (j : S4096x256.Idx) :
    ((cfg4.win 1).blk t).view.read (Elt Ideal) A j = A (ix2 (j 0) ⟨256 * (t.val % 8) + (j 1).val, by have h := (j 1).isLt; have ht := lt4 t; change (j 1).val < 256 at h; omega⟩) := by
  rw [View.read_apply]
  show A _ = A _
  congr 1
  funext a
  apply Fin.ext
  have hi := idx4 t
  match a with
  | ⟨0, _⟩ => show win4_1.index t 0 * 4096 + 1 * (j 0).val = (j 0).val; rw [hi.2.2.1]; omega
  | ⟨1, _⟩ => show win4_1.index t 1 * 256 + 1 * (j 1).val = 256 * (t.val % 8) + (j 1).val; rw [hi.2.2.2.1]; omega

/-- Window 2 of call 4: its block at point `t` of an array, read at an index of the block. -/
theorem blk4_2 (t : Fin cfg4.N) (A : S8x1024x256.Idx → EReal) (j : S1x512x256.Idx) :
    ((cfg4.win 2).blk t).view.read (Elt Ideal) A j = A (ix3 ⟨1 * (t.val % 8) + (j 0).val, by have h := (j 0).isLt; have ht := lt4 t; change (j 0).val < 1 at h; omega⟩ ⟨512 * (t.val / 8) + (j 1).val, by have h := (j 1).isLt; have ht := lt4 t; change (j 1).val < 512 at h; omega⟩ (j 2)) := by
  rw [View.read_apply]
  show A _ = A _
  congr 1
  funext a
  apply Fin.ext
  have hi := idx4 t
  match a with
  | ⟨0, _⟩ => show win4_2.index t 0 * 1 + 1 * (j 0).val = 1 * (t.val % 8) + (j 0).val; rw [hi.2.2.2.2.1]; omega
  | ⟨1, _⟩ => show win4_2.index t 1 * 512 + 1 * (j 1).val = 512 * (t.val / 8) + (j 1).val; rw [hi.2.2.2.2.2.1]; omega
  | ⟨2, _⟩ => show win4_2.index t 2 * 256 + 1 * (j 2).val = (j 2).val; rw [hi.2.2.2.2.2.2]; omega

/-! ## Call 4: the array it leaves -/

theorem k4_pay1_apply (x0 : Vec Ideal S4096x512 .bf16) (x1 : Vec Ideal S4096x256 .bf16) (j : S1x512x256.Idx) :
    k4_pay1 x0 x1 j = ∑ q : Fin 4096, x0 (ix2 q (j 1)) * x1 (ix2 q (j 2)) := by
  unfold k4_pay1
  pointwise

theorem out4_2_apply (x0 : Vec Ideal S4096x512 .bf16) (x1 : Vec Ideal S4096x256 .bf16) (j : S1x512x256.Idx) :
    out4_2 x0 x1 j = ∑ q : Fin 4096, x0 (ix2 q (j 1)) * x1 (ix2 q (j 2)) := by
  unfold out4_2
  rw [View.canon_unit_zero hz3]
  rw [View.ld_unit_zero (S := S4096x512) hz, View.ld_unit_zero (S := S4096x256) hz]
  exact k4_pay1_apply x0 x1 j

theorem iblk4_0 (c : Dev nD) (t : Fin cfg4.N) (j : S4096x512.Idx) :
    (iblk4 V c 0 t : S4096x512.Idx → EReal) j = (V c (Pipeline.arrRef spec4 0) : S4096x1024.Idx → EReal) (ix2 (j 0) ⟨512 * (t.val / 8) + (j 1).val, by have h := (j 1).isLt; have ht := lt4 t; change (j 1).val < 512 at h; omega⟩) := blk4_0 t (V c (Pipeline.arrRef spec4 0)) j

theorem iblk4_1 (c : Dev nD) (t : Fin cfg4.N) (j : S4096x256.Idx) :
    (iblk4 V c 1 t : S4096x256.Idx → EReal) j = (V c (Pipeline.arrRef spec4 1) : S4096x2048.Idx → EReal) (ix2 (j 0) ⟨256 * (t.val % 8) + (j 1).val, by have h := (j 1).isLt; have ht := lt4 t; change (j 1).val < 256 at h; omega⟩) := blk4_1 t (V c (Pipeline.arrRef spec4 1)) j

/-- Every index of the array lies in the block of some point. -/
theorem cover4_2' (i : S8x1024x256.Idx) :
    ∃ t : Fin cfg4.N, (cfg4.win 2).flush t = true ∧ i ∈ ((cfg4.win 2).blk t).view.set := by
  have h0 : (i 0).val < 8 := (i 0).isLt
  have h1 : (i 1).val < 1024 := (i 1).isLt
  have h2 : (i 2).val < 256 := (i 2).isLt
  have ht : 8 * ((i 1).val / 512) + (i 0).val < cfg4.N := lt_of_lt_of_eq (by omega : _ < 16) N_4.symm
  refine ⟨⟨8 * ((i 1).val / 512) + (i 0).val, ht⟩, flush4_2 _, ?_⟩
  have hi := idx4 ⟨8 * ((i 1).val / 512) + (i 0).val, ht⟩
  show i ∈ ((View.whole (Pipeline.arrRef spec4 2)).slice (win4_2.rect ⟨8 * ((i 1).val / 512) + (i 0).val, ht⟩)).set
  rw [View.set_slice_whole, Rect.mem_set_unit]
  intro a
  match a with
  | ⟨0, _⟩ => show win4_2.index ⟨8 * ((i 1).val / 512) + (i 0).val, ht⟩ 0 * 1 ≤ (i 0).val ∧ (i 0).val < win4_2.index ⟨8 * ((i 1).val / 512) + (i 0).val, ht⟩ 0 * 1 + 1; rw [hi.2.2.2.2.1]; dsimp only; omega
  | ⟨1, _⟩ => show win4_2.index ⟨8 * ((i 1).val / 512) + (i 0).val, ht⟩ 1 * 512 ≤ (i 1).val ∧ (i 1).val < win4_2.index ⟨8 * ((i 1).val / 512) + (i 0).val, ht⟩ 1 * 512 + 512; rw [hi.2.2.2.2.2.1]; dsimp only; omega
  | ⟨2, _⟩ => show win4_2.index ⟨8 * ((i 1).val / 512) + (i 0).val, ht⟩ 2 * 256 ≤ (i 2).val ∧ (i 2).val < win4_2.index ⟨8 * ((i 1).val / 512) + (i 0).val, ht⟩ 2 * 256 + 256; rw [hi.2.2.2.2.2.2]; omega

/-- What a point writes back is its block of the whole-array function. -/
theorem flushed4_2 (c : Dev nD) (t : Fin cfg4.N) :
    (dat4 V c).flushed 2 t = ((cfg4.win 2).blk t).view.read (Elt Ideal) (slots (tn (V c main_arg0) (V c main_arg6))) := by
  show (cfg4.win 2).cut (grid4.coords t) ((dat4 V c).after 2 t) = _
  rw [after4_2]
  refine funext fun (j : S1x512x256.Idx) => ?_
  refine Eq.trans ?_ (blk4_2 t (slots (tn (V c main_arg0) (V c main_arg6))) j).symm
  refine (out4_2_apply (iblk4 V c 0 t) (iblk4 V c 1 t) j).trans ?_
  simp only [iblk4_0, iblk4_1]
  refine Finset.sum_congr rfl fun q _ => congrArg₂ (fun (u v : EReal) => u * v) rfl (congrArg (V c main_arg6 : Cert.Products.Mat 4096 2048) (congrArg (ix2 q) (Fin.ext ?_)))
  have h0 : (j 0).val < 1 := (j 0).isLt
  show 256 * (t.val % 8) + (j 2).val = 256 * (1 * (t.val % 8) + (j 0).val) + (j 2).val
  omega

/-- The array this call leaves. -/
theorem final4_2 (c : Dev nD) : (dat4 V c).arrAt 2 cfg4.N = slots (tn (V c main_arg0) (V c main_arg6)) :=
  (dat4 V c).arrAt_eq_of_cover 2 (slots (tn (V c main_arg0) (V c main_arg6))) (fun t _ => flushed4_2 V c t) cover4_2'

/-! ## Call 5: where each window's block lies -/

/-- The block indices of call 5's windows at every point of its grid. -/
theorem idx5 : ∀ t : Fin grid5.N, win5_0.index t 0 = t.val / 2 ∧ win5_0.index t 1 = 0 ∧ win5_1.index t 0 = t.val % 2 ∧ win5_1.index t 1 = 0 ∧ win5_2.index t 0 = t.val / 2 ∧ win5_2.index t 1 = t.val % 2 := by decide +kernel

theorem lt5 (t : Fin cfg5.N) : t.val < 16 := lt_of_lt_of_eq t.isLt N_5

/-- Window 0 of call 5: its block at point `t` of an array, read at an index of the block. -/
theorem blk5_0 (t : Fin cfg5.N) (A : S4096x2048.Idx → EReal) (j : S512x2048.Idx) :
    ((cfg5.win 0).blk t).view.read (Elt Ideal) A j = A (ix2 ⟨512 * (t.val / 2) + (j 0).val, by have h := (j 0).isLt; have ht := lt5 t; change (j 0).val < 512 at h; omega⟩ (j 1)) := by
  rw [View.read_apply]
  show A _ = A _
  congr 1
  funext a
  apply Fin.ext
  have hi := idx5 t
  match a with
  | ⟨0, _⟩ => show win5_0.index t 0 * 512 + 1 * (j 0).val = 512 * (t.val / 2) + (j 0).val; rw [hi.1]; omega
  | ⟨1, _⟩ => show win5_0.index t 1 * 2048 + 1 * (j 1).val = (j 1).val; rw [hi.2.1]; omega

/-- Window 1 of call 5: its block at point `t` of an array, read at an index of the block. -/
theorem blk5_1 (t : Fin cfg5.N) (A : S1024x2048.Idx → EReal) (j : S512x2048.Idx) :
    ((cfg5.win 1).blk t).view.read (Elt Ideal) A j = A (ix2 ⟨512 * (t.val % 2) + (j 0).val, by have h := (j 0).isLt; have ht := lt5 t; change (j 0).val < 512 at h; omega⟩ (j 1)) := by
  rw [View.read_apply]
  show A _ = A _
  congr 1
  funext a
  apply Fin.ext
  have hi := idx5 t
  match a with
  | ⟨0, _⟩ => show win5_1.index t 0 * 512 + 1 * (j 0).val = 512 * (t.val % 2) + (j 0).val; rw [hi.2.2.1]; omega
  | ⟨1, _⟩ => show win5_1.index t 1 * 2048 + 1 * (j 1).val = (j 1).val; rw [hi.2.2.2.1]; omega

/-- Window 2 of call 5: its block at point `t` of an array, read at an index of the block. -/
theorem blk5_2 (t : Fin cfg5.N) (A : S4096x1024.Idx → EReal) (j : S512x512.Idx) :
    ((cfg5.win 2).blk t).view.read (Elt Ideal) A j = A (ix2 ⟨512 * (t.val / 2) + (j 0).val, by have h := (j 0).isLt; have ht := lt5 t; change (j 0).val < 512 at h; omega⟩ ⟨512 * (t.val % 2) + (j 1).val, by have h := (j 1).isLt; have ht := lt5 t; change (j 1).val < 512 at h; omega⟩) := by
  rw [View.read_apply]
  show A _ = A _
  congr 1
  funext a
  apply Fin.ext
  have hi := idx5 t
  match a with
  | ⟨0, _⟩ => show win5_2.index t 0 * 512 + 1 * (j 0).val = 512 * (t.val / 2) + (j 0).val; rw [hi.2.2.2.2.1]; omega
  | ⟨1, _⟩ => show win5_2.index t 1 * 512 + 1 * (j 1).val = 512 * (t.val % 2) + (j 1).val; rw [hi.2.2.2.2.2]; omega

/-! ## Call 5: the array it leaves -/

theorem k5_pay1_apply (x0 : Vec Ideal S512x2048 .bf16) (x1 : Vec Ideal S512x2048 .bf16) (j : S512x512.Idx) :
    k5_pay1 x0 x1 j = ∑ q : Fin 2048, x0 (ix2 (j 0) q) * x1 (ix2 (j 1) q) := by
  unfold k5_pay1
  pointwise

theorem out5_2_apply (x0 : Vec Ideal S512x2048 .bf16) (x1 : Vec Ideal S512x2048 .bf16) (j : S512x512.Idx) :
    out5_2 x0 x1 j = ∑ q : Fin 2048, x0 (ix2 (j 0) q) * x1 (ix2 (j 1) q) := by
  unfold out5_2
  rw [View.canon_unit_zero hz]
  rw [View.ld_unit_zero (S := S512x2048) hz, View.ld_unit_zero (S := S512x2048) hz]
  exact k5_pay1_apply x0 x1 j

theorem iblk5_0 (c : Dev nD) (t : Fin cfg5.N) (j : S512x2048.Idx) :
    (iblk5 V c 0 t : S512x2048.Idx → EReal) j = (V c (Pipeline.arrRef spec5 0) : S4096x2048.Idx → EReal) (ix2 ⟨512 * (t.val / 2) + (j 0).val, by have h := (j 0).isLt; have ht := lt5 t; change (j 0).val < 512 at h; omega⟩ (j 1)) := blk5_0 t (V c (Pipeline.arrRef spec5 0)) j

theorem iblk5_1 (c : Dev nD) (t : Fin cfg5.N) (j : S512x2048.Idx) :
    (iblk5 V c 1 t : S512x2048.Idx → EReal) j = (V c (Pipeline.arrRef spec5 1) : S1024x2048.Idx → EReal) (ix2 ⟨512 * (t.val % 2) + (j 0).val, by have h := (j 0).isLt; have ht := lt5 t; change (j 0).val < 512 at h; omega⟩ (j 1)) := blk5_1 t (V c (Pipeline.arrRef spec5 1)) j

/-- Every index of the array lies in the block of some point. -/
theorem cover5_2' (i : S4096x1024.Idx) :
    ∃ t : Fin cfg5.N, (cfg5.win 2).flush t = true ∧ i ∈ ((cfg5.win 2).blk t).view.set := by
  have h0 : (i 0).val < 4096 := (i 0).isLt
  have h1 : (i 1).val < 1024 := (i 1).isLt
  have ht : 2 * ((i 0).val / 512) + (i 1).val / 512 < cfg5.N := lt_of_lt_of_eq (by omega : _ < 16) N_5.symm
  refine ⟨⟨2 * ((i 0).val / 512) + (i 1).val / 512, ht⟩, flush5_2 _, ?_⟩
  have hi := idx5 ⟨2 * ((i 0).val / 512) + (i 1).val / 512, ht⟩
  show i ∈ ((View.whole (Pipeline.arrRef spec5 2)).slice (win5_2.rect ⟨2 * ((i 0).val / 512) + (i 1).val / 512, ht⟩)).set
  rw [View.set_slice_whole, Rect.mem_set_unit]
  intro a
  match a with
  | ⟨0, _⟩ => show win5_2.index ⟨2 * ((i 0).val / 512) + (i 1).val / 512, ht⟩ 0 * 512 ≤ (i 0).val ∧ (i 0).val < win5_2.index ⟨2 * ((i 0).val / 512) + (i 1).val / 512, ht⟩ 0 * 512 + 512; rw [hi.2.2.2.2.1]; dsimp only; omega
  | ⟨1, _⟩ => show win5_2.index ⟨2 * ((i 0).val / 512) + (i 1).val / 512, ht⟩ 1 * 512 ≤ (i 1).val ∧ (i 1).val < win5_2.index ⟨2 * ((i 0).val / 512) + (i 1).val / 512, ht⟩ 1 * 512 + 512; rw [hi.2.2.2.2.2]; dsimp only; omega

/-- What a point writes back is its block of the whole-array function. -/
theorem flushed5_2 (c : Dev nD) (t : Fin cfg5.N) :
    (dat5 V c).flushed 2 t = ((cfg5.win 2).blk t).view.read (Elt Ideal) (nt (V c main_arg6) (V c main_arg1)) := by
  show (cfg5.win 2).cut (grid5.coords t) ((dat5 V c).after 2 t) = _
  rw [after5_2]
  refine funext fun (j : S512x512.Idx) => ?_
  refine Eq.trans ?_ (blk5_2 t (nt (V c main_arg6) (V c main_arg1)) j).symm
  refine (out5_2_apply (iblk5 V c 0 t) (iblk5 V c 1 t) j).trans ?_
  simp only [iblk5_0, iblk5_1]
  rfl

/-- The array this call leaves. -/
theorem final5_2 (c : Dev nD) : (dat5 V c).arrAt 2 cfg5.N = nt (V c main_arg6) (V c main_arg1) :=
  (dat5 V c).arrAt_eq_of_cover 2 (nt (V c main_arg6) (V c main_arg1)) (fun t _ => flushed5_2 V c t) cover5_2'

end Cert.Kernel7Ideal.RefValue

end
-- ==== Proof.ConvolutionRun.lean ====
/-
The products of the convolution layer and their gradients: the run of the six calls, and what it leaves in the results.
-/
module

public import proofs.«01_k».proof.Proof.ConvolutionArrays
public import Idealize.ShloMosaic.Lib.Quiescent

@[expose] public section

set_option maxRecDepth 16384

noncomputable section

namespace Cert.Kernel7Ideal.RefValue

open Cert.Kernel7Ideal Cert.Kernel7Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)
open Cert.Products (nn nt tn addRow slots)

section Any
variable {F : FTy → Type} [FloatOps F]
variable (m : (ℓ : Loc nD τ sig) → Buf (Elt F) ℓ) (ρ : Dev nD → PrngReg)

local notation "𝕄" => MT nD τ sig Unit (Elt F) ℕ (UR sig nD τ) ℕ

set_option backward.isDefEq.respectTransparency.types false in
/-- The whole program runs from any memory with zero counters, and every buffer of the TensorCore ends at the contents that
    the six calls leave in turn (`W6`). -/
theorem run_bufs : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h _ => h)

end Any

section AtIdeal
variable (m : (ℓ : Loc nD τ sig) → Buf (Elt Ideal) ℓ) (ρ : Dev nD → PrngReg)

theorem V1_arg (c : Dev nD) : ∀ a ∈ argRefs, V1 m ρ c a = m ((c : Thread nD τ).loc a) := fun a ha => W1_args m ρ c a ha
theorem V2_arg (c : Dev nD) : ∀ a ∈ argRefs, V2 m ρ c a = m ((c : Thread nD τ).loc a) := fun a ha => W2_args m ρ c a ha
theorem V3_arg (c : Dev nD) : ∀ a ∈ argRefs, V3 m ρ c a = m ((c : Thread nD τ).loc a) := fun a ha => W3_args m ρ c a ha
theorem V4_arg (c : Dev nD) : ∀ a ∈ argRefs, V4 m ρ c a = m ((c : Thread nD τ).loc a) := fun a ha => W4_args m ρ c a ha
theorem V5_arg (c : Dev nD) : ∀ a ∈ argRefs, V5 m ρ c a = m ((c : Thread nD τ).loc a) := fun a ha => W5_args m ρ c a ha

/-- The first product, at the end of the program. -/
theorem W6_v0 (c : Dev nD) : W6 m ρ c main_v0 = nn (m ((c : Thread nD τ).loc main_arg0)) (m ((c : Thread nD τ).loc main_arg1)) := by
  refine (W6_of m ρ c main_v0 (by decide +kernel)).trans ((W5_of m ρ c main_v0 (by decide +kernel)).trans ((W4_of m ρ c main_v0 (by decide +kernel)).trans ((W3_of m ρ c main_v0 (by decide +kernel)).trans ((W2_of m ρ c main_v0 (by decide +kernel)).trans ((W1_arr m ρ c 2).trans ((final0_2 (V0 m ρ) c).trans ?_))))))
  rfl

/-- The layer's output, at the end of the program. -/
theorem W6_v1 (c : Dev nD) : W6 m ρ c main_v1 = addRow (nn (m ((c : Thread nD τ).loc main_arg2)) (m ((c : Thread nD τ).loc main_arg3))) (m ((c : Thread nD τ).loc main_arg4)) := by
  refine (W6_of m ρ c main_v1 (by decide +kernel)).trans ((W5_of m ρ c main_v1 (by decide +kernel)).trans ((W4_of m ρ c main_v1 (by decide +kernel)).trans ((W3_of m ρ c main_v1 (by decide +kernel)).trans ((W2_arr m ρ c 3).trans ((final1_3 (V1 m ρ) c).trans ?_)))))
  rw [V1_arg m ρ c main_arg2 (by decide), V1_arg m ρ c main_arg3 (by decide), V1_arg m ρ c main_arg4 (by decide)]

/-- The gradient of the second product's first factor, at the end of the program. -/
theorem W6_v2 (c : Dev nD) : W6 m ρ c main_v2 = nt (m ((c : Thread nD τ).loc main_arg5)) (m ((c : Thread nD τ).loc main_arg3)) := by
  refine (W6_of m ρ c main_v2 (by decide +kernel)).trans ((W5_of m ρ c main_v2 (by decide +kernel)).trans ((W4_of m ρ c main_v2 (by decide +kernel)).trans ((W3_arr m ρ c 2).trans ((final2_2 (V2 m ρ) c).trans ?_))))
  rw [V2_arg m ρ c main_arg5 (by decide), V2_arg m ρ c main_arg3 (by decide)]

/-- The gradient of the second weight, at the end of the program. -/
theorem W6_v3 (c : Dev nD) : W6 m ρ c main_v3 = tn (m ((c : Thread nD τ).loc main_arg2)) (m ((c : Thread nD τ).loc main_arg5)) := by
  refine (W6_of m ρ c main_v3 (by decide +kernel)).trans ((W5_of m ρ c main_v3 (by decide +kernel)).trans ((W4_arr m ρ c 2).trans ((final3_2 (V3 m ρ) c).trans ?_)))
  rw [V3_arg m ρ c main_arg2 (by decide), V3_arg m ρ c main_arg5 (by decide)]

/-- The gradient of the first weight, its columns in eight slots, at the end of the program. -/
theorem W6_v4 (c : Dev nD) : W6 m ρ c main_v4 = slots (tn (m ((c : Thread nD τ).loc main_arg0)) (m ((c : Thread nD τ).loc main_arg6))) := by
  refine (W6_of m ρ c main_v4 (by decide +kernel)).trans ((W5_arr m ρ c 2).trans ((final4_2 (V4 m ρ) c).trans ?_))
  rw [V4_arg m ρ c main_arg0 (by decide), V4_arg m ρ c main_arg6 (by decide)]

/-- The gradient of the layer's input, at the end of the program. -/
theorem W6_v5 (c : Dev nD) : W6 m ρ c main_v5 = nt (m ((c : Thread nD τ).loc main_arg6)) (m ((c : Thread nD τ).loc main_arg1)) := by
  refine (W6_arr m ρ c 2).trans ((final5_2 (V5 m ρ) c).trans ?_)
  rw [V5_arg m ρ c main_arg6 (by decide), V5_arg m ρ c main_arg1 (by decide)]

/-- The run, read: the results at the products of the arguments, the arguments unchanged. -/
theorem run : θ_run defs (onTc (τ := τ) (main (F := Ideal))) ⟨m, fun _ => 0, ρ⟩ (fun r => ∀ c : Dev nD,
      r.2.mem ((c : Thread nD τ).loc main_v0) = nn (m ((c : Thread nD τ).loc main_arg0)) (m ((c : Thread nD τ).loc main_arg1))
      ∧ r.2.mem ((c : Thread nD τ).loc main_v1) = addRow (nn (m ((c : Thread nD τ).loc main_arg2)) (m ((c : Thread nD τ).loc main_arg3))) (m ((c : Thread nD τ).loc main_arg4))
      ∧ r.2.mem ((c : Thread nD τ).loc main_v2) = nt (m ((c : Thread nD τ).loc main_arg5)) (m ((c : Thread nD τ).loc main_arg3))
      ∧ r.2.mem ((c : Thread nD τ).loc main_v3) = tn (m ((c : Thread nD τ).loc main_arg2)) (m ((c : Thread nD τ).loc main_arg5))
      ∧ r.2.mem ((c : Thread nD τ).loc main_v4) = slots (tn (m ((c : Thread nD τ).loc main_arg0)) (m ((c : Thread nD τ).loc main_arg6)))
      ∧ r.2.mem ((c : Thread nD τ).loc main_v5) = nt (m ((c : Thread nD τ).loc main_arg6)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)) :=
  (θ_run defs _ _).mono (fun _ h c =>
    ⟨(h c _ (mem_uc main_v0 (by decide))).trans (W6_v0 m ρ c),
     (h c _ (mem_uc main_v1 (by decide))).trans (W6_v1 m ρ c),
     (h c _ (mem_uc main_v2 (by decide))).trans (W6_v2 m ρ c),
     (h c _ (mem_uc main_v3 (by decide))).trans (W6_v3 m ρ c),
     (h c _ (mem_uc main_v4 (by decide))).trans (W6_v4 m ρ c),
     (h c _ (mem_uc main_v5 (by decide))).trans (W6_v5 m ρ c),
     (h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c),
     (h c _ (mem_uc main_arg3 (by decide))).trans (W6_main_arg3 m ρ c),
     (h c _ (mem_uc main_arg4 (by decide))).trans (W6_main_arg4 m ρ c),
     (h c _ (mem_uc main_arg5 (by decide))).trans (W6_main_arg5 m ρ c),
     (h c _ (mem_uc main_arg6 (by decide))).trans (W6_main_arg6 m ρ c)⟩)
    (run_bufs m ρ)

end AtIdeal

end Cert.Kernel7Ideal.RefValue

end
-- ==== Proof.Convolution.lean ====
/-
The products of the convolution layer and their gradients: what the reference computes, its run, and the claims about the two
programs.
-/
module

public import proofs.«01_k».proof.Defs
public import proofs.«01_k».proof.Proof.Gen.Kernel7.Frame
public import proofs.«01_k».proof.Proof.Gen.Reference7Ideal.Read
public import proofs.«01_k».proof.Proof.ConvolutionRun
public import Idealize.ShloMosaic.Lib.Quiescent

@[expose] public section

set_option maxRecDepth 16384

noncomputable section

namespace Cert.Reference7Ideal.RefValue

open Cert.Reference7Ideal Cert.Reference7Ideal.Read
open Idealize.ShloMosaic Idealize.ShloMosaic.TcCoe Idealize.SL.Sem
open Cert.Products

/-- The first product, in the reference. -/
theorem v6_eq (x0 : Mat 4096 1024) (x1 : Mat 1024 2048) : val_main_v6 (F := Ideal) x0 x1 = nn (x0) (x1) := by
  funext i
  rw [val_main_v6_apply]
  exact Finset.sum_congr rfl fun k _ => prod2 x0 x1 _ _ (i 0) k k (i 1) rfl rfl rfl rfl

/-- The layer's output, in the reference. -/
theorem v9_eq (x2 : Mat 4096 1024) (x3 : Mat 1024 1024) (x4 : Mat 1 1024) : val_main_v9 (F := Ideal) x2 x3 x4 = addRow (nn (x2) (x3)) (x4) := by
  funext i
  rw [val_main_v9_apply, val_main_v7_apply, val_main_v8_apply]
  exact congrArg₂ (· + ·) (Finset.sum_congr rfl fun k _ => prod2 x2 x3 _ _ (i 0) k k (i 1) rfl rfl rfl rfl) (at2 x4 _ 0 (i 1) rfl rfl)

/-- The gradient of the second product's first factor, in the reference. -/
theorem v12_eq (x3 : Mat 1024 1024) (x5 : Mat 4096 1024) : val_main_v12 (F := Ideal) x3 x5 = nt (x5) (x3) := by
  funext i
  rw [val_main_v12_apply]
  exact Finset.sum_congr rfl fun k _ => prod2 x5 x3 _ _ (i 0) k (i 1) k rfl rfl rfl rfl

/-- The gradient of the second weight, in the reference. -/
theorem v16_eq (x2 : Mat 4096 1024) (x5 : Mat 4096 1024) : val_main_v16 (F := Ideal) x2 x5 = tn (x2) (x5) := by
  funext i
  rw [val_main_v16_apply]
  show val_main_v11 (F := Ideal) x2 x5 i = _
  rw [val_main_v11_apply, val_main_v10_apply]
  refine Finset.sum_congr rfl fun k _ => ?_
  rw [mul_comm]
  exact prod2 x2 x5 _ _ k (i 0) k (i 1) rfl rfl rfl rfl

/-- The gradient of the first weight, its columns in eight slots, in the reference. -/
theorem v19_eq (x0 : Mat 4096 1024) (x6 : Mat 4096 2048) : val_main_v19 (F := Ideal) x0 x6 = slots (tn (x0) (x6)) := by
  funext i
  rw [val_main_v19_apply]
  show val_main_v18 (F := Ideal) x0 x6 i = _
  rw [val_main_v18_apply, val_main_v17_apply, val_main_v14_apply, val_main_v13_apply]
  unfold slots tn
  refine Finset.sum_congr rfl fun k _ => ?_
  rw [mul_comm]
  have h0 : (i 0).val < 8 := (i 0).isLt
  have h1 : (i 1).val < 1024 := (i 1).isLt
  have h2 : (i 2).val < 256 := (i 2).isLt
  refine prod2 x0 x6 _ _ k (i 1) k ⟨256 * (i 0).val + (i 2).val, by omega⟩ rfl ?_ rfl ?_
  · show (((i 1).val * 8 + (i 0).val) * 256 + (i 2).val) / 2048 = (i 1).val
    omega
  · show (((i 1).val * 8 + (i 0).val) * 256 + (i 2).val) % 2048 = 256 * (i 0).val + (i 2).val
    omega

/-- The gradient of the layer's input, in the reference. -/
theorem v15_eq (x1 : Mat 1024 2048) (x6 : Mat 4096 2048) : val_main_v15 (F := Ideal) x1 x6 = nt (x6) (x1) := by
  funext i
  rw [val_main_v15_apply]
  exact Finset.sum_congr rfl fun k _ => prod2 x6 x1 _ _ (i 0) k (i 1) k rfl rfl rfl rfl

end Cert.Reference7Ideal.RefValue

namespace Cert.ConvolutionProof

open Idealize.ShloMosaic Idealize.ShloMosaic.TcCoe Idealize.SL.Sem
open Cert.Products (nn nt tn addRow slots)

/-- The run at the machine's words leaves the arguments and the counters as they were. -/
theorem frame_kernel : Cert.quiescent_Kernel7 := fun m ρ _ => Cert.Kernel7.Gen.frame (F := Bits) m ρ

/-- So does the run on the extended reals. -/
theorem frame_ideal : Cert.quiescent_Kernel7Ideal := fun m ρ _ => Cert.Kernel7Ideal.Gen.frame (F := Ideal) m ρ

section
open Cert.Reference7Ideal

/-- The reference leaves its arguments as they were; it has no counters. -/
theorem frame_reference : Cert.quiescent_Reference7Ideal := fun m ρ _ =>
  (θ_run defs _ _).mono (fun r h => ⟨fun c => (h c).2.2.2.2.2.2, sem_eq_zero_of_no_sems (by decide) r.2⟩)
    (Cert.Reference7Ideal.Value.run (F := Ideal) m ρ)

variable (m : (ℓ : Loc nD τ sig) → Buf (Elt Ideal) ℓ) (ρ : Dev nD → PrngReg)

/-- The reference ends with the same products of its arguments that the kernel computes. -/
theorem reference_run : θ_run defs (onTc (τ := τ) (main (F := Ideal))) ⟨m, fun _ => 0, ρ⟩ (fun r => ∀ c : Dev nD,
      r.2.mem ((c : Thread nD τ).loc main_v6) = nn (m ((c : Thread nD τ).loc main_arg0)) (m ((c : Thread nD τ).loc main_arg1))
      ∧ r.2.mem ((c : Thread nD τ).loc main_v9) = addRow (nn (m ((c : Thread nD τ).loc main_arg2)) (m ((c : Thread nD τ).loc main_arg3))) (m ((c : Thread nD τ).loc main_arg4))
      ∧ r.2.mem ((c : Thread nD τ).loc main_v12) = nt (m ((c : Thread nD τ).loc main_arg5)) (m ((c : Thread nD τ).loc main_arg3))
      ∧ r.2.mem ((c : Thread nD τ).loc main_v16) = tn (m ((c : Thread nD τ).loc main_arg2)) (m ((c : Thread nD τ).loc main_arg5))
      ∧ r.2.mem ((c : Thread nD τ).loc main_v19) = slots (tn (m ((c : Thread nD τ).loc main_arg0)) (m ((c : Thread nD τ).loc main_arg6)))
      ∧ r.2.mem ((c : Thread nD τ).loc main_v15) = nt (m ((c : Thread nD τ).loc main_arg6)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)) :=
  (θ_run defs _ _).mono (fun _ h c =>
    ⟨((h c).1.trans (Read.val_main_v6_eq _ _)).trans (RefValue.v6_eq _ _),
     ((h c).2.1.trans (Read.val_main_v9_eq _ _ _)).trans (RefValue.v9_eq _ _ _),
     ((h c).2.2.1.trans (Read.val_main_v12_eq _ _)).trans (RefValue.v12_eq _ _),
     ((h c).2.2.2.1.trans (Read.val_main_v16_eq _ _)).trans (RefValue.v16_eq _ _),
     ((h c).2.2.2.2.1.trans (Read.val_main_v19_eq _ _)).trans (RefValue.v19_eq _ _),
     ((h c).2.2.2.2.2.1.trans (Read.val_main_v15_eq _ _)).trans (RefValue.v15_eq _ _),
     (h c).2.2.2.2.2.2⟩)
    (Value.run (F := Ideal) m ρ)

end

section
open Cert.Kernel7Ideal

/-- From equal arguments the kernel and the reference end with equal results. -/
theorem algebraic : Cert.algebraic_Kernel7Ideal_Reference7Ideal := fun m ρ m' ρ' _ hag =>
  ⟨fun c => nn (m ((c : Thread nD τ).loc main_arg0)) (m ((c : Thread nD τ).loc main_arg1)),
   fun c => addRow (nn (m ((c : Thread nD τ).loc main_arg2)) (m ((c : Thread nD τ).loc main_arg3))) (m ((c : Thread nD τ).loc main_arg4)),
   fun c => nt (m ((c : Thread nD τ).loc main_arg5)) (m ((c : Thread nD τ).loc main_arg3)),
   fun c => tn (m ((c : Thread nD τ).loc main_arg2)) (m ((c : Thread nD τ).loc main_arg5)),
   fun c => slots (tn (m ((c : Thread nD τ).loc main_arg0)) (m ((c : Thread nD τ).loc main_arg6))),
   fun c => nt (m ((c : Thread nD τ).loc main_arg6)) (m ((c : Thread nD τ).loc main_arg1)),
   RefValue.run m ρ,
   (θ_run _ _ _).mono (fun r h c => by
      obtain ⟨h0, h1, h2, h3, h4, h5, h6⟩ := hag c
      have hc := h c
      rw [h0, h1, h2, h3, h4, h5, h6] at hc
      obtain ⟨e0, e1, e2, e3, e4, e5, e6, e7, e8, e9, e10, e11, e12⟩ := hc
      exact ⟨e0, e1, e2, e3, e4, e5, e6.trans h0.symm, e7.trans h1.symm, e8.trans h2.symm, e9.trans h3.symm, e10.trans h4.symm, e11.trans h5.symm, e12.trans h6.symm⟩) (reference_run m' ρ')⟩

end

end Cert.ConvolutionProof

end
-- ==== Proof.Rowwise.lean ====
/-
Sixteen blocks of 256 rows of a matrix of 4096 rows, and the sum of a column over the blocks.
-/
module

public import proofs.«01_k».proof.Proof.Products

@[expose] public section

set_option maxRecDepth 16384

noncomputable section

namespace Cert.Rowwise

open Idealize.ShloMosaic
open Cert.Products (Mat)

/-- Block `t` of 256 rows. -/
def rowsOf {p : ℕ} (A : Mat 4096 p) (t : ℕ) : Mat 256 p :=
  fun j => A (ix2 (n0 := 4096) (n1 := p) ⟨(256 * t + (j 0).val) % 4096, Nat.mod_lt _ (by norm_num)⟩ (j 1))

/-- A block's rows, for one of the sixteen blocks. -/
theorem rowsOf_apply {p : ℕ} (A : Mat 4096 p) (t : ℕ) (ht : t < 16) (q : Fin 256) (l : Fin p) :
    rowsOf A t (ix2 q l) = A (ix2 ⟨256 * t + q.val, by have := q.isLt; omega⟩ l) := by
  have h : (256 * t + q.val) % 4096 = 256 * t + q.val := Nat.mod_eq_of_lt (by have := q.isLt; omega)
  unfold rowsOf
  congr 1
  funext a
  match a with
  | ⟨0, _⟩ => exact Fin.ext h
  | ⟨1, _⟩ => rfl

/-- A matrix's row. -/
def row {n p : ℕ} (A : Mat n p) (q : Fin n) : Fin p → EReal := fun k => A (ix2 (n0 := n) (n1 := p) q k)

/-- The sum of a matrix's column. -/
def colSum {n p : ℕ} (A : Mat n p) : Mat 1 p := fun j => ∑ k : Fin n, A (ix2 (n0 := n) (n1 := p) k (j 1))

/-- The sum over `n` blocks of 256 numbers each is the sum over the first `256 n` numbers. -/
theorem sum_blocks (f : ℕ → EReal) (n : ℕ) :
    ∑ s ∈ Finset.range n, ∑ q : Fin 256, f (256 * s + q.val) = ∑ k ∈ Finset.range (256 * n), f k := by
  induction n with
  | zero => simp
  | succ n ih =>
    rw [Finset.sum_range_succ, ih, Nat.mul_succ, Finset.sum_range_add]
    exact congrArg _ (Fin.sum_univ_eq_sum_range (fun q => f (256 * n + q)) 256)

/-- The blocks' column sums add up to the matrix's. -/
theorem colSum_blocks {p : ℕ} (A : Mat 4096 p) (j : Shape.Idx ⟨2, ![1, p]⟩) :
    ∑ s ∈ Finset.range 16, colSum (rowsOf A s) j = colSum A j := by
  refine (sum_blocks (fun k => A (ix2 (n0 := 4096) (n1 := p) ⟨k % 4096, Nat.mod_lt _ (by norm_num)⟩ (j 1))) 16).trans ?_
  refine (Fin.sum_univ_eq_sum_range (fun k => A (ix2 (n0 := 4096) (n1 := p) ⟨k % 4096, Nat.mod_lt _ (by norm_num)⟩ (j 1))) 4096).symm.trans ?_
  refine Finset.sum_congr rfl fun k _ => ?_
  congr 1
  funext a
  match a with
  | ⟨0, _⟩ => exact Fin.ext (Nat.mod_eq_of_lt k.isLt)
  | ⟨1, _⟩ => rfl

end Cert.Rowwise

end
-- ==== Proof.Logistic.lean ====
/-
The logistic function on the extended reals, and the derivative of an argument times its logistic function.
-/
module

public import Idealize.ShloMosaic.PureOps.Ideal

@[expose] public section

noncomputable section

namespace Cert.Logistic

open Idealize.ShloMosaic

/-- The logistic function. -/
def logistic (z : EReal) : EReal := Ideal.div 1 (1 + Ideal.exp (-z))

theorem logistic_top : logistic ⊤ = 1 := by simp [logistic, Ideal.div]

theorem logistic_bot : logistic ⊥ = 0 := by
  have ht : (1 : EReal) + ⊤ = ⊤ := EReal.coe_add_top 1
  simp [logistic, Ideal.div, ht]

theorem logistic_coe (z : ℝ) : logistic (z : EReal) = (((1 + Real.exp (-z))⁻¹ : ℝ) : EReal) := by
  have hp : (1 + Real.exp (-z)) ≠ 0 := by positivity
  unfold logistic
  rw [← EReal.coe_neg, Ideal.exp_coe, ← EReal.coe_one, ← EReal.coe_add, Ideal.div_coe hp, one_div, ← EReal.coe_mul, one_mul]

/-- The incoming gradient `d` times the derivative, at `a`, of `a` times its logistic function. -/
def dSilu (d a : EReal) : EReal := d * (logistic a * (1 + a * (1 - logistic a)))

/-- The same by the rule for a product, for a finite incoming gradient. -/
theorem dSilu_product (d : ℝ) (a : EReal) :
    d * logistic a + a * d * (logistic a * (1 - logistic a)) = dSilu d a := by
  unfold dSilu
  induction a with
  | bot => simp [logistic_bot]
  | top =>
    have h : (1 : EReal) - 1 = 0 := by rw [← EReal.coe_one, ← EReal.coe_sub, sub_self]; rfl
    simp [logistic_top, h]
  | coe r =>
    rw [logistic_coe]
    norm_cast
    ring

/-- It is finite. -/
theorem dSilu_real (d : ℝ) (a : EReal) : ∃ r : ℝ, dSilu d a = r := by
  unfold dSilu
  induction a with
  | bot => exact ⟨0, by simp [logistic_bot]⟩
  | top =>
    have h : (1 : EReal) - 1 = 0 := by rw [← EReal.coe_one, ← EReal.coe_sub, sub_self]; rfl
    exact ⟨d, by simp [logistic_top, h]⟩
  | coe r =>
    rw [logistic_coe]
    exact ⟨d * ((1 + Real.exp (-r))⁻¹ * (1 + r * (1 - (1 + Real.exp (-r))⁻¹))), by norm_cast⟩

end Cert.Logistic

end
-- ==== Proof.GluBlock.lean ====
/-
The gated unit's gradient: what one block of rows gives.
-/
module

public import proofs.«01_k».proof.Proof.Gen.Kernel8Ideal.Value
public import proofs.«01_k».proof.Proof.Rowwise
public import proofs.«01_k».proof.Proof.Logistic
public import Idealize.ShloMosaic.Lib.Pipeline.Value
public import Idealize.ShloMosaic.Lib.Pointwise
public import Idealize.ShloMosaic.Lib.ValueIdxCore

@[expose] public section

set_option maxRecDepth 16384

noncomputable section

namespace Cert.Kernel8Ideal.RefValue

open Cert.Kernel8Ideal Cert.Kernel8Ideal.Gen
open Idealize.ShloMosaic Idealize.ShloMosaic.TcCoe Idealize.SL.Sem
open Cert.Products (Mat)
open Cert.Rowwise (rowsOf colSum)
open Cert.Logistic (logistic)

/-- A row of numbers added to an entry of its column. -/
def shifted {n : ℕ} (y : Mat n 2048) (b : Mat 1 2048) (q : Fin n) (l : Fin 2048) : EReal := y (ix2 q l) + b (ix2 0 l)

/-- The gradient of the gated unit's two halves: of the values, the incoming gradient times the gate; of the gate's
    argument, the incoming gradient times the value times the logistic function's derivative. -/
def dGlu {n : ℕ} (y : Mat n 2048) (d : Mat n 1024) (b : Mat 1 2048) : Mat n 2048 := fun j =>
  if h : (j 1).val < 1024 then d (ix2 (j 0) ⟨(j 1).val, h⟩) * logistic (shifted y b (j 0) ⟨1024 + (j 1).val, by omega⟩)
  else
    have h2 : (j 1).val - 1024 < 1024 := by have h1 : (j 1).val < 2048 := (j 1).isLt; omega
    d (ix2 (j 0) ⟨(j 1).val - 1024, h2⟩) * shifted y b (j 0) ⟨(j 1).val - 1024, by omega⟩
      * logistic (shifted y b (j 0) ⟨1024 + ((j 1).val - 1024), by omega⟩)
      * (1 - logistic (shifted y b (j 0) ⟨1024 + ((j 1).val - 1024), by omega⟩))

theorem pay1_eq (x0 : Vec Ideal S256x2048 .f32) (x1 : Vec Ideal S256x1024 .f32) (x2 : Vec Ideal S1x2048 .f32) (j : S256x2048.Idx) :
    k0_pay1 x0 x1 x2 j = dGlu (n := 256) x0 x1 x2 j := by
  unfold k0_pay1
  pointwise
  simp only [zero_sub]
  rfl

/-- The gradient of the bias: the column sums of the argument's gradient. -/
def colGlu {n : ℕ} (y : Mat n 2048) (d : Mat n 1024) (b : Mat 1 2048) : Mat 1 2048 := colSum (dGlu y d b)

theorem pay2_eq (x0 : Vec Ideal S256x2048 .f32) (x1 : Vec Ideal S256x1024 .f32) (x2 : Vec Ideal S1x2048 .f32) :
    k0_pay2 x0 x1 x2 = dGlu (n := 256) x0 x1 x2 := by
  funext j
  unfold k0_pay2
  exact pay1_eq x0 x1 x2 j

theorem pay3_eq (j : S1x2048.Idx) : k0_pay3 (F := Ideal) j = (0 : EReal) := by
  unfold k0_pay3
  pointwise

theorem pay4_eq (x0 : Vec Ideal S256x2048 .f32) (x1 : Vec Ideal S256x1024 .f32) (x2 : Vec Ideal S1x2048 .f32)
    (v : Vec Ideal S1x2048 .f32) (j : S1x2048.Idx) :
    k0_pay4 x0 x1 x2 v j = (v j + colGlu (n := 256) x0 x1 x2 j : EReal) := by
  unfold k0_pay4
  pointwise
  simp only [pay1_eq]
  rfl

end Cert.Kernel8Ideal.RefValue

end
-- ==== Proof.GluArrays.lean ====
/-
The gated unit's gradient: the arrays that the call leaves, as functions of its arguments, and the kernel's run.
-/
module

public import proofs.«01_k».proof.Proof.GluBlock

@[expose] public section

set_option maxRecDepth 16384

noncomputable section

namespace Cert.Kernel8Ideal.RefValue

open Cert.Kernel8Ideal Cert.Kernel8Ideal.Gen
open Idealize.ShloMosaic Idealize.ShloMosaic.TcCoe Idealize.SL.Sem
open Idealize.ShloMosaic.Pipeline (Dat)
open Cert.Products (Mat)
open Cert.Rowwise (rowsOf rowsOf_apply colSum colSum_blocks)

theorem hz : (![0, 0] : Fin 2 → Nat) = fun _ => 0 := funext fun a => by fin_cases a <;> rfl

/-! ## What one point's body leaves in the outputs' blocks -/

theorem out3_A (c : Dev nD) (i : grid0.Coords) (a1 : Memref sig .tc .vmem S256x2048 .f32) (h1 : a1.IsWhole) (a2 : Memref sig .tc .vmem S256x1024 .f32) (h2 : a2.IsWhole) (a3 : Memref sig .tc .vmem S1x2048 .f32) (h3 : a3.IsWhole) (a4 : Memref sig .tc .vmem S256x2048 .bf16) (h4 : a4.IsWhole) (a5 : Memref sig .tc .vmem S1x2048 .f32) (h5 : a5.IsWhole) (hc : cond0_0 i) (x0 : Vec Ideal S256x2048 .f32) (x1 : Vec Ideal S256x1024 .f32) (x2 : Vec Ideal S1x2048 .f32) :
    out0_A_3 (F := Ideal) c i a1 h1 a2 h2 a3 h3 a4 h4 a5 h5 hc x0 x1 x2 = dGlu (n := 256) x0 x1 x2 := by
  unfold out0_A_3
  rw [View.read_writes_eq_canon _ _ _ (cover0_A_3 (F := Ideal) c i a1 h1 a2 h2 a3 h3 a4 h4 a5 h5 hc x0 x1 x2)]
  unfold kernelRun0_A
  dsimp only
  sl_unfold_words
  rw [View.canon_unit_zero hz]
  simp only [View.readAt_eq_ld, h1.read_unread, h2.read_unread, h3.read_unread, h4.read_unread, h5.read_unread, View.ld_unit_zero (S := S256x2048) hz, View.ld_unit_zero (S := S256x1024) hz, View.ld_unit_zero (S := S1x2048) hz]
  exact pay2_eq _ _ _

theorem out3_B (c : Dev nD) (i : grid0.Coords) (a1 : Memref sig .tc .vmem S256x2048 .f32) (h1 : a1.IsWhole) (a2 : Memref sig .tc .vmem S256x1024 .f32) (h2 : a2.IsWhole) (a3 : Memref sig .tc .vmem S1x2048 .f32) (h3 : a3.IsWhole) (a4 : Memref sig .tc .vmem S256x2048 .bf16) (h4 : a4.IsWhole) (a5 : Memref sig .tc .vmem S1x2048 .f32) (h5 : a5.IsWhole) (hc : ¬cond0_0 i) (x0 : Vec Ideal S256x2048 .f32) (x1 : Vec Ideal S256x1024 .f32) (x2 : Vec Ideal S1x2048 .f32) (xo4 : Vec Ideal S1x2048 .f32) :
    out0_B_3 (F := Ideal) c i a1 h1 a2 h2 a3 h3 a4 h4 a5 h5 hc x0 x1 x2 xo4 = dGlu (n := 256) x0 x1 x2 := by
  unfold out0_B_3
  rw [View.read_writes_eq_canon _ _ _ (cover0_B_3 (F := Ideal) c i a1 h1 a2 h2 a3 h3 a4 h4 a5 h5 hc x0 x1 x2 xo4)]
  unfold kernelRun0_B
  dsimp only
  sl_unfold_words
  rw [View.canon_unit_zero hz]
  simp only [View.readAt_eq_ld, h1.read_unread, h2.read_unread, h3.read_unread, h4.read_unread, h5.read_unread, View.ld_unit_zero (S := S256x2048) hz, View.ld_unit_zero (S := S256x1024) hz, View.ld_unit_zero (S := S1x2048) hz]
  exact pay2_eq _ _ _

theorem out4_A (c : Dev nD) (i : grid0.Coords) (a1 : Memref sig .tc .vmem S256x2048 .f32) (h1 : a1.IsWhole) (a2 : Memref sig .tc .vmem S256x1024 .f32) (h2 : a2.IsWhole) (a3 : Memref sig .tc .vmem S1x2048 .f32) (h3 : a3.IsWhole) (a4 : Memref sig .tc .vmem S256x2048 .bf16) (h4 : a4.IsWhole) (a5 : Memref sig .tc .vmem S1x2048 .f32) (h5 : a5.IsWhole) (hc : cond0_0 i) (x0 : Vec Ideal S256x2048 .f32) (x1 : Vec Ideal S256x1024 .f32) (x2 : Vec Ideal S1x2048 .f32) (j : S1x2048.Idx) :
    out0_A_4 (F := Ideal) c i a1 h1 a2 h2 a3 h3 a4 h4 a5 h5 hc x0 x1 x2 j = colGlu x0 x1 x2 j := by
  unfold out0_A_4
  rw [View.read_writes_eq_canon _ _ _ (cover0_A_4 (F := Ideal) c i a1 h1 a2 h2 a3 h3 a4 h4 a5 h5 hc x0 x1 x2)]
  unfold kernelRun0_A
  dsimp only
  sl_unfold_words
  rw [View.canon_cons_unit_zero (S := S1x2048) hz, View.readCov_unit_zero (S := S1x2048) _ hz]
  simp only [View.readAt_eq_ld, h1.read_unread, h2.read_unread, h3.read_unread, h4.read_unread, h5.read_unread, View.ld_unit_zero (S := S256x2048) hz, View.ld_unit_zero (S := S256x1024) hz, View.ld_unit_zero (S := S1x2048) hz]
  rw [pay4_eq, pay3_eq]
  exact zero_add _

theorem out4_B (c : Dev nD) (i : grid0.Coords) (a1 : Memref sig .tc .vmem S256x2048 .f32) (h1 : a1.IsWhole) (a2 : Memref sig .tc .vmem S256x1024 .f32) (h2 : a2.IsWhole) (a3 : Memref sig .tc .vmem S1x2048 .f32) (h3 : a3.IsWhole) (a4 : Memref sig .tc .vmem S256x2048 .bf16) (h4 : a4.IsWhole) (a5 : Memref sig .tc .vmem S1x2048 .f32) (h5 : a5.IsWhole) (hc : ¬cond0_0 i) (x0 : Vec Ideal S256x2048 .f32) (x1 : Vec Ideal S256x1024 .f32) (x2 : Vec Ideal S1x2048 .f32) (xo4 : Vec Ideal S1x2048 .f32) (j : S1x2048.Idx) :
    out0_B_4 (F := Ideal) c i a1 h1 a2 h2 a3 h3 a4 h4 a5 h5 hc x0 x1 x2 xo4 j = (xo4 j + colGlu x0 x1 x2 j : EReal) := by
  unfold out0_B_4
  rw [View.read_writes_eq_canon _ _ _ (cover0_B_4 (F := Ideal) c i a1 h1 a2 h2 a3 h3 a4 h4 a5 h5 hc x0 x1 x2 xo4)]
  unfold kernelRun0_B
  dsimp only
  sl_unfold_words
  rw [View.canon_unit_zero hz]
  simp only [View.readAt_eq_ld, h1.read_unread, h2.read_unread, h3.read_unread, h4.read_unread, h5.read_unread, View.ld_unit_zero (S := S256x2048) hz, View.ld_unit_zero (S := S256x1024) hz, View.ld_unit_zero (S := S1x2048) hz]
  exact pay4_eq _ _ _ _ j

/-! ## Where each window's block lies -/

theorem idx_0 : ∀ t : Fin grid0.N, win0_0.index t 0 = t.val ∧ win0_0.index t 1 = 0 := by decide +kernel

theorem idx_1 : ∀ t : Fin grid0.N, win0_1.index t 0 = t.val ∧ win0_1.index t 1 = 0 := by decide +kernel

theorem idx_2 : ∀ t : Fin grid0.N, win0_2.index t 0 = 0 ∧ win0_2.index t 1 = 0 := by decide +kernel

theorem idx_3 : ∀ t : Fin grid0.N, win0_3.index t 0 = t.val ∧ win0_3.index t 1 = 0 := by decide +kernel

theorem idx_4 : ∀ t : Fin grid0.N, win0_4.index t 0 = 0 ∧ win0_4.index t 1 = 0 := by decide +kernel

theorem lt0 (t : Fin cfg0.N) : t.val < 16 := lt_of_lt_of_eq t.isLt N_0

/-- Window 0's block is a block of rows. -/
theorem blk_0 (t : Fin cfg0.N) (A : S4096x2048.Idx → EReal) :
    ((cfg0.win 0).blk t).view.read (Elt Ideal) A = rowsOf (p := 2048) A t.val := by
  refine funext fun (j : S256x2048.Idx) => ?_
  rw [View.read_apply]
  show A _ = A _
  congr 1
  funext a
  apply Fin.ext
  have hi := idx_0 t
  have ht := lt0 t
  have h0 : (j 0).val < 256 := (j 0).isLt
  match a with
  | ⟨0, _⟩ => show win0_0.index t 0 * 256 + 1 * (j 0).val = (256 * t.val + (j 0).val) % 4096; rw [hi.1, Nat.mod_eq_of_lt (by omega)]; omega
  | ⟨1, _⟩ => show win0_0.index t 1 * 2048 + 1 * (j 1).val = (j 1).val; rw [hi.2]; omega

/-- Window 1's block is a block of rows. -/
theorem blk_1 (t : Fin cfg0.N) (A : S4096x1024.Idx → EReal) :
    ((cfg0.win 1).blk t).view.read (Elt Ideal) A = rowsOf (p := 1024) A t.val := by
  refine funext fun (j : S256x1024.Idx) => ?_
  rw [View.read_apply]
  show A _ = A _
  congr 1
  funext a
  apply Fin.ext
  have hi := idx_1 t
  have ht := lt0 t
  have h0 : (j 0).val < 256 := (j 0).isLt
  match a with
  | ⟨0, _⟩ => show win0_1.index t 0 * 256 + 1 * (j 0).val = (256 * t.val + (j 0).val) % 4096; rw [hi.1, Nat.mod_eq_of_lt (by omega)]; omega
  | ⟨1, _⟩ => show win0_1.index t 1 * 1024 + 1 * (j 1).val = (j 1).val; rw [hi.2]; omega

/-- Window 2's block is its whole array. -/
theorem blk_2 (t : Fin cfg0.N) (A : S1x2048.Idx → EReal) : ((cfg0.win 2).blk t).view.read (Elt Ideal) A = A := by
  refine funext fun (j : S1x2048.Idx) => ?_
  rw [View.read_apply]
  show A _ = A _
  congr 1
  funext a
  apply Fin.ext
  have hi := idx_2 t
  match a with
  | ⟨0, _⟩ => show win0_2.index t 0 * 1 + 1 * (j 0).val = (j 0).val; rw [hi.1]; omega
  | ⟨1, _⟩ => show win0_2.index t 1 * 2048 + 1 * (j 1).val = (j 1).val; rw [hi.2]; omega

/-- Window 3's block is a block of rows. -/
theorem blk_3 (t : Fin cfg0.N) (A : S4096x2048.Idx → EReal) :
    ((cfg0.win 3).blk t).view.read (Elt Ideal) A = rowsOf (p := 2048) A t.val := by
  refine funext fun (j : S256x2048.Idx) => ?_
  rw [View.read_apply]
  show A _ = A _
  congr 1
  funext a
  apply Fin.ext
  have hi := idx_3 t
  have ht := lt0 t
  have h0 : (j 0).val < 256 := (j 0).isLt
  match a with
  | ⟨0, _⟩ => show win0_3.index t 0 * 256 + 1 * (j 0).val = (256 * t.val + (j 0).val) % 4096; rw [hi.1, Nat.mod_eq_of_lt (by omega)]; omega
  | ⟨1, _⟩ => show win0_3.index t 1 * 2048 + 1 * (j 1).val = (j 1).val; rw [hi.2]; omega

/-- Window 4's block is its whole array. -/
theorem blk_4 (t : Fin cfg0.N) (A : S1x2048.Idx → EReal) : ((cfg0.win 4).blk t).view.read (Elt Ideal) A = A := by
  refine funext fun (j : S1x2048.Idx) => ?_
  rw [View.read_apply]
  show A _ = A _
  congr 1
  funext a
  apply Fin.ext
  have hi := idx_4 t
  match a with
  | ⟨0, _⟩ => show win0_4.index t 0 * 1 + 1 * (j 0).val = (j 0).val; rw [hi.1]; omega
  | ⟨1, _⟩ => show win0_4.index t 1 * 2048 + 1 * (j 1).val = (j 1).val; rw [hi.2]; omega

/-! ## The result arrays after the run -/

variable (m : (ℓ : Loc nD τ sig) → Buf (Elt Ideal) ℓ) (ρ : Dev nD → PrngReg)

theorem iblk_0 (c : Dev nD) (t : Fin cfg0.N) : (iblk (F := Ideal) m c 0 t : S256x2048.Idx → EReal) = rowsOf (p := 2048) (m ((c : Thread nD τ).loc main_arg0)) t.val := blk_0 t _

theorem iblk_1 (c : Dev nD) (t : Fin cfg0.N) : (iblk (F := Ideal) m c 1 t : S256x1024.Idx → EReal) = rowsOf (p := 1024) (m ((c : Thread nD τ).loc main_arg1)) t.val := blk_1 t _

theorem iblk_2 (c : Dev nD) (t : Fin cfg0.N) : (iblk (F := Ideal) m c 2 t : S1x2048.Idx → EReal) = m ((c : Thread nD τ).loc main_arg2) := blk_2 t _

/-- What a point writes back to the gradient of the unit's argument: its block of rows of the whole. -/
theorem flushed3 (c : Dev nD) (t : Fin cfg0.N) :
    (dats (F := Ideal) m 0 c).flushed 3 t = ((cfg0.win 3).blk t).view.read (Elt Ideal) (dGlu (n := 4096) (m ((c : Thread nD τ).loc main_arg0)) (m ((c : Thread nD τ).loc main_arg1)) (m ((c : Thread nD τ).loc main_arg2))) := by
  rw [blk_3]
  by_cases h0 : t.val % 16 = 0
  · rw [Value.flushed3_A m c t h0]
    refine (out3_A c _ _ _ _ _ _ _ _ _ _ _ _ (iblk (F := Ideal) m c 0 t) (iblk (F := Ideal) m c 1 t) (iblk (F := Ideal) m c 2 t)).trans ?_
    rw [iblk_0, iblk_1, iblk_2]
    rfl
  · rw [Value.flushed3_B m c t h0]
    refine (out3_B c _ _ _ _ _ _ _ _ _ _ _ _ (iblk (F := Ideal) m c 0 t) (iblk (F := Ideal) m c 1 t) (iblk (F := Ideal) m c 2 t) _ ).trans ?_
    rw [iblk_0, iblk_1, iblk_2]
    rfl

/-- Every index of the gradient of the unit's argument lies in the block of some point. -/
theorem cover3 (i : S4096x2048.Idx) : ∃ t : Fin cfg0.N, (cfg0.win 3).flush t = true ∧ i ∈ ((cfg0.win 3).blk t).view.set := by
  have h0 : (i 0).val < 4096 := (i 0).isLt
  have h1 : (i 1).val < 2048 := (i 1).isLt
  have ht : (i 0).val / 256 < cfg0.N := lt_of_lt_of_eq (by omega : _ < 16) N_0.symm
  refine ⟨⟨(i 0).val / 256, ht⟩, flush0_3 _, ?_⟩
  have hi := idx_3 ⟨(i 0).val / 256, ht⟩
  show i ∈ ((View.whole (Pipeline.arrRef spec0 3)).slice (win0_3.rect ⟨(i 0).val / 256, ht⟩)).set
  rw [View.set_slice_whole, Rect.mem_set_unit]
  intro a
  match a with
  | ⟨0, _⟩ => show win0_3.index ⟨(i 0).val / 256, ht⟩ 0 * 256 ≤ (i 0).val ∧ (i 0).val < win0_3.index ⟨(i 0).val / 256, ht⟩ 0 * 256 + 256; rw [hi.1]; dsimp only; omega
  | ⟨1, _⟩ => show win0_3.index ⟨(i 0).val / 256, ht⟩ 1 * 2048 ≤ (i 1).val ∧ (i 1).val < win0_3.index ⟨(i 0).val / 256, ht⟩ 1 * 2048 + 2048; rw [hi.2]; omega

/-- The gradient of the unit's argument after the run. -/
theorem final3 (c : Dev nD) : (dats (F := Ideal) m 0 c).arrAt 3 cfg0.N = dGlu (n := 4096) (m ((c : Thread nD τ).loc main_arg0)) (m ((c : Thread nD τ).loc main_arg1)) (m ((c : Thread nD τ).loc main_arg2)) :=
  (dats (F := Ideal) m 0 c).arrAt_eq_of_cover 3 (dGlu (n := 4096) (m ((c : Thread nD τ).loc main_arg0)) (m ((c : Thread nD τ).loc main_arg1)) (m ((c : Thread nD τ).loc main_arg2))) (fun t _ => flushed3 m c t) cover3

/-- The gradient of the bias after the first point. -/
theorem step4_A (c : Dev nD) (t : Fin cfg0.N) (h0 : t.val % 16 = 0) (j : S1x2048.Idx) :
    (outsAt0 (F := Ideal) m c t.val t.isLt).2 j = colGlu (rowsOf (p := 2048) (m ((c : Thread nD τ).loc main_arg0)) t.val) (rowsOf (p := 1024) (m ((c : Thread nD τ).loc main_arg1)) t.val) (m ((c : Thread nD τ).loc main_arg2)) j := by
  rw [outsAt0_A (F := Ideal) m c t h0]
  dsimp only
  rw [out4_A, iblk_0, iblk_1, iblk_2]

/-- The gradient of the bias after a later point. -/
theorem step4_B (c : Dev nD) (t : Fin cfg0.N) (h0 : ¬t.val % 16 = 0) (j : S1x2048.Idx) :
    (outsAt0 (F := Ideal) m c t.val t.isLt).2 j
      = ((outsAt0 (F := Ideal) m c (t.val - 1) (Nat.lt_of_le_of_lt (Nat.sub_le _ _) t.isLt)).2 j + colGlu (rowsOf (p := 2048) (m ((c : Thread nD τ).loc main_arg0)) t.val) (rowsOf (p := 1024) (m ((c : Thread nD τ).loc main_arg1)) t.val) (m ((c : Thread nD τ).loc main_arg2)) j : EReal) := by
  rw [outsAt0_B (F := Ideal) m c t h0]
  dsimp only
  rw [out4_B, iblk_0, iblk_1, iblk_2]

/-- The gradient of the bias after point `n`: the sum over the points so far. -/
theorem outs4 (c : Dev nD) (j : S1x2048.Idx) (n : ℕ) : ∀ h : n < cfg0.N,
    (outsAt0 (F := Ideal) m c n h).2 j = ∑ s ∈ Finset.range (n + 1), colGlu (rowsOf (p := 2048) (m ((c : Thread nD τ).loc main_arg0)) s) (rowsOf (p := 1024) (m ((c : Thread nD τ).loc main_arg1)) s) (m ((c : Thread nD τ).loc main_arg2)) j := by
  induction n with
  | zero =>
    intro h
    rw [Finset.sum_range_one]
    exact step4_A m c ⟨0, h⟩ rfl j
  | succ n ih =>
    intro h
    have hN : cfg0.N = 16 := N_0
    have hB : ¬(⟨n + 1, h⟩ : Fin cfg0.N).val % 16 = 0 := by dsimp only; omega
    rw [Finset.sum_range_succ, ← ih (Nat.lt_of_succ_lt h)]
    exact step4_B m c ⟨n + 1, h⟩ hB j

/-- The gradient of the bias: the sum over the sixteen blocks of rows. -/
def total4 (x0 : S4096x2048.Idx → EReal) (x1 : S4096x1024.Idx → EReal) (x2 : S1x2048.Idx → EReal) : S1x2048.Idx → EReal :=
  fun j => ∑ s ∈ Finset.range 16, colGlu (rowsOf (p := 2048) x0 s) (rowsOf (p := 1024) x1 s) x2 j

/-- The one point that writes it back writes the whole sum. -/
theorem flushed4 (c : Dev nD) (t : Fin cfg0.N) (hf : (cfg0.win 4).flush t = true) :
    (dats (F := Ideal) m 0 c).flushed 4 t = ((cfg0.win 4).blk t).view.read (Elt Ideal) (total4 (m ((c : Thread nD τ).loc main_arg0)) (m ((c : Thread nD τ).loc main_arg1)) (m ((c : Thread nD τ).loc main_arg2))) := by
  have h15 : t.val = 15 := by have h1 := (flush0_4 t).mp hf; have h2 := lt0 t; omega
  rw [blk_4, Value.flushed4]
  refine funext fun (j : S1x2048.Idx) => ?_
  refine (outs4 m c j t.val t.isLt).trans ?_
  rw [h15]
  rfl

/-- The last point's block is the whole of it. -/
theorem cover4 (i : S1x2048.Idx) : ∃ t : Fin cfg0.N, (cfg0.win 4).flush t = true ∧ i ∈ ((cfg0.win 4).blk t).view.set := by
  have h0 : (i 0).val < 1 := (i 0).isLt
  have h1 : (i 1).val < 2048 := (i 1).isLt
  have ht : 15 < cfg0.N := lt_of_lt_of_eq (by omega : 15 < 16) N_0.symm
  refine ⟨⟨15, ht⟩, (flush0_4 _).mpr rfl, ?_⟩
  have hi := idx_4 ⟨15, ht⟩
  show i ∈ ((View.whole (Pipeline.arrRef spec0 4)).slice (win0_4.rect ⟨15, ht⟩)).set
  rw [View.set_slice_whole, Rect.mem_set_unit]
  intro a
  match a with
  | ⟨0, _⟩ => show win0_4.index ⟨15, ht⟩ 0 * 1 ≤ (i 0).val ∧ (i 0).val < win0_4.index ⟨15, ht⟩ 0 * 1 + 1; rw [hi.1]; omega
  | ⟨1, _⟩ => show win0_4.index ⟨15, ht⟩ 1 * 2048 ≤ (i 1).val ∧ (i 1).val < win0_4.index ⟨15, ht⟩ 1 * 2048 + 2048; rw [hi.2]; omega

/-- The gradient of the bias after the run. -/
theorem final4 (c : Dev nD) : (dats (F := Ideal) m 0 c).arrAt 4 cfg0.N = total4 (m ((c : Thread nD τ).loc main_arg0)) (m ((c : Thread nD τ).loc main_arg1)) (m ((c : Thread nD τ).loc main_arg2)) :=
  (dats (F := Ideal) m 0 c).arrAt_eq_of_cover 4 (total4 (m ((c : Thread nD τ).loc main_arg0)) (m ((c : Thread nD τ).loc main_arg1)) (m ((c : Thread nD τ).loc main_arg2))) (fun t hf => flushed4 m c t hf) cover4

/-- The kernel's run: each result array, and the arguments as they were. -/
theorem run : θ_run defs (onTc (τ := τ) (main (F := Ideal))) ⟨m, fun _ => 0, ρ⟩ (fun r => ∀ c : Dev nD,
      r.2.mem ((c : Thread nD τ).loc main_v0_0) = dGlu (n := 4096) (m ((c : Thread nD τ).loc main_arg0)) (m ((c : Thread nD τ).loc main_arg1)) (m ((c : Thread nD τ).loc main_arg2))
      ∧ r.2.mem ((c : Thread nD τ).loc main_v0_1) = total4 (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)) :=
  (θ_run defs _ _).mono (fun _ h c => ⟨(h c).1.trans (final3 m c), (h c).2.1.trans (final4 m c), (h c).2.2⟩)
    (Value.run_blocks (F := Ideal) m ρ)

end Cert.Kernel8Ideal.RefValue

end
-- ==== Proof.GluReference.lean ====
/-
The gated unit's reference: what the differentiated text gives is the kernel's gradient.
-/
module

public import proofs.«01_k».proof.Proof.GluArrays
public import proofs.«01_k».proof.Proof.Gen.Reference8Ideal.Run
public import proofs.«01_k».proof.Proof.Gen.Reference8Ideal.Read

@[expose] public section

set_option maxRecDepth 16384

noncomputable section

namespace Cert.Reference8Ideal.RefValue

open Cert.Reference8Ideal Cert.Reference8Ideal.Gen Cert.Reference8Ideal.Read
open Idealize.ShloMosaic Idealize.ShloMosaic.TcCoe Idealize.SL.Sem
open Cert.Kernel8Ideal.RefValue (shifted dGlu colGlu total4)
open Cert.Products (Mat)
open Cert.Logistic (logistic)
open Cert.Rowwise (rowsOf colSum colSum_blocks)

/-- Two halves side by side, read at an entry. -/
theorem halves (A B : Mat 4096 1024) (i : S4096x2048.Idx) :
    concatenate S4096x2048 1 [⟨S4096x1024, A⟩, ⟨S4096x1024, B⟩] concatenates_S4096x1024_S4096x1024_S4096x2048_d1 i
      = if h : (i 1).val < 1024 then A (ix2 (i 0) ⟨(i 1).val, h⟩)
        else B (ix2 (i 0) ⟨(i 1).val - 1024, by have h1 : (i 1).val < 2048 := (i 1).isLt; omega⟩) := by
  pointwise

/-- The unit's argument: the product with its bias. -/
theorem v1_eq (x0 : Mat 4096 2048) (x2 : Mat 1 2048) (i : S4096x2048.Idx) :
    val_main_v1 (F := Ideal) x0 x2 i = shifted x0 x2 (i 0) (i 1) := by
  rw [val_main_v1_apply, val_main_v0_apply]
  refine congrArg₂ (· + ·) (congrArg x0 ?_) (congrArg x2 ?_)
  · funext a
    match a with
    | ⟨0, _⟩ => rfl
    | ⟨1, _⟩ => rfl
  · funext a
    match a with
    | ⟨0, _⟩ => rfl
    | ⟨1, _⟩ => rfl

/-- The gate: the logistic function of the second half. -/
theorem gate_eq (x0 : Mat 4096 2048) (x2 : Mat 1 2048) (i : S4096x1024.Idx) :
    val_main_v2_2 (F := Ideal) x0 x2 i
      = logistic (shifted x0 x2 (i 0) ⟨1024 + (i 1).val, by have h1 : (i 1).val < 1024 := (i 1).isLt; omega⟩) := by
  simp only [val_main_v2_2_apply, val_main_call0_v6_apply, val_main_call0_cst_0_apply, val_main_call0_v5_apply,
    val_main_call0_v4_apply, val_main_call0_cst_apply, val_main_call0_v3_apply, val_main_call0_v2_apply, val_main_call0_v1_apply, v1_eq]
  rw [show (FloatOps.ofBits .f32 0x3F800000#32 : Ideal .f32) = (1 : EReal) from Ideal.ofBits_one_f32]
  rfl

/-- The gradient of the unit's argument. -/
theorem v3_eq (x0 : Mat 4096 2048) (x1 : Mat 4096 1024) (x2 : Mat 1 2048) (i : S4096x2048.Idx) :
    val_main_v3 (F := Ideal) x0 x1 x2 i = dGlu x0 x1 x2 i := by
  unfold val_main_v3 dGlu
  refine (halves _ _ i).trans (dite_congr rfl (fun h => ?_) fun h => ?_)
  · rw [val_main_call1_v1_apply, gate_eq]
    rfl
  · rw [val_main_call1_v2_apply, val_main_call1_v0_apply, val_main_v2_1_apply, val_main_call0_v9_apply, val_main_call0_v8_apply,
      val_main_call0_cst_1_apply, gate_eq, val_main_v2_3_apply, v1_eq,
      show (FloatOps.ofBits .f32 0x3F800000#32 : Ideal .f32) = (1 : EReal) from Ideal.ofBits_one_f32]
    refine Eq.trans ?_ (mul_assoc _ _ _).symm
    exact congrArg (· * _) (mul_comm _ _)

/-- The first result: that gradient, in the narrower format. -/
theorem v6_eq (x0 : Mat 4096 2048) (x1 : Mat 4096 1024) (x2 : Mat 1 2048) :
    val_main_v6 (F := Ideal) x0 x1 x2 = dGlu x0 x1 x2 := by
  funext i
  rw [val_main_v6_apply]
  exact v3_eq x0 x1 x2 i

/-- The second result: its column sums. -/
theorem v5_eq (x0 : Mat 4096 2048) (x1 : Mat 4096 1024) (x2 : Mat 1 2048) :
    val_main_v5 (F := Ideal) x0 x1 x2 = total4 x0 x1 x2 := by
  funext i
  refine Eq.trans ?_ (colSum_blocks (dGlu x0 x1 x2) i).symm
  rw [val_main_v5_apply, val_main_v4_apply]
  simp only [v3_eq, val_main_cst_apply]
  rw [show (FloatOps.ofBits .f32 0x00000000#32 : Ideal .f32) = (0 : EReal) from Ideal.ofBits_zero_f32]
  refine (zero_add _).trans (Finset.sum_congr rfl fun k _ => congrArg _ ?_)
  have h0 : (i 0).val = 0 := by have h : (i 0).val < 1 := (i 0).isLt; omega
  funext a
  apply Fin.ext
  match a with
  | ⟨0, _⟩ => rfl
  | ⟨1, _⟩ => show (i 0).val * 2048 + (i 1).val = (i 1).val; omega

end Cert.Reference8Ideal.RefValue

end
-- ==== Proof.Glu.lean ====
/-
The gated unit's gradient: the run of the reference, and the claims about the two programs.
-/
module

public import proofs.«01_k».proof.Defs
public import proofs.«01_k».proof.Proof.Gen.Kernel8.Frame
public import proofs.«01_k».proof.Proof.GluReference
public import Idealize.ShloMosaic.Lib.Quiescent

@[expose] public section

set_option maxRecDepth 16384

noncomputable section

namespace Cert.GluProof

open Idealize.ShloMosaic Idealize.ShloMosaic.TcCoe Idealize.SL.Sem
open Cert.Kernel8Ideal.RefValue (dGlu total4)

/-- The run at the machine's words leaves the arguments and the counters as they were. -/
theorem frame_kernel : Cert.quiescent_Kernel8 := fun m ρ _ => Cert.Kernel8.Gen.frame (F := Bits) m ρ

/-- So does the run on the extended reals. -/
theorem frame_ideal : Cert.quiescent_Kernel8Ideal := fun m ρ _ => Cert.Kernel8Ideal.Gen.frame (F := Ideal) m ρ

section
open Cert.Reference8Ideal

/-- The reference leaves its arguments as they were; it has no counters. -/
theorem frame_reference : Cert.quiescent_Reference8Ideal := fun m ρ _ =>
  (θ_run defs _ _).mono (fun r h => ⟨fun c => (h c).2.2, sem_eq_zero_of_no_sems (by decide) r.2⟩)
    (Cert.Reference8Ideal.Value.run (F := Ideal) m ρ)

variable (m : (ℓ : Loc nD τ sig) → Buf (Elt Ideal) ℓ) (ρ : Dev nD → PrngReg)

/-- The reference ends with the same two functions of its arguments that the kernel computes. -/
theorem reference_run : θ_run defs (onTc (τ := τ) (main (F := Ideal))) ⟨m, fun _ => 0, ρ⟩ (fun r => ∀ c : Dev nD,
      r.2.mem ((c : Thread nD τ).loc main_v6) = dGlu (n := 4096) (m ((c : Thread nD τ).loc main_arg0)) (m ((c : Thread nD τ).loc main_arg1)) (m ((c : Thread nD τ).loc main_arg2))
      ∧ r.2.mem ((c : Thread nD τ).loc main_v5) = total4 (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)) :=
  (θ_run defs _ _).mono (fun _ h c =>
    ⟨((h c).1.trans (Read.val_main_v6_eq _ _ _)).trans (RefValue.v6_eq _ _ _),
     ((h c).2.1.trans (Read.val_main_v5_eq _ _ _)).trans (RefValue.v5_eq _ _ _), (h c).2.2⟩)
    (Value.run (F := Ideal) m ρ)

end

section
open Cert.Kernel8Ideal

/-- From equal arguments the kernel and the reference end with equal results: the gradient of the unit's argument and that
    of its bias. -/
theorem algebraic : Cert.algebraic_Kernel8Ideal_Reference8Ideal := fun m ρ m' ρ' _ hag =>
  ⟨fun c => dGlu (n := 4096) (m ((c : Thread nD τ).loc main_arg0)) (m ((c : Thread nD τ).loc main_arg1)) (m ((c : Thread nD τ).loc main_arg2)),
   fun c => total4 (m ((c : Thread nD τ).loc main_arg0)) (m ((c : Thread nD τ).loc main_arg1)) (m ((c : Thread nD τ).loc main_arg2)),
   RefValue.run m ρ,
   (θ_run _ _ _).mono (fun r h c => by
      obtain ⟨h0, h1, h2⟩ := hag c
      have hc := h c
      rw [h0, h1, h2] at hc
      obtain ⟨e1, e2, e3, e4, e5⟩ := hc
      exact ⟨e1, e2, e3.trans h0.symm, e4.trans h1.symm, e5.trans h2.symm⟩) (reference_run m' ρ')⟩

end

end Cert.GluProof
-- ==== Proof.Norm.lean ====
/-
The normalisation of a row of 1024 entries, and its gradient in two forms that agree on finite rows.
-/
module

public import proofs.«01_k».proof.Proof.Words

@[expose] public section

noncomputable section

namespace Cert.Norm

open Idealize.ShloMosaic

/-- A row of entries. -/
abbrev Row := Fin 1024 → EReal

/-- The number of entries of a row. -/
def width : EReal := Ideal.ofBits .f32 0x44800000#32

/-- The number added to the variance. -/
def eps : EReal := Ideal.ofBits .f32 0x358637BD#32

/-- The mean of a row. -/
def mean (u : Row) : EReal := Ideal.div (∑ k, u k) width

/-- An entry less the mean. -/
def centred (u : Row) (k : Fin 1024) : EReal := u k - mean u

/-- The variance with the small number added. -/
def spread (u : Row) : EReal := mean (fun k => centred u k * centred u k) + eps

/-- The reciprocal of the standard deviation. -/
def invDev (u : Row) : EReal := Ideal.rsqrt (spread u)

/-- The normalised row. -/
def normal (u : Row) (k : Fin 1024) : EReal := centred u k * invDev u

/-- The gradient of the row from that of its normalised entries, in the closed form. -/
def dNormal (u w : Row) (k : Fin 1024) : EReal :=
  invDev u * (w k - mean w - normal u k * mean (fun l => w l * normal u l))

/-- What the gradient through the standard deviation contributes to an entry, but for the entry itself. -/
def dSpread (u w : Row) : EReal :=
  Ideal.div ((∑ l, centred u l * w l) * (Ideal.ofBits .f32 0xBF000000#32 * Ideal.div (invDev u) (spread u))) width

/-- The gradient of the centred row. -/
def dCentred (u w : Row) (k : Fin 1024) : EReal := w k * invDev u + centred u k * dSpread u w + dSpread u w * centred u k

/-- The gradient of the row by the rules of differentiation one operation at a time. -/
def dSteps (u w : Row) (k : Fin 1024) : EReal := dCentred u w k + mean (fun l => -dCentred u w l)

/-! ## On finite rows -/

theorem coe_sum {n : ℕ} (u : Fin n → ℝ) : ∑ k, (u k : EReal) = ((∑ k, u k : ℝ) : EReal) := by
  induction n with
  | zero => simp
  | succ n ih => rw [Fin.sum_univ_succ, Fin.sum_univ_succ, ih, EReal.coe_add]

section
variable (u w : Fin 1024 → ℝ)

/-- The mean of real entries. -/
def meanR (u : Fin 1024 → ℝ) : ℝ := (∑ k, u k) / 1024

/-- The variance of real entries with the small number added. -/
def spreadR : ℝ := meanR (fun k => (u k - meanR u) * (u k - meanR u)) + 8796093 / 2 ^ 43

theorem mean_coe : mean (fun k => (u k : EReal)) = (meanR u : EReal) := by
  unfold mean width meanR
  rw [coe_sum, Words.width_word, Ideal.div_coe (by norm_num), ← EReal.coe_mul, mul_one_div]

theorem centred_coe (k : Fin 1024) : centred (fun k => (u k : EReal)) k = ((u k - meanR u : ℝ) : EReal) := by
  unfold centred
  rw [mean_coe, EReal.coe_sub]

theorem spread_coe : spread (fun k => (u k : EReal)) = (spreadR u : EReal) := by
  unfold spread spreadR eps
  simp only [centred_coe, ← EReal.coe_mul]
  rw [mean_coe (fun k => (u k - meanR u) * (u k - meanR u)), Words.eps_word, ← EReal.coe_add]

theorem spreadR_pos : 0 < spreadR u := by
  unfold spreadR meanR
  have h : 0 ≤ ∑ k, (u k - (∑ k, u k) / 1024) * (u k - (∑ k, u k) / 1024) := Finset.sum_nonneg fun k _ => mul_self_nonneg _
  positivity

theorem invDev_coe : invDev (fun k => (u k : EReal)) = (((Real.sqrt (spreadR u))⁻¹ : ℝ) : EReal) := by
  unfold invDev
  have h := spreadR_pos u
  rw [spread_coe, Ideal.rsqrt_coe, if_neg (not_lt.mpr h.le), if_neg h.ne']

theorem normal_coe (k : Fin 1024) :
    normal (fun k => (u k : EReal)) k = (((u k - meanR u) * (Real.sqrt (spreadR u))⁻¹ : ℝ) : EReal) := by
  unfold normal
  rw [centred_coe, invDev_coe, EReal.coe_mul]

/-- The closed form, on the reals. -/
theorem dNormal_coe (k : Fin 1024) : dNormal (fun k => (u k : EReal)) (fun k => (w k : EReal)) k
    = (((Real.sqrt (spreadR u))⁻¹ * (w k - meanR w - (u k - meanR u) * (Real.sqrt (spreadR u))⁻¹
        * meanR (fun l => w l * ((u l - meanR u) * (Real.sqrt (spreadR u))⁻¹))) : ℝ) : EReal) := by
  unfold dNormal
  simp only [normal_coe, ← EReal.coe_mul, invDev_coe, mean_coe, ← EReal.coe_sub]

/-- The gradient through the standard deviation, on the reals. -/
def dSpreadR : ℝ := (∑ l, (u l - meanR u) * w l) * (-(1 / 2) * ((Real.sqrt (spreadR u))⁻¹ / spreadR u)) / 1024

theorem dSpread_coe : dSpread (fun k => (u k : EReal)) (fun k => (w k : EReal)) = (dSpreadR u w : EReal) := by
  unfold dSpread width dSpreadR
  simp only [centred_coe, ← EReal.coe_mul]
  rw [coe_sum, invDev_coe, spread_coe, Words.neg_half_word, Words.width_word, Ideal.div_coe (spreadR_pos u).ne', Ideal.div_coe (by norm_num)]
  simp only [← EReal.coe_mul]
  congr 1
  ring

theorem dCentred_coe (k : Fin 1024) : dCentred (fun k => (u k : EReal)) (fun k => (w k : EReal)) k
    = ((w k * (Real.sqrt (spreadR u))⁻¹ + (u k - meanR u) * dSpreadR u w + dSpreadR u w * (u k - meanR u) : ℝ) : EReal) := by
  unfold dCentred
  rw [invDev_coe, centred_coe, dSpread_coe]
  norm_cast

/-- The centred entries add up to zero. -/
theorem sum_centred : ∑ k, (u k - meanR u) = 0 := by
  rw [Finset.sum_sub_distrib, Finset.sum_const, Finset.card_univ, Fintype.card_fin]
  unfold meanR
  simp only [nsmul_eq_mul]
  push_cast
  ring

/-- The two forms of the gradient agree. -/
theorem dSteps_coe (k : Fin 1024) : dSteps (fun k => (u k : EReal)) (fun k => (w k : EReal)) k
    = dNormal (fun k => (u k : EReal)) (fun k => (w k : EReal)) k := by
  unfold dSteps
  simp only [dCentred_coe, ← EReal.coe_neg]
  rw [mean_coe (fun l => -(w l * (Real.sqrt (spreadR u))⁻¹ + (u l - meanR u) * dSpreadR u w + dSpreadR u w * (u l - meanR u))),
    dNormal_coe, ← EReal.coe_add]
  congr 1
  have hs := spreadR_pos u
  have hq : (Real.sqrt (spreadR u))⁻¹ * (Real.sqrt (spreadR u))⁻¹ = (spreadR u)⁻¹ := by
    rw [← mul_inv, Real.mul_self_sqrt hs.le]
  have h1 : meanR (fun l => -(w l * (Real.sqrt (spreadR u))⁻¹ + (u l - meanR u) * dSpreadR u w + dSpreadR u w * (u l - meanR u)))
      = -(meanR w * (Real.sqrt (spreadR u))⁻¹) := by
    have h := sum_centred u
    unfold meanR at h ⊢
    rw [Finset.sum_neg_distrib, Finset.sum_add_distrib, Finset.sum_add_distrib, ← Finset.sum_mul, ← Finset.sum_mul, ← Finset.mul_sum, h]
    ring
  have h2 : meanR (fun l => w l * ((u l - meanR u) * (Real.sqrt (spreadR u))⁻¹))
      = (∑ l, (u l - meanR u) * w l) / 1024 * (Real.sqrt (spreadR u))⁻¹ := by
    unfold meanR
    rw [div_mul_eq_mul_div, Finset.sum_mul]
    congr 1
    exact Finset.sum_congr rfl fun l _ => by ring
  rw [h1, h2]
  unfold dSpreadR
  generalize (∑ l, (u l - meanR u) * w l) = T
  generalize u k - meanR u = x
  rw [div_eq_mul_inv _ (spreadR u), ← hq]
  ring

end

/-- For rows without an infinite entry the two forms of the gradient agree. -/
theorem dSteps_eq (u w : Row) (hu : ∀ k, ∃ r : ℝ, u k = r) (hw : ∀ k, ∃ r : ℝ, w k = r) (k : Fin 1024) :
    dSteps u w k = dNormal u w k := by
  choose u' hu' using hu
  choose w' hw' using hw
  obtain rfl : u = fun k => (u' k : EReal) := funext hu'
  obtain rfl : w = fun k => (w' k : EReal) := funext hw'
  exact dSteps_coe u' w' k

end Cert.Norm

end
-- ==== Proof.SwishBlock.lean ====
/-
The gradient of a normalisation followed by an argument times its logistic function: what one block of rows gives.
-/
module

public import proofs.«01_k».proof.Proof.Gen.Kernel9Ideal.Value
public import proofs.«01_k».proof.Proof.Rowwise
public import proofs.«01_k».proof.Proof.Logistic
public import proofs.«01_k».proof.Proof.Norm
public import Idealize.ShloMosaic.Lib.Pipeline.Value
public import Idealize.ShloMosaic.Lib.Pointwise
public import Idealize.ShloMosaic.Lib.ValueIdxCore

@[expose] public section

set_option maxRecDepth 16384

noncomputable section

namespace Cert.Kernel9Ideal.RefValue

open Cert.Kernel9Ideal Cert.Kernel9Ideal.Gen
open Idealize.ShloMosaic Idealize.ShloMosaic.TcCoe Idealize.SL.Sem
open Cert.Products (Mat)
open Cert.Rowwise (rowsOf colSum row)
open Cert.Logistic (logistic dSilu)
open Cert.Norm (mean centred invDev normal dNormal)

/-- The argument of the logistic function: the normalised row, scaled and shifted. -/
def arg {n : ℕ} (y : Mat n 1024) (g b : Mat 1 1024) : Mat n 1024 := fun j =>
  normal (row y (j 0)) (j 1) * g (ix2 0 (j 1)) + b (ix2 0 (j 1))

/-- The gradient of that argument. -/
def dArg {n : ℕ} (d y : Mat n 1024) (g b : Mat 1 1024) : Mat n 1024 := fun j => dSilu (d j) (arg y g b j)

/-- The gradient of the rows before the normalisation. -/
def dIn {n : ℕ} (d y : Mat n 1024) (g b : Mat 1 1024) : Mat n 1024 := fun j =>
  dNormal (row y (j 0)) (fun k => dArg d y g b (ix2 (j 0) k) * g (ix2 0 k)) (j 1)

/-- The gradient of the scale. -/
def colGain {n : ℕ} (d y _p : Mat n 1024) (g b : Mat 1 1024) : Mat 1 1024 :=
  colSum (n := n) (fun j => dArg d y g b j * normal (row y (j 0)) (j 1))

/-- The gradient of the shift. -/
def colShift {n : ℕ} (d y _p : Mat n 1024) (g b : Mat 1 1024) : Mat 1 1024 := colSum (dArg d y g b)

/-- The gradient of the bias before the normalisation. -/
def colIn {n : ℕ} (d y _p : Mat n 1024) (g b : Mat 1 1024) : Mat 1 1024 := colSum (dIn d y g b)

/-- The column sums of the step's incoming gradient. -/
def colPass {n : ℕ} (_d _y p : Mat n 1024) (_g _b : Mat 1 1024) : Mat 1 1024 := colSum p

theorem pay3_eq (x1 : Vec Ideal S256x1024 .f32) (j : S256x1024.Idx) : k0_pay3 x1 j = centred (row (n := 256) x1 (j 0)) (j 1) := by
  unfold k0_pay3
  pointwise
  unfold centred
  exact congrArg (· - mean (row (n := 256) x1 (j 0))) (congrArg x1 (eq_ix2 j))

theorem pay4_eq (x1 : Vec Ideal S256x1024 .f32) (j : S256x1.Idx) : k0_pay4 x1 j = invDev (row (n := 256) x1 (j 0)) := by
  unfold k0_pay4
  pointwise
  simp only [pay3_eq]
  rfl

theorem pay5_eq (x1 : Vec Ideal S256x1024 .f32) (j : S256x1024.Idx) : k0_pay5 x1 j = normal (row (n := 256) x1 (j 0)) (j 1) := by
  unfold k0_pay5
  pointwise
  simp only [pay3_eq, pay4_eq]
  rfl

theorem pay6_eq (x0 x1 : Vec Ideal S256x1024 .f32) (x3 x4 : Vec Ideal S1x1024 .f32) (j : S256x1024.Idx) :
    k0_pay6 x0 x1 x3 x4 j = dArg (n := 256) x0 x1 x3 x4 j := by
  unfold k0_pay6
  pointwise
  simp only [pay5_eq, zero_sub]
  rfl

theorem pay7_apply (x0 x1 : Vec Ideal S256x1024 .f32) (x3 x4 : Vec Ideal S1x1024 .f32) (j : S256x1024.Idx) :
    k0_pay7 x3 (k0_pay4 x1) (k0_pay5 x1) (k0_pay6 x0 x1 x3 x4) j = dIn (n := 256) x0 x1 x3 x4 j := by
  unfold k0_pay7
  pointwise
  simp only [pay4_eq, pay5_eq, pay6_eq]
  have h : dArg (n := 256) x0 x1 x3 x4 j = dArg (n := 256) x0 x1 x3 x4 (ix2 (j 0) (j 1)) := congrArg _ (eq_ix2 j)
  rw [h]
  rfl

theorem pay7_eq (x0 x1 : Vec Ideal S256x1024 .f32) (x3 x4 : Vec Ideal S1x1024 .f32) :
    k0_pay7 x3 (k0_pay4 x1) (k0_pay5 x1) (k0_pay6 x0 x1 x3 x4) = dIn (n := 256) x0 x1 x3 x4 :=
  funext (pay7_apply x0 x1 x3 x4)

theorem pay14_eq (x0 x1 : Vec Ideal S256x1024 .f32) (x2 : Vec Ideal S256x1024 .bf16) (x3 x4 v : Vec Ideal S1x1024 .f32) (j : S1x1024.Idx) :
    k0_pay14 (k0_pay5 x1) (k0_pay6 x0 x1 x3 x4) v j = (v j + colGain (n := 256) x0 x1 x2 x3 x4 j : EReal) := by
  unfold k0_pay14
  pointwise
  simp only [pay5_eq, pay6_eq]
  rfl

theorem pay15_eq (x0 x1 : Vec Ideal S256x1024 .f32) (x2 : Vec Ideal S256x1024 .bf16) (x3 x4 v : Vec Ideal S1x1024 .f32) (j : S1x1024.Idx) :
    k0_pay15 (k0_pay6 x0 x1 x3 x4) v j = (v j + colShift (n := 256) x0 x1 x2 x3 x4 j : EReal) := by
  unfold k0_pay15
  pointwise
  simp only [pay6_eq]
  rfl

theorem pay1_eq (x0 x1 : Vec Ideal S256x1024 .f32) (x2 : Vec Ideal S256x1024 .bf16) (x3 x4 v : Vec Ideal S1x1024 .f32) (j : S1x1024.Idx) :
    k0_pay1 (k0_pay8 x3 (k0_pay4 x1) (k0_pay5 x1) (k0_pay6 x0 x1 x3 x4)) v j = (v j + colIn (n := 256) x0 x1 x2 x3 x4 j : EReal) := by
  unfold k0_pay1 k0_pay8
  pointwise
  simp only [pay7_apply]
  rfl

theorem pay2_eq (x0 x1 : Vec Ideal S256x1024 .f32) (x2 : Vec Ideal S256x1024 .bf16) (x3 x4 v : Vec Ideal S1x1024 .f32) (j : S1x1024.Idx) :
    k0_pay2 (k0_pay9 x2) v j = (v j + colPass (n := 256) x0 x1 x2 x3 x4 j : EReal) := by
  unfold k0_pay2 k0_pay9
  pointwise
  rfl

theorem pay10_eq (j : S1x1024.Idx) : k0_pay10 (F := Ideal) j = (0 : EReal) := by
  unfold k0_pay10
  pointwise

theorem pay11_eq (j : S1x1024.Idx) : k0_pay11 (F := Ideal) j = (0 : EReal) := by
  unfold k0_pay11
  pointwise

theorem pay12_eq (j : S1x1024.Idx) : k0_pay12 (F := Ideal) j = (0 : EReal) := by
  unfold k0_pay12
  pointwise

theorem pay13_eq (j : S1x1024.Idx) : k0_pay13 (F := Ideal) j = (0 : EReal) := by
  unfold k0_pay13
  pointwise

end Cert.Kernel9Ideal.RefValue

end
-- ==== Proof.SwishArrays.lean ====
/-
The normalisation's gradient: the arrays that the call leaves, as functions of its arguments, and the kernel's run.
-/
module

public import proofs.«01_k».proof.Proof.SwishBlock

@[expose] public section

set_option maxRecDepth 16384

noncomputable section

namespace Cert.Kernel9Ideal.RefValue

open Cert.Kernel9Ideal Cert.Kernel9Ideal.Gen
open Idealize.ShloMosaic Idealize.ShloMosaic.TcCoe Idealize.SL.Sem
open Idealize.ShloMosaic.Pipeline (Dat)
open Cert.Products (Mat)
open Cert.Rowwise (rowsOf rowsOf_apply colSum colSum_blocks)

theorem hz : (![0, 0] : Fin 2 → Nat) = fun _ => 0 := funext fun a => by fin_cases a <;> rfl

/-! ## What one point's body leaves in the outputs' blocks -/

theorem out5_A (c : Dev nD) (i : grid0.Coords) (a1 : Memref sig .tc .vmem S256x1024 .f32) (h1 : a1.IsWhole) (a2 : Memref sig .tc .vmem S256x1024 .f32) (h2 : a2.IsWhole) (a3 : Memref sig .tc .vmem S256x1024 .bf16) (h3 : a3.IsWhole) (a4 : Memref sig .tc .vmem S1x1024 .f32) (h4 : a4.IsWhole) (a5 : Memref sig .tc .vmem S1x1024 .f32) (h5 : a5.IsWhole) (a6 : Memref sig .tc .vmem S256x1024 .f32) (h6 : a6.IsWhole) (a7 : Memref sig .tc .vmem S1x1024 .f32) (h7 : a7.IsWhole) (a8 : Memref sig .tc .vmem S1x1024 .f32) (h8 : a8.IsWhole) (a9 : Memref sig .tc .vmem S1x1024 .f32) (h9 : a9.IsWhole) (a10 : Memref sig .tc .vmem S1x1024 .f32) (h10 : a10.IsWhole) (hc : cond0_0 i) (x0 : Vec Ideal S256x1024 .f32) (x1 : Vec Ideal S256x1024 .f32) (x2 : Vec Ideal S256x1024 .bf16) (x3 : Vec Ideal S1x1024 .f32) (x4 : Vec Ideal S1x1024 .f32) :
    out0_A_5 (F := Ideal) c i a1 h1 a2 h2 a3 h3 a4 h4 a5 h5 a6 h6 a7 h7 a8 h8 a9 h9 a10 h10 hc x0 x1 x2 x3 x4 = dIn (n := 256) x0 x1 x3 x4 := by
  unfold out0_A_5
  rw [View.read_writes_eq_canon _ _ _ (cover0_A_5 (F := Ideal) c i a1 h1 a2 h2 a3 h3 a4 h4 a5 h5 a6 h6 a7 h7 a8 h8 a9 h9 a10 h10 hc x0 x1 x2 x3 x4)]
  unfold kernelRun0_A
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, h10.read_unread, View.ld_unit_zero (S := S256x1024) hz, View.ld_unit_zero (S := S1x1024) hz]
  exact pay7_eq _ _ _ _

theorem out5_B (c : Dev nD) (i : grid0.Coords) (a1 : Memref sig .tc .vmem S256x1024 .f32) (h1 : a1.IsWhole) (a2 : Memref sig .tc .vmem S256x1024 .f32) (h2 : a2.IsWhole) (a3 : Memref sig .tc .vmem S256x1024 .bf16) (h3 : a3.IsWhole) (a4 : Memref sig .tc .vmem S1x1024 .f32) (h4 : a4.IsWhole) (a5 : Memref sig .tc .vmem S1x1024 .f32) (h5 : a5.IsWhole) (a6 : Memref sig .tc .vmem S256x1024 .f32) (h6 : a6.IsWhole) (a7 : Memref sig .tc .vmem S1x1024 .f32) (h7 : a7.IsWhole) (a8 : Memref sig .tc .vmem S1x1024 .f32) (h8 : a8.IsWhole) (a9 : Memref sig .tc .vmem S1x1024 .f32) (h9 : a9.IsWhole) (a10 : Memref sig .tc .vmem S1x1024 .f32) (h10 : a10.IsWhole) (hc : ¬cond0_0 i) (x0 : Vec Ideal S256x1024 .f32) (x1 : Vec Ideal S256x1024 .f32) (x2 : Vec Ideal S256x1024 .bf16) (x3 : Vec Ideal S1x1024 .f32) (x4 : Vec Ideal S1x1024 .f32) (xo6 : Vec Ideal S1x1024 .f32) (xo7 : Vec Ideal S1x1024 .f32) (xo8 : Vec Ideal S1x1024 .f32) (xo9 : Vec Ideal S1x1024 .f32) :
    out0_B_5 (F := Ideal) c i a1 h1 a2 h2 a3 h3 a4 h4 a5 h5 a6 h6 a7 h7 a8 h8 a9 h9 a10 h10 hc x0 x1 x2 x3 x4 xo6 xo7 xo8 xo9 = dIn (n := 256) x0 x1 x3 x4 := by
  unfold out0_B_5
  rw [View.read_writes_eq_canon _ _ _ (cover0_B_5 (F := Ideal) c i a1 h1 a2 h2 a3 h3 a4 h4 a5 h5 a6 h6 a7 h7 a8 h8 a9 h9 a10 h10 hc x0 x1 x2 x3 x4 xo6 xo7 xo8 xo9)]
  unfold kernelRun0_B
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, h10.read_unread, View.ld_unit_zero (S := S256x1024) hz, View.ld_unit_zero (S := S1x1024) hz]
  exact pay7_eq _ _ _ _

theorem out6_A (c : Dev nD) (i : grid0.Coords) (a1 : Memref sig .tc .vmem S256x1024 .f32) (h1 : a1.IsWhole) (a2 : Memref sig .tc .vmem S256x1024 .f32) (h2 : a2.IsWhole) (a3 : Memref sig .tc .vmem S256x1024 .bf16) (h3 : a3.IsWhole) (a4 : Memref sig .tc .vmem S1x1024 .f32) (h4 : a4.IsWhole) (a5 : Memref sig .tc .vmem S1x1024 .f32) (h5 : a5.IsWhole) (a6 : Memref sig .tc .vmem S256x1024 .f32) (h6 : a6.IsWhole) (a7 : Memref sig .tc .vmem S1x1024 .f32) (h7 : a7.IsWhole) (a8 : Memref sig .tc .vmem S1x1024 .f32) (h8 : a8.IsWhole) (a9 : Memref sig .tc .vmem S1x1024 .f32) (h9 : a9.IsWhole) (a10 : Memref sig .tc .vmem S1x1024 .f32) (h10 : a10.IsWhole) (hc : cond0_0 i) (x0 : Vec Ideal S256x1024 .f32) (x1 : Vec Ideal S256x1024 .f32) (x2 : Vec Ideal S256x1024 .bf16) (x3 : Vec Ideal S1x1024 .f32) (x4 : Vec Ideal S1x1024 .f32) (j : S1x1024.Idx) :
    out0_A_6 (F := Ideal) c i a1 h1 a2 h2 a3 h3 a4 h4 a5 h5 a6 h6 a7 h7 a8 h8 a9 h9 a10 h10 hc x0 x1 x2 x3 x4 j = colGain x0 x1 x2 x3 x4 j := by
  unfold out0_A_6
  rw [View.read_writes_eq_canon _ _ _ (cover0_A_6 (F := Ideal) c i a1 h1 a2 h2 a3 h3 a4 h4 a5 h5 a6 h6 a7 h7 a8 h8 a9 h9 a10 h10 hc x0 x1 x2 x3 x4)]
  unfold kernelRun0_A
  dsimp only
  sl_unfold_words
  rw [View.canon_cons_unit_zero (S := S1x1024) hz, View.readCov_unit_zero (S := S1x1024) _ hz]
  simp only [View.readAt_eq_ld, h1.read_unread, h2.read_unread, h3.read_unread, h4.read_unread, h5.read_unread, h6.read_unread, h7.read_unread, h8.read_unread, h9.read_unread, h10.read_unread, View.ld_unit_zero (S := S256x1024) hz, View.ld_unit_zero (S := S1x1024) hz]
  rw [pay14_eq, pay10_eq]
  exact zero_add _

theorem out6_B (c : Dev nD) (i : grid0.Coords) (a1 : Memref sig .tc .vmem S256x1024 .f32) (h1 : a1.IsWhole) (a2 : Memref sig .tc .vmem S256x1024 .f32) (h2 : a2.IsWhole) (a3 : Memref sig .tc .vmem S256x1024 .bf16) (h3 : a3.IsWhole) (a4 : Memref sig .tc .vmem S1x1024 .f32) (h4 : a4.IsWhole) (a5 : Memref sig .tc .vmem S1x1024 .f32) (h5 : a5.IsWhole) (a6 : Memref sig .tc .vmem S256x1024 .f32) (h6 : a6.IsWhole) (a7 : Memref sig .tc .vmem S1x1024 .f32) (h7 : a7.IsWhole) (a8 : Memref sig .tc .vmem S1x1024 .f32) (h8 : a8.IsWhole) (a9 : Memref sig .tc .vmem S1x1024 .f32) (h9 : a9.IsWhole) (a10 : Memref sig .tc .vmem S1x1024 .f32) (h10 : a10.IsWhole) (hc : ¬cond0_0 i) (x0 : Vec Ideal S256x1024 .f32) (x1 : Vec Ideal S256x1024 .f32) (x2 : Vec Ideal S256x1024 .bf16) (x3 : Vec Ideal S1x1024 .f32) (x4 : Vec Ideal S1x1024 .f32) (xo6 : Vec Ideal S1x1024 .f32) (xo7 : Vec Ideal S1x1024 .f32) (xo8 : Vec Ideal S1x1024 .f32) (xo9 : Vec Ideal S1x1024 .f32) (j : S1x1024.Idx) :
    out0_B_6 (F := Ideal) c i a1 h1 a2 h2 a3 h3 a4 h4 a5 h5 a6 h6 a7 h7 a8 h8 a9 h9 a10 h10 hc x0 x1 x2 x3 x4 xo6 xo7 xo8 xo9 j = (xo6 j + colGain x0 x1 x2 x3 x4 j : EReal) := by
  unfold out0_B_6
  rw [View.read_writes_eq_canon _ _ _ (cover0_B_6 (F := Ideal) c i a1 h1 a2 h2 a3 h3 a4 h4 a5 h5 a6 h6 a7 h7 a8 h8 a9 h9 a10 h10 hc x0 x1 x2 x3 x4 xo6 xo7 xo8 xo9)]
  unfold kernelRun0_B
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, h10.read_unread, View.ld_unit_zero (S := S256x1024) hz, View.ld_unit_zero (S := S1x1024) hz]
  exact pay14_eq _ _ x2 _ _ _ j

theorem out7_A (c : Dev nD) (i : grid0.Coords) (a1 : Memref sig .tc .vmem S256x1024 .f32) (h1 : a1.IsWhole) (a2 : Memref sig .tc .vmem S256x1024 .f32) (h2 : a2.IsWhole) (a3 : Memref sig .tc .vmem S256x1024 .bf16) (h3 : a3.IsWhole) (a4 : Memref sig .tc .vmem S1x1024 .f32) (h4 : a4.IsWhole) (a5 : Memref sig .tc .vmem S1x1024 .f32) (h5 : a5.IsWhole) (a6 : Memref sig .tc .vmem S256x1024 .f32) (h6 : a6.IsWhole) (a7 : Memref sig .tc .vmem S1x1024 .f32) (h7 : a7.IsWhole) (a8 : Memref sig .tc .vmem S1x1024 .f32) (h8 : a8.IsWhole) (a9 : Memref sig .tc .vmem S1x1024 .f32) (h9 : a9.IsWhole) (a10 : Memref sig .tc .vmem S1x1024 .f32) (h10 : a10.IsWhole) (hc : cond0_0 i) (x0 : Vec Ideal S256x1024 .f32) (x1 : Vec Ideal S256x1024 .f32) (x2 : Vec Ideal S256x1024 .bf16) (x3 : Vec Ideal S1x1024 .f32) (x4 : Vec Ideal S1x1024 .f32) (j : S1x1024.Idx) :
    out0_A_7 (F := Ideal) c i a1 h1 a2 h2 a3 h3 a4 h4 a5 h5 a6 h6 a7 h7 a8 h8 a9 h9 a10 h10 hc x0 x1 x2 x3 x4 j = colShift x0 x1 x2 x3 x4 j := by
  unfold out0_A_7
  rw [View.read_writes_eq_canon _ _ _ (cover0_A_7 (F := Ideal) c i a1 h1 a2 h2 a3 h3 a4 h4 a5 h5 a6 h6 a7 h7 a8 h8 a9 h9 a10 h10 hc x0 x1 x2 x3 x4)]
  unfold kernelRun0_A
  dsimp only
  sl_unfold_words
  rw [View.canon_cons_unit_zero (S := S1x1024) hz, View.readCov_unit_zero (S := S1x1024) _ hz]
  simp only [View.readAt_eq_ld, h1.read_unread, h2.read_unread, h3.read_unread, h4.read_unread, h5.read_unread, h6.read_unread, h7.read_unread, h8.read_unread, h9.read_unread, h10.read_unread, View.ld_unit_zero (S := S256x1024) hz, View.ld_unit_zero (S := S1x1024) hz]
  rw [pay15_eq, pay11_eq]
  exact zero_add _

theorem out7_B (c : Dev nD) (i : grid0.Coords) (a1 : Memref sig .tc .vmem S256x1024 .f32) (h1 : a1.IsWhole) (a2 : Memref sig .tc .vmem S256x1024 .f32) (h2 : a2.IsWhole) (a3 : Memref sig .tc .vmem S256x1024 .bf16) (h3 : a3.IsWhole) (a4 : Memref sig .tc .vmem S1x1024 .f32) (h4 : a4.IsWhole) (a5 : Memref sig .tc .vmem S1x1024 .f32) (h5 : a5.IsWhole) (a6 : Memref sig .tc .vmem S256x1024 .f32) (h6 : a6.IsWhole) (a7 : Memref sig .tc .vmem S1x1024 .f32) (h7 : a7.IsWhole) (a8 : Memref sig .tc .vmem S1x1024 .f32) (h8 : a8.IsWhole) (a9 : Memref sig .tc .vmem S1x1024 .f32) (h9 : a9.IsWhole) (a10 : Memref sig .tc .vmem S1x1024 .f32) (h10 : a10.IsWhole) (hc : ¬cond0_0 i) (x0 : Vec Ideal S256x1024 .f32) (x1 : Vec Ideal S256x1024 .f32) (x2 : Vec Ideal S256x1024 .bf16) (x3 : Vec Ideal S1x1024 .f32) (x4 : Vec Ideal S1x1024 .f32) (xo6 : Vec Ideal S1x1024 .f32) (xo7 : Vec Ideal S1x1024 .f32) (xo8 : Vec Ideal S1x1024 .f32) (xo9 : Vec Ideal S1x1024 .f32) (j : S1x1024.Idx) :
    out0_B_7 (F := Ideal) c i a1 h1 a2 h2 a3 h3 a4 h4 a5 h5 a6 h6 a7 h7 a8 h8 a9 h9 a10 h10 hc x0 x1 x2 x3 x4 xo6 xo7 xo8 xo9 j = (xo7 j + colShift x0 x1 x2 x3 x4 j : EReal) := by
  unfold out0_B_7
  rw [View.read_writes_eq_canon _ _ _ (cover0_B_7 (F := Ideal) c i a1 h1 a2 h2 a3 h3 a4 h4 a5 h5 a6 h6 a7 h7 a8 h8 a9 h9 a10 h10 hc x0 x1 x2 x3 x4 xo6 xo7 xo8 xo9)]
  unfold kernelRun0_B
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, h10.read_unread, View.ld_unit_zero (S := S256x1024) hz, View.ld_unit_zero (S := S1x1024) hz]
  exact pay15_eq _ _ x2 _ _ _ j

theorem out8_A (c : Dev nD) (i : grid0.Coords) (a1 : Memref sig .tc .vmem S256x1024 .f32) (h1 : a1.IsWhole) (a2 : Memref sig .tc .vmem S256x1024 .f32) (h2 : a2.IsWhole) (a3 : Memref sig .tc .vmem S256x1024 .bf16) (h3 : a3.IsWhole) (a4 : Memref sig .tc .vmem S1x1024 .f32) (h4 : a4.IsWhole) (a5 : Memref sig .tc .vmem S1x1024 .f32) (h5 : a5.IsWhole) (a6 : Memref sig .tc .vmem S256x1024 .f32) (h6 : a6.IsWhole) (a7 : Memref sig .tc .vmem S1x1024 .f32) (h7 : a7.IsWhole) (a8 : Memref sig .tc .vmem S1x1024 .f32) (h8 : a8.IsWhole) (a9 : Memref sig .tc .vmem S1x1024 .f32) (h9 : a9.IsWhole) (a10 : Memref sig .tc .vmem S1x1024 .f32) (h10 : a10.IsWhole) (hc : cond0_0 i) (x0 : Vec Ideal S256x1024 .f32) (x1 : Vec Ideal S256x1024 .f32) (x2 : Vec Ideal S256x1024 .bf16) (x3 : Vec Ideal S1x1024 .f32) (x4 : Vec Ideal S1x1024 .f32) (j : S1x1024.Idx) :
    out0_A_8 (F := Ideal) c i a1 h1 a2 h2 a3 h3 a4 h4 a5 h5 a6 h6 a7 h7 a8 h8 a9 h9 a10 h10 hc x0 x1 x2 x3 x4 j = colIn x0 x1 x2 x3 x4 j := by
  unfold out0_A_8
  rw [View.read_writes_eq_canon _ _ _ (cover0_A_8 (F := Ideal) c i a1 h1 a2 h2 a3 h3 a4 h4 a5 h5 a6 h6 a7 h7 a8 h8 a9 h9 a10 h10 hc x0 x1 x2 x3 x4)]
  unfold kernelRun0_A
  dsimp only
  sl_unfold_words
  rw [View.canon_cons_unit_zero (S := S1x1024) hz, View.readCov_unit_zero (S := S1x1024) _ hz]
  simp only [View.readAt_eq_ld, h1.read_unread, h2.read_unread, h3.read_unread, h4.read_unread, h5.read_unread, h6.read_unread, h7.read_unread, h8.read_unread, h9.read_unread, h10.read_unread, View.ld_unit_zero (S := S256x1024) hz, View.ld_unit_zero (S := S1x1024) hz]
  rw [pay1_eq, pay12_eq]
  exact zero_add _

theorem out8_B (c : Dev nD) (i : grid0.Coords) (a1 : Memref sig .tc .vmem S256x1024 .f32) (h1 : a1.IsWhole) (a2 : Memref sig .tc .vmem S256x1024 .f32) (h2 : a2.IsWhole) (a3 : Memref sig .tc .vmem S256x1024 .bf16) (h3 : a3.IsWhole) (a4 : Memref sig .tc .vmem S1x1024 .f32) (h4 : a4.IsWhole) (a5 : Memref sig .tc .vmem S1x1024 .f32) (h5 : a5.IsWhole) (a6 : Memref sig .tc .vmem S256x1024 .f32) (h6 : a6.IsWhole) (a7 : Memref sig .tc .vmem S1x1024 .f32) (h7 : a7.IsWhole) (a8 : Memref sig .tc .vmem S1x1024 .f32) (h8 : a8.IsWhole) (a9 : Memref sig .tc .vmem S1x1024 .f32) (h9 : a9.IsWhole) (a10 : Memref sig .tc .vmem S1x1024 .f32) (h10 : a10.IsWhole) (hc : ¬cond0_0 i) (x0 : Vec Ideal S256x1024 .f32) (x1 : Vec Ideal S256x1024 .f32) (x2 : Vec Ideal S256x1024 .bf16) (x3 : Vec Ideal S1x1024 .f32) (x4 : Vec Ideal S1x1024 .f32) (xo6 : Vec Ideal S1x1024 .f32) (xo7 : Vec Ideal S1x1024 .f32) (xo8 : Vec Ideal S1x1024 .f32) (xo9 : Vec Ideal S1x1024 .f32) (j : S1x1024.Idx) :
    out0_B_8 (F := Ideal) c i a1 h1 a2 h2 a3 h3 a4 h4 a5 h5 a6 h6 a7 h7 a8 h8 a9 h9 a10 h10 hc x0 x1 x2 x3 x4 xo6 xo7 xo8 xo9 j = (xo8 j + colIn x0 x1 x2 x3 x4 j : EReal) := by
  unfold out0_B_8
  rw [View.read_writes_eq_canon _ _ _ (cover0_B_8 (F := Ideal) c i a1 h1 a2 h2 a3 h3 a4 h4 a5 h5 a6 h6 a7 h7 a8 h8 a9 h9 a10 h10 hc x0 x1 x2 x3 x4 xo6 xo7 xo8 xo9)]
  unfold kernelRun0_B
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, h10.read_unread, View.ld_unit_zero (S := S256x1024) hz, View.ld_unit_zero (S := S1x1024) hz]
  exact pay1_eq _ _ x2 _ _ _ j

theorem out9_A (c : Dev nD) (i : grid0.Coords) (a1 : Memref sig .tc .vmem S256x1024 .f32) (h1 : a1.IsWhole) (a2 : Memref sig .tc .vmem S256x1024 .f32) (h2 : a2.IsWhole) (a3 : Memref sig .tc .vmem S256x1024 .bf16) (h3 : a3.IsWhole) (a4 : Memref sig .tc .vmem S1x1024 .f32) (h4 : a4.IsWhole) (a5 : Memref sig .tc .vmem S1x1024 .f32) (h5 : a5.IsWhole) (a6 : Memref sig .tc .vmem S256x1024 .f32) (h6 : a6.IsWhole) (a7 : Memref sig .tc .vmem S1x1024 .f32) (h7 : a7.IsWhole) (a8 : Memref sig .tc .vmem S1x1024 .f32) (h8 : a8.IsWhole) (a9 : Memref sig .tc .vmem S1x1024 .f32) (h9 : a9.IsWhole) (a10 : Memref sig .tc .vmem S1x1024 .f32) (h10 : a10.IsWhole) (hc : cond0_0 i) (x0 : Vec Ideal S256x1024 .f32) (x1 : Vec Ideal S256x1024 .f32) (x2 : Vec Ideal S256x1024 .bf16) (x3 : Vec Ideal S1x1024 .f32) (x4 : Vec Ideal S1x1024 .f32) (j : S1x1024.Idx) :
    out0_A_9 (F := Ideal) c i a1 h1 a2 h2 a3 h3 a4 h4 a5 h5 a6 h6 a7 h7 a8 h8 a9 h9 a10 h10 hc x0 x1 x2 x3 x4 j = colPass x0 x1 x2 x3 x4 j := by
  unfold out0_A_9
  rw [View.read_writes_eq_canon _ _ _ (cover0_A_9 (F := Ideal) c i a1 h1 a2 h2 a3 h3 a4 h4 a5 h5 a6 h6 a7 h7 a8 h8 a9 h9 a10 h10 hc x0 x1 x2 x3 x4)]
  unfold kernelRun0_A
  dsimp only
  sl_unfold_words
  rw [View.canon_cons_unit_zero (S := S1x1024) hz, View.readCov_unit_zero (S := S1x1024) _ hz]
  simp only [View.readAt_eq_ld, h1.read_unread, h2.read_unread, h3.read_unread, h4.read_unread, h5.read_unread, h6.read_unread, h7.read_unread, h8.read_unread, h9.read_unread, h10.read_unread, View.ld_unit_zero (S := S256x1024) hz, View.ld_unit_zero (S := S1x1024) hz]
  rw [pay2_eq, pay13_eq]
  exact zero_add _

theorem out9_B (c : Dev nD) (i : grid0.Coords) (a1 : Memref sig .tc .vmem S256x1024 .f32) (h1 : a1.IsWhole) (a2 : Memref sig .tc .vmem S256x1024 .f32) (h2 : a2.IsWhole) (a3 : Memref sig .tc .vmem S256x1024 .bf16) (h3 : a3.IsWhole) (a4 : Memref sig .tc .vmem S1x1024 .f32) (h4 : a4.IsWhole) (a5 : Memref sig .tc .vmem S1x1024 .f32) (h5 : a5.IsWhole) (a6 : Memref sig .tc .vmem S256x1024 .f32) (h6 : a6.IsWhole) (a7 : Memref sig .tc .vmem S1x1024 .f32) (h7 : a7.IsWhole) (a8 : Memref sig .tc .vmem S1x1024 .f32) (h8 : a8.IsWhole) (a9 : Memref sig .tc .vmem S1x1024 .f32) (h9 : a9.IsWhole) (a10 : Memref sig .tc .vmem S1x1024 .f32) (h10 : a10.IsWhole) (hc : ¬cond0_0 i) (x0 : Vec Ideal S256x1024 .f32) (x1 : Vec Ideal S256x1024 .f32) (x2 : Vec Ideal S256x1024 .bf16) (x3 : Vec Ideal S1x1024 .f32) (x4 : Vec Ideal S1x1024 .f32) (xo6 : Vec Ideal S1x1024 .f32) (xo7 : Vec Ideal S1x1024 .f32) (xo8 : Vec Ideal S1x1024 .f32) (xo9 : Vec Ideal S1x1024 .f32) (j : S1x1024.Idx) :
    out0_B_9 (F := Ideal) c i a1 h1 a2 h2 a3 h3 a4 h4 a5 h5 a6 h6 a7 h7 a8 h8 a9 h9 a10 h10 hc x0 x1 x2 x3 x4 xo6 xo7 xo8 xo9 j = (xo9 j + colPass x0 x1 x2 x3 x4 j : EReal) := by
  unfold out0_B_9
  rw [View.read_writes_eq_canon _ _ _ (cover0_B_9 (F := Ideal) c i a1 h1 a2 h2 a3 h3 a4 h4 a5 h5 a6 h6 a7 h7 a8 h8 a9 h9 a10 h10 hc x0 x1 x2 x3 x4 xo6 xo7 xo8 xo9)]
  unfold kernelRun0_B
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, h10.read_unread, View.ld_unit_zero (S := S256x1024) hz, View.ld_unit_zero (S := S1x1024) hz]
  exact pay2_eq x0 x1 _ x3 x4 _ j

/-! ## Where each window's block lies -/

theorem idx_0 : ∀ t : Fin grid0.N, win0_0.index t 0 = t.val ∧ win0_0.index t 1 = 0 := by decide +kernel

theorem idx_1 : ∀ t : Fin grid0.N, win0_1.index t 0 = t.val ∧ win0_1.index t 1 = 0 := by decide +kernel

theorem idx_2 : ∀ t : Fin grid0.N, win0_2.index t 0 = t.val ∧ win0_2.index t 1 = 0 := by decide +kernel

theorem idx_3 : ∀ t : Fin grid0.N, win0_3.index t 0 = 0 ∧ win0_3.index t 1 = 0 := by decide +kernel

theorem idx_4 : ∀ t : Fin grid0.N, win0_4.index t 0 = 0 ∧ win0_4.index t 1 = 0 := by decide +kernel

theorem idx_5 : ∀ t : Fin grid0.N, win0_5.index t 0 = t.val ∧ win0_5.index t 1 = 0 := by decide +kernel

theorem idx_6 : ∀ t : Fin grid0.N, win0_6.index t 0 = 0 ∧ win0_6.index t 1 = 0 := by decide +kernel

theorem idx_7 : ∀ t : Fin grid0.N, win0_7.index t 0 = 0 ∧ win0_7.index t 1 = 0 := by decide +kernel

theorem idx_8 : ∀ t : Fin grid0.N, win0_8.index t 0 = 0 ∧ win0_8.index t 1 = 0 := by decide +kernel

theorem idx_9 : ∀ t : Fin grid0.N, win0_9.index t 0 = 0 ∧ win0_9.index t 1 = 0 := by decide +kernel

theorem lt0 (t : Fin cfg0.N) : t.val < 16 := lt_of_lt_of_eq t.isLt N_0

/-- Window 0's block is a block of rows. -/
theorem blk_0 (t : Fin cfg0.N) (A : S4096x1024.Idx → EReal) :
    ((cfg0.win 0).blk t).view.read (Elt Ideal) A = rowsOf (p := 1024) A t.val := by
  refine funext fun (j : S256x1024.Idx) => ?_
  rw [View.read_apply]
  show A _ = A _
  congr 1
  funext a
  apply Fin.ext
  have hi := idx_0 t
  have ht := lt0 t
  have h0 : (j 0).val < 256 := (j 0).isLt
  match a with
  | ⟨0, _⟩ => show win0_0.index t 0 * 256 + 1 * (j 0).val = (256 * t.val + (j 0).val) % 4096; rw [hi.1, Nat.mod_eq_of_lt (by omega)]; omega
  | ⟨1, _⟩ => show win0_0.index t 1 * 1024 + 1 * (j 1).val = (j 1).val; rw [hi.2]; omega

/-- Window 1's block is a block of rows. -/
theorem blk_1 (t : Fin cfg0.N) (A : S4096x1024.Idx → EReal) :
    ((cfg0.win 1).blk t).view.read (Elt Ideal) A = rowsOf (p := 1024) A t.val := by
  refine funext fun (j : S256x1024.Idx) => ?_
  rw [View.read_apply]
  show A _ = A _
  congr 1
  funext a
  apply Fin.ext
  have hi := idx_1 t
  have ht := lt0 t
  have h0 : (j 0).val < 256 := (j 0).isLt
  match a with
  | ⟨0, _⟩ => show win0_1.index t 0 * 256 + 1 * (j 0).val = (256 * t.val + (j 0).val) % 4096; rw [hi.1, Nat.mod_eq_of_lt (by omega)]; omega
  | ⟨1, _⟩ => show win0_1.index t 1 * 1024 + 1 * (j 1).val = (j 1).val; rw [hi.2]; omega

/-- Window 2's block is a block of rows. -/
theorem blk_2 (t : Fin cfg0.N) (A : S4096x1024.Idx → EReal) :
    ((cfg0.win 2).blk t).view.read (Elt Ideal) A = rowsOf (p := 1024) A t.val := by
  refine funext fun (j : S256x1024.Idx) => ?_
  rw [View.read_apply]
  show A _ = A _
  congr 1
  funext a
  apply Fin.ext
  have hi := idx_2 t
  have ht := lt0 t
  have h0 : (j 0).val < 256 := (j 0).isLt
  match a with
  | ⟨0, _⟩ => show win0_2.index t 0 * 256 + 1 * (j 0).val = (256 * t.val + (j 0).val) % 4096; rw [hi.1, Nat.mod_eq_of_lt (by omega)]; omega
  | ⟨1, _⟩ => show win0_2.index t 1 * 1024 + 1 * (j 1).val = (j 1).val; rw [hi.2]; omega

/-- Window 3's block is its whole array. -/
theorem blk_3 (t : Fin cfg0.N) (A : S1x1024.Idx → EReal) : ((cfg0.win 3).blk t).view.read (Elt Ideal) A = A := by
  refine funext fun (j : S1x1024.Idx) => ?_
  rw [View.read_apply]
  show A _ = A _
  congr 1
  funext a
  apply Fin.ext
  have hi := idx_3 t
  match a with
  | ⟨0, _⟩ => show win0_3.index t 0 * 1 + 1 * (j 0).val = (j 0).val; rw [hi.1]; omega
  | ⟨1, _⟩ => show win0_3.index t 1 * 1024 + 1 * (j 1).val = (j 1).val; rw [hi.2]; omega

/-- Window 4's block is its whole array. -/
theorem blk_4 (t : Fin cfg0.N) (A : S1x1024.Idx → EReal) : ((cfg0.win 4).blk t).view.read (Elt Ideal) A = A := by
  refine funext fun (j : S1x1024.Idx) => ?_
  rw [View.read_apply]
  show A _ = A _
  congr 1
  funext a
  apply Fin.ext
  have hi := idx_4 t
  match a with
  | ⟨0, _⟩ => show win0_4.index t 0 * 1 + 1 * (j 0).val = (j 0).val; rw [hi.1]; omega
  | ⟨1, _⟩ => show win0_4.index t 1 * 1024 + 1 * (j 1).val = (j 1).val; rw [hi.2]; omega

/-- Window 5's block is a block of rows. -/
theorem blk_5 (t : Fin cfg0.N) (A : S4096x1024.Idx → EReal) :
    ((cfg0.win 5).blk t).view.read (Elt Ideal) A = rowsOf (p := 1024) A t.val := by
  refine funext fun (j : S256x1024.Idx) => ?_
  rw [View.read_apply]
  show A _ = A _
  congr 1
  funext a
  apply Fin.ext
  have hi := idx_5 t
  have ht := lt0 t
  have h0 : (j 0).val < 256 := (j 0).isLt
  match a with
  | ⟨0, _⟩ => show win0_5.index t 0 * 256 + 1 * (j 0).val = (256 * t.val + (j 0).val) % 4096; rw [hi.1, Nat.mod_eq_of_lt (by omega)]; omega
  | ⟨1, _⟩ => show win0_5.index t 1 * 1024 + 1 * (j 1).val = (j 1).val; rw [hi.2]; omega

/-- Window 6's block is its whole array. -/
theorem blk_6 (t : Fin cfg0.N) (A : S1x1024.Idx → EReal) : ((cfg0.win 6).blk t).view.read (Elt Ideal) A = A := by
  refine funext fun (j : S1x1024.Idx) => ?_
  rw [View.read_apply]
  show A _ = A _
  congr 1
  funext a
  apply Fin.ext
  have hi := idx_6 t
  match a with
  | ⟨0, _⟩ => show win0_6.index t 0 * 1 + 1 * (j 0).val = (j 0).val; rw [hi.1]; omega
  | ⟨1, _⟩ => show win0_6.index t 1 * 1024 + 1 * (j 1).val = (j 1).val; rw [hi.2]; omega

/-- Window 7's block is its whole array. -/
theorem blk_7 (t : Fin cfg0.N) (A : S1x1024.Idx → EReal) : ((cfg0.win 7).blk t).view.read (Elt Ideal) A = A := by
  refine funext fun (j : S1x1024.Idx) => ?_
  rw [View.read_apply]
  show A _ = A _
  congr 1
  funext a
  apply Fin.ext
  have hi := idx_7 t
  match a with
  | ⟨0, _⟩ => show win0_7.index t 0 * 1 + 1 * (j 0).val = (j 0).val; rw [hi.1]; omega
  | ⟨1, _⟩ => show win0_7.index t 1 * 1024 + 1 * (j 1).val = (j 1).val; rw [hi.2]; omega

/-- Window 8's block is its whole array. -/
theorem blk_8 (t : Fin cfg0.N) (A : S1x1024.Idx → EReal) : ((cfg0.win 8).blk t).view.read (Elt Ideal) A = A := by
  refine funext fun (j : S1x1024.Idx) => ?_
  rw [View.read_apply]
  show A _ = A _
  congr 1
  funext a
  apply Fin.ext
  have hi := idx_8 t
  match a with
  | ⟨0, _⟩ => show win0_8.index t 0 * 1 + 1 * (j 0).val = (j 0).val; rw [hi.1]; omega
  | ⟨1, _⟩ => show win0_8.index t 1 * 1024 + 1 * (j 1).val = (j 1).val; rw [hi.2]; omega

/-- Window 9's block is its whole array. -/
theorem blk_9 (t : Fin cfg0.N) (A : S1x1024.Idx → EReal) : ((cfg0.win 9).blk t).view.read (Elt Ideal) A = A := by
  refine funext fun (j : S1x1024.Idx) => ?_
  rw [View.read_apply]
  show A _ = A _
  congr 1
  funext a
  apply Fin.ext
  have hi := idx_9 t
  match a with
  | ⟨0, _⟩ => show win0_9.index t 0 * 1 + 1 * (j 0).val = (j 0).val; rw [hi.1]; omega
  | ⟨1, _⟩ => show win0_9.index t 1 * 1024 + 1 * (j 1).val = (j 1).val; rw [hi.2]; omega

/-! ## The result arrays after the run -/

variable (m : (ℓ : Loc nD τ sig) → Buf (Elt Ideal) ℓ) (ρ : Dev nD → PrngReg)

theorem iblk_0 (c : Dev nD) (t : Fin cfg0.N) : (iblk (F := Ideal) m c 0 t : S256x1024.Idx → EReal) = rowsOf (p := 1024) (m ((c : Thread nD τ).loc main_arg0)) t.val := blk_0 t _

theorem iblk_1 (c : Dev nD) (t : Fin cfg0.N) : (iblk (F := Ideal) m c 1 t : S256x1024.Idx → EReal) = rowsOf (p := 1024) (m ((c : Thread nD τ).loc main_arg1)) t.val := blk_1 t _

theorem iblk_2 (c : Dev nD) (t : Fin cfg0.N) : (iblk (F := Ideal) m c 2 t : S256x1024.Idx → EReal) = rowsOf (p := 1024) (m ((c : Thread nD τ).loc main_arg2)) t.val := blk_2 t _

theorem iblk_3 (c : Dev nD) (t : Fin cfg0.N) : (iblk (F := Ideal) m c 3 t : S1x1024.Idx → EReal) = m ((c : Thread nD τ).loc main_arg3) := blk_3 t _

theorem iblk_4 (c : Dev nD) (t : Fin cfg0.N) : (iblk (F := Ideal) m c 4 t : S1x1024.Idx → EReal) = m ((c : Thread nD τ).loc main_arg4) := blk_4 t _

/-- What a point writes back to the gradient of the rows before the normalisation: its block of rows of the whole. -/
theorem flushed5 (c : Dev nD) (t : Fin cfg0.N) :
    (dats (F := Ideal) m 0 c).flushed 5 t = ((cfg0.win 5).blk t).view.read (Elt Ideal) (dIn (n := 4096) (m ((c : Thread nD τ).loc main_arg0)) (m ((c : Thread nD τ).loc main_arg1)) (m ((c : Thread nD τ).loc main_arg3)) (m ((c : Thread nD τ).loc main_arg4))) := by
  rw [blk_5]
  by_cases h0 : t.val % 16 = 0
  · rw [Value.flushed5_A m c t h0]
    refine (out5_A c _ _ _ _ _ _ _ _ _ _ _ _ _ _ _ _ _ _ _ _ _ _ (iblk (F := Ideal) m c 0 t) (iblk (F := Ideal) m c 1 t) (iblk (F := Ideal) m c 2 t) (iblk (F := Ideal) m c 3 t) (iblk (F := Ideal) m c 4 t)).trans ?_
    rw [iblk_0, iblk_1, iblk_3, iblk_4]
    rfl
  · rw [Value.flushed5_B m c t h0]
    refine (out5_B c _ _ _ _ _ _ _ _ _ _ _ _ _ _ _ _ _ _ _ _ _ _ (iblk (F := Ideal) m c 0 t) (iblk (F := Ideal) m c 1 t) (iblk (F := Ideal) m c 2 t) (iblk (F := Ideal) m c 3 t) (iblk (F := Ideal) m c 4 t) _ _ _ _ ).trans ?_
    rw [iblk_0, iblk_1, iblk_3, iblk_4]
    rfl

/-- Every index of the gradient of the rows before the normalisation lies in the block of some point. -/
theorem cover5 (i : S4096x1024.Idx) : ∃ t : Fin cfg0.N, (cfg0.win 5).flush t = true ∧ i ∈ ((cfg0.win 5).blk t).view.set := by
  have h0 : (i 0).val < 4096 := (i 0).isLt
  have h1 : (i 1).val < 1024 := (i 1).isLt
  have ht : (i 0).val / 256 < cfg0.N := lt_of_lt_of_eq (by omega : _ < 16) N_0.symm
  refine ⟨⟨(i 0).val / 256, ht⟩, flush0_5 _, ?_⟩
  have hi := idx_5 ⟨(i 0).val / 256, ht⟩
  show i ∈ ((View.whole (Pipeline.arrRef spec0 5)).slice (win0_5.rect ⟨(i 0).val / 256, ht⟩)).set
  rw [View.set_slice_whole, Rect.mem_set_unit]
  intro a
  match a with
  | ⟨0, _⟩ => show win0_5.index ⟨(i 0).val / 256, ht⟩ 0 * 256 ≤ (i 0).val ∧ (i 0).val < win0_5.index ⟨(i 0).val / 256, ht⟩ 0 * 256 + 256; rw [hi.1]; dsimp only; omega
  | ⟨1, _⟩ => show win0_5.index ⟨(i 0).val / 256, ht⟩ 1 * 1024 ≤ (i 1).val ∧ (i 1).val < win0_5.index ⟨(i 0).val / 256, ht⟩ 1 * 1024 + 1024; rw [hi.2]; omega

/-- The gradient of the rows before the normalisation after the run. -/
theorem final5 (c : Dev nD) : (dats (F := Ideal) m 0 c).arrAt 5 cfg0.N = dIn (n := 4096) (m ((c : Thread nD τ).loc main_arg0)) (m ((c : Thread nD τ).loc main_arg1)) (m ((c : Thread nD τ).loc main_arg3)) (m ((c : Thread nD τ).loc main_arg4)) :=
  (dats (F := Ideal) m 0 c).arrAt_eq_of_cover 5 (dIn (n := 4096) (m ((c : Thread nD τ).loc main_arg0)) (m ((c : Thread nD τ).loc main_arg1)) (m ((c : Thread nD τ).loc main_arg3)) (m ((c : Thread nD τ).loc main_arg4))) (fun t _ => flushed5 m c t) cover5

/-- The gradient of the scale after the first point. -/
theorem step6_A (c : Dev nD) (t : Fin cfg0.N) (h0 : t.val % 16 = 0) (j : S1x1024.Idx) :
    (outsAt0 (F := Ideal) m c t.val t.isLt).2.1 j = colGain (rowsOf (p := 1024) (m ((c : Thread nD τ).loc main_arg0)) t.val) (rowsOf (p := 1024) (m ((c : Thread nD τ).loc main_arg1)) t.val) (rowsOf (p := 1024) (m ((c : Thread nD τ).loc main_arg2)) t.val) (m ((c : Thread nD τ).loc main_arg3)) (m ((c : Thread nD τ).loc main_arg4)) j := by
  rw [outsAt0_A (F := Ideal) m c t h0]
  dsimp only
  rw [out6_A, iblk_0, iblk_1, iblk_2, iblk_3, iblk_4]

/-- The gradient of the scale after a later point. -/
theorem step6_B (c : Dev nD) (t : Fin cfg0.N) (h0 : ¬t.val % 16 = 0) (j : S1x1024.Idx) :
    (outsAt0 (F := Ideal) m c t.val t.isLt).2.1 j
      = ((outsAt0 (F := Ideal) m c (t.val - 1) (Nat.lt_of_le_of_lt (Nat.sub_le _ _) t.isLt)).2.1 j + colGain (rowsOf (p := 1024) (m ((c : Thread nD τ).loc main_arg0)) t.val) (rowsOf (p := 1024) (m ((c : Thread nD τ).loc main_arg1)) t.val) (rowsOf (p := 1024) (m ((c : Thread nD τ).loc main_arg2)) t.val) (m ((c : Thread nD τ).loc main_arg3)) (m ((c : Thread nD τ).loc main_arg4)) j : EReal) := by
  rw [outsAt0_B (F := Ideal) m c t h0]
  dsimp only
  rw [out6_B, iblk_0, iblk_1, iblk_2, iblk_3, iblk_4]

/-- The gradient of the scale after point `n`: the sum over the points so far. -/
theorem outs6 (c : Dev nD) (j : S1x1024.Idx) (n : ℕ) : ∀ h : n < cfg0.N,
    (outsAt0 (F := Ideal) m c n h).2.1 j = ∑ s ∈ Finset.range (n + 1), colGain (rowsOf (p := 1024) (m ((c : Thread nD τ).loc main_arg0)) s) (rowsOf (p := 1024) (m ((c : Thread nD τ).loc main_arg1)) s) (rowsOf (p := 1024) (m ((c : Thread nD τ).loc main_arg2)) s) (m ((c : Thread nD τ).loc main_arg3)) (m ((c : Thread nD τ).loc main_arg4)) j := by
  induction n with
  | zero =>
    intro h
    rw [Finset.sum_range_one]
    exact step6_A m c ⟨0, h⟩ rfl j
  | succ n ih =>
    intro h
    have hN : cfg0.N = 16 := N_0
    have hB : ¬(⟨n + 1, h⟩ : Fin cfg0.N).val % 16 = 0 := by dsimp only; omega
    rw [Finset.sum_range_succ, ← ih (Nat.lt_of_succ_lt h)]
    exact step6_B m c ⟨n + 1, h⟩ hB j

/-- The gradient of the scale: the sum over the sixteen blocks of rows. -/
def total6 (x0 : S4096x1024.Idx → EReal) (x1 : S4096x1024.Idx → EReal) (x2 : S4096x1024.Idx → EReal) (x3 : S1x1024.Idx → EReal) (x4 : S1x1024.Idx → EReal) : S1x1024.Idx → EReal :=
  fun j => ∑ s ∈ Finset.range 16, colGain (rowsOf (p := 1024) x0 s) (rowsOf (p := 1024) x1 s) (rowsOf (p := 1024) x2 s) x3 x4 j

/-- The one point that writes it back writes the whole sum. -/
theorem flushed6 (c : Dev nD) (t : Fin cfg0.N) (hf : (cfg0.win 6).flush t = true) :
    (dats (F := Ideal) m 0 c).flushed 6 t = ((cfg0.win 6).blk t).view.read (Elt Ideal) (total6 (m ((c : Thread nD τ).loc main_arg0)) (m ((c : Thread nD τ).loc main_arg1)) (m ((c : Thread nD τ).loc main_arg2)) (m ((c : Thread nD τ).loc main_arg3)) (m ((c : Thread nD τ).loc main_arg4))) := by
  have h15 : t.val = 15 := by have h1 := (flush0_6 t).mp hf; have h2 := lt0 t; omega
  rw [blk_6, Value.flushed6]
  refine funext fun (j : S1x1024.Idx) => ?_
  refine (outs6 m c j t.val t.isLt).trans ?_
  rw [h15]
  rfl

/-- The last point's block is the whole of it. -/
theorem cover6 (i : S1x1024.Idx) : ∃ t : Fin cfg0.N, (cfg0.win 6).flush t = true ∧ i ∈ ((cfg0.win 6).blk t).view.set := by
  have h0 : (i 0).val < 1 := (i 0).isLt
  have h1 : (i 1).val < 1024 := (i 1).isLt
  have ht : 15 < cfg0.N := lt_of_lt_of_eq (by omega : 15 < 16) N_0.symm
  refine ⟨⟨15, ht⟩, (flush0_6 _).mpr rfl, ?_⟩
  have hi := idx_6 ⟨15, ht⟩
  show i ∈ ((View.whole (Pipeline.arrRef spec0 6)).slice (win0_6.rect ⟨15, ht⟩)).set
  rw [View.set_slice_whole, Rect.mem_set_unit]
  intro a
  match a with
  | ⟨0, _⟩ => show win0_6.index ⟨15, ht⟩ 0 * 1 ≤ (i 0).val ∧ (i 0).val < win0_6.index ⟨15, ht⟩ 0 * 1 + 1; rw [hi.1]; omega
  | ⟨1, _⟩ => show win0_6.index ⟨15, ht⟩ 1 * 1024 ≤ (i 1).val ∧ (i 1).val < win0_6.index ⟨15, ht⟩ 1 * 1024 + 1024; rw [hi.2]; omega

/-- The gradient of the scale after the run. -/
theorem final6 (c : Dev nD) : (dats (F := Ideal) m 0 c).arrAt 6 cfg0.N = total6 (m ((c : Thread nD τ).loc main_arg0)) (m ((c : Thread nD τ).loc main_arg1)) (m ((c : Thread nD τ).loc main_arg2)) (m ((c : Thread nD τ).loc main_arg3)) (m ((c : Thread nD τ).loc main_arg4)) :=
  (dats (F := Ideal) m 0 c).arrAt_eq_of_cover 6 (total6 (m ((c : Thread nD τ).loc main_arg0)) (m ((c : Thread nD τ).loc main_arg1)) (m ((c : Thread nD τ).loc main_arg2)) (m ((c : Thread nD τ).loc main_arg3)) (m ((c : Thread nD τ).loc main_arg4))) (fun t hf => flushed6 m c t hf) cover6

/-- The gradient of the shift after the first point. -/
theorem step7_A (c : Dev nD) (t : Fin cfg0.N) (h0 : t.val % 16 = 0) (j : S1x1024.Idx) :
    (outsAt0 (F := Ideal) m c t.val t.isLt).2.2.1 j = colShift (rowsOf (p := 1024) (m ((c : Thread nD τ).loc main_arg0)) t.val) (rowsOf (p := 1024) (m ((c : Thread nD τ).loc main_arg1)) t.val) (rowsOf (p := 1024) (m ((c : Thread nD τ).loc main_arg2)) t.val) (m ((c : Thread nD τ).loc main_arg3)) (m ((c : Thread nD τ).loc main_arg4)) j := by
  rw [outsAt0_A (F := Ideal) m c t h0]
  dsimp only
  rw [out7_A, iblk_0, iblk_1, iblk_2, iblk_3, iblk_4]

/-- The gradient of the shift after a later point. -/
theorem step7_B (c : Dev nD) (t : Fin cfg0.N) (h0 : ¬t.val % 16 = 0) (j : S1x1024.Idx) :
    (outsAt0 (F := Ideal) m c t.val t.isLt).2.2.1 j
      = ((outsAt0 (F := Ideal) m c (t.val - 1) (Nat.lt_of_le_of_lt (Nat.sub_le _ _) t.isLt)).2.2.1 j + colShift (rowsOf (p := 1024) (m ((c : Thread nD τ).loc main_arg0)) t.val) (rowsOf (p := 1024) (m ((c : Thread nD τ).loc main_arg1)) t.val) (rowsOf (p := 1024) (m ((c : Thread nD τ).loc main_arg2)) t.val) (m ((c : Thread nD τ).loc main_arg3)) (m ((c : Thread nD τ).loc main_arg4)) j : EReal) := by
  rw [outsAt0_B (F := Ideal) m c t h0]
  dsimp only
  rw [out7_B, iblk_0, iblk_1, iblk_2, iblk_3, iblk_4]

/-- The gradient of the shift after point `n`: the sum over the points so far. -/
theorem outs7 (c : Dev nD) (j : S1x1024.Idx) (n : ℕ) : ∀ h : n < cfg0.N,
    (outsAt0 (F := Ideal) m c n h).2.2.1 j = ∑ s ∈ Finset.range (n + 1), colShift (rowsOf (p := 1024) (m ((c : Thread nD τ).loc main_arg0)) s) (rowsOf (p := 1024) (m ((c : Thread nD τ).loc main_arg1)) s) (rowsOf (p := 1024) (m ((c : Thread nD τ).loc main_arg2)) s) (m ((c : Thread nD τ).loc main_arg3)) (m ((c : Thread nD τ).loc main_arg4)) j := by
  induction n with
  | zero =>
    intro h
    rw [Finset.sum_range_one]
    exact step7_A m c ⟨0, h⟩ rfl j
  | succ n ih =>
    intro h
    have hN : cfg0.N = 16 := N_0
    have hB : ¬(⟨n + 1, h⟩ : Fin cfg0.N).val % 16 = 0 := by dsimp only; omega
    rw [Finset.sum_range_succ, ← ih (Nat.lt_of_succ_lt h)]
    exact step7_B m c ⟨n + 1, h⟩ hB j

/-- The gradient of the shift: the sum over the sixteen blocks of rows. -/
def total7 (x0 : S4096x1024.Idx → EReal) (x1 : S4096x1024.Idx → EReal) (x2 : S4096x1024.Idx → EReal) (x3 : S1x1024.Idx → EReal) (x4 : S1x1024.Idx → EReal) : S1x1024.Idx → EReal :=
  fun j => ∑ s ∈ Finset.range 16, colShift (rowsOf (p := 1024) x0 s) (rowsOf (p := 1024) x1 s) (rowsOf (p := 1024) x2 s) x3 x4 j

/-- The one point that writes it back writes the whole sum. -/
theorem flushed7 (c : Dev nD) (t : Fin cfg0.N) (hf : (cfg0.win 7).flush t = true) :
    (dats (F := Ideal) m 0 c).flushed 7 t = ((cfg0.win 7).blk t).view.read (Elt Ideal) (total7 (m ((c : Thread nD τ).loc main_arg0)) (m ((c : Thread nD τ).loc main_arg1)) (m ((c : Thread nD τ).loc main_arg2)) (m ((c : Thread nD τ).loc main_arg3)) (m ((c : Thread nD τ).loc main_arg4))) := by
  have h15 : t.val = 15 := by have h1 := (flush0_7 t).mp hf; have h2 := lt0 t; omega
  rw [blk_7, Value.flushed7]
  refine funext fun (j : S1x1024.Idx) => ?_
  refine (outs7 m c j t.val t.isLt).trans ?_
  rw [h15]
  rfl

/-- The last point's block is the whole of it. -/
theorem cover7 (i : S1x1024.Idx) : ∃ t : Fin cfg0.N, (cfg0.win 7).flush t = true ∧ i ∈ ((cfg0.win 7).blk t).view.set := by
  have h0 : (i 0).val < 1 := (i 0).isLt
  have h1 : (i 1).val < 1024 := (i 1).isLt
  have ht : 15 < cfg0.N := lt_of_lt_of_eq (by omega : 15 < 16) N_0.symm
  refine ⟨⟨15, ht⟩, (flush0_7 _).mpr rfl, ?_⟩
  have hi := idx_7 ⟨15, ht⟩
  show i ∈ ((View.whole (Pipeline.arrRef spec0 7)).slice (win0_7.rect ⟨15, ht⟩)).set
  rw [View.set_slice_whole, Rect.mem_set_unit]
  intro a
  match a with
  | ⟨0, _⟩ => show win0_7.index ⟨15, ht⟩ 0 * 1 ≤ (i 0).val ∧ (i 0).val < win0_7.index ⟨15, ht⟩ 0 * 1 + 1; rw [hi.1]; omega
  | ⟨1, _⟩ => show win0_7.index ⟨15, ht⟩ 1 * 1024 ≤ (i 1).val ∧ (i 1).val < win0_7.index ⟨15, ht⟩ 1 * 1024 + 1024; rw [hi.2]; omega

/-- The gradient of the shift after the run. -/
theorem final7 (c : Dev nD) : (dats (F := Ideal) m 0 c).arrAt 7 cfg0.N = total7 (m ((c : Thread nD τ).loc main_arg0)) (m ((c : Thread nD τ).loc main_arg1)) (m ((c : Thread nD τ).loc main_arg2)) (m ((c : Thread nD τ).loc main_arg3)) (m ((c : Thread nD τ).loc main_arg4)) :=
  (dats (F := Ideal) m 0 c).arrAt_eq_of_cover 7 (total7 (m ((c : Thread nD τ).loc main_arg0)) (m ((c : Thread nD τ).loc main_arg1)) (m ((c : Thread nD τ).loc main_arg2)) (m ((c : Thread nD τ).loc main_arg3)) (m ((c : Thread nD τ).loc main_arg4))) (fun t hf => flushed7 m c t hf) cover7

/-- The gradient of the bias after the first point. -/
theorem step8_A (c : Dev nD) (t : Fin cfg0.N) (h0 : t.val % 16 = 0) (j : S1x1024.Idx) :
    (outsAt0 (F := Ideal) m c t.val t.isLt).2.2.2.1 j = colIn (rowsOf (p := 1024) (m ((c : Thread nD τ).loc main_arg0)) t.val) (rowsOf (p := 1024) (m ((c : Thread nD τ).loc main_arg1)) t.val) (rowsOf (p := 1024) (m ((c : Thread nD τ).loc main_arg2)) t.val) (m ((c : Thread nD τ).loc main_arg3)) (m ((c : Thread nD τ).loc main_arg4)) j := by
  rw [outsAt0_A (F := Ideal) m c t h0]
  dsimp only
  rw [out8_A, iblk_0, iblk_1, iblk_2, iblk_3, iblk_4]

/-- The gradient of the bias after a later point. -/
theorem step8_B (c : Dev nD) (t : Fin cfg0.N) (h0 : ¬t.val % 16 = 0) (j : S1x1024.Idx) :
    (outsAt0 (F := Ideal) m c t.val t.isLt).2.2.2.1 j
      = ((outsAt0 (F := Ideal) m c (t.val - 1) (Nat.lt_of_le_of_lt (Nat.sub_le _ _) t.isLt)).2.2.2.1 j + colIn (rowsOf (p := 1024) (m ((c : Thread nD τ).loc main_arg0)) t.val) (rowsOf (p := 1024) (m ((c : Thread nD τ).loc main_arg1)) t.val) (rowsOf (p := 1024) (m ((c : Thread nD τ).loc main_arg2)) t.val) (m ((c : Thread nD τ).loc main_arg3)) (m ((c : Thread nD τ).loc main_arg4)) j : EReal) := by
  rw [outsAt0_B (F := Ideal) m c t h0]
  dsimp only
  rw [out8_B, iblk_0, iblk_1, iblk_2, iblk_3, iblk_4]

/-- The gradient of the bias after point `n`: the sum over the points so far. -/
theorem outs8 (c : Dev nD) (j : S1x1024.Idx) (n : ℕ) : ∀ h : n < cfg0.N,
    (outsAt0 (F := Ideal) m c n h).2.2.2.1 j = ∑ s ∈ Finset.range (n + 1), colIn (rowsOf (p := 1024) (m ((c : Thread nD τ).loc main_arg0)) s) (rowsOf (p := 1024) (m ((c : Thread nD τ).loc main_arg1)) s) (rowsOf (p := 1024) (m ((c : Thread nD τ).loc main_arg2)) s) (m ((c : Thread nD τ).loc main_arg3)) (m ((c : Thread nD τ).loc main_arg4)) j := by
  induction n with
  | zero =>
    intro h
    rw [Finset.sum_range_one]
    exact step8_A m c ⟨0, h⟩ rfl j
  | succ n ih =>
    intro h
    have hN : cfg0.N = 16 := N_0
    have hB : ¬(⟨n + 1, h⟩ : Fin cfg0.N).val % 16 = 0 := by dsimp only; omega
    rw [Finset.sum_range_succ, ← ih (Nat.lt_of_succ_lt h)]
    exact step8_B m c ⟨n + 1, h⟩ hB j

/-- The gradient of the bias: the sum over the sixteen blocks of rows. -/
def total8 (x0 : S4096x1024.Idx → EReal) (x1 : S4096x1024.Idx → EReal) (x2 : S4096x1024.Idx → EReal) (x3 : S1x1024.Idx → EReal) (x4 : S1x1024.Idx → EReal) : S1x1024.Idx → EReal :=
  fun j => ∑ s ∈ Finset.range 16, colIn (rowsOf (p := 1024) x0 s) (rowsOf (p := 1024) x1 s) (rowsOf (p := 1024) x2 s) x3 x4 j

/-- The one point that writes it back writes the whole sum. -/
theorem flushed8 (c : Dev nD) (t : Fin cfg0.N) (hf : (cfg0.win 8).flush t = true) :
    (dats (F := Ideal) m 0 c).flushed 8 t = ((cfg0.win 8).blk t).view.read (Elt Ideal) (total8 (m ((c : Thread nD τ).loc main_arg0)) (m ((c : Thread nD τ).loc main_arg1)) (m ((c : Thread nD τ).loc main_arg2)) (m ((c : Thread nD τ).loc main_arg3)) (m ((c : Thread nD τ).loc main_arg4))) := by
  have h15 : t.val = 15 := by have h1 := (flush0_8 t).mp hf; have h2 := lt0 t; omega
  rw [blk_8, Value.flushed8]
  refine funext fun (j : S1x1024.Idx) => ?_
  refine (outs8 m c j t.val t.isLt).trans ?_
  rw [h15]
  rfl

/-- The last point's block is the whole of it. -/
theorem cover8 (i : S1x1024.Idx) : ∃ t : Fin cfg0.N, (cfg0.win 8).flush t = true ∧ i ∈ ((cfg0.win 8).blk t).view.set := by
  have h0 : (i 0).val < 1 := (i 0).isLt
  have h1 : (i 1).val < 1024 := (i 1).isLt
  have ht : 15 < cfg0.N := lt_of_lt_of_eq (by omega : 15 < 16) N_0.symm
  refine ⟨⟨15, ht⟩, (flush0_8 _).mpr rfl, ?_⟩
  have hi := idx_8 ⟨15, ht⟩
  show i ∈ ((View.whole (Pipeline.arrRef spec0 8)).slice (win0_8.rect ⟨15, ht⟩)).set
  rw [View.set_slice_whole, Rect.mem_set_unit]
  intro a
  match a with
  | ⟨0, _⟩ => show win0_8.index ⟨15, ht⟩ 0 * 1 ≤ (i 0).val ∧ (i 0).val < win0_8.index ⟨15, ht⟩ 0 * 1 + 1; rw [hi.1]; omega
  | ⟨1, _⟩ => show win0_8.index ⟨15, ht⟩ 1 * 1024 ≤ (i 1).val ∧ (i 1).val < win0_8.index ⟨15, ht⟩ 1 * 1024 + 1024; rw [hi.2]; omega

/-- The gradient of the bias after the run. -/
theorem final8 (c : Dev nD) : (dats (F := Ideal) m 0 c).arrAt 8 cfg0.N = total8 (m ((c : Thread nD τ).loc main_arg0)) (m ((c : Thread nD τ).loc main_arg1)) (m ((c : Thread nD τ).loc main_arg2)) (m ((c : Thread nD τ).loc main_arg3)) (m ((c : Thread nD τ).loc main_arg4)) :=
  (dats (F := Ideal) m 0 c).arrAt_eq_of_cover 8 (total8 (m ((c : Thread nD τ).loc main_arg0)) (m ((c : Thread nD τ).loc main_arg1)) (m ((c : Thread nD τ).loc main_arg2)) (m ((c : Thread nD τ).loc main_arg3)) (m ((c : Thread nD τ).loc main_arg4))) (fun t hf => flushed8 m c t hf) cover8

/-- The column sums of the incoming gradient after the first point. -/
theorem step9_A (c : Dev nD) (t : Fin cfg0.N) (h0 : t.val % 16 = 0) (j : S1x1024.Idx) :
    (outsAt0 (F := Ideal) m c t.val t.isLt).2.2.2.2 j = colPass (rowsOf (p := 1024) (m ((c : Thread nD τ).loc main_arg0)) t.val) (rowsOf (p := 1024) (m ((c : Thread nD τ).loc main_arg1)) t.val) (rowsOf (p := 1024) (m ((c : Thread nD τ).loc main_arg2)) t.val) (m ((c : Thread nD τ).loc main_arg3)) (m ((c : Thread nD τ).loc main_arg4)) j := by
  rw [outsAt0_A (F := Ideal) m c t h0]
  dsimp only
  rw [out9_A, iblk_0, iblk_1, iblk_2, iblk_3, iblk_4]

/-- The column sums of the incoming gradient after a later point. -/
theorem step9_B (c : Dev nD) (t : Fin cfg0.N) (h0 : ¬t.val % 16 = 0) (j : S1x1024.Idx) :
    (outsAt0 (F := Ideal) m c t.val t.isLt).2.2.2.2 j
      = ((outsAt0 (F := Ideal) m c (t.val - 1) (Nat.lt_of_le_of_lt (Nat.sub_le _ _) t.isLt)).2.2.2.2 j + colPass (rowsOf (p := 1024) (m ((c : Thread nD τ).loc main_arg0)) t.val) (rowsOf (p := 1024) (m ((c : Thread nD τ).loc main_arg1)) t.val) (rowsOf (p := 1024) (m ((c : Thread nD τ).loc main_arg2)) t.val) (m ((c : Thread nD τ).loc main_arg3)) (m ((c : Thread nD τ).loc main_arg4)) j : EReal) := by
  rw [outsAt0_B (F := Ideal) m c t h0]
  dsimp only
  rw [out9_B, iblk_0, iblk_1, iblk_2, iblk_3, iblk_4]

/-- The column sums of the incoming gradient after point `n`: the sum over the points so far. -/
theorem outs9 (c : Dev nD) (j : S1x1024.Idx) (n : ℕ) : ∀ h : n < cfg0.N,
    (outsAt0 (F := Ideal) m c n h).2.2.2.2 j = ∑ s ∈ Finset.range (n + 1), colPass (rowsOf (p := 1024) (m ((c : Thread nD τ).loc main_arg0)) s) (rowsOf (p := 1024) (m ((c : Thread nD τ).loc main_arg1)) s) (rowsOf (p := 1024) (m ((c : Thread nD τ).loc main_arg2)) s) (m ((c : Thread nD τ).loc main_arg3)) (m ((c : Thread nD τ).loc main_arg4)) j := by
  induction n with
  | zero =>
    intro h
    rw [Finset.sum_range_one]
    exact step9_A m c ⟨0, h⟩ rfl j
  | succ n ih =>
    intro h
    have hN : cfg0.N = 16 := N_0
    have hB : ¬(⟨n + 1, h⟩ : Fin cfg0.N).val % 16 = 0 := by dsimp only; omega
    rw [Finset.sum_range_succ, ← ih (Nat.lt_of_succ_lt h)]
    exact step9_B m c ⟨n + 1, h⟩ hB j

/-- The column sums of the incoming gradient: the sum over the sixteen blocks of rows. -/
def total9 (x0 : S4096x1024.Idx → EReal) (x1 : S4096x1024.Idx → EReal) (x2 : S4096x1024.Idx → EReal) (x3 : S1x1024.Idx → EReal) (x4 : S1x1024.Idx → EReal) : S1x1024.Idx → EReal :=
  fun j => ∑ s ∈ Finset.range 16, colPass (rowsOf (p := 1024) x0 s) (rowsOf (p := 1024) x1 s) (rowsOf (p := 1024) x2 s) x3 x4 j

/-- The one point that writes it back writes the whole sum. -/
theorem flushed9 (c : Dev nD) (t : Fin cfg0.N) (hf : (cfg0.win 9).flush t = true) :
    (dats (F := Ideal) m 0 c).flushed 9 t = ((cfg0.win 9).blk t).view.read (Elt Ideal) (total9 (m ((c : Thread nD τ).loc main_arg0)) (m ((c : Thread nD τ).loc main_arg1)) (m ((c : Thread nD τ).loc main_arg2)) (m ((c : Thread nD τ).loc main_arg3)) (m ((c : Thread nD τ).loc main_arg4))) := by
  have h15 : t.val = 15 := by have h1 := (flush0_9 t).mp hf; have h2 := lt0 t; omega
  rw [blk_9, Value.flushed9]
  refine funext fun (j : S1x1024.Idx) => ?_
  refine (outs9 m c j t.val t.isLt).trans ?_
  rw [h15]
  rfl

/-- The last point's block is the whole of it. -/
theorem cover9 (i : S1x1024.Idx) : ∃ t : Fin cfg0.N, (cfg0.win 9).flush t = true ∧ i ∈ ((cfg0.win 9).blk t).view.set := by
  have h0 : (i 0).val < 1 := (i 0).isLt
  have h1 : (i 1).val < 1024 := (i 1).isLt
  have ht : 15 < cfg0.N := lt_of_lt_of_eq (by omega : 15 < 16) N_0.symm
  refine ⟨⟨15, ht⟩, (flush0_9 _).mpr rfl, ?_⟩
  have hi := idx_9 ⟨15, ht⟩
  show i ∈ ((View.whole (Pipeline.arrRef spec0 9)).slice (win0_9.rect ⟨15, ht⟩)).set
  rw [View.set_slice_whole, Rect.mem_set_unit]
  intro a
  match a with
  | ⟨0, _⟩ => show win0_9.index ⟨15, ht⟩ 0 * 1 ≤ (i 0).val ∧ (i 0).val < win0_9.index ⟨15, ht⟩ 0 * 1 + 1; rw [hi.1]; omega
  | ⟨1, _⟩ => show win0_9.index ⟨15, ht⟩ 1 * 1024 ≤ (i 1).val ∧ (i 1).val < win0_9.index ⟨15, ht⟩ 1 * 1024 + 1024; rw [hi.2]; omega

/-- The column sums of the incoming gradient after the run. -/
theorem final9 (c : Dev nD) : (dats (F := Ideal) m 0 c).arrAt 9 cfg0.N = total9 (m ((c : Thread nD τ).loc main_arg0)) (m ((c : Thread nD τ).loc main_arg1)) (m ((c : Thread nD τ).loc main_arg2)) (m ((c : Thread nD τ).loc main_arg3)) (m ((c : Thread nD τ).loc main_arg4)) :=
  (dats (F := Ideal) m 0 c).arrAt_eq_of_cover 9 (total9 (m ((c : Thread nD τ).loc main_arg0)) (m ((c : Thread nD τ).loc main_arg1)) (m ((c : Thread nD τ).loc main_arg2)) (m ((c : Thread nD τ).loc main_arg3)) (m ((c : Thread nD τ).loc main_arg4))) (fun t hf => flushed9 m c t hf) cover9

/-- The kernel's run: each result array, and the arguments as they were. -/
theorem run : θ_run defs (onTc (τ := τ) (main (F := Ideal))) ⟨m, fun _ => 0, ρ⟩ (fun r => ∀ c : Dev nD,
      r.2.mem ((c : Thread nD τ).loc main_v0_0) = dIn (n := 4096) (m ((c : Thread nD τ).loc main_arg0)) (m ((c : Thread nD τ).loc main_arg1)) (m ((c : Thread nD τ).loc main_arg3)) (m ((c : Thread nD τ).loc main_arg4))
      ∧ r.2.mem ((c : Thread nD τ).loc main_v0_1) = total6 (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_v0_2) = total7 (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_v0_3) = total8 (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_v0_4) = total9 (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)) :=
  (θ_run defs _ _).mono (fun _ h c => ⟨(h c).1.trans (final5 m c), (h c).2.1.trans (final6 m c), (h c).2.2.1.trans (final7 m c), (h c).2.2.2.1.trans (final8 m c), (h c).2.2.2.2.1.trans (final9 m c), (h c).2.2.2.2.2⟩)
    (Value.run_blocks (F := Ideal) m ρ)

end Cert.Kernel9Ideal.RefValue

end
-- ==== Proof.SwishReference.lean ====
/-
The normalisation's reference: on finite rows, what the differentiated text gives is the kernel's gradient.
-/
module

public import proofs.«01_k».proof.Proof.SwishArrays
public import proofs.«01_k».proof.Proof.Gen.Reference9Ideal.Run
public import proofs.«01_k».proof.Proof.Gen.Reference9Ideal.Read

@[expose] public section

set_option maxRecDepth 16384

noncomputable section

namespace Cert.Reference9Ideal.RefValue

open Cert.Reference9Ideal Cert.Reference9Ideal.Gen Cert.Reference9Ideal.Read
open Idealize.ShloMosaic Idealize.ShloMosaic.TcCoe Idealize.SL.Sem
open Cert.Kernel9Ideal.RefValue (arg dArg dIn total6 total7 total8 total9)
open Cert.Products (Mat)
open Cert.Rowwise (rowsOf colSum row colSum_blocks)
open Cert.Logistic (logistic dSilu dSilu_product dSilu_real)
open Cert.Norm (Row width eps mean centred spread invDev normal dNormal dSpread dCentred dSteps dSteps_eq)

/-- No entry of the incoming gradient, of the rows and of the scale is infinite. -/
structure Finite (x0 x1 : Mat 4096 1024) (x3 : Mat 1 1024) : Prop where
  incoming : ∀ j, ∃ r : ℝ, x0 j = r
  rows : ∀ j, ∃ r : ℝ, x1 j = r
  scale : ∀ j, ∃ r : ℝ, x3 j = r

theorem zero_word : (FloatOps.ofBits .f32 0x00000000#32 : Ideal .f32) = (0 : EReal) := Ideal.ofBits_zero_f32

theorem one_word : (FloatOps.ofBits .f32 0x3F800000#32 : Ideal .f32) = (1 : EReal) := Ideal.ofBits_one_f32

/-! ## The normalisation -/

section
variable (x1 : Mat 4096 1024)

/-- The rows' means. -/
theorem v3_eq (i : S4096x1.Idx) : val_main_v3 (F := Ideal) x1 i = mean (row x1 (i 0)) := by
  rw [val_main_v3_apply, val_main_v1_apply, val_main_v0_apply, val_main_v2_apply, val_main_cst_0_apply, val_main_cst_apply, zero_word]
  refine congrArg (fun t => Ideal.div t width) ((zero_add _).trans (Finset.sum_congr rfl fun k _ => congrArg x1 ?_))
  funext a
  match a with
  | ⟨0, _⟩ => rfl
  | ⟨1, _⟩ => rfl

theorem v5_eq (i : S4096x1024.Idx) : val_main_v5 (F := Ideal) x1 i = centred (row x1 (i 0)) (i 1) := by
  rw [val_main_v5_apply, val_main_v4_apply, v3_eq]
  exact congrArg (· - mean (row x1 (i 0))) (congrArg x1 (eq_ix2 i))

theorem v12_eq (i : S4096x1.Idx) : val_main_v12 (F := Ideal) x1 i = spread (row x1 (i 0)) := by
  rw [val_main_v12_apply, val_main_v10_apply, val_main_v8_apply, val_main_v7_apply, val_main_v9_apply, val_main_cst_2_apply,
    val_main_cst_1_apply, val_main_v11_apply, val_main_cst_3_apply, zero_word]
  simp only [val_main_v6_apply, v5_eq]
  exact congrArg (fun t => Ideal.div t width + eps) (zero_add _)

theorem v13_eq (i : S4096x1.Idx) : val_main_v13 (F := Ideal) x1 i = invDev (row x1 (i 0)) := by
  rw [val_main_v13_apply, v12_eq]
  rfl

theorem v18_eq (i : S4096x1024.Idx) : val_main_v18 (F := Ideal) x1 i = normal (row x1 (i 0)) (i 1) := by
  rw [val_main_v18_apply, v5_eq, val_main_v17_apply, v13_eq]
  rfl

end

/-! ## The logistic function and its derivative -/

section
variable (x0 x1 : Mat 4096 1024) (x3 x4 : Mat 1 1024)

theorem v22_eq (i : S4096x1024.Idx) : val_main_v22 (F := Ideal) x1 x3 x4 i = arg x1 x3 x4 i := by
  rw [val_main_v22_apply, val_main_v20_apply, v18_eq, val_main_v19_apply, val_main_v21_apply]
  refine congrArg₂ (· + ·) (congrArg (normal (row x1 (i 0)) (i 1) * ·) (congrArg x3 ?_)) (congrArg x4 ?_)
  · funext a
    match a with
    | ⟨0, _⟩ => rfl
    | ⟨1, _⟩ => rfl
  · funext a
    match a with
    | ⟨0, _⟩ => rfl
    | ⟨1, _⟩ => rfl

theorem v23_eq (i : S4096x1024.Idx) : val_main_v23_2 (F := Ideal) x1 x3 x4 i = logistic (arg x1 x3 x4 i) := by
  rw [val_main_v23_2_apply, val_main_call0_v4_apply, val_main_call0_cst_0_apply, val_main_call0_v3_apply, val_main_call0_v2_apply,
    val_main_call0_cst_apply, val_main_call0_v1_apply, val_main_call0_v0_apply, v22_eq, one_word]
  rfl

/-- The gradient of the logistic function's argument. -/
theorem v24_eq (hx : ∀ j, ∃ r : ℝ, x0 j = r) (i : S4096x1024.Idx) :
    val_main_v24 (F := Ideal) x0 x1 x3 x4 i = dArg x0 x1 x3 x4 i := by
  obtain ⟨r, hr⟩ := hx i
  rw [val_main_v24_apply, val_main_call1_v1_apply, val_main_call1_v2_apply, val_main_call1_v0_apply, val_main_v23_1_apply,
    val_main_call0_v7_apply, val_main_call0_v6_apply, val_main_call0_cst_1_apply, v23_eq, v22_eq, one_word]
  unfold dArg
  rw [hr]
  exact dSilu_product r _

/-- The gradient of the normalised rows. -/
def dRow (q : Fin 4096) : Row := fun k => dArg x0 x1 x3 x4 (ix2 q k) * x3 (ix2 0 k)

theorem v31_eq (hx : ∀ j, ∃ r : ℝ, x0 j = r) (i : S4096x1024.Idx) :
    val_main_v31 (F := Ideal) x0 x1 x3 x4 i = dRow x0 x1 x3 x4 (i 0) (i 1) := by
  rw [val_main_v31_apply, v24_eq x0 x1 x3 x4 hx, val_main_v30_apply]
  refine congrArg₂ (· * ·) (congrArg _ (eq_ix2 i)) (congrArg x3 ?_)
  funext a
  match a with
  | ⟨0, _⟩ => rfl
  | ⟨1, _⟩ => rfl

theorem v41_eq (hx : ∀ j, ∃ r : ℝ, x0 j = r) (i : S4096x1024.Idx) :
    val_main_v41 (F := Ideal) x0 x1 x3 x4 i = dSpread (row x1 (i 0)) (dRow x0 x1 x3 x4 (i 0)) := by
  rw [val_main_v41_apply, val_main_v40_apply, val_main_cst_9_apply, zero_word, Fin.sum_univ_one, val_main_v39_apply,
    val_main_v37_apply, val_main_v34_apply, val_main_v33_apply, val_main_cst_7_apply, zero_word, val_main_v16_apply,
    val_main_v15_apply, val_main_cst_4_apply, val_main_v14_apply, v13_eq, v12_eq, val_main_v38_apply, val_main_cst_8_apply]
  simp only [val_main_v32_apply, v5_eq, v31_eq x0 x1 x3 x4 hx]
  refine (zero_add _).trans ?_
  refine congrArg (fun t => Ideal.div (t * (Ideal.ofBits .f32 0xBF000000#32 * Ideal.div (invDev (row x1 (i 0))) (spread (row x1 (i 0))))) width) ((zero_add _).trans ?_)
  refine Finset.sum_congr rfl fun k _ => ?_
  have e : (⟨(i 0).val * 1 + 0, by have h0 : (i 0).val < 4096 := (i 0).isLt; omega⟩ : Fin 4096) = i 0 := Fin.ext (by simp)
  exact congrArg (fun q : Fin 4096 => centred (row x1 q) k * dRow x0 x1 x3 x4 q k) e

theorem v45_eq (hx : ∀ j, ∃ r : ℝ, x0 j = r) (i : S4096x1024.Idx) :
    val_main_v45 (F := Ideal) x0 x1 x3 x4 i = dCentred (row x1 (i 0)) (dRow x0 x1 x3 x4 (i 0)) (i 1) := by
  rw [val_main_v45_apply, val_main_v43_apply, val_main_v36_apply, val_main_v35_apply, val_main_v42_apply, val_main_v44_apply,
    v31_eq x0 x1 x3 x4 hx, v13_eq, v5_eq, v41_eq x0 x1 x3 x4 hx]
  rfl

theorem v52_eq (hx : ∀ j, ∃ r : ℝ, x0 j = r) (i : S4096x1024.Idx) :
    val_main_v52 (F := Ideal) x0 x1 x3 x4 i = mean (fun l => -dCentred (row x1 (i 0)) (dRow x0 x1 x3 x4 (i 0)) l) := by
  rw [val_main_v52_apply, val_main_v51_apply, val_main_cst_12_apply, zero_word, Fin.sum_univ_one, val_main_v50_apply,
    val_main_v48_apply, val_main_v47_apply, val_main_cst_10_apply, zero_word, val_main_v49_apply, val_main_cst_11_apply]
  simp only [val_main_v46_apply, v45_eq x0 x1 x3 x4 hx]
  refine (zero_add _).trans (congrArg (fun t => Ideal.div t width) ((zero_add _).trans (Finset.sum_congr rfl fun k _ => ?_)))
  have e : (⟨(i 0).val * 1 + 0, by have h0 : (i 0).val < 4096 := (i 0).isLt; omega⟩ : Fin 4096) = i 0 := Fin.ext (by simp)
  exact congrArg (fun q : Fin 4096 => -dCentred (row x1 q) (dRow x0 x1 x3 x4 q) k) e

/-- The gradient of the rows before the normalisation. -/
theorem v53_apply (h : Finite x0 x1 x3) (i : S4096x1024.Idx) : val_main_v53 (F := Ideal) x0 x1 x3 x4 i = dIn x0 x1 x3 x4 i := by
  rw [val_main_v53_apply, v45_eq x0 x1 x3 x4 h.incoming, v52_eq x0 x1 x3 x4 h.incoming]
  refine dSteps_eq (row x1 (i 0)) (dRow x0 x1 x3 x4 (i 0)) (fun k => h.rows _) (fun k => ?_) (i 1)
  obtain ⟨d, hd⟩ := h.incoming (ix2 (i 0) k)
  obtain ⟨g, hg⟩ := h.scale (ix2 0 k)
  obtain ⟨r, hr⟩ := dSilu_real d (arg x1 x3 x4 (ix2 (i 0) k))
  refine ⟨r * g, ?_⟩
  unfold dRow dArg
  rw [hd, hg, hr, EReal.coe_mul]

/-! ## The results -/

/-- The first result: the gradient of the rows. -/
theorem v53_eq (h : Finite x0 x1 x3) : val_main_v53 (F := Ideal) x0 x1 x3 x4 = dIn x0 x1 x3 x4 :=
  funext (v53_apply x0 x1 x3 x4 h)

theorem place (i : S1x1024.Idx) : (⟨(i 0).val * 1024 + (i 1).val, by have h0 : (i 0).val < 1 := (i 0).isLt; have h1 : (i 1).val < 1024 := (i 1).isLt; omega⟩ : Fin 1024) = i 1 := by
  have h0 : (i 0).val < 1 := (i 0).isLt
  exact Fin.ext (by dsimp only; omega)

variable (x2 : Mat 4096 1024)

/-- The second result: the gradient of the scale. -/
theorem v29_eq (h : Finite x0 x1 x3) : val_main_v29 (F := Ideal) x0 x1 x3 x4 = total6 x0 x1 x2 x3 x4 := by
  funext i
  refine Eq.trans ?_ (colSum_blocks (fun j => dArg x0 x1 x3 x4 j * normal (row x1 (j 0)) (j 1)) i).symm
  rw [val_main_v29_apply, val_main_v28_apply, val_main_cst_6_apply, zero_word]
  simp only [val_main_v27_apply, v18_eq, v24_eq x0 x1 x3 x4 h.incoming]
  refine (zero_add _).trans (Finset.sum_congr rfl fun k _ => (mul_comm _ _).trans ?_)
  refine congrArg (fun j : S4096x1024.Idx => dArg x0 x1 x3 x4 j * normal (row x1 (j 0)) (j 1)) ?_
  funext a
  match a with
  | ⟨0, _⟩ => rfl
  | ⟨1, _⟩ => exact place i

/-- The third result: the gradient of the shift. -/
theorem v26_eq (h : Finite x0 x1 x3) : val_main_v26 (F := Ideal) x0 x1 x3 x4 = total7 x0 x1 x2 x3 x4 := by
  funext i
  refine Eq.trans ?_ (colSum_blocks (dArg x0 x1 x3 x4) i).symm
  rw [val_main_v26_apply, val_main_v25_apply, val_main_cst_5_apply, zero_word]
  simp only [v24_eq x0 x1 x3 x4 h.incoming]
  refine (zero_add _).trans (Finset.sum_congr rfl fun k _ => congrArg (dArg x0 x1 x3 x4) ?_)
  funext a
  match a with
  | ⟨0, _⟩ => rfl
  | ⟨1, _⟩ => exact place i

/-- The fourth result: the gradient of the bias before the normalisation. -/
theorem v55_eq (h : Finite x0 x1 x3) : val_main_v55 (F := Ideal) x0 x1 x3 x4 = total8 x0 x1 x2 x3 x4 := by
  funext i
  refine Eq.trans ?_ (colSum_blocks (dIn x0 x1 x3 x4) i).symm
  rw [val_main_v55_apply, val_main_v54_apply, val_main_cst_13_apply, zero_word]
  simp only [v53_apply x0 x1 x3 x4 h]
  refine (zero_add _).trans (Finset.sum_congr rfl fun k _ => congrArg (dIn x0 x1 x3 x4) ?_)
  funext a
  match a with
  | ⟨0, _⟩ => rfl
  | ⟨1, _⟩ => rfl

/-- The fifth result: the column sums of the step's incoming gradient. -/
theorem v58_eq : val_main_v58 (F := Ideal) x2 = total9 x0 x1 x2 x3 x4 := by
  funext i
  refine Eq.trans ?_ (colSum_blocks x2 i).symm
  rw [val_main_v58_apply, val_main_v57_apply, val_main_cst_14_apply, zero_word]
  simp only [val_main_v56_apply]
  refine (zero_add _).trans (Finset.sum_congr rfl fun k _ => congrArg x2 ?_)
  funext a
  match a with
  | ⟨0, _⟩ => rfl
  | ⟨1, _⟩ => rfl

end

end Cert.Reference9Ideal.RefValue

end
-- ==== Proof.Swish.lean ====
/-
The normalisation's gradient: the run of the reference, and the claims about the two programs.
-/
module

public import proofs.«01_k».proof.Defs
public import proofs.«01_k».proof.Proof.Gen.Kernel9.Frame
public import proofs.«01_k».proof.Proof.Gen.Pre_finite_rows
public import proofs.«01_k».proof.Proof.SwishReference
public import Idealize.ShloMosaic.Lib.Quiescent

@[expose] public section

set_option maxRecDepth 16384

noncomputable section

namespace Cert.SwishProof

open Idealize.ShloMosaic Idealize.ShloMosaic.TcCoe Idealize.SL.Sem
open Cert.Kernel9Ideal.RefValue (dIn total6 total7 total8 total9)
open Cert.Reference9Ideal.RefValue (Finite)

/-- The run at the machine's words leaves the arguments and the counters as they were. -/
theorem frame_kernel : Cert.quiescent_Kernel9 := fun m ρ _ => Cert.Kernel9.Gen.frame (F := Bits) m ρ

/-- So does the run on the extended reals. -/
theorem frame_ideal : Cert.quiescent_Kernel9Ideal := fun m ρ _ => Cert.Kernel9Ideal.Gen.frame (F := Ideal) m ρ

/-- And so from the initial memories that the precondition allows. -/
theorem frame_ideal_pre [Cert.Pre_finite_rows.Facts] : Cert.quiescent_Kernel9Ideal_pre_finite_rows :=
  fun m ρ _ => Cert.Kernel9Ideal.Gen.frame (F := Ideal) m ρ

section
open Cert.Reference9Ideal

/-- The reference leaves its arguments as they were; it has no counters. -/
theorem frame_reference : Cert.quiescent_Reference9Ideal := fun m ρ _ =>
  (θ_run defs _ _).mono (fun r h => ⟨fun c => (h c).2.2.2.2.2, sem_eq_zero_of_no_sems (by decide) r.2⟩)
    (Cert.Reference9Ideal.Value.run (F := Ideal) m ρ)

/-- And so from the initial memories that the precondition allows. -/
theorem frame_reference_pre [Cert.Pre_finite_rows.Facts] : Cert.quiescent_Reference9Ideal_pre_finite_rows :=
  fun m ρ _ => frame_reference m ρ trivial

variable (m : (ℓ : Loc nD τ sig) → Buf (Elt Ideal) ℓ) (ρ : Dev nD → PrngReg)

/-- From finite rows the reference ends with the same five functions of its arguments that the kernel computes. -/
theorem reference_run (hf : ∀ c : Dev nD, Finite (m ((c : Thread nD τ).loc main_arg0)) (m ((c : Thread nD τ).loc main_arg1)) (m ((c : Thread nD τ).loc main_arg3))) :
    θ_run defs (onTc (τ := τ) (main (F := Ideal))) ⟨m, fun _ => 0, ρ⟩ (fun r => ∀ c : Dev nD,
      r.2.mem ((c : Thread nD τ).loc main_v53) = dIn (n := 4096) (m ((c : Thread nD τ).loc main_arg0)) (m ((c : Thread nD τ).loc main_arg1)) (m ((c : Thread nD τ).loc main_arg3)) (m ((c : Thread nD τ).loc main_arg4))
      ∧ r.2.mem ((c : Thread nD τ).loc main_v29) = total6 (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_v26) = total7 (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_v55) = total8 (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_v58) = total9 (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)) :=
  (θ_run defs _ _).mono (fun _ h c =>
    ⟨((h c).1.trans (Read.val_main_v53_eq m c)).trans (RefValue.v53_eq _ _ _ _ (hf c)),
     ((h c).2.1.trans (Read.val_main_v29_eq m c)).trans (RefValue.v29_eq _ _ _ _ _ (hf c)),
     ((h c).2.2.1.trans (Read.val_main_v26_eq m c)).trans (RefValue.v26_eq _ _ _ _ _ (hf c)),
     ((h c).2.2.2.1.trans (Read.val_main_v55_eq m c)).trans (RefValue.v55_eq _ _ _ _ _ (hf c)),
     ((h c).2.2.2.2.1.trans (Read.val_main_v58_eq _)).trans (RefValue.v58_eq _ _ _ _ _), (h c).2.2.2.2.2⟩)
    (Value.run (F := Ideal) m ρ)

end

/-- A number whose absolute value tests below positive infinity is a real number. -/
theorem real_of_test (x : EReal)
    (h : (FloatOps.cmpf (F := Ideal) (φ := .f32) .olt (max x (-x) : EReal) (⊤ : EReal)) = 1#1) : ∃ r : ℝ, x = r := by
  have hlt : max x (-x) < (⊤ : EReal) := by
    by_contra hn
    have : (FloatOps.cmpf (F := Ideal) (φ := .f32) .olt (max x (-x) : EReal) (⊤ : EReal)) = 0#1 := by
      simp [FloatOps.cmpf, Ideal.cmp, hn]
    exact absurd (this.symm.trans h) (by decide)
  induction x with
  | bot => simp at hlt
  | top => simp at hlt
  | coe r => exact ⟨r, rfl⟩

/-- Both parts of a conjunction of bits hold where it does. -/
theorem and_bits : ∀ a b : BitVec 1, a &&& b = 1#1 → a = 1#1 ∧ b = 1#1 := by decide

/-- Where the precondition's test succeeds at every entry, the three arrays are finite. -/
theorem finite (x0 x1 : Cert.Pre_finite_rows.S4096x1024.Idx → EReal) (x2 : Cert.Pre_finite_rows.S4096x1024.Idx → EReal)
    (x3 x4 : Cert.Pre_finite_rows.S1x1024.Idx → EReal)
    (h : Cert.Pre_finite_rows.fn (F := Ideal) x0 x1 x2 x3 x4 = fun _ => 1#1) : Finite x0 x1 x3 := by
  simp only [Cert.Pre_finite_rows.fn] at h
  have hj := fun j => and_bits _ _ (congrFun h j)
  refine ⟨fun j => real_of_test _ ?_, fun j => real_of_test _ ?_, fun j => real_of_test _ ?_⟩
  · rw [← Cert.Words.infinity_word]
    exact (and_bits _ _ (hj j).1).1
  · rw [← Cert.Words.infinity_word]
    exact (and_bits _ _ (hj j).1).2
  · rw [← Cert.Words.infinity_word]
    have e := (hj (ix2 (0 : Fin 4096) (j 1))).2
    have ej : (fun a : Fin 2 => if h1 : (![1, 1024] : Fin 2 → ℕ) a = 1 then (⟨0, by rw [h1]; decide⟩ : Fin (![1, 1024] a))
        else ⟨((ix2 (0 : Fin 4096) (j 1)) ((![0, 1] : Fin 2 → Fin 2) a)).val, by
          fin_cases a
          · exact absurd rfl h1
          · exact (j 1).isLt⟩) = j := by
      funext a
      fin_cases a
      · exact (Subsingleton.elim (α := Fin 1) _ _)
      · rfl
    dsimp only [broadcastInDim] at e
    exact (congrArg (fun k => FloatOps.cmpf (F := Ideal) (φ := .f32) .olt (max (x3 k) (-(x3 k)) : EReal) (Ideal.ofBits .f32 0x7F800000#32)) ej.symm).trans e

section
open Cert.Kernel9Ideal

/-- From equal arguments with finite rows the kernel and the reference end with equal results: the gradient of the rows, those
    of the scale, of the shift and of the bias, and the column sums of the step's incoming gradient. -/
theorem algebraic : Cert.algebraic_Kernel9Ideal_Reference9Ideal_pre_finite_rows := fun m ρ m' ρ' hpre hag =>
  ⟨fun c => dIn (n := 4096) (m ((c : Thread nD τ).loc main_arg0)) (m ((c : Thread nD τ).loc main_arg1)) (m ((c : Thread nD τ).loc main_arg3)) (m ((c : Thread nD τ).loc main_arg4)),
   fun c => total6 (m ((c : Thread nD τ).loc main_arg0)) (m ((c : Thread nD τ).loc main_arg1)) (m ((c : Thread nD τ).loc main_arg2)) (m ((c : Thread nD τ).loc main_arg3)) (m ((c : Thread nD τ).loc main_arg4)),
   fun c => total7 (m ((c : Thread nD τ).loc main_arg0)) (m ((c : Thread nD τ).loc main_arg1)) (m ((c : Thread nD τ).loc main_arg2)) (m ((c : Thread nD τ).loc main_arg3)) (m ((c : Thread nD τ).loc main_arg4)),
   fun c => total8 (m ((c : Thread nD τ).loc main_arg0)) (m ((c : Thread nD τ).loc main_arg1)) (m ((c : Thread nD τ).loc main_arg2)) (m ((c : Thread nD τ).loc main_arg3)) (m ((c : Thread nD τ).loc main_arg4)),
   fun c => total9 (m ((c : Thread nD τ).loc main_arg0)) (m ((c : Thread nD τ).loc main_arg1)) (m ((c : Thread nD τ).loc main_arg2)) (m ((c : Thread nD τ).loc main_arg3)) (m ((c : Thread nD τ).loc main_arg4)),
   RefValue.run m ρ,
   (θ_run _ _ _).mono (fun r h c => by
      obtain ⟨h0, h1, h2, h3, h4⟩ := hag c
      have hc := h c
      rw [h0, h1, h2, h3, h4] at hc
      obtain ⟨e1, e2, e3, e4, e5, f0, f1, f2, f3, f4⟩ := hc
      exact ⟨e1, e2, e3, e4, e5, f0.trans h0.symm, f1.trans h1.symm, f2.trans h2.symm, f3.trans h3.symm, f4.trans h4.symm⟩)
    (reference_run m' ρ' fun c => by
      obtain ⟨h0, h1, h2, h3, h4⟩ := hag c
      rw [h0, h1, h3]
      exact finite _ _ _ _ _ (hpre c))⟩

end

end Cert.SwishProof
-- ==== Proof.Root.lean ====
/-
A row of 1024 entries divided by its root mean square, and the gradient in two forms that agree on finite rows.
-/
module

public import proofs.«01_k».proof.Proof.Norm

@[expose] public section

noncomputable section

namespace Cert.Root

open Idealize.ShloMosaic
open Cert.Norm (Row width eps mean meanR mean_coe coe_sum)

/-- The mean square with the small number added. -/
def power (u : Row) : EReal := mean (fun k => u k * u k) + eps

/-- The reciprocal of the root. -/
def invRoot (u : Row) : EReal := Ideal.rsqrt (power u)

/-- The row over its root mean square. -/
def scaled (u : Row) (k : Fin 1024) : EReal := u k * invRoot u

/-- The gradient of the row from that of its scaled entries, in the closed form. -/
def dScaled (u w : Row) (k : Fin 1024) : EReal :=
  invRoot u * (w k - scaled u k * mean (fun l => w l * scaled u l))

/-- What the gradient through the root contributes to an entry, but for the entry itself. -/
def dPower (u w : Row) : EReal :=
  Ideal.div ((∑ l, u l * w l) * (Ideal.ofBits .f32 0xBF000000#32 * Ideal.div (invRoot u) (power u))) width

/-- The gradient of the row by the rules of differentiation one operation at a time. -/
def dSteps (u w : Row) (k : Fin 1024) : EReal := w k * invRoot u + u k * dPower u w + dPower u w * u k

/-! ## On finite rows -/

section
variable (u w : Fin 1024 → ℝ)

/-- The mean square of real entries with the small number added. -/
def powerR : ℝ := meanR (fun k => u k * u k) + 8796093 / 2 ^ 43

theorem power_coe : power (fun k => (u k : EReal)) = (powerR u : EReal) := by
  unfold power powerR eps
  simp only [← EReal.coe_mul]
  rw [mean_coe (fun k => u k * u k), Words.eps_word, ← EReal.coe_add]

theorem powerR_pos : 0 < powerR u := by
  unfold powerR meanR
  have h : 0 ≤ ∑ k, u k * u k := Finset.sum_nonneg fun k _ => mul_self_nonneg _
  positivity

theorem invRoot_coe : invRoot (fun k => (u k : EReal)) = (((Real.sqrt (powerR u))⁻¹ : ℝ) : EReal) := by
  unfold invRoot
  have h := powerR_pos u
  rw [power_coe, Ideal.rsqrt_coe, if_neg (not_lt.mpr h.le), if_neg h.ne']

theorem scaled_coe (k : Fin 1024) :
    scaled (fun k => (u k : EReal)) k = ((u k * (Real.sqrt (powerR u))⁻¹ : ℝ) : EReal) := by
  unfold scaled
  rw [invRoot_coe, EReal.coe_mul]

/-- The closed form, on the reals. -/
theorem dScaled_coe (k : Fin 1024) : dScaled (fun k => (u k : EReal)) (fun k => (w k : EReal)) k
    = (((Real.sqrt (powerR u))⁻¹ * (w k - u k * (Real.sqrt (powerR u))⁻¹
        * meanR (fun l => w l * (u l * (Real.sqrt (powerR u))⁻¹))) : ℝ) : EReal) := by
  unfold dScaled
  simp only [scaled_coe, ← EReal.coe_mul, invRoot_coe, mean_coe, ← EReal.coe_sub]

/-- The gradient through the root, on the reals. -/
def dPowerR : ℝ := (∑ l, u l * w l) * (-(1 / 2) * ((Real.sqrt (powerR u))⁻¹ / powerR u)) / 1024

theorem dPower_coe : dPower (fun k => (u k : EReal)) (fun k => (w k : EReal)) = (dPowerR u w : EReal) := by
  unfold dPower width dPowerR
  simp only [← EReal.coe_mul]
  rw [coe_sum, invRoot_coe, power_coe, Words.neg_half_word, Words.width_word, Ideal.div_coe (powerR_pos u).ne', Ideal.div_coe (by norm_num)]
  simp only [← EReal.coe_mul]
  congr 1
  ring

/-- The two forms of the gradient agree. -/
theorem dSteps_coe (k : Fin 1024) : dSteps (fun k => (u k : EReal)) (fun k => (w k : EReal)) k
    = dScaled (fun k => (u k : EReal)) (fun k => (w k : EReal)) k := by
  unfold dSteps
  rw [dPower_coe, invRoot_coe, dScaled_coe]
  simp only [← EReal.coe_mul, ← EReal.coe_add]
  congr 1
  have hs := powerR_pos u
  have hq : (Real.sqrt (powerR u))⁻¹ * (Real.sqrt (powerR u))⁻¹ = (powerR u)⁻¹ := by
    rw [← mul_inv, Real.mul_self_sqrt hs.le]
  have h2 : meanR (fun l => w l * (u l * (Real.sqrt (powerR u))⁻¹)) = (∑ l, u l * w l) / 1024 * (Real.sqrt (powerR u))⁻¹ := by
    unfold meanR
    rw [div_mul_eq_mul_div, Finset.sum_mul]
    congr 1
    exact Finset.sum_congr rfl fun l _ => by ring
  rw [h2]
  unfold dPowerR
  generalize (∑ l, u l * w l) = T
  rw [div_eq_mul_inv _ (powerR u), ← hq]
  ring

end

/-- For rows without an infinite entry the two forms of the gradient agree. -/
theorem dSteps_eq (u w : Row) (hu : ∀ k, ∃ r : ℝ, u k = r) (hw : ∀ k, ∃ r : ℝ, w k = r) (k : Fin 1024) :
    dSteps u w k = dScaled u w k := by
  choose u' hu' using hu
  choose w' hw' using hw
  obtain rfl : u = fun k => (u' k : EReal) := funext hu'
  obtain rfl : w = fun k => (w' k : EReal) := funext hw'
  exact dSteps_coe u' w' k

end Cert.Root

end
-- ==== Proof.ModulationBlock.lean ====
/-
The gradient of the residual stream through a modulated norm and a gated sum: what one block of rows gives.
-/
module

public import proofs.«01_k».proof.Proof.Gen.Kernel10Ideal.Value
public import proofs.«01_k».proof.Proof.Rowwise
public import proofs.«01_k».proof.Proof.Root
public import Idealize.ShloMosaic.Lib.Pipeline.Value
public import Idealize.ShloMosaic.Lib.Pointwise
public import Idealize.ShloMosaic.Lib.ValueIdxCore

@[expose] public section

set_option maxRecDepth 16384

noncomputable section

namespace Cert.Kernel10Ideal.RefValue

open Cert.Kernel10Ideal Cert.Kernel10Ideal.Gen
open Idealize.ShloMosaic Idealize.ShloMosaic.TcCoe Idealize.SL.Sem
open Cert.Products (Mat)
open Cert.Rowwise (rowsOf colSum row)
open Cert.Root (invRoot scaled dScaled)

/-- The gradient of the row times its gain: the incoming gradient times one plus the scale. -/
def dGained {n : ℕ} (d : Mat n 1024) (s : Mat 1 1024) : Mat n 1024 := fun j => d j * (1 + s (ix2 0 (j 1)))

/-- The gradient of the scaled row. -/
def dRow {n : ℕ} (d : Mat n 1024) (g s : Mat 1 1024) : Mat n 1024 := fun j => dGained d s j * g (ix2 0 (j 1))

/-- The gradient of the stream: what comes past the norm, and what comes through it. -/
def dStream {n : ℕ} (r d x : Mat n 1024) (g s : Mat 1 1024) : Mat n 1024 := fun j =>
  r j + dScaled (row x (j 0)) (row (dRow d g s) (j 0)) (j 1)

/-- The gradient of the layer's output that a gate adds to the stream. -/
def dLayer {n : ℕ} (r d x : Mat n 1024) (g s e : Mat 1 1024) : Mat n 1024 := fun j => dStream r d x g s j * e (ix2 0 (j 1))

/-- The gradient of the shift. -/
def colShift {n : ℕ} (_r d _x _y : Mat n 1024) (_g _s _e : Mat 1 1024) : Mat 1 1024 := colSum d

/-- The gradient of the scale. -/
def colScale {n : ℕ} (_r d x _y : Mat n 1024) (g _s _e : Mat 1 1024) : Mat 1 1024 :=
  colSum (n := n) (fun j => d j * (scaled (row x (j 0)) (j 1) * g (ix2 0 (j 1))))

/-- The gradient of the gain. -/
def colGain {n : ℕ} (_r d x _y : Mat n 1024) (_g s _e : Mat 1 1024) : Mat 1 1024 :=
  colSum (n := n) (fun j => dGained d s j * scaled (row x (j 0)) (j 1))

/-- The gradient of the gate. -/
def colGate {n : ℕ} (r d x y : Mat n 1024) (g s _e : Mat 1 1024) : Mat 1 1024 :=
  colSum (n := n) (fun j => dStream r d x g s j * y j)

theorem pay2_eq (x2 : Vec Ideal S256x1024 .f32) (j : S256x1.Idx) : k0_pay2 x2 j = invRoot (row (n := 256) x2 (j 0)) := by
  unfold k0_pay2
  pointwise
  rfl

theorem pay3_eq (x2 : Vec Ideal S256x1024 .f32) (j : S256x1024.Idx) : k0_pay3 x2 j = scaled (row (n := 256) x2 (j 0)) (j 1) := by
  unfold k0_pay3
  pointwise
  simp only [pay2_eq]
  exact congrArg (fun t : EReal => t * invRoot (row (n := 256) x2 (j 0))) (congrArg x2 (eq_ix2 j))

theorem pay6_eq (x1 : Vec Ideal S256x1024 .f32) (x5 : Vec Ideal S1x1024 .f32) (j : S256x1024.Idx) :
    k0_pay6 x1 x5 j = dGained (n := 256) x1 x5 j := by
  unfold k0_pay6
  pointwise
  rfl

theorem pay8_eq (x1 : Vec Ideal S256x1024 .f32) (x4 x5 : Vec Ideal S1x1024 .f32) (j : S256x1024.Idx) :
    k0_pay8 x1 x4 x5 j = dRow (n := 256) x1 x4 x5 j := by
  unfold k0_pay8
  pointwise
  simp only [pay6_eq]
  rfl

theorem pay9_eq (x1 x2 : Vec Ideal S256x1024 .f32) (x4 x5 : Vec Ideal S1x1024 .f32) (j : S256x1.Idx) :
    k0_pay9 x1 x2 x4 x5 j = ∑ l, row (dRow (n := 256) x1 x4 x5) (j 0) l * scaled (row (n := 256) x2 (j 0)) l := by
  unfold k0_pay9
  pointwise
  simp only [pay8_eq, pay3_eq]
  rfl

theorem pay10_apply (x0 x1 x2 : Vec Ideal S256x1024 .f32) (x4 x5 : Vec Ideal S1x1024 .f32) (j : S256x1024.Idx) :
    k0_pay10 x0 (k0_pay2 x2) (k0_pay3 x2) (k0_pay8 x1 x4 x5) (k0_pay9 x1 x2 x4 x5) (Scalar.ofBits .f32 0x44800000#32) j
      = dStream (n := 256) x0 x1 x2 x4 x5 j := by
  unfold k0_pay10
  pointwise
  simp only [pay2_eq, pay3_eq, pay8_eq, pay9_eq]
  have h : dRow (n := 256) x1 x4 x5 j = row (dRow (n := 256) x1 x4 x5) (j 0) (j 1) := congrArg _ (eq_ix2 j)
  rw [h]
  rfl

theorem pay10_eq (x0 x1 x2 : Vec Ideal S256x1024 .f32) (x4 x5 : Vec Ideal S1x1024 .f32) :
    k0_pay10 x0 (k0_pay2 x2) (k0_pay3 x2) (k0_pay8 x1 x4 x5) (k0_pay9 x1 x2 x4 x5) (Scalar.ofBits .f32 0x44800000#32)
      = dStream (n := 256) x0 x1 x2 x4 x5 :=
  funext (pay10_apply x0 x1 x2 x4 x5)

theorem pay12_eq (x0 x1 x2 : Vec Ideal S256x1024 .f32) (x4 x5 x6 : Vec Ideal S1x1024 .f32) :
    k0_pay12 x0 x6 (k0_pay2 x2) (k0_pay3 x2) (k0_pay8 x1 x4 x5) (k0_pay9 x1 x2 x4 x5) (Scalar.ofBits .f32 0x44800000#32)
      = dLayer (n := 256) x0 x1 x2 x4 x5 x6 := by
  funext j
  unfold k0_pay12
  rw [pay10_eq]
  pointwise
  rfl

theorem pay17_eq (x0 x1 x2 x3 : Vec Ideal S256x1024 .f32) (x4 x5 x6 v : Vec Ideal S1x1024 .f32) (j : S1x1024.Idx) :
    k0_pay17 (k0_pay4 x1) v j = (v j + colShift (n := 256) x0 x1 x2 x3 x4 x5 x6 j : EReal) := by
  unfold k0_pay17 k0_pay4
  pointwise
  rfl

theorem pay18_eq (x0 x1 x2 x3 : Vec Ideal S256x1024 .f32) (x4 x5 x6 v : Vec Ideal S1x1024 .f32) (j : S1x1024.Idx) :
    k0_pay18 (k0_pay5 x1 x2 x4) v j = (v j + colScale (n := 256) x0 x1 x2 x3 x4 x5 x6 j : EReal) := by
  unfold k0_pay18 k0_pay5
  pointwise
  simp only [pay3_eq]
  rfl

theorem pay19_eq (x0 x1 x2 x3 : Vec Ideal S256x1024 .f32) (x4 x5 x6 v : Vec Ideal S1x1024 .f32) (j : S1x1024.Idx) :
    k0_pay19 (k0_pay7 x1 x2 x5) v j = (v j + colGain (n := 256) x0 x1 x2 x3 x4 x5 x6 j : EReal) := by
  unfold k0_pay19 k0_pay7
  pointwise
  simp only [pay3_eq, pay6_eq]
  rfl

theorem pay1_eq (x0 x1 x2 x3 : Vec Ideal S256x1024 .f32) (x4 x5 x6 v : Vec Ideal S1x1024 .f32) (j : S1x1024.Idx) :
    k0_pay1 (k0_pay11 x0 x3 (k0_pay2 x2) (k0_pay3 x2) (k0_pay8 x1 x4 x5) (k0_pay9 x1 x2 x4 x5) (Scalar.ofBits .f32 0x44800000#32))
      (k0_pay20 v) j = (v j + colGate (n := 256) x0 x1 x2 x3 x4 x5 x6 j : EReal) := by
  unfold k0_pay1 k0_pay11 k0_pay20
  rw [pay10_eq]
  pointwise
  rfl

theorem pay13_eq (j : S1x1024.Idx) : k0_pay13 (F := Ideal) j = (0 : EReal) := by
  unfold k0_pay13
  pointwise

theorem pay14_eq (j : S1x1024.Idx) : k0_pay14 (F := Ideal) j = (0 : EReal) := by
  unfold k0_pay14
  pointwise

theorem pay15_eq (j : S1x1024.Idx) : k0_pay15 (F := Ideal) j = (0 : EReal) := by
  unfold k0_pay15
  pointwise

theorem pay16_eq (j : S1x1024.Idx) : k0_pay16 (F := Ideal) j = (0 : EReal) := by
  unfold k0_pay16
  pointwise

end Cert.Kernel10Ideal.RefValue

end
-- ==== Proof.ModulationArrays.lean ====
/-
The residual stream's gradient: the arrays that the call leaves, as functions of its arguments, and the kernel's run.
-/
module

public import proofs.«01_k».proof.Proof.ModulationBlock

@[expose] public section

set_option maxRecDepth 16384

noncomputable section

namespace Cert.Kernel10Ideal.RefValue

open Cert.Kernel10Ideal Cert.Kernel10Ideal.Gen
open Idealize.ShloMosaic Idealize.ShloMosaic.TcCoe Idealize.SL.Sem
open Idealize.ShloMosaic.Pipeline (Dat)
open Cert.Products (Mat)
open Cert.Rowwise (rowsOf rowsOf_apply colSum colSum_blocks)

theorem hz : (![0, 0] : Fin 2 → Nat) = fun _ => 0 := funext fun a => by fin_cases a <;> rfl

/-! ## What one point's body leaves in the outputs' blocks -/

theorem out7_A (c : Dev nD) (i : grid0.Coords) (a1 : Memref sig .tc .vmem S256x1024 .f32) (h1 : a1.IsWhole) (a2 : Memref sig .tc .vmem S256x1024 .f32) (h2 : a2.IsWhole) (a3 : Memref sig .tc .vmem S256x1024 .f32) (h3 : a3.IsWhole) (a4 : Memref sig .tc .vmem S256x1024 .f32) (h4 : a4.IsWhole) (a5 : Memref sig .tc .vmem S1x1024 .f32) (h5 : a5.IsWhole) (a6 : Memref sig .tc .vmem S1x1024 .f32) (h6 : a6.IsWhole) (a7 : Memref sig .tc .vmem S1x1024 .f32) (h7 : a7.IsWhole) (a8 : Memref sig .tc .vmem S256x1024 .f32) (h8 : a8.IsWhole) (a9 : Memref sig .tc .vmem S256x1024 .bf16) (h9 : a9.IsWhole) (a10 : Memref sig .tc .vmem S1x1024 .f32) (h10 : a10.IsWhole) (a11 : Memref sig .tc .vmem S1x1024 .f32) (h11 : a11.IsWhole) (a12 : Memref sig .tc .vmem S1x1024 .f32) (h12 : a12.IsWhole) (a13 : Memref sig .tc .vmem S1x1024 .f32) (h13 : a13.IsWhole) (hc : cond0_0 i) (x0 : Vec Ideal S256x1024 .f32) (x1 : Vec Ideal S256x1024 .f32) (x2 : Vec Ideal S256x1024 .f32) (x3 : Vec Ideal S256x1024 .f32) (x4 : Vec Ideal S1x1024 .f32) (x5 : Vec Ideal S1x1024 .f32) (x6 : Vec Ideal S1x1024 .f32) :
    out0_A_7 (F := Ideal) c i a1 h1 a2 h2 a3 h3 a4 h4 a5 h5 a6 h6 a7 h7 a8 h8 a9 h9 a10 h10 a11 h11 a12 h12 a13 h13 hc x0 x1 x2 x3 x4 x5 x6 = dStream (n := 256) x0 x1 x2 x4 x5 := by
  unfold out0_A_7
  rw [View.read_writes_eq_canon _ _ _ (cover0_A_7 (F := Ideal) c i a1 h1 a2 h2 a3 h3 a4 h4 a5 h5 a6 h6 a7 h7 a8 h8 a9 h9 a10 h10 a11 h11 a12 h12 a13 h13 hc x0 x1 x2 x3 x4 x5 x6)]
  unfold kernelRun0_A
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, h10.read_unread, h11.read_unread, h12.read_unread, h13.read_unread, View.ld_unit_zero (S := S256x1024) hz, View.ld_unit_zero (S := S1x1024) hz]
  exact pay10_eq _ _ _ _ _

theorem out7_B (c : Dev nD) (i : grid0.Coords) (a1 : Memref sig .tc .vmem S256x1024 .f32) (h1 : a1.IsWhole) (a2 : Memref sig .tc .vmem S256x1024 .f32) (h2 : a2.IsWhole) (a3 : Memref sig .tc .vmem S256x1024 .f32) (h3 : a3.IsWhole) (a4 : Memref sig .tc .vmem S256x1024 .f32) (h4 : a4.IsWhole) (a5 : Memref sig .tc .vmem S1x1024 .f32) (h5 : a5.IsWhole) (a6 : Memref sig .tc .vmem S1x1024 .f32) (h6 : a6.IsWhole) (a7 : Memref sig .tc .vmem S1x1024 .f32) (h7 : a7.IsWhole) (a8 : Memref sig .tc .vmem S256x1024 .f32) (h8 : a8.IsWhole) (a9 : Memref sig .tc .vmem S256x1024 .bf16) (h9 : a9.IsWhole) (a10 : Memref sig .tc .vmem S1x1024 .f32) (h10 : a10.IsWhole) (a11 : Memref sig .tc .vmem S1x1024 .f32) (h11 : a11.IsWhole) (a12 : Memref sig .tc .vmem S1x1024 .f32) (h12 : a12.IsWhole) (a13 : Memref sig .tc .vmem S1x1024 .f32) (h13 : a13.IsWhole) (hc : ¬cond0_0 i) (x0 : Vec Ideal S256x1024 .f32) (x1 : Vec Ideal S256x1024 .f32) (x2 : Vec Ideal S256x1024 .f32) (x3 : Vec Ideal S256x1024 .f32) (x4 : Vec Ideal S1x1024 .f32) (x5 : Vec Ideal S1x1024 .f32) (x6 : Vec Ideal S1x1024 .f32) (xo9 : Vec Ideal S1x1024 .f32) (xo10 : Vec Ideal S1x1024 .f32) (xo11 : Vec Ideal S1x1024 .f32) (xo12 : Vec Ideal S1x1024 .f32) :
    out0_B_7 (F := Ideal) c i a1 h1 a2 h2 a3 h3 a4 h4 a5 h5 a6 h6 a7 h7 a8 h8 a9 h9 a10 h10 a11 h11 a12 h12 a13 h13 hc x0 x1 x2 x3 x4 x5 x6 xo9 xo10 xo11 xo12 = dStream (n := 256) x0 x1 x2 x4 x5 := by
  unfold out0_B_7
  rw [View.read_writes_eq_canon _ _ _ (cover0_B_7 (F := Ideal) c i a1 h1 a2 h2 a3 h3 a4 h4 a5 h5 a6 h6 a7 h7 a8 h8 a9 h9 a10 h10 a11 h11 a12 h12 a13 h13 hc x0 x1 x2 x3 x4 x5 x6 xo9 xo10 xo11 xo12)]
  unfold kernelRun0_B
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, h10.read_unread, h11.read_unread, h12.read_unread, h13.read_unread, View.ld_unit_zero (S := S256x1024) hz, View.ld_unit_zero (S := S1x1024) hz]
  exact pay10_eq _ _ _ _ _

theorem out8_A (c : Dev nD) (i : grid0.Coords) (a1 : Memref sig .tc .vmem S256x1024 .f32) (h1 : a1.IsWhole) (a2 : Memref sig .tc .vmem S256x1024 .f32) (h2 : a2.IsWhole) (a3 : Memref sig .tc .vmem S256x1024 .f32) (h3 : a3.IsWhole) (a4 : Memref sig .tc .vmem S256x1024 .f32) (h4 : a4.IsWhole) (a5 : Memref sig .tc .vmem S1x1024 .f32) (h5 : a5.IsWhole) (a6 : Memref sig .tc .vmem S1x1024 .f32) (h6 : a6.IsWhole) (a7 : Memref sig .tc .vmem S1x1024 .f32) (h7 : a7.IsWhole) (a8 : Memref sig .tc .vmem S256x1024 .f32) (h8 : a8.IsWhole) (a9 : Memref sig .tc .vmem S256x1024 .bf16) (h9 : a9.IsWhole) (a10 : Memref sig .tc .vmem S1x1024 .f32) (h10 : a10.IsWhole) (a11 : Memref sig .tc .vmem S1x1024 .f32) (h11 : a11.IsWhole) (a12 : Memref sig .tc .vmem S1x1024 .f32) (h12 : a12.IsWhole) (a13 : Memref sig .tc .vmem S1x1024 .f32) (h13 : a13.IsWhole) (hc : cond0_0 i) (x0 : Vec Ideal S256x1024 .f32) (x1 : Vec Ideal S256x1024 .f32) (x2 : Vec Ideal S256x1024 .f32) (x3 : Vec Ideal S256x1024 .f32) (x4 : Vec Ideal S1x1024 .f32) (x5 : Vec Ideal S1x1024 .f32) (x6 : Vec Ideal S1x1024 .f32) :
    out0_A_8 (F := Ideal) c i a1 h1 a2 h2 a3 h3 a4 h4 a5 h5 a6 h6 a7 h7 a8 h8 a9 h9 a10 h10 a11 h11 a12 h12 a13 h13 hc x0 x1 x2 x3 x4 x5 x6 = dLayer (n := 256) x0 x1 x2 x4 x5 x6 := by
  unfold out0_A_8
  rw [View.read_writes_eq_canon _ _ _ (cover0_A_8 (F := Ideal) c i a1 h1 a2 h2 a3 h3 a4 h4 a5 h5 a6 h6 a7 h7 a8 h8 a9 h9 a10 h10 a11 h11 a12 h12 a13 h13 hc x0 x1 x2 x3 x4 x5 x6)]
  unfold kernelRun0_A
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, h10.read_unread, h11.read_unread, h12.read_unread, h13.read_unread, View.ld_unit_zero (S := S256x1024) hz, View.ld_unit_zero (S := S1x1024) hz]
  exact pay12_eq _ _ _ _ _ _

theorem out8_B (c : Dev nD) (i : grid0.Coords) (a1 : Memref sig .tc .vmem S256x1024 .f32) (h1 : a1.IsWhole) (a2 : Memref sig .tc .vmem S256x1024 .f32) (h2 : a2.IsWhole) (a3 : Memref sig .tc .vmem S256x1024 .f32) (h3 : a3.IsWhole) (a4 : Memref sig .tc .vmem S256x1024 .f32) (h4 : a4.IsWhole) (a5 : Memref sig .tc .vmem S1x1024 .f32) (h5 : a5.IsWhole) (a6 : Memref sig .tc .vmem S1x1024 .f32) (h6 : a6.IsWhole) (a7 : Memref sig .tc .vmem S1x1024 .f32) (h7 : a7.IsWhole) (a8 : Memref sig .tc .vmem S256x1024 .f32) (h8 : a8.IsWhole) (a9 : Memref sig .tc .vmem S256x1024 .bf16) (h9 : a9.IsWhole) (a10 : Memref sig .tc .vmem S1x1024 .f32) (h10 : a10.IsWhole) (a11 : Memref sig .tc .vmem S1x1024 .f32) (h11 : a11.IsWhole) (a12 : Memref sig .tc .vmem S1x1024 .f32) (h12 : a12.IsWhole) (a13 : Memref sig .tc .vmem S1x1024 .f32) (h13 : a13.IsWhole) (hc : ¬cond0_0 i) (x0 : Vec Ideal S256x1024 .f32) (x1 : Vec Ideal S256x1024 .f32) (x2 : Vec Ideal S256x1024 .f32) (x3 : Vec Ideal S256x1024 .f32) (x4 : Vec Ideal S1x1024 .f32) (x5 : Vec Ideal S1x1024 .f32) (x6 : Vec Ideal S1x1024 .f32) (xo9 : Vec Ideal S1x1024 .f32) (xo10 : Vec Ideal S1x1024 .f32) (xo11 : Vec Ideal S1x1024 .f32) (xo12 : Vec Ideal S1x1024 .f32) :
    out0_B_8 (F := Ideal) c i a1 h1 a2 h2 a3 h3 a4 h4 a5 h5 a6 h6 a7 h7 a8 h8 a9 h9 a10 h10 a11 h11 a12 h12 a13 h13 hc x0 x1 x2 x3 x4 x5 x6 xo9 xo10 xo11 xo12 = dLayer (n := 256) x0 x1 x2 x4 x5 x6 := by
  unfold out0_B_8
  rw [View.read_writes_eq_canon _ _ _ (cover0_B_8 (F := Ideal) c i a1 h1 a2 h2 a3 h3 a4 h4 a5 h5 a6 h6 a7 h7 a8 h8 a9 h9 a10 h10 a11 h11 a12 h12 a13 h13 hc x0 x1 x2 x3 x4 x5 x6 xo9 xo10 xo11 xo12)]
  unfold kernelRun0_B
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, h10.read_unread, h11.read_unread, h12.read_unread, h13.read_unread, View.ld_unit_zero (S := S256x1024) hz, View.ld_unit_zero (S := S1x1024) hz]
  exact pay12_eq _ _ _ _ _ _

theorem out9_A (c : Dev nD) (i : grid0.Coords) (a1 : Memref sig .tc .vmem S256x1024 .f32) (h1 : a1.IsWhole) (a2 : Memref sig .tc .vmem S256x1024 .f32) (h2 : a2.IsWhole) (a3 : Memref sig .tc .vmem S256x1024 .f32) (h3 : a3.IsWhole) (a4 : Memref sig .tc .vmem S256x1024 .f32) (h4 : a4.IsWhole) (a5 : Memref sig .tc .vmem S1x1024 .f32) (h5 : a5.IsWhole) (a6 : Memref sig .tc .vmem S1x1024 .f32) (h6 : a6.IsWhole) (a7 : Memref sig .tc .vmem S1x1024 .f32) (h7 : a7.IsWhole) (a8 : Memref sig .tc .vmem S256x1024 .f32) (h8 : a8.IsWhole) (a9 : Memref sig .tc .vmem S256x1024 .bf16) (h9 : a9.IsWhole) (a10 : Memref sig .tc .vmem S1x1024 .f32) (h10 : a10.IsWhole) (a11 : Memref sig .tc .vmem S1x1024 .f32) (h11 : a11.IsWhole) (a12 : Memref sig .tc .vmem S1x1024 .f32) (h12 : a12.IsWhole) (a13 : Memref sig .tc .vmem S1x1024 .f32) (h13 : a13.IsWhole) (hc : cond0_0 i) (x0 : Vec Ideal S256x1024 .f32) (x1 : Vec Ideal S256x1024 .f32) (x2 : Vec Ideal S256x1024 .f32) (x3 : Vec Ideal S256x1024 .f32) (x4 : Vec Ideal S1x1024 .f32) (x5 : Vec Ideal S1x1024 .f32) (x6 : Vec Ideal S1x1024 .f32) (j : S1x1024.Idx) :
    out0_A_9 (F := Ideal) c i a1 h1 a2 h2 a3 h3 a4 h4 a5 h5 a6 h6 a7 h7 a8 h8 a9 h9 a10 h10 a11 h11 a12 h12 a13 h13 hc x0 x1 x2 x3 x4 x5 x6 j = colShift x0 x1 x2 x3 x4 x5 x6 j := by
  unfold out0_A_9
  rw [View.read_writes_eq_canon _ _ _ (cover0_A_9 (F := Ideal) c i a1 h1 a2 h2 a3 h3 a4 h4 a5 h5 a6 h6 a7 h7 a8 h8 a9 h9 a10 h10 a11 h11 a12 h12 a13 h13 hc x0 x1 x2 x3 x4 x5 x6)]
  unfold kernelRun0_A
  dsimp only
  sl_unfold_words
  rw [View.canon_cons_unit_zero (S := S1x1024) hz, View.readCov_unit_zero (S := S1x1024) _ hz]
  simp only [View.readAt_eq_ld, h1.read_unread, h2.read_unread, h3.read_unread, h4.read_unread, h5.read_unread, h6.read_unread, h7.read_unread, h8.read_unread, h9.read_unread, h10.read_unread, h11.read_unread, h12.read_unread, h13.read_unread, View.ld_unit_zero (S := S256x1024) hz, View.ld_unit_zero (S := S1x1024) hz]
  rw [pay17_eq, pay13_eq]
  exact zero_add _

theorem out9_B (c : Dev nD) (i : grid0.Coords) (a1 : Memref sig .tc .vmem S256x1024 .f32) (h1 : a1.IsWhole) (a2 : Memref sig .tc .vmem S256x1024 .f32) (h2 : a2.IsWhole) (a3 : Memref sig .tc .vmem S256x1024 .f32) (h3 : a3.IsWhole) (a4 : Memref sig .tc .vmem S256x1024 .f32) (h4 : a4.IsWhole) (a5 : Memref sig .tc .vmem S1x1024 .f32) (h5 : a5.IsWhole) (a6 : Memref sig .tc .vmem S1x1024 .f32) (h6 : a6.IsWhole) (a7 : Memref sig .tc .vmem S1x1024 .f32) (h7 : a7.IsWhole) (a8 : Memref sig .tc .vmem S256x1024 .f32) (h8 : a8.IsWhole) (a9 : Memref sig .tc .vmem S256x1024 .bf16) (h9 : a9.IsWhole) (a10 : Memref sig .tc .vmem S1x1024 .f32) (h10 : a10.IsWhole) (a11 : Memref sig .tc .vmem S1x1024 .f32) (h11 : a11.IsWhole) (a12 : Memref sig .tc .vmem S1x1024 .f32) (h12 : a12.IsWhole) (a13 : Memref sig .tc .vmem S1x1024 .f32) (h13 : a13.IsWhole) (hc : ¬cond0_0 i) (x0 : Vec Ideal S256x1024 .f32) (x1 : Vec Ideal S256x1024 .f32) (x2 : Vec Ideal S256x1024 .f32) (x3 : Vec Ideal S256x1024 .f32) (x4 : Vec Ideal S1x1024 .f32) (x5 : Vec Ideal S1x1024 .f32) (x6 : Vec Ideal S1x1024 .f32) (xo9 : Vec Ideal S1x1024 .f32) (xo10 : Vec Ideal S1x1024 .f32) (xo11 : Vec Ideal S1x1024 .f32) (xo12 : Vec Ideal S1x1024 .f32) (j : S1x1024.Idx) :
    out0_B_9 (F := Ideal) c i a1 h1 a2 h2 a3 h3 a4 h4 a5 h5 a6 h6 a7 h7 a8 h8 a9 h9 a10 h10 a11 h11 a12 h12 a13 h13 hc x0 x1 x2 x3 x4 x5 x6 xo9 xo10 xo11 xo12 j = (xo9 j + colShift x0 x1 x2 x3 x4 x5 x6 j : EReal) := by
  unfold out0_B_9
  rw [View.read_writes_eq_canon _ _ _ (cover0_B_9 (F := Ideal) c i a1 h1 a2 h2 a3 h3 a4 h4 a5 h5 a6 h6 a7 h7 a8 h8 a9 h9 a10 h10 a11 h11 a12 h12 a13 h13 hc x0 x1 x2 x3 x4 x5 x6 xo9 xo10 xo11 xo12)]
  unfold kernelRun0_B
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, h10.read_unread, h11.read_unread, h12.read_unread, h13.read_unread, View.ld_unit_zero (S := S256x1024) hz, View.ld_unit_zero (S := S1x1024) hz]
  exact pay17_eq x0 x1 x2 x3 x4 x5 x6 _ j

theorem out10_A (c : Dev nD) (i : grid0.Coords) (a1 : Memref sig .tc .vmem S256x1024 .f32) (h1 : a1.IsWhole) (a2 : Memref sig .tc .vmem S256x1024 .f32) (h2 : a2.IsWhole) (a3 : Memref sig .tc .vmem S256x1024 .f32) (h3 : a3.IsWhole) (a4 : Memref sig .tc .vmem S256x1024 .f32) (h4 : a4.IsWhole) (a5 : Memref sig .tc .vmem S1x1024 .f32) (h5 : a5.IsWhole) (a6 : Memref sig .tc .vmem S1x1024 .f32) (h6 : a6.IsWhole) (a7 : Memref sig .tc .vmem S1x1024 .f32) (h7 : a7.IsWhole) (a8 : Memref sig .tc .vmem S256x1024 .f32) (h8 : a8.IsWhole) (a9 : Memref sig .tc .vmem S256x1024 .bf16) (h9 : a9.IsWhole) (a10 : Memref sig .tc .vmem S1x1024 .f32) (h10 : a10.IsWhole) (a11 : Memref sig .tc .vmem S1x1024 .f32) (h11 : a11.IsWhole) (a12 : Memref sig .tc .vmem S1x1024 .f32) (h12 : a12.IsWhole) (a13 : Memref sig .tc .vmem S1x1024 .f32) (h13 : a13.IsWhole) (hc : cond0_0 i) (x0 : Vec Ideal S256x1024 .f32) (x1 : Vec Ideal S256x1024 .f32) (x2 : Vec Ideal S256x1024 .f32) (x3 : Vec Ideal S256x1024 .f32) (x4 : Vec Ideal S1x1024 .f32) (x5 : Vec Ideal S1x1024 .f32) (x6 : Vec Ideal S1x1024 .f32) (j : S1x1024.Idx) :
    out0_A_10 (F := Ideal) c i a1 h1 a2 h2 a3 h3 a4 h4 a5 h5 a6 h6 a7 h7 a8 h8 a9 h9 a10 h10 a11 h11 a12 h12 a13 h13 hc x0 x1 x2 x3 x4 x5 x6 j = colScale x0 x1 x2 x3 x4 x5 x6 j := by
  unfold out0_A_10
  rw [View.read_writes_eq_canon _ _ _ (cover0_A_10 (F := Ideal) c i a1 h1 a2 h2 a3 h3 a4 h4 a5 h5 a6 h6 a7 h7 a8 h8 a9 h9 a10 h10 a11 h11 a12 h12 a13 h13 hc x0 x1 x2 x3 x4 x5 x6)]
  unfold kernelRun0_A
  dsimp only
  sl_unfold_words
  rw [View.canon_cons_unit_zero (S := S1x1024) hz, View.readCov_unit_zero (S := S1x1024) _ hz]
  simp only [View.readAt_eq_ld, h1.read_unread, h2.read_unread, h3.read_unread, h4.read_unread, h5.read_unread, h6.read_unread, h7.read_unread, h8.read_unread, h9.read_unread, h10.read_unread, h11.read_unread, h12.read_unread, h13.read_unread, View.ld_unit_zero (S := S256x1024) hz, View.ld_unit_zero (S := S1x1024) hz]
  rw [pay18_eq, pay14_eq]
  exact zero_add _

theorem out10_B (c : Dev nD) (i : grid0.Coords) (a1 : Memref sig .tc .vmem S256x1024 .f32) (h1 : a1.IsWhole) (a2 : Memref sig .tc .vmem S256x1024 .f32) (h2 : a2.IsWhole) (a3 : Memref sig .tc .vmem S256x1024 .f32) (h3 : a3.IsWhole) (a4 : Memref sig .tc .vmem S256x1024 .f32) (h4 : a4.IsWhole) (a5 : Memref sig .tc .vmem S1x1024 .f32) (h5 : a5.IsWhole) (a6 : Memref sig .tc .vmem S1x1024 .f32) (h6 : a6.IsWhole) (a7 : Memref sig .tc .vmem S1x1024 .f32) (h7 : a7.IsWhole) (a8 : Memref sig .tc .vmem S256x1024 .f32) (h8 : a8.IsWhole) (a9 : Memref sig .tc .vmem S256x1024 .bf16) (h9 : a9.IsWhole) (a10 : Memref sig .tc .vmem S1x1024 .f32) (h10 : a10.IsWhole) (a11 : Memref sig .tc .vmem S1x1024 .f32) (h11 : a11.IsWhole) (a12 : Memref sig .tc .vmem S1x1024 .f32) (h12 : a12.IsWhole) (a13 : Memref sig .tc .vmem S1x1024 .f32) (h13 : a13.IsWhole) (hc : ¬cond0_0 i) (x0 : Vec Ideal S256x1024 .f32) (x1 : Vec Ideal S256x1024 .f32) (x2 : Vec Ideal S256x1024 .f32) (x3 : Vec Ideal S256x1024 .f32) (x4 : Vec Ideal S1x1024 .f32) (x5 : Vec Ideal S1x1024 .f32) (x6 : Vec Ideal S1x1024 .f32) (xo9 : Vec Ideal S1x1024 .f32) (xo10 : Vec Ideal S1x1024 .f32) (xo11 : Vec Ideal S1x1024 .f32) (xo12 : Vec Ideal S1x1024 .f32) (j : S1x1024.Idx) :
    out0_B_10 (F := Ideal) c i a1 h1 a2 h2 a3 h3 a4 h4 a5 h5 a6 h6 a7 h7 a8 h8 a9 h9 a10 h10 a11 h11 a12 h12 a13 h13 hc x0 x1 x2 x3 x4 x5 x6 xo9 xo10 xo11 xo12 j = (xo10 j + colScale x0 x1 x2 x3 x4 x5 x6 j : EReal) := by
  unfold out0_B_10
  rw [View.read_writes_eq_canon _ _ _ (cover0_B_10 (F := Ideal) c i a1 h1 a2 h2 a3 h3 a4 h4 a5 h5 a6 h6 a7 h7 a8 h8 a9 h9 a10 h10 a11 h11 a12 h12 a13 h13 hc x0 x1 x2 x3 x4 x5 x6 xo9 xo10 xo11 xo12)]
  unfold kernelRun0_B
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, h10.read_unread, h11.read_unread, h12.read_unread, h13.read_unread, View.ld_unit_zero (S := S256x1024) hz, View.ld_unit_zero (S := S1x1024) hz]
  exact pay18_eq x0 x1 x2 x3 x4 x5 x6 _ j

theorem out11_A (c : Dev nD) (i : grid0.Coords) (a1 : Memref sig .tc .vmem S256x1024 .f32) (h1 : a1.IsWhole) (a2 : Memref sig .tc .vmem S256x1024 .f32) (h2 : a2.IsWhole) (a3 : Memref sig .tc .vmem S256x1024 .f32) (h3 : a3.IsWhole) (a4 : Memref sig .tc .vmem S256x1024 .f32) (h4 : a4.IsWhole) (a5 : Memref sig .tc .vmem S1x1024 .f32) (h5 : a5.IsWhole) (a6 : Memref sig .tc .vmem S1x1024 .f32) (h6 : a6.IsWhole) (a7 : Memref sig .tc .vmem S1x1024 .f32) (h7 : a7.IsWhole) (a8 : Memref sig .tc .vmem S256x1024 .f32) (h8 : a8.IsWhole) (a9 : Memref sig .tc .vmem S256x1024 .bf16) (h9 : a9.IsWhole) (a10 : Memref sig .tc .vmem S1x1024 .f32) (h10 : a10.IsWhole) (a11 : Memref sig .tc .vmem S1x1024 .f32) (h11 : a11.IsWhole) (a12 : Memref sig .tc .vmem S1x1024 .f32) (h12 : a12.IsWhole) (a13 : Memref sig .tc .vmem S1x1024 .f32) (h13 : a13.IsWhole) (hc : cond0_0 i) (x0 : Vec Ideal S256x1024 .f32) (x1 : Vec Ideal S256x1024 .f32) (x2 : Vec Ideal S256x1024 .f32) (x3 : Vec Ideal S256x1024 .f32) (x4 : Vec Ideal S1x1024 .f32) (x5 : Vec Ideal S1x1024 .f32) (x6 : Vec Ideal S1x1024 .f32) (j : S1x1024.Idx) :
    out0_A_11 (F := Ideal) c i a1 h1 a2 h2 a3 h3 a4 h4 a5 h5 a6 h6 a7 h7 a8 h8 a9 h9 a10 h10 a11 h11 a12 h12 a13 h13 hc x0 x1 x2 x3 x4 x5 x6 j = colGain x0 x1 x2 x3 x4 x5 x6 j := by
  unfold out0_A_11
  rw [View.read_writes_eq_canon _ _ _ (cover0_A_11 (F := Ideal) c i a1 h1 a2 h2 a3 h3 a4 h4 a5 h5 a6 h6 a7 h7 a8 h8 a9 h9 a10 h10 a11 h11 a12 h12 a13 h13 hc x0 x1 x2 x3 x4 x5 x6)]
  unfold kernelRun0_A
  dsimp only
  sl_unfold_words
  rw [View.canon_cons_unit_zero (S := S1x1024) hz, View.readCov_unit_zero (S := S1x1024) _ hz]
  simp only [View.readAt_eq_ld, h1.read_unread, h2.read_unread, h3.read_unread, h4.read_unread, h5.read_unread, h6.read_unread, h7.read_unread, h8.read_unread, h9.read_unread, h10.read_unread, h11.read_unread, h12.read_unread, h13.read_unread, View.ld_unit_zero (S := S256x1024) hz, View.ld_unit_zero (S := S1x1024) hz]
  rw [pay19_eq, pay15_eq]
  exact zero_add _

theorem out11_B (c : Dev nD) (i : grid0.Coords) (a1 : Memref sig .tc .vmem S256x1024 .f32) (h1 : a1.IsWhole) (a2 : Memref sig .tc .vmem S256x1024 .f32) (h2 : a2.IsWhole) (a3 : Memref sig .tc .vmem S256x1024 .f32) (h3 : a3.IsWhole) (a4 : Memref sig .tc .vmem S256x1024 .f32) (h4 : a4.IsWhole) (a5 : Memref sig .tc .vmem S1x1024 .f32) (h5 : a5.IsWhole) (a6 : Memref sig .tc .vmem S1x1024 .f32) (h6 : a6.IsWhole) (a7 : Memref sig .tc .vmem S1x1024 .f32) (h7 : a7.IsWhole) (a8 : Memref sig .tc .vmem S256x1024 .f32) (h8 : a8.IsWhole) (a9 : Memref sig .tc .vmem S256x1024 .bf16) (h9 : a9.IsWhole) (a10 : Memref sig .tc .vmem S1x1024 .f32) (h10 : a10.IsWhole) (a11 : Memref sig .tc .vmem S1x1024 .f32) (h11 : a11.IsWhole) (a12 : Memref sig .tc .vmem S1x1024 .f32) (h12 : a12.IsWhole) (a13 : Memref sig .tc .vmem S1x1024 .f32) (h13 : a13.IsWhole) (hc : ¬cond0_0 i) (x0 : Vec Ideal S256x1024 .f32) (x1 : Vec Ideal S256x1024 .f32) (x2 : Vec Ideal S256x1024 .f32) (x3 : Vec Ideal S256x1024 .f32) (x4 : Vec Ideal S1x1024 .f32) (x5 : Vec Ideal S1x1024 .f32) (x6 : Vec Ideal S1x1024 .f32) (xo9 : Vec Ideal S1x1024 .f32) (xo10 : Vec Ideal S1x1024 .f32) (xo11 : Vec Ideal S1x1024 .f32) (xo12 : Vec Ideal S1x1024 .f32) (j : S1x1024.Idx) :
    out0_B_11 (F := Ideal) c i a1 h1 a2 h2 a3 h3 a4 h4 a5 h5 a6 h6 a7 h7 a8 h8 a9 h9 a10 h10 a11 h11 a12 h12 a13 h13 hc x0 x1 x2 x3 x4 x5 x6 xo9 xo10 xo11 xo12 j = (xo11 j + colGain x0 x1 x2 x3 x4 x5 x6 j : EReal) := by
  unfold out0_B_11
  rw [View.read_writes_eq_canon _ _ _ (cover0_B_11 (F := Ideal) c i a1 h1 a2 h2 a3 h3 a4 h4 a5 h5 a6 h6 a7 h7 a8 h8 a9 h9 a10 h10 a11 h11 a12 h12 a13 h13 hc x0 x1 x2 x3 x4 x5 x6 xo9 xo10 xo11 xo12)]
  unfold kernelRun0_B
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, h10.read_unread, h11.read_unread, h12.read_unread, h13.read_unread, View.ld_unit_zero (S := S256x1024) hz, View.ld_unit_zero (S := S1x1024) hz]
  exact pay19_eq x0 x1 x2 x3 x4 x5 x6 _ j

theorem out12_A (c : Dev nD) (i : grid0.Coords) (a1 : Memref sig .tc .vmem S256x1024 .f32) (h1 : a1.IsWhole) (a2 : Memref sig .tc .vmem S256x1024 .f32) (h2 : a2.IsWhole) (a3 : Memref sig .tc .vmem S256x1024 .f32) (h3 : a3.IsWhole) (a4 : Memref sig .tc .vmem S256x1024 .f32) (h4 : a4.IsWhole) (a5 : Memref sig .tc .vmem S1x1024 .f32) (h5 : a5.IsWhole) (a6 : Memref sig .tc .vmem S1x1024 .f32) (h6 : a6.IsWhole) (a7 : Memref sig .tc .vmem S1x1024 .f32) (h7 : a7.IsWhole) (a8 : Memref sig .tc .vmem S256x1024 .f32) (h8 : a8.IsWhole) (a9 : Memref sig .tc .vmem S256x1024 .bf16) (h9 : a9.IsWhole) (a10 : Memref sig .tc .vmem S1x1024 .f32) (h10 : a10.IsWhole) (a11 : Memref sig .tc .vmem S1x1024 .f32) (h11 : a11.IsWhole) (a12 : Memref sig .tc .vmem S1x1024 .f32) (h12 : a12.IsWhole) (a13 : Memref sig .tc .vmem S1x1024 .f32) (h13 : a13.IsWhole) (hc : cond0_0 i) (x0 : Vec Ideal S256x1024 .f32) (x1 : Vec Ideal S256x1024 .f32) (x2 : Vec Ideal S256x1024 .f32) (x3 : Vec Ideal S256x1024 .f32) (x4 : Vec Ideal S1x1024 .f32) (x5 : Vec Ideal S1x1024 .f32) (x6 : Vec Ideal S1x1024 .f32) (j : S1x1024.Idx) :
    out0_A_12 (F := Ideal) c i a1 h1 a2 h2 a3 h3 a4 h4 a5 h5 a6 h6 a7 h7 a8 h8 a9 h9 a10 h10 a11 h11 a12 h12 a13 h13 hc x0 x1 x2 x3 x4 x5 x6 j = colGate x0 x1 x2 x3 x4 x5 x6 j := by
  unfold out0_A_12
  rw [View.read_writes_eq_canon _ _ _ (cover0_A_12 (F := Ideal) c i a1 h1 a2 h2 a3 h3 a4 h4 a5 h5 a6 h6 a7 h7 a8 h8 a9 h9 a10 h10 a11 h11 a12 h12 a13 h13 hc x0 x1 x2 x3 x4 x5 x6)]
  unfold kernelRun0_A
  dsimp only
  sl_unfold_words
  rw [View.canon_cons_unit_zero (S := S1x1024) hz, View.readCov_unit_zero (S := S1x1024) _ hz]
  simp only [View.readAt_eq_ld, h1.read_unread, h2.read_unread, h3.read_unread, h4.read_unread, h5.read_unread, h6.read_unread, h7.read_unread, h8.read_unread, h9.read_unread, h10.read_unread, h11.read_unread, h12.read_unread, h13.read_unread, View.ld_unit_zero (S := S256x1024) hz, View.ld_unit_zero (S := S1x1024) hz]
  rw [pay1_eq, pay16_eq]
  exact zero_add _

theorem out12_B (c : Dev nD) (i : grid0.Coords) (a1 : Memref sig .tc .vmem S256x1024 .f32) (h1 : a1.IsWhole) (a2 : Memref sig .tc .vmem S256x1024 .f32) (h2 : a2.IsWhole) (a3 : Memref sig .tc .vmem S256x1024 .f32) (h3 : a3.IsWhole) (a4 : Memref sig .tc .vmem S256x1024 .f32) (h4 : a4.IsWhole) (a5 : Memref sig .tc .vmem S1x1024 .f32) (h5 : a5.IsWhole) (a6 : Memref sig .tc .vmem S1x1024 .f32) (h6 : a6.IsWhole) (a7 : Memref sig .tc .vmem S1x1024 .f32) (h7 : a7.IsWhole) (a8 : Memref sig .tc .vmem S256x1024 .f32) (h8 : a8.IsWhole) (a9 : Memref sig .tc .vmem S256x1024 .bf16) (h9 : a9.IsWhole) (a10 : Memref sig .tc .vmem S1x1024 .f32) (h10 : a10.IsWhole) (a11 : Memref sig .tc .vmem S1x1024 .f32) (h11 : a11.IsWhole) (a12 : Memref sig .tc .vmem S1x1024 .f32) (h12 : a12.IsWhole) (a13 : Memref sig .tc .vmem S1x1024 .f32) (h13 : a13.IsWhole) (hc : ¬cond0_0 i) (x0 : Vec Ideal S256x1024 .f32) (x1 : Vec Ideal S256x1024 .f32) (x2 : Vec Ideal S256x1024 .f32) (x3 : Vec Ideal S256x1024 .f32) (x4 : Vec Ideal S1x1024 .f32) (x5 : Vec Ideal S1x1024 .f32) (x6 : Vec Ideal S1x1024 .f32) (xo9 : Vec Ideal S1x1024 .f32) (xo10 : Vec Ideal S1x1024 .f32) (xo11 : Vec Ideal S1x1024 .f32) (xo12 : Vec Ideal S1x1024 .f32) (j : S1x1024.Idx) :
    out0_B_12 (F := Ideal) c i a1 h1 a2 h2 a3 h3 a4 h4 a5 h5 a6 h6 a7 h7 a8 h8 a9 h9 a10 h10 a11 h11 a12 h12 a13 h13 hc x0 x1 x2 x3 x4 x5 x6 xo9 xo10 xo11 xo12 j = (xo12 j + colGate x0 x1 x2 x3 x4 x5 x6 j : EReal) := by
  unfold out0_B_12
  rw [View.read_writes_eq_canon _ _ _ (cover0_B_12 (F := Ideal) c i a1 h1 a2 h2 a3 h3 a4 h4 a5 h5 a6 h6 a7 h7 a8 h8 a9 h9 a10 h10 a11 h11 a12 h12 a13 h13 hc x0 x1 x2 x3 x4 x5 x6 xo9 xo10 xo11 xo12)]
  unfold kernelRun0_B
  dsimp only
  sl_unfold_words
  rw [View.canon_unit_zero hz]
  simp only [View.readAt_eq_ld, h1.read_unread, h2.read_unread, h3.read_unread, h4.read_unread, h5.read_unread, h6.read_unread, h7.read_unread, h8.read_unread, h9.read_unread, h10.read_unread, h11.read_unread, h12.read_unread, h13.read_unread, View.ld_unit_zero (S := S256x1024) hz, View.ld_unit_zero (S := S1x1024) hz]
  exact pay1_eq x0 x1 x2 x3 x4 x5 x6 _ j

/-! ## Where each window's block lies -/

theorem idx_0 : ∀ t : Fin grid0.N, win0_0.index t 0 = t.val ∧ win0_0.index t 1 = 0 := by decide +kernel

theorem idx_1 : ∀ t : Fin grid0.N, win0_1.index t 0 = t.val ∧ win0_1.index t 1 = 0 := by decide +kernel

theorem idx_2 : ∀ t : Fin grid0.N, win0_2.index t 0 = t.val ∧ win0_2.index t 1 = 0 := by decide +kernel

theorem idx_3 : ∀ t : Fin grid0.N, win0_3.index t 0 = t.val ∧ win0_3.index t 1 = 0 := by decide +kernel

theorem idx_4 : ∀ t : Fin grid0.N, win0_4.index t 0 = 0 ∧ win0_4.index t 1 = 0 := by decide +kernel

theorem idx_5 : ∀ t : Fin grid0.N, win0_5.index t 0 = 0 ∧ win0_5.index t 1 = 0 := by decide +kernel

theorem idx_6 : ∀ t : Fin grid0.N, win0_6.index t 0 = 0 ∧ win0_6.index t 1 = 0 := by decide +kernel

theorem idx_7 : ∀ t : Fin grid0.N, win0_7.index t 0 = t.val ∧ win0_7.index t 1 = 0 := by decide +kernel

theorem idx_8 : ∀ t : Fin grid0.N, win0_8.index t 0 = t.val ∧ win0_8.index t 1 = 0 := by decide +kernel

theorem idx_9 : ∀ t : Fin grid0.N, win0_9.index t 0 = 0 ∧ win0_9.index t 1 = 0 := by decide +kernel

theorem idx_10 : ∀ t : Fin grid0.N, win0_10.index t 0 = 0 ∧ win0_10.index t 1 = 0 := by decide +kernel

theorem idx_11 : ∀ t : Fin grid0.N, win0_11.index t 0 = 0 ∧ win0_11.index t 1 = 0 := by decide +kernel

theorem idx_12 : ∀ t : Fin grid0.N, win0_12.index t 0 = 0 ∧ win0_12.index t 1 = 0 := by decide +kernel

theorem lt0 (t : Fin cfg0.N) : t.val < 16 := lt_of_lt_of_eq t.isLt N_0

/-- Window 0's block is a block of rows. -/
theorem blk_0 (t : Fin cfg0.N) (A : S4096x1024.Idx → EReal) :
    ((cfg0.win 0).blk t).view.read (Elt Ideal) A = rowsOf (p := 1024) A t.val := by
  refine funext fun (j : S256x1024.Idx) => ?_
  rw [View.read_apply]
  show A _ = A _
  congr 1
  funext a
  apply Fin.ext
  have hi := idx_0 t
  have ht := lt0 t
  have h0 : (j 0).val < 256 := (j 0).isLt
  match a with
  | ⟨0, _⟩ => show win0_0.index t 0 * 256 + 1 * (j 0).val = (256 * t.val + (j 0).val) % 4096; rw [hi.1, Nat.mod_eq_of_lt (by omega)]; omega
  | ⟨1, _⟩ => show win0_0.index t 1 * 1024 + 1 * (j 1).val = (j 1).val; rw [hi.2]; omega

/-- Window 1's block is a block of rows. -/
theorem blk_1 (t : Fin cfg0.N) (A : S4096x1024.Idx → EReal) :
    ((cfg0.win 1).blk t).view.read (Elt Ideal) A = rowsOf (p := 1024) A t.val := by
  refine funext fun (j : S256x1024.Idx) => ?_
  rw [View.read_apply]
  show A _ = A _
  congr 1
  funext a
  apply Fin.ext
  have hi := idx_1 t
  have ht := lt0 t
  have h0 : (j 0).val < 256 := (j 0).isLt
  match a with
  | ⟨0, _⟩ => show win0_1.index t 0 * 256 + 1 * (j 0).val = (256 * t.val + (j 0).val) % 4096; rw [hi.1, Nat.mod_eq_of_lt (by omega)]; omega
  | ⟨1, _⟩ => show win0_1.index t 1 * 1024 + 1 * (j 1).val = (j 1).val; rw [hi.2]; omega

/-- Window 2's block is a block of rows. -/
theorem blk_2 (t : Fin cfg0.N) (A : S4096x1024.Idx → EReal) :
    ((cfg0.win 2).blk t).view.read (Elt Ideal) A = rowsOf (p := 1024) A t.val := by
  refine funext fun (j : S256x1024.Idx) => ?_
  rw [View.read_apply]
  show A _ = A _
  congr 1
  funext a
  apply Fin.ext
  have hi := idx_2 t
  have ht := lt0 t
  have h0 : (j 0).val < 256 := (j 0).isLt
  match a with
  | ⟨0, _⟩ => show win0_2.index t 0 * 256 + 1 * (j 0).val = (256 * t.val + (j 0).val) % 4096; rw [hi.1, Nat.mod_eq_of_lt (by omega)]; omega
  | ⟨1, _⟩ => show win0_2.index t 1 * 1024 + 1 * (j 1).val = (j 1).val; rw [hi.2]; omega

/-- Window 3's block is a block of rows. -/
theorem blk_3 (t : Fin cfg0.N) (A : S4096x1024.Idx → EReal) :
    ((cfg0.win 3).blk t).view.read (Elt Ideal) A = rowsOf (p := 1024) A t.val := by
  refine funext fun (j : S256x1024.Idx) => ?_
  rw [View.read_apply]
  show A _ = A _
  congr 1
  funext a
  apply Fin.ext
  have hi := idx_3 t
  have ht := lt0 t
  have h0 : (j 0).val < 256 := (j 0).isLt
  match a with
  | ⟨0, _⟩ => show win0_3.index t 0 * 256 + 1 * (j 0).val = (256 * t.val + (j 0).val) % 4096; rw [hi.1, Nat.mod_eq_of_lt (by omega)]; omega
  | ⟨1, _⟩ => show win0_3.index t 1 * 1024 + 1 * (j 1).val = (j 1).val; rw [hi.2]; omega

/-- Window 4's block is its whole array. -/
theorem blk_4 (t : Fin cfg0.N) (A : S1x1024.Idx → EReal) : ((cfg0.win 4).blk t).view.read (Elt Ideal) A = A := by
  refine funext fun (j : S1x1024.Idx) => ?_
  rw [View.read_apply]
  show A _ = A _
  congr 1
  funext a
  apply Fin.ext
  have hi := idx_4 t
  match a with
  | ⟨0, _⟩ => show win0_4.index t 0 * 1 + 1 * (j 0).val = (j 0).val; rw [hi.1]; omega
  | ⟨1, _⟩ => show win0_4.index t 1 * 1024 + 1 * (j 1).val = (j 1).val; rw [hi.2]; omega

/-- Window 5's block is its whole array. -/
theorem blk_5 (t : Fin cfg0.N) (A : S1x1024.Idx → EReal) : ((cfg0.win 5).blk t).view.read (Elt Ideal) A = A := by
  refine funext fun (j : S1x1024.Idx) => ?_
  rw [View.read_apply]
  show A _ = A _
  congr 1
  funext a
  apply Fin.ext
  have hi := idx_5 t
  match a with
  | ⟨0, _⟩ => show win0_5.index t 0 * 1 + 1 * (j 0).val = (j 0).val; rw [hi.1]; omega
  | ⟨1, _⟩ => show win0_5.index t 1 * 1024 + 1 * (j 1).val = (j 1).val; rw [hi.2]; omega

/-- Window 6's block is its whole array. -/
theorem blk_6 (t : Fin cfg0.N) (A : S1x1024.Idx → EReal) : ((cfg0.win 6).blk t).view.read (Elt Ideal) A = A := by
  refine funext fun (j : S1x1024.Idx) => ?_
  rw [View.read_apply]
  show A _ = A _
  congr 1
  funext a
  apply Fin.ext
  have hi := idx_6 t
  match a with
  | ⟨0, _⟩ => show win0_6.index t 0 * 1 + 1 * (j 0).val = (j 0).val; rw [hi.1]; omega
  | ⟨1, _⟩ => show win0_6.index t 1 * 1024 + 1 * (j 1).val = (j 1).val; rw [hi.2]; omega

/-- Window 7's block is a block of rows. -/
theorem blk_7 (t : Fin cfg0.N) (A : S4096x1024.Idx → EReal) :
    ((cfg0.win 7).blk t).view.read (Elt Ideal) A = rowsOf (p := 1024) A t.val := by
  refine funext fun (j : S256x1024.Idx) => ?_
  rw [View.read_apply]
  show A _ = A _
  congr 1
  funext a
  apply Fin.ext
  have hi := idx_7 t
  have ht := lt0 t
  have h0 : (j 0).val < 256 := (j 0).isLt
  match a with
  | ⟨0, _⟩ => show win0_7.index t 0 * 256 + 1 * (j 0).val = (256 * t.val + (j 0).val) % 4096; rw [hi.1, Nat.mod_eq_of_lt (by omega)]; omega
  | ⟨1, _⟩ => show win0_7.index t 1 * 1024 + 1 * (j 1).val = (j 1).val; rw [hi.2]; omega

/-- Window 8's block is a block of rows. -/
theorem blk_8 (t : Fin cfg0.N) (A : S4096x1024.Idx → EReal) :
    ((cfg0.win 8).blk t).view.read (Elt Ideal) A = rowsOf (p := 1024) A t.val := by
  refine funext fun (j : S256x1024.Idx) => ?_
  rw [View.read_apply]
  show A _ = A _
  congr 1
  funext a
  apply Fin.ext
  have hi := idx_8 t
  have ht := lt0 t
  have h0 : (j 0).val < 256 := (j 0).isLt
  match a with
  | ⟨0, _⟩ => show win0_8.index t 0 * 256 + 1 * (j 0).val = (256 * t.val + (j 0).val) % 4096; rw [hi.1, Nat.mod_eq_of_lt (by omega)]; omega
  | ⟨1, _⟩ => show win0_8.index t 1 * 1024 + 1 * (j 1).val = (j 1).val; rw [hi.2]; omega

/-- Window 9's block is its whole array. -/
theorem blk_9 (t : Fin cfg0.N) (A : S1x1024.Idx → EReal) : ((cfg0.win 9).blk t).view.read (Elt Ideal) A = A := by
  refine funext fun (j : S1x1024.Idx) => ?_
  rw [View.read_apply]
  show A _ = A _
  congr 1
  funext a
  apply Fin.ext
  have hi := idx_9 t
  match a with
  | ⟨0, _⟩ => show win0_9.index t 0 * 1 + 1 * (j 0).val = (j 0).val; rw [hi.1]; omega
  | ⟨1, _⟩ => show win0_9.index t 1 * 1024 + 1 * (j 1).val = (j 1).val; rw [hi.2]; omega

/-- Window 10's block is its whole array. -/
theorem blk_10 (t : Fin cfg0.N) (A : S1x1024.Idx → EReal) : ((cfg0.win 10).blk t).view.read (Elt Ideal) A = A := by
  refine funext fun (j : S1x1024.Idx) => ?_
  rw [View.read_apply]
  show A _ = A _
  congr 1
  funext a
  apply Fin.ext
  have hi := idx_10 t
  match a with
  | ⟨0, _⟩ => show win0_10.index t 0 * 1 + 1 * (j 0).val = (j 0).val; rw [hi.1]; omega
  | ⟨1, _⟩ => show win0_10.index t 1 * 1024 + 1 * (j 1).val = (j 1).val; rw [hi.2]; omega

/-- Window 11's block is its whole array. -/
theorem blk_11 (t : Fin cfg0.N) (A : S1x1024.Idx → EReal) : ((cfg0.win 11).blk t).view.read (Elt Ideal) A = A := by
  refine funext fun (j : S1x1024.Idx) => ?_
  rw [View.read_apply]
  show A _ = A _
  congr 1
  funext a
  apply Fin.ext
  have hi := idx_11 t
  match a with
  | ⟨0, _⟩ => show win0_11.index t 0 * 1 + 1 * (j 0).val = (j 0).val; rw [hi.1]; omega
  | ⟨1, _⟩ => show win0_11.index t 1 * 1024 + 1 * (j 1).val = (j 1).val; rw [hi.2]; omega

/-- Window 12's block is its whole array. -/
theorem blk_12 (t : Fin cfg0.N) (A : S1x1024.Idx → EReal) : ((cfg0.win 12).blk t).view.read (Elt Ideal) A = A := by
  refine funext fun (j : S1x1024.Idx) => ?_
  rw [View.read_apply]
  show A _ = A _
  congr 1
  funext a
  apply Fin.ext
  have hi := idx_12 t
  match a with
  | ⟨0, _⟩ => show win0_12.index t 0 * 1 + 1 * (j 0).val = (j 0).val; rw [hi.1]; omega
  | ⟨1, _⟩ => show win0_12.index t 1 * 1024 + 1 * (j 1).val = (j 1).val; rw [hi.2]; omega

/-! ## The result arrays after the run -/

variable (m : (ℓ : Loc nD τ sig) → Buf (Elt Ideal) ℓ) (ρ : Dev nD → PrngReg)

theorem iblk_0 (c : Dev nD) (t : Fin cfg0.N) : (iblk (F := Ideal) m c 0 t : S256x1024.Idx → EReal) = rowsOf (p := 1024) (m ((c : Thread nD τ).loc main_arg0)) t.val := blk_0 t _

theorem iblk_1 (c : Dev nD) (t : Fin cfg0.N) : (iblk (F := Ideal) m c 1 t : S256x1024.Idx → EReal) = rowsOf (p := 1024) (m ((c : Thread nD τ).loc main_arg1)) t.val := blk_1 t _

theorem iblk_2 (c : Dev nD) (t : Fin cfg0.N) : (iblk (F := Ideal) m c 2 t : S256x1024.Idx → EReal) = rowsOf (p := 1024) (m ((c : Thread nD τ).loc main_arg2)) t.val := blk_2 t _

theorem iblk_3 (c : Dev nD) (t : Fin cfg0.N) : (iblk (F := Ideal) m c 3 t : S256x1024.Idx → EReal) = rowsOf (p := 1024) (m ((c : Thread nD τ).loc main_arg3)) t.val := blk_3 t _

theorem iblk_4 (c : Dev nD) (t : Fin cfg0.N) : (iblk (F := Ideal) m c 4 t : S1x1024.Idx → EReal) = m ((c : Thread nD τ).loc main_arg4) := blk_4 t _

theorem iblk_5 (c : Dev nD) (t : Fin cfg0.N) : (iblk (F := Ideal) m c 5 t : S1x1024.Idx → EReal) = m ((c : Thread nD τ).loc main_arg5) := blk_5 t _

theorem iblk_6 (c : Dev nD) (t : Fin cfg0.N) : (iblk (F := Ideal) m c 6 t : S1x1024.Idx → EReal) = m ((c : Thread nD τ).loc main_arg6) := blk_6 t _

/-- What a point writes back to the gradient of the stream: its block of rows of the whole. -/
theorem flushed7 (c : Dev nD) (t : Fin cfg0.N) :
    (dats (F := Ideal) m 0 c).flushed 7 t = ((cfg0.win 7).blk t).view.read (Elt Ideal) (dStream (n := 4096) (m ((c : Thread nD τ).loc main_arg0)) (m ((c : Thread nD τ).loc main_arg1)) (m ((c : Thread nD τ).loc main_arg2)) (m ((c : Thread nD τ).loc main_arg4)) (m ((c : Thread nD τ).loc main_arg5))) := by
  rw [blk_7]
  by_cases h0 : t.val % 16 = 0
  · rw [Value.flushed7_A m c t h0]
    refine (out7_A c _ _ _ _ _ _ _ _ _ _ _ _ _ _ _ _ _ _ _ _ _ _ _ _ _ _ _ _ (iblk (F := Ideal) m c 0 t) (iblk (F := Ideal) m c 1 t) (iblk (F := Ideal) m c 2 t) (iblk (F := Ideal) m c 3 t) (iblk (F := Ideal) m c 4 t) (iblk (F := Ideal) m c 5 t) (iblk (F := Ideal) m c 6 t)).trans ?_
    rw [iblk_0, iblk_1, iblk_2, iblk_4, iblk_5]
    rfl
  · rw [Value.flushed7_B m c t h0]
    refine (out7_B c _ _ _ _ _ _ _ _ _ _ _ _ _ _ _ _ _ _ _ _ _ _ _ _ _ _ _ _ (iblk (F := Ideal) m c 0 t) (iblk (F := Ideal) m c 1 t) (iblk (F := Ideal) m c 2 t) (iblk (F := Ideal) m c 3 t) (iblk (F := Ideal) m c 4 t) (iblk (F := Ideal) m c 5 t) (iblk (F := Ideal) m c 6 t) _ _ _ _ ).trans ?_
    rw [iblk_0, iblk_1, iblk_2, iblk_4, iblk_5]
    rfl

/-- Every index of the gradient of the stream lies in the block of some point. -/
theorem cover7 (i : S4096x1024.Idx) : ∃ t : Fin cfg0.N, (cfg0.win 7).flush t = true ∧ i ∈ ((cfg0.win 7).blk t).view.set := by
  have h0 : (i 0).val < 4096 := (i 0).isLt
  have h1 : (i 1).val < 1024 := (i 1).isLt
  have ht : (i 0).val / 256 < cfg0.N := lt_of_lt_of_eq (by omega : _ < 16) N_0.symm
  refine ⟨⟨(i 0).val / 256, ht⟩, flush0_7 _, ?_⟩
  have hi := idx_7 ⟨(i 0).val / 256, ht⟩
  show i ∈ ((View.whole (Pipeline.arrRef spec0 7)).slice (win0_7.rect ⟨(i 0).val / 256, ht⟩)).set
  rw [View.set_slice_whole, Rect.mem_set_unit]
  intro a
  match a with
  | ⟨0, _⟩ => show win0_7.index ⟨(i 0).val / 256, ht⟩ 0 * 256 ≤ (i 0).val ∧ (i 0).val < win0_7.index ⟨(i 0).val / 256, ht⟩ 0 * 256 + 256; rw [hi.1]; dsimp only; omega
  | ⟨1, _⟩ => show win0_7.index ⟨(i 0).val / 256, ht⟩ 1 * 1024 ≤ (i 1).val ∧ (i 1).val < win0_7.index ⟨(i 0).val / 256, ht⟩ 1 * 1024 + 1024; rw [hi.2]; omega

/-- The gradient of the stream after the run. -/
theorem final7 (c : Dev nD) : (dats (F := Ideal) m 0 c).arrAt 7 cfg0.N = dStream (n := 4096) (m ((c : Thread nD τ).loc main_arg0)) (m ((c : Thread nD τ).loc main_arg1)) (m ((c : Thread nD τ).loc main_arg2)) (m ((c : Thread nD τ).loc main_arg4)) (m ((c : Thread nD τ).loc main_arg5)) :=
  (dats (F := Ideal) m 0 c).arrAt_eq_of_cover 7 (dStream (n := 4096) (m ((c : Thread nD τ).loc main_arg0)) (m ((c : Thread nD τ).loc main_arg1)) (m ((c : Thread nD τ).loc main_arg2)) (m ((c : Thread nD τ).loc main_arg4)) (m ((c : Thread nD τ).loc main_arg5))) (fun t _ => flushed7 m c t) cover7

/-- What a point writes back to the gradient of the layer's output: its block of rows of the whole. -/
theorem flushed8 (c : Dev nD) (t : Fin cfg0.N) :
    (dats (F := Ideal) m 0 c).flushed 8 t = ((cfg0.win 8).blk t).view.read (Elt Ideal) (dLayer (n := 4096) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6))) := by
  rw [blk_8]
  by_cases h0 : t.val % 16 = 0
  · rw [Value.flushed8_A m c t h0]
    refine (out8_A c _ _ _ _ _ _ _ _ _ _ _ _ _ _ _ _ _ _ _ _ _ _ _ _ _ _ _ _ (iblk (F := Ideal) m c 0 t) (iblk (F := Ideal) m c 1 t) (iblk (F := Ideal) m c 2 t) (iblk (F := Ideal) m c 3 t) (iblk (F := Ideal) m c 4 t) (iblk (F := Ideal) m c 5 t) (iblk (F := Ideal) m c 6 t)).trans ?_
    rw [iblk_0, iblk_1, iblk_2, iblk_4, iblk_5, iblk_6]
    rfl
  · rw [Value.flushed8_B m c t h0]
    refine (out8_B c _ _ _ _ _ _ _ _ _ _ _ _ _ _ _ _ _ _ _ _ _ _ _ _ _ _ _ _ (iblk (F := Ideal) m c 0 t) (iblk (F := Ideal) m c 1 t) (iblk (F := Ideal) m c 2 t) (iblk (F := Ideal) m c 3 t) (iblk (F := Ideal) m c 4 t) (iblk (F := Ideal) m c 5 t) (iblk (F := Ideal) m c 6 t) _ _ _ _ ).trans ?_
    rw [iblk_0, iblk_1, iblk_2, iblk_4, iblk_5, iblk_6]
    rfl

/-- Every index of the gradient of the layer's output lies in the block of some point. -/
theorem cover8 (i : S4096x1024.Idx) : ∃ t : Fin cfg0.N, (cfg0.win 8).flush t = true ∧ i ∈ ((cfg0.win 8).blk t).view.set := by
  have h0 : (i 0).val < 4096 := (i 0).isLt
  have h1 : (i 1).val < 1024 := (i 1).isLt
  have ht : (i 0).val / 256 < cfg0.N := lt_of_lt_of_eq (by omega : _ < 16) N_0.symm
  refine ⟨⟨(i 0).val / 256, ht⟩, flush0_8 _, ?_⟩
  have hi := idx_8 ⟨(i 0).val / 256, ht⟩
  show i ∈ ((View.whole (Pipeline.arrRef spec0 8)).slice (win0_8.rect ⟨(i 0).val / 256, ht⟩)).set
  rw [View.set_slice_whole, Rect.mem_set_unit]
  intro a
  match a with
  | ⟨0, _⟩ => show win0_8.index ⟨(i 0).val / 256, ht⟩ 0 * 256 ≤ (i 0).val ∧ (i 0).val < win0_8.index ⟨(i 0).val / 256, ht⟩ 0 * 256 + 256; rw [hi.1]; dsimp only; omega
  | ⟨1, _⟩ => show win0_8.index ⟨(i 0).val / 256, ht⟩ 1 * 1024 ≤ (i 1).val ∧ (i 1).val < win0_8.index ⟨(i 0).val / 256, ht⟩ 1 * 1024 + 1024; rw [hi.2]; omega

/-- The gradient of the layer's output after the run. -/
theorem final8 (c : Dev nD) : (dats (F := Ideal) m 0 c).arrAt 8 cfg0.N = dLayer (n := 4096) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) :=
  (dats (F := Ideal) m 0 c).arrAt_eq_of_cover 8 (dLayer (n := 4096) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6))) (fun t _ => flushed8 m c t) cover8

/-- The gradient of the shift after the first point. -/
theorem step9_A (c : Dev nD) (t : Fin cfg0.N) (h0 : t.val % 16 = 0) (j : S1x1024.Idx) :
    (outsAt0 (F := Ideal) m c t.val t.isLt).2.2.1 j = colShift (rowsOf (p := 1024) (m ((c : Thread nD τ).loc main_arg0)) t.val) (rowsOf (p := 1024) (m ((c : Thread nD τ).loc main_arg1)) t.val) (rowsOf (p := 1024) (m ((c : Thread nD τ).loc main_arg2)) t.val) (rowsOf (p := 1024) (m ((c : Thread nD τ).loc main_arg3)) t.val) (m ((c : Thread nD τ).loc main_arg4)) (m ((c : Thread nD τ).loc main_arg5)) (m ((c : Thread nD τ).loc main_arg6)) j := by
  rw [outsAt0_A (F := Ideal) m c t h0]
  dsimp only
  rw [out9_A, iblk_0, iblk_1, iblk_2, iblk_3, iblk_4, iblk_5, iblk_6]

/-- The gradient of the shift after a later point. -/
theorem step9_B (c : Dev nD) (t : Fin cfg0.N) (h0 : ¬t.val % 16 = 0) (j : S1x1024.Idx) :
    (outsAt0 (F := Ideal) m c t.val t.isLt).2.2.1 j
      = ((outsAt0 (F := Ideal) m c (t.val - 1) (Nat.lt_of_le_of_lt (Nat.sub_le _ _) t.isLt)).2.2.1 j + colShift (rowsOf (p := 1024) (m ((c : Thread nD τ).loc main_arg0)) t.val) (rowsOf (p := 1024) (m ((c : Thread nD τ).loc main_arg1)) t.val) (rowsOf (p := 1024) (m ((c : Thread nD τ).loc main_arg2)) t.val) (rowsOf (p := 1024) (m ((c : Thread nD τ).loc main_arg3)) t.val) (m ((c : Thread nD τ).loc main_arg4)) (m ((c : Thread nD τ).loc main_arg5)) (m ((c : Thread nD τ).loc main_arg6)) j : EReal) := by
  rw [outsAt0_B (F := Ideal) m c t h0]
  dsimp only
  rw [out9_B, iblk_0, iblk_1, iblk_2, iblk_3, iblk_4, iblk_5, iblk_6]

/-- The gradient of the shift after point `n`: the sum over the points so far. -/
theorem outs9 (c : Dev nD) (j : S1x1024.Idx) (n : ℕ) : ∀ h : n < cfg0.N,
    (outsAt0 (F := Ideal) m c n h).2.2.1 j = ∑ s ∈ Finset.range (n + 1), colShift (rowsOf (p := 1024) (m ((c : Thread nD τ).loc main_arg0)) s) (rowsOf (p := 1024) (m ((c : Thread nD τ).loc main_arg1)) s) (rowsOf (p := 1024) (m ((c : Thread nD τ).loc main_arg2)) s) (rowsOf (p := 1024) (m ((c : Thread nD τ).loc main_arg3)) s) (m ((c : Thread nD τ).loc main_arg4)) (m ((c : Thread nD τ).loc main_arg5)) (m ((c : Thread nD τ).loc main_arg6)) j := by
  induction n with
  | zero =>
    intro h
    rw [Finset.sum_range_one]
    exact step9_A m c ⟨0, h⟩ rfl j
  | succ n ih =>
    intro h
    have hN : cfg0.N = 16 := N_0
    have hB : ¬(⟨n + 1, h⟩ : Fin cfg0.N).val % 16 = 0 := by dsimp only; omega
    rw [Finset.sum_range_succ, ← ih (Nat.lt_of_succ_lt h)]
    exact step9_B m c ⟨n + 1, h⟩ hB j

/-- The gradient of the shift: the sum over the sixteen blocks of rows. -/
def total9 (x0 : S4096x1024.Idx → EReal) (x1 : S4096x1024.Idx → EReal) (x2 : S4096x1024.Idx → EReal) (x3 : S4096x1024.Idx → EReal) (x4 : S1x1024.Idx → EReal) (x5 : S1x1024.Idx → EReal) (x6 : S1x1024.Idx → EReal) : S1x1024.Idx → EReal :=
  fun j => ∑ s ∈ Finset.range 16, colShift (rowsOf (p := 1024) x0 s) (rowsOf (p := 1024) x1 s) (rowsOf (p := 1024) x2 s) (rowsOf (p := 1024) x3 s) x4 x5 x6 j

/-- The one point that writes it back writes the whole sum. -/
theorem flushed9 (c : Dev nD) (t : Fin cfg0.N) (hf : (cfg0.win 9).flush t = true) :
    (dats (F := Ideal) m 0 c).flushed 9 t = ((cfg0.win 9).blk t).view.read (Elt Ideal) (total9 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) := by
  have h15 : t.val = 15 := by have h1 := (flush0_9 t).mp hf; have h2 := lt0 t; omega
  rw [blk_9, Value.flushed9]
  refine funext fun (j : S1x1024.Idx) => ?_
  refine (outs9 m c j t.val t.isLt).trans ?_
  rw [h15]
  rfl

/-- The last point's block is the whole of it. -/
theorem cover9 (i : S1x1024.Idx) : ∃ t : Fin cfg0.N, (cfg0.win 9).flush t = true ∧ i ∈ ((cfg0.win 9).blk t).view.set := by
  have h0 : (i 0).val < 1 := (i 0).isLt
  have h1 : (i 1).val < 1024 := (i 1).isLt
  have ht : 15 < cfg0.N := lt_of_lt_of_eq (by omega : 15 < 16) N_0.symm
  refine ⟨⟨15, ht⟩, (flush0_9 _).mpr rfl, ?_⟩
  have hi := idx_9 ⟨15, ht⟩
  show i ∈ ((View.whole (Pipeline.arrRef spec0 9)).slice (win0_9.rect ⟨15, ht⟩)).set
  rw [View.set_slice_whole, Rect.mem_set_unit]
  intro a
  match a with
  | ⟨0, _⟩ => show win0_9.index ⟨15, ht⟩ 0 * 1 ≤ (i 0).val ∧ (i 0).val < win0_9.index ⟨15, ht⟩ 0 * 1 + 1; rw [hi.1]; omega
  | ⟨1, _⟩ => show win0_9.index ⟨15, ht⟩ 1 * 1024 ≤ (i 1).val ∧ (i 1).val < win0_9.index ⟨15, ht⟩ 1 * 1024 + 1024; rw [hi.2]; omega

/-- The gradient of the shift after the run. -/
theorem final9 (c : Dev nD) : (dats (F := Ideal) m 0 c).arrAt 9 cfg0.N = total9 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (dats (F := Ideal) m 0 c).arrAt_eq_of_cover 9 (total9 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (fun t hf => flushed9 m c t hf) cover9

/-- The gradient of the scale after the first point. -/
theorem step10_A (c : Dev nD) (t : Fin cfg0.N) (h0 : t.val % 16 = 0) (j : S1x1024.Idx) :
    (outsAt0 (F := Ideal) m c t.val t.isLt).2.2.2.1 j = colScale (rowsOf (p := 1024) (m ((c : Thread nD τ).loc main_arg0)) t.val) (rowsOf (p := 1024) (m ((c : Thread nD τ).loc main_arg1)) t.val) (rowsOf (p := 1024) (m ((c : Thread nD τ).loc main_arg2)) t.val) (rowsOf (p := 1024) (m ((c : Thread nD τ).loc main_arg3)) t.val) (m ((c : Thread nD τ).loc main_arg4)) (m ((c : Thread nD τ).loc main_arg5)) (m ((c : Thread nD τ).loc main_arg6)) j := by
  rw [outsAt0_A (F := Ideal) m c t h0]
  dsimp only
  rw [out10_A, iblk_0, iblk_1, iblk_2, iblk_3, iblk_4, iblk_5, iblk_6]

/-- The gradient of the scale after a later point. -/
theorem step10_B (c : Dev nD) (t : Fin cfg0.N) (h0 : ¬t.val % 16 = 0) (j : S1x1024.Idx) :
    (outsAt0 (F := Ideal) m c t.val t.isLt).2.2.2.1 j
      = ((outsAt0 (F := Ideal) m c (t.val - 1) (Nat.lt_of_le_of_lt (Nat.sub_le _ _) t.isLt)).2.2.2.1 j + colScale (rowsOf (p := 1024) (m ((c : Thread nD τ).loc main_arg0)) t.val) (rowsOf (p := 1024) (m ((c : Thread nD τ).loc main_arg1)) t.val) (rowsOf (p := 1024) (m ((c : Thread nD τ).loc main_arg2)) t.val) (rowsOf (p := 1024) (m ((c : Thread nD τ).loc main_arg3)) t.val) (m ((c : Thread nD τ).loc main_arg4)) (m ((c : Thread nD τ).loc main_arg5)) (m ((c : Thread nD τ).loc main_arg6)) j : EReal) := by
  rw [outsAt0_B (F := Ideal) m c t h0]
  dsimp only
  rw [out10_B, iblk_0, iblk_1, iblk_2, iblk_3, iblk_4, iblk_5, iblk_6]

/-- The gradient of the scale after point `n`: the sum over the points so far. -/
theorem outs10 (c : Dev nD) (j : S1x1024.Idx) (n : ℕ) : ∀ h : n < cfg0.N,
    (outsAt0 (F := Ideal) m c n h).2.2.2.1 j = ∑ s ∈ Finset.range (n + 1), colScale (rowsOf (p := 1024) (m ((c : Thread nD τ).loc main_arg0)) s) (rowsOf (p := 1024) (m ((c : Thread nD τ).loc main_arg1)) s) (rowsOf (p := 1024) (m ((c : Thread nD τ).loc main_arg2)) s) (rowsOf (p := 1024) (m ((c : Thread nD τ).loc main_arg3)) s) (m ((c : Thread nD τ).loc main_arg4)) (m ((c : Thread nD τ).loc main_arg5)) (m ((c : Thread nD τ).loc main_arg6)) j := by
  induction n with
  | zero =>
    intro h
    rw [Finset.sum_range_one]
    exact step10_A m c ⟨0, h⟩ rfl j
  | succ n ih =>
    intro h
    have hN : cfg0.N = 16 := N_0
    have hB : ¬(⟨n + 1, h⟩ : Fin cfg0.N).val % 16 = 0 := by dsimp only; omega
    rw [Finset.sum_range_succ, ← ih (Nat.lt_of_succ_lt h)]
    exact step10_B m c ⟨n + 1, h⟩ hB j

/-- The gradient of the scale: the sum over the sixteen blocks of rows. -/
def total10 (x0 : S4096x1024.Idx → EReal) (x1 : S4096x1024.Idx → EReal) (x2 : S4096x1024.Idx → EReal) (x3 : S4096x1024.Idx → EReal) (x4 : S1x1024.Idx → EReal) (x5 : S1x1024.Idx → EReal) (x6 : S1x1024.Idx → EReal) : S1x1024.Idx → EReal :=
  fun j => ∑ s ∈ Finset.range 16, colScale (rowsOf (p := 1024) x0 s) (rowsOf (p := 1024) x1 s) (rowsOf (p := 1024) x2 s) (rowsOf (p := 1024) x3 s) x4 x5 x6 j

/-- The one point that writes it back writes the whole sum. -/
theorem flushed10 (c : Dev nD) (t : Fin cfg0.N) (hf : (cfg0.win 10).flush t = true) :
    (dats (F := Ideal) m 0 c).flushed 10 t = ((cfg0.win 10).blk t).view.read (Elt Ideal) (total10 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) := by
  have h15 : t.val = 15 := by have h1 := (flush0_10 t).mp hf; have h2 := lt0 t; omega
  rw [blk_10, Value.flushed10]
  refine funext fun (j : S1x1024.Idx) => ?_
  refine (outs10 m c j t.val t.isLt).trans ?_
  rw [h15]
  rfl

/-- The last point's block is the whole of it. -/
theorem cover10 (i : S1x1024.Idx) : ∃ t : Fin cfg0.N, (cfg0.win 10).flush t = true ∧ i ∈ ((cfg0.win 10).blk t).view.set := by
  have h0 : (i 0).val < 1 := (i 0).isLt
  have h1 : (i 1).val < 1024 := (i 1).isLt
  have ht : 15 < cfg0.N := lt_of_lt_of_eq (by omega : 15 < 16) N_0.symm
  refine ⟨⟨15, ht⟩, (flush0_10 _).mpr rfl, ?_⟩
  have hi := idx_10 ⟨15, ht⟩
  show i ∈ ((View.whole (Pipeline.arrRef spec0 10)).slice (win0_10.rect ⟨15, ht⟩)).set
  rw [View.set_slice_whole, Rect.mem_set_unit]
  intro a
  match a with
  | ⟨0, _⟩ => show win0_10.index ⟨15, ht⟩ 0 * 1 ≤ (i 0).val ∧ (i 0).val < win0_10.index ⟨15, ht⟩ 0 * 1 + 1; rw [hi.1]; omega
  | ⟨1, _⟩ => show win0_10.index ⟨15, ht⟩ 1 * 1024 ≤ (i 1).val ∧ (i 1).val < win0_10.index ⟨15, ht⟩ 1 * 1024 + 1024; rw [hi.2]; omega

/-- The gradient of the scale after the run. -/
theorem final10 (c : Dev nD) : (dats (F := Ideal) m 0 c).arrAt 10 cfg0.N = total10 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (dats (F := Ideal) m 0 c).arrAt_eq_of_cover 10 (total10 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (fun t hf => flushed10 m c t hf) cover10

/-- The gradient of the gain after the first point. -/
theorem step11_A (c : Dev nD) (t : Fin cfg0.N) (h0 : t.val % 16 = 0) (j : S1x1024.Idx) :
    (outsAt0 (F := Ideal) m c t.val t.isLt).2.2.2.2.1 j = colGain (rowsOf (p := 1024) (m ((c : Thread nD τ).loc main_arg0)) t.val) (rowsOf (p := 1024) (m ((c : Thread nD τ).loc main_arg1)) t.val) (rowsOf (p := 1024) (m ((c : Thread nD τ).loc main_arg2)) t.val) (rowsOf (p := 1024) (m ((c : Thread nD τ).loc main_arg3)) t.val) (m ((c : Thread nD τ).loc main_arg4)) (m ((c : Thread nD τ).loc main_arg5)) (m ((c : Thread nD τ).loc main_arg6)) j := by
  rw [outsAt0_A (F := Ideal) m c t h0]
  dsimp only
  rw [out11_A, iblk_0, iblk_1, iblk_2, iblk_3, iblk_4, iblk_5, iblk_6]

/-- The gradient of the gain after a later point. -/
theorem step11_B (c : Dev nD) (t : Fin cfg0.N) (h0 : ¬t.val % 16 = 0) (j : S1x1024.Idx) :
    (outsAt0 (F := Ideal) m c t.val t.isLt).2.2.2.2.1 j
      = ((outsAt0 (F := Ideal) m c (t.val - 1) (Nat.lt_of_le_of_lt (Nat.sub_le _ _) t.isLt)).2.2.2.2.1 j + colGain (rowsOf (p := 1024) (m ((c : Thread nD τ).loc main_arg0)) t.val) (rowsOf (p := 1024) (m ((c : Thread nD τ).loc main_arg1)) t.val) (rowsOf (p := 1024) (m ((c : Thread nD τ).loc main_arg2)) t.val) (rowsOf (p := 1024) (m ((c : Thread nD τ).loc main_arg3)) t.val) (m ((c : Thread nD τ).loc main_arg4)) (m ((c : Thread nD τ).loc main_arg5)) (m ((c : Thread nD τ).loc main_arg6)) j : EReal) := by
  rw [outsAt0_B (F := Ideal) m c t h0]
  dsimp only
  rw [out11_B, iblk_0, iblk_1, iblk_2, iblk_3, iblk_4, iblk_5, iblk_6]

/-- The gradient of the gain after point `n`: the sum over the points so far. -/
theorem outs11 (c : Dev nD) (j : S1x1024.Idx) (n : ℕ) : ∀ h : n < cfg0.N,
    (outsAt0 (F := Ideal) m c n h).2.2.2.2.1 j = ∑ s ∈ Finset.range (n + 1), colGain (rowsOf (p := 1024) (m ((c : Thread nD τ).loc main_arg0)) s) (rowsOf (p := 1024) (m ((c : Thread nD τ).loc main_arg1)) s) (rowsOf (p := 1024) (m ((c : Thread nD τ).loc main_arg2)) s) (rowsOf (p := 1024) (m ((c : Thread nD τ).loc main_arg3)) s) (m ((c : Thread nD τ).loc main_arg4)) (m ((c : Thread nD τ).loc main_arg5)) (m ((c : Thread nD τ).loc main_arg6)) j := by
  induction n with
  | zero =>
    intro h
    rw [Finset.sum_range_one]
    exact step11_A m c ⟨0, h⟩ rfl j
  | succ n ih =>
    intro h
    have hN : cfg0.N = 16 := N_0
    have hB : ¬(⟨n + 1, h⟩ : Fin cfg0.N).val % 16 = 0 := by dsimp only; omega
    rw [Finset.sum_range_succ, ← ih (Nat.lt_of_succ_lt h)]
    exact step11_B m c ⟨n + 1, h⟩ hB j

/-- The gradient of the gain: the sum over the sixteen blocks of rows. -/
def total11 (x0 : S4096x1024.Idx → EReal) (x1 : S4096x1024.Idx → EReal) (x2 : S4096x1024.Idx → EReal) (x3 : S4096x1024.Idx → EReal) (x4 : S1x1024.Idx → EReal) (x5 : S1x1024.Idx → EReal) (x6 : S1x1024.Idx → EReal) : S1x1024.Idx → EReal :=
  fun j => ∑ s ∈ Finset.range 16, colGain (rowsOf (p := 1024) x0 s) (rowsOf (p := 1024) x1 s) (rowsOf (p := 1024) x2 s) (rowsOf (p := 1024) x3 s) x4 x5 x6 j

/-- The one point that writes it back writes the whole sum. -/
theorem flushed11 (c : Dev nD) (t : Fin cfg0.N) (hf : (cfg0.win 11).flush t = true) :
    (dats (F := Ideal) m 0 c).flushed 11 t = ((cfg0.win 11).blk t).view.read (Elt Ideal) (total11 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) := by
  have h15 : t.val = 15 := by have h1 := (flush0_11 t).mp hf; have h2 := lt0 t; omega
  rw [blk_11, Value.flushed11]
  refine funext fun (j : S1x1024.Idx) => ?_
  refine (outs11 m c j t.val t.isLt).trans ?_
  rw [h15]
  rfl

/-- The last point's block is the whole of it. -/
theorem cover11 (i : S1x1024.Idx) : ∃ t : Fin cfg0.N, (cfg0.win 11).flush t = true ∧ i ∈ ((cfg0.win 11).blk t).view.set := by
  have h0 : (i 0).val < 1 := (i 0).isLt
  have h1 : (i 1).val < 1024 := (i 1).isLt
  have ht : 15 < cfg0.N := lt_of_lt_of_eq (by omega : 15 < 16) N_0.symm
  refine ⟨⟨15, ht⟩, (flush0_11 _).mpr rfl, ?_⟩
  have hi := idx_11 ⟨15, ht⟩
  show i ∈ ((View.whole (Pipeline.arrRef spec0 11)).slice (win0_11.rect ⟨15, ht⟩)).set
  rw [View.set_slice_whole, Rect.mem_set_unit]
  intro a
  match a with
  | ⟨0, _⟩ => show win0_11.index ⟨15, ht⟩ 0 * 1 ≤ (i 0).val ∧ (i 0).val < win0_11.index ⟨15, ht⟩ 0 * 1 + 1; rw [hi.1]; omega
  | ⟨1, _⟩ => show win0_11.index ⟨15, ht⟩ 1 * 1024 ≤ (i 1).val ∧ (i 1).val < win0_11.index ⟨15, ht⟩ 1 * 1024 + 1024; rw [hi.2]; omega

/-- The gradient of the gain after the run. -/
theorem final11 (c : Dev nD) : (dats (F := Ideal) m 0 c).arrAt 11 cfg0.N = total11 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (dats (F := Ideal) m 0 c).arrAt_eq_of_cover 11 (total11 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (fun t hf => flushed11 m c t hf) cover11

/-- The gradient of the gate after the first point. -/
theorem step12_A (c : Dev nD) (t : Fin cfg0.N) (h0 : t.val % 16 = 0) (j : S1x1024.Idx) :
    (outsAt0 (F := Ideal) m c t.val t.isLt).2.2.2.2.2 j = colGate (rowsOf (p := 1024) (m ((c : Thread nD τ).loc main_arg0)) t.val) (rowsOf (p := 1024) (m ((c : Thread nD τ).loc main_arg1)) t.val) (rowsOf (p := 1024) (m ((c : Thread nD τ).loc main_arg2)) t.val) (rowsOf (p := 1024) (m ((c : Thread nD τ).loc main_arg3)) t.val) (m ((c : Thread nD τ).loc main_arg4)) (m ((c : Thread nD τ).loc main_arg5)) (m ((c : Thread nD τ).loc main_arg6)) j := by
  rw [outsAt0_A (F := Ideal) m c t h0]
  dsimp only
  rw [out12_A, iblk_0, iblk_1, iblk_2, iblk_3, iblk_4, iblk_5, iblk_6]

/-- The gradient of the gate after a later point. -/
theorem step12_B (c : Dev nD) (t : Fin cfg0.N) (h0 : ¬t.val % 16 = 0) (j : S1x1024.Idx) :
    (outsAt0 (F := Ideal) m c t.val t.isLt).2.2.2.2.2 j
      = ((outsAt0 (F := Ideal) m c (t.val - 1) (Nat.lt_of_le_of_lt (Nat.sub_le _ _) t.isLt)).2.2.2.2.2 j + colGate (rowsOf (p := 1024) (m ((c : Thread nD τ).loc main_arg0)) t.val) (rowsOf (p := 1024) (m ((c : Thread nD τ).loc main_arg1)) t.val) (rowsOf (p := 1024) (m ((c : Thread nD τ).loc main_arg2)) t.val) (rowsOf (p := 1024) (m ((c : Thread nD τ).loc main_arg3)) t.val) (m ((c : Thread nD τ).loc main_arg4)) (m ((c : Thread nD τ).loc main_arg5)) (m ((c : Thread nD τ).loc main_arg6)) j : EReal) := by
  rw [outsAt0_B (F := Ideal) m c t h0]
  dsimp only
  rw [out12_B, iblk_0, iblk_1, iblk_2, iblk_3, iblk_4, iblk_5, iblk_6]

/-- The gradient of the gate after point `n`: the sum over the points so far. -/
theorem outs12 (c : Dev nD) (j : S1x1024.Idx) (n : ℕ) : ∀ h : n < cfg0.N,
    (outsAt0 (F := Ideal) m c n h).2.2.2.2.2 j = ∑ s ∈ Finset.range (n + 1), colGate (rowsOf (p := 1024) (m ((c : Thread nD τ).loc main_arg0)) s) (rowsOf (p := 1024) (m ((c : Thread nD τ).loc main_arg1)) s) (rowsOf (p := 1024) (m ((c : Thread nD τ).loc main_arg2)) s) (rowsOf (p := 1024) (m ((c : Thread nD τ).loc main_arg3)) s) (m ((c : Thread nD τ).loc main_arg4)) (m ((c : Thread nD τ).loc main_arg5)) (m ((c : Thread nD τ).loc main_arg6)) j := by
  induction n with
  | zero =>
    intro h
    rw [Finset.sum_range_one]
    exact step12_A m c ⟨0, h⟩ rfl j
  | succ n ih =>
    intro h
    have hN : cfg0.N = 16 := N_0
    have hB : ¬(⟨n + 1, h⟩ : Fin cfg0.N).val % 16 = 0 := by dsimp only; omega
    rw [Finset.sum_range_succ, ← ih (Nat.lt_of_succ_lt h)]
    exact step12_B m c ⟨n + 1, h⟩ hB j

/-- The gradient of the gate: the sum over the sixteen blocks of rows. -/
def total12 (x0 : S4096x1024.Idx → EReal) (x1 : S4096x1024.Idx → EReal) (x2 : S4096x1024.Idx → EReal) (x3 : S4096x1024.Idx → EReal) (x4 : S1x1024.Idx → EReal) (x5 : S1x1024.Idx → EReal) (x6 : S1x1024.Idx → EReal) : S1x1024.Idx → EReal :=
  fun j => ∑ s ∈ Finset.range 16, colGate (rowsOf (p := 1024) x0 s) (rowsOf (p := 1024) x1 s) (rowsOf (p := 1024) x2 s) (rowsOf (p := 1024) x3 s) x4 x5 x6 j

/-- The one point that writes it back writes the whole sum. -/
theorem flushed12 (c : Dev nD) (t : Fin cfg0.N) (hf : (cfg0.win 12).flush t = true) :
    (dats (F := Ideal) m 0 c).flushed 12 t = ((cfg0.win 12).blk t).view.read (Elt Ideal) (total12 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) := by
  have h15 : t.val = 15 := by have h1 := (flush0_12 t).mp hf; have h2 := lt0 t; omega
  rw [blk_12, Value.flushed12]
  refine funext fun (j : S1x1024.Idx) => ?_
  refine (outs12 m c j t.val t.isLt).trans ?_
  rw [h15]
  rfl

/-- The last point's block is the whole of it. -/
theorem cover12 (i : S1x1024.Idx) : ∃ t : Fin cfg0.N, (cfg0.win 12).flush t = true ∧ i ∈ ((cfg0.win 12).blk t).view.set := by
  have h0 : (i 0).val < 1 := (i 0).isLt
  have h1 : (i 1).val < 1024 := (i 1).isLt
  have ht : 15 < cfg0.N := lt_of_lt_of_eq (by omega : 15 < 16) N_0.symm
  refine ⟨⟨15, ht⟩, (flush0_12 _).mpr rfl, ?_⟩
  have hi := idx_12 ⟨15, ht⟩
  show i ∈ ((View.whole (Pipeline.arrRef spec0 12)).slice (win0_12.rect ⟨15, ht⟩)).set
  rw [View.set_slice_whole, Rect.mem_set_unit]
  intro a
  match a with
  | ⟨0, _⟩ => show win0_12.index ⟨15, ht⟩ 0 * 1 ≤ (i 0).val ∧ (i 0).val < win0_12.index ⟨15, ht⟩ 0 * 1 + 1; rw [hi.1]; omega
  | ⟨1, _⟩ => show win0_12.index ⟨15, ht⟩ 1 * 1024 ≤ (i 1).val ∧ (i 1).val < win0_12.index ⟨15, ht⟩ 1 * 1024 + 1024; rw [hi.2]; omega

/-- The gradient of the gate after the run. -/
theorem final12 (c : Dev nD) : (dats (F := Ideal) m 0 c).arrAt 12 cfg0.N = total12 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (dats (F := Ideal) m 0 c).arrAt_eq_of_cover 12 (total12 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (fun t hf => flushed12 m c t hf) cover12

/-- The kernel's run: each result array, and the arguments as they were. -/
theorem run : θ_run defs (onTc (τ := τ) (main (F := Ideal))) ⟨m, fun _ => 0, ρ⟩ (fun r => ∀ c : Dev nD,
      r.2.mem ((c : Thread nD τ).loc main_v0_0) = dStream (n := 4096) (m ((c : Thread nD τ).loc main_arg0)) (m ((c : Thread nD τ).loc main_arg1)) (m ((c : Thread nD τ).loc main_arg2)) (m ((c : Thread nD τ).loc main_arg4)) (m ((c : Thread nD τ).loc main_arg5))
      ∧ r.2.mem ((c : Thread nD τ).loc main_v0_1) = dLayer (n := 4096) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6))
      ∧ r.2.mem ((c : Thread nD τ).loc main_v0_2) = total9 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c : Thread nD τ).loc main_v0_3) = total10 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c : Thread nD τ).loc main_v0_4) = total11 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c : Thread nD τ).loc main_v0_5) = total12 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)) :=
  (θ_run defs _ _).mono (fun _ h c => ⟨(h c).1.trans (final7 m c), (h c).2.1.trans (final8 m c), (h c).2.2.1.trans (final9 m c), (h c).2.2.2.1.trans (final10 m c), (h c).2.2.2.2.1.trans (final11 m c), (h c).2.2.2.2.2.1.trans (final12 m c), (h c).2.2.2.2.2.2⟩)
    (Value.run_blocks (F := Ideal) m ρ)

end Cert.Kernel10Ideal.RefValue

end
-- ==== Proof.ModulationReference.lean ====
/-
The residual stream's reference: on finite rows, what the differentiated text gives is the kernel's gradient.
-/
module

public import proofs.«01_k».proof.Proof.ModulationArrays
public import proofs.«01_k».proof.Proof.Gen.Reference10Ideal.Run
public import proofs.«01_k».proof.Proof.Gen.Reference10Ideal.Read

@[expose] public section

set_option maxRecDepth 16384

noncomputable section

namespace Cert.Reference10Ideal.RefValue

open Cert.Reference10Ideal Cert.Reference10Ideal.Gen Cert.Reference10Ideal.Read
open Idealize.ShloMosaic Idealize.ShloMosaic.TcCoe Idealize.SL.Sem
open Cert.Kernel10Ideal.RefValue (dGained dRow dStream dLayer total9 total10 total11 total12)
open Cert.Products (Mat)
open Cert.Rowwise (rowsOf colSum row colSum_blocks)
open Cert.Norm (Row width eps mean)
open Cert.Root (power invRoot scaled dScaled dPower dSteps dSteps_eq)

/-- No entry of the normalised gradient, of the rows, of the gain and of the scale is infinite. -/
structure Finite (x1 x2 : Mat 4096 1024) (x4 x5 : Mat 1 1024) : Prop where
  incoming : ∀ j, ∃ r : ℝ, x1 j = r
  rows : ∀ j, ∃ r : ℝ, x2 j = r
  gain : ∀ j, ∃ r : ℝ, x4 j = r
  scale : ∀ j, ∃ r : ℝ, x5 j = r

theorem zero_word : (FloatOps.ofBits .f32 0x00000000#32 : Ideal .f32) = (0 : EReal) := Ideal.ofBits_zero_f32

theorem one_word : (FloatOps.ofBits .f32 0x3F800000#32 : Ideal .f32) = (1 : EReal) := Ideal.ofBits_one_f32

/-- The only row of a one-row array. -/
theorem first_row (i : S4096x1024.Idx) (A : Mat 1 1024) (k : S1x1024.Idx) (h1 : k 1 = i 1) : A k = A (ix2 0 (i 1)) :=
  congrArg A (funext fun a => by
    match a with
    | ⟨0, _⟩ => exact Subsingleton.elim (α := Fin 1) _ _
    | ⟨1, _⟩ => exact h1)

/-! ## The scaled rows -/

section
variable (x2 : Mat 4096 1024)

theorem v7_eq (i : S4096x1.Idx) : val_main_v7 (F := Ideal) x2 i = power (row x2 (i 0)) := by
  rw [val_main_v7_apply, val_main_v5_apply, val_main_v3_apply, val_main_v2_apply, val_main_v4_apply, val_main_cst_1_apply,
    val_main_cst_0_apply, val_main_v6_apply, val_main_cst_2_apply, zero_word]
  simp only [val_main_v1_apply]
  refine congrArg (fun t => Ideal.div t width + eps) ((zero_add _).trans (Finset.sum_congr rfl fun k _ => ?_))
  refine congrArg (fun j : S4096x1024.Idx => x2 j * x2 j) ?_
  funext a
  match a with
  | ⟨0, _⟩ => rfl
  | ⟨1, _⟩ => rfl

theorem v8_eq (i : S4096x1.Idx) : val_main_v8 (F := Ideal) x2 i = invRoot (row x2 (i 0)) := by
  rw [val_main_v8_apply, v7_eq]
  rfl

theorem v13_eq (i : S4096x1024.Idx) : val_main_v13 (F := Ideal) x2 i = scaled (row x2 (i 0)) (i 1) := by
  rw [val_main_v13_apply, val_main_v12_apply, v8_eq]
  exact congrArg (· * invRoot (row x2 (i 0))) (congrArg x2 (eq_ix2 i))

end

/-! ## The gradient through the norm -/

section
variable (x0 x1 x2 x3 : Mat 4096 1024) (x4 x5 x6 : Mat 1 1024)

theorem v22_eq : val_main_v22 (F := Ideal) x1 = x1 := by
  funext i
  rw [val_main_v22_apply]
  refine congrArg x1 (funext fun a => ?_)
  have h0 : (i 0).val < 4096 := (i 0).isLt
  have h1 : (i 1).val < 1024 := (i 1).isLt
  match a with
  | ⟨0, _⟩ => exact Fin.ext (show ((i 0).val * 1024 + (i 1).val) / 1024 = (i 0).val by omega)
  | ⟨1, _⟩ => exact Fin.ext (show ((i 0).val * 1024 + (i 1).val) % 1024 = (i 1).val by omega)

theorem v17_eq (i : S1x1024.Idx) : val_main_v17 (F := Ideal) x5 i = (1 : EReal) + x5 i := by
  rw [val_main_v17_apply, val_main_v16_apply, val_main_cst_4_apply, one_word]
  rfl

theorem v29_eq (i : S4096x1024.Idx) : val_main_v29 (F := Ideal) x1 x5 i = dGained x1 x5 i := by
  rw [val_main_v29_apply, v22_eq, val_main_v28_apply, v17_eq]
  exact congrArg (fun t : EReal => x1 i * (1 + t)) (first_row i x5 _ rfl)

theorem v34_eq (i : S4096x1024.Idx) : val_main_v34 (F := Ideal) x1 x4 x5 i = row (dRow x1 x4 x5) (i 0) (i 1) := by
  rw [val_main_v34_apply, v29_eq, val_main_v33_apply]
  refine (congrArg (fun t : EReal => dGained x1 x5 i * t) (first_row i x4 _ rfl)).trans ?_
  exact congrArg (dRow x1 x4 x5) (eq_ix2 i)

theorem v43_eq (i : S4096.Idx) :
    val_main_v43 (F := Ideal) x1 x2 x4 x5 i = dPower (row x2 (i 0)) (row (dRow x1 x4 x5) (i 0)) := by
  rw [val_main_v43_apply, val_main_cst_10_apply, zero_word, Fin.sum_univ_one, val_main_v42_apply, val_main_v40_apply,
    val_main_v37_apply, val_main_v36_apply, val_main_cst_8_apply, zero_word, val_main_v11_apply, val_main_v10_apply,
    val_main_cst_3_apply, val_main_v9_apply, v8_eq, v7_eq, val_main_v41_apply, val_main_cst_9_apply]
  simp only [val_main_v35_apply, v34_eq]
  refine (zero_add _).trans ?_
  refine congrArg (fun t => Ideal.div (t * (Ideal.ofBits .f32 0xBF000000#32 * Ideal.div (invRoot (row x2 (i 0))) (power (row x2 (i 0))))) width) ((zero_add _).trans ?_)
  refine Finset.sum_congr rfl fun k _ => ?_
  have e : (⟨(i 0).val * 1 + 0, by have h0 : (i 0).val < 4096 := (i 0).isLt; omega⟩ : Fin 4096) = i 0 := Fin.ext (by simp)
  refine Eq.trans ?_ (congrArg (fun q : Fin 4096 => row x2 q k * row (dRow x1 x4 x5) q k) e)
  refine congrArg (fun t : EReal => t * row (dRow x1 x4 x5) (⟨(i 0).val * 1 + 0, by have h0 : (i 0).val < 4096 := (i 0).isLt; omega⟩ : Fin 4096) k) (congrArg x2 ?_)
  funext a
  match a with
  | ⟨0, _⟩ => rfl
  | ⟨1, _⟩ => rfl

theorem v48_eq (i : S4096x1024.Idx) :
    val_main_v48 (F := Ideal) x1 x2 x4 x5 i = dSteps (row x2 (i 0)) (row (dRow x1 x4 x5) (i 0)) (i 1) := by
  rw [val_main_v48_apply, val_main_v46_apply, val_main_v47_apply, val_main_v45_apply, val_main_v39_apply, val_main_v44_apply,
    v43_eq, v34_eq, val_main_v38_apply, v8_eq]
  have e : x2 i = row x2 (i 0) (i 1) := congrArg x2 (eq_ix2 i)
  rw [e]
  rfl

/-- The first result: the gradient of the stream. -/
theorem v52_apply (h : Finite x1 x2 x4 x5) (i : S4096x1024.Idx) :
    val_main_v52 (F := Ideal) x0 x1 x2 x4 x5 i = dStream x0 x1 x2 x4 x5 i := by
  rw [val_main_v52_apply, v48_eq]
  refine congrArg (fun t : EReal => x0 i + t) (dSteps_eq _ _ (fun k => h.rows _) (fun k => ?_) _)
  obtain ⟨d, hd⟩ := h.incoming (ix2 (i 0) k)
  obtain ⟨g, hg⟩ := h.gain (ix2 0 k)
  obtain ⟨s, hs⟩ := h.scale (ix2 0 k)
  refine ⟨d * (1 + s) * g, ?_⟩
  refine (show row (dRow x1 x4 x5) (i 0) k = x1 (ix2 (i 0) k) * (1 + x5 (ix2 0 k)) * x4 (ix2 0 k) from rfl).trans ?_
  rw [hd, hg, hs, EReal.coe_mul, EReal.coe_mul, EReal.coe_add, EReal.coe_one]

theorem v52_eq (h : Finite x1 x2 x4 x5) : val_main_v52 (F := Ideal) x0 x1 x2 x4 x5 = dStream x0 x1 x2 x4 x5 :=
  funext (v52_apply x0 x1 x2 x4 x5 h)

/-- The second result: the gradient of the layer's output. -/
theorem v58_eq (h : Finite x1 x2 x4 x5) : val_main_v58 (F := Ideal) x0 x1 x2 x4 x5 x6 = dLayer x0 x1 x2 x4 x5 x6 := by
  funext i
  rw [val_main_v58_apply, val_main_v54_apply, val_main_v53_apply, v52_apply x0 x1 x2 x4 x5 h]
  refine (mul_comm _ _).trans ?_
  exact congrArg (fun t : EReal => dStream x0 x1 x2 x4 x5 i * t) (first_row i x6 _ rfl)

/-! ## The column sums -/

theorem place (i : S1x1024.Idx) : (⟨(i 0).val * 1024 + (i 1).val, by have h0 : (i 0).val < 1 := (i 0).isLt; have h1 : (i 1).val < 1024 := (i 1).isLt; omega⟩ : Fin 1024) = i 1 := by
  have h0 : (i 0).val < 1 := (i 0).isLt
  exact Fin.ext (by dsimp only; omega)

/-- The third result: the gradient of the shift. -/
theorem v24_eq : val_main_v24 (F := Ideal) x1 = total9 x0 x1 x2 x3 x4 x5 x6 := by
  funext i
  refine Eq.trans ?_ (colSum_blocks x1 i).symm
  rw [val_main_v24_apply, val_main_v23_apply, val_main_cst_5_apply, zero_word]
  refine (zero_add _).trans (Finset.sum_congr rfl fun k _ => congrArg x1 ?_)
  funext a
  match a with
  | ⟨0, _⟩ => rfl
  | ⟨1, _⟩ => exact place i

theorem v15_eq (i : S4096x1024.Idx) : val_main_v15 (F := Ideal) x2 x4 i = scaled (row x2 (i 0)) (i 1) * x4 (ix2 0 (i 1)) := by
  rw [val_main_v15_apply, v13_eq, val_main_v14_apply]
  exact congrArg (fun t : EReal => scaled (row x2 (i 0)) (i 1) * t) (first_row i x4 _ rfl)

/-- The fourth result: the gradient of the scale. -/
theorem v27_eq : val_main_v27 (F := Ideal) x1 x2 x4 = total10 x0 x1 x2 x3 x4 x5 x6 := by
  funext i
  refine Eq.trans ?_ (colSum_blocks (fun j => x1 j * (scaled (row x2 (j 0)) (j 1) * x4 (ix2 0 (j 1)))) i).symm
  rw [val_main_v27_apply, val_main_v26_apply, val_main_cst_6_apply, zero_word]
  simp only [val_main_v25_apply, v22_eq, v15_eq]
  refine (zero_add _).trans (Finset.sum_congr rfl fun k _ => (mul_comm _ _).trans ?_)
  refine congrArg (fun j : S4096x1024.Idx => x1 j * (scaled (row x2 (j 0)) (j 1) * x4 (ix2 0 (j 1)))) ?_
  funext a
  match a with
  | ⟨0, _⟩ => rfl
  | ⟨1, _⟩ => exact place i

/-- The fifth result: the gradient of the gain. -/
theorem v32_eq : val_main_v32 (F := Ideal) x1 x2 x5 = total11 x0 x1 x2 x3 x4 x5 x6 := by
  funext i
  refine Eq.trans ?_ (colSum_blocks (fun j => dGained x1 x5 j * scaled (row x2 (j 0)) (j 1)) i).symm
  rw [val_main_v32_apply, val_main_v31_apply, val_main_cst_7_apply, zero_word]
  simp only [val_main_v30_apply, v13_eq, v29_eq]
  refine (zero_add _).trans (Finset.sum_congr rfl fun k _ => (mul_comm _ _).trans ?_)
  refine congrArg (fun j : S4096x1024.Idx => dGained x1 x5 j * scaled (row x2 (j 0)) (j 1)) ?_
  funext a
  match a with
  | ⟨0, _⟩ => rfl
  | ⟨1, _⟩ => exact place i

/-- The sixth result: the gradient of the gate. -/
theorem v57_eq (h : Finite x1 x2 x4 x5) : val_main_v57 (F := Ideal) x0 x1 x2 x3 x4 x5 = total12 x0 x1 x2 x3 x4 x5 x6 := by
  funext i
  refine Eq.trans ?_ (colSum_blocks (fun j => dStream x0 x1 x2 x4 x5 j * x3 j) i).symm
  rw [val_main_v57_apply, val_main_v56_apply, val_main_cst_11_apply, zero_word]
  simp only [val_main_v55_apply, v52_apply x0 x1 x2 x4 x5 h]
  refine (zero_add _).trans (Finset.sum_congr rfl fun k _ => ?_)
  refine congrArg (fun j : S4096x1024.Idx => dStream x0 x1 x2 x4 x5 j * x3 j) ?_
  funext a
  match a with
  | ⟨0, _⟩ => rfl
  | ⟨1, _⟩ => exact place i

end

end Cert.Reference10Ideal.RefValue

end
-- ==== Proof.Modulation.lean ====
/-
The residual stream's gradient: the run of the reference, and the claims about the two programs.
-/
module

public import proofs.«01_k».proof.Defs
public import proofs.«01_k».proof.Proof.Gen.Kernel10.Frame
public import proofs.«01_k».proof.Proof.Gen.Pre_finite_stream
public import proofs.«01_k».proof.Proof.ModulationReference
public import proofs.«01_k».proof.Proof.Swish
public import Idealize.ShloMosaic.Lib.Quiescent

@[expose] public section

set_option maxRecDepth 16384

noncomputable section

namespace Cert.ModulationProof

open Idealize.ShloMosaic Idealize.ShloMosaic.TcCoe Idealize.SL.Sem
open Cert.Kernel10Ideal.RefValue (dStream dLayer total9 total10 total11 total12)
open Cert.Reference10Ideal.RefValue (Finite)
open Cert.SwishProof (real_of_test and_bits)

/-- The run at the machine's words leaves the arguments and the counters as they were. -/
theorem frame_kernel : Cert.quiescent_Kernel10 := fun m ρ _ => Cert.Kernel10.Gen.frame (F := Bits) m ρ

/-- So does the run on the extended reals. -/
theorem frame_ideal : Cert.quiescent_Kernel10Ideal := fun m ρ _ => Cert.Kernel10Ideal.Gen.frame (F := Ideal) m ρ

/-- And so from the initial memories that the precondition allows. -/
theorem frame_ideal_pre [Cert.Pre_finite_stream.Facts] : Cert.quiescent_Kernel10Ideal_pre_finite_stream :=
  fun m ρ _ => Cert.Kernel10Ideal.Gen.frame (F := Ideal) m ρ

section
open Cert.Reference10Ideal

/-- The reference leaves its arguments as they were; it has no counters. -/
theorem frame_reference : Cert.quiescent_Reference10Ideal := fun m ρ _ =>
  (θ_run defs _ _).mono (fun r h => ⟨fun c => (h c).2.2.2.2.2.2, sem_eq_zero_of_no_sems (by decide) r.2⟩)
    (Cert.Reference10Ideal.Value.run (F := Ideal) m ρ)

/-- And so from the initial memories that the precondition allows. -/
theorem frame_reference_pre [Cert.Pre_finite_stream.Facts] : Cert.quiescent_Reference10Ideal_pre_finite_stream :=
  fun m ρ _ => frame_reference m ρ trivial

variable (m : (ℓ : Loc nD τ sig) → Buf (Elt Ideal) ℓ) (ρ : Dev nD → PrngReg)

/-- From finite rows the reference ends with the same six functions of its arguments that the kernel computes. -/
theorem reference_run (hf : ∀ c : Dev nD, Finite (m ((c : Thread nD τ).loc main_arg1)) (m ((c : Thread nD τ).loc main_arg2)) (m ((c : Thread nD τ).loc main_arg4)) (m ((c : Thread nD τ).loc main_arg5))) :
    θ_run defs (onTc (τ := τ) (main (F := Ideal))) ⟨m, fun _ => 0, ρ⟩ (fun r => ∀ c : Dev nD,
      r.2.mem ((c : Thread nD τ).loc main_v52) = dStream (n := 4096) (m ((c : Thread nD τ).loc main_arg0)) (m ((c : Thread nD τ).loc main_arg1)) (m ((c : Thread nD τ).loc main_arg2)) (m ((c : Thread nD τ).loc main_arg4)) (m ((c : Thread nD τ).loc main_arg5))
      ∧ r.2.mem ((c : Thread nD τ).loc main_v58) = dLayer (n := 4096) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6))
      ∧ r.2.mem ((c : Thread nD τ).loc main_v24) = total9 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c : Thread nD τ).loc main_v27) = total10 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c : Thread nD τ).loc main_v32) = total11 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c : Thread nD τ).loc main_v57) = total12 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)) :=
  (θ_run defs _ _).mono (fun _ h c =>
    ⟨(((h c).1).trans (Read.val_main_v52_eq m c)).trans (RefValue.v52_eq _ _ _ _ _ (hf c)),
     (((h c).2.1).trans (Read.val_main_v58_eq m c)).trans (RefValue.v58_eq _ _ _ _ _ _ (hf c)),
     (((h c).2.2.1).trans (Read.val_main_v24_eq _)).trans (RefValue.v24_eq _ _ _ _ _ _ _),
     (((h c).2.2.2.1).trans (Read.val_main_v27_eq _ _ _)).trans (RefValue.v27_eq _ _ _ _ _ _ _),
     (((h c).2.2.2.2.1).trans (Read.val_main_v32_eq _ _ _)).trans (RefValue.v32_eq _ _ _ _ _ _ _),
     (((h c).2.2.2.2.2.1).trans (Read.val_main_v57_eq m c)).trans (RefValue.v57_eq _ _ _ _ _ _ _ (hf c)),
     (h c).2.2.2.2.2.2⟩)
    (Value.run (F := Ideal) m ρ)

end

/-- The entry of a one-row array that stands above an entry of the array it is repeated in. -/
theorem above (j : Cert.Pre_finite_stream.S1x1024.Idx) :
    (fun a : Fin 2 => if h1 : (![1, 1024] : Fin 2 → ℕ) a = 1 then (⟨0, by rw [h1]; decide⟩ : Fin (![1, 1024] a))
        else ⟨((ix2 (0 : Fin 4096) (j 1)) ((![0, 1] : Fin 2 → Fin 2) a)).val, by
          fin_cases a
          · exact absurd rfl h1
          · exact (j 1).isLt⟩) = j := by
  funext a
  fin_cases a
  · exact (Subsingleton.elim (α := Fin 1) _ _)
  · rfl

/-- Where the precondition's test succeeds at every entry, the four arrays are finite. -/
theorem finite (x0 x1 x2 x3 : Cert.Pre_finite_stream.S4096x1024.Idx → EReal) (x4 x5 x6 : Cert.Pre_finite_stream.S1x1024.Idx → EReal)
    (h : Cert.Pre_finite_stream.fn (F := Ideal) x0 x1 x2 x3 x4 x5 x6 = fun _ => 1#1) : Finite x1 x2 x4 x5 := by
  simp only [Cert.Pre_finite_stream.fn] at h
  have hj := fun j => and_bits _ _ (congrFun h j)
  refine ⟨fun j => real_of_test _ ?_, fun j => real_of_test _ ?_, fun j => real_of_test _ ?_, fun j => real_of_test _ ?_⟩
  · rw [← Cert.Words.infinity_word]
    exact (and_bits _ _ (and_bits _ _ (hj j).1).1).1
  · rw [← Cert.Words.infinity_word]
    exact (and_bits _ _ (and_bits _ _ (hj j).1).1).2
  · rw [← Cert.Words.infinity_word]
    have e := (and_bits _ _ (hj (ix2 (0 : Fin 4096) (j 1))).1).2
    dsimp only [broadcastInDim] at e
    exact (congrArg (fun k => FloatOps.cmpf (F := Ideal) (φ := .f32) .olt (max (x4 k) (-(x4 k)) : EReal) (Ideal.ofBits .f32 0x7F800000#32)) (above j).symm).trans e
  · rw [← Cert.Words.infinity_word]
    have e := (hj (ix2 (0 : Fin 4096) (j 1))).2
    dsimp only [broadcastInDim] at e
    exact (congrArg (fun k => FloatOps.cmpf (F := Ideal) (φ := .f32) .olt (max (x5 k) (-(x5 k)) : EReal) (Ideal.ofBits .f32 0x7F800000#32)) (above j).symm).trans e

section
open Cert.Kernel10Ideal

/-- From equal arguments with finite rows the kernel and the reference end with equal results: the gradient of the stream, that
    of the layer's output, and those of the shift, of the scale, of the gain and of the gate. -/
theorem algebraic : Cert.algebraic_Kernel10Ideal_Reference10Ideal_pre_finite_stream := fun m ρ m' ρ' hpre hag =>
  ⟨fun c => dStream (n := 4096) (m ((c : Thread nD τ).loc main_arg0)) (m ((c : Thread nD τ).loc main_arg1)) (m ((c : Thread nD τ).loc main_arg2)) (m ((c : Thread nD τ).loc main_arg4)) (m ((c : Thread nD τ).loc main_arg5)),
   fun c => dLayer (n := 4096) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)),
   fun c => total9 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)),
   fun c => total10 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)),
   fun c => total11 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)),
   fun c => total12 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)),
   RefValue.run m ρ,
   (θ_run _ _ _).mono (fun r h c => by
      obtain ⟨h0, h1, h2, h3, h4, h5, h6⟩ := hag c
      have hc := h c
      rw [h0, h1, h2, h3, h4, h5, h6] at hc
      obtain ⟨e1, e2, e3, e4, e5, e6, f0, f1, f2, f3, f4, f5, f6⟩ := hc
      exact ⟨e1, e2, e3, e4, e5, e6, f0.trans h0.symm, f1.trans h1.symm, f2.trans h2.symm, f3.trans h3.symm, f4.trans h4.symm, f5.trans h5.symm, f6.trans h6.symm⟩)
    (reference_run m' ρ' fun c => by
      obtain ⟨h0, h1, h2, h3, h4, h5, h6⟩ := hag c
      rw [h1, h2, h4, h5]
      exact finite _ _ _ _ _ _ _ (hpre c))⟩

end

end Cert.ModulationProof

end
-- ==== Proof.ForwardBlock.lean ====
/-
The row-wise calls of the forward pass: what one block of rows gives.
-/
module

public import proofs.«01_k».proof.Proof.Gen.Kernel11Ideal.Frame
public import proofs.«01_k».proof.Proof.Rowwise
public import proofs.«01_k».proof.Proof.Logistic
public import proofs.«01_k».proof.Proof.Root
public import Idealize.ShloMosaic.Lib.Pipeline.Value
public import Idealize.ShloMosaic.Lib.Pointwise
public import Idealize.ShloMosaic.Lib.ValueIdxCore

@[expose] public section

set_option maxRecDepth 16384

noncomputable section

namespace Cert.Kernel11Ideal.RefValue

open Cert.Kernel11Ideal Cert.Kernel11Ideal.Gen
open Idealize.ShloMosaic Idealize.ShloMosaic.TcCoe Idealize.SL.Sem
open Cert.Products (Mat)
open Cert.Rowwise (row)
open Cert.Logistic (logistic)
open Cert.Norm (normal)
open Cert.Root (invRoot scaled)

/-- The residual stream with a layer's gated output added. -/
def stream {n : ℕ} (x y : Mat n 1024) (e : Mat 1 1024) : Mat n 1024 := fun j => x j + e (ix2 0 (j 1)) * y j

/-- A row over its root mean square, with gain, scale and shift. -/
def modulate {n : ℕ} (x : Mat n 1024) (g s b : Mat 1 1024) : Mat n 1024 := fun j =>
  scaled (row x (j 0)) (j 1) * g (ix2 0 (j 1)) * (1 + s (ix2 0 (j 1))) + b (ix2 0 (j 1))

/-- The stream with the layer's output added, so modulated. -/
def modulateStream {n : ℕ} (x y : Mat n 1024) (e g s b : Mat 1 1024) : Mat n 1024 := modulate (stream x y e) g s b

/-- The gated linear unit: the first half of a row with its bias, times the logistic function of the second half. -/
def gated {n : ℕ} (y : Mat n 2048) (b : Mat 1 2048) : Mat n 1024 := fun j =>
  have h1 : (j 1).val < 1024 := (j 1).isLt
  (y (ix2 (j 0) ⟨(j 1).val, by omega⟩) + b (ix2 0 ⟨(j 1).val, by omega⟩))
    * logistic (y (ix2 (j 0) ⟨1024 + (j 1).val, by omega⟩) + b (ix2 0 ⟨1024 + (j 1).val, by omega⟩))

/-- The normalised row with scale and shift. -/
def affine {n : ℕ} (y : Mat n 1024) (g b : Mat 1 1024) : Mat n 1024 := fun j =>
  normal (row y (j 0)) (j 1) * g (ix2 0 (j 1)) + b (ix2 0 (j 1))

/-- That times its logistic function. -/
def swish {n : ℕ} (y : Mat n 1024) (g b : Mat 1 1024) : Mat n 1024 := fun j => affine y g b j * logistic (affine y g b j)

theorem first_eq (x0 : Vec Ideal S256x1024 .f32) (x1 x2 x3 : Vec Ideal S1x1024 .f32) (j : S256x1024.Idx) :
    k0_pay1 x0 x1 x2 x3 j = modulate (n := 256) x0 x1 x2 x3 j := by
  unfold k0_pay1
  pointwise
  exact congrArg (fun t : EReal => t * invRoot (row (n := 256) x0 (j 0)) * x1 (ix2 0 (j 1)) * (1 + x2 (ix2 0 (j 1))) + x3 (ix2 0 (j 1)))
    (congrArg x0 (eq_ix2 j))

theorem stream_eq (x0 x1 : Vec Ideal S256x1024 .f32) (x2 : Vec Ideal S1x1024 .f32) :
    k1_pay1 x0 x1 x2 = stream (n := 256) x0 x1 x2 := by
  funext j
  unfold k1_pay1
  pointwise
  rfl

theorem second_eq (x0 x1 : Vec Ideal S256x1024 .f32) (x2 x3 x4 x5 : Vec Ideal S1x1024 .f32) (j : S256x1024.Idx) :
    k1_pay2 x0 x1 x2 x3 x4 x5 j = modulateStream (n := 256) x0 x1 x2 x3 x4 x5 j := by
  unfold k1_pay2
  rw [stream_eq]
  exact first_eq (stream (n := 256) x0 x1 x2) x3 x4 x5 j

theorem gated_eq (x0 : Vec Ideal S256x2048 .f32) (x1 : Vec Ideal S1x2048 .f32) (j : S256x1024.Idx) :
    k2_pay1 x0 x1 j = gated (n := 256) x0 x1 j := by
  unfold k2_pay1
  pointwise
  simp only [zero_sub]
  rfl

theorem swish_eq (x0 : Vec Ideal S256x1024 .f32) (x1 x2 : Vec Ideal S1x1024 .f32) (j : S256x1024.Idx) :
    k3_pay1 x0 x1 x2 j = swish (n := 256) x0 x1 x2 j := by
  unfold k3_pay1
  pointwise
  simp only [zero_sub]
  have e : swish (n := 256) x0 x1 x2 j = (Cert.Norm.centred (row (n := 256) x0 (j 0)) (j 1) * Cert.Norm.invDev (row (n := 256) x0 (j 0)) * x1 (ix2 0 (j 1)) + x2 (ix2 0 (j 1)))
      * logistic (Cert.Norm.centred (row (n := 256) x0 (j 0)) (j 1) * Cert.Norm.invDev (row (n := 256) x0 (j 0)) * x1 (ix2 0 (j 1)) + x2 (ix2 0 (j 1))) := rfl
  rw [e]
  have e0 : Cert.Norm.centred (row (n := 256) x0 (j 0)) (j 1) = x0 j - Cert.Norm.mean (row (n := 256) x0 (j 0)) :=
    congrArg (fun t : EReal => t - Cert.Norm.mean (row (n := 256) x0 (j 0))) (congrArg x0 (eq_ix2 j)).symm
  rw [e0]
  rfl

end Cert.Kernel11Ideal.RefValue

end
-- ==== Proof.ForwardArrays.lean ====
/-
The row-wise calls of the forward pass: the arrays that each leaves, as functions of its arguments.
-/
module

public import proofs.«01_k».proof.Proof.ForwardBlock

@[expose] public section

set_option maxRecDepth 16384

noncomputable section

namespace Cert.Kernel11Ideal.RefValue

open Cert.Kernel11Ideal Cert.Kernel11Ideal.Gen
open Idealize.ShloMosaic Idealize.ShloMosaic.TcCoe Idealize.SL.Sem
open Idealize.ShloMosaic.Pipeline (Dat)
open Cert.Products (Mat)
open Cert.Rowwise (rowsOf rowsOf_apply)

variable (V : (c : Dev nD) → (b : Ref sig .tc) → Buf (Elt Ideal) ((c : Thread nD τ).loc b))

theorem hz : (![0, 0] : Fin 2 → Nat) = fun _ => 0 := funext fun a => by fin_cases a <;> rfl

/-! ## Call 0: where each window's block lies -/

theorem idx0_0 : ∀ t : Fin grid0.N, win0_0.index t 0 = t.val ∧ win0_0.index t 1 = 0 := by decide +kernel

theorem idx0_1 : ∀ t : Fin grid0.N, win0_1.index t 0 = 0 ∧ win0_1.index t 1 = 0 := by decide +kernel

theorem idx0_2 : ∀ t : Fin grid0.N, win0_2.index t 0 = 0 ∧ win0_2.index t 1 = 0 := by decide +kernel

theorem idx0_3 : ∀ t : Fin grid0.N, win0_3.index t 0 = 0 ∧ win0_3.index t 1 = 0 := by decide +kernel

theorem idx0_4 : ∀ t : Fin grid0.N, win0_4.index t 0 = t.val ∧ win0_4.index t 1 = 0 := by decide +kernel

theorem lt0 (t : Fin cfg0.N) : t.val < 16 := lt_of_lt_of_eq t.isLt N_0

/-- Call 0, window 0: its block is a block of rows. -/
theorem blk0_0 (t : Fin cfg0.N) (A : S4096x1024.Idx → EReal) :
    ((cfg0.win 0).blk t).view.read (Elt Ideal) A = rowsOf (p := 1024) A t.val := by
  refine funext fun (j : S256x1024.Idx) => ?_
  rw [View.read_apply]
  show A _ = A _
  congr 1
  funext a
  apply Fin.ext
  have hi := idx0_0 t
  have ht := lt0 t
  have h0 : (j 0).val < 256 := (j 0).isLt
  match a with
  | ⟨0, _⟩ => show win0_0.index t 0 * 256 + 1 * (j 0).val = (256 * t.val + (j 0).val) % 4096; rw [hi.1, Nat.mod_eq_of_lt (by omega)]; omega
  | ⟨1, _⟩ => show win0_0.index t 1 * 1024 + 1 * (j 1).val = (j 1).val; rw [hi.2]; omega

/-- Call 0, window 1: its block is its whole array. -/
theorem blk0_1 (t : Fin cfg0.N) (A : S1x1024.Idx → EReal) : ((cfg0.win 1).blk t).view.read (Elt Ideal) A = A := by
  refine funext fun (j : S1x1024.Idx) => ?_
  rw [View.read_apply]
  show A _ = A _
  congr 1
  funext a
  apply Fin.ext
  have hi := idx0_1 t
  match a with
  | ⟨0, _⟩ => show win0_1.index t 0 * 1 + 1 * (j 0).val = (j 0).val; rw [hi.1]; omega
  | ⟨1, _⟩ => show win0_1.index t 1 * 1024 + 1 * (j 1).val = (j 1).val; rw [hi.2]; omega

/-- Call 0, window 2: its block is its whole array. -/
theorem blk0_2 (t : Fin cfg0.N) (A : S1x1024.Idx → EReal) : ((cfg0.win 2).blk t).view.read (Elt Ideal) A = A := by
  refine funext fun (j : S1x1024.Idx) => ?_
  rw [View.read_apply]
  show A _ = A _
  congr 1
  funext a
  apply Fin.ext
  have hi := idx0_2 t
  match a with
  | ⟨0, _⟩ => show win0_2.index t 0 * 1 + 1 * (j 0).val = (j 0).val; rw [hi.1]; omega
  | ⟨1, _⟩ => show win0_2.index t 1 * 1024 + 1 * (j 1).val = (j 1).val; rw [hi.2]; omega

/-- Call 0, window 3: its block is its whole array. -/
theorem blk0_3 (t : Fin cfg0.N) (A : S1x1024.Idx → EReal) : ((cfg0.win 3).blk t).view.read (Elt Ideal) A = A := by
  refine funext fun (j : S1x1024.Idx) => ?_
  rw [View.read_apply]
  show A _ = A _
  congr 1
  funext a
  apply Fin.ext
  have hi := idx0_3 t
  match a with
  | ⟨0, _⟩ => show win0_3.index t 0 * 1 + 1 * (j 0).val = (j 0).val; rw [hi.1]; omega
  | ⟨1, _⟩ => show win0_3.index t 1 * 1024 + 1 * (j 1).val = (j 1).val; rw [hi.2]; omega

/-- Call 0, window 4: its block is a block of rows. -/
theorem blk0_4 (t : Fin cfg0.N) (A : S4096x1024.Idx → EReal) :
    ((cfg0.win 4).blk t).view.read (Elt Ideal) A = rowsOf (p := 1024) A t.val := by
  refine funext fun (j : S256x1024.Idx) => ?_
  rw [View.read_apply]
  show A _ = A _
  congr 1
  funext a
  apply Fin.ext
  have hi := idx0_4 t
  have ht := lt0 t
  have h0 : (j 0).val < 256 := (j 0).isLt
  match a with
  | ⟨0, _⟩ => show win0_4.index t 0 * 256 + 1 * (j 0).val = (256 * t.val + (j 0).val) % 4096; rw [hi.1, Nat.mod_eq_of_lt (by omega)]; omega
  | ⟨1, _⟩ => show win0_4.index t 1 * 1024 + 1 * (j 1).val = (j 1).val; rw [hi.2]; omega

/-! ## Call 0: the arrays it leaves -/

theorem iblk0_0 (c : Dev nD) (t : Fin cfg0.N) : (iblk0 V c 0 t : S256x1024.Idx → EReal) = rowsOf (p := 1024) (V c main_arg0) t.val := blk0_0 t _

theorem iblk0_1 (c : Dev nD) (t : Fin cfg0.N) : (iblk0 V c 1 t : S1x1024.Idx → EReal) = (V c main_arg3) := blk0_1 t _

theorem iblk0_2 (c : Dev nD) (t : Fin cfg0.N) : (iblk0 V c 2 t : S1x1024.Idx → EReal) = (V c main_arg4) := blk0_2 t _

theorem iblk0_3 (c : Dev nD) (t : Fin cfg0.N) : (iblk0 V c 3 t : S1x1024.Idx → EReal) = (V c main_arg5) := blk0_3 t _

theorem out0_4_eq (x0 : Vec Ideal S256x1024 .f32) (x1 : Vec Ideal S1x1024 .f32) (x2 : Vec Ideal S1x1024 .f32) (x3 : Vec Ideal S1x1024 .f32) : out0_4 x0 x1 x2 x3 = modulate (n := 256) x0 x1 x2 x3 := by
  unfold out0_4
  rw [View.canon_unit_zero hz]
  simp only [View.ld_unit_zero (S := S256x1024) hz, View.ld_unit_zero (S := S1x1024) hz]
  exact funext fun j => first_eq x0 x1 x2 x3 j

/-- Every index of the array lies in the block of some point. -/
theorem cover0_4' (i : S4096x1024.Idx) : ∃ t : Fin cfg0.N, (cfg0.win 4).flush t = true ∧ i ∈ ((cfg0.win 4).blk t).view.set := by
  have h0 : (i 0).val < 4096 := (i 0).isLt
  have h1 : (i 1).val < 1024 := (i 1).isLt
  have ht : (i 0).val / 256 < cfg0.N := lt_of_lt_of_eq (by omega : _ < 16) N_0.symm
  refine ⟨⟨(i 0).val / 256, ht⟩, flush0_4 _, ?_⟩
  have hi := idx0_4 ⟨(i 0).val / 256, ht⟩
  show i ∈ ((View.whole (Pipeline.arrRef spec0 4)).slice (win0_4.rect ⟨(i 0).val / 256, ht⟩)).set
  rw [View.set_slice_whole, Rect.mem_set_unit]
  intro a
  match a with
  | ⟨0, _⟩ => show win0_4.index ⟨(i 0).val / 256, ht⟩ 0 * 256 ≤ (i 0).val ∧ (i 0).val < win0_4.index ⟨(i 0).val / 256, ht⟩ 0 * 256 + 256; rw [hi.1]; dsimp only; omega
  | ⟨1, _⟩ => show win0_4.index ⟨(i 0).val / 256, ht⟩ 1 * 1024 ≤ (i 1).val ∧ (i 1).val < win0_4.index ⟨(i 0).val / 256, ht⟩ 1 * 1024 + 1024; rw [hi.2]; omega

/-- What a point writes back is its block of rows of the whole. -/
theorem flushed0_4 (c : Dev nD) (t : Fin cfg0.N) :
    (dat0 V c).flushed 4 t = ((cfg0.win 4).blk t).view.read (Elt Ideal) (modulate (n := 4096) (V c main_arg0) (V c main_arg3) (V c main_arg4) (V c main_arg5)) := by
  show (cfg0.win 4).cut (grid0.coords t) ((dat0 V c).after 4 t) = _
  rw [after0_4, blk0_4]
  refine (out0_4_eq (iblk0 V c 0 t) (iblk0 V c 1 t) (iblk0 V c 2 t) (iblk0 V c 3 t)).trans ?_
  rw [iblk0_0, iblk0_1, iblk0_2, iblk0_3]
  rfl

/-- The stream, modulated. -/
theorem final0_4 (c : Dev nD) : (dat0 V c).arrAt 4 cfg0.N = modulate (n := 4096) (V c main_arg0) (V c main_arg3) (V c main_arg4) (V c main_arg5) :=
  (dat0 V c).arrAt_eq_of_cover 4 (modulate (n := 4096) (V c main_arg0) (V c main_arg3) (V c main_arg4) (V c main_arg5)) (fun t _ => flushed0_4 V c t) cover0_4'

/-! ## Call 1: where each window's block lies -/

theorem idx1_0 : ∀ t : Fin grid1.N, win1_0.index t 0 = t.val ∧ win1_0.index t 1 = 0 := by decide +kernel

theorem idx1_1 : ∀ t : Fin grid1.N, win1_1.index t 0 = t.val ∧ win1_1.index t 1 = 0 := by decide +kernel

theorem idx1_2 : ∀ t : Fin grid1.N, win1_2.index t 0 = 0 ∧ win1_2.index t 1 = 0 := by decide +kernel

theorem idx1_3 : ∀ t : Fin grid1.N, win1_3.index t 0 = 0 ∧ win1_3.index t 1 = 0 := by decide +kernel

theorem idx1_4 : ∀ t : Fin grid1.N, win1_4.index t 0 = 0 ∧ win1_4.index t 1 = 0 := by decide +kernel

theorem idx1_5 : ∀ t : Fin grid1.N, win1_5.index t 0 = 0 ∧ win1_5.index t 1 = 0 := by decide +kernel

theorem idx1_6 : ∀ t : Fin grid1.N, win1_6.index t 0 = t.val ∧ win1_6.index t 1 = 0 := by decide +kernel

theorem idx1_7 : ∀ t : Fin grid1.N, win1_7.index t 0 = t.val ∧ win1_7.index t 1 = 0 := by decide +kernel

theorem lt1 (t : Fin cfg1.N) : t.val < 16 := lt_of_lt_of_eq t.isLt N_1

/-- Call 1, window 0: its block is a block of rows. -/
theorem blk1_0 (t : Fin cfg1.N) (A : S4096x1024.Idx → EReal) :
    ((cfg1.win 0).blk t).view.read (Elt Ideal) A = rowsOf (p := 1024) A t.val := by
  refine funext fun (j : S256x1024.Idx) => ?_
  rw [View.read_apply]
  show A _ = A _
  congr 1
  funext a
  apply Fin.ext
  have hi := idx1_0 t
  have ht := lt1 t
  have h0 : (j 0).val < 256 := (j 0).isLt
  match a with
  | ⟨0, _⟩ => show win1_0.index t 0 * 256 + 1 * (j 0).val = (256 * t.val + (j 0).val) % 4096; rw [hi.1, Nat.mod_eq_of_lt (by omega)]; omega
  | ⟨1, _⟩ => show win1_0.index t 1 * 1024 + 1 * (j 1).val = (j 1).val; rw [hi.2]; omega

/-- Call 1, window 1: its block is a block of rows. -/
theorem blk1_1 (t : Fin cfg1.N) (A : S4096x1024.Idx → EReal) :
    ((cfg1.win 1).blk t).view.read (Elt Ideal) A = rowsOf (p := 1024) A t.val := by
  refine funext fun (j : S256x1024.Idx) => ?_
  rw [View.read_apply]
  show A _ = A _
  congr 1
  funext a
  apply Fin.ext
  have hi := idx1_1 t
  have ht := lt1 t
  have h0 : (j 0).val < 256 := (j 0).isLt
  match a with
  | ⟨0, _⟩ => show win1_1.index t 0 * 256 + 1 * (j 0).val = (256 * t.val + (j 0).val) % 4096; rw [hi.1, Nat.mod_eq_of_lt (by omega)]; omega
  | ⟨1, _⟩ => show win1_1.index t 1 * 1024 + 1 * (j 1).val = (j 1).val; rw [hi.2]; omega

/-- Call 1, window 2: its block is its whole array. -/
theorem blk1_2 (t : Fin cfg1.N) (A : S1x1024.Idx → EReal) : ((cfg1.win 2).blk t).view.read (Elt Ideal) A = A := by
  refine funext fun (j : S1x1024.Idx) => ?_
  rw [View.read_apply]
  show A _ = A _
  congr 1
  funext a
  apply Fin.ext
  have hi := idx1_2 t
  match a with
  | ⟨0, _⟩ => show win1_2.index t 0 * 1 + 1 * (j 0).val = (j 0).val; rw [hi.1]; omega
  | ⟨1, _⟩ => show win1_2.index t 1 * 1024 + 1 * (j 1).val = (j 1).val; rw [hi.2]; omega

/-- Call 1, window 3: its block is its whole array. -/
theorem blk1_3 (t : Fin cfg1.N) (A : S1x1024.Idx → EReal) : ((cfg1.win 3).blk t).view.read (Elt Ideal) A = A := by
  refine funext fun (j : S1x1024.Idx) => ?_
  rw [View.read_apply]
  show A _ = A _
  congr 1
  funext a
  apply Fin.ext
  have hi := idx1_3 t
  match a with
  | ⟨0, _⟩ => show win1_3.index t 0 * 1 + 1 * (j 0).val = (j 0).val; rw [hi.1]; omega
  | ⟨1, _⟩ => show win1_3.index t 1 * 1024 + 1 * (j 1).val = (j 1).val; rw [hi.2]; omega

/-- Call 1, window 4: its block is its whole array. -/
theorem blk1_4 (t : Fin cfg1.N) (A : S1x1024.Idx → EReal) : ((cfg1.win 4).blk t).view.read (Elt Ideal) A = A := by
  refine funext fun (j : S1x1024.Idx) => ?_
  rw [View.read_apply]
  show A _ = A _
  congr 1
  funext a
  apply Fin.ext
  have hi := idx1_4 t
  match a with
  | ⟨0, _⟩ => show win1_4.index t 0 * 1 + 1 * (j 0).val = (j 0).val; rw [hi.1]; omega
  | ⟨1, _⟩ => show win1_4.index t 1 * 1024 + 1 * (j 1).val = (j 1).val; rw [hi.2]; omega

/-- Call 1, window 5: its block is its whole array. -/
theorem blk1_5 (t : Fin cfg1.N) (A : S1x1024.Idx → EReal) : ((cfg1.win 5).blk t).view.read (Elt Ideal) A = A := by
  refine funext fun (j : S1x1024.Idx) => ?_
  rw [View.read_apply]
  show A _ = A _
  congr 1
  funext a
  apply Fin.ext
  have hi := idx1_5 t
  match a with
  | ⟨0, _⟩ => show win1_5.index t 0 * 1 + 1 * (j 0).val = (j 0).val; rw [hi.1]; omega
  | ⟨1, _⟩ => show win1_5.index t 1 * 1024 + 1 * (j 1).val = (j 1).val; rw [hi.2]; omega

/-- Call 1, window 6: its block is a block of rows. -/
theorem blk1_6 (t : Fin cfg1.N) (A : S4096x1024.Idx → EReal) :
    ((cfg1.win 6).blk t).view.read (Elt Ideal) A = rowsOf (p := 1024) A t.val := by
  refine funext fun (j : S256x1024.Idx) => ?_
  rw [View.read_apply]
  show A _ = A _
  congr 1
  funext a
  apply Fin.ext
  have hi := idx1_6 t
  have ht := lt1 t
  have h0 : (j 0).val < 256 := (j 0).isLt
  match a with
  | ⟨0, _⟩ => show win1_6.index t 0 * 256 + 1 * (j 0).val = (256 * t.val + (j 0).val) % 4096; rw [hi.1, Nat.mod_eq_of_lt (by omega)]; omega
  | ⟨1, _⟩ => show win1_6.index t 1 * 1024 + 1 * (j 1).val = (j 1).val; rw [hi.2]; omega

/-- Call 1, window 7: its block is a block of rows. -/
theorem blk1_7 (t : Fin cfg1.N) (A : S4096x1024.Idx → EReal) :
    ((cfg1.win 7).blk t).view.read (Elt Ideal) A = rowsOf (p := 1024) A t.val := by
  refine funext fun (j : S256x1024.Idx) => ?_
  rw [View.read_apply]
  show A _ = A _
  congr 1
  funext a
  apply Fin.ext
  have hi := idx1_7 t
  have ht := lt1 t
  have h0 : (j 0).val < 256 := (j 0).isLt
  match a with
  | ⟨0, _⟩ => show win1_7.index t 0 * 256 + 1 * (j 0).val = (256 * t.val + (j 0).val) % 4096; rw [hi.1, Nat.mod_eq_of_lt (by omega)]; omega
  | ⟨1, _⟩ => show win1_7.index t 1 * 1024 + 1 * (j 1).val = (j 1).val; rw [hi.2]; omega

/-! ## Call 1: the arrays it leaves -/

theorem iblk1_0 (c : Dev nD) (t : Fin cfg1.N) : (iblk1 V c 0 t : S256x1024.Idx → EReal) = rowsOf (p := 1024) (V c main_arg0) t.val := blk1_0 t _

theorem iblk1_1 (c : Dev nD) (t : Fin cfg1.N) : (iblk1 V c 1 t : S256x1024.Idx → EReal) = rowsOf (p := 1024) (V c main_arg1) t.val := blk1_1 t _

theorem iblk1_2 (c : Dev nD) (t : Fin cfg1.N) : (iblk1 V c 2 t : S1x1024.Idx → EReal) = (V c main_arg2) := blk1_2 t _

theorem iblk1_3 (c : Dev nD) (t : Fin cfg1.N) : (iblk1 V c 3 t : S1x1024.Idx → EReal) = (V c main_arg3) := blk1_3 t _

theorem iblk1_4 (c : Dev nD) (t : Fin cfg1.N) : (iblk1 V c 4 t : S1x1024.Idx → EReal) = (V c main_arg4) := blk1_4 t _

theorem iblk1_5 (c : Dev nD) (t : Fin cfg1.N) : (iblk1 V c 5 t : S1x1024.Idx → EReal) = (V c main_arg5) := blk1_5 t _

theorem out1_6_eq (x0 : Vec Ideal S256x1024 .f32) (x1 : Vec Ideal S256x1024 .f32) (x2 : Vec Ideal S1x1024 .f32) (x3 : Vec Ideal S1x1024 .f32) (x4 : Vec Ideal S1x1024 .f32) (x5 : Vec Ideal S1x1024 .f32) : out1_6 x0 x1 x2 x3 x4 x5 = stream (n := 256) x0 x1 x2 := by
  unfold out1_6
  rw [View.canon_unit_zero hz]
  simp only [View.ld_unit_zero (S := S256x1024) hz, View.ld_unit_zero (S := S1x1024) hz]
  exact funext fun j => congrFun (stream_eq x0 x1 x2) j

/-- Every index of the array lies in the block of some point. -/
theorem cover1_6' (i : S4096x1024.Idx) : ∃ t : Fin cfg1.N, (cfg1.win 6).flush t = true ∧ i ∈ ((cfg1.win 6).blk t).view.set := by
  have h0 : (i 0).val < 4096 := (i 0).isLt
  have h1 : (i 1).val < 1024 := (i 1).isLt
  have ht : (i 0).val / 256 < cfg1.N := lt_of_lt_of_eq (by omega : _ < 16) N_1.symm
  refine ⟨⟨(i 0).val / 256, ht⟩, flush1_6 _, ?_⟩
  have hi := idx1_6 ⟨(i 0).val / 256, ht⟩
  show i ∈ ((View.whole (Pipeline.arrRef spec1 6)).slice (win1_6.rect ⟨(i 0).val / 256, ht⟩)).set
  rw [View.set_slice_whole, Rect.mem_set_unit]
  intro a
  match a with
  | ⟨0, _⟩ => show win1_6.index ⟨(i 0).val / 256, ht⟩ 0 * 256 ≤ (i 0).val ∧ (i 0).val < win1_6.index ⟨(i 0).val / 256, ht⟩ 0 * 256 + 256; rw [hi.1]; dsimp only; omega
  | ⟨1, _⟩ => show win1_6.index ⟨(i 0).val / 256, ht⟩ 1 * 1024 ≤ (i 1).val ∧ (i 1).val < win1_6.index ⟨(i 0).val / 256, ht⟩ 1 * 1024 + 1024; rw [hi.2]; omega

/-- What a point writes back is its block of rows of the whole. -/
theorem flushed1_6 (c : Dev nD) (t : Fin cfg1.N) :
    (dat1 V c).flushed 6 t = ((cfg1.win 6).blk t).view.read (Elt Ideal) (stream (n := 4096) (V c main_arg0) (V c main_arg1) (V c main_arg2)) := by
  show (cfg1.win 6).cut (grid1.coords t) ((dat1 V c).after 6 t) = _
  rw [after1_6, blk1_6]
  refine (out1_6_eq (iblk1 V c 0 t) (iblk1 V c 1 t) (iblk1 V c 2 t) (iblk1 V c 3 t) (iblk1 V c 4 t) (iblk1 V c 5 t)).trans ?_
  rw [iblk1_0, iblk1_1, iblk1_2]
  rfl

/-- The stream with the layer's output added. -/
theorem final1_6 (c : Dev nD) : (dat1 V c).arrAt 6 cfg1.N = stream (n := 4096) (V c main_arg0) (V c main_arg1) (V c main_arg2) :=
  (dat1 V c).arrAt_eq_of_cover 6 (stream (n := 4096) (V c main_arg0) (V c main_arg1) (V c main_arg2)) (fun t _ => flushed1_6 V c t) cover1_6'

theorem out1_7_eq (x0 : Vec Ideal S256x1024 .f32) (x1 : Vec Ideal S256x1024 .f32) (x2 : Vec Ideal S1x1024 .f32) (x3 : Vec Ideal S1x1024 .f32) (x4 : Vec Ideal S1x1024 .f32) (x5 : Vec Ideal S1x1024 .f32) : out1_7 x0 x1 x2 x3 x4 x5 = modulateStream (n := 256) x0 x1 x2 x3 x4 x5 := by
  unfold out1_7
  rw [View.canon_unit_zero hz]
  simp only [View.ld_unit_zero (S := S256x1024) hz, View.ld_unit_zero (S := S1x1024) hz]
  exact funext fun j => second_eq x0 x1 x2 x3 x4 x5 j

/-- Every index of the array lies in the block of some point. -/
theorem cover1_7' (i : S4096x1024.Idx) : ∃ t : Fin cfg1.N, (cfg1.win 7).flush t = true ∧ i ∈ ((cfg1.win 7).blk t).view.set := by
  have h0 : (i 0).val < 4096 := (i 0).isLt
  have h1 : (i 1).val < 1024 := (i 1).isLt
  have ht : (i 0).val / 256 < cfg1.N := lt_of_lt_of_eq (by omega : _ < 16) N_1.symm
  refine ⟨⟨(i 0).val / 256, ht⟩, flush1_7 _, ?_⟩
  have hi := idx1_7 ⟨(i 0).val / 256, ht⟩
  show i ∈ ((View.whole (Pipeline.arrRef spec1 7)).slice (win1_7.rect ⟨(i 0).val / 256, ht⟩)).set
  rw [View.set_slice_whole, Rect.mem_set_unit]
  intro a
  match a with
  | ⟨0, _⟩ => show win1_7.index ⟨(i 0).val / 256, ht⟩ 0 * 256 ≤ (i 0).val ∧ (i 0).val < win1_7.index ⟨(i 0).val / 256, ht⟩ 0 * 256 + 256; rw [hi.1]; dsimp only; omega
  | ⟨1, _⟩ => show win1_7.index ⟨(i 0).val / 256, ht⟩ 1 * 1024 ≤ (i 1).val ∧ (i 1).val < win1_7.index ⟨(i 0).val / 256, ht⟩ 1 * 1024 + 1024; rw [hi.2]; omega

/-- What a point writes back is its block of rows of the whole. -/
theorem flushed1_7 (c : Dev nD) (t : Fin cfg1.N) :
    (dat1 V c).flushed 7 t = ((cfg1.win 7).blk t).view.read (Elt Ideal) (modulateStream (n := 4096) (V c main_arg0) (V c main_arg1) (V c main_arg2) (V c main_arg3) (V c main_arg4) (V c main_arg5)) := by
  show (cfg1.win 7).cut (grid1.coords t) ((dat1 V c).after 7 t) = _
  rw [after1_7, blk1_7]
  refine (out1_7_eq (iblk1 V c 0 t) (iblk1 V c 1 t) (iblk1 V c 2 t) (iblk1 V c 3 t) (iblk1 V c 4 t) (iblk1 V c 5 t)).trans ?_
  rw [iblk1_0, iblk1_1, iblk1_2, iblk1_3, iblk1_4, iblk1_5]
  rfl

/-- That stream, modulated. -/
theorem final1_7 (c : Dev nD) : (dat1 V c).arrAt 7 cfg1.N = modulateStream (n := 4096) (V c main_arg0) (V c main_arg1) (V c main_arg2) (V c main_arg3) (V c main_arg4) (V c main_arg5) :=
  (dat1 V c).arrAt_eq_of_cover 7 (modulateStream (n := 4096) (V c main_arg0) (V c main_arg1) (V c main_arg2) (V c main_arg3) (V c main_arg4) (V c main_arg5)) (fun t _ => flushed1_7 V c t) cover1_7'

/-! ## Call 2: where each window's block lies -/

theorem idx2_0 : ∀ t : Fin grid2.N, win2_0.index t 0 = t.val ∧ win2_0.index t 1 = 0 := by decide +kernel

theorem idx2_1 : ∀ t : Fin grid2.N, win2_1.index t 0 = 0 ∧ win2_1.index t 1 = 0 := by decide +kernel

theorem idx2_2 : ∀ t : Fin grid2.N, win2_2.index t 0 = t.val ∧ win2_2.index t 1 = 0 := by decide +kernel

theorem lt2 (t : Fin cfg2.N) : t.val < 16 := lt_of_lt_of_eq t.isLt N_2

/-- Call 2, window 0: its block is a block of rows. -/
theorem blk2_0 (t : Fin cfg2.N) (A : S4096x2048.Idx → EReal) :
    ((cfg2.win 0).blk t).view.read (Elt Ideal) A = rowsOf (p := 2048) A t.val := by
  refine funext fun (j : S256x2048.Idx) => ?_
  rw [View.read_apply]
  show A _ = A _
  congr 1
  funext a
  apply Fin.ext
  have hi := idx2_0 t
  have ht := lt2 t
  have h0 : (j 0).val < 256 := (j 0).isLt
  match a with
  | ⟨0, _⟩ => show win2_0.index t 0 * 256 + 1 * (j 0).val = (256 * t.val + (j 0).val) % 4096; rw [hi.1, Nat.mod_eq_of_lt (by omega)]; omega
  | ⟨1, _⟩ => show win2_0.index t 1 * 2048 + 1 * (j 1).val = (j 1).val; rw [hi.2]; omega

/-- Call 2, window 1: its block is its whole array. -/
theorem blk2_1 (t : Fin cfg2.N) (A : S1x2048.Idx → EReal) : ((cfg2.win 1).blk t).view.read (Elt Ideal) A = A := by
  refine funext fun (j : S1x2048.Idx) => ?_
  rw [View.read_apply]
  show A _ = A _
  congr 1
  funext a
  apply Fin.ext
  have hi := idx2_1 t
  match a with
  | ⟨0, _⟩ => show win2_1.index t 0 * 1 + 1 * (j 0).val = (j 0).val; rw [hi.1]; omega
  | ⟨1, _⟩ => show win2_1.index t 1 * 2048 + 1 * (j 1).val = (j 1).val; rw [hi.2]; omega

/-- Call 2, window 2: its block is a block of rows. -/
theorem blk2_2 (t : Fin cfg2.N) (A : S4096x1024.Idx → EReal) :
    ((cfg2.win 2).blk t).view.read (Elt Ideal) A = rowsOf (p := 1024) A t.val := by
  refine funext fun (j : S256x1024.Idx) => ?_
  rw [View.read_apply]
  show A _ = A _
  congr 1
  funext a
  apply Fin.ext
  have hi := idx2_2 t
  have ht := lt2 t
  have h0 : (j 0).val < 256 := (j 0).isLt
  match a with
  | ⟨0, _⟩ => show win2_2.index t 0 * 256 + 1 * (j 0).val = (256 * t.val + (j 0).val) % 4096; rw [hi.1, Nat.mod_eq_of_lt (by omega)]; omega
  | ⟨1, _⟩ => show win2_2.index t 1 * 1024 + 1 * (j 1).val = (j 1).val; rw [hi.2]; omega

/-! ## Call 2: the arrays it leaves -/

theorem iblk2_0 (c : Dev nD) (t : Fin cfg2.N) : (iblk2 V c 0 t : S256x2048.Idx → EReal) = rowsOf (p := 2048) (V c main_arg6) t.val := blk2_0 t _

theorem iblk2_1 (c : Dev nD) (t : Fin cfg2.N) : (iblk2 V c 1 t : S1x2048.Idx → EReal) = (V c main_arg7) := blk2_1 t _

theorem out2_2_eq (x0 : Vec Ideal S256x2048 .f32) (x1 : Vec Ideal S1x2048 .f32) : out2_2 x0 x1 = gated (n := 256) x0 x1 := by
  unfold out2_2
  rw [View.canon_unit_zero hz]
  simp only [View.ld_unit_zero (S := S256x2048) hz, View.ld_unit_zero (S := S1x2048) hz]
  exact funext fun j => gated_eq x0 x1 j

/-- Every index of the array lies in the block of some point. -/
theorem cover2_2' (i : S4096x1024.Idx) : ∃ t : Fin cfg2.N, (cfg2.win 2).flush t = true ∧ i ∈ ((cfg2.win 2).blk t).view.set := by
  have h0 : (i 0).val < 4096 := (i 0).isLt
  have h1 : (i 1).val < 1024 := (i 1).isLt
  have ht : (i 0).val / 256 < cfg2.N := lt_of_lt_of_eq (by omega : _ < 16) N_2.symm
  refine ⟨⟨(i 0).val / 256, ht⟩, flush2_2 _, ?_⟩
  have hi := idx2_2 ⟨(i 0).val / 256, ht⟩
  show i ∈ ((View.whole (Pipeline.arrRef spec2 2)).slice (win2_2.rect ⟨(i 0).val / 256, ht⟩)).set
  rw [View.set_slice_whole, Rect.mem_set_unit]
  intro a
  match a with
  | ⟨0, _⟩ => show win2_2.index ⟨(i 0).val / 256, ht⟩ 0 * 256 ≤ (i 0).val ∧ (i 0).val < win2_2.index ⟨(i 0).val / 256, ht⟩ 0 * 256 + 256; rw [hi.1]; dsimp only; omega
  | ⟨1, _⟩ => show win2_2.index ⟨(i 0).val / 256, ht⟩ 1 * 1024 ≤ (i 1).val ∧ (i 1).val < win2_2.index ⟨(i 0).val / 256, ht⟩ 1 * 1024 + 1024; rw [hi.2]; omega

/-- What a point writes back is its block of rows of the whole. -/
theorem flushed2_2 (c : Dev nD) (t : Fin cfg2.N) :
    (dat2 V c).flushed 2 t = ((cfg2.win 2).blk t).view.read (Elt Ideal) (gated (n := 4096) (V c main_arg6) (V c main_arg7)) := by
  show (cfg2.win 2).cut (grid2.coords t) ((dat2 V c).after 2 t) = _
  rw [after2_2, blk2_2]
  refine (out2_2_eq (iblk2 V c 0 t) (iblk2 V c 1 t)).trans ?_
  rw [iblk2_0, iblk2_1]
  rfl

/-- The gated linear unit. -/
theorem final2_2 (c : Dev nD) : (dat2 V c).arrAt 2 cfg2.N = gated (n := 4096) (V c main_arg6) (V c main_arg7) :=
  (dat2 V c).arrAt_eq_of_cover 2 (gated (n := 4096) (V c main_arg6) (V c main_arg7)) (fun t _ => flushed2_2 V c t) cover2_2'

/-! ## Call 3: where each window's block lies -/

theorem idx3_0 : ∀ t : Fin grid3.N, win3_0.index t 0 = t.val ∧ win3_0.index t 1 = 0 := by decide +kernel

theorem idx3_1 : ∀ t : Fin grid3.N, win3_1.index t 0 = 0 ∧ win3_1.index t 1 = 0 := by decide +kernel

theorem idx3_2 : ∀ t : Fin grid3.N, win3_2.index t 0 = 0 ∧ win3_2.index t 1 = 0 := by decide +kernel

theorem idx3_3 : ∀ t : Fin grid3.N, win3_3.index t 0 = t.val ∧ win3_3.index t 1 = 0 := by decide +kernel

theorem lt3 (t : Fin cfg3.N) : t.val < 16 := lt_of_lt_of_eq t.isLt N_3

/-- Call 3, window 0: its block is a block of rows. -/
theorem blk3_0 (t : Fin cfg3.N) (A : S4096x1024.Idx → EReal) :
    ((cfg3.win 0).blk t).view.read (Elt Ideal) A = rowsOf (p := 1024) A t.val := by
  refine funext fun (j : S256x1024.Idx) => ?_
  rw [View.read_apply]
  show A _ = A _
  congr 1
  funext a
  apply Fin.ext
  have hi := idx3_0 t
  have ht := lt3 t
  have h0 : (j 0).val < 256 := (j 0).isLt
  match a with
  | ⟨0, _⟩ => show win3_0.index t 0 * 256 + 1 * (j 0).val = (256 * t.val + (j 0).val) % 4096; rw [hi.1, Nat.mod_eq_of_lt (by omega)]; omega
  | ⟨1, _⟩ => show win3_0.index t 1 * 1024 + 1 * (j 1).val = (j 1).val; rw [hi.2]; omega

/-- Call 3, window 1: its block is its whole array. -/
theorem blk3_1 (t : Fin cfg3.N) (A : S1x1024.Idx → EReal) : ((cfg3.win 1).blk t).view.read (Elt Ideal) A = A := by
  refine funext fun (j : S1x1024.Idx) => ?_
  rw [View.read_apply]
  show A _ = A _
  congr 1
  funext a
  apply Fin.ext
  have hi := idx3_1 t
  match a with
  | ⟨0, _⟩ => show win3_1.index t 0 * 1 + 1 * (j 0).val = (j 0).val; rw [hi.1]; omega
  | ⟨1, _⟩ => show win3_1.index t 1 * 1024 + 1 * (j 1).val = (j 1).val; rw [hi.2]; omega

/-- Call 3, window 2: its block is its whole array. -/
theorem blk3_2 (t : Fin cfg3.N) (A : S1x1024.Idx → EReal) : ((cfg3.win 2).blk t).view.read (Elt Ideal) A = A := by
  refine funext fun (j : S1x1024.Idx) => ?_
  rw [View.read_apply]
  show A _ = A _
  congr 1
  funext a
  apply Fin.ext
  have hi := idx3_2 t
  match a with
  | ⟨0, _⟩ => show win3_2.index t 0 * 1 + 1 * (j 0).val = (j 0).val; rw [hi.1]; omega
  | ⟨1, _⟩ => show win3_2.index t 1 * 1024 + 1 * (j 1).val = (j 1).val; rw [hi.2]; omega

/-- Call 3, window 3: its block is a block of rows. -/
theorem blk3_3 (t : Fin cfg3.N) (A : S4096x1024.Idx → EReal) :
    ((cfg3.win 3).blk t).view.read (Elt Ideal) A = rowsOf (p := 1024) A t.val := by
  refine funext fun (j : S256x1024.Idx) => ?_
  rw [View.read_apply]
  show A _ = A _
  congr 1
  funext a
  apply Fin.ext
  have hi := idx3_3 t
  have ht := lt3 t
  have h0 : (j 0).val < 256 := (j 0).isLt
  match a with
  | ⟨0, _⟩ => show win3_3.index t 0 * 256 + 1 * (j 0).val = (256 * t.val + (j 0).val) % 4096; rw [hi.1, Nat.mod_eq_of_lt (by omega)]; omega
  | ⟨1, _⟩ => show win3_3.index t 1 * 1024 + 1 * (j 1).val = (j 1).val; rw [hi.2]; omega

/-! ## Call 3: the arrays it leaves -/

theorem iblk3_0 (c : Dev nD) (t : Fin cfg3.N) : (iblk3 V c 0 t : S256x1024.Idx → EReal) = rowsOf (p := 1024) (V c main_arg8) t.val := blk3_0 t _

theorem iblk3_1 (c : Dev nD) (t : Fin cfg3.N) : (iblk3 V c 1 t : S1x1024.Idx → EReal) = (V c main_arg9) := blk3_1 t _

theorem iblk3_2 (c : Dev nD) (t : Fin cfg3.N) : (iblk3 V c 2 t : S1x1024.Idx → EReal) = (V c main_arg10) := blk3_2 t _

theorem out3_3_eq (x0 : Vec Ideal S256x1024 .f32) (x1 : Vec Ideal S1x1024 .f32) (x2 : Vec Ideal S1x1024 .f32) : out3_3 x0 x1 x2 = swish (n := 256) x0 x1 x2 := by
  unfold out3_3
  rw [View.canon_unit_zero hz]
  simp only [View.ld_unit_zero (S := S256x1024) hz, View.ld_unit_zero (S := S1x1024) hz]
  exact funext fun j => swish_eq x0 x1 x2 j

/-- Every index of the array lies in the block of some point. -/
theorem cover3_3' (i : S4096x1024.Idx) : ∃ t : Fin cfg3.N, (cfg3.win 3).flush t = true ∧ i ∈ ((cfg3.win 3).blk t).view.set := by
  have h0 : (i 0).val < 4096 := (i 0).isLt
  have h1 : (i 1).val < 1024 := (i 1).isLt
  have ht : (i 0).val / 256 < cfg3.N := lt_of_lt_of_eq (by omega : _ < 16) N_3.symm
  refine ⟨⟨(i 0).val / 256, ht⟩, flush3_3 _, ?_⟩
  have hi := idx3_3 ⟨(i 0).val / 256, ht⟩
  show i ∈ ((View.whole (Pipeline.arrRef spec3 3)).slice (win3_3.rect ⟨(i 0).val / 256, ht⟩)).set
  rw [View.set_slice_whole, Rect.mem_set_unit]
  intro a
  match a with
  | ⟨0, _⟩ => show win3_3.index ⟨(i 0).val / 256, ht⟩ 0 * 256 ≤ (i 0).val ∧ (i 0).val < win3_3.index ⟨(i 0).val / 256, ht⟩ 0 * 256 + 256; rw [hi.1]; dsimp only; omega
  | ⟨1, _⟩ => show win3_3.index ⟨(i 0).val / 256, ht⟩ 1 * 1024 ≤ (i 1).val ∧ (i 1).val < win3_3.index ⟨(i 0).val / 256, ht⟩ 1 * 1024 + 1024; rw [hi.2]; omega

/-- What a point writes back is its block of rows of the whole. -/
theorem flushed3_3 (c : Dev nD) (t : Fin cfg3.N) :
    (dat3 V c).flushed 3 t = ((cfg3.win 3).blk t).view.read (Elt Ideal) (swish (n := 4096) (V c main_arg8) (V c main_arg9) (V c main_arg10)) := by
  show (cfg3.win 3).cut (grid3.coords t) ((dat3 V c).after 3 t) = _
  rw [after3_3, blk3_3]
  refine (out3_3_eq (iblk3 V c 0 t) (iblk3 V c 1 t) (iblk3 V c 2 t)).trans ?_
  rw [iblk3_0, iblk3_1, iblk3_2]
  rfl

/-- The normalised rows times their logistic function. -/
theorem final3_3 (c : Dev nD) : (dat3 V c).arrAt 3 cfg3.N = swish (n := 4096) (V c main_arg8) (V c main_arg9) (V c main_arg10) :=
  (dat3 V c).arrAt_eq_of_cover 3 (swish (n := 4096) (V c main_arg8) (V c main_arg9) (V c main_arg10)) (fun t _ => flushed3_3 V c t) cover3_3'

end Cert.Kernel11Ideal.RefValue

end
-- ==== Proof.ForwardRun.lean ====
/-
The row-wise calls of the forward pass: the program's run, and what it leaves of its arguments.
-/
module

public import proofs.«01_k».proof.Proof.ForwardArrays
public import Idealize.ShloMosaic.Lib.Quiescent

@[expose] public section

set_option maxRecDepth 16384

noncomputable section

namespace Cert.Kernel11Ideal.RefValue

open Cert.Kernel11Ideal Cert.Kernel11Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

section Any
variable {F : FTy → Type} [FloatOps F]
variable (m : (ℓ : Loc nD τ sig) → Buf (Elt F) ℓ) (ρ : Dev nD → PrngReg)

local notation "𝕄" => MT nD τ sig Unit (Elt F) ℕ (UR sig nD τ) ℕ

set_option backward.isDefEq.respectTransparency.types false in
/-- The whole program runs from any memory with zero counters, and every buffer of the TensorCore ends at the contents that
    the four calls leave in turn (`W4`). -/
theorem run_bufs : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ => h)

end Any

section AtIdeal
variable (m : (ℓ : Loc nD τ sig) → Buf (Elt Ideal) ℓ) (ρ : Dev nD → PrngReg)

theorem V1_arg (c : Dev nD) : ∀ a ∈ argRefs, V1 m ρ c a = m ((c : Thread nD τ).loc a) := fun a ha => W1_args m ρ c a ha
theorem V2_arg (c : Dev nD) : ∀ a ∈ argRefs, V2 m ρ c a = m ((c : Thread nD τ).loc a) := fun a ha => W2_args m ρ c a ha
theorem V3_arg (c : Dev nD) : ∀ a ∈ argRefs, V3 m ρ c a = m ((c : Thread nD τ).loc a) := fun a ha => W3_args m ρ c a ha

/-- The stream, modulated, at the end of the program. -/
theorem W4_main_v0 (c : Dev nD) : W4 m ρ c main_v0 = modulate (n := 4096) (m ((c : Thread nD τ).loc main_arg0)) (m ((c : Thread nD τ).loc main_arg3)) (m ((c : Thread nD τ).loc main_arg4)) (m ((c : Thread nD τ).loc main_arg5)) := by
  refine (W4_of m ρ c main_v0 (by decide +kernel)).trans ((W3_of m ρ c main_v0 (by decide +kernel)).trans ((W2_of m ρ c main_v0 (by decide +kernel)).trans ((W1_arr m ρ c 4).trans ((final0_4 (V0 m ρ) c).trans ?_))))
  rfl

/-- The stream with the layer's output added, at the end of the program. -/
theorem W4_main_v1_0 (c : Dev nD) : W4 m ρ c main_v1_0 = stream (n := 4096) (m ((c : Thread nD τ).loc main_arg0)) (m ((c : Thread nD τ).loc main_arg1)) (m ((c : Thread nD τ).loc main_arg2)) := by
  refine (W4_of m ρ c main_v1_0 (by decide +kernel)).trans ((W3_of m ρ c main_v1_0 (by decide +kernel)).trans ((W2_arr m ρ c 6).trans ((final1_6 (V1 m ρ) c).trans ?_)))
  rw [V1_arg m ρ c main_arg0 (by decide), V1_arg m ρ c main_arg1 (by decide), V1_arg m ρ c main_arg2 (by decide)]

/-- That stream, modulated, at the end of the program. -/
theorem W4_main_v1_1 (c : Dev nD) : W4 m ρ c main_v1_1 = modulateStream (n := 4096) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W4_of m ρ c main_v1_1 (by decide +kernel)).trans ((W3_of m ρ c main_v1_1 (by decide +kernel)).trans ((W2_arr m ρ c 7).trans ((final1_7 (V1 m ρ) c).trans ?_)))
  rw [V1_arg m ρ c main_arg0 (by decide), V1_arg m ρ c main_arg1 (by decide), V1_arg m ρ c main_arg2 (by decide), V1_arg m ρ c main_arg3 (by decide), V1_arg m ρ c main_arg4 (by decide), V1_arg m ρ c main_arg5 (by decide)]

/-- The gated linear unit, at the end of the program. -/
theorem W4_main_v2 (c : Dev nD) : W4 m ρ c main_v2 = gated (n := 4096) (m ((c : Thread nD τ).loc main_arg6)) (m ((c : Thread nD τ).loc main_arg7)) := by
  refine (W4_of m ρ c main_v2 (by decide +kernel)).trans ((W3_arr m ρ c 2).trans ((final2_2 (V2 m ρ) c).trans ?_))
  rw [V2_arg m ρ c main_arg6 (by decide), V2_arg m ρ c main_arg7 (by decide)]

/-- The normalised rows times their logistic function, at the end of the program. -/
theorem W4_main_v3 (c : Dev nD) : W4 m ρ c main_v3 = swish (n := 4096) (m ((c : Thread nD τ).loc main_arg8)) (m ((c : Thread nD τ).loc main_arg9)) (m ((c : Thread nD τ).loc main_arg10)) := by
  refine (W4_arr m ρ c 3).trans ((final3_3 (V3 m ρ) c).trans ?_)
  rw [V3_arg m ρ c main_arg8 (by decide), V3_arg m ρ c main_arg9 (by decide), V3_arg m ρ c main_arg10 (by decide)]

/-- The run, read: the results as functions of the arguments, the arguments unchanged. -/
theorem run : θ_run defs (onTc (τ := τ) (main (F := Ideal))) ⟨m, fun _ => 0, ρ⟩ (fun r => ∀ c : Dev nD,
      r.2.mem ((c : Thread nD τ).loc main_v0) = modulate (n := 4096) (m ((c : Thread nD τ).loc main_arg0)) (m ((c : Thread nD τ).loc main_arg3)) (m ((c : Thread nD τ).loc main_arg4)) (m ((c : Thread nD τ).loc main_arg5))
      ∧ r.2.mem ((c : Thread nD τ).loc main_v1_0) = stream (n := 4096) (m ((c : Thread nD τ).loc main_arg0)) (m ((c : Thread nD τ).loc main_arg1)) (m ((c : Thread nD τ).loc main_arg2))
      ∧ r.2.mem ((c : Thread nD τ).loc main_v1_1) = modulateStream (n := 4096) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_v2) = gated (n := 4096) (m ((c : Thread nD τ).loc main_arg6)) (m ((c : Thread nD τ).loc main_arg7))
      ∧ r.2.mem ((c : Thread nD τ).loc main_v3) = swish (n := 4096) (m ((c : Thread nD τ).loc main_arg8)) (m ((c : Thread nD τ).loc main_arg9)) (m ((c : Thread nD τ).loc main_arg10))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)) :=
  (θ_run defs _ _).mono (fun _ h c =>
    ⟨(h c _ (mem_uc main_v0 (by decide))).trans (W4_main_v0 m ρ c),
     (h c _ (mem_uc main_v1_0 (by decide))).trans (W4_main_v1_0 m ρ c),
     (h c _ (mem_uc main_v1_1 (by decide))).trans (W4_main_v1_1 m ρ c),
     (h c _ (mem_uc main_v2 (by decide))).trans (W4_main_v2 m ρ c),
     (h c _ (mem_uc main_v3 (by decide))).trans (W4_main_v3 m ρ c),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c),
     (h c _ (mem_uc main_arg7 (by decide))).trans (W4_main_arg7 m ρ c),
     (h c _ (mem_uc main_arg8 (by decide))).trans (W4_main_arg8 m ρ c),
     (h c _ (mem_uc main_arg9 (by decide))).trans (W4_main_arg9 m ρ c),
     (h c _ (mem_uc main_arg10 (by decide))).trans (W4_main_arg10 m ρ c)⟩)
    (run_bufs m ρ)

end AtIdeal

end Cert.Kernel11Ideal.RefValue

end
-- ==== Proof.ForwardReference.lean ====
/-
The row-wise calls' reference: what its text gives is what the kernel computes.
-/
module

public import proofs.«01_k».proof.Proof.ForwardRun
public import proofs.«01_k».proof.Proof.Gen.Reference11Ideal.Run
public import proofs.«01_k».proof.Proof.Gen.Reference11Ideal.Read

@[expose] public section

set_option maxRecDepth 16384

noncomputable section

namespace Cert.Reference11Ideal.RefValue

open Cert.Reference11Ideal Cert.Reference11Ideal.Gen Cert.Reference11Ideal.Read
open Idealize.ShloMosaic Idealize.ShloMosaic.TcCoe Idealize.SL.Sem
open Cert.Kernel11Ideal.RefValue (stream modulate modulateStream gated affine swish)
open Cert.Products (Mat)
open Cert.Rowwise (row)
open Cert.Logistic (logistic)
open Cert.Norm (width eps mean centred spread invDev normal)
open Cert.Root (power invRoot scaled)

theorem zero_word : (FloatOps.ofBits .f32 0x00000000#32 : Ideal .f32) = (0 : EReal) := Ideal.ofBits_zero_f32

theorem one_word : (FloatOps.ofBits .f32 0x3F800000#32 : Ideal .f32) = (1 : EReal) := Ideal.ofBits_one_f32

/-- The only row of a one-row array. -/
theorem first_row (i : S4096x1024.Idx) (A : Mat 1 1024) (k : S1x1024.Idx) (h1 : k 1 = i 1) : A k = A (ix2 0 (i 1)) :=
  congrArg A (funext fun a => by
    match a with
    | ⟨0, _⟩ => exact Subsingleton.elim (α := Fin 1) _ _
    | ⟨1, _⟩ => exact h1)

/-! ## The stream and its modulation -/

section
variable (x0 x1 : Mat 4096 1024) (x2 x3 x4 x5 : Mat 1 1024)

/-- The second result: the stream with the layer's output added. -/
theorem v2_eq : val_main_v2 (F := Ideal) x0 x1 x2 = stream x0 x1 x2 := by
  funext i
  rw [val_main_v2_apply, val_main_v1_apply, val_main_v0_apply]
  exact congrArg (fun t : EReal => x0 i + t * x1 i) (first_row i x2 _ rfl)

theorem v9_eq (i : S4096x1.Idx) : val_main_v9 (F := Ideal) x0 i = power (row x0 (i 0)) := by
  rw [val_main_v9_apply, val_main_v7_apply, val_main_v5_apply, val_main_v4_apply, val_main_v6_apply, val_main_cst_0_apply,
    val_main_cst_apply, val_main_v8_apply, val_main_cst_1_apply, zero_word]
  simp only [val_main_v3_apply]
  refine congrArg (fun t => Ideal.div t width + eps) ((zero_add _).trans (Finset.sum_congr rfl fun k _ => ?_))
  refine congrArg (fun j : S4096x1024.Idx => x0 j * x0 j) ?_
  funext a
  match a with
  | ⟨0, _⟩ => rfl
  | ⟨1, _⟩ => rfl

theorem v12_eq (i : S4096x1024.Idx) : val_main_v12 (F := Ideal) x0 i = scaled (row x0 (i 0)) (i 1) := by
  rw [val_main_v12_apply, val_main_v11_apply, val_main_v10_apply, v9_eq]
  exact congrArg (· * invRoot (row x0 (i 0))) (congrArg x0 (eq_ix2 i))

theorem v16_eq (i : S1x1024.Idx) : val_main_v16 (F := Ideal) x4 i = (1 : EReal) + x4 i := by
  rw [val_main_v16_apply, val_main_v15_apply, val_main_cst_2_apply, one_word]
  rfl

/-- The first result: the stream, modulated. -/
theorem v21_eq : val_main_v21 (F := Ideal) x0 x3 x4 x5 = modulate x0 x3 x4 x5 := by
  funext i
  rw [val_main_v21_apply, val_main_v20_apply, val_main_v18_apply, val_main_v14_apply, v12_eq, val_main_v13_apply,
    val_main_v17_apply, v16_eq, val_main_v19_apply]
  refine congrArg₂ (fun s t : EReal => s + t) (congrArg₂ (fun s t : EReal => s * (1 + t)) ?_ (first_row i x4 _ rfl)) (first_row i x5 _ rfl)
  exact congrArg (fun t : EReal => scaled (row x0 (i 0)) (i 1) * t) (first_row i x3 _ rfl)

/-- The third result: the stream with the layer's output added, modulated. -/
theorem v40_eq : val_main_v40 (F := Ideal) x0 x1 x2 x3 x4 x5 = modulateStream x0 x1 x2 x3 x4 x5 := by
  refine (show val_main_v40 (F := Ideal) x0 x1 x2 x3 x4 x5 = val_main_v21 (F := Ideal) (val_main_v2 (F := Ideal) x0 x1 x2) x3 x4 x5 from rfl).trans ?_
  rw [v2_eq]
  exact v21_eq (stream x0 x1 x2) x3 x4 x5

end

/-! ## The gated linear unit -/

section
variable (x6 : Mat 4096 2048) (x7 : Mat 1 2048)

theorem v42_eq (i : S4096x2048.Idx) : val_main_v42 (F := Ideal) x6 x7 i = (x6 i + x7 (ix2 0 (i 1)) : EReal) := by
  rw [val_main_v42_apply, val_main_v41_apply]
  refine congrArg (fun t : EReal => x6 i + t) (congrArg x7 ?_)
  funext a
  match a with
  | ⟨0, _⟩ => rfl
  | ⟨1, _⟩ => rfl

/-- The fourth result: the gated linear unit. -/
theorem v43_eq : val_main_v43 (F := Ideal) x6 x7 = gated x6 x7 := by
  funext i
  rw [val_main_v43_apply, val_main_call0_v0_apply, val_main_call0_v7_apply, val_main_call0_v6_apply, val_main_call0_cst_0_apply,
    val_main_call0_v5_apply, val_main_call0_v4_apply, val_main_call0_cst_apply, val_main_call0_v3_apply, val_main_call0_v2_apply,
    val_main_call0_v1_apply, v42_eq, v42_eq, one_word]
  have h1 : (i 1).val < 1024 := (i 1).isLt
  have e0 : idx_main_call0_v0 i = ix2 (i 0) (⟨(i 1).val, by omega⟩ : Fin 2048) := by
    funext a
    match a with
    | ⟨0, _⟩ => rfl
    | ⟨1, _⟩ => rfl
  have e1 : idx_main_call0_v1 i = ix2 (i 0) (⟨1024 + (i 1).val, by omega⟩ : Fin 2048) := by
    funext a
    match a with
    | ⟨0, _⟩ => rfl
    | ⟨1, _⟩ => rfl
  rw [e0, e1]
  rfl

end

/-! ## The normalised rows -/

section
variable (x8 : Mat 4096 1024) (x9 x10 : Mat 1 1024)

theorem v47_eq (i : S4096x1.Idx) : val_main_v47 (F := Ideal) x8 i = mean (row x8 (i 0)) := by
  rw [val_main_v47_apply, val_main_v45_apply, val_main_v44_apply, val_main_v46_apply, val_main_cst_8_apply, val_main_cst_7_apply, zero_word]
  refine congrArg (fun t => Ideal.div t width) ((zero_add _).trans (Finset.sum_congr rfl fun k _ => congrArg x8 ?_))
  funext a
  match a with
  | ⟨0, _⟩ => rfl
  | ⟨1, _⟩ => rfl

theorem v49_eq (i : S4096x1024.Idx) : val_main_v49 (F := Ideal) x8 i = centred (row x8 (i 0)) (i 1) := by
  rw [val_main_v49_apply, val_main_v48_apply, v47_eq]
  exact congrArg (· - mean (row x8 (i 0))) (congrArg x8 (eq_ix2 i))

theorem v56_eq (i : S4096x1.Idx) : val_main_v56 (F := Ideal) x8 i = spread (row x8 (i 0)) := by
  rw [val_main_v56_apply, val_main_v54_apply, val_main_v52_apply, val_main_v51_apply, val_main_v53_apply, val_main_cst_10_apply,
    val_main_cst_9_apply, val_main_v55_apply, val_main_cst_11_apply, zero_word]
  simp only [val_main_v50_apply, v49_eq]
  exact congrArg (fun t => Ideal.div t width + eps) (zero_add _)

theorem v63_eq (i : S4096x1024.Idx) : val_main_v63 (F := Ideal) x8 x9 x10 i = affine x8 x9 x10 i := by
  rw [val_main_v63_apply, val_main_v61_apply, val_main_v59_apply, v49_eq, val_main_v58_apply, val_main_v57_apply, v56_eq,
    val_main_v60_apply, val_main_v62_apply]
  exact congrArg₂ (fun s t : EReal => normal (row x8 (i 0)) (i 1) * s + t) (first_row i x9 _ rfl) (first_row i x10 _ rfl)

/-- The fifth result: the normalised rows times their logistic function. -/
theorem v65_eq : val_main_v65 (F := Ideal) x8 x9 x10 = swish x8 x9 x10 := by
  funext i
  rw [val_main_v65_apply, val_main_v64_apply, val_main_call1_v5_apply, val_main_call1_v4_apply, val_main_call1_cst_0_apply,
    val_main_call1_v3_apply, val_main_call1_v2_apply, val_main_call1_cst_apply, val_main_call1_v1_apply, val_main_call1_v0_apply,
    v63_eq, one_word]
  rfl

end

end Cert.Reference11Ideal.RefValue

end
-- ==== Proof.Forward.lean ====
/-
The row-wise calls of the forward pass: the run of the reference, and the claims about the two programs.
-/
module

public import proofs.«01_k».proof.Defs
public import proofs.«01_k».proof.Proof.Gen.Kernel11.Frame
public import proofs.«01_k».proof.Proof.ForwardReference
public import Idealize.ShloMosaic.Lib.Quiescent

@[expose] public section

set_option maxRecDepth 16384

noncomputable section

namespace Cert.ForwardProof

open Idealize.ShloMosaic Idealize.ShloMosaic.TcCoe Idealize.SL.Sem
open Cert.Kernel11Ideal.RefValue (stream modulate modulateStream gated swish)

/-- The run at the machine's words leaves the arguments and the counters as they were. -/
theorem frame_kernel : Cert.quiescent_Kernel11 := fun m ρ _ => Cert.Kernel11.Gen.frame (F := Bits) m ρ

/-- So does the run on the extended reals. -/
theorem frame_ideal : Cert.quiescent_Kernel11Ideal := fun m ρ _ => Cert.Kernel11Ideal.Gen.frame (F := Ideal) m ρ

section
open Cert.Reference11Ideal

/-- The reference leaves its arguments as they were; it has no counters. -/
theorem frame_reference : Cert.quiescent_Reference11Ideal := fun m ρ _ =>
  (θ_run defs _ _).mono (fun r h => ⟨fun c => (h c).2.2.2.2.2, sem_eq_zero_of_no_sems (by decide) r.2⟩)
    (Cert.Reference11Ideal.Value.run (F := Ideal) m ρ)

variable (m : (ℓ : Loc nD τ sig) → Buf (Elt Ideal) ℓ) (ρ : Dev nD → PrngReg)

/-- The reference ends with the same five functions of its arguments that the kernel computes. -/
theorem reference_run : θ_run defs (onTc (τ := τ) (main (F := Ideal))) ⟨m, fun _ => 0, ρ⟩ (fun r => ∀ c : Dev nD,
      r.2.mem ((c : Thread nD τ).loc main_v21) = modulate (n := 4096) (m ((c : Thread nD τ).loc main_arg0)) (m ((c : Thread nD τ).loc main_arg3)) (m ((c : Thread nD τ).loc main_arg4)) (m ((c : Thread nD τ).loc main_arg5))
      ∧ r.2.mem ((c : Thread nD τ).loc main_v2) = stream (n := 4096) (m ((c : Thread nD τ).loc main_arg0)) (m ((c : Thread nD τ).loc main_arg1)) (m ((c : Thread nD τ).loc main_arg2))
      ∧ r.2.mem ((c : Thread nD τ).loc main_v40) = modulateStream (n := 4096) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_v43) = gated (n := 4096) (m ((c : Thread nD τ).loc main_arg6)) (m ((c : Thread nD τ).loc main_arg7))
      ∧ r.2.mem ((c : Thread nD τ).loc main_v65) = swish (n := 4096) (m ((c : Thread nD τ).loc main_arg8)) (m ((c : Thread nD τ).loc main_arg9)) (m ((c : Thread nD τ).loc main_arg10))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)) :=
  (θ_run defs _ _).mono (fun _ h c =>
    ⟨((h c).1.trans (Read.val_main_v21_eq _ _ _ _)).trans (RefValue.v21_eq _ _ _ _),
     ((h c).2.1.trans (Read.val_main_v2_eq _ _ _)).trans (RefValue.v2_eq _ _ _),
     ((h c).2.2.1.trans (Read.val_main_v40_eq _ _ _ _ _ _)).trans (RefValue.v40_eq _ _ _ _ _ _),
     ((h c).2.2.2.1.trans (Read.val_main_v43_eq _ _)).trans (RefValue.v43_eq _ _),
     ((h c).2.2.2.2.1.trans (Read.val_main_v65_eq _ _ _)).trans (RefValue.v65_eq _ _ _),
     (h c).2.2.2.2.2⟩)
    (Value.run (F := Ideal) m ρ)

end

section
open Cert.Kernel11Ideal

/-- From equal arguments the kernel and the reference end with equal results: the modulated stream, the stream with a layer's
    output added, that stream modulated, the gated linear unit, and the normalised rows times their logistic function. -/
theorem algebraic : Cert.algebraic_Kernel11Ideal_Reference11Ideal := fun m ρ m' ρ' _ hag =>
  ⟨fun c => modulate (n := 4096) (m ((c : Thread nD τ).loc main_arg0)) (m ((c : Thread nD τ).loc main_arg3)) (m ((c : Thread nD τ).loc main_arg4)) (m ((c : Thread nD τ).loc main_arg5)),
   fun c => stream (n := 4096) (m ((c : Thread nD τ).loc main_arg0)) (m ((c : Thread nD τ).loc main_arg1)) (m ((c : Thread nD τ).loc main_arg2)),
   fun c => modulateStream (n := 4096) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)),
   fun c => gated (n := 4096) (m ((c : Thread nD τ).loc main_arg6)) (m ((c : Thread nD τ).loc main_arg7)),
   fun c => swish (n := 4096) (m ((c : Thread nD τ).loc main_arg8)) (m ((c : Thread nD τ).loc main_arg9)) (m ((c : Thread nD τ).loc main_arg10)),
   RefValue.run m ρ,
   (θ_run _ _ _).mono (fun r h c => by
      obtain ⟨h0, h1, h2, h3, h4, h5, h6, h7, h8, h9, h10⟩ := hag c
      have hc := h c
      rw [h0, h1, h2, h3, h4, h5, h6, h7, h8, h9, h10] at hc
      obtain ⟨e1, e2, e3, e4, e5, f0, f1, f2, f3, f4, f5, f6, f7, f8, f9, f10⟩ := hc
      exact ⟨e1, e2, e3, e4, e5, f0.trans h0.symm, f1.trans h1.symm, f2.trans h2.symm, f3.trans h3.symm, f4.trans h4.symm, f5.trans h5.symm, f6.trans h6.symm, f7.trans h7.symm, f8.trans h8.symm, f9.trans h9.symm, f10.trans h10.symm⟩) (reference_run m' ρ')⟩

end

end Cert.ForwardProof

end
-- ==== Proof.DepthwiseBlock.lean ====
/-
The depthwise convolution's one block: the loop over its tiles leaves in the result block, at every row, the bias and the
sum over the taps of the tap times the row that many places on.
-/
module

public import proofs.«01_k».proof.Proof.Gen.Kernel12Ideal.Value
public import Idealize.ShloMosaic.Lib.Pipeline.Value
public import Idealize.ShloMosaic.Lib.Pointwise
public import Idealize.ShloMosaic.Lib.ValueIdxCore

@[expose] public section

set_option maxRecDepth 16384

noncomputable section

namespace Cert.Kernel12Ideal.RefValue

open Cert.Kernel12Ideal Cert.Kernel12Ideal.Gen
open Idealize.ShloMosaic Idealize.ShloMosaic.TcCoe Idealize.SL.Sem

/-- A tile's rows from row `n` on, at row `q` and column `l`. -/
def shifted (x : S288x128.Idx → EReal) (n : ℕ) (q : Fin 256) (l : Fin 128) : EReal :=
  x (ix2 ⟨(q.val + n) % 288, Nat.mod_lt _ (by decide)⟩ l)

/-- A tile turned back by `288 - n` rows, its first 256 rows kept: at each entry the tile `n` rows on. -/
theorem turned_apply (sb : BitVec 32) (n : ℕ) (hs : 288 - sb.toNat = n) (h1 : 1 ≤ sb.toNat) (h2 : sb.toNat ≤ 288) (x : S288x128.Idx → EReal)
    (q : Fin 256) (l : Fin 128) :
    extractStridedSlice S256x128 ![0, 0] (dynamicRotate 0 sb none x rotates_S288x128_d0) slices_S288x128_o0_0_S256x128 (ix2 q l) = shifted x n q l := by
  have hq := q.isLt
  rw [extractStridedSlice_apply ![0, 0] _ slices_S288x128_o0_0_S256x128 (ix2 q l) (ix2 ⟨q.val, by omega⟩ l) (fun a => match a with
    | ⟨0, _⟩ => by show q.val = 0 + q.val; omega
    | ⟨1, _⟩ => by show l.val = 0 + l.val; omega)]
  refine (Idealize.ShloMosaic.Pointwise.dynamicRotate_apply _ _ _ _ _ _).trans ?_
  unfold shifted
  congr 1
  funext a
  apply Fin.ext
  match a with
  | ⟨0, _⟩ =>
    show (q.val + 288 - (sb.toNat + 0) % 288) % 288 = (q.val + n) % 288
    omega
  | ⟨1, _⟩ => rfl

/-- One tap's product at an entry. -/
theorem tap_apply (acc : S256x128.Idx → EReal) (w : S1x128.Idx → EReal) (y : S256x128.Idx → EReal) (q : Fin 256) (l : Fin 128) :
    addf (F := Ideal) (φ := .f32) acc (mulf (F := Ideal) (φ := .f32) (broadcastTo S256x128 w broadcasts_S1x128_S256x128) y) (ix2 q l)
      = acc (ix2 q l) + w (ix2 0 l) * y (ix2 q l) := by
  pointwise

/-- The bias, from which the sum begins. -/
theorem bias_apply (b : S1x128.Idx → EReal) (q : Fin 256) (l : Fin 128) :
    addf (F := Ideal) (φ := .f32) (broadcast S256x128 (Scalar.ofBits .f32 0x00000000#32)) (broadcastTo S256x128 b broadcasts_S1x128_S256x128) (ix2 q l)
      = b (ix2 0 l) := by
  pointwise

/-- The bias and the first five taps. -/
theorem pay2_apply (x : S288x128.Idx → EReal) (b w0 w1 w2 w3 w4 : S1x128.Idx → EReal) (q : Fin 256) (l : Fin 128) :
    k0_pay2 (F := Ideal) x b w0 w1 w2 w3 w4 (ix2 q l)
      = b (ix2 0 l) + w0 (ix2 0 l) * shifted x 2 q l + w1 (ix2 0 l) * shifted x 3 q l + w2 (ix2 0 l) * shifted x 4 q l + w3 (ix2 0 l) * shifted x 5 q l + w4 (ix2 0 l) * shifted x 6 q l := by
  have h1 : k0_pay1 (F := Ideal) x = x := by
    unfold k0_pay1
    exact shapeCast_self _ _
  unfold k0_pay2
  rw [h1]
  dsimp only
  simp only [tap_apply, bias_apply]
  rw [turned_apply 286#32 2 rfl (by decide) (by decide),
    turned_apply 285#32 3 rfl (by decide) (by decide),
    turned_apply 284#32 4 rfl (by decide) (by decide),
    turned_apply 283#32 5 rfl (by decide) (by decide),
    turned_apply 282#32 6 rfl (by decide) (by decide)]

/-- The next six taps. -/
theorem pay3_apply (x : S288x128.Idx → EReal) (acc : S256x128.Idx → EReal) (w5 w6 w7 w8 w9 w10 : S1x128.Idx → EReal) (q : Fin 256) (l : Fin 128) :
    k0_pay3 (F := Ideal) x acc w5 w6 w7 w8 w9 w10 (ix2 q l)
      = acc (ix2 q l) + w5 (ix2 0 l) * shifted x 7 q l + w6 (ix2 0 l) * shifted x 8 q l + w7 (ix2 0 l) * shifted x 9 q l + w8 (ix2 0 l) * shifted x 10 q l + w9 (ix2 0 l) * shifted x 11 q l + w10 (ix2 0 l) * shifted x 12 q l := by
  unfold k0_pay3
  dsimp only
  simp only [tap_apply]
  rw [turned_apply 281#32 7 rfl (by decide) (by decide),
    turned_apply 280#32 8 rfl (by decide) (by decide),
    turned_apply 279#32 9 rfl (by decide) (by decide),
    turned_apply 278#32 10 rfl (by decide) (by decide),
    turned_apply 277#32 11 rfl (by decide) (by decide),
    turned_apply 276#32 12 rfl (by decide) (by decide)]

/-- The next seven. -/
theorem pay5_apply (x : S288x128.Idx → EReal) (acc : S256x128.Idx → EReal) (w11 w12 w13 w14 w15 w16 w17 : S1x128.Idx → EReal) (q : Fin 256) (l : Fin 128) :
    k0_pay5 (F := Ideal) x acc (k0_pay4 (F := Ideal) x) w11 w12 w13 w14 w15 w16 w17 (ix2 q l)
      = acc (ix2 q l) + w11 (ix2 0 l) * shifted x 13 q l + w12 (ix2 0 l) * shifted x 14 q l + w13 (ix2 0 l) * shifted x 15 q l + w14 (ix2 0 l) * shifted x 16 q l + w15 (ix2 0 l) * shifted x 17 q l + w16 (ix2 0 l) * shifted x 18 q l + w17 (ix2 0 l) * shifted x 19 q l := by
  unfold k0_pay5 k0_pay4
  dsimp only
  simp only [tap_apply]
  rw [turned_apply 275#32 13 rfl (by decide) (by decide),
    turned_apply 274#32 14 rfl (by decide) (by decide),
    turned_apply 273#32 15 rfl (by decide) (by decide),
    turned_apply 272#32 16 rfl (by decide) (by decide),
    turned_apply 271#32 17 rfl (by decide) (by decide),
    turned_apply 270#32 18 rfl (by decide) (by decide),
    turned_apply 269#32 19 rfl (by decide) (by decide)]

/-- The next seven. -/
theorem pay7_apply (x : S288x128.Idx → EReal) (acc : S256x128.Idx → EReal) (w18 w19 w20 w21 w22 w23 w24 : S1x128.Idx → EReal) (q : Fin 256) (l : Fin 128) :
    k0_pay7 (F := Ideal) x acc (k0_pay6 (F := Ideal) x) w18 w19 w20 w21 w22 w23 w24 (ix2 q l)
      = acc (ix2 q l) + w18 (ix2 0 l) * shifted x 20 q l + w19 (ix2 0 l) * shifted x 21 q l + w20 (ix2 0 l) * shifted x 22 q l + w21 (ix2 0 l) * shifted x 23 q l + w22 (ix2 0 l) * shifted x 24 q l + w23 (ix2 0 l) * shifted x 25 q l + w24 (ix2 0 l) * shifted x 26 q l := by
  unfold k0_pay7 k0_pay6
  dsimp only
  simp only [tap_apply]
  rw [turned_apply 268#32 20 rfl (by decide) (by decide),
    turned_apply 267#32 21 rfl (by decide) (by decide),
    turned_apply 266#32 22 rfl (by decide) (by decide),
    turned_apply 265#32 23 rfl (by decide) (by decide),
    turned_apply 264#32 24 rfl (by decide) (by decide),
    turned_apply 263#32 25 rfl (by decide) (by decide),
    turned_apply 262#32 26 rfl (by decide) (by decide)]

/-- The last six. -/
theorem pay8_apply (x : S288x128.Idx → EReal) (acc : S256x128.Idx → EReal) (w25 w26 w27 w28 w29 w30 : S1x128.Idx → EReal) (q : Fin 256) (l : Fin 128) :
    k0_pay8 (F := Ideal) x acc w25 w26 w27 w28 w29 w30 (ix2 q l)
      = acc (ix2 q l) + w25 (ix2 0 l) * shifted x 27 q l + w26 (ix2 0 l) * shifted x 28 q l + w27 (ix2 0 l) * shifted x 29 q l + w28 (ix2 0 l) * shifted x 30 q l + w29 (ix2 0 l) * shifted x 31 q l + w30 (ix2 0 l) * shifted x 32 q l := by
  unfold k0_pay8
  dsimp only
  simp only [tap_apply]
  rw [turned_apply 261#32 27 rfl (by decide) (by decide),
    turned_apply 260#32 28 rfl (by decide) (by decide),
    turned_apply 259#32 29 rfl (by decide) (by decide),
    turned_apply 258#32 30 rfl (by decide) (by decide),
    turned_apply 257#32 31 rfl (by decide) (by decide),
    turned_apply 256#32 32 rfl (by decide) (by decide)]

/-! ## One trip -/

/-- The bias and the first `n` taps, each times its row. -/
def partSum (b : EReal) (w y : ℕ → EReal) : ℕ → EReal
  | 0 => b
  | n + 1 => partSum b w y n + w n * y n

variable (c : Dev nD) (i : grid0.Coords) (arg1 : Memref sig .tc .vmem S4128x128 .f32) (harg1 : arg1.IsWhole) (arg2 : Memref sig .tc .vmem S32x128 .f32) (harg2 : arg2.IsWhole) (arg3 : Memref sig .tc .vmem S1x128 .f32) (harg3 : arg3.IsWhole) (arg4 : Memref sig .tc .vmem S4096x128 .f32) (harg4 : arg4.IsWhole)
  (Y : S4128x128.Idx → EReal) (W : S32x128.Idx → EReal) (b : S1x128.Idx → EReal)

/-- Rows 256 `k` and on of the padded rows, 288 of them. -/
abbrev tile (k : Fin k0_t1_loop.trips) : Rect S4128x128 := Rect.unit (s := S4128x128) (k0_off1 k) S288x128.size (k0_off1_inb k)

/-- Rows 256 `k` and on of the result, 256 of them. -/
abbrev rows (k : Fin k0_t1_loop.trips) : Rect S4096x128 := Rect.unit (s := S4096x128) (k0_off2 k) S256x128.size (k0_off2_inb k)

/-- The tiles begin at row `256 k`. -/
theorem off1_eq : ∀ k : Fin k0_t1_loop.trips, k0_off1 k = ![256 * k.val, 0] := by decide +kernel

/-- So do the result's rows. -/
theorem off2_eq : ∀ k : Fin k0_t1_loop.trips, k0_off2 k = ![256 * k.val, 0] := by decide +kernel

/-- The loop makes sixteen trips. -/
theorem trips_eq : k0_t1_loop.trips = 16 := by decide +kernel

/-- Tap `n` of column `l`. -/
def tapAt (W : S32x128.Idx → EReal) (l : Fin 128) (n : ℕ) : EReal := if h : n < 32 then W (ix2 ⟨n, h⟩ l) else 0

/-- Row `n` of column `l` of the padded rows. -/
def rowAt (Y : S4128x128.Idx → EReal) (l : Fin 128) (n : ℕ) : EReal := if h : n < 4128 then Y (ix2 ⟨n, h⟩ l) else 0

/-- The convolution of one block of columns: the padded rows begin with 32 rows of zeros, two more than the taps reach. -/
def blockConv (Y : S4128x128.Idx → EReal) (W : S32x128.Idx → EReal) (b : S1x128.Idx → EReal) : S4096x128.Idx → EReal :=
  fun j => partSum (b (ix2 0 (j 1))) (tapAt W (j 1)) (fun n => rowAt Y (j 1) ((j 0).val + (n + 2))) 31

/-- The one-row read of the taps at row `n`, at column `l`. -/
theorem ld_tap (n : ℕ) (h : ∀ a, (![n, 0] : Fin 2 → ℕ) a + S1x128.size a ≤ S32x128.size a) (l : Fin 128) :
    View.ld (Val := Elt Ideal) (e' := .f32) W (Rect.unit (s := S32x128) ![n, 0] ![1, 128] h) (ix2 0 l) = tapAt W l n := by
  have hn : n < 32 := by have := h 0; change n + 1 ≤ 32 at this; omega
  unfold tapAt
  rw [dif_pos hn]
  show W _ = W _
  congr 1
  funext a
  apply Fin.ext
  match a with
  | ⟨0, _⟩ => show n + 1 * 0 = n; omega
  | ⟨1, _⟩ => show 0 + 1 * l.val = l.val; omega

/-- The read of the rows in trip `k`, moved down by `n`, at row `q` and column `l`. -/
theorem ld_row (k : Fin k0_t1_loop.trips) (n : ℕ) (hn : n ≤ 32) (q : Fin 256) (l : Fin 128) :
    shifted (View.ld (Val := Elt Ideal) (e' := .f32) Y (tile k)) n q l = rowAt Y l (256 * k.val + q.val + n) := by
  have hq := q.isLt
  have hk : k.val < 16 := lt_of_lt_of_eq k.isLt trips_eq
  unfold rowAt shifted
  rw [dif_pos (by omega)]
  show Y _ = Y _
  congr 1
  funext a
  apply Fin.ext
  have h := congrFun (off1_eq k) a
  match a with
  | ⟨0, _⟩ => show k0_off1 k 0 + 1 * ((q.val + n) % 288) = _; rw [show k0_off1 k 0 = _ from h]; show 256 * k.val + 1 * ((q.val + n) % 288) = 256 * k.val + q.val + n; omega
  | ⟨1, _⟩ => show k0_off1 k 1 + 1 * l.val = _; rw [show k0_off1 k 1 = _ from h]; show 0 + 1 * l.val = l.val; omega

/-- The index that trip `k` writes its row `q` to. -/
theorem rows_idx (k : Fin k0_t1_loop.trips) (q : Fin 256) (l : Fin 128) :
    (rows k).idx (ix2 q l) = ix2 ⟨256 * k.val + q.val, by have h := q.isLt; have h' : k.val < 16 := lt_of_lt_of_eq k.isLt trips_eq; omega⟩ l := by
  funext a
  apply Fin.ext
  have h := congrFun (off2_eq k) a
  match a with
  | ⟨0, _⟩ => show k0_off2 k 0 + 1 * q.val = _; rw [show k0_off2 k 0 = _ from h]; show 256 * k.val + 1 * q.val = 256 * k.val + q.val; omega
  | ⟨1, _⟩ => show k0_off2 k 1 + 1 * l.val = _; rw [show k0_off2 k 1 = _ from h]; show 0 + 1 * l.val = l.val; omega

/-- What a trip stores is a block of rows of the convolution. -/
theorem trip_pieces (k : Fin k0_t1_loop.trips) (p : View.Piece (Elt Ideal) S4096x128 .f32)
    (hp : p ∈ tripL_k0_t1 (F := Ideal) Variants.none c none i arg1 harg1 arg2 harg2 arg3 harg3 arg4 harg4 (harg1.unread Y) (harg2.unread W) (harg3.unread b) k)
    (x : p.1.shape.Idx) : p.2 x = blockConv Y W b (p.1.emb x) := by
  have hz : (![0, 0] : Fin S1x128.rank → Nat) = fun _ => 0 := funext fun a => by fin_cases a <;> rfl
  have h1 : ∀ x, k0_pay1 (F := Ideal) x = x := fun x => by
    unfold k0_pay1
    exact shapeCast_self _ _
  unfold tripL_k0_t1 trip_k0_t1 at hp
  dsimp only at hp
  rw [List.mem_singleton] at hp
  subst hp
  obtain ⟨q, l, rfl⟩ : ∃ (q : Fin 256) (l : Fin 128), x = ix2 q l := ⟨x 0, x 1, by funext a; match a with | ⟨0, _⟩ => rfl | ⟨1, _⟩ => rfl⟩
  refine Eq.trans ?_ (congrArg (blockConv Y W b) (rows_idx k q l)).symm
  dsimp only
  unfold trip_k0_t1.sl.r_8 trip_k0_t1.sl.r_7 trip_k0_t1.sl.r_6 trip_k0_t1.sl.r_5 trip_k0_t1.sl.r_4 trip_k0_t1.sl.r_3 trip_k0_t1.sl.r_2 trip_k0_t1.sl.r_1 trip_k0_t1.sl.r
  simp only [View.readAt_eq_ld, harg1.read_unread, harg2.read_unread, harg3.read_unread, View.ld_unit_zero (S := S1x128) hz]
  rw [pay8_apply, pay7_apply, pay5_apply, pay3_apply, pay2_apply]
  simp only [h1]
  iterate 31 rw [ld_row _ _ _ (by decide)]
  rw [ld_tap W 0, ld_tap W 1, ld_tap W 2, ld_tap W 3, ld_tap W 4, ld_tap W 5, ld_tap W 6, ld_tap W 7, ld_tap W 8, ld_tap W 9, ld_tap W 10, ld_tap W 11, ld_tap W 12, ld_tap W 13, ld_tap W 14, ld_tap W 15, ld_tap W 16, ld_tap W 17, ld_tap W 18, ld_tap W 19, ld_tap W 20, ld_tap W 21, ld_tap W 22, ld_tap W 23, ld_tap W 24, ld_tap W 25, ld_tap W 26, ld_tap W 27, ld_tap W 28, ld_tap W 29, ld_tap W 30]
  rfl

/-- The pieces of the trips before `n` are blocks of rows of the convolution. -/
theorem pieces (n : ℕ) (hn : n ≤ 16) (p : View.Piece (Elt Ideal) S4096x128 .f32)
    (hp : p ∈ pb_k0_t1 (F := Ideal) Variants.none c none i arg1 harg1 arg2 harg2 arg3 harg3 arg4 harg4 (harg1.unread Y) (harg2.unread W) (harg3.unread b) n)
    (x : p.1.shape.Idx) : p.2 x = blockConv Y W b (p.1.emb x) := by
  induction n with
  | zero => exact absurd hp (by simp [pb_k0_t1])
  | succ n ih =>
    have e := pb_k0_t1_succ (F := Ideal) Variants.none c none i arg1 harg1 arg2 harg2 arg3 harg3 arg4 harg4 (harg1.unread Y) (harg2.unread W) (harg3.unread b) ⟨n, show n < k0_t1_loop.trips by rw [trips_eq]; omega⟩
    simp only at e
    rw [e, List.mem_append] at hp
    rcases hp with hp | hp
    · exact trip_pieces c i arg1 harg1 arg2 harg2 arg3 harg3 arg4 harg4 Y W b _ p hp x
    · exact ih (by omega) hp

/-- The output's block after the body: the convolution. -/
theorem out3_eq : out0_A_3 (F := Ideal) c i arg1 harg1 arg2 harg2 arg3 harg3 arg4 harg4 Y W b = blockConv Y W b := by
  funext y
  have hc := cover0_A_3 (F := Ideal) c i arg1 harg1 arg2 harg2 arg3 harg3 arg4 harg4 Y W b
  unfold out0_A_3
  rw [View.read_writes_eq_canon _ _ _ hc]
  refine View.canon_apply_of_pieces (blockConv Y W b) _ ?_ y (hc y)
  have hs := pieces c i arg1 harg1 arg2 harg2 arg3 harg3 arg4 harg4 Y W b k0_t1_loop.trips (le_of_eq trips_eq)
  unfold kernelRun0_A
  dsimp only
  simpa using hs

end Cert.Kernel12Ideal.RefValue

end
-- ==== Proof.DepthwiseArrays.lean ====
/-
The depthwise convolution's result array as a function of its arguments, and the kernel's run.
-/
module

public import proofs.«01_k».proof.Proof.DepthwiseBlock
public import Idealize.ShloMosaic.Lib.KernelVsHost
public import Idealize.ShloMosaic.Lib.StableHlo.RunRead

@[expose] public section

set_option maxRecDepth 16384

noncomputable section

namespace Cert.Kernel12Ideal.RefValue

open Cert.Kernel12Ideal Cert.Kernel12Ideal.Gen
open Idealize.ShloMosaic Idealize.ShloMosaic.TcCoe Idealize.SL.Sem
open Idealize.ShloMosaic.Pipeline (Dat)

/-- Tap `n` of column `l`. -/
def tap (w : S32x1024.Idx → EReal) (l : Fin 1024) (n : ℕ) : EReal := if h : n < 32 then w (ix2 ⟨n, h⟩ l) else 0

/-- Column `l` of the rows with 30 zeros before the first. -/
def delayed (y : S4096x1024.Idx → EReal) (l : Fin 1024) (n : ℕ) : EReal :=
  if h : 30 ≤ n ∧ n - 30 < 4096 then y (ix2 ⟨n - 30, h.2⟩ l) else 0

/-- The causal convolution of width 31: at each row the bias and the sum over the taps of the tap times the row 30 less
    the tap's number before. -/
def conv (y : S4096x1024.Idx → EReal) (w : S32x1024.Idx → EReal) (b : S1x1024.Idx → EReal) : S4096x1024.Idx → EReal :=
  fun j => partSum (b (ix2 0 (j 1))) (tap w (j 1)) (fun n => delayed y (j 1) ((j 0).val + n)) 31

/-- The rows with 32 zeros before the first, as the kernel takes them. -/
def padded (y : S4096x1024.Idx → EReal) : S4128x1024.Idx → EReal :=
  fun i => if h : 32 ≤ (i 0).val then y (ix2 ⟨(i 0).val - 32, by have h0 := (i 0).isLt; change (i 0).val < 4128 at h0; omega⟩ (i 1)) else 0

/-! ## Where each window's block lies -/

/-- Step `t` takes the columns of block `t` of the rows. -/
theorem idx_0 : ∀ t : Fin grid0.N, win0_0.index t 0 = 0 ∧ win0_0.index t 1 = t.val := by decide +kernel

/-- It takes those of the taps. -/
theorem idx_1 : ∀ t : Fin grid0.N, win0_1.index t 0 = 0 ∧ win0_1.index t 1 = t.val := by decide +kernel

/-- It takes those of the bias. -/
theorem idx_2 : ∀ t : Fin grid0.N, win0_2.index t 0 = 0 ∧ win0_2.index t 1 = t.val := by decide +kernel

/-- It writes those of the result. -/
theorem idx_3 : ∀ t : Fin grid0.N, win0_3.index t 0 = 0 ∧ win0_3.index t 1 = t.val := by decide +kernel

/-- There are eight steps. -/
theorem lt0 (t : Fin cfg0.N) : t.val < 8 := lt_of_lt_of_eq t.isLt N_0

/-- Column `l` of block `t`, in the array. -/
abbrev place (t : Fin cfg0.N) (l : Fin 128) : Fin 1024 := ⟨128 * t.val + l.val, by have h := lt0 t; omega⟩

/-- Window 0's block is a block of columns. -/
theorem blk_0 (t : Fin cfg0.N) (A : S4128x1024.Idx → EReal) (j : S4128x128.Idx) :
    ((cfg0.win 0).blk t).view.read (Elt Ideal) A j = A (ix2 (j 0) (place t (j 1))) := by
  rw [View.read_apply]
  show A _ = A _
  congr 1
  funext a
  apply Fin.ext
  have hi := idx_0 t
  match a with
  | ⟨0, _⟩ => show win0_0.index t 0 * 4128 + 1 * (j 0).val = (j 0).val; rw [hi.1]; omega
  | ⟨1, _⟩ => show win0_0.index t 1 * 128 + 1 * (j 1).val = 128 * t.val + (j 1).val; rw [hi.2]; omega

/-- Window 1's block is a block of columns. -/
theorem blk_1 (t : Fin cfg0.N) (A : S32x1024.Idx → EReal) (j : S32x128.Idx) :
    ((cfg0.win 1).blk t).view.read (Elt Ideal) A j = A (ix2 (j 0) (place t (j 1))) := by
  rw [View.read_apply]
  show A _ = A _
  congr 1
  funext a
  apply Fin.ext
  have hi := idx_1 t
  match a with
  | ⟨0, _⟩ => show win0_1.index t 0 * 32 + 1 * (j 0).val = (j 0).val; rw [hi.1]; omega
  | ⟨1, _⟩ => show win0_1.index t 1 * 128 + 1 * (j 1).val = 128 * t.val + (j 1).val; rw [hi.2]; omega

/-- Window 2's block is a block of columns. -/
theorem blk_2 (t : Fin cfg0.N) (A : S1x1024.Idx → EReal) (j : S1x128.Idx) :
    ((cfg0.win 2).blk t).view.read (Elt Ideal) A j = A (ix2 (j 0) (place t (j 1))) := by
  rw [View.read_apply]
  show A _ = A _
  congr 1
  funext a
  apply Fin.ext
  have hi := idx_2 t
  match a with
  | ⟨0, _⟩ => show win0_2.index t 0 * 1 + 1 * (j 0).val = (j 0).val; rw [hi.1]; omega
  | ⟨1, _⟩ => show win0_2.index t 1 * 128 + 1 * (j 1).val = 128 * t.val + (j 1).val; rw [hi.2]; omega

/-- Window 3's block is a block of columns. -/
theorem blk_3 (t : Fin cfg0.N) (A : S4096x1024.Idx → EReal) (j : S4096x128.Idx) :
    ((cfg0.win 3).blk t).view.read (Elt Ideal) A j = A (ix2 (j 0) (place t (j 1))) := by
  rw [View.read_apply]
  show A _ = A _
  congr 1
  funext a
  apply Fin.ext
  have hi := idx_3 t
  match a with
  | ⟨0, _⟩ => show win0_3.index t 0 * 4096 + 1 * (j 0).val = (j 0).val; rw [hi.1]; omega
  | ⟨1, _⟩ => show win0_3.index t 1 * 128 + 1 * (j 1).val = 128 * t.val + (j 1).val; rw [hi.2]; omega

variable (m : (ℓ : Loc nD τ sig) → Buf (Elt Ideal) ℓ) (ρ : Dev nD → PrngReg)

/-- Row `n + 2` of the padded rows is row `n` of the rows with 30 zeros before them. -/
theorem padded_eq (y : S4096x1024.Idx → EReal) (i : S4128x1024.Idx) (n : ℕ) (hn : (i 0).val = n + 2) : padded y i = delayed y (i 1) n := by
  have h0 : (i 0).val < 4128 := (i 0).isLt
  unfold padded delayed
  by_cases h : 30 ≤ n
  · rw [dif_pos (show 32 ≤ (i 0).val by omega), dif_pos (show 30 ≤ n ∧ n - 30 < 4096 by omega)]
    refine congrArg y ?_
    funext a
    apply Fin.ext
    match a with
    | ⟨0, _⟩ => show (i 0).val - 32 = n - 30; omega
    | ⟨1, _⟩ => rfl
  · rw [dif_neg (show ¬ 32 ≤ (i 0).val by omega), dif_neg (fun h' => h h'.1)]

/-- A whole number zero, as a number of the format, is zero. -/
theorem zero_int (j : S_.Idx) : sitofp (F := Ideal) .f32 (constantI S_ 32 0#32) j = (0 : EReal) := by
  show (((0#32 : BitVec 32).toInt : ℝ) : EReal) = 0
  have : (0#32 : BitVec 32).toInt = 0 := by decide
  rw [this]; norm_num

/-- The array that the region finds in its first window: the rows with zeros before them. -/
theorem V_rows (c : Dev nD) : V (F := Ideal) m c main_v0 = padded (m ((c : Thread nD τ).loc main_arg0)) := by
  have e : V (F := Ideal) m c main_v0 = pad S4128x1024 ![32, 0] ![0, 0] ![0, 0] (m ((c : Thread nD τ).loc main_arg0))
      (sitofp (F := Ideal) .f32 (constantI S_ 32 0#32)) pads_S4096x1024_S4128x1024_3200_000 h_S_ := by
    after_reads_simp
    rfl
  rw [e]
  funext i
  have h0 : (i 0).val < 4128 := (i 0).isLt
  unfold padded
  by_cases h : 32 ≤ (i 0).val
  · rw [dif_pos h]
    refine pad_apply_of_inside _ _ _ _ _ _ _ i _ fun a => ?_
    match a with
    | ⟨0, _⟩ => show (i 0).val = 32 + ((i 0).val - 32) * 1; omega
    | ⟨1, _⟩ => show (i 1).val = 0 + (i 1).val * 1; omega
  · rw [dif_neg h]
    refine (pad_apply_of_not_inside _ _ _ _ _ _ _ i 0 fun hin => h ?_).trans (zero_int _)
    exact hin.1

/-- Two partial sums with the same terms are equal. -/
theorem partSum_congr (b b' : EReal) (w w' y y' : ℕ → EReal) (n : ℕ) (hb : b = b') (hw : ∀ k, k < n → w k = w' k) (hy : ∀ k, k < n → y k = y' k) :
    partSum b w y n = partSum b' w' y' n := by
  induction n with
  | zero => exact hb
  | succ n ih =>
    show partSum b w y n + w n * y n = partSum b' w' y' n + w' n * y' n
    rw [ih (fun k hk => hw k (by omega)) (fun k hk => hy k (by omega)), hw n (by omega), hy n (by omega)]

/-- What a point writes back is its block of columns of the convolution. -/
theorem flushed3 (c : Dev nD) (t : Fin cfg0.N) :
    (dats (F := Ideal) m 0 c).flushed 3 t = ((cfg0.win 3).blk t).view.read (Elt Ideal) (conv (m ((c : Thread nD τ).loc main_arg0)) (m ((c : Thread nD τ).loc main_arg1)) (m ((c : Thread nD τ).loc main_arg2))) := by
  rw [Value.flushed3_A]
  refine (out3_eq c _ _ _ _ _ _ _ _ _ (iblk (F := Ideal) m c 0 t) (iblk (F := Ideal) m c 1 t) (iblk (F := Ideal) m c 2 t)).trans ?_
  refine funext fun (j : S4096x128.Idx) => ?_
  refine Eq.trans ?_ (blk_3 t _ j).symm
  have h0 : (j 0).val < 4096 := (j 0).isLt
  unfold blockConv conv
  refine partSum_congr _ _ _ _ _ _ 31 ?_ (fun k hk => ?_) (fun k hk => ?_)
  · exact (blk_2 t _ _).trans (congrFun (V_main_arg2 m c) _)
  · unfold tapAt tap
    rw [dif_pos (by omega), dif_pos (by omega)]
    exact (blk_1 t _ _).trans (congrFun (V_main_arg1 m c) _)
  · unfold rowAt delayed
    rw [dif_pos (by omega)]
    exact (blk_0 t _ _).trans ((congrFun (V_rows m c) _).trans (padded_eq _ _ _ rfl))

/-- Every index of the array lies in the block of some point. -/
theorem cover3 (i : S4096x1024.Idx) : ∃ t : Fin cfg0.N, (cfg0.win 3).flush t = true ∧ i ∈ ((cfg0.win 3).blk t).view.set := by
  have h0 : (i 0).val < 4096 := (i 0).isLt
  have h1 : (i 1).val < 1024 := (i 1).isLt
  have ht : (i 1).val / 128 < cfg0.N := lt_of_lt_of_eq (by omega : _ < 8) N_0.symm
  refine ⟨⟨(i 1).val / 128, ht⟩, flush0_3 _, ?_⟩
  have hi := idx_3 ⟨(i 1).val / 128, ht⟩
  show i ∈ ((View.whole (Pipeline.arrRef spec0 3)).slice (win0_3.rect ⟨(i 1).val / 128, ht⟩)).set
  rw [View.set_slice_whole, Rect.mem_set_unit]
  intro a
  match a with
  | ⟨0, _⟩ => show win0_3.index ⟨(i 1).val / 128, ht⟩ 0 * 4096 ≤ (i 0).val ∧ (i 0).val < win0_3.index ⟨(i 1).val / 128, ht⟩ 0 * 4096 + 4096; rw [hi.1]; omega
  | ⟨1, _⟩ => show win0_3.index ⟨(i 1).val / 128, ht⟩ 1 * 128 ≤ (i 1).val ∧ (i 1).val < win0_3.index ⟨(i 1).val / 128, ht⟩ 1 * 128 + 128; rw [hi.2]; dsimp only; omega

/-- The kernel's run: the convolution, and the arguments as they were. -/
theorem run : θ_run defs (onTc (τ := τ) (main (F := Ideal))) ⟨m, fun _ => 0, ρ⟩ (fun r => ∀ c : Dev nD,
      r.2.mem ((c : Thread nD τ).loc main_v1) = conv (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)) :=
  (θ_run defs _ _).mono (fun _ h c => ⟨(h c).1.trans ((dats (F := Ideal) m 0 c).arrAt_eq_of_cover 3 (conv (m ((c : Thread nD τ).loc main_arg0)) (m ((c : Thread nD τ).loc main_arg1)) (m ((c : Thread nD τ).loc main_arg2))) (fun t _ => flushed3 m c t) cover3), (h c).2⟩)
    (Value.run_blocks (F := Ideal) m ρ)

end Cert.Kernel12Ideal.RefValue

end
-- ==== Proof.DepthwiseReference.lean ====
/-
The depthwise convolution: what the reference computes is the same function of its arguments.
-/
module

public import proofs.«01_k».proof.Proof.DepthwiseArrays
public import proofs.«01_k».proof.Proof.Gen.Reference12Ideal.Run
public import proofs.«01_k».proof.Proof.Gen.Reference12Ideal.Read

@[expose] public section

set_option maxRecDepth 16384

noncomputable section

namespace Cert.Reference12Ideal.RefValue

open Cert.Reference12Ideal Cert.Reference12Ideal.Gen Cert.Reference12Ideal.Read
open Idealize.ShloMosaic Idealize.ShloMosaic.TcCoe Idealize.SL.Sem
open Cert.Kernel12Ideal.RefValue (tap delayed conv partSum partSum_congr zero_int)

/-- The padded rows, read at a row. -/
theorem rows_apply (x0 : S4096x1024.Idx → EReal) (i : S4126x1024.Idx) : val_main_v0 (F := Ideal) x0 i = delayed x0 (i 1) (i 0).val := by
  have h0 : (i 0).val < 4126 := (i 0).isLt
  unfold val_main_v0 delayed
  by_cases h : 30 ≤ (i 0).val
  · rw [dif_pos (show 30 ≤ (i 0).val ∧ (i 0).val - 30 < 4096 by omega)]
    refine pad_apply_of_inside _ _ _ _ _ _ _ i _ fun a => ?_
    match a with
    | ⟨0, _⟩ => show (i 0).val = 30 + ((i 0).val - 30) * 1; omega
    | ⟨1, _⟩ => show (i 1).val = 0 + (i 1).val * 1; omega
  · rw [dif_neg (fun h' => h h'.1)]
    refine (pad_apply_of_not_inside _ _ _ _ _ _ _ i 0 fun hin => h ?_).trans (zero_int _)
    exact hin.1

/-- The sum of a row number and a tap number, as a machine integer, is read back as their sum. -/
theorem index_toNat (a b : ℕ) (ha : a < 4096) (hb : b < 31) : (BitVec.ofNat 32 a + BitVec.ofNat 32 b).toInt.toNat = a + b := by
  rw [← BitVec.ofNat_add, BitVec.toInt_eq_toNat_of_lt (by rw [BitVec.toNat_ofNat]; omega), BitVec.toNat_ofNat]
  omega

/-- Where window `i` of the gather is told to read. -/
abbrev startAt (i : S4096x31x1024.Idx) : S4096x31x1.Idx := fun a => match a with
  | ⟨0, _⟩ => ⟨(i 0).val, (i 0).isLt⟩
  | ⟨1, _⟩ => ⟨(i 1).val, (i 1).isLt⟩
  | ⟨2, _⟩ => ⟨0, Nat.one_pos⟩

/-- The dimension numbers of the gather. -/
abbrev dims : GatherDims S4126x1024 S4096x31x1 S4096x31x1024 := gather_S4126x1024_S4096x31x1_S4096x31x1024_2_0_n_n_0_2_11024

/-- The row the gather reads. -/
theorem read_row (i : S4096x31x1024.Idx) : (dims.operandIdx i (val_main_v4 (F := Ideal)) 0).val = (i 0).val + (i 1).val := by
  have h0 : (i 0).val < 4096 := (i 0).isLt
  have h1 : (i 1).val < 31 := (i 1).isLt
  show dims.start i (val_main_v4 (F := Ideal)) 0 + dims.batchCoord i 0 + dims.offCoord i 0 = _
  rw [GatherDims.batchCoord_eq_zero _ _ _ List.not_mem_nil,
    GatherDims.offCoord_eq_zero _ _ _ (fun h => ((GatherDims.mem_sKept _ _).mp h).1 (List.mem_singleton.mpr rfl))]
  unfold GatherDims.start
  rw [dif_pos (show (0 : Fin 2) ∈ dims.startIndexMap from List.mem_singleton.mpr rfl)]
  have e : dims.siIdx i ⟨List.idxOf (0 : Fin 2) dims.startIndexMap, List.idxOf_lt_length_iff.2 (List.mem_singleton.mpr rfl)⟩ = startAt i := by
    funext b
    refine Fin.ext ?_
    match b with
    | ⟨0, _⟩ => rfl
    | ⟨1, _⟩ => rfl
    | ⟨2, _⟩ => rfl
  rw [e, val_main_v4_apply, val_main_v3_apply, val_main_v1_apply, val_main_v2_apply]
  show min (BitVec.ofNat 32 (i 0).val + BitVec.ofNat 32 (i 1).val).toInt.toNat (4126 - 1) + 0 + 0 = _
  rw [index_toNat _ _ h0 h1]
  omega

/-- The column the gather reads. -/
theorem read_col (i : S4096x31x1024.Idx) : (dims.operandIdx i (val_main_v4 (F := Ideal)) 1).val = (i 2).val := by
  show dims.start i (val_main_v4 (F := Ideal)) 1 + dims.batchCoord i 1 + dims.offCoord i 1 = _
  rw [GatherDims.batchCoord_eq_zero _ _ _ List.not_mem_nil]
  unfold GatherDims.start GatherDims.offCoord
  rw [dif_neg (show ¬ (1 : Fin 2) ∈ dims.startIndexMap by decide), dif_pos (show (1 : Fin 2) ∈ dims.sKept by decide)]
  exact (Nat.zero_add _).trans rfl

/-- The windows: row `t`, tap `j` holds the padded row `t + j`. -/
theorem window_apply (x0 : S4096x1024.Idx → EReal) (i : S4096x31x1024.Idx) :
    val_main_v5 (F := Ideal) x0 i = delayed x0 (i 2) ((i 0).val + (i 1).val) := by
  show val_main_v0 (F := Ideal) x0 (dims.operandIdx i (val_main_v4 (F := Ideal))) = _
  rw [rows_apply, read_row]
  exact congrArg (fun l => delayed x0 l _) (Fin.ext (read_col i))

/-- The partial sums are sums over the first taps. -/
theorem partSum_eq (b : EReal) (w y : ℕ → EReal) (n : ℕ) : partSum b w y n = (∑ k : Fin n, w k.val * y k.val) + b := by
  induction n with
  | zero => exact (by rw [Fin.sum_univ_zero, zero_add]; rfl)
  | succ n ih =>
    show partSum b w y n + w n * y n = _
    rw [ih, Fin.sum_univ_castSucc, add_right_comm]
    rfl

/-- The result: the convolution. -/
theorem v12_eq (x0 : S4096x1024.Idx → EReal) (x1 : S32x1024.Idx → EReal) (x2 : S1x1024.Idx → EReal) :
    val_main_v12 (F := Ideal) x0 x1 x2 = conv x0 x1 x2 := by
  funext i
  show _ = partSum _ _ _ 31
  rw [partSum_eq, val_main_v12_apply, val_main_v11_apply, val_main_v10_apply]
  refine congrArg₂ (fun a b : EReal => a + b) ?_ ?_
  · refine (congrArg₂ (fun a b : EReal => a + b) Ideal.ofBits_zero_f32 (Finset.sum_congr rfl fun k _ => ?_)).trans (zero_add _)
    have hk : k.val < 32 := by omega
    rw [val_main_v9_apply, val_main_v8_apply, val_main_v7_apply, val_main_v6_apply, window_apply]
    refine congrArg₂ (fun a b : EReal => a * b) ?_ rfl
    unfold tap
    rw [dif_pos hk]
    refine congrArg x1 ?_
    funext a
    match a with
    | ⟨0, _⟩ => rfl
    | ⟨1, _⟩ => rfl
  · refine congrArg x2 ?_
    funext a
    match a with
    | ⟨0, _⟩ => rfl
    | ⟨1, _⟩ => rfl

end Cert.Reference12Ideal.RefValue

end
-- ==== Proof.Depthwise.lean ====
/-
The depthwise convolution: the run of the reference, and the claims about the two programs.
-/
module

public import proofs.«01_k».proof.Defs
public import proofs.«01_k».proof.Proof.Gen.Kernel12.Frame
public import proofs.«01_k».proof.Proof.DepthwiseReference
public import Idealize.ShloMosaic.Lib.Quiescent

@[expose] public section

set_option maxRecDepth 16384

noncomputable section

namespace Cert.DepthwiseProof

open Idealize.ShloMosaic Idealize.ShloMosaic.TcCoe Idealize.SL.Sem
open Cert.Kernel12Ideal.RefValue (conv)

/-- The run at the machine's words leaves the arguments and the counters as they were. -/
theorem frame_kernel : Cert.quiescent_Kernel12 := fun m ρ _ => Cert.Kernel12.Gen.frame (F := Bits) m ρ

/-- So does the run on the extended reals. -/
theorem frame_ideal : Cert.quiescent_Kernel12Ideal := fun m ρ _ => Cert.Kernel12Ideal.Gen.frame (F := Ideal) m ρ

section
open Cert.Reference12Ideal

/-- The reference leaves its arguments as they were; it has no counters. -/
theorem frame_reference : Cert.quiescent_Reference12Ideal := fun m ρ _ =>
  (θ_run defs _ _).mono (fun r h => ⟨fun c => (h c).2, sem_eq_zero_of_no_sems (by decide) r.2⟩)
    (Cert.Reference12Ideal.Value.run (F := Ideal) m ρ)

variable (m : (ℓ : Loc nD τ sig) → Buf (Elt Ideal) ℓ) (ρ : Dev nD → PrngReg)

/-- The reference ends with the same function of its arguments that the kernel computes. -/
theorem reference_run : θ_run defs (onTc (τ := τ) (main (F := Ideal))) ⟨m, fun _ => 0, ρ⟩ (fun r => ∀ c : Dev nD,
      r.2.mem ((c : Thread nD τ).loc main_v12) = conv (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)) :=
  (θ_run defs _ _).mono (fun _ h c => ⟨((h c).1.trans (Read.val_main_v12_eq _ _ _)).trans (RefValue.v12_eq _ _ _), (h c).2⟩)
    (Value.run (F := Ideal) m ρ)

end

section
open Cert.Kernel12Ideal

/-- From equal arguments the kernel and the reference end with equal results: the convolution. -/
theorem algebraic : Cert.algebraic_Kernel12Ideal_Reference12Ideal := fun m ρ m' ρ' _ hag =>
  ⟨fun c => conv (m ((c : Thread nD τ).loc main_arg0)) (m ((c : Thread nD τ).loc main_arg1)) (m ((c : Thread nD τ).loc main_arg2)),
   RefValue.run m ρ,
   (θ_run _ _ _).mono (fun r h c => by
      obtain ⟨h0, h1, h2⟩ := hag c
      have hc := h c
      rw [h0, h1, h2] at hc
      obtain ⟨e1, e3, e4, e5⟩ := hc
      exact ⟨e1, e3.trans h0.symm, e4.trans h1.symm, e5.trans h2.symm⟩) (reference_run m' ρ')⟩

end

end Cert.DepthwiseProof
-- ==== Proof.lean ====
/-
The certificate: each program's frame, the two sides' equal text, and the equation of results.
-/
module

public import proofs.«01_k».proof.Defs
public import proofs.«01_k».proof.Proof.Gen.Kernel3
public import proofs.«01_k».proof.Proof.Gen.Kernel4
public import proofs.«01_k».proof.Proof.Gen.Kernel5
public import proofs.«01_k».proof.Proof.Gen.Kernel6
public import proofs.«01_k».proof.Proof.Gen.Kernel7
public import proofs.«01_k».proof.Proof.Gen.Kernel8
public import proofs.«01_k».proof.Proof.Gen.Kernel9
public import proofs.«01_k».proof.Proof.Gen.Kernel10
public import proofs.«01_k».proof.Proof.Gen.Kernel11
public import proofs.«01_k».proof.Proof.Gen.Kernel12
public import proofs.«01_k».proof.Proof.Mlp
public import proofs.«01_k».proof.Proof.Gate
public import proofs.«01_k».proof.Proof.Attention
public import proofs.«01_k».proof.Proof.Gating
public import proofs.«01_k».proof.Proof.Convolution
public import proofs.«01_k».proof.Proof.Glu
public import proofs.«01_k».proof.Proof.Swish
public import proofs.«01_k».proof.Proof.Modulation
public import proofs.«01_k».proof.Proof.Forward
public import proofs.«01_k».proof.Proof.Depthwise

@[expose] public section

noncomputable section

namespace Cert.Proof

/-- Every claim of the certificate. -/
theorem claim : Cert.Claim := ⟨
  Cert.Kernel3.Gen.facts, Cert.Kernel3Ideal.Gen.facts, Cert.Reference3Ideal.Gen.facts, Cert.Kernel4.Gen.facts,
  Cert.Kernel4Ideal.Gen.facts, Cert.Reference4Ideal.Gen.facts, Cert.Kernel5.Gen.facts, Cert.Kernel5Ideal.Gen.facts,
  Cert.Reference5Ideal.Gen.facts, Cert.Kernel6.Gen.facts, Cert.Kernel6Ideal.Gen.facts, Cert.Reference6Ideal.Gen.facts,
  Cert.Kernel7.Gen.facts, Cert.Kernel7Ideal.Gen.facts, Cert.Reference7Ideal.Gen.facts, Cert.Kernel8.Gen.facts,
  Cert.Kernel8Ideal.Gen.facts, Cert.Reference8Ideal.Gen.facts, Cert.Kernel9.Gen.facts, Cert.Kernel9Ideal.Gen.facts,
  Cert.Reference9Ideal.Gen.facts, Cert.Kernel10.Gen.facts, Cert.Kernel10Ideal.Gen.facts, Cert.Reference10Ideal.Gen.facts,
  Cert.Kernel11.Gen.facts, Cert.Kernel11Ideal.Gen.facts, Cert.Reference11Ideal.Gen.facts, Cert.Kernel12.Gen.facts,
  Cert.Kernel12Ideal.Gen.facts, Cert.Reference12Ideal.Gen.facts, Cert.Pre_finite_gradient.Gen.facts,
  Cert.Pre_finite_rows.Gen.facts, Cert.Pre_finite_stream.Gen.facts,
  MlpProof.frame_kernel, MlpProof.frame_ideal, MlpProof.frame_reference, GateProof.frame_kernel, GateProof.frame_ideal,
  GateProof.frame_ideal_pre, GateProof.frame_reference, GateProof.frame_reference_pre, AttentionProof.frame_kernel,
  AttentionProof.frame_ideal, AttentionProof.frame_reference, GatingProof.frame_kernel, GatingProof.frame_ideal,
  GatingProof.frame_reference, ConvolutionProof.frame_kernel, ConvolutionProof.frame_ideal, ConvolutionProof.frame_reference,
  GluProof.frame_kernel, GluProof.frame_ideal, GluProof.frame_reference, SwishProof.frame_kernel, SwishProof.frame_ideal,
  SwishProof.frame_ideal_pre, SwishProof.frame_reference, SwishProof.frame_reference_pre, ModulationProof.frame_kernel,
  ModulationProof.frame_ideal, ModulationProof.frame_ideal_pre, ModulationProof.frame_reference,
  ModulationProof.frame_reference_pre, ForwardProof.frame_kernel, ForwardProof.frame_ideal, ForwardProof.frame_reference,
  DepthwiseProof.frame_kernel, DepthwiseProof.frame_ideal, DepthwiseProof.frame_reference,
  trivial, MlpProof.algebraic, trivial, GateProof.algebraic, trivial, AttentionProof.algebraic, trivial, GatingProof.algebraic,
  trivial, ConvolutionProof.algebraic, trivial, GluProof.algebraic, trivial, SwishProof.algebraic, trivial,
  ModulationProof.algebraic, trivial, ForwardProof.algebraic, trivial, DepthwiseProof.algebraic⟩

end Cert.Proof
